-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_GatherKernel (m : (ℓ : Loc Cert.GatherKernel.nD Cert.GatherKernel.τ Cert.GatherKernel.sig) → Buf (Elt Bits) ℓ) : Prop :=
  True

def Pre_GatherKernelIdeal (m : (ℓ : Loc Cert.GatherKernelIdeal.nD Cert.GatherKernelIdeal.τ Cert.GatherKernelIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_SwapKernel (m : (ℓ : Loc Cert.SwapKernel.nD Cert.SwapKernel.τ Cert.SwapKernel.sig) → Buf (Elt Bits) ℓ) : Prop :=
  True

def Pre_SwapKernelIdeal (m : (ℓ : Loc Cert.SwapKernelIdeal.nD Cert.SwapKernelIdeal.τ Cert.SwapKernelIdeal.sig) → Buf (Elt Ideal) ℓ) : Prop :=
  True

def Pre_SwapReferenceIdeal (m : (ℓ : Loc Cert.SwapReferenceIdeal.nD Cert.SwapReferenceIdeal.τ Cert.SwapReferenceIdeal.sig) → Buf (Elt Ideal) ℓ) : Prop :=
  True

def Pre_SwapReference (m : (ℓ : Loc Cert.SwapReference.nD Cert.SwapReference.τ Cert.SwapReference.sig) → Buf (Elt Bits) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ModReference (m : (ℓ : Loc Cert.ModReference.nD Cert.ModReference.τ Cert.ModReference.sig) → Buf (Elt Bits) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_UpdateKernel (m : (ℓ : Loc Cert.UpdateKernel.nD Cert.UpdateKernel.τ Cert.UpdateKernel.sig) → Buf (Elt Bits) ℓ) : Prop :=
  True

def Pre_UpdateKernelIdeal (m : (ℓ : Loc Cert.UpdateKernelIdeal.nD Cert.UpdateKernelIdeal.τ Cert.UpdateKernelIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_OutGradKernel (m : (ℓ : Loc Cert.OutGradKernel.nD Cert.OutGradKernel.τ Cert.OutGradKernel.sig) → Buf (Elt Bits) ℓ) : Prop :=
  True

def Pre_OutGradKernelIdeal (m : (ℓ : Loc Cert.OutGradKernelIdeal.nD Cert.OutGradKernelIdeal.τ Cert.OutGradKernelIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_UpGradKernel (m : (ℓ : Loc Cert.UpGradKernel.nD Cert.UpGradKernel.τ Cert.UpGradKernel.sig) → Buf (Elt Bits) ℓ) : Prop :=
  True

def Pre_UpGradKernelIdeal (m : (ℓ : Loc Cert.UpGradKernelIdeal.nD Cert.UpGradKernelIdeal.τ Cert.UpGradKernelIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_DownGradKernel (m : (ℓ : Loc Cert.DownGradKernel.nD Cert.DownGradKernel.τ Cert.DownGradKernel.sig) → Buf (Elt Bits) ℓ) : Prop :=
  True

def Pre_DownGradKernelIdeal (m : (ℓ : Loc Cert.DownGradKernelIdeal.nD Cert.DownGradKernelIdeal.τ Cert.DownGradKernelIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ModPartKernel (m : (ℓ : Loc Cert.ModPartKernel.nD Cert.ModPartKernel.τ Cert.ModPartKernel.sig) → Buf (Elt Bits) ℓ) : Prop :=
  True

def Pre_ModPartKernelIdeal (m : (ℓ : Loc Cert.ModPartKernelIdeal.nD Cert.ModPartKernelIdeal.τ Cert.ModPartKernelIdeal.sig) → Buf (Elt Ideal) ℓ) : Prop :=
  True

def Pre_ModPartReferenceIdeal (m : (ℓ : Loc Cert.ModPartReferenceIdeal.nD Cert.ModPartReferenceIdeal.τ Cert.ModPartReferenceIdeal.sig) → Buf (Elt Ideal) ℓ) : Prop :=
  True

def Pre_OutProjKernel (m : (ℓ : Loc Cert.OutProjKernel.nD Cert.OutProjKernel.τ Cert.OutProjKernel.sig) → Buf (Elt Bits) ℓ) : Prop :=
  True

def Pre_OutProjKernelIdeal (m : (ℓ : Loc Cert.OutProjKernelIdeal.nD Cert.OutProjKernelIdeal.τ Cert.OutProjKernelIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_DownProjKernel (m : (ℓ : Loc Cert.DownProjKernel.nD Cert.DownProjKernel.τ Cert.DownProjKernel.sig) → Buf (Elt Bits) ℓ) : Prop :=
  True

def Pre_DownProjKernelIdeal (m : (ℓ : Loc Cert.DownProjKernelIdeal.nD Cert.DownProjKernelIdeal.τ Cert.DownProjKernelIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6)
      ∧ r.2.mem ((c.tc : Thread Cert.UpKernel.nD Cert.UpKernel.τ).loc Cert.UpKernel.main_arg7) = m ((c.tc : Thread Cert.UpKernel.nD Cert.UpKernel.τ).loc Cert.UpKernel.main_arg7)
      ∧ r.2.mem ((c.tc : Thread Cert.UpKernel.nD Cert.UpKernel.τ).loc Cert.UpKernel.main_arg8) = m ((c.tc : Thread Cert.UpKernel.nD Cert.UpKernel.τ).loc Cert.UpKernel.main_arg8)
      ∧ r.2.mem ((c.tc : Thread Cert.UpKernel.nD Cert.UpKernel.τ).loc Cert.UpKernel.main_arg9) = m ((c.tc : Thread Cert.UpKernel.nD Cert.UpKernel.τ).loc Cert.UpKernel.main_arg9))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
      ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8)
      ∧ r.2.mem ((c.tc : Thread Cert.UpKernelIdeal.nD Cert.UpKernelIdeal.τ).loc Cert.UpKernelIdeal.main_arg9) = m ((c.tc : Thread Cert.UpKernelIdeal.nD Cert.UpKernelIdeal.τ).loc Cert.UpKernelIdeal.main_arg9))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8)
      ∧ r.2.mem ((c.tc : Thread Cert.UpReferenceIdeal.nD Cert.UpReferenceIdeal.τ).loc Cert.UpReferenceIdeal.main_arg9) = m ((c.tc : Thread Cert.UpReferenceIdeal.nD Cert.UpReferenceIdeal.τ).loc Cert.UpReferenceIdeal.main_arg9))
      ∧ r.2.sem = fun _ => 0)

def quiescent_GatherKernel [hGatherKernel : Cert.GatherKernel.Facts] : Prop :=
  ∀ (m : (ℓ : Loc Cert.GatherKernel.nD Cert.GatherKernel.τ Cert.GatherKernel.sig) → Buf (Elt Bits) ℓ) (g : Dev Cert.GatherKernel.nD → PrngReg), Pre_GatherKernel m →
    θ_run (Cert.GatherKernel.defs (F := Bits)) (onTc (τ := Cert.GatherKernel.τ) (Cert.GatherKernel.main (F := Bits))) ⟨m, fun _ => 0, g⟩ (fun r => (∀ c : Dev Cert.GatherKernel.nD,
      r.2.mem ((c.tc : Thread Cert.GatherKernel.nD Cert.GatherKernel.τ).loc Cert.GatherKernel.main_arg0) = m ((c.tc : Thread Cert.GatherKernel.nD Cert.GatherKernel.τ).loc Cert.GatherKernel.main_arg0)
      ∧ r.2.mem ((c.tc : Thread Cert.GatherKernel.nD Cert.GatherKernel.τ).loc Cert.GatherKernel.main_arg1) = m ((c.tc : Thread Cert.GatherKernel.nD Cert.GatherKernel.τ).loc Cert.GatherKernel.main_arg1))
      ∧ r.2.sem = fun _ => 0)

def quiescent_GatherKernelIdeal [hGatherKernelIdeal : Cert.GatherKernelIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg), Pre_GatherKernelIdeal m →
    θ_run (Cert.GatherKernelIdeal.defs (F := Ideal)) (onTc (τ := Cert.GatherKernelIdeal.τ) (Cert.GatherKernelIdeal.main (F := Ideal))) ⟨m, fun _ => 0, g⟩ (fun r => (∀ c : Dev Cert.GatherKernelIdeal.nD,
      r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0)
      ∧ r.2.mem ((c.tc : Thread Cert.GatherKernelIdeal.nD Cert.GatherKernelIdeal.τ).loc Cert.GatherKernelIdeal.main_arg1) = m ((c.tc : Thread Cert.GatherKernelIdeal.nD Cert.GatherKernelIdeal.τ).loc Cert.GatherKernelIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_SwapKernel [hSwapKernel : Cert.SwapKernel.Facts] : Prop :=
  ∀ (m : (ℓ : Loc Cert.SwapKernel.nD Cert.SwapKernel.τ Cert.SwapKernel.sig) → Buf (Elt Bits) ℓ) (g : Dev Cert.SwapKernel.nD → PrngReg), Pre_SwapKernel m →
    θ_run (Cert.SwapKernel.defs (F := Bits)) (onTc (τ := Cert.SwapKernel.τ) (Cert.SwapKernel.main (F := Bits))) ⟨m, fun _ => 0, g⟩ (fun r => (∀ c : Dev Cert.SwapKernel.nD,
      r.2.mem ((c.tc : Thread Cert.SwapKernel.nD Cert.SwapKernel.τ).loc Cert.SwapKernel.main_arg0) = m ((c.tc : Thread Cert.SwapKernel.nD Cert.SwapKernel.τ).loc Cert.SwapKernel.main_arg0))
      ∧ r.2.sem = fun _ => 0)

def quiescent_SwapKernelIdeal [hSwapKernelIdeal : Cert.SwapKernelIdeal.Facts] : Prop :=
  ∀ (m : (ℓ : Loc Cert.SwapKernelIdeal.nD Cert.SwapKernelIdeal.τ Cert.SwapKernelIdeal.sig) → Buf (Elt Ideal) ℓ) (g : Dev Cert.SwapKernelIdeal.nD → PrngReg), Pre_SwapKernelIdeal m →
    θ_run (Cert.SwapKernelIdeal.defs (F := Ideal)) (onTc (τ := Cert.SwapKernelIdeal.τ) (Cert.SwapKernelIdeal.main (F := Ideal))) ⟨m, fun _ => 0, g⟩ (fun r => (∀ c : Dev Cert.SwapKernelIdeal.nD,
      r.2.mem ((c.tc : Thread Cert.SwapKernelIdeal.nD Cert.SwapKernelIdeal.τ).loc Cert.SwapKernelIdeal.main_arg0) = m ((c.tc : Thread Cert.SwapKernelIdeal.nD Cert.SwapKernelIdeal.τ).loc Cert.SwapKernelIdeal.main_arg0))
      ∧ r.2.sem = fun _ => 0)

def quiescent_SwapReferenceIdeal [hSwapReferenceIdeal : Cert.SwapReferenceIdeal.Facts] : Prop :=
  ∀ (m : (ℓ : Loc Cert.SwapReferenceIdeal.nD Cert.SwapReferenceIdeal.τ Cert.SwapReferenceIdeal.sig) → Buf (Elt Ideal) ℓ) (g : Dev Cert.SwapReferenceIdeal.nD → PrngReg), Pre_SwapReferenceIdeal m →
    θ_run (Cert.SwapReferenceIdeal.defs (F := Ideal)) (onTc (τ := Cert.SwapReferenceIdeal.τ) (Cert.SwapReferenceIdeal.main (F := Ideal))) ⟨m, fun _ => 0, g⟩ (fun r => (∀ c : Dev Cert.SwapReferenceIdeal.nD,
      r.2.mem ((c.tc : Thread Cert.SwapReferenceIdeal.nD Cert.SwapReferenceIdeal.τ).loc Cert.SwapReferenceIdeal.main_arg0) = m ((c.tc : Thread Cert.SwapReferenceIdeal.nD Cert.SwapReferenceIdeal.τ).loc Cert.SwapReferenceIdeal.main_arg0))
      ∧ r.2.sem = fun _ => 0)

def quiescent_SwapReference [hSwapReference : Cert.SwapReference.Facts] : Prop :=
  ∀ (m : (ℓ : Loc Cert.SwapReference.nD Cert.SwapReference.τ Cert.SwapReference.sig) → Buf (Elt Bits) ℓ) (g : Dev Cert.SwapReference.nD → PrngReg), Pre_SwapReference m →
    θ_run (Cert.SwapReference.defs (F := Bits)) (onTc (τ := Cert.SwapReference.τ) (Cert.SwapReference.main (F := Bits))) ⟨m, fun _ => 0, g⟩ (fun r => (∀ c : Dev Cert.SwapReference.nD,
      r.2.mem ((c.tc : Thread Cert.SwapReference.nD Cert.SwapReference.τ).loc Cert.SwapReference.main_arg0) = m ((c.tc : Thread Cert.SwapReference.nD Cert.SwapReference.τ).loc Cert.SwapReference.main_arg0))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0))
      ∧ r.2.sem = fun _ => 0)

def quiescent_ModReference [hModReference : Cert.ModReference.Facts] : Prop :=
  ∀ (m : (ℓ : Loc Cert.ModReference.nD Cert.ModReference.τ Cert.ModReference.sig) → Buf (Elt Bits) ℓ) (g : Dev Cert.ModReference.nD → PrngReg), Pre_ModReference m →
    θ_run (Cert.ModReference.defs (F := Bits)) (onTc (τ := Cert.ModReference.τ) (Cert.ModReference.main (F := Bits))) ⟨m, fun _ => 0, g⟩ (fun r => (∀ c : Dev Cert.ModReference.nD,
      r.2.mem ((c.tc : Thread Cert.ModReference.nD Cert.ModReference.τ).loc Cert.ModReference.main_arg0) = m ((c.tc : Thread Cert.ModReference.nD Cert.ModReference.τ).loc Cert.ModReference.main_arg0))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3)
      ∧ r.2.mem ((c.tc : Thread Cert.AdamUpKernel.nD Cert.AdamUpKernel.τ).loc Cert.AdamUpKernel.main_arg4) = m ((c.tc : Thread Cert.AdamUpKernel.nD Cert.AdamUpKernel.τ).loc Cert.AdamUpKernel.main_arg4)
      ∧ r.2.mem ((c.tc : Thread Cert.AdamUpKernel.nD Cert.AdamUpKernel.τ).loc Cert.AdamUpKernel.main_arg5) = m ((c.tc : Thread Cert.AdamUpKernel.nD Cert.AdamUpKernel.τ).loc Cert.AdamUpKernel.main_arg5))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
      ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4)
      ∧ r.2.mem ((c.tc : Thread Cert.AdamUpKernelIdeal.nD Cert.AdamUpKernelIdeal.τ).loc Cert.AdamUpKernelIdeal.main_arg5) = m ((c.tc : Thread Cert.AdamUpKernelIdeal.nD Cert.AdamUpKernelIdeal.τ).loc Cert.AdamUpKernelIdeal.main_arg5))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3)
      ∧ r.2.mem ((c.tc : Thread Cert.AdamInKernel.nD Cert.AdamInKernel.τ).loc Cert.AdamInKernel.main_arg4) = m ((c.tc : Thread Cert.AdamInKernel.nD Cert.AdamInKernel.τ).loc Cert.AdamInKernel.main_arg4)
      ∧ r.2.mem ((c.tc : Thread Cert.AdamInKernel.nD Cert.AdamInKernel.τ).loc Cert.AdamInKernel.main_arg5) = m ((c.tc : Thread Cert.AdamInKernel.nD Cert.AdamInKernel.τ).loc Cert.AdamInKernel.main_arg5))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4)
      ∧ r.2.mem ((c.tc : Thread Cert.AdamInKernelIdeal.nD Cert.AdamInKernelIdeal.τ).loc Cert.AdamInKernelIdeal.main_arg5) = m ((c.tc : Thread Cert.AdamInKernelIdeal.nD Cert.AdamInKernelIdeal.τ).loc Cert.AdamInKernelIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3)
      ∧ r.2.mem ((c.tc : Thread Cert.AdamOutKernel.nD Cert.AdamOutKernel.τ).loc Cert.AdamOutKernel.main_arg4) = m ((c.tc : Thread Cert.AdamOutKernel.nD Cert.AdamOutKernel.τ).loc Cert.AdamOutKernel.main_arg4)
      ∧ r.2.mem ((c.tc : Thread Cert.AdamOutKernel.nD Cert.AdamOutKernel.τ).loc Cert.AdamOutKernel.main_arg5) = m ((c.tc : Thread Cert.AdamOutKernel.nD Cert.AdamOutKernel.τ).loc Cert.AdamOutKernel.main_arg5))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4)
      ∧ r.2.mem ((c.tc : Thread Cert.AdamOutKernelIdeal.nD Cert.AdamOutKernelIdeal.τ).loc Cert.AdamOutKernelIdeal.main_arg5) = m ((c.tc : Thread Cert.AdamOutKernelIdeal.nD Cert.AdamOutKernelIdeal.τ).loc Cert.AdamOutKernelIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_UpdateKernel [hUpdateKernel : Cert.UpdateKernel.Facts] : Prop :=
  ∀ (m : (ℓ : Loc Cert.UpdateKernel.nD Cert.UpdateKernel.τ Cert.UpdateKernel.sig) → Buf (Elt Bits) ℓ) (g : Dev Cert.UpdateKernel.nD → PrngReg), Pre_UpdateKernel m →
    θ_run (Cert.UpdateKernel.defs (F := Bits)) (onTc (τ := Cert.UpdateKernel.τ) (Cert.UpdateKernel.main (F := Bits))) ⟨m, fun _ => 0, g⟩ (fun r => (∀ c : Dev Cert.UpdateKernel.nD,
      r.2.mem ((c.tc : Thread Cert.UpdateKernel.nD Cert.UpdateKernel.τ).loc Cert.UpdateKernel.main_arg0) = m ((c.tc : Thread Cert.UpdateKernel.nD Cert.UpdateKernel.τ).loc Cert.UpdateKernel.main_arg0)
      ∧ r.2.mem ((c.tc : Thread Cert.UpdateKernel.nD Cert.UpdateKernel.τ).loc Cert.UpdateKernel.main_arg1) = m ((c.tc : Thread Cert.UpdateKernel.nD Cert.UpdateKernel.τ).loc Cert.UpdateKernel.main_arg1)
      ∧ r.2.mem ((c.tc : Thread Cert.UpdateKernel.nD Cert.UpdateKernel.τ).loc Cert.UpdateKernel.main_arg2) = m ((c.tc : Thread Cert.UpdateKernel.nD Cert.UpdateKernel.τ).loc Cert.UpdateKernel.main_arg2)
      ∧ r.2.mem ((c.tc : Thread Cert.UpdateKernel.nD Cert.UpdateKernel.τ).loc Cert.UpdateKernel.main_arg3) = m ((c.tc : Thread Cert.UpdateKernel.nD Cert.UpdateKernel.τ).loc Cert.UpdateKernel.main_arg3))
      ∧ r.2.sem = fun _ => 0)

def quiescent_UpdateKernelIdeal [hUpdateKernelIdeal : Cert.UpdateKernelIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg), Pre_UpdateKernelIdeal m →
    θ_run (Cert.UpdateKernelIdeal.defs (F := Ideal)) (onTc (τ := Cert.UpdateKernelIdeal.τ) (Cert.UpdateKernelIdeal.main (F := Ideal))) ⟨m, fun _ => 0, g⟩ (fun r => (∀ c : Dev Cert.UpdateKernelIdeal.nD,
      r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
      ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
      ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
      ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_OutGradKernel [hOutGradKernel : Cert.OutGradKernel.Facts] : Prop :=
  ∀ (m : (ℓ : Loc Cert.OutGradKernel.nD Cert.OutGradKernel.τ Cert.OutGradKernel.sig) → Buf (Elt Bits) ℓ) (g : Dev Cert.OutGradKernel.nD → PrngReg), Pre_OutGradKernel m →
    θ_run (Cert.OutGradKernel.defs (F := Bits)) (onTc (τ := Cert.OutGradKernel.τ) (Cert.OutGradKernel.main (F := Bits))) ⟨m, fun _ => 0, g⟩ (fun r => (∀ c : Dev Cert.OutGradKernel.nD,
      r.2.mem ((c.tc : Thread Cert.OutGradKernel.nD Cert.OutGradKernel.τ).loc Cert.OutGradKernel.main_arg0) = m ((c.tc : Thread Cert.OutGradKernel.nD Cert.OutGradKernel.τ).loc Cert.OutGradKernel.main_arg0)
      ∧ r.2.mem ((c.tc : Thread Cert.OutGradKernel.nD Cert.OutGradKernel.τ).loc Cert.OutGradKernel.main_arg1) = m ((c.tc : Thread Cert.OutGradKernel.nD Cert.OutGradKernel.τ).loc Cert.OutGradKernel.main_arg1))
      ∧ r.2.sem = fun _ => 0)

def quiescent_OutGradKernelIdeal [hOutGradKernelIdeal : Cert.OutGradKernelIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg), Pre_OutGradKernelIdeal m →
    θ_run (Cert.OutGradKernelIdeal.defs (F := Ideal)) (onTc (τ := Cert.OutGradKernelIdeal.τ) (Cert.OutGradKernelIdeal.main (F := Ideal))) ⟨m, fun _ => 0, g⟩ (fun r => (∀ c : Dev Cert.OutGradKernelIdeal.nD,
      r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
      ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_UpGradKernel [hUpGradKernel : Cert.UpGradKernel.Facts] : Prop :=
  ∀ (m : (ℓ : Loc Cert.UpGradKernel.nD Cert.UpGradKernel.τ Cert.UpGradKernel.sig) → Buf (Elt Bits) ℓ) (g : Dev Cert.UpGradKernel.nD → PrngReg), Pre_UpGradKernel m →
    θ_run (Cert.UpGradKernel.defs (F := Bits)) (onTc (τ := Cert.UpGradKernel.τ) (Cert.UpGradKernel.main (F := Bits))) ⟨m, fun _ => 0, g⟩ (fun r => (∀ c : Dev Cert.UpGradKernel.nD,
      r.2.mem ((c.tc : Thread Cert.UpGradKernel.nD Cert.UpGradKernel.τ).loc Cert.UpGradKernel.main_arg0) = m ((c.tc : Thread Cert.UpGradKernel.nD Cert.UpGradKernel.τ).loc Cert.UpGradKernel.main_arg0)
      ∧ r.2.mem ((c.tc : Thread Cert.UpGradKernel.nD Cert.UpGradKernel.τ).loc Cert.UpGradKernel.main_arg1) = m ((c.tc : Thread Cert.UpGradKernel.nD Cert.UpGradKernel.τ).loc Cert.UpGradKernel.main_arg1))
      ∧ r.2.sem = fun _ => 0)

def quiescent_UpGradKernelIdeal [hUpGradKernelIdeal : Cert.UpGradKernelIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg), Pre_UpGradKernelIdeal m →
    θ_run (Cert.UpGradKernelIdeal.defs (F := Ideal)) (onTc (τ := Cert.UpGradKernelIdeal.τ) (Cert.UpGradKernelIdeal.main (F := Ideal))) ⟨m, fun _ => 0, g⟩ (fun r => (∀ c : Dev Cert.UpGradKernelIdeal.nD,
      r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
      ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_DownGradKernel [hDownGradKernel : Cert.DownGradKernel.Facts] : Prop :=
  ∀ (m : (ℓ : Loc Cert.DownGradKernel.nD Cert.DownGradKernel.τ Cert.DownGradKernel.sig) → Buf (Elt Bits) ℓ) (g : Dev Cert.DownGradKernel.nD → PrngReg), Pre_DownGradKernel m →
    θ_run (Cert.DownGradKernel.defs (F := Bits)) (onTc (τ := Cert.DownGradKernel.τ) (Cert.DownGradKernel.main (F := Bits))) ⟨m, fun _ => 0, g⟩ (fun r => (∀ c : Dev Cert.DownGradKernel.nD,
      r.2.mem ((c.tc : Thread Cert.DownGradKernel.nD Cert.DownGradKernel.τ).loc Cert.DownGradKernel.main_arg0) = m ((c.tc : Thread Cert.DownGradKernel.nD Cert.DownGradKernel.τ).loc Cert.DownGradKernel.main_arg0)
      ∧ r.2.mem ((c.tc : Thread Cert.DownGradKernel.nD Cert.DownGradKernel.τ).loc Cert.DownGradKernel.main_arg1) = m ((c.tc : Thread Cert.DownGradKernel.nD Cert.DownGradKernel.τ).loc Cert.DownGradKernel.main_arg1))
      ∧ r.2.sem = fun _ => 0)

def quiescent_DownGradKernelIdeal [hDownGradKernelIdeal : Cert.DownGradKernelIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg), Pre_DownGradKernelIdeal m →
    θ_run (Cert.DownGradKernelIdeal.defs (F := Ideal)) (onTc (τ := Cert.DownGradKernelIdeal.τ) (Cert.DownGradKernelIdeal.main (F := Ideal))) ⟨m, fun _ => 0, g⟩ (fun r => (∀ c : Dev Cert.DownGradKernelIdeal.nD,
      r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
      ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_ModPartKernel [hModPartKernel : Cert.ModPartKernel.Facts] : Prop :=
  ∀ (m : (ℓ : Loc Cert.ModPartKernel.nD Cert.ModPartKernel.τ Cert.ModPartKernel.sig) → Buf (Elt Bits) ℓ) (g : Dev Cert.ModPartKernel.nD → PrngReg), Pre_ModPartKernel m →
    θ_run (Cert.ModPartKernel.defs (F := Bits)) (onTc (τ := Cert.ModPartKernel.τ) (Cert.ModPartKernel.main (F := Bits))) ⟨m, fun _ => 0, g⟩ (fun r => (∀ c : Dev Cert.ModPartKernel.nD,
      r.2.mem ((c.tc : Thread Cert.ModPartKernel.nD Cert.ModPartKernel.τ).loc Cert.ModPartKernel.main_arg0) = m ((c.tc : Thread Cert.ModPartKernel.nD Cert.ModPartKernel.τ).loc Cert.ModPartKernel.main_arg0)
      ∧ r.2.mem ((c.tc : Thread Cert.ModPartKernel.nD Cert.ModPartKernel.τ).loc Cert.ModPartKernel.main_arg1) = m ((c.tc : Thread Cert.ModPartKernel.nD Cert.ModPartKernel.τ).loc Cert.ModPartKernel.main_arg1)
      ∧ r.2.mem ((c.tc : Thread Cert.ModPartKernel.nD Cert.ModPartKernel.τ).loc Cert.ModPartKernel.main_arg2) = m ((c.tc : Thread Cert.ModPartKernel.nD Cert.ModPartKernel.τ).loc Cert.ModPartKernel.main_arg2))
      ∧ r.2.sem = fun _ => 0)

def quiescent_ModPartKernelIdeal [hModPartKernelIdeal : Cert.ModPartKernelIdeal.Facts] : Prop :=
  ∀ (m : (ℓ : Loc Cert.ModPartKernelIdeal.nD Cert.ModPartKernelIdeal.τ Cert.ModPartKernelIdeal.sig) → Buf (Elt Ideal) ℓ) (g : Dev Cert.ModPartKernelIdeal.nD → PrngReg), Pre_ModPartKernelIdeal m →
    θ_run (Cert.ModPartKernelIdeal.defs (F := Ideal)) (onTc (τ := Cert.ModPartKernelIdeal.τ) (Cert.ModPartKernelIdeal.main (F := Ideal))) ⟨m, fun _ => 0, g⟩ (fun r => (∀ c : Dev Cert.ModPartKernelIdeal.nD,
      r.2.mem ((c.tc : Thread Cert.ModPartKernelIdeal.nD Cert.ModPartKernelIdeal.τ).loc Cert.ModPartKernelIdeal.main_arg0) = m ((c.tc : Thread Cert.ModPartKernelIdeal.nD Cert.ModPartKernelIdeal.τ).loc Cert.ModPartKernelIdeal.main_arg0)
      ∧ r.2.mem ((c.tc : Thread Cert.ModPartKernelIdeal.nD Cert.ModPartKernelIdeal.τ).loc Cert.ModPartKernelIdeal.main_arg1) = m ((c.tc : Thread Cert.ModPartKernelIdeal.nD Cert.ModPartKernelIdeal.τ).loc Cert.ModPartKernelIdeal.main_arg1)
      ∧ r.2.mem ((c.tc : Thread Cert.ModPartKernelIdeal.nD Cert.ModPartKernelIdeal.τ).loc Cert.ModPartKernelIdeal.main_arg2) = m ((c.tc : Thread Cert.ModPartKernelIdeal.nD Cert.ModPartKernelIdeal.τ).loc Cert.ModPartKernelIdeal.main_arg2))
      ∧ r.2.sem = fun _ => 0)

def quiescent_ModPartReferenceIdeal [hModPartReferenceIdeal : Cert.ModPartReferenceIdeal.Facts] : Prop :=
  ∀ (m : (ℓ : Loc Cert.ModPartReferenceIdeal.nD Cert.ModPartReferenceIdeal.τ Cert.ModPartReferenceIdeal.sig) → Buf (Elt Ideal) ℓ) (g : Dev Cert.ModPartReferenceIdeal.nD → PrngReg), Pre_ModPartReferenceIdeal m →
    θ_run (Cert.ModPartReferenceIdeal.defs (F := Ideal)) (onTc (τ := Cert.ModPartReferenceIdeal.τ) (Cert.ModPartReferenceIdeal.main (F := Ideal))) ⟨m, fun _ => 0, g⟩ (fun r => (∀ c : Dev Cert.ModPartReferenceIdeal.nD,
      r.2.mem ((c.tc : Thread Cert.ModPartReferenceIdeal.nD Cert.ModPartReferenceIdeal.τ).loc Cert.ModPartReferenceIdeal.main_arg0) = m ((c.tc : Thread Cert.ModPartReferenceIdeal.nD Cert.ModPartReferenceIdeal.τ).loc Cert.ModPartReferenceIdeal.main_arg0)
      ∧ r.2.mem ((c.tc : Thread Cert.ModPartReferenceIdeal.nD Cert.ModPartReferenceIdeal.τ).loc Cert.ModPartReferenceIdeal.main_arg1) = m ((c.tc : Thread Cert.ModPartReferenceIdeal.nD Cert.ModPartReferenceIdeal.τ).loc Cert.ModPartReferenceIdeal.main_arg1)
      ∧ r.2.mem ((c.tc : Thread Cert.ModPartReferenceIdeal.nD Cert.ModPartReferenceIdeal.τ).loc Cert.ModPartReferenceIdeal.main_arg2) = m ((c.tc : Thread Cert.ModPartReferenceIdeal.nD Cert.ModPartReferenceIdeal.τ).loc Cert.ModPartReferenceIdeal.main_arg2))
      ∧ r.2.sem = fun _ => 0)

def quiescent_OutProjKernel [hOutProjKernel : Cert.OutProjKernel.Facts] : Prop :=
  ∀ (m : (ℓ : Loc Cert.OutProjKernel.nD Cert.OutProjKernel.τ Cert.OutProjKernel.sig) → Buf (Elt Bits) ℓ) (g : Dev Cert.OutProjKernel.nD → PrngReg), Pre_OutProjKernel m →
    θ_run (Cert.OutProjKernel.defs (F := Bits)) (onTc (τ := Cert.OutProjKernel.τ) (Cert.OutProjKernel.main (F := Bits))) ⟨m, fun _ => 0, g⟩ (fun r => (∀ c : Dev Cert.OutProjKernel.nD,
      r.2.mem ((c.tc : Thread Cert.OutProjKernel.nD Cert.OutProjKernel.τ).loc Cert.OutProjKernel.main_arg0) = m ((c.tc : Thread Cert.OutProjKernel.nD Cert.OutProjKernel.τ).loc Cert.OutProjKernel.main_arg0)
      ∧ r.2.mem ((c.tc : Thread Cert.OutProjKernel.nD Cert.OutProjKernel.τ).loc Cert.OutProjKernel.main_arg1) = m ((c.tc : Thread Cert.OutProjKernel.nD Cert.OutProjKernel.τ).loc Cert.OutProjKernel.main_arg1)
      ∧ r.2.mem ((c.tc : Thread Cert.OutProjKernel.nD Cert.OutProjKernel.τ).loc Cert.OutProjKernel.main_arg2) = m ((c.tc : Thread Cert.OutProjKernel.nD Cert.OutProjKernel.τ).loc Cert.OutProjKernel.main_arg2)
      ∧ r.2.mem ((c.tc : Thread Cert.OutProjKernel.nD Cert.OutProjKernel.τ).loc Cert.OutProjKernel.main_arg3) = m ((c.tc : Thread Cert.OutProjKernel.nD Cert.OutProjKernel.τ).loc Cert.OutProjKernel.main_arg3)
      ∧ r.2.mem ((c.tc : Thread Cert.OutProjKernel.nD Cert.OutProjKernel.τ).loc Cert.OutProjKernel.main_arg4) = m ((c.tc : Thread Cert.OutProjKernel.nD Cert.OutProjKernel.τ).loc Cert.OutProjKernel.main_arg4)
      ∧ r.2.mem ((c.tc : Thread Cert.OutProjKernel.nD Cert.OutProjKernel.τ).loc Cert.OutProjKernel.main_arg5) = m ((c.tc : Thread Cert.OutProjKernel.nD Cert.OutProjKernel.τ).loc Cert.OutProjKernel.main_arg5)
      ∧ r.2.mem ((c.tc : Thread Cert.OutProjKernel.nD Cert.OutProjKernel.τ).loc Cert.OutProjKernel.main_arg6) = m ((c.tc : Thread Cert.OutProjKernel.nD Cert.OutProjKernel.τ).loc Cert.OutProjKernel.main_arg6)
      ∧ r.2.mem ((c.tc : Thread Cert.OutProjKernel.nD Cert.OutProjKernel.τ).loc Cert.OutProjKernel.main_arg7) = m ((c.tc : Thread Cert.OutProjKernel.nD Cert.OutProjKernel.τ).loc Cert.OutProjKernel.main_arg7))
      ∧ r.2.sem = fun _ => 0)

def quiescent_OutProjKernelIdeal [hOutProjKernelIdeal : Cert.OutProjKernelIdeal.Facts] : Prop :=
  ∀ (m : (ℓ : Loc Cert.OutProjKernelIdeal.nD Cert.OutProjKernelIdeal.τ Cert.OutProjKernelIdeal.sig) → Buf (Elt Ideal) ℓ) (g : Dev Cert.OutProjKernelIdeal.nD → PrngReg), Pre_OutProjKernelIdeal m →
    θ_run (Cert.OutProjKernelIdeal.defs (F := Ideal)) (onTc (τ := Cert.OutProjKernelIdeal.τ) (Cert.OutProjKernelIdeal.main (F := Ideal))) ⟨m, fun _ => 0, g⟩ (fun r => (∀ c : Dev Cert.OutProjKernelIdeal.nD,
      r.2.mem ((c.tc : Thread Cert.OutProjKernelIdeal.nD Cert.OutProjKernelIdeal.τ).loc Cert.OutProjKernelIdeal.main_arg0) = m ((c.tc : Thread Cert.OutProjKernelIdeal.nD Cert.OutProjKernelIdeal.τ).loc Cert.OutProjKernelIdeal.main_arg0)
      ∧ r.2.mem ((c.tc : Thread Cert.OutProjKernelIdeal.nD Cert.OutProjKernelIdeal.τ).loc Cert.OutProjKernelIdeal.main_arg1) = m ((c.tc : Thread Cert.OutProjKernelIdeal.nD Cert.OutProjKernelIdeal.τ).loc Cert.OutProjKernelIdeal.main_arg1)
      ∧ r.2.mem ((c.tc : Thread Cert.OutProjKernelIdeal.nD Cert.OutProjKernelIdeal.τ).loc Cert.OutProjKernelIdeal.main_arg2) = m ((c.tc : Thread Cert.OutProjKernelIdeal.nD Cert.OutProjKernelIdeal.τ).loc Cert.OutProjKernelIdeal.main_arg2)
      ∧ r.2.mem ((c.tc : Thread Cert.OutProjKernelIdeal.nD Cert.OutProjKernelIdeal.τ).loc Cert.OutProjKernelIdeal.main_arg3) = m ((c.tc : Thread Cert.OutProjKernelIdeal.nD Cert.OutProjKernelIdeal.τ).loc Cert.OutProjKernelIdeal.main_arg3)
      ∧ r.2.mem ((c.tc : Thread Cert.OutProjKernelIdeal.nD Cert.OutProjKernelIdeal.τ).loc Cert.OutProjKernelIdeal.main_arg4) = m ((c.tc : Thread Cert.OutProjKernelIdeal.nD Cert.OutProjKernelIdeal.τ).loc Cert.OutProjKernelIdeal.main_arg4)
      ∧ r.2.mem ((c.tc : Thread Cert.OutProjKernelIdeal.nD Cert.OutProjKernelIdeal.τ).loc Cert.OutProjKernelIdeal.main_arg5) = m ((c.tc : Thread Cert.OutProjKernelIdeal.nD Cert.OutProjKernelIdeal.τ).loc Cert.OutProjKernelIdeal.main_arg5)
      ∧ r.2.mem ((c.tc : Thread Cert.OutProjKernelIdeal.nD Cert.OutProjKernelIdeal.τ).loc Cert.OutProjKernelIdeal.main_arg6) = m ((c.tc : Thread Cert.OutProjKernelIdeal.nD Cert.OutProjKernelIdeal.τ).loc Cert.OutProjKernelIdeal.main_arg6)
      ∧ r.2.mem ((c.tc : Thread Cert.OutProjKernelIdeal.nD Cert.OutProjKernelIdeal.τ).loc Cert.OutProjKernelIdeal.main_arg7) = m ((c.tc : Thread Cert.OutProjKernelIdeal.nD Cert.OutProjKernelIdeal.τ).loc Cert.OutProjKernelIdeal.main_arg7))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_DownProjKernel [hDownProjKernel : Cert.DownProjKernel.Facts] : Prop :=
  ∀ (m : (ℓ : Loc Cert.DownProjKernel.nD Cert.DownProjKernel.τ Cert.DownProjKernel.sig) → Buf (Elt Bits) ℓ) (g : Dev Cert.DownProjKernel.nD → PrngReg), Pre_DownProjKernel m →
    θ_run (Cert.DownProjKernel.defs (F := Bits)) (onTc (τ := Cert.DownProjKernel.τ) (Cert.DownProjKernel.main (F := Bits))) ⟨m, fun _ => 0, g⟩ (fun r => (∀ c : Dev Cert.DownProjKernel.nD,
      r.2.mem ((c.tc : Thread Cert.DownProjKernel.nD Cert.DownProjKernel.τ).loc Cert.DownProjKernel.main_arg0) = m ((c.tc : Thread Cert.DownProjKernel.nD Cert.DownProjKernel.τ).loc Cert.DownProjKernel.main_arg0)
      ∧ r.2.mem ((c.tc : Thread Cert.DownProjKernel.nD Cert.DownProjKernel.τ).loc Cert.DownProjKernel.main_arg1) = m ((c.tc : Thread Cert.DownProjKernel.nD Cert.DownProjKernel.τ).loc Cert.DownProjKernel.main_arg1)
      ∧ r.2.mem ((c.tc : Thread Cert.DownProjKernel.nD Cert.DownProjKernel.τ).loc Cert.DownProjKernel.main_arg2) = m ((c.tc : Thread Cert.DownProjKernel.nD Cert.DownProjKernel.τ).loc Cert.DownProjKernel.main_arg2)
      ∧ r.2.mem ((c.tc : Thread Cert.DownProjKernel.nD Cert.DownProjKernel.τ).loc Cert.DownProjKernel.main_arg3) = m ((c.tc : Thread Cert.DownProjKernel.nD Cert.DownProjKernel.τ).loc Cert.DownProjKernel.main_arg3)
      ∧ r.2.mem ((c.tc : Thread Cert.DownProjKernel.nD Cert.DownProjKernel.τ).loc Cert.DownProjKernel.main_arg4) = m ((c.tc : Thread Cert.DownProjKernel.nD Cert.DownProjKernel.τ).loc Cert.DownProjKernel.main_arg4)
      ∧ r.2.mem ((c.tc : Thread Cert.DownProjKernel.nD Cert.DownProjKernel.τ).loc Cert.DownProjKernel.main_arg5) = m ((c.tc : Thread Cert.DownProjKernel.nD Cert.DownProjKernel.τ).loc Cert.DownProjKernel.main_arg5))
      ∧ r.2.sem = fun _ => 0)

def quiescent_DownProjKernelIdeal [hDownProjKernelIdeal : Cert.DownProjKernelIdeal.Facts] : Prop :=
  ∀ (m : (ℓ : Loc Cert.DownProjKernelIdeal.nD Cert.DownProjKernelIdeal.τ Cert.DownProjKernelIdeal.sig) → Buf (Elt Ideal) ℓ) (g : Dev Cert.DownProjKernelIdeal.nD → PrngReg), Pre_DownProjKernelIdeal m →
    θ_run (Cert.DownProjKernelIdeal.defs (F := Ideal)) (onTc (τ := Cert.DownProjKernelIdeal.τ) (Cert.DownProjKernelIdeal.main (F := Ideal))) ⟨m, fun _ => 0, g⟩ (fun r => (∀ c : Dev Cert.DownProjKernelIdeal.nD,
      r.2.mem ((c.tc : Thread Cert.DownProjKernelIdeal.nD Cert.DownProjKernelIdeal.τ).loc Cert.DownProjKernelIdeal.main_arg0) = m ((c.tc : Thread Cert.DownProjKernelIdeal.nD Cert.DownProjKernelIdeal.τ).loc Cert.DownProjKernelIdeal.main_arg0)
      ∧ r.2.mem ((c.tc : Thread Cert.DownProjKernelIdeal.nD Cert.DownProjKernelIdeal.τ).loc Cert.DownProjKernelIdeal.main_arg1) = m ((c.tc : Thread Cert.DownProjKernelIdeal.nD Cert.DownProjKernelIdeal.τ).loc Cert.DownProjKernelIdeal.main_arg1)
      ∧ r.2.mem ((c.tc : Thread Cert.DownProjKernelIdeal.nD Cert.DownProjKernelIdeal.τ).loc Cert.DownProjKernelIdeal.main_arg2) = m ((c.tc : Thread Cert.DownProjKernelIdeal.nD Cert.DownProjKernelIdeal.τ).loc Cert.DownProjKernelIdeal.main_arg2)
      ∧ r.2.mem ((c.tc : Thread Cert.DownProjKernelIdeal.nD Cert.DownProjKernelIdeal.τ).loc Cert.DownProjKernelIdeal.main_arg3) = m ((c.tc : Thread Cert.DownProjKernelIdeal.nD Cert.DownProjKernelIdeal.τ).loc Cert.DownProjKernelIdeal.main_arg3)
      ∧ r.2.mem ((c.tc : Thread Cert.DownProjKernelIdeal.nD Cert.DownProjKernelIdeal.τ).loc Cert.DownProjKernelIdeal.main_arg4) = m ((c.tc : Thread Cert.DownProjKernelIdeal.nD Cert.DownProjKernelIdeal.τ).loc Cert.DownProjKernelIdeal.main_arg4)
      ∧ r.2.mem ((c.tc : Thread Cert.DownProjKernelIdeal.nD Cert.DownProjKernelIdeal.τ).loc Cert.DownProjKernelIdeal.main_arg5) = m ((c.tc : Thread Cert.DownProjKernelIdeal.nD Cert.DownProjKernelIdeal.τ).loc Cert.DownProjKernelIdeal.main_arg5))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2)
      ∧ r.2.mem ((c.tc : Thread Cert.DownProjReferenceIdeal.nD Cert.DownProjReferenceIdeal.τ).loc Cert.DownProjReferenceIdeal.main_arg3) = m ((c.tc : Thread Cert.DownProjReferenceIdeal.nD Cert.DownProjReferenceIdeal.τ).loc Cert.DownProjReferenceIdeal.main_arg3)
      ∧ r.2.mem ((c.tc : Thread Cert.DownProjReferenceIdeal.nD Cert.DownProjReferenceIdeal.τ).loc Cert.DownProjReferenceIdeal.main_arg4) = m ((c.tc : Thread Cert.DownProjReferenceIdeal.nD Cert.DownProjReferenceIdeal.τ).loc Cert.DownProjReferenceIdeal.main_arg4)
      ∧ r.2.mem ((c.tc : Thread Cert.DownProjReferenceIdeal.nD Cert.DownProjReferenceIdeal.τ).loc Cert.DownProjReferenceIdeal.main_arg5) = m ((c.tc : Thread Cert.DownProjReferenceIdeal.nD Cert.DownProjReferenceIdeal.τ).loc Cert.DownProjReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 4, 512, 1024]⟩ ⟨4, ![16, 4, 512, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)) (v1 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 1024]⟩ ⟨2, ![32768, 1024]⟩ 0 8 c v0
          ∧ r.2.mem ((c.tc : Thread Cert.KernelIdeal.nD Cert.KernelIdeal.τ).loc Cert.KernelIdeal.main_v1_1) = Layout.block ⟨3, ![4, 512, 1024]⟩ ⟨3, ![32, 512, 1024]⟩ 0 8 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_v12) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m ((c.tc : Thread Cert.InKernelIdeal.nD Cert.InKernelIdeal.τ).loc Cert.InKernelIdeal.main_arg0) = Layout.block ⟨2, ![4096, 2816]⟩ ⟨2, ![32768, 2816]⟩ 0 8 c (m' (((0 : Dev Cert.InReferenceIdeal.nD).tc : Thread Cert.InReferenceIdeal.nD Cert.InReferenceIdeal.τ).loc Cert.InReferenceIdeal.main_arg0))
      ∧ m ((c.tc : Thread Cert.InKernelIdeal.nD Cert.InKernelIdeal.τ).loc Cert.InKernelIdeal.main_arg1) = m' (((0 : Dev Cert.InReferenceIdeal.nD).tc : Thread Cert.InReferenceIdeal.nD Cert.InReferenceIdeal.τ).loc Cert.InReferenceIdeal.main_arg1)
      ∧ m ((c.tc : Thread Cert.InKernelIdeal.nD Cert.InKernelIdeal.τ).loc Cert.InKernelIdeal.main_arg2) = Layout.block ⟨4, ![4, 2, 352, 1024]⟩ ⟨4, ![32, 2, 352, 1024]⟩ 0 8 c (m' (((0 : Dev Cert.InReferenceIdeal.nD).tc : Thread Cert.InReferenceIdeal.nD Cert.InReferenceIdeal.τ).loc Cert.InReferenceIdeal.main_arg2))
      ∧ m ((c.tc : Thread Cert.InKernelIdeal.nD Cert.InKernelIdeal.τ).loc Cert.InKernelIdeal.main_arg3) = Layout.block ⟨2, ![512, 1024]⟩ ⟨2, ![4096, 1024]⟩ 0 8 c (m' (((0 : Dev Cert.InReferenceIdeal.nD).tc : Thread Cert.InReferenceIdeal.nD Cert.InReferenceIdeal.τ).loc Cert.InReferenceIdeal.main_arg3))
      ∧ m ((c.tc : Thread Cert.InKernelIdeal.nD Cert.InKernelIdeal.τ).loc Cert.InKernelIdeal.main_arg4) = Layout.block ⟨2, ![256, 512]⟩ ⟨2, ![2048, 512]⟩ 0 8 c (m' (((0 : Dev Cert.InReferenceIdeal.nD).tc : Thread Cert.InReferenceIdeal.nD Cert.InReferenceIdeal.τ).loc Cert.InReferenceIdeal.main_arg4))) →
    ∃ (v0 : Buf (Elt Ideal) (((0 : Dev Cert.InReferenceIdeal.nD).tc : Thread Cert.InReferenceIdeal.nD Cert.InReferenceIdeal.τ).loc Cert.InReferenceIdeal.main_v2)) (v1 : Buf (Elt Ideal) (((0 : Dev Cert.InReferenceIdeal.nD).tc : Thread Cert.InReferenceIdeal.nD Cert.InReferenceIdeal.τ).loc Cert.InReferenceIdeal.main_v11)) (v2 : Buf (Elt Ideal) (((0 : Dev Cert.InReferenceIdeal.nD).tc : Thread Cert.InReferenceIdeal.nD Cert.InReferenceIdeal.τ).loc Cert.InReferenceIdeal.main_v20)) (v3 : Buf (Elt Ideal) (((0 : Dev Cert.InReferenceIdeal.nD).tc : Thread Cert.InReferenceIdeal.nD Cert.InReferenceIdeal.τ).loc Cert.InReferenceIdeal.main_v29)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v1_0) = Layout.block ⟨2, ![4096, 1024]⟩ ⟨2, ![32768, 1024]⟩ 0 8 c v0
          ∧ r.2.mem ((c.tc : Thread Cert.InKernelIdeal.nD Cert.InKernelIdeal.τ).loc Cert.InKernelIdeal.main_v1_1) = Layout.block ⟨3, ![4, 352, 1024]⟩ ⟨3, ![32, 352, 1024]⟩ 0 8 c v1
          ∧ r.2.mem ((c.tc : Thread Cert.InKernelIdeal.nD Cert.InKernelIdeal.τ).loc Cert.InKernelIdeal.main_v1_2) = Layout.block ⟨2, ![512, 1024]⟩ ⟨2, ![4096, 1024]⟩ 0 8 c v2
          ∧ r.2.mem ((c.tc : Thread Cert.InKernelIdeal.nD Cert.InKernelIdeal.τ).loc Cert.InKernelIdeal.main_v1_3) = Layout.block ⟨2, ![256, 512]⟩ ⟨2, ![2048, 512]⟩ 0 8 c v3
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r =>
          r.2.mem (((0 : Dev Cert.InReferenceIdeal.nD).tc : Thread Cert.InReferenceIdeal.nD Cert.InReferenceIdeal.τ).loc Cert.InReferenceIdeal.main_v2) = v0
          ∧ r.2.mem (((0 : Dev Cert.InReferenceIdeal.nD).tc : Thread Cert.InReferenceIdeal.nD Cert.InReferenceIdeal.τ).loc Cert.InReferenceIdeal.main_v11) = v1
          ∧ r.2.mem (((0 : Dev Cert.InReferenceIdeal.nD).tc : Thread Cert.InReferenceIdeal.nD Cert.InReferenceIdeal.τ).loc Cert.InReferenceIdeal.main_v20) = v2
          ∧ r.2.mem (((0 : Dev Cert.InReferenceIdeal.nD).tc : Thread Cert.InReferenceIdeal.nD Cert.InReferenceIdeal.τ).loc Cert.InReferenceIdeal.main_v29) = v3
          ∧ r.2.mem (((0 : Dev Cert.InReferenceIdeal.nD).tc : Thread Cert.InReferenceIdeal.nD Cert.InReferenceIdeal.τ).loc Cert.InReferenceIdeal.main_arg0) = m' (((0 : Dev Cert.InReferenceIdeal.nD).tc : Thread Cert.InReferenceIdeal.nD Cert.InReferenceIdeal.τ).loc Cert.InReferenceIdeal.main_arg0)
          ∧ r.2.mem (((0 : Dev Cert.InReferenceIdeal.nD).tc : Thread Cert.InReferenceIdeal.nD Cert.InReferenceIdeal.τ).loc Cert.InReferenceIdeal.main_arg1) = m' (((0 : Dev Cert.InReferenceIdeal.nD).tc : Thread Cert.InReferenceIdeal.nD Cert.InReferenceIdeal.τ).loc Cert.InReferenceIdeal.main_arg1)
          ∧ r.2.mem (((0 : Dev Cert.InReferenceIdeal.nD).tc : Thread Cert.InReferenceIdeal.nD Cert.InReferenceIdeal.τ).loc Cert.InReferenceIdeal.main_arg2) = m' (((0 : Dev Cert.InReferenceIdeal.nD).tc : Thread Cert.InReferenceIdeal.nD Cert.InReferenceIdeal.τ).loc Cert.InReferenceIdeal.main_arg2)
          ∧ r.2.mem (((0 : Dev Cert.InReferenceIdeal.nD).tc : Thread Cert.InReferenceIdeal.nD Cert.InReferenceIdeal.τ).loc Cert.InReferenceIdeal.main_arg3) = m' (((0 : Dev Cert.InReferenceIdeal.nD).tc : Thread Cert.InReferenceIdeal.nD Cert.InReferenceIdeal.τ).loc Cert.InReferenceIdeal.main_arg3)
          ∧ r.2.mem (((0 : Dev Cert.InReferenceIdeal.nD).tc : Thread Cert.InReferenceIdeal.nD Cert.InReferenceIdeal.τ).loc Cert.InReferenceIdeal.main_arg4) = m' (((0 : Dev Cert.InReferenceIdeal.nD).tc : Thread Cert.InReferenceIdeal.nD Cert.InReferenceIdeal.τ).loc Cert.InReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m ((c.tc : Thread Cert.UpKernelIdeal.nD Cert.UpKernelIdeal.τ).loc Cert.UpKernelIdeal.main_arg0) = Layout.block ⟨3, ![2, 2048, 4096]⟩ ⟨3, ![16, 2048, 4096]⟩ 0 8 c (m' (((0 : Dev Cert.UpReferenceIdeal.nD).tc : Thread Cert.UpReferenceIdeal.nD Cert.UpReferenceIdeal.τ).loc Cert.UpReferenceIdeal.main_arg0))
      ∧ m ((c.tc : Thread Cert.UpKernelIdeal.nD Cert.UpKernelIdeal.τ).loc Cert.UpKernelIdeal.main_arg1) = m' (((0 : Dev Cert.UpReferenceIdeal.nD).tc : Thread Cert.UpReferenceIdeal.nD Cert.UpReferenceIdeal.τ).loc Cert.UpReferenceIdeal.main_arg1)
      ∧ m ((c.tc : Thread Cert.UpKernelIdeal.nD Cert.UpKernelIdeal.τ).loc Cert.UpKernelIdeal.main_arg2) = Layout.block ⟨3, ![2, 2048, 1024]⟩ ⟨3, ![16, 2048, 1024]⟩ 0 8 c (m' (((0 : Dev Cert.UpReferenceIdeal.nD).tc : Thread Cert.UpReferenceIdeal.nD Cert.UpReferenceIdeal.τ).loc Cert.UpReferenceIdeal.main_arg2))
      ∧ m ((c.tc : Thread Cert.UpKernelIdeal.nD Cert.UpKernelIdeal.τ).loc Cert.UpKernelIdeal.main_arg3) = Layout.block ⟨3, ![2, 2048, 1024]⟩ ⟨3, ![16, 2048, 1024]⟩ 0 8 c (m' (((0 : Dev Cert.UpReferenceIdeal.nD).tc : Thread Cert.UpReferenceIdeal.nD Cert.UpReferenceIdeal.τ).loc Cert.UpReferenceIdeal.main_arg3))
      ∧ m ((c.tc : Thread Cert.UpKernelIdeal.nD Cert.UpKernelIdeal.τ).loc Cert.UpKernelIdeal.main_arg4) = Layout.block ⟨3, ![2, 2048, 1024]⟩ ⟨3, ![16, 2048, 1024]⟩ 0 8 c (m' (((0 : Dev Cert.UpReferenceIdeal.nD).tc : Thread Cert.UpReferenceIdeal.nD Cert.UpReferenceIdeal.τ).loc Cert.UpReferenceIdeal.main_arg4))
      ∧ m ((c.tc : Thread Cert.UpKernelIdeal.nD Cert.UpKernelIdeal.τ).loc Cert.UpKernelIdeal.main_arg5) = m' (((0 : Dev Cert.UpReferenceIdeal.nD).tc : Thread Cert.UpReferenceIdeal.nD Cert.UpReferenceIdeal.τ).loc Cert.UpReferenceIdeal.main_arg5)
      ∧ m ((c.tc : Thread Cert.UpKernelIdeal.nD Cert.UpKernelIdeal.τ).loc Cert.UpKernelIdeal.main_arg6) = Layout.block ⟨3, ![2, 1, 1024]⟩ ⟨3, ![16, 1, 1024]⟩ 0 8 c (m' (((0 : Dev Cert.UpReferenceIdeal.nD).tc : Thread Cert.UpReferenceIdeal.nD Cert.UpReferenceIdeal.τ).loc Cert.UpReferenceIdeal.main_arg6))
      ∧ m ((c.tc : Thread Cert.UpKernelIdeal.nD Cert.UpKernelIdeal.τ).loc Cert.UpKernelIdeal.main_arg7) = m' (((0 : Dev Cert.UpReferenceIdeal.nD).tc : Thread Cert.UpReferenceIdeal.nD Cert.UpReferenceIdeal.τ).loc Cert.UpReferenceIdeal.main_arg7)
      ∧ m ((c.tc : Thread Cert.UpKernelIdeal.nD Cert.UpKernelIdeal.τ).loc Cert.UpKernelIdeal.main_arg8) = Layout.block ⟨3, ![2, 1, 1024]⟩ ⟨3, ![16, 1, 1024]⟩ 0 8 c (m' (((0 : Dev Cert.UpReferenceIdeal.nD).tc : Thread Cert.UpReferenceIdeal.nD Cert.UpReferenceIdeal.τ).loc Cert.UpReferenceIdeal.main_arg8))
      ∧ m ((c.tc : Thread Cert.UpKernelIdeal.nD Cert.UpKernelIdeal.τ).loc Cert.UpKernelIdeal.main_arg9) = Layout.block ⟨4, ![2, 4, 512, 1024]⟩ ⟨4, ![16, 4, 512, 1024]⟩ 0 8 c (m' (((0 : Dev Cert.UpReferenceIdeal.nD).tc : Thread Cert.UpReferenceIdeal.nD Cert.UpReferenceIdeal.τ).loc Cert.UpReferenceIdeal.main_arg9))) →
    ∃ (v0 : Buf (Elt Ideal) (((0 : Dev Cert.UpReferenceIdeal.nD).tc : Thread Cert.UpReferenceIdeal.nD Cert.UpReferenceIdeal.τ).loc Cert.UpReferenceIdeal.main_v32)) (v1 : Buf (Elt Ideal) (((0 : Dev Cert.UpReferenceIdeal.nD).tc : Thread Cert.UpReferenceIdeal.nD Cert.UpReferenceIdeal.τ).loc Cert.UpReferenceIdeal.main_v58)) (v2 : Buf (Elt Ideal) (((0 : Dev Cert.UpReferenceIdeal.nD).tc : Thread Cert.UpReferenceIdeal.nD Cert.UpReferenceIdeal.τ).loc Cert.UpReferenceIdeal.main_v68)) (v3 : Buf (Elt Ideal) (((0 : Dev Cert.UpReferenceIdeal.nD).tc : Thread Cert.UpReferenceIdeal.nD Cert.UpReferenceIdeal.τ).loc Cert.UpReferenceIdeal.main_v69)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v1_0) = Layout.block ⟨3, ![2, 2048, 1024]⟩ ⟨3, ![16, 2048, 1024]⟩ 0 8 c v0
          ∧ r.2.mem ((c.tc : Thread Cert.UpKernelIdeal.nD Cert.UpKernelIdeal.τ).loc Cert.UpKernelIdeal.main_v1_1) = Layout.block ⟨3, ![2, 2048, 1024]⟩ ⟨3, ![16, 2048, 1024]⟩ 0 8 c v1
          ∧ r.2.mem ((c.tc : Thread Cert.UpKernelIdeal.nD Cert.UpKernelIdeal.τ).loc Cert.UpKernelIdeal.main_v1_3) = Layout.block ⟨3, ![2, 1, 1024]⟩ ⟨3, ![16, 1, 1024]⟩ 0 8 c v2
          ∧ r.2.mem ((c.tc : Thread Cert.UpKernelIdeal.nD Cert.UpKernelIdeal.τ).loc Cert.UpKernelIdeal.main_v1_7) = Layout.block ⟨3, ![4, 512, 1024]⟩ ⟨3, ![32, 512, 1024]⟩ 0 8 c v3
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
          ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
          ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8)
          ∧ r.2.mem ((c.tc : Thread Cert.UpKernelIdeal.nD Cert.UpKernelIdeal.τ).loc Cert.UpKernelIdeal.main_arg9) = m ((c.tc : Thread Cert.UpKernelIdeal.nD Cert.UpKernelIdeal.τ).loc Cert.UpKernelIdeal.main_arg9))
      ∧ θ_run (Cert.UpReferenceIdeal.defs (F := Ideal)) (onTc (τ := Cert.UpReferenceIdeal.τ) (Cert.UpReferenceIdeal.main (F := Ideal))) ⟨m', fun _ => 0, g'⟩ (fun r =>
          r.2.mem (((0 : Dev Cert.UpReferenceIdeal.nD).tc : Thread Cert.UpReferenceIdeal.nD Cert.UpReferenceIdeal.τ).loc Cert.UpReferenceIdeal.main_v32) = v0
          ∧ r.2.mem (((0 : Dev Cert.UpReferenceIdeal.nD).tc : Thread Cert.UpReferenceIdeal.nD Cert.UpReferenceIdeal.τ).loc Cert.UpReferenceIdeal.main_v58) = v1
          ∧ r.2.mem (((0 : Dev Cert.UpReferenceIdeal.nD).tc : Thread Cert.UpReferenceIdeal.nD Cert.UpReferenceIdeal.τ).loc Cert.UpReferenceIdeal.main_v68) = v2
          ∧ r.2.mem (((0 : Dev Cert.UpReferenceIdeal.nD).tc : Thread Cert.UpReferenceIdeal.nD Cert.UpReferenceIdeal.τ).loc Cert.UpReferenceIdeal.main_v69) = v3
          ∧ r.2.mem (((0 : Dev Cert.UpReferenceIdeal.nD).tc : Thread Cert.UpReferenceIdeal.nD Cert.UpReferenceIdeal.τ).loc Cert.UpReferenceIdeal.main_arg0) = m' (((0 : Dev Cert.UpReferenceIdeal.nD).tc : Thread Cert.UpReferenceIdeal.nD Cert.UpReferenceIdeal.τ).loc Cert.UpReferenceIdeal.main_arg0)
          ∧ r.2.mem (((0 : Dev Cert.UpReferenceIdeal.nD).tc : Thread Cert.UpReferenceIdeal.nD Cert.UpReferenceIdeal.τ).loc Cert.UpReferenceIdeal.main_arg1) = m' (((0 : Dev Cert.UpReferenceIdeal.nD).tc : Thread Cert.UpReferenceIdeal.nD Cert.UpReferenceIdeal.τ).loc Cert.UpReferenceIdeal.main_arg1)
          ∧ r.2.mem (((0 : Dev Cert.UpReferenceIdeal.nD).tc : Thread Cert.UpReferenceIdeal.nD Cert.UpReferenceIdeal.τ).loc Cert.UpReferenceIdeal.main_arg2) = m' (((0 : Dev Cert.UpReferenceIdeal.nD).tc : Thread Cert.UpReferenceIdeal.nD Cert.UpReferenceIdeal.τ).loc Cert.UpReferenceIdeal.main_arg2)
          ∧ r.2.mem (((0 : Dev Cert.UpReferenceIdeal.nD).tc : Thread Cert.UpReferenceIdeal.nD Cert.UpReferenceIdeal.τ).loc Cert.UpReferenceIdeal.main_arg3) = m' (((0 : Dev Cert.UpReferenceIdeal.nD).tc : Thread Cert.UpReferenceIdeal.nD Cert.UpReferenceIdeal.τ).loc Cert.UpReferenceIdeal.main_arg3)
          ∧ r.2.mem (((0 : Dev Cert.UpReferenceIdeal.nD).tc : Thread Cert.UpReferenceIdeal.nD Cert.UpReferenceIdeal.τ).loc Cert.UpReferenceIdeal.main_arg4) = m' (((0 : Dev Cert.UpReferenceIdeal.nD).tc : Thread Cert.UpReferenceIdeal.nD Cert.UpReferenceIdeal.τ).loc Cert.UpReferenceIdeal.main_arg4)
          ∧ r.2.mem (((0 : Dev Cert.UpReferenceIdeal.nD).tc : Thread Cert.UpReferenceIdeal.nD Cert.UpReferenceIdeal.τ).loc Cert.UpReferenceIdeal.main_arg5) = m' (((0 : Dev Cert.UpReferenceIdeal.nD).tc : Thread Cert.UpReferenceIdeal.nD Cert.UpReferenceIdeal.τ).loc Cert.UpReferenceIdeal.main_arg5)
          ∧ r.2.mem (((0 : Dev Cert.UpReferenceIdeal.nD).tc : Thread Cert.UpReferenceIdeal.nD Cert.UpReferenceIdeal.τ).loc Cert.UpReferenceIdeal.main_arg6) = m' (((0 : Dev Cert.UpReferenceIdeal.nD).tc : Thread Cert.UpReferenceIdeal.nD Cert.UpReferenceIdeal.τ).loc Cert.UpReferenceIdeal.main_arg6)
          ∧ r.2.mem (((0 : Dev Cert.UpReferenceIdeal.nD).tc : Thread Cert.UpReferenceIdeal.nD Cert.UpReferenceIdeal.τ).loc Cert.UpReferenceIdeal.main_arg7) = m' (((0 : Dev Cert.UpReferenceIdeal.nD).tc : Thread Cert.UpReferenceIdeal.nD Cert.UpReferenceIdeal.τ).loc Cert.UpReferenceIdeal.main_arg7)
          ∧ r.2.mem (((0 : Dev Cert.UpReferenceIdeal.nD).tc : Thread Cert.UpReferenceIdeal.nD Cert.UpReferenceIdeal.τ).loc Cert.UpReferenceIdeal.main_arg8) = m' (((0 : Dev Cert.UpReferenceIdeal.nD).tc : Thread Cert.UpReferenceIdeal.nD Cert.UpReferenceIdeal.τ).loc Cert.UpReferenceIdeal.main_arg8)
          ∧ r.2.mem (((0 : Dev Cert.UpReferenceIdeal.nD).tc : Thread Cert.UpReferenceIdeal.nD Cert.UpReferenceIdeal.τ).loc Cert.UpReferenceIdeal.main_arg9) = m' (((0 : Dev Cert.UpReferenceIdeal.nD).tc : Thread Cert.UpReferenceIdeal.nD Cert.UpReferenceIdeal.τ).loc Cert.UpReferenceIdeal.main_arg9))

def preserves_GatherKernel_GatherKernelIdeal : Prop :=
  True

def algebraic_GatherKernelIdeal_GatherReferenceIdeal [hGatherKernelIdeal : Cert.GatherKernelIdeal.Facts] [hGatherReferenceIdeal : Cert.GatherReferenceIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherKernelIdeal m →
    (∀ c : Dev Cert.GatherKernelIdeal.nD,
      m ((c.tc : Thread Cert.GatherKernelIdeal.nD Cert.GatherKernelIdeal.τ).loc Cert.GatherKernelIdeal.main_arg0) = Layout.block ⟨2, ![2, 1024]⟩ ⟨2, ![16, 1024]⟩ 0 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherKernelIdeal.nD Cert.GatherKernelIdeal.τ).loc Cert.GatherKernelIdeal.main_arg1) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)),
      θ_run (Cert.GatherKernelIdeal.defs (F := Ideal)) (onTc (τ := Cert.GatherKernelIdeal.τ) (Cert.GatherKernelIdeal.main (F := Ideal))) ⟨m, fun _ => 0, g⟩ (fun r => ∀ c : Dev Cert.GatherKernelIdeal.nD,
          r.2.mem ((c.tc : Thread Cert.GatherKernelIdeal.nD Cert.GatherKernelIdeal.τ).loc Cert.GatherKernelIdeal.main_v1_0) = v0
          ∧ r.2.mem ((c.tc : Thread Cert.GatherKernelIdeal.nD Cert.GatherKernelIdeal.τ).loc Cert.GatherKernelIdeal.main_v1_1) = v1
          ∧ r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0)
          ∧ r.2.mem ((c.tc : Thread Cert.GatherKernelIdeal.nD Cert.GatherKernelIdeal.τ).loc Cert.GatherKernelIdeal.main_arg1) = m ((c.tc : Thread Cert.GatherKernelIdeal.nD Cert.GatherKernelIdeal.τ).loc Cert.GatherKernelIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def bitexact_GatherKernel_GatherReference [hGatherKernel : Cert.GatherKernel.Facts] [hGatherReference : Cert.GatherReference.Facts] : Prop :=
  ∀ (m : (ℓ : Loc Cert.GatherKernel.nD Cert.GatherKernel.τ Cert.GatherKernel.sig) → Buf (Elt Bits) ℓ) (g : Dev Cert.GatherKernel.nD → PrngReg)
    (m' : (ℓ : Loc Cert.GatherReference.nD Cert.GatherReference.τ Cert.GatherReference.sig) → Buf (Elt Bits) ℓ) (g' : Dev Cert.GatherReference.nD → PrngReg), Pre_GatherKernel m →
    (∀ c : Dev Cert.GatherKernel.nD,
      m ((c.tc : Thread Cert.GatherKernel.nD Cert.GatherKernel.τ).loc Cert.GatherKernel.main_arg0) = Layout.block ⟨2, ![2, 1024]⟩ ⟨2, ![16, 1024]⟩ 0 8 c (m' (((0 : Dev Cert.GatherReference.nD).tc : Thread Cert.GatherReference.nD Cert.GatherReference.τ).loc Cert.GatherReference.main_arg0))
      ∧ m ((c.tc : Thread Cert.GatherKernel.nD Cert.GatherKernel.τ).loc Cert.GatherKernel.main_arg1) = Layout.block ⟨2, ![352, 1024]⟩ ⟨2, ![2816, 1024]⟩ 0 8 c (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)),
      θ_run (Cert.GatherKernel.defs (F := Bits)) (onTc (τ := Cert.GatherKernel.τ) (Cert.GatherKernel.main (F := Bits))) ⟨m, fun _ => 0, g⟩ (fun r => ∀ c : Dev Cert.GatherKernel.nD,
          r.2.mem ((c.tc : Thread Cert.GatherKernel.nD Cert.GatherKernel.τ).loc Cert.GatherKernel.main_v1_0) = v0
          ∧ r.2.mem ((c.tc : Thread Cert.GatherKernel.nD Cert.GatherKernel.τ).loc Cert.GatherKernel.main_v1_1) = v1
          ∧ r.2.mem ((c.tc : Thread Cert.GatherKernel.nD Cert.GatherKernel.τ).loc Cert.GatherKernel.main_arg0) = m ((c.tc : Thread Cert.GatherKernel.nD Cert.GatherKernel.τ).loc Cert.GatherKernel.main_arg0)
          ∧ r.2.mem ((c.tc : Thread Cert.GatherKernel.nD Cert.GatherKernel.τ).loc Cert.GatherKernel.main_arg1) = m ((c.tc : Thread Cert.GatherKernel.nD Cert.GatherKernel.τ).loc Cert.GatherKernel.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def preserves_SwapKernel_SwapKernelIdeal : Prop :=
  True

def algebraic_SwapKernelIdeal_SwapReferenceIdeal [hSwapKernelIdeal : Cert.SwapKernelIdeal.Facts] [hSwapReferenceIdeal : Cert.SwapReferenceIdeal.Facts] : Prop :=
  ∀ (m : (ℓ : Loc Cert.SwapKernelIdeal.nD Cert.SwapKernelIdeal.τ Cert.SwapKernelIdeal.sig) → Buf (Elt Ideal) ℓ) (g : Dev Cert.SwapKernelIdeal.nD → PrngReg)
    (m' : (ℓ : Loc Cert.SwapReferenceIdeal.nD Cert.SwapReferenceIdeal.τ Cert.SwapReferenceIdeal.sig) → Buf (Elt Ideal) ℓ) (g' : Dev Cert.SwapReferenceIdeal.nD → PrngReg), Pre_SwapKernelIdeal m →
    (∀ c : Dev Cert.SwapKernelIdeal.nD,
      m ((c.tc : Thread Cert.SwapKernelIdeal.nD Cert.SwapKernelIdeal.τ).loc Cert.SwapKernelIdeal.main_arg0) = Layout.block ⟨2, ![352, 1024]⟩ ⟨2, ![2816, 1024]⟩ 0 8 c (m' (((0 : Dev Cert.SwapReferenceIdeal.nD).tc : Thread Cert.SwapReferenceIdeal.nD Cert.SwapReferenceIdeal.τ).loc Cert.SwapReferenceIdeal.main_arg0))) →
    ∃ (v0 : Buf (Elt Ideal) (((0 : Dev Cert.SwapReferenceIdeal.nD).tc : Thread Cert.SwapReferenceIdeal.nD Cert.SwapReferenceIdeal.τ).loc Cert.SwapReferenceIdeal.main_v8)),
      θ_run (Cert.SwapKernelIdeal.defs (F := Ideal)) (onTc (τ := Cert.SwapKernelIdeal.τ) (Cert.SwapKernelIdeal.main (F := Ideal))) ⟨m, fun _ => 0, g⟩ (fun r => ∀ c : Dev Cert.SwapKernelIdeal.nD,
          r.2.mem ((c.tc : Thread Cert.SwapKernelIdeal.nD Cert.SwapKernelIdeal.τ).loc Cert.SwapKernelIdeal.main_v1) = Layout.block ⟨2, ![352, 1024]⟩ ⟨2, ![2816, 1024]⟩ 0 8 c v0
          ∧ r.2.mem ((c.tc : Thread Cert.SwapKernelIdeal.nD Cert.SwapKernelIdeal.τ).loc Cert.SwapKernelIdeal.main_arg0) = m ((c.tc : Thread Cert.SwapKernelIdeal.nD Cert.SwapKernelIdeal.τ).loc Cert.SwapKernelIdeal.main_arg0))
      ∧ θ_run (Cert.SwapReferenceIdeal.defs (F := Ideal)) (onTc (τ := Cert.SwapReferenceIdeal.τ) (Cert.SwapReferenceIdeal.main (F := Ideal))) ⟨m', fun _ => 0, g'⟩ (fun r =>
          r.2.mem (((0 : Dev Cert.SwapReferenceIdeal.nD).tc : Thread Cert.SwapReferenceIdeal.nD Cert.SwapReferenceIdeal.τ).loc Cert.SwapReferenceIdeal.main_v8) = v0
          ∧ r.2.mem (((0 : Dev Cert.SwapReferenceIdeal.nD).tc : Thread Cert.SwapReferenceIdeal.nD Cert.SwapReferenceIdeal.τ).loc Cert.SwapReferenceIdeal.main_arg0) = m' (((0 : Dev Cert.SwapReferenceIdeal.nD).tc : Thread Cert.SwapReferenceIdeal.nD Cert.SwapReferenceIdeal.τ).loc Cert.SwapReferenceIdeal.main_arg0))

def bitexact_SwapKernel_SwapReference [hSwapKernel : Cert.SwapKernel.Facts] [hSwapReference : Cert.SwapReference.Facts] : Prop :=
  ∀ (m : (ℓ : Loc Cert.SwapKernel.nD Cert.SwapKernel.τ Cert.SwapKernel.sig) → Buf (Elt Bits) ℓ) (g : Dev Cert.SwapKernel.nD → PrngReg)
    (m' : (ℓ : Loc Cert.SwapReference.nD Cert.SwapReference.τ Cert.SwapReference.sig) → Buf (Elt Bits) ℓ) (g' : Dev Cert.SwapReference.nD → PrngReg), Pre_SwapKernel m →
    (∀ c : Dev Cert.SwapKernel.nD,
      m ((c.tc : Thread Cert.SwapKernel.nD Cert.SwapKernel.τ).loc Cert.SwapKernel.main_arg0) = Layout.block ⟨2, ![352, 1024]⟩ ⟨2, ![2816, 1024]⟩ 0 8 c (m' (((0 : Dev Cert.SwapReference.nD).tc : Thread Cert.SwapReference.nD Cert.SwapReference.τ).loc Cert.SwapReference.main_arg0))) →
    ∃ (v0 : Buf (Elt Bits) (((0 : Dev Cert.SwapReference.nD).tc : Thread Cert.SwapReference.nD Cert.SwapReference.τ).loc Cert.SwapReference.main_v8)),
      θ_run (Cert.SwapKernel.defs (F := Bits)) (onTc (τ := Cert.SwapKernel.τ) (Cert.SwapKernel.main (F := Bits))) ⟨m, fun _ => 0, g⟩ (fun r => ∀ c : Dev Cert.SwapKernel.nD,
          r.2.mem ((c.tc : Thread Cert.SwapKernel.nD Cert.SwapKernel.τ).loc Cert.SwapKernel.main_v1) = Layout.block ⟨2, ![352, 1024]⟩ ⟨2, ![2816, 1024]⟩ 0 8 c v0
          ∧ r.2.mem ((c.tc : Thread Cert.SwapKernel.nD Cert.SwapKernel.τ).loc Cert.SwapKernel.main_arg0) = m ((c.tc : Thread Cert.SwapKernel.nD Cert.SwapKernel.τ).loc Cert.SwapKernel.main_arg0))
      ∧ θ_run (Cert.SwapReference.defs (F := Bits)) (onTc (τ := Cert.SwapReference.τ) (Cert.SwapReference.main (F := Bits))) ⟨m', fun _ => 0, g'⟩ (fun r =>
          r.2.mem (((0 : Dev Cert.SwapReference.nD).tc : Thread Cert.SwapReference.nD Cert.SwapReference.τ).loc Cert.SwapReference.main_v8) = v0
          ∧ r.2.mem (((0 : Dev Cert.SwapReference.nD).tc : Thread Cert.SwapReference.nD Cert.SwapReference.τ).loc Cert.SwapReference.main_arg0) = m' (((0 : Dev Cert.SwapReference.nD).tc : Thread Cert.SwapReference.nD Cert.SwapReference.τ).loc Cert.SwapReference.main_arg0))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m ((c.tc : Thread Cert.SmallKernelIdeal.nD Cert.SmallKernelIdeal.τ).loc Cert.SmallKernelIdeal.main_arg0) = Layout.block ⟨2, ![168, 128]⟩ ⟨2, ![1344, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v1) = v0
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_SmallKernel_SmallReference [hSmallKernel : Cert.SmallKernel.Facts] [hSmallReference : Cert.SmallReference.Facts] : Prop :=
  ∀ (m : (ℓ : Loc Cert.SmallKernel.nD Cert.SmallKernel.τ Cert.SmallKernel.sig) → Buf (Elt Bits) ℓ) (g : Dev Cert.SmallKernel.nD → PrngReg)
    (m' : (ℓ : Loc Cert.SmallReference.nD Cert.SmallReference.τ Cert.SmallReference.sig) → Buf (Elt Bits) ℓ) (g' : Dev Cert.SmallReference.nD → PrngReg), Pre_SmallKernel m →
    (∀ c : Dev Cert.SmallKernel.nD,
      m ((c.tc : Thread Cert.SmallKernel.nD Cert.SmallKernel.τ).loc Cert.SmallKernel.main_arg0) = Layout.block ⟨2, ![168, 128]⟩ ⟨2, ![1344, 128]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.SmallKernel.defs (F := Bits)) (onTc (τ := Cert.SmallKernel.τ) (Cert.SmallKernel.main (F := Bits))) ⟨m, fun _ => 0, g⟩ (fun r => ∀ c : Dev Cert.SmallKernel.nD,
          r.2.mem ((c.tc : Thread Cert.SmallKernel.nD Cert.SmallKernel.τ).loc Cert.SmallKernel.main_v1) = v0
          ∧ r.2.mem ((c.tc : Thread Cert.SmallKernel.nD Cert.SmallKernel.τ).loc Cert.SmallKernel.main_arg0) = m ((c.tc : Thread Cert.SmallKernel.nD Cert.SmallKernel.τ).loc Cert.SmallKernel.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m ((c.tc : Thread Cert.ModKernelIdeal.nD Cert.ModKernelIdeal.τ).loc Cert.ModKernelIdeal.main_arg0) = Layout.block ⟨2, ![8, 1536]⟩ ⟨2, ![64, 1536]⟩ 0 8 c (m' (((0 : Dev Cert.ModReferenceIdeal.nD).tc : Thread Cert.ModReferenceIdeal.nD Cert.ModReferenceIdeal.τ).loc Cert.ModReferenceIdeal.main_arg0))) →
    ∃ (v0 : Buf (Elt Ideal) (((0 : Dev Cert.ModReferenceIdeal.nD).tc : Thread Cert.ModReferenceIdeal.nD Cert.ModReferenceIdeal.τ).loc Cert.ModReferenceIdeal.main_v0)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v1) = v0
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0))
      ∧ θ_run (Cert.ModReferenceIdeal.defs (F := Ideal)) (onTc (τ := Cert.ModReferenceIdeal.τ) (Cert.ModReferenceIdeal.main (F := Ideal))) ⟨m', fun _ => 0, g'⟩ (fun r =>
          r.2.mem (((0 : Dev Cert.ModReferenceIdeal.nD).tc : Thread Cert.ModReferenceIdeal.nD Cert.ModReferenceIdeal.τ).loc Cert.ModReferenceIdeal.main_v0) = v0
          ∧ r.2.mem (((0 : Dev Cert.ModReferenceIdeal.nD).tc : Thread Cert.ModReferenceIdeal.nD Cert.ModReferenceIdeal.τ).loc Cert.ModReferenceIdeal.main_arg0) = m' (((0 : Dev Cert.ModReferenceIdeal.nD).tc : Thread Cert.ModReferenceIdeal.nD Cert.ModReferenceIdeal.τ).loc Cert.ModReferenceIdeal.main_arg0))

def bitexact_ModKernel_ModReference [hModKernel : Cert.ModKernel.Facts] [hModReference : Cert.ModReference.Facts] : Prop :=
  ∀ (m : (ℓ : Loc Cert.ModKernel.nD Cert.ModKernel.τ Cert.ModKernel.sig) → Buf (Elt Bits) ℓ) (g : Dev Cert.ModKernel.nD → PrngReg)
    (m' : (ℓ : Loc Cert.ModReference.nD Cert.ModReference.τ Cert.ModReference.sig) → Buf (Elt Bits) ℓ) (g' : Dev Cert.ModReference.nD → PrngReg), Pre_ModKernel m →
    (∀ c : Dev Cert.ModKernel.nD,
      m ((c.tc : Thread Cert.ModKernel.nD Cert.ModKernel.τ).loc Cert.ModKernel.main_arg0) = Layout.block ⟨2, ![8, 1536]⟩ ⟨2, ![64, 1536]⟩ 0 8 c (m' (((0 : Dev Cert.ModReference.nD).tc : Thread Cert.ModReference.nD Cert.ModReference.τ).loc Cert.ModReference.main_arg0))) →
    ∃ (v0 : Buf (Elt Bits) (((0 : Dev Cert.ModReference.nD).tc : Thread Cert.ModReference.nD Cert.ModReference.τ).loc Cert.ModReference.main_v0)),
      θ_run (Cert.ModKernel.defs (F := Bits)) (onTc (τ := Cert.ModKernel.τ) (Cert.ModKernel.main (F := Bits))) ⟨m, fun _ => 0, g⟩ (fun r => ∀ c : Dev Cert.ModKernel.nD,
          r.2.mem ((c.tc : Thread Cert.ModKernel.nD Cert.ModKernel.τ).loc Cert.ModKernel.main_v1) = v0
          ∧ r.2.mem ((c.tc : Thread Cert.ModKernel.nD Cert.ModKernel.τ).loc Cert.ModKernel.main_arg0) = m ((c.tc : Thread Cert.ModKernel.nD Cert.ModKernel.τ).loc Cert.ModKernel.main_arg0))
      ∧ θ_run (Cert.ModReference.defs (F := Bits)) (onTc (τ := Cert.ModReference.τ) (Cert.ModReference.main (F := Bits))) ⟨m', fun _ => 0, g'⟩ (fun r =>
          r.2.mem (((0 : Dev Cert.ModReference.nD).tc : Thread Cert.ModReference.nD Cert.ModReference.τ).loc Cert.ModReference.main_v0) = v0
          ∧ r.2.mem (((0 : Dev Cert.ModReference.nD).tc : Thread Cert.ModReference.nD Cert.ModReference.τ).loc Cert.ModReference.main_arg0) = m' (((0 : Dev Cert.ModReference.nD).tc : Thread Cert.ModReference.nD Cert.ModReference.τ).loc Cert.ModReference.main_arg0))

def preserves_AdamUpKernel_AdamUpKernelIdeal : Prop :=
  True

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)
      ∧ m' ((c.tc : Thread Cert.AdamUpReferenceIdeal.nD Cert.AdamUpReferenceIdeal.τ).loc Cert.AdamUpReferenceIdeal.main_arg4) = m ((c.tc : Thread Cert.AdamUpKernelIdeal.nD Cert.AdamUpKernelIdeal.τ).loc Cert.AdamUpKernelIdeal.main_arg4)
      ∧ m' ((c.tc : Thread Cert.AdamUpReferenceIdeal.nD Cert.AdamUpReferenceIdeal.τ).loc Cert.AdamUpReferenceIdeal.main_arg5) = m ((c.tc : Thread Cert.AdamUpKernelIdeal.nD Cert.AdamUpKernelIdeal.τ).loc Cert.AdamUpKernelIdeal.main_arg5)) →
    ∃ (v0 : (c : Dev Cert.AdamUpKernelIdeal.nD) → Buf (Elt Ideal) ((c.tc : Thread Cert.AdamUpKernelIdeal.nD Cert.AdamUpKernelIdeal.τ).loc Cert.AdamUpKernelIdeal.main_v0_0)) (v1 : (c : Dev Cert.AdamUpKernelIdeal.nD) → Buf (Elt Ideal) ((c.tc : Thread Cert.AdamUpKernelIdeal.nD Cert.AdamUpKernelIdeal.τ).loc Cert.AdamUpKernelIdeal.main_v0_1)) (v2 : (c : Dev Cert.AdamUpKernelIdeal.nD) → Buf (Elt Ideal) ((c.tc : Thread Cert.AdamUpKernelIdeal.nD Cert.AdamUpKernelIdeal.τ).loc Cert.AdamUpKernelIdeal.main_v0_2)) (v3 : (c : Dev Cert.AdamUpKernelIdeal.nD) → Buf (Elt Ideal) ((c.tc : Thread Cert.AdamUpKernelIdeal.nD Cert.AdamUpKernelIdeal.τ).loc Cert.AdamUpKernelIdeal.main_v0_3)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v0_0) = v0 c
          ∧ r.2.mem ((c.tc : Thread Cert.AdamUpKernelIdeal.nD Cert.AdamUpKernelIdeal.τ).loc Cert.AdamUpKernelIdeal.main_v0_1) = v1 c
          ∧ r.2.mem ((c.tc : Thread Cert.AdamUpKernelIdeal.nD Cert.AdamUpKernelIdeal.τ).loc Cert.AdamUpKernelIdeal.main_v0_2) = v2 c
          ∧ r.2.mem ((c.tc : Thread Cert.AdamUpKernelIdeal.nD Cert.AdamUpKernelIdeal.τ).loc Cert.AdamUpKernelIdeal.main_v0_3) = v3 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
          ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4)
          ∧ r.2.mem ((c.tc : Thread Cert.AdamUpKernelIdeal.nD Cert.AdamUpKernelIdeal.τ).loc Cert.AdamUpKernelIdeal.main_arg5) = m ((c.tc : Thread Cert.AdamUpKernelIdeal.nD Cert.AdamUpKernelIdeal.τ).loc Cert.AdamUpKernelIdeal.main_arg5))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v6) = v0 c
          ∧ r.2.mem ((c.tc : Thread Cert.AdamUpReferenceIdeal.nD Cert.AdamUpReferenceIdeal.τ).loc Cert.AdamUpReferenceIdeal.main_v30) = v1 c
          ∧ r.2.mem ((c.tc : Thread Cert.AdamUpReferenceIdeal.nD Cert.AdamUpReferenceIdeal.τ).loc Cert.AdamUpReferenceIdeal.main_v11) = v2 c
          ∧ r.2.mem ((c.tc : Thread Cert.AdamUpReferenceIdeal.nD Cert.AdamUpReferenceIdeal.τ).loc Cert.AdamUpReferenceIdeal.main_v17) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)
      ∧ m' ((c.tc : Thread Cert.AdamInReferenceIdeal.nD Cert.AdamInReferenceIdeal.τ).loc Cert.AdamInReferenceIdeal.main_arg4) = m ((c.tc : Thread Cert.AdamInKernelIdeal.nD Cert.AdamInKernelIdeal.τ).loc Cert.AdamInKernelIdeal.main_arg4)
      ∧ m' ((c.tc : Thread Cert.AdamInReferenceIdeal.nD Cert.AdamInReferenceIdeal.τ).loc Cert.AdamInReferenceIdeal.main_arg5) = m ((c.tc : Thread Cert.AdamInKernelIdeal.nD Cert.AdamInKernelIdeal.τ).loc Cert.AdamInKernelIdeal.main_arg5)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
          ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4)
          ∧ r.2.mem ((c.tc : Thread Cert.AdamInKernelIdeal.nD Cert.AdamInKernelIdeal.τ).loc Cert.AdamInKernelIdeal.main_arg5) = m ((c.tc : Thread Cert.AdamInKernelIdeal.nD Cert.AdamInKernelIdeal.τ).loc Cert.AdamInKernelIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)
      ∧ m' ((c.tc : Thread Cert.AdamOutReferenceIdeal.nD Cert.AdamOutReferenceIdeal.τ).loc Cert.AdamOutReferenceIdeal.main_arg4) = m ((c.tc : Thread Cert.AdamOutKernelIdeal.nD Cert.AdamOutKernelIdeal.τ).loc Cert.AdamOutKernelIdeal.main_arg4)
      ∧ m' ((c.tc : Thread Cert.AdamOutReferenceIdeal.nD Cert.AdamOutReferenceIdeal.τ).loc Cert.AdamOutReferenceIdeal.main_arg5) = m ((c.tc : Thread Cert.AdamOutKernelIdeal.nD Cert.AdamOutKernelIdeal.τ).loc Cert.AdamOutKernelIdeal.main_arg5)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
          ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4)
          ∧ r.2.mem ((c.tc : Thread Cert.AdamOutKernelIdeal.nD Cert.AdamOutKernelIdeal.τ).loc Cert.AdamOutKernelIdeal.main_arg5) = m ((c.tc : Thread Cert.AdamOutKernelIdeal.nD Cert.AdamOutKernelIdeal.τ).loc Cert.AdamOutKernelIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v6) = v0 c
          ∧ r.2.mem ((c.tc : Thread Cert.AdamOutReferenceIdeal.nD Cert.AdamOutReferenceIdeal.τ).loc Cert.AdamOutReferenceIdeal.main_v30) = v1 c
          ∧ r.2.mem ((c.tc : Thread Cert.AdamOutReferenceIdeal.nD Cert.AdamOutReferenceIdeal.τ).loc Cert.AdamOutReferenceIdeal.main_v11) = v2 c
          ∧ r.2.mem ((c.tc : Thread Cert.AdamOutReferenceIdeal.nD Cert.AdamOutReferenceIdeal.τ).loc Cert.AdamOutReferenceIdeal.main_v17) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)) →
    ∃ (v0 : (c : Dev Cert.AdaKernelIdeal.nD) → Buf (Elt Ideal) ((c.tc : Thread Cert.AdaKernelIdeal.nD Cert.AdaKernelIdeal.τ).loc Cert.AdaKernelIdeal.main_v0_0)) (v1 : (c : Dev Cert.AdaKernelIdeal.nD) → Buf (Elt Ideal) ((c.tc : Thread Cert.AdaKernelIdeal.nD Cert.AdaKernelIdeal.τ).loc Cert.AdaKernelIdeal.main_v0_1)) (v2 : (c : Dev Cert.AdaKernelIdeal.nD) → Buf (Elt Ideal) ((c.tc : Thread Cert.AdaKernelIdeal.nD Cert.AdaKernelIdeal.τ).loc Cert.AdaKernelIdeal.main_v0_2)) (v3 : (c : Dev Cert.AdaKernelIdeal.nD) → Buf (Elt Ideal) ((c.tc : Thread Cert.AdaKernelIdeal.nD Cert.AdaKernelIdeal.τ).loc Cert.AdaKernelIdeal.main_v0_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v0_0) = v0 c
          ∧ r.2.mem ((c.tc : Thread Cert.AdaKernelIdeal.nD Cert.AdaKernelIdeal.τ).loc Cert.AdaKernelIdeal.main_v0_1) = v1 c
          ∧ r.2.mem ((c.tc : Thread Cert.AdaKernelIdeal.nD Cert.AdaKernelIdeal.τ).loc Cert.AdaKernelIdeal.main_v0_2) = v2 c
          ∧ r.2.mem ((c.tc : Thread Cert.AdaKernelIdeal.nD Cert.AdaKernelIdeal.τ).loc Cert.AdaKernelIdeal.main_v0_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v2) = v0 c
          ∧ r.2.mem ((c.tc : Thread Cert.AdaReferenceIdeal.nD Cert.AdaReferenceIdeal.τ).loc Cert.AdaReferenceIdeal.main_v26) = v1 c
          ∧ r.2.mem ((c.tc : Thread Cert.AdaReferenceIdeal.nD Cert.AdaReferenceIdeal.τ).loc Cert.AdaReferenceIdeal.main_v7) = v2 c
          ∧ r.2.mem ((c.tc : Thread Cert.AdaReferenceIdeal.nD Cert.AdaReferenceIdeal.τ).loc Cert.AdaReferenceIdeal.main_v13) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_UpdateKernel_UpdateKernelIdeal : Prop :=
  True

def algebraic_UpdateKernelIdeal_UpdateReferenceIdeal [hUpdateKernelIdeal : Cert.UpdateKernelIdeal.Facts] [hUpdateReferenceIdeal : Cert.UpdateReferenceIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateKernelIdeal m →
    (∀ c : Dev Cert.UpdateKernelIdeal.nD,
      m' ((c.tc : Thread Cert.UpdateReferenceIdeal.nD Cert.UpdateReferenceIdeal.τ).loc Cert.UpdateReferenceIdeal.main_arg0) = m ((c.tc : Thread Cert.UpdateKernelIdeal.nD Cert.UpdateKernelIdeal.τ).loc Cert.UpdateKernelIdeal.main_arg0)
      ∧ m' ((c.tc : Thread Cert.UpdateReferenceIdeal.nD Cert.UpdateReferenceIdeal.τ).loc Cert.UpdateReferenceIdeal.main_arg1) = m ((c.tc : Thread Cert.UpdateKernelIdeal.nD Cert.UpdateKernelIdeal.τ).loc Cert.UpdateKernelIdeal.main_arg1)
      ∧ m' ((c.tc : Thread Cert.UpdateReferenceIdeal.nD Cert.UpdateReferenceIdeal.τ).loc Cert.UpdateReferenceIdeal.main_arg2) = m ((c.tc : Thread Cert.UpdateKernelIdeal.nD Cert.UpdateKernelIdeal.τ).loc Cert.UpdateKernelIdeal.main_arg2)
      ∧ m' ((c.tc : Thread Cert.UpdateReferenceIdeal.nD Cert.UpdateReferenceIdeal.τ).loc Cert.UpdateReferenceIdeal.main_arg3) = m ((c.tc : Thread Cert.UpdateKernelIdeal.nD Cert.UpdateKernelIdeal.τ).loc Cert.UpdateKernelIdeal.main_arg3)) →
    ∃ (v0 : (c : Dev Cert.UpdateKernelIdeal.nD) → Buf (Elt Ideal) ((c.tc : Thread Cert.UpdateKernelIdeal.nD Cert.UpdateKernelIdeal.τ).loc Cert.UpdateKernelIdeal.main_v0_0)) (v1 : (c : Dev Cert.UpdateKernelIdeal.nD) → Buf (Elt Ideal) ((c.tc : Thread Cert.UpdateKernelIdeal.nD Cert.UpdateKernelIdeal.τ).loc Cert.UpdateKernelIdeal.main_v0_1)) (v2 : (c : Dev Cert.UpdateKernelIdeal.nD) → Buf (Elt Ideal) ((c.tc : Thread Cert.UpdateKernelIdeal.nD Cert.UpdateKernelIdeal.τ).loc Cert.UpdateKernelIdeal.main_v0_2)) (v3 : (c : Dev Cert.UpdateKernelIdeal.nD) → Buf (Elt Ideal) ((c.tc : Thread Cert.UpdateKernelIdeal.nD Cert.UpdateKernelIdeal.τ).loc Cert.UpdateKernelIdeal.main_v0_3)) (v4 : (c : Dev Cert.UpdateKernelIdeal.nD) → Buf (Elt Ideal) ((c.tc : Thread Cert.UpdateKernelIdeal.nD Cert.UpdateKernelIdeal.τ).loc Cert.UpdateKernelIdeal.main_v0_4)),
      θ_run (Cert.UpdateKernelIdeal.defs (F := Ideal)) (onTc (τ := Cert.UpdateKernelIdeal.τ) (Cert.UpdateKernelIdeal.main (F := Ideal))) ⟨m, fun _ => 0, g⟩ (fun r => ∀ c : Dev Cert.UpdateKernelIdeal.nD,
          r.2.mem ((c.tc : Thread Cert.UpdateKernelIdeal.nD Cert.UpdateKernelIdeal.τ).loc Cert.UpdateKernelIdeal.main_v0_0) = v0 c
          ∧ r.2.mem ((c.tc : Thread Cert.UpdateKernelIdeal.nD Cert.UpdateKernelIdeal.τ).loc Cert.UpdateKernelIdeal.main_v0_1) = v1 c
          ∧ r.2.mem ((c.tc : Thread Cert.UpdateKernelIdeal.nD Cert.UpdateKernelIdeal.τ).loc Cert.UpdateKernelIdeal.main_v0_2) = v2 c
          ∧ r.2.mem ((c.tc : Thread Cert.UpdateKernelIdeal.nD Cert.UpdateKernelIdeal.τ).loc Cert.UpdateKernelIdeal.main_v0_3) = v3 c
          ∧ r.2.mem ((c.tc : Thread Cert.UpdateKernelIdeal.nD Cert.UpdateKernelIdeal.τ).loc Cert.UpdateKernelIdeal.main_v0_4) = v4 c
          ∧ r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
          ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
          ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
          ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v20) = v0 c
          ∧ r.2.mem ((c.tc : Thread Cert.UpdateReferenceIdeal.nD Cert.UpdateReferenceIdeal.τ).loc Cert.UpdateReferenceIdeal.main_v44) = v1 c
          ∧ r.2.mem ((c.tc : Thread Cert.UpdateReferenceIdeal.nD Cert.UpdateReferenceIdeal.τ).loc Cert.UpdateReferenceIdeal.main_v25) = v2 c
          ∧ r.2.mem ((c.tc : Thread Cert.UpdateReferenceIdeal.nD Cert.UpdateReferenceIdeal.τ).loc Cert.UpdateReferenceIdeal.main_v31) = v3 c
          ∧ r.2.mem ((c.tc : Thread Cert.UpdateReferenceIdeal.nD Cert.UpdateReferenceIdeal.τ).loc Cert.UpdateReferenceIdeal.main_v45) = v4 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_2) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v27) = v0 c
          ∧ r.2.mem ((c.tc : Thread Cert.NormReferenceIdeal.nD Cert.NormReferenceIdeal.τ).loc Cert.NormReferenceIdeal.main_v29) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_OutGradKernel_OutGradKernelIdeal : Prop :=
  True

def algebraic_OutGradKernelIdeal_OutGradReferenceIdeal [hOutGradKernelIdeal : Cert.OutGradKernelIdeal.Facts] [hOutGradReferenceIdeal : Cert.OutGradReferenceIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradKernelIdeal m →
    (∀ c : Dev Cert.OutGradKernelIdeal.nD,
      m' ((c.tc : Thread Cert.OutGradReferenceIdeal.nD Cert.OutGradReferenceIdeal.τ).loc Cert.OutGradReferenceIdeal.main_arg0) = m ((c.tc : Thread Cert.OutGradKernelIdeal.nD Cert.OutGradKernelIdeal.τ).loc Cert.OutGradKernelIdeal.main_arg0)
      ∧ m' ((c.tc : Thread Cert.OutGradReferenceIdeal.nD Cert.OutGradReferenceIdeal.τ).loc Cert.OutGradReferenceIdeal.main_arg1) = m ((c.tc : Thread Cert.OutGradKernelIdeal.nD Cert.OutGradKernelIdeal.τ).loc Cert.OutGradKernelIdeal.main_arg1)) →
    ∃ (v0 : (c : Dev Cert.OutGradKernelIdeal.nD) → Buf (Elt Ideal) ((c.tc : Thread Cert.OutGradKernelIdeal.nD Cert.OutGradKernelIdeal.τ).loc Cert.OutGradKernelIdeal.main_v0)),
      θ_run (Cert.OutGradKernelIdeal.defs (F := Ideal)) (onTc (τ := Cert.OutGradKernelIdeal.τ) (Cert.OutGradKernelIdeal.main (F := Ideal))) ⟨m, fun _ => 0, g⟩ (fun r => ∀ c : Dev Cert.OutGradKernelIdeal.nD,
          r.2.mem ((c.tc : Thread Cert.OutGradKernelIdeal.nD Cert.OutGradKernelIdeal.τ).loc Cert.OutGradKernelIdeal.main_v0) = v0 c
          ∧ r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
          ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_UpGradKernel_UpGradKernelIdeal : Prop :=
  True

def algebraic_UpGradKernelIdeal_UpGradReferenceIdeal [hUpGradKernelIdeal : Cert.UpGradKernelIdeal.Facts] [hUpGradReferenceIdeal : Cert.UpGradReferenceIdeal.Facts] : Prop :=
  ∀ (m : (ℓ : Loc Cert.UpGradKernelIdeal.nD Cert.UpGradKernelIdeal.τ Cert.UpGradKernelIdeal.sig) → Buf (Elt Ideal) ℓ) (g : Dev Cert.UpGradKernelIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradKernelIdeal m →
    (∀ c : Dev Cert.UpGradKernelIdeal.nD,
      m' ((c.tc : Thread Cert.UpGradReferenceIdeal.nD Cert.UpGradReferenceIdeal.τ).loc Cert.UpGradReferenceIdeal.main_arg0) = m ((c.tc : Thread Cert.UpGradKernelIdeal.nD Cert.UpGradKernelIdeal.τ).loc Cert.UpGradKernelIdeal.main_arg0)
      ∧ m' ((c.tc : Thread Cert.UpGradReferenceIdeal.nD Cert.UpGradReferenceIdeal.τ).loc Cert.UpGradReferenceIdeal.main_arg1) = m ((c.tc : Thread Cert.UpGradKernelIdeal.nD Cert.UpGradKernelIdeal.τ).loc Cert.UpGradKernelIdeal.main_arg1)) →
    ∃ (v0 : (c : Dev Cert.UpGradKernelIdeal.nD) → Buf (Elt Ideal) ((c.tc : Thread Cert.UpGradKernelIdeal.nD Cert.UpGradKernelIdeal.τ).loc Cert.UpGradKernelIdeal.main_v0)),
      θ_run (Cert.UpGradKernelIdeal.defs (F := Ideal)) (onTc (τ := Cert.UpGradKernelIdeal.τ) (Cert.UpGradKernelIdeal.main (F := Ideal))) ⟨m, fun _ => 0, g⟩ (fun r => ∀ c : Dev Cert.UpGradKernelIdeal.nD,
          r.2.mem ((c.tc : Thread Cert.UpGradKernelIdeal.nD Cert.UpGradKernelIdeal.τ).loc Cert.UpGradKernelIdeal.main_v0) = v0 c
          ∧ r.2.mem ((c.tc : Thread Cert.UpGradKernelIdeal.nD Cert.UpGradKernelIdeal.τ).loc Cert.UpGradKernelIdeal.main_arg0) = m ((c.tc : Thread Cert.UpGradKernelIdeal.nD Cert.UpGradKernelIdeal.τ).loc Cert.UpGradKernelIdeal.main_arg0)
          ∧ r.2.mem ((c.tc : Thread Cert.UpGradKernelIdeal.nD Cert.UpGradKernelIdeal.τ).loc Cert.UpGradKernelIdeal.main_arg1) = m ((c.tc : Thread Cert.UpGradKernelIdeal.nD Cert.UpGradKernelIdeal.τ).loc Cert.UpGradKernelIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v5) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_DownGradKernel_DownGradKernelIdeal : Prop :=
  True

def algebraic_DownGradKernelIdeal_DownGradReferenceIdeal [hDownGradKernelIdeal : Cert.DownGradKernelIdeal.Facts] [hDownGradReferenceIdeal : Cert.DownGradReferenceIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradKernelIdeal m →
    (∀ c : Dev Cert.DownGradKernelIdeal.nD,
      m' ((c.tc : Thread Cert.DownGradReferenceIdeal.nD Cert.DownGradReferenceIdeal.τ).loc Cert.DownGradReferenceIdeal.main_arg0) = m ((c.tc : Thread Cert.DownGradKernelIdeal.nD Cert.DownGradKernelIdeal.τ).loc Cert.DownGradKernelIdeal.main_arg0)
      ∧ m' ((c.tc : Thread Cert.DownGradReferenceIdeal.nD Cert.DownGradReferenceIdeal.τ).loc Cert.DownGradReferenceIdeal.main_arg1) = m ((c.tc : Thread Cert.DownGradKernelIdeal.nD Cert.DownGradKernelIdeal.τ).loc Cert.DownGradKernelIdeal.main_arg1)) →
    ∃ (v0 : (c : Dev Cert.DownGradKernelIdeal.nD) → Buf (Elt Ideal) ((c.tc : Thread Cert.DownGradKernelIdeal.nD Cert.DownGradKernelIdeal.τ).loc Cert.DownGradKernelIdeal.main_v0)),
      θ_run (Cert.DownGradKernelIdeal.defs (F := Ideal)) (onTc (τ := Cert.DownGradKernelIdeal.τ) (Cert.DownGradKernelIdeal.main (F := Ideal))) ⟨m, fun _ => 0, g⟩ (fun r => ∀ c : Dev Cert.DownGradKernelIdeal.nD,
          r.2.mem ((c.tc : Thread Cert.DownGradKernelIdeal.nD Cert.DownGradKernelIdeal.τ).loc Cert.DownGradKernelIdeal.main_v0) = v0 c
          ∧ r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
          ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v6) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_ModPartKernel_ModPartKernelIdeal : Prop :=
  True

def algebraic_ModPartKernelIdeal_ModPartReferenceIdeal [hModPartKernelIdeal : Cert.ModPartKernelIdeal.Facts] [hModPartReferenceIdeal : Cert.ModPartReferenceIdeal.Facts] : Prop :=
  ∀ (m : (ℓ : Loc Cert.ModPartKernelIdeal.nD Cert.ModPartKernelIdeal.τ Cert.ModPartKernelIdeal.sig) → Buf (Elt Ideal) ℓ) (g : Dev Cert.ModPartKernelIdeal.nD → PrngReg)
    (m' : (ℓ : Loc Cert.ModPartReferenceIdeal.nD Cert.ModPartReferenceIdeal.τ Cert.ModPartReferenceIdeal.sig) → Buf (Elt Ideal) ℓ) (g' : Dev Cert.ModPartReferenceIdeal.nD → PrngReg), Pre_ModPartKernelIdeal m →
    (∀ c : Dev Cert.ModPartKernelIdeal.nD,
      m' ((c.tc : Thread Cert.ModPartReferenceIdeal.nD Cert.ModPartReferenceIdeal.τ).loc Cert.ModPartReferenceIdeal.main_arg0) = m ((c.tc : Thread Cert.ModPartKernelIdeal.nD Cert.ModPartKernelIdeal.τ).loc Cert.ModPartKernelIdeal.main_arg0)
      ∧ m' ((c.tc : Thread Cert.ModPartReferenceIdeal.nD Cert.ModPartReferenceIdeal.τ).loc Cert.ModPartReferenceIdeal.main_arg1) = m ((c.tc : Thread Cert.ModPartKernelIdeal.nD Cert.ModPartKernelIdeal.τ).loc Cert.ModPartKernelIdeal.main_arg1)
      ∧ m' ((c.tc : Thread Cert.ModPartReferenceIdeal.nD Cert.ModPartReferenceIdeal.τ).loc Cert.ModPartReferenceIdeal.main_arg2) = m ((c.tc : Thread Cert.ModPartKernelIdeal.nD Cert.ModPartKernelIdeal.τ).loc Cert.ModPartKernelIdeal.main_arg2)) →
    ∃ (v0 : (c : Dev Cert.ModPartKernelIdeal.nD) → Buf (Elt Ideal) ((c.tc : Thread Cert.ModPartKernelIdeal.nD Cert.ModPartKernelIdeal.τ).loc Cert.ModPartKernelIdeal.main_v0)),
      θ_run (Cert.ModPartKernelIdeal.defs (F := Ideal)) (onTc (τ := Cert.ModPartKernelIdeal.τ) (Cert.ModPartKernelIdeal.main (F := Ideal))) ⟨m, fun _ => 0, g⟩ (fun r => ∀ c : Dev Cert.ModPartKernelIdeal.nD,
          r.2.mem ((c.tc : Thread Cert.ModPartKernelIdeal.nD Cert.ModPartKernelIdeal.τ).loc Cert.ModPartKernelIdeal.main_v0) = v0 c
          ∧ r.2.mem ((c.tc : Thread Cert.ModPartKernelIdeal.nD Cert.ModPartKernelIdeal.τ).loc Cert.ModPartKernelIdeal.main_arg0) = m ((c.tc : Thread Cert.ModPartKernelIdeal.nD Cert.ModPartKernelIdeal.τ).loc Cert.ModPartKernelIdeal.main_arg0)
          ∧ r.2.mem ((c.tc : Thread Cert.ModPartKernelIdeal.nD Cert.ModPartKernelIdeal.τ).loc Cert.ModPartKernelIdeal.main_arg1) = m ((c.tc : Thread Cert.ModPartKernelIdeal.nD Cert.ModPartKernelIdeal.τ).loc Cert.ModPartKernelIdeal.main_arg1)
          ∧ r.2.mem ((c.tc : Thread Cert.ModPartKernelIdeal.nD Cert.ModPartKernelIdeal.τ).loc Cert.ModPartKernelIdeal.main_arg2) = m ((c.tc : Thread Cert.ModPartKernelIdeal.nD Cert.ModPartKernelIdeal.τ).loc Cert.ModPartKernelIdeal.main_arg2))
      ∧ θ_run (Cert.ModPartReferenceIdeal.defs (F := Ideal)) (onTc (τ := Cert.ModPartReferenceIdeal.τ) (Cert.ModPartReferenceIdeal.main (F := Ideal))) ⟨m', fun _ => 0, g'⟩ (fun r => ∀ c : Dev Cert.ModPartReferenceIdeal.nD,
          r.2.mem ((c.tc : Thread Cert.ModPartReferenceIdeal.nD Cert.ModPartReferenceIdeal.τ).loc Cert.ModPartReferenceIdeal.main_v3) = v0 c
          ∧ r.2.mem ((c.tc : Thread Cert.ModPartReferenceIdeal.nD Cert.ModPartReferenceIdeal.τ).loc Cert.ModPartReferenceIdeal.main_arg0) = m' ((c.tc : Thread Cert.ModPartReferenceIdeal.nD Cert.ModPartReferenceIdeal.τ).loc Cert.ModPartReferenceIdeal.main_arg0)
          ∧ r.2.mem ((c.tc : Thread Cert.ModPartReferenceIdeal.nD Cert.ModPartReferenceIdeal.τ).loc Cert.ModPartReferenceIdeal.main_arg1) = m' ((c.tc : Thread Cert.ModPartReferenceIdeal.nD Cert.ModPartReferenceIdeal.τ).loc Cert.ModPartReferenceIdeal.main_arg1)
          ∧ r.2.mem ((c.tc : Thread Cert.ModPartReferenceIdeal.nD Cert.ModPartReferenceIdeal.τ).loc Cert.ModPartReferenceIdeal.main_arg2) = m' ((c.tc : Thread Cert.ModPartReferenceIdeal.nD Cert.ModPartReferenceIdeal.τ).loc Cert.ModPartReferenceIdeal.main_arg2))

def preserves_OutProjKernel_OutProjKernelIdeal : Prop :=
  True

def algebraic_OutProjKernelIdeal_OutProjReferenceIdeal [hOutProjKernelIdeal : Cert.OutProjKernelIdeal.Facts] [hOutProjReferenceIdeal : Cert.OutProjReferenceIdeal.Facts] : Prop :=
  ∀ (m : (ℓ : Loc Cert.OutProjKernelIdeal.nD Cert.OutProjKernelIdeal.τ Cert.OutProjKernelIdeal.sig) → Buf (Elt Ideal) ℓ) (g : Dev Cert.OutProjKernelIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjKernelIdeal m →
    (∀ c : Dev Cert.OutProjKernelIdeal.nD,
      m' ((c.tc : Thread Cert.OutProjReferenceIdeal.nD Cert.OutProjReferenceIdeal.τ).loc Cert.OutProjReferenceIdeal.main_arg0) = m ((c.tc : Thread Cert.OutProjKernelIdeal.nD Cert.OutProjKernelIdeal.τ).loc Cert.OutProjKernelIdeal.main_arg0)
      ∧ m' ((c.tc : Thread Cert.OutProjReferenceIdeal.nD Cert.OutProjReferenceIdeal.τ).loc Cert.OutProjReferenceIdeal.main_arg1) = m ((c.tc : Thread Cert.OutProjKernelIdeal.nD Cert.OutProjKernelIdeal.τ).loc Cert.OutProjKernelIdeal.main_arg1)
      ∧ m' ((c.tc : Thread Cert.OutProjReferenceIdeal.nD Cert.OutProjReferenceIdeal.τ).loc Cert.OutProjReferenceIdeal.main_arg2) = m ((c.tc : Thread Cert.OutProjKernelIdeal.nD Cert.OutProjKernelIdeal.τ).loc Cert.OutProjKernelIdeal.main_arg2)
      ∧ m' ((c.tc : Thread Cert.OutProjReferenceIdeal.nD Cert.OutProjReferenceIdeal.τ).loc Cert.OutProjReferenceIdeal.main_arg3) = m ((c.tc : Thread Cert.OutProjKernelIdeal.nD Cert.OutProjKernelIdeal.τ).loc Cert.OutProjKernelIdeal.main_arg3)
      ∧ m' ((c.tc : Thread Cert.OutProjReferenceIdeal.nD Cert.OutProjReferenceIdeal.τ).loc Cert.OutProjReferenceIdeal.main_arg4) = m ((c.tc : Thread Cert.OutProjKernelIdeal.nD Cert.OutProjKernelIdeal.τ).loc Cert.OutProjKernelIdeal.main_arg4)
      ∧ m' ((c.tc : Thread Cert.OutProjReferenceIdeal.nD Cert.OutProjReferenceIdeal.τ).loc Cert.OutProjReferenceIdeal.main_arg5) = m ((c.tc : Thread Cert.OutProjKernelIdeal.nD Cert.OutProjKernelIdeal.τ).loc Cert.OutProjKernelIdeal.main_arg5)
      ∧ m' ((c.tc : Thread Cert.OutProjReferenceIdeal.nD Cert.OutProjReferenceIdeal.τ).loc Cert.OutProjReferenceIdeal.main_arg6) = m ((c.tc : Thread Cert.OutProjKernelIdeal.nD Cert.OutProjKernelIdeal.τ).loc Cert.OutProjKernelIdeal.main_arg6)
      ∧ m' ((c.tc : Thread Cert.OutProjReferenceIdeal.nD Cert.OutProjReferenceIdeal.τ).loc Cert.OutProjReferenceIdeal.main_arg7) = m ((c.tc : Thread Cert.OutProjKernelIdeal.nD Cert.OutProjKernelIdeal.τ).loc Cert.OutProjKernelIdeal.main_arg7)) →
    ∃ (v0 : (c : Dev Cert.OutProjKernelIdeal.nD) → Buf (Elt Ideal) ((c.tc : Thread Cert.OutProjKernelIdeal.nD Cert.OutProjKernelIdeal.τ).loc Cert.OutProjKernelIdeal.main_v0_0)) (v1 : (c : Dev Cert.OutProjKernelIdeal.nD) → Buf (Elt Ideal) ((c.tc : Thread Cert.OutProjKernelIdeal.nD Cert.OutProjKernelIdeal.τ).loc Cert.OutProjKernelIdeal.main_v0_1)) (v2 : (c : Dev Cert.OutProjKernelIdeal.nD) → Buf (Elt Ideal) ((c.tc : Thread Cert.OutProjKernelIdeal.nD Cert.OutProjKernelIdeal.τ).loc Cert.OutProjKernelIdeal.main_v0_2)),
      θ_run (Cert.OutProjKernelIdeal.defs (F := Ideal)) (onTc (τ := Cert.OutProjKernelIdeal.τ) (Cert.OutProjKernelIdeal.main (F := Ideal))) ⟨m, fun _ => 0, g⟩ (fun r => ∀ c : Dev Cert.OutProjKernelIdeal.nD,
          r.2.mem ((c.tc : Thread Cert.OutProjKernelIdeal.nD Cert.OutProjKernelIdeal.τ).loc Cert.OutProjKernelIdeal.main_v0_0) = v0 c
          ∧ r.2.mem ((c.tc : Thread Cert.OutProjKernelIdeal.nD Cert.OutProjKernelIdeal.τ).loc Cert.OutProjKernelIdeal.main_v0_1) = v1 c
          ∧ r.2.mem ((c.tc : Thread Cert.OutProjKernelIdeal.nD Cert.OutProjKernelIdeal.τ).loc Cert.OutProjKernelIdeal.main_v0_2) = v2 c
          ∧ r.2.mem ((c.tc : Thread Cert.OutProjKernelIdeal.nD Cert.OutProjKernelIdeal.τ).loc Cert.OutProjKernelIdeal.main_arg0) = m ((c.tc : Thread Cert.OutProjKernelIdeal.nD Cert.OutProjKernelIdeal.τ).loc Cert.OutProjKernelIdeal.main_arg0)
          ∧ r.2.mem ((c.tc : Thread Cert.OutProjKernelIdeal.nD Cert.OutProjKernelIdeal.τ).loc Cert.OutProjKernelIdeal.main_arg1) = m ((c.tc : Thread Cert.OutProjKernelIdeal.nD Cert.OutProjKernelIdeal.τ).loc Cert.OutProjKernelIdeal.main_arg1)
          ∧ r.2.mem ((c.tc : Thread Cert.OutProjKernelIdeal.nD Cert.OutProjKernelIdeal.τ).loc Cert.OutProjKernelIdeal.main_arg2) = m ((c.tc : Thread Cert.OutProjKernelIdeal.nD Cert.OutProjKernelIdeal.τ).loc Cert.OutProjKernelIdeal.main_arg2)
          ∧ r.2.mem ((c.tc : Thread Cert.OutProjKernelIdeal.nD Cert.OutProjKernelIdeal.τ).loc Cert.OutProjKernelIdeal.main_arg3) = m ((c.tc : Thread Cert.OutProjKernelIdeal.nD Cert.OutProjKernelIdeal.τ).loc Cert.OutProjKernelIdeal.main_arg3)
          ∧ r.2.mem ((c.tc : Thread Cert.OutProjKernelIdeal.nD Cert.OutProjKernelIdeal.τ).loc Cert.OutProjKernelIdeal.main_arg4) = m ((c.tc : Thread Cert.OutProjKernelIdeal.nD Cert.OutProjKernelIdeal.τ).loc Cert.OutProjKernelIdeal.main_arg4)
          ∧ r.2.mem ((c.tc : Thread Cert.OutProjKernelIdeal.nD Cert.OutProjKernelIdeal.τ).loc Cert.OutProjKernelIdeal.main_arg5) = m ((c.tc : Thread Cert.OutProjKernelIdeal.nD Cert.OutProjKernelIdeal.τ).loc Cert.OutProjKernelIdeal.main_arg5)
          ∧ r.2.mem ((c.tc : Thread Cert.OutProjKernelIdeal.nD Cert.OutProjKernelIdeal.τ).loc Cert.OutProjKernelIdeal.main_arg6) = m ((c.tc : Thread Cert.OutProjKernelIdeal.nD Cert.OutProjKernelIdeal.τ).loc Cert.OutProjKernelIdeal.main_arg6)
          ∧ r.2.mem ((c.tc : Thread Cert.OutProjKernelIdeal.nD Cert.OutProjKernelIdeal.τ).loc Cert.OutProjKernelIdeal.main_arg7) = m ((c.tc : Thread Cert.OutProjKernelIdeal.nD Cert.OutProjKernelIdeal.τ).loc Cert.OutProjKernelIdeal.main_arg7))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_v18) = v1 c
          ∧ r.2.mem ((c.tc : Thread Cert.OutProjReferenceIdeal.nD Cert.OutProjReferenceIdeal.τ).loc Cert.OutProjReferenceIdeal.main_v38) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7))

def preserves_DownProjKernel_DownProjKernelIdeal : Prop :=
  True

def algebraic_DownProjKernelIdeal_DownProjReferenceIdeal [hDownProjKernelIdeal : Cert.DownProjKernelIdeal.Facts] [hDownProjReferenceIdeal : Cert.DownProjReferenceIdeal.Facts] : Prop :=
  ∀ (m : (ℓ : Loc Cert.DownProjKernelIdeal.nD Cert.DownProjKernelIdeal.τ Cert.DownProjKernelIdeal.sig) → Buf (Elt Ideal) ℓ) (g : Dev Cert.DownProjKernelIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjKernelIdeal m →
    (∀ c : Dev Cert.DownProjKernelIdeal.nD,
      m' ((c.tc : Thread Cert.DownProjReferenceIdeal.nD Cert.DownProjReferenceIdeal.τ).loc Cert.DownProjReferenceIdeal.main_arg0) = m ((c.tc : Thread Cert.DownProjKernelIdeal.nD Cert.DownProjKernelIdeal.τ).loc Cert.DownProjKernelIdeal.main_arg0)
      ∧ m' ((c.tc : Thread Cert.DownProjReferenceIdeal.nD Cert.DownProjReferenceIdeal.τ).loc Cert.DownProjReferenceIdeal.main_arg1) = m ((c.tc : Thread Cert.DownProjKernelIdeal.nD Cert.DownProjKernelIdeal.τ).loc Cert.DownProjKernelIdeal.main_arg1)
      ∧ m' ((c.tc : Thread Cert.DownProjReferenceIdeal.nD Cert.DownProjReferenceIdeal.τ).loc Cert.DownProjReferenceIdeal.main_arg2) = m ((c.tc : Thread Cert.DownProjKernelIdeal.nD Cert.DownProjKernelIdeal.τ).loc Cert.DownProjKernelIdeal.main_arg2)
      ∧ m' ((c.tc : Thread Cert.DownProjReferenceIdeal.nD Cert.DownProjReferenceIdeal.τ).loc Cert.DownProjReferenceIdeal.main_arg3) = m ((c.tc : Thread Cert.DownProjKernelIdeal.nD Cert.DownProjKernelIdeal.τ).loc Cert.DownProjKernelIdeal.main_arg3)
      ∧ m' ((c.tc : Thread Cert.DownProjReferenceIdeal.nD Cert.DownProjReferenceIdeal.τ).loc Cert.DownProjReferenceIdeal.main_arg4) = m ((c.tc : Thread Cert.DownProjKernelIdeal.nD Cert.DownProjKernelIdeal.τ).loc Cert.DownProjKernelIdeal.main_arg4)
      ∧ m' ((c.tc : Thread Cert.DownProjReferenceIdeal.nD Cert.DownProjReferenceIdeal.τ).loc Cert.DownProjReferenceIdeal.main_arg5) = m ((c.tc : Thread Cert.DownProjKernelIdeal.nD Cert.DownProjKernelIdeal.τ).loc Cert.DownProjKernelIdeal.main_arg5)) →
    ∃ (v0 : (c : Dev Cert.DownProjKernelIdeal.nD) → Buf (Elt Ideal) ((c.tc : Thread Cert.DownProjKernelIdeal.nD Cert.DownProjKernelIdeal.τ).loc Cert.DownProjKernelIdeal.main_v0_0)) (v1 : (c : Dev Cert.DownProjKernelIdeal.nD) → Buf (Elt Ideal) ((c.tc : Thread Cert.DownProjKernelIdeal.nD Cert.DownProjKernelIdeal.τ).loc Cert.DownProjKernelIdeal.main_v0_1)) (v2 : (c : Dev Cert.DownProjKernelIdeal.nD) → Buf (Elt Ideal) ((c.tc : Thread Cert.DownProjKernelIdeal.nD Cert.DownProjKernelIdeal.τ).loc Cert.DownProjKernelIdeal.main_v0_2)),
      θ_run (Cert.DownProjKernelIdeal.defs (F := Ideal)) (onTc (τ := Cert.DownProjKernelIdeal.τ) (Cert.DownProjKernelIdeal.main (F := Ideal))) ⟨m, fun _ => 0, g⟩ (fun r => ∀ c : Dev Cert.DownProjKernelIdeal.nD,
          r.2.mem ((c.tc : Thread Cert.DownProjKernelIdeal.nD Cert.DownProjKernelIdeal.τ).loc Cert.DownProjKernelIdeal.main_v0_0) = v0 c
          ∧ r.2.mem ((c.tc : Thread Cert.DownProjKernelIdeal.nD Cert.DownProjKernelIdeal.τ).loc Cert.DownProjKernelIdeal.main_v0_1) = v1 c
          ∧ r.2.mem ((c.tc : Thread Cert.DownProjKernelIdeal.nD Cert.DownProjKernelIdeal.τ).loc Cert.DownProjKernelIdeal.main_v0_2) = v2 c
          ∧ r.2.mem ((c.tc : Thread Cert.DownProjKernelIdeal.nD Cert.DownProjKernelIdeal.τ).loc Cert.DownProjKernelIdeal.main_arg0) = m ((c.tc : Thread Cert.DownProjKernelIdeal.nD Cert.DownProjKernelIdeal.τ).loc Cert.DownProjKernelIdeal.main_arg0)
          ∧ r.2.mem ((c.tc : Thread Cert.DownProjKernelIdeal.nD Cert.DownProjKernelIdeal.τ).loc Cert.DownProjKernelIdeal.main_arg1) = m ((c.tc : Thread Cert.DownProjKernelIdeal.nD Cert.DownProjKernelIdeal.τ).loc Cert.DownProjKernelIdeal.main_arg1)
          ∧ r.2.mem ((c.tc : Thread Cert.DownProjKernelIdeal.nD Cert.DownProjKernelIdeal.τ).loc Cert.DownProjKernelIdeal.main_arg2) = m ((c.tc : Thread Cert.DownProjKernelIdeal.nD Cert.DownProjKernelIdeal.τ).loc Cert.DownProjKernelIdeal.main_arg2)
          ∧ r.2.mem ((c.tc : Thread Cert.DownProjKernelIdeal.nD Cert.DownProjKernelIdeal.τ).loc Cert.DownProjKernelIdeal.main_arg3) = m ((c.tc : Thread Cert.DownProjKernelIdeal.nD Cert.DownProjKernelIdeal.τ).loc Cert.DownProjKernelIdeal.main_arg3)
          ∧ r.2.mem ((c.tc : Thread Cert.DownProjKernelIdeal.nD Cert.DownProjKernelIdeal.τ).loc Cert.DownProjKernelIdeal.main_arg4) = m ((c.tc : Thread Cert.DownProjKernelIdeal.nD Cert.DownProjKernelIdeal.τ).loc Cert.DownProjKernelIdeal.main_arg4)
          ∧ r.2.mem ((c.tc : Thread Cert.DownProjKernelIdeal.nD Cert.DownProjKernelIdeal.τ).loc Cert.DownProjKernelIdeal.main_arg5) = m ((c.tc : Thread Cert.DownProjKernelIdeal.nD Cert.DownProjKernelIdeal.τ).loc Cert.DownProjKernelIdeal.main_arg5))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v44) = v0 c
          ∧ r.2.mem ((c.tc : Thread Cert.DownProjReferenceIdeal.nD Cert.DownProjReferenceIdeal.τ).loc Cert.DownProjReferenceIdeal.main_v28) = v1 c
          ∧ r.2.mem ((c.tc : Thread Cert.DownProjReferenceIdeal.nD Cert.DownProjReferenceIdeal.τ).loc Cert.DownProjReferenceIdeal.main_v45) = v2 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2)
          ∧ r.2.mem ((c.tc : Thread Cert.DownProjReferenceIdeal.nD Cert.DownProjReferenceIdeal.τ).loc Cert.DownProjReferenceIdeal.main_arg3) = m' ((c.tc : Thread Cert.DownProjReferenceIdeal.nD Cert.DownProjReferenceIdeal.τ).loc Cert.DownProjReferenceIdeal.main_arg3)
          ∧ r.2.mem ((c.tc : Thread Cert.DownProjReferenceIdeal.nD Cert.DownProjReferenceIdeal.τ).loc Cert.DownProjReferenceIdeal.main_arg4) = m' ((c.tc : Thread Cert.DownProjReferenceIdeal.nD Cert.DownProjReferenceIdeal.τ).loc Cert.DownProjReferenceIdeal.main_arg4)
          ∧ r.2.mem ((c.tc : Thread Cert.DownProjReferenceIdeal.nD Cert.DownProjReferenceIdeal.τ).loc Cert.DownProjReferenceIdeal.main_arg5) = m' ((c.tc : Thread Cert.DownProjReferenceIdeal.nD Cert.DownProjReferenceIdeal.τ).loc Cert.DownProjReferenceIdeal.main_arg5))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hUpKernel : Cert.UpKernel.Facts) (hUpKernelIdeal : Cert.UpKernelIdeal.Facts) (hUpReferenceIdeal : Cert.UpReferenceIdeal.Facts) (hGatherKernel : Cert.GatherKernel.Facts) (hGatherKernelIdeal : Cert.GatherKernelIdeal.Facts) (hGatherReferenceIdeal : Cert.GatherReferenceIdeal.Facts) (hGatherReference : Cert.GatherReference.Facts) (hSwapKernel : Cert.SwapKernel.Facts) (hSwapKernelIdeal : Cert.SwapKernelIdeal.Facts) (hSwapReferenceIdeal : Cert.SwapReferenceIdeal.Facts) (hSwapReference : Cert.SwapReference.Facts) (hSmallKernel : Cert.SmallKernel.Facts) (hSmallKernelIdeal : Cert.SmallKernelIdeal.Facts) (hSmallReferenceIdeal : Cert.SmallReferenceIdeal.Facts) (hSmallReference : Cert.SmallReference.Facts) (hModKernel : Cert.ModKernel.Facts) (hModKernelIdeal : Cert.ModKernelIdeal.Facts) (hModReferenceIdeal : Cert.ModReferenceIdeal.Facts) (hModReference : Cert.ModReference.Facts) (hAdamUpKernel : Cert.AdamUpKernel.Facts) (hAdamUpKernelIdeal : Cert.AdamUpKernelIdeal.Facts) (hAdamUpReferenceIdeal : Cert.AdamUpReferenceIdeal.Facts) (hAdamInKernel : Cert.AdamInKernel.Facts) (hAdamInKernelIdeal : Cert.AdamInKernelIdeal.Facts) (hAdamInReferenceIdeal : Cert.AdamInReferenceIdeal.Facts) (hAdamOutKernel : Cert.AdamOutKernel.Facts) (hAdamOutKernelIdeal : Cert.AdamOutKernelIdeal.Facts) (hAdamOutReferenceIdeal : Cert.AdamOutReferenceIdeal.Facts) (hAdaKernel : Cert.AdaKernel.Facts) (hAdaKernelIdeal : Cert.AdaKernelIdeal.Facts) (hAdaReferenceIdeal : Cert.AdaReferenceIdeal.Facts) (hUpdateKernel : Cert.UpdateKernel.Facts) (hUpdateKernelIdeal : Cert.UpdateKernelIdeal.Facts) (hUpdateReferenceIdeal : Cert.UpdateReferenceIdeal.Facts) (hNormKernel : Cert.NormKernel.Facts) (hNormKernelIdeal : Cert.NormKernelIdeal.Facts) (hNormReferenceIdeal : Cert.NormReferenceIdeal.Facts) (hOutGradKernel : Cert.OutGradKernel.Facts) (hOutGradKernelIdeal : Cert.OutGradKernelIdeal.Facts) (hOutGradReferenceIdeal : Cert.OutGradReferenceIdeal.Facts) (hUpGradKernel : Cert.UpGradKernel.Facts) (hUpGradKernelIdeal : Cert.UpGradKernelIdeal.Facts) (hUpGradReferenceIdeal : Cert.UpGradReferenceIdeal.Facts) (hDownGradKernel : Cert.DownGradKernel.Facts) (hDownGradKernelIdeal : Cert.DownGradKernelIdeal.Facts) (hDownGradReferenceIdeal : Cert.DownGradReferenceIdeal.Facts) (hDownKernel : Cert.DownKernel.Facts) (hDownKernelIdeal : Cert.DownKernelIdeal.Facts) (hDownReferenceIdeal : Cert.DownReferenceIdeal.Facts) (hModPartKernel : Cert.ModPartKernel.Facts) (hModPartKernelIdeal : Cert.ModPartKernelIdeal.Facts) (hModPartReferenceIdeal : Cert.ModPartReferenceIdeal.Facts) (hOutProjKernel : Cert.OutProjKernel.Facts) (hOutProjKernelIdeal : Cert.OutProjKernelIdeal.Facts) (hOutProjReferenceIdeal : Cert.OutProjReferenceIdeal.Facts) (hDownProjKernel : Cert.DownProjKernel.Facts) (hDownProjKernelIdeal : Cert.DownProjKernelIdeal.Facts) (hDownProjReferenceIdeal : Cert.DownProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_GatherKernel (hGatherKernel := hGatherKernel)
    ∧ quiescent_GatherKernelIdeal (hGatherKernelIdeal := hGatherKernelIdeal)
    ∧ quiescent_GatherReferenceIdeal (hGatherReferenceIdeal := hGatherReferenceIdeal)
    ∧ quiescent_GatherReference (hGatherReference := hGatherReference)
    ∧ quiescent_SwapKernel (hSwapKernel := hSwapKernel)
    ∧ quiescent_SwapKernelIdeal (hSwapKernelIdeal := hSwapKernelIdeal)
    ∧ quiescent_SwapReferenceIdeal (hSwapReferenceIdeal := hSwapReferenceIdeal)
    ∧ quiescent_SwapReference (hSwapReference := hSwapReference)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_SmallReference (hSmallReference := hSmallReference)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_ModReference (hModReference := hModReference)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_UpdateKernel (hUpdateKernel := hUpdateKernel)
    ∧ quiescent_UpdateKernelIdeal (hUpdateKernelIdeal := hUpdateKernelIdeal)
    ∧ quiescent_UpdateReferenceIdeal (hUpdateReferenceIdeal := hUpdateReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_OutGradKernel (hOutGradKernel := hOutGradKernel)
    ∧ quiescent_OutGradKernelIdeal (hOutGradKernelIdeal := hOutGradKernelIdeal)
    ∧ quiescent_OutGradReferenceIdeal (hOutGradReferenceIdeal := hOutGradReferenceIdeal)
    ∧ quiescent_UpGradKernel (hUpGradKernel := hUpGradKernel)
    ∧ quiescent_UpGradKernelIdeal (hUpGradKernelIdeal := hUpGradKernelIdeal)
    ∧ quiescent_UpGradReferenceIdeal (hUpGradReferenceIdeal := hUpGradReferenceIdeal)
    ∧ quiescent_DownGradKernel (hDownGradKernel := hDownGradKernel)
    ∧ quiescent_DownGradKernelIdeal (hDownGradKernelIdeal := hDownGradKernelIdeal)
    ∧ quiescent_DownGradReferenceIdeal (hDownGradReferenceIdeal := hDownGradReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ModPartKernel (hModPartKernel := hModPartKernel)
    ∧ quiescent_ModPartKernelIdeal (hModPartKernelIdeal := hModPartKernelIdeal)
    ∧ quiescent_ModPartReferenceIdeal (hModPartReferenceIdeal := hModPartReferenceIdeal)
    ∧ quiescent_OutProjKernel (hOutProjKernel := hOutProjKernel)
    ∧ quiescent_OutProjKernelIdeal (hOutProjKernelIdeal := hOutProjKernelIdeal)
    ∧ quiescent_OutProjReferenceIdeal (hOutProjReferenceIdeal := hOutProjReferenceIdeal)
    ∧ quiescent_DownProjKernel (hDownProjKernel := hDownProjKernel)
    ∧ quiescent_DownProjKernelIdeal (hDownProjKernelIdeal := hDownProjKernelIdeal)
    ∧ quiescent_DownProjReferenceIdeal (hDownProjReferenceIdeal := hDownProjReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_UpKernel_UpKernelIdeal
    ∧ algebraic_UpKernelIdeal_UpReferenceIdeal (hUpKernelIdeal := hUpKernelIdeal) (hUpReferenceIdeal := hUpReferenceIdeal)
    ∧ preserves_GatherKernel_GatherKernelIdeal
    ∧ algebraic_GatherKernelIdeal_GatherReferenceIdeal (hGatherKernelIdeal := hGatherKernelIdeal) (hGatherReferenceIdeal := hGatherReferenceIdeal)
    ∧ bitexact_GatherKernel_GatherReference (hGatherKernel := hGatherKernel) (hGatherReference := hGatherReference)
    ∧ preserves_SwapKernel_SwapKernelIdeal
    ∧ algebraic_SwapKernelIdeal_SwapReferenceIdeal (hSwapKernelIdeal := hSwapKernelIdeal) (hSwapReferenceIdeal := hSwapReferenceIdeal)
    ∧ bitexact_SwapKernel_SwapReference (hSwapKernel := hSwapKernel) (hSwapReference := hSwapReference)
    ∧ preserves_SmallKernel_SmallKernelIdeal
    ∧ algebraic_SmallKernelIdeal_SmallReferenceIdeal (hSmallKernelIdeal := hSmallKernelIdeal) (hSmallReferenceIdeal := hSmallReferenceIdeal)
    ∧ bitexact_SmallKernel_SmallReference (hSmallKernel := hSmallKernel) (hSmallReference := hSmallReference)
    ∧ preserves_ModKernel_ModKernelIdeal
    ∧ algebraic_ModKernelIdeal_ModReferenceIdeal (hModKernelIdeal := hModKernelIdeal) (hModReferenceIdeal := hModReferenceIdeal)
    ∧ bitexact_ModKernel_ModReference (hModKernel := hModKernel) (hModReference := hModReference)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_UpdateKernel_UpdateKernelIdeal
    ∧ algebraic_UpdateKernelIdeal_UpdateReferenceIdeal (hUpdateKernelIdeal := hUpdateKernelIdeal) (hUpdateReferenceIdeal := hUpdateReferenceIdeal)
    ∧ preserves_NormKernel_NormKernelIdeal
    ∧ algebraic_NormKernelIdeal_NormReferenceIdeal (hNormKernelIdeal := hNormKernelIdeal) (hNormReferenceIdeal := hNormReferenceIdeal)
    ∧ preserves_OutGradKernel_OutGradKernelIdeal
    ∧ algebraic_OutGradKernelIdeal_OutGradReferenceIdeal (hOutGradKernelIdeal := hOutGradKernelIdeal) (hOutGradReferenceIdeal := hOutGradReferenceIdeal)
    ∧ preserves_UpGradKernel_UpGradKernelIdeal
    ∧ algebraic_UpGradKernelIdeal_UpGradReferenceIdeal (hUpGradKernelIdeal := hUpGradKernelIdeal) (hUpGradReferenceIdeal := hUpGradReferenceIdeal)
    ∧ preserves_DownGradKernel_DownGradKernelIdeal
    ∧ algebraic_DownGradKernelIdeal_DownGradReferenceIdeal (hDownGradKernelIdeal := hDownGradKernelIdeal) (hDownGradReferenceIdeal := hDownGradReferenceIdeal)
    ∧ preserves_DownKernel_DownKernelIdeal
    ∧ algebraic_DownKernelIdeal_DownReferenceIdeal (hDownKernelIdeal := hDownKernelIdeal) (hDownReferenceIdeal := hDownReferenceIdeal)
    ∧ preserves_ModPartKernel_ModPartKernelIdeal
    ∧ algebraic_ModPartKernelIdeal_ModPartReferenceIdeal (hModPartKernelIdeal := hModPartKernelIdeal) (hModPartReferenceIdeal := hModPartReferenceIdeal)
    ∧ preserves_OutProjKernel_OutProjKernelIdeal
    ∧ algebraic_OutProjKernelIdeal_OutProjReferenceIdeal (hOutProjKernelIdeal := hOutProjKernelIdeal) (hOutProjReferenceIdeal := hOutProjReferenceIdeal)
    ∧ preserves_DownProjKernel_DownProjKernelIdeal
    ∧ algebraic_DownProjKernelIdeal_DownProjReferenceIdeal (hDownProjKernelIdeal := hDownProjKernelIdeal) (hDownProjReferenceIdeal := hDownProjReferenceIdeal)
-- ==== Kernel.lean ====
abbrev S4096x1024 : Shape := ⟨2, ![4096, 1024]⟩
abbrev S1024x1024 : Shape := ⟨2, ![1024, 1024]⟩
abbrev S2x4x512x1024 : Shape := ⟨4, ![2, 4, 512, 1024]⟩
abbrev S4x512x1024 : Shape := ⟨3, ![4, 512, 1024]⟩
abbrev S512x1024 : Shape := ⟨2, ![512, 1024]⟩
abbrev S1 : Shape := ⟨1, ![1]⟩
abbrev S_ : Shape := ⟨0, ![]⟩
abbrev S1x4x512x1024 : Shape := ⟨4, ![1, 4, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S2x4x512x1024, .f32⟩
  | .hbm, ⟨3, _⟩ => ⟨S4096x1024, .f32⟩
  | .hbm, ⟨4, _⟩ => ⟨S4x512x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨2, ![8, 1], ![false, false]⟩

def k0_cond1 (i : grid0.Coords) : BitVec 1 :=
  let v_true : BitVec 1 := 1#1
  let arg0 : BitVec 32 := BitVec.ofNat 32 (i 0).val
  let c0_i32 : BitVec 32 := 0#32
  let v0 : BitVec 1 := Scalar.cmpi .eq arg0 c0_i32
  let v1 : BitVec 1 := Scalar.andi v_true v0
  let arg1 : BitVec 32 := BitVec.ofNat 32 (i 1).val
  let c0_i32_1 : BitVec 32 := 0#32
  let v4 : BitVec 1 := Scalar.cmpi .eq arg1 c0_i32_1
  let v5 : BitVec 1 := Scalar.andi v1 v4
  let v8 : BitVec 32 := Scalar.extui v5
  let c0_i32_3 : BitVec 32 := 0#32
  let v9 : BitVec 1 := Scalar.cmpi .ne v8 c0_i32_3
  v9

def k0_off1 (d18 : Dev nD) : Fin 4 → Nat :=
  let c1_i32_13 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v27 : BitVec 32 := Scalar.subi c1_i32_13 v26
  let c0_i32_21 : BitVec 32 := 0#32
  let c0_i32_22 : BitVec 32 := 0#32
  let c0_i32_23 : BitVec 32 := 0#32
  ![v27.toNat, 0, 0, 0]
def k0_dev1 (d18 : Dev nD) : Nat :=
  let c0_i32_18 : BitVec 32 := 0#32
  let v18 : BitVec 32 := Dev.word d18
  let c4_i32 : BitVec 32 := 4#32
  let v19 : BitVec 32 := Scalar.divsi v18 c4_i32
  let c2_i32 : BitVec 32 := 2#32
  let v20 : BitVec 32 := Scalar.remsi v19 c2_i32
  let c4_i32_17 : BitVec 32 := 4#32
  let v29 : BitVec 32 := Scalar.muli v20 c4_i32_17
  let v30 : BitVec 32 := Scalar.addi c0_i32_18 v29
  let v21 : BitVec 32 := Dev.word d18
  let c2_i32_11 : BitVec 32 := 2#32
  let v22 : BitVec 32 := Scalar.divsi v21 c2_i32_11
  let c2_i32_10 : BitVec 32 := 2#32
  let v23 : BitVec 32 := Scalar.remsi v22 c2_i32_10
  let c2_i32_19 : BitVec 32 := 2#32
  let v31 : BitVec 32 := Scalar.muli v23 c2_i32_19
  let v32 : BitVec 32 := Scalar.addi v30 v31
  let c1_i32_14 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v28 : BitVec 32 := Scalar.subi c1_i32_14 v26
  let c1_i32_20 : BitVec 32 := 1#32
  let v33 : BitVec 32 := Scalar.muli v28 c1_i32_20
  let v34 : BitVec 32 := Scalar.addi v32 v33
  v34.toNat
def k0_cond2 (i : grid0.Coords) : BitVec 1 :=
  let true_0 : BitVec 1 := 1#1
  let arg0 : BitVec 32 := BitVec.ofNat 32 (i 0).val
  let c7_i32 : BitVec 32 := 7#32
  let v2 : BitVec 1 := Scalar.cmpi .eq arg0 c7_i32
  let v3 : BitVec 1 := Scalar.andi true_0 v2
  let arg1 : BitVec 32 := BitVec.ofNat 32 (i 1).val
  let c0_i32_2 : BitVec 32 := 0#32
  let v6 : BitVec 1 := Scalar.cmpi .eq arg1 c0_i32_2
  let v7 : BitVec 1 := Scalar.andi v3 v6
  let v16 : BitVec 32 := Scalar.extui v7
  let c0_i32_9 : BitVec 32 := 0#32
  let v17 : BitVec 1 := Scalar.cmpi .ne v16 c0_i32_9
  v17

def k0_off2 (d18 : Dev nD) : Fin 4 → Nat :=
  let c1_i32_13 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v27 : BitVec 32 := Scalar.subi c1_i32_13 v26
  let c0_i32_18 : BitVec 32 := 0#32
  let c0_i32_19 : BitVec 32 := 0#32
  let c0_i32_20 : BitVec 32 := 0#32
  ![v27.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S32768x1024 : Shape := ⟨2, ![32768, 1024]⟩
abbrev S1024x1024 : Shape := ⟨2, ![1024, 1024]⟩
abbrev S16x4x512x1024 : Shape := ⟨4, ![16, 4, 512, 1024]⟩
abbrev S4x2x2x4x512x1024 : Shape := ⟨6, ![4, 2, 2, 4, 512, 1024]⟩
abbrev S4x1x1x4x512x1024 : Shape := ⟨6, ![4, 1, 1, 4, 512, 1024]⟩
abbrev S4x4x512x1024 : Shape := ⟨4, ![4, 4, 512, 1024]⟩
abbrev S4x1x4x512x1024 : Shape := ⟨5, ![4, 1, 4, 512, 1024]⟩
abbrev S4x2x4x512x1024 : Shape := ⟨5, ![4, 2, 4, 512, 1024]⟩
abbrev S32x512x1024 : Shape := ⟨3, ![32, 512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S16x4x512x1024, .f32⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S32768x1024, .f32⟩
  | .hbm, ⟨7, _⟩ => ⟨S4x2x2x4x512x1024, .f32⟩
  | .hbm, ⟨8, _⟩ => ⟨S4x1x1x4x512x1024, .f32⟩
  | .hbm, ⟨9, _⟩ => ⟨S4x4x512x1024, .f32⟩
  | .hbm, ⟨10, _⟩ => ⟨S4x1x1x4x512x1024, .f32⟩
  | .hbm, ⟨11, _⟩ => ⟨S4x4x512x1024, .f32⟩
  | .hbm, ⟨12, _⟩ => ⟨S4x1x4x512x1024, .f32⟩
  | .hbm, ⟨13, _⟩ => ⟨S4x1x4x512x1024, .f32⟩
  | .hbm, ⟨14, _⟩ => ⟨S4x2x4x512x1024, .f32⟩
  | .hbm, ⟨15, _⟩ => ⟨S32x512x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InKernel.lean ====
abbrev S4096x2816 : Shape := ⟨2, ![4096, 2816]⟩
abbrev S2816x1024 : Shape := ⟨2, ![2816, 1024]⟩
abbrev S4x2x352x1024 : Shape := ⟨4, ![4, 2, 352, 1024]⟩
abbrev S512x1024 : Shape := ⟨2, ![512, 1024]⟩
abbrev S256x512 : Shape := ⟨2, ![256, 512]⟩
abbrev S4096x1024 : Shape := ⟨2, ![4096, 1024]⟩
abbrev S4x352x1024 : Shape := ⟨3, ![4, 352, 1024]⟩
abbrev S512x2816 : Shape := ⟨2, ![512, 2816]⟩
abbrev S4 : Shape := ⟨1, ![4]⟩
abbrev S2 : Shape := ⟨1, ![2]⟩
abbrev S1 : Shape := ⟨1, ![1]⟩
abbrev S_ : Shape := ⟨0, ![]⟩
abbrev S1x352x1024 : Shape := ⟨3, ![1, 352, 1024]⟩
abbrev S352x1024 : Shape := ⟨2, ![352, 1024]⟩
abbrev S1x1x352x1024 : Shape := ⟨4, ![1, 1, 352, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4x2x352x1024, .f32⟩
  | .hbm, ⟨3, _⟩ => ⟨S512x1024, .f32⟩
  | .hbm, ⟨4, _⟩ => ⟨S256x512, .f32⟩
  | .hbm, ⟨5, _⟩ => ⟨S4096x1024, .f32⟩
  | .hbm, ⟨6, _⟩ => ⟨S4x352x1024, .f32⟩
  | .hbm, ⟨7, _⟩ => ⟨S512x1024, .f32⟩
  | .hbm, ⟨8, _⟩ => ⟨S256x512, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨2, ![8, 1], ![false, false]⟩

def k0_cond1 (i : grid0.Coords) : BitVec 1 :=
  let v_true : BitVec 1 := 1#1
  let arg0 : BitVec 32 := BitVec.ofNat 32 (i 0).val
  let c0_i32 : BitVec 32 := 0#32
  let v0 : BitVec 1 := Scalar.cmpi .eq arg0 c0_i32
  let v1 : BitVec 1 := Scalar.andi v_true v0
  let arg1 : BitVec 32 := BitVec.ofNat 32 (i 1).val
  let c0_i32_1 : BitVec 32 := 0#32
  let v4 : BitVec 1 := Scalar.cmpi .eq arg1 c0_i32_1
  let v5 : BitVec 1 := Scalar.andi v1 v4
  let v8 : BitVec 32 := Scalar.extui v5
  let c0_i32_3 : BitVec 32 := 0#32
  let v9 : BitVec 1 := Scalar.cmpi .ne v8 c0_i32_3
  v9

def k0_off1 (d18 : Dev nD) : Fin 4 → Nat :=
  let c0_i32_21 : BitVec 32 := 0#32
  let c1_i32_13 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v27 : BitVec 32 := Scalar.subi c1_i32_13 v26
  let c0_i32_31 : BitVec 32 := 0#32
  let c0_i32_32 : BitVec 32 := 0#32
  ![0, v27.toNat, 0, 0]
def k0_dev1 (d18 : Dev nD) : Nat :=
  let c0_i32_26 : BitVec 32 := 0#32
  let v18 : BitVec 32 := Dev.word d18
  let c4_i32 : BitVec 32 := 4#32
  let v19 : BitVec 32 := Scalar.divsi v18 c4_i32
  let c2_i32 : BitVec 32 := 2#32
  let v20 : BitVec 32 := Scalar.remsi v19 c2_i32
  let c4_i32_25 : BitVec 32 := 4#32
  let v35 : BitVec 32 := Scalar.muli v20 c4_i32_25
  let v36 : BitVec 32 := Scalar.addi c0_i32_26 v35
  let v21 : BitVec 32 := Dev.word d18
  let c2_i32_11 : BitVec 32 := 2#32
  let v22 : BitVec 32 := Scalar.divsi v21 c2_i32_11
  let c2_i32_10 : BitVec 32 := 2#32
  let v23 : BitVec 32 := Scalar.remsi v22 c2_i32_10
  let c2_i32_27 : BitVec 32 := 2#32
  let v37 : BitVec 32 := Scalar.muli v23 c2_i32_27
  let v38 : BitVec 32 := Scalar.addi v36 v37
  let c1_i32_14 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v28 : BitVec 32 := Scalar.subi c1_i32_14 v26
  let c1_i32_28 : BitVec 32 := 1#32
  let v39 : BitVec 32 := Scalar.muli v28 c1_i32_28
  let v40 : BitVec 32 := Scalar.addi v38 v39
  v40.toNat
def k0_off2 (d18 : Dev nD) : Fin 4 → Nat :=
  let c1_i32_33 : BitVec 32 := 1#32
  let c1_i32_15 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v29 : BitVec 32 := Scalar.subi c1_i32_15 v26
  let c0_i32_43 : BitVec 32 := 0#32
  let c0_i32_44 : BitVec 32 := 0#32
  ![1, v29.toNat, 0, 0]
def k0_dev2 (d18 : Dev nD) : Nat :=
  let c0_i32_38 : BitVec 32 := 0#32
  let v18 : BitVec 32 := Dev.word d18
  let c4_i32 : BitVec 32 := 4#32
  let v19 : BitVec 32 := Scalar.divsi v18 c4_i32
  let c2_i32 : BitVec 32 := 2#32
  let v20 : BitVec 32 := Scalar.remsi v19 c2_i32
  let c4_i32_37 : BitVec 32 := 4#32
  let v49 : BitVec 32 := Scalar.muli v20 c4_i32_37
  let v50 : BitVec 32 := Scalar.addi c0_i32_38 v49
  let v21 : BitVec 32 := Dev.word d18
  let c2_i32_11 : BitVec 32 := 2#32
  let v22 : BitVec 32 := Scalar.divsi v21 c2_i32_11
  let c2_i32_10 : BitVec 32 := 2#32
  let v23 : BitVec 32 := Scalar.remsi v22 c2_i32_10
  let c2_i32_39 : BitVec 32 := 2#32
  let v51 : BitVec 32 := Scalar.muli v23 c2_i32_39
  let v52 : BitVec 32 := Scalar.addi v50 v51
  let c1_i32_16 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v30 : BitVec 32 := Scalar.subi c1_i32_16 v26
  let c1_i32_40 : BitVec 32 := 1#32
  let v53 : BitVec 32 := Scalar.muli v30 c1_i32_40
  let v54 : BitVec 32 := Scalar.addi v52 v53
  v54.toNat
def k0_off3 (d18 : Dev nD) : Fin 4 → Nat :=
  let c2_i32_45 : BitVec 32 := 2#32
  let c1_i32_17 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v31 : BitVec 32 := Scalar.subi c1_i32_17 v26
  let c0_i32_55 : BitVec 32 := 0#32
  let c0_i32_56 : BitVec 32 := 0#32
  ![2, v31.toNat, 0, 0]
def k0_dev3 (d18 : Dev nD) : Nat :=
  let c0_i32_50 : BitVec 32 := 0#32
  let v18 : BitVec 32 := Dev.word d18
  let c4_i32 : BitVec 32 := 4#32
  let v19 : BitVec 32 := Scalar.divsi v18 c4_i32
  let c2_i32 : BitVec 32 := 2#32
  let v20 : BitVec 32 := Scalar.remsi v19 c2_i32
  let c4_i32_49 : BitVec 32 := 4#32
  let v63 : BitVec 32 := Scalar.muli v20 c4_i32_49
  let v64 : BitVec 32 := Scalar.addi c0_i32_50 v63
  let v21 : BitVec 32 := Dev.word d18
  let c2_i32_11 : BitVec 32 := 2#32
  let v22 : BitVec 32 := Scalar.divsi v21 c2_i32_11
  let c2_i32_10 : BitVec 32 := 2#32
  let v23 : BitVec 32 := Scalar.remsi v22 c2_i32_10
  let c2_i32_51 : BitVec 32 := 2#32
  let v65 : BitVec 32 := Scalar.muli v23 c2_i32_51
  let v66 : BitVec 32 := Scalar.addi v64 v65
  let c1_i32_18 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v32 : BitVec 32 := Scalar.subi c1_i32_18 v26
  let c1_i32_52 : BitVec 32 := 1#32
  let v67 : BitVec 32 := Scalar.muli v32 c1_i32_52
  let v68 : BitVec 32 := Scalar.addi v66 v67
  v68.toNat
def k0_off4 (d18 : Dev nD) : Fin 4 → Nat :=
  let c3_i32 : BitVec 32 := 3#32
  let c1_i32_19 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v33 : BitVec 32 := Scalar.subi c1_i32_19 v26
  let c0_i32_66 : BitVec 32 := 0#32
  let c0_i32_67 : BitVec 32 := 0#32
  ![3, v33.toNat, 0, 0]
def k0_dev4 (d18 : Dev nD) : Nat :=
  let c0_i32_61 : BitVec 32 := 0#32
  let v18 : BitVec 32 := Dev.word d18
  let c4_i32 : BitVec 32 := 4#32
  let v19 : BitVec 32 := Scalar.divsi v18 c4_i32
  let c2_i32 : BitVec 32 := 2#32
  let v20 : BitVec 32 := Scalar.remsi v19 c2_i32
  let c4_i32_60 : BitVec 32 := 4#32
  let v77 : BitVec 32 := Scalar.muli v20 c4_i32_60
  let v78 : BitVec 32 := Scalar.addi c0_i32_61 v77
  let v21 : BitVec 32 := Dev.word d18
  let c2_i32_11 : BitVec 32 := 2#32
  let v22 : BitVec 32 := Scalar.divsi v21 c2_i32_11
  let c2_i32_10 : BitVec 32 := 2#32
  let v23 : BitVec 32 := Scalar.remsi v22 c2_i32_10
  let c2_i32_62 : BitVec 32 := 2#32
  let v79 : BitVec 32 := Scalar.muli v23 c2_i32_62
  let v80 : BitVec 32 := Scalar.addi v78 v79
  let c1_i32_20 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v34 : BitVec 32 := Scalar.subi c1_i32_20 v26
  let c1_i32_63 : BitVec 32 := 1#32
  let v81 : BitVec 32 := Scalar.muli v34 c1_i32_63
  let v82 : BitVec 32 := Scalar.addi v80 v81
  v82.toNat
def k0_dev5 (d18 : Dev nD) : Nat :=
  let c0_i32_79 : BitVec 32 := 0#32
  let v91 : BitVec 32 := Dev.word d18
  let c4_i32_69 : BitVec 32 := 4#32
  let v92 : BitVec 32 := Scalar.divsi v91 c4_i32_69
  let c2_i32_68 : BitVec 32 := 2#32
  let v93 : BitVec 32 := Scalar.remsi v92 c2_i32_68
  let c4_i32_78 : BitVec 32 := 4#32
  let v102 : BitVec 32 := Scalar.muli v93 c4_i32_78
  let v103 : BitVec 32 := Scalar.addi c0_i32_79 v102
  let v94 : BitVec 32 := Dev.word d18
  let c2_i32_71 : BitVec 32 := 2#32
  let v95 : BitVec 32 := Scalar.divsi v94 c2_i32_71
  let c2_i32_70 : BitVec 32 := 2#32
  let v96 : BitVec 32 := Scalar.remsi v95 c2_i32_70
  let c2_i32_80 : BitVec 32 := 2#32
  let v104 : BitVec 32 := Scalar.muli v96 c2_i32_80
  let v105 : BitVec 32 := Scalar.addi v103 v104
  let c1_i32_74 : BitVec 32 := 1#32
  let v97 : BitVec 32 := Dev.word d18
  let c1_i32_73 : BitVec 32 := 1#32
  let v98 : BitVec 32 := Scalar.divsi v97 c1_i32_73
  let c2_i32_72 : BitVec 32 := 2#32
  let v99 : BitVec 32 := Scalar.remsi v98 c2_i32_72
  let v100 : BitVec 32 := Scalar.subi c1_i32_74 v99
  let c1_i32_81 : BitVec 32 := 1#32
  let v106 : BitVec 32 := Scalar.muli v100 c1_i32_81
  let v107 : BitVec 32 := Scalar.addi v105 v106
  v107.toNat
def k0_dev6 (d18 : Dev nD) : Nat :=
  let c0_i32_85 : BitVec 32 := 0#32
  let v91 : BitVec 32 := Dev.word d18
  let c4_i32_69 : BitVec 32 := 4#32
  let v92 : BitVec 32 := Scalar.divsi v91 c4_i32_69
  let c2_i32_68 : BitVec 32 := 2#32
  let v93 : BitVec 32 := Scalar.remsi v92 c2_i32_68
  let c4_i32_84 : BitVec 32 := 4#32
  let v112 : BitVec 32 := Scalar.muli v93 c4_i32_84
  let v113 : BitVec 32 := Scalar.addi c0_i32_85 v112
  let v94 : BitVec 32 := Dev.word d18
  let c2_i32_71 : BitVec 32 := 2#32
  let v95 : BitVec 32 := Scalar.divsi v94 c2_i32_71
  let c2_i32_70 : BitVec 32 := 2#32
  let v96 : BitVec 32 := Scalar.remsi v95 c2_i32_70
  let c2_i32_86 : BitVec 32 := 2#32
  let v114 : BitVec 32 := Scalar.muli v96 c2_i32_86
  let v115 : BitVec 32 := Scalar.addi v113 v114
  let c1_i32_75 : BitVec 32 := 1#32
  let v97 : BitVec 32 := Dev.word d18
  let c1_i32_73 : BitVec 32 := 1#32
  let v98 : BitVec 32 := Scalar.divsi v97 c1_i32_73
  let c2_i32_72 : BitVec 32 := 2#32
  let v99 : BitVec 32 := Scalar.remsi v98 c2_i32_72
  let v101 : BitVec 32 := Scalar.subi c1_i32_75 v99
  let c1_i32_87 : BitVec 32 := 1#32
  let v116 : BitVec 32 := Scalar.muli v101 c1_i32_87
  let v117 : BitVec 32 := Scalar.addi v115 v116
  v117.toNat
def k0_cond2 (i : grid0.Coords) : BitVec 1 :=
  let true_0 : BitVec 1 := 1#1
  let arg0 : BitVec 32 := BitVec.ofNat 32 (i 0).val
  let c7_i32 : BitVec 32 := 7#32
  let v2 : BitVec 1 := Scalar.cmpi .eq arg0 c7_i32
  let v3 : BitVec 1 := Scalar.andi true_0 v2
  let arg1 : BitVec 32 := BitVec.ofNat 32 (i 1).val
  let c0_i32_2 : BitVec 32 := 0#32
  let v6 : BitVec 1 := Scalar.cmpi .eq arg1 c0_i32_2
  let v7 : BitVec 1 := Scalar.andi v3 v6
  let v16 : BitVec 32 := Scalar.extui v7
  let c0_i32_9 : BitVec 32 := 0#32
  let v17 : BitVec 1 := Scalar.cmpi .ne v16 c0_i32_9
  v17

def k0_off5 (d18 : Dev nD) : Fin 4 → Nat :=
  let c0_i32_22 : BitVec 32 := 0#32
  let c1_i32_13 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v27 : BitVec 32 := Scalar.subi c1_i32_13 v26
  let c0_i32_26 : BitVec 32 := 0#32
  let c0_i32_27 : BitVec 32 := 0#32
  ![0, v27.toNat, 0, 0]
def k0_off6 (d18 : Dev nD) : Fin 4 → Nat :=
  let c1_i32_43 : BitVec 32 := 1#32
  let c1_i32_15 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v29 : BitVec 32 := Scalar.subi c1_i32_15 v26
  let c0_i32_47 : BitVec 32 := 0#32
  let c0_i32_48 : BitVec 32 := 0#32
  ![1, v29.toNat, 0, 0]
def k0_off7 (d18 : Dev nD) : Fin 4 → Nat :=
  let c2_i32_64 : BitVec 32 := 2#32
  let c1_i32_17 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v31 : BitVec 32 := Scalar.subi c1_i32_17 v26
  let c0_i32_68 : BitVec 32 := 0#32
  let c0_i32_69 : BitVec 32 := 0#32
  ![2, v31.toNat, 0, 0]
def k0_off8 (d18 : Dev nD) : Fin 4 → Nat :=
  let c3_i32_84 : BitVec 32 := 3#32
  let c1_i32_19 : BitVec 32 := 1#32
  let v24 : BitVec 32 := Dev.word d18
  let c1_i32 : BitVec 32 := 1#32
  let v25 : BitVec 32 := Scalar.divsi v24 c1_i32
  let c2_i32_12 : BitVec 32 := 2#32
  let v26 : BitVec 32 := Scalar.remsi v25 c2_i32_12
  let v33 : BitVec 32 := Scalar.subi c1_i32_19 v26
  let c0_i32_88 : BitVec 32 := 0#32
  let c0_i32_89 : BitVec 32 := 0#32
  ![3, v33.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S32768x2816 : Shape := ⟨2, ![32768, 2816]⟩
abbrev S2816x1024 : Shape := ⟨2, ![2816, 1024]⟩
abbrev S32x2x352x1024 : Shape := ⟨4, ![32, 2, 352, 1024]⟩
abbrev S4096x1024 : Shape := ⟨2, ![4096, 1024]⟩
abbrev S2048x512 : Shape := ⟨2, ![2048, 512]⟩
abbrev S32768x1024 : Shape := ⟨2, ![32768, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩
abbrev S4x2x256x512 : Shape := ⟨4, ![4, 2, 256, 512]⟩
abbrev S4x1x256x512 : Shape := ⟨4, ![4, 1, 256, 512]⟩
abbrev S4x256x512 : Shape := ⟨3, ![4, 256, 512]⟩

abbrev nBuf : Space → Nat
  | .hbm => 35
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .bf16⟩
  | .hbm, ⟨2, _⟩ => ⟨S32x2x352x1024, .f32⟩
  | .hbm, ⟨3, _⟩ => ⟨S4096x1024, .f32⟩
  | .hbm, ⟨4, _⟩ => ⟨S2048x512, .f32⟩
  | .hbm, ⟨5, _⟩ => ⟨S32768x2816, .f32⟩
  | .hbm, ⟨6, _⟩ => ⟨S2816x1024, .f32⟩
  | .hbm, ⟨7, _⟩ => ⟨S32768x1024, .f32⟩
  | .hbm, ⟨8, _⟩ => ⟨S4x2x4x2x352x1024, .f32⟩
  | .hbm, ⟨9, _⟩ => ⟨S4x1x4x1x352x1024, .f32⟩
  | .hbm, ⟨10, _⟩ => ⟨S4x4x352x1024, .f32⟩
  | .hbm, ⟨11, _⟩ => ⟨S4x1x4x1x352x1024, .f32⟩
  | .hbm, ⟨12, _⟩ => ⟨S4x4x352x1024, .f32⟩
  | .hbm, ⟨13, _⟩ => ⟨S4x1x4x352x1024, .f32⟩
  | .hbm, ⟨14, _⟩ => ⟨S4x1x4x352x1024, .f32⟩
  | .hbm, ⟨15, _⟩ => ⟨S4x2x4x352x1024, .f32⟩
  | .hbm, ⟨16, _⟩ => ⟨S32x352x1024, .f32⟩
  | .hbm, ⟨17, _⟩ => ⟨S4x2x512x1024, .f32⟩
  | .hbm, ⟨18, _⟩ => ⟨S4x1x512x1024, .f32⟩
  | .hbm, ⟨19, _⟩ => ⟨S4x512x1024, .f32⟩
  | .hbm, ⟨20, _⟩ => ⟨S4x1x512x1024, .f32⟩
  | .hbm, ⟨21, _⟩ => ⟨S4x512x1024, .f32⟩
  | .hbm, ⟨22, _⟩ => ⟨S4x1x512x1024, .f32⟩
  | .hbm, ⟨23, _⟩ => ⟨S4x1x512x1024, .f32⟩
  | .hbm, ⟨24, _⟩ => ⟨S4x2x512x1024, .f32⟩
  | .hbm, ⟨25, _⟩ => ⟨S4096x1024, .f32⟩
  | .hbm, ⟨26, _⟩ => ⟨S4x2x256x512, .f32⟩
  | .hbm, ⟨27, _⟩ => ⟨S4x1x256x512, .f32⟩
  | .hbm, ⟨28, _⟩ => ⟨S4x256x512, .f32⟩
  | .hbm, ⟨29, _⟩ => ⟨S4x1x256x512, .f32⟩
  | .hbm, ⟨30, _⟩ => ⟨S4x256x512, .f32⟩
  | .hbm, ⟨31, _⟩ => ⟨S4x1x256x512, .f32⟩
  | .hbm, ⟨32, _⟩ => ⟨S4x1x256x512, .f32⟩
  | .hbm, ⟨33, _⟩ => ⟨S4x2x256x512, .f32⟩
  | .hbm, ⟨34, _⟩ => ⟨S2048x512, .f32⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== UpKernel.lean ====
abbrev S2x2048x4096 : Shape := ⟨3, ![2, 2048, 4096]⟩
abbrev S4x1024x1024 : Shape := ⟨3, ![4, 1024, 1024]⟩
abbrev S2x2048x1024 : Shape := ⟨3, ![2, 2048, 1024]⟩
abbrev S1x1024 : Shape := ⟨2, ![1, 1024]⟩
abbrev S2x1x1024 : Shape := ⟨3, ![2, 1, 1024]⟩
abbrev S2x4x512x1024 : Shape := ⟨4, ![2, 4, 512, 1024]⟩
abbrev S4x512x1024 : Shape := ⟨3, ![4, 512, 1024]⟩
abbrev S1x512x4096 : Shape := ⟨3, ![1, 512, 4096]⟩
abbrev S1x512x1024 : Shape := ⟨3, ![1, 512, 1024]⟩
abbrev S1x1x1024 : Shape := ⟨3, ![1, 1, 1024]⟩
abbrev S1 : Shape := ⟨1, ![1]⟩
abbrev S_ : Shape := ⟨0, ![]⟩
abbrev S1x4x512x1024 : Shape := ⟨4, ![1, 4, 512, 1024]⟩
abbrev S1x256x4096 : Shape := ⟨3, ![1, 256, 4096]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 27
  | .smem => 0
  | _ => 0

abbrev bufTy : (tb : Table) → Fin (tcTables nBuf tb) → BufTy
  | .hbm, ⟨0, _⟩ => ⟨S2x2048x4096, .bf16⟩
  | .hbm, ⟨1, _⟩ => ⟨S4x1024x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x1024, .f32⟩
  | .hbm, ⟨6, _⟩ => ⟨S2x1x1024, .f32⟩
  | .hbm, ⟨7, _⟩ => ⟨S1x1024, .f32⟩
  | .hbm, ⟨8, _⟩ => ⟨S2x1x1024, .f32⟩
  | .hbm, ⟨9, _⟩ => ⟨S2x4x512x1024, .f32⟩
  | .hbm, ⟨10, _⟩ => ⟨S2x2048x1024, .f32⟩
  | .hbm, ⟨11, _⟩ => ⟨S2x2048x1024, .bf16⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S1x1024, .f32⟩
  | .hbm, ⟨17, _⟩ => ⟨S4x512x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S4x1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S1x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 8
abbrev τ : Topo := Topo.v7x

variable {F : FTy → Type} [FloatOps F]

abbrev grid0 : Pipeline.Grid := ⟨2, ![2, 4], ![false, false]⟩

def k0_cond1 (i : grid0.Coords) : BitVec 1 :=
  let v_true : BitVec 1 := 1#1
  let arg0 : BitVec 32 := BitVec.ofNat 32 (i 0).val
  let c0_i32 : BitVec 32 := 0#32
  let v0 : BitVec 1 := Scalar.cmpi .eq arg0 c0_i32
  let v1 : BitVec 1 := Scalar.andi v_true v0
  let arg1 : BitVec 32 := BitVec.ofNat 32 (i 1).val
  let c0_i32_1 : BitVec 32 := 0#32
  let v4 : BitVec 1 := Scalar.cmpi .eq arg1 c0_i32_1
  let v5 : BitVec 1 := Scalar.andi v1 v4
  let v8 : BitVec 32 := Scalar.extui v5
  let c0_i32_2 : BitVec 32 := 0#32
  let v9 : BitVec 1 := Scalar.cmpi .ne v8 c0_i32_2
  v9

def k0_off1 (d290 : Dev nD) : Fin 4 → Nat :=
  let c1_i32_193 : BitVec 32 := 1#32
  let v296 : BitVec 32 := Dev.word d290
  let c1_i32_192 : BitVec 32 := 1#32
  let v297 : BitVec 32 := Scalar.divsi v296 c1_i32_192
  let c2_i32_191 : BitVec 32 := 2#32
  let v298 : BitVec 32 := Scalar.remsi v297 c2_i32_191
  let v299 : BitVec 32 := Scalar.subi c1_i32_193 v298
  let c0_i32_201 : BitVec 32 := 0#32
  let c0_i32_202 : BitVec 32 := 0#32
  let c0_i32_203 : BitVec 32 := 0#32
  ![v299.toNat, 0, 0, 0]
def k0_dev1 (d290 : Dev nD) : Nat :=
  let c0_i32_198 : BitVec 32 := 0#32
  let v290 : BitVec 32 := Dev.word d290
  let c4_i32 : BitVec 32 := 4#32
  let v291 : BitVec 32 := Scalar.divsi v290 c4_i32
  let c2_i32 : BitVec 32 := 2#32
  let v292 : BitVec 32 := Scalar.remsi v291 c2_i32
  let c4_i32_197 : BitVec 32 := 4#32
  let v301 : BitVec 32 := Scalar.muli v292 c4_i32_197
  let v302 : BitVec 32 := Scalar.addi c0_i32_198 v301
  let v293 : BitVec 32 := Dev.word d290
  let c2_i32_190 : BitVec 32 := 2#32
  let v294 : BitVec 32 := Scalar.divsi v293 c2_i32_190
  let c2_i32_189 : BitVec 32 := 2#32
  let v295 : BitVec 32 := Scalar.remsi v294 c2_i32_189
  let c2_i32_199 : BitVec 32 := 2#32
  let v303 : BitVec 32 := Scalar.muli v295 c2_i32_199
  let v304 : BitVec 32 := Scalar.addi v302 v303
  let c1_i32_194 : BitVec 32 := 1#32
  let v296 : BitVec 32 := Dev.word d290
  let c1_i32_192 : BitVec 32 := 1#32
  let v297 : BitVec 32 := Scalar.divsi v296 c1_i32_192
  let c2_i32_191 : BitVec 32 := 2#32
  let v298 : BitVec 32 := Scalar.remsi v297 c2_i32_191
  let v300 : BitVec 32 := Scalar.subi c1_i32_194 v298
  let c1_i32_200 : BitVec 32 := 1#32
  let v305 : BitVec 32 := Scalar.muli v300 c1_i32_200
  let v306 : BitVec 32 := Scalar.addi v304 v305
  v306.toNat
def k0_cond4 (i : grid0.Coords) : BitVec 1 :=
  let true_0 : BitVec 1 := 1#1
  let arg0 : BitVec 32 := BitVec.ofNat 32 (i 0).val
  let c1_i32 : BitVec 32 := 1#32
  let v2 : BitVec 1 := Scalar.cmpi .eq arg0 c1_i32
  let v3 : BitVec 1 := Scalar.andi true_0 v2
  let arg1 : BitVec 32 := BitVec.ofNat 32 (i 1).val
  let c3_i32 : BitVec 32 := 3#32
  let v6 : BitVec 1 := Scalar.cmpi .eq arg1 c3_i32
  let v7 : BitVec 1 := Scalar.andi v3 v6
  let v288 : BitVec 32 := Scalar.extui v7
  let c0_i32_188 : BitVec 32 := 0#32
  let v289 : BitVec 1 := Scalar.cmpi .ne v288 c0_i32_188
  v289

def k0_off2 (d290 : Dev nD) : Fin 4 → Nat :=
  let c1_i32_193 : BitVec 32 := 1#32
  let v296 : BitVec 32 := Dev.word d290
  let c1_i32_192 : BitVec 32 := 1#32
  let v297 : BitVec 32 := Scalar.divsi v296 c1_i32_192
  let c2_i32_191 : BitVec 32 := 2#32
  let v298 : BitVec 32 := Scalar.remsi v297 c2_i32_191
  let v299 : BitVec 32 := Scalar.subi c1_i32_193 v298
  let c0_i32_198 : BitVec 32 := 0#32
  let c0_i32_199 : BitVec 32 := 0#32
  let c0_i32_200 : BitVec 32 := 0#32
  ![v299.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== UpReferenceIdeal.lean ====
abbrev S16x2048x4096 : Shape := ⟨3, ![16, 2048, 4096]⟩
abbrev S4x1024x1024 : Shape := ⟨3, ![4, 1024, 1024]⟩
abbrev S16x2048x1024 : Shape := ⟨3, ![16, 2048, 1024]⟩
abbrev S1x1024 : Shape := ⟨2, ![1, 1024]⟩
abbrev S16x1x1024 : Shape := ⟨3, ![16, 1, 1024]⟩
abbrev S16x4x512x1024 : Shape := ⟨4, ![16, 4, 512, 1024]⟩
abbrev S1024x4x1024 : Shape := ⟨3, ![1024, 4, 1024]⟩
abbrev S1024x4096 : Shape := ⟨2, ![1024, 4096]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S4x2x2x4x512x1024 : Shape := ⟨6, ![4, 2, 2, 4, 512, 1024]⟩
abbrev S4x1x1x4x512x1024 : Shape := ⟨6, ![4, 1, 1, 4, 512, 1024]⟩
abbrev S4x4x512x1024 : Shape := ⟨4, ![4, 4, 512, 1024]⟩
abbrev S4x1x4x512x1024 : Shape := ⟨5, ![4, 1, 4, 512, 1024]⟩
abbrev S4x2x4x512x1024 : Shape := ⟨5, ![4, 2, 4, 512, 1024]⟩
abbrev S16x1024 : Shape := ⟨2, ![16, 1024]⟩
abbrev S32x512x1024 : Shape := ⟨3, ![32, 512, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S4x1024x1024, .bf16⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024, .f32⟩
  | .hbm, ⟨6, _⟩ => ⟨S16x1x1024, .f32⟩
  | .hbm, ⟨7, _⟩ => ⟨S1x1024, .f32⟩
  | .hbm, ⟨8, _⟩ => ⟨S16x1x1024, .f32⟩
  | .hbm, ⟨9, _⟩ => ⟨S16x4x512x1024, .f32⟩
  | .hbm, ⟨10, _⟩ => ⟨S4x1024x1024, .f32⟩
  | .hbm, ⟨11, _⟩ => ⟨S1024x4x1024, .f32⟩
  | .hbm, ⟨12, _⟩ => ⟨S1024x4096, .f32⟩
  | .hbm, ⟨13, _⟩ => ⟨S16x2048x4096, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S1x1x1024, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x1024, .f32⟩
  | .hbm, ⟨61, _⟩ => ⟨S16x2048x1024, .f32⟩
  | .hbm, ⟨62, _⟩ => ⟨S1x1x1024, .f32⟩
  | .hbm, ⟨63, _⟩ => ⟨S16x1x1024, .f32⟩
  | .hbm, ⟨64, _⟩ => ⟨S16x1x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .bf16⟩
  | .hbm, ⟨80, _⟩ => ⟨S4x2x2x4x512x1024, .f32⟩
  | .hbm, ⟨81, _⟩ => ⟨S4x1x1x4x512x1024, .f32⟩
  | .hbm, ⟨82, _⟩ => ⟨S4x4x512x1024, .f32⟩
  | .hbm, ⟨83, _⟩ => ⟨S4x1x1x4x512x1024, .f32⟩
  | .hbm, ⟨84, _⟩ => ⟨S4x4x512x1024, .f32⟩
  | .hbm, ⟨85, _⟩ => ⟨S4x1x4x512x1024, .f32⟩
  | .hbm, ⟨86, _⟩ => ⟨S4x1x4x512x1024, .f32⟩
  | .hbm, ⟨87, _⟩ => ⟨S4x2x4x512x1024, .f32⟩
  | .hbm, ⟨88, _⟩ => ⟨S_, .f32⟩
  | .hbm, ⟨89, _⟩ => ⟨S16x1024, .f32⟩
  | .hbm, ⟨90, _⟩ => ⟨S16x1x1024, .f32⟩
  | .hbm, ⟨91, _⟩ => ⟨S32x512x1024, .f32⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== GatherKernel.lean ====
abbrev S2x1024 : Shape := ⟨2, ![2, 1024]⟩
abbrev S352x1024 : Shape := ⟨2, ![352, 1024]⟩
abbrev S8x2x1024 : Shape := ⟨3, ![8, 2, 1024]⟩
abbrev S8x352x1024 : Shape := ⟨3, ![8, 352, 1024]⟩
abbrev S14 : Shape := ⟨1, ![14]⟩
abbrev S2 : Shape := ⟨1, ![2]⟩
abbrev S1 : Shape := ⟨1, ![1]⟩
abbrev S_ : Shape := ⟨0, ![]⟩
abbrev S1x2x1024 : Shape := ⟨3, ![1, 2, 1024]⟩
abbrev S1x352x1024 : Shape := ⟨3, ![1, 352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S352x1024, .bf16⟩
  | .hbm, ⟨2, _⟩ => ⟨S8x2x1024, .f32⟩
  | .hbm, ⟨3, _⟩ => ⟨S8x352x1024, .bf16⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_28 : BitVec 32 := 0#32
  let c0_i32_29 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_31 : BitVec 32 := 0#32
  let c0_i32_32 : BitVec 32 := 0#32
  ![v21.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v62 : BitVec 32 := Scalar.muli v2 c4_i32_35
  let v63 : BitVec 32 := Scalar.addi c0_i32_36 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v64 : BitVec 32 := Scalar.muli v5 c2_i32_37
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v66 : BitVec 32 := Scalar.muli v9 c1_i32_38
  let v67 : BitVec 32 := Scalar.addi v65 v66
  v67.toNat
def k0_dev2 (d0 : Dev nD) : Nat :=
  let c0_i32_44 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_43 : BitVec 32 := 4#32
  let v74 : BitVec 32 := Scalar.muli v10 c4_i32_43
  let v75 : BitVec 32 := Scalar.addi c0_i32_44 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v76 : BitVec 32 := Scalar.muli v5 c2_i32_45
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v78 : BitVec 32 := Scalar.muli v8 c1_i32_46
  let v79 : BitVec 32 := Scalar.addi v77 v78
  v79.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v86 : BitVec 32 := Scalar.muli v2 c4_i32_51
  let v87 : BitVec 32 := Scalar.addi c0_i32_52 v86
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_53 : BitVec 32 := 2#32
  let v88 : BitVec 32 := Scalar.muli v11 c2_i32_53
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v90 : BitVec 32 := Scalar.muli v8 c1_i32_54
  let v91 : BitVec 32 := Scalar.addi v89 v90
  v91.toNat
def k0_dev4 (d0 : Dev nD) : Nat :=
  let c0_i32_59 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_58 : BitVec 32 := 4#32
  let v98 : BitVec 32 := Scalar.muli v12 c4_i32_58
  let v99 : BitVec 32 := Scalar.addi c0_i32_59 v98
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_60 : BitVec 32 := 2#32
  let v100 : BitVec 32 := Scalar.muli v13 c2_i32_60
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v102 : BitVec 32 := Scalar.muli v8 c1_i32_61
  let v103 : BitVec 32 := Scalar.addi v101 v102
  v103.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v110 : BitVec 32 := Scalar.muli v2 c4_i32_65
  let v111 : BitVec 32 := Scalar.addi c0_i32_66 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v112 : BitVec 32 := Scalar.muli v5 c2_i32_67
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v114 : BitVec 32 := Scalar.muli v9 c1_i32_68
  let v115 : BitVec 32 := Scalar.addi v113 v114
  v115.toNat
def k0_dev6 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v122 : BitVec 32 := Scalar.muli v10 c4_i32_72
  let v123 : BitVec 32 := Scalar.addi c0_i32_73 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v124 : BitVec 32 := Scalar.muli v5 c2_i32_74
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v126 : BitVec 32 := Scalar.muli v8 c1_i32_75
  let v127 : BitVec 32 := Scalar.addi v125 v126
  v127.toNat
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v134 : BitVec 32 := Scalar.muli v2 c4_i32_79
  let v135 : BitVec 32 := Scalar.addi c0_i32_80 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_81 : BitVec 32 := 2#32
  let v136 : BitVec 32 := Scalar.muli v11 c2_i32_81
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v138 : BitVec 32 := Scalar.muli v8 c1_i32_82
  let v139 : BitVec 32 := Scalar.addi v137 v138
  v139.toNat
def k0_dev8 (d0 : Dev nD) : Nat :=
  let c0_i32_87 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_86 : BitVec 32 := 4#32
  let v146 : BitVec 32 := Scalar.muli v12 c4_i32_86
  let v147 : BitVec 32 := Scalar.addi c0_i32_87 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_88 : BitVec 32 := 2#32
  let v148 : BitVec 32 := Scalar.muli v13 c2_i32_88
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v150 : BitVec 32 := Scalar.muli v8 c1_i32_89
  let v151 : BitVec 32 := Scalar.addi v149 v150
  v151.toNat
def k0_off3 (d0 : Dev nD) : Fin 3 → Nat :=
  let c4_i32_123 : BitVec 32 := 4#32
  let c1_i32_99 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v168 : BitVec 32 := Scalar.subi c1_i32_99 v160
  let v212 : BitVec 32 := Scalar.muli c4_i32_123 v168
  let c2_i32_124 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v213 : BitVec 32 := Scalar.muli c2_i32_124 v163
  let v214 : BitVec 32 := Scalar.addi v212 v213
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v215 : BitVec 32 := Scalar.addi v214 v166
  let c0_i32_131 : BitVec 32 := 0#32
  let c0_i32_132 : BitVec 32 := 0#32
  ![v215.toNat, 0, 0]
def k0_dev9 (d0 : Dev nD) : Nat :=
  let c0_i32_140 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_139 : BitVec 32 := 4#32
  let v232 : BitVec 32 := Scalar.muli v160 c4_i32_139
  let v233 : BitVec 32 := Scalar.addi c0_i32_140 v232
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_141 : BitVec 32 := 2#32
  let v234 : BitVec 32 := Scalar.muli v163 c2_i32_141
  let v235 : BitVec 32 := Scalar.addi v233 v234
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_142 : BitVec 32 := 1#32
  let v236 : BitVec 32 := Scalar.muli v167 c1_i32_142
  let v237 : BitVec 32 := Scalar.addi v235 v236
  v237.toNat
def k0_off4 (d0 : Dev nD) : Fin 3 → Nat :=
  let c4_i32_147 : BitVec 32 := 4#32
  let c1_i32_99 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v168 : BitVec 32 := Scalar.subi c1_i32_99 v160
  let v246 : BitVec 32 := Scalar.muli c4_i32_147 v168
  let c2_i32_148 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v247 : BitVec 32 := Scalar.muli c2_i32_148 v163
  let v248 : BitVec 32 := Scalar.addi v246 v247
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v249 : BitVec 32 := Scalar.addi v248 v166
  let c0_i32_155 : BitVec 32 := 0#32
  let c0_i32_156 : BitVec 32 := 0#32
  ![v249.toNat, 0, 0]
def k0_dev10 (d0 : Dev nD) : Nat :=
  let c0_i32_163 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_162 : BitVec 32 := 4#32
  let v266 : BitVec 32 := Scalar.muli v160 c4_i32_162
  let v267 : BitVec 32 := Scalar.addi c0_i32_163 v266
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_164 : BitVec 32 := 2#32
  let v268 : BitVec 32 := Scalar.muli v163 c2_i32_164
  let v269 : BitVec 32 := Scalar.addi v267 v268
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_165 : BitVec 32 := 1#32
  let v270 : BitVec 32 := Scalar.muli v167 c1_i32_165
  let v271 : BitVec 32 := Scalar.addi v269 v270
  v271.toNat
def k0_off5 (d0 : Dev nD) : Fin 3 → Nat :=
  let c4_i32_170 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v280 : BitVec 32 := Scalar.muli c4_i32_170 v160
  let c2_i32_171 : BitVec 32 := 2#32
  let c1_i32_100 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v169 : BitVec 32 := Scalar.subi c1_i32_100 v163
  let v281 : BitVec 32 := Scalar.muli c2_i32_171 v169
  let v282 : BitVec 32 := Scalar.addi v280 v281
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v283 : BitVec 32 := Scalar.addi v282 v166
  let c0_i32_178 : BitVec 32 := 0#32
  let c0_i32_179 : BitVec 32 := 0#32
  ![v283.toNat, 0, 0]
def k0_dev11 (d0 : Dev nD) : Nat :=
  let c0_i32_186 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_185 : BitVec 32 := 4#32
  let v300 : BitVec 32 := Scalar.muli v160 c4_i32_185
  let v301 : BitVec 32 := Scalar.addi c0_i32_186 v300
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_187 : BitVec 32 := 2#32
  let v302 : BitVec 32 := Scalar.muli v163 c2_i32_187
  let v303 : BitVec 32 := Scalar.addi v301 v302
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_188 : BitVec 32 := 1#32
  let v304 : BitVec 32 := Scalar.muli v167 c1_i32_188
  let v305 : BitVec 32 := Scalar.addi v303 v304
  v305.toNat
def k0_off6 (d0 : Dev nD) : Fin 3 → Nat :=
  let c4_i32_193 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v314 : BitVec 32 := Scalar.muli c4_i32_193 v160
  let c2_i32_194 : BitVec 32 := 2#32
  let c1_i32_100 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v169 : BitVec 32 := Scalar.subi c1_i32_100 v163
  let v315 : BitVec 32 := Scalar.muli c2_i32_194 v169
  let v316 : BitVec 32 := Scalar.addi v314 v315
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v317 : BitVec 32 := Scalar.addi v316 v166
  let c0_i32_201 : BitVec 32 := 0#32
  let c0_i32_202 : BitVec 32 := 0#32
  ![v317.toNat, 0, 0]
def k0_dev12 (d0 : Dev nD) : Nat :=
  let c0_i32_209 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_208 : BitVec 32 := 4#32
  let v334 : BitVec 32 := Scalar.muli v160 c4_i32_208
  let v335 : BitVec 32 := Scalar.addi c0_i32_209 v334
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_210 : BitVec 32 := 2#32
  let v336 : BitVec 32 := Scalar.muli v163 c2_i32_210
  let v337 : BitVec 32 := Scalar.addi v335 v336
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_211 : BitVec 32 := 1#32
  let v338 : BitVec 32 := Scalar.muli v167 c1_i32_211
  let v339 : BitVec 32 := Scalar.addi v337 v338
  v339.toNat
def k0_off7 (d0 : Dev nD) : Fin 3 → Nat :=
  let c4_i32_216 : BitVec 32 := 4#32
  let c1_i32_101 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v170 : BitVec 32 := Scalar.subi c1_i32_101 v160
  let v348 : BitVec 32 := Scalar.muli c4_i32_216 v170
  let c2_i32_217 : BitVec 32 := 2#32
  let c1_i32_102 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v171 : BitVec 32 := Scalar.subi c1_i32_102 v163
  let v349 : BitVec 32 := Scalar.muli c2_i32_217 v171
  let v350 : BitVec 32 := Scalar.addi v348 v349
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v351 : BitVec 32 := Scalar.addi v350 v166
  let c0_i32_224 : BitVec 32 := 0#32
  let c0_i32_225 : BitVec 32 := 0#32
  ![v351.toNat, 0, 0]
def k0_dev13 (d0 : Dev nD) : Nat :=
  let c0_i32_232 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_231 : BitVec 32 := 4#32
  let v368 : BitVec 32 := Scalar.muli v160 c4_i32_231
  let v369 : BitVec 32 := Scalar.addi c0_i32_232 v368
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_233 : BitVec 32 := 2#32
  let v370 : BitVec 32 := Scalar.muli v163 c2_i32_233
  let v371 : BitVec 32 := Scalar.addi v369 v370
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_234 : BitVec 32 := 1#32
  let v372 : BitVec 32 := Scalar.muli v167 c1_i32_234
  let v373 : BitVec 32 := Scalar.addi v371 v372
  v373.toNat
def k0_off8 (d0 : Dev nD) : Fin 3 → Nat :=
  let c4_i32_239 : BitVec 32 := 4#32
  let c1_i32_101 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v170 : BitVec 32 := Scalar.subi c1_i32_101 v160
  let v382 : BitVec 32 := Scalar.muli c4_i32_239 v170
  let c2_i32_240 : BitVec 32 := 2#32
  let c1_i32_102 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v171 : BitVec 32 := Scalar.subi c1_i32_102 v163
  let v383 : BitVec 32 := Scalar.muli c2_i32_240 v171
  let v384 : BitVec 32 := Scalar.addi v382 v383
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v385 : BitVec 32 := Scalar.addi v384 v166
  let c0_i32_247 : BitVec 32 := 0#32
  let c0_i32_248 : BitVec 32 := 0#32
  ![v385.toNat, 0, 0]
def k0_dev14 (d0 : Dev nD) : Nat :=
  let c0_i32_255 : BitVec 32 := 0#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let c4_i32_254 : BitVec 32 := 4#32
  let v402 : BitVec 32 := Scalar.muli v160 c4_i32_254
  let v403 : BitVec 32 := Scalar.addi c0_i32_255 v402
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let c2_i32_256 : BitVec 32 := 2#32
  let v404 : BitVec 32 := Scalar.muli v163 c2_i32_256
  let v405 : BitVec 32 := Scalar.addi v403 v404
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let c1_i32_257 : BitVec 32 := 1#32
  let v406 : BitVec 32 := Scalar.muli v167 c1_i32_257
  let v407 : BitVec 32 := Scalar.addi v405 v406
  v407.toNat
def k0_off9 (d0 : Dev nD) : Fin 3 → Nat :=
  let c4_i32_262 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v416 : BitVec 32 := Scalar.muli c4_i32_262 v160
  let c2_i32_263 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v417 : BitVec 32 := Scalar.muli c2_i32_263 v163
  let v418 : BitVec 32 := Scalar.addi v416 v417
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let v419 : BitVec 32 := Scalar.addi v418 v167
  let c0_i32_270 : BitVec 32 := 0#32
  let c0_i32_271 : BitVec 32 := 0#32
  ![v419.toNat, 0, 0]
def k0_off10 (d0 : Dev nD) : Fin 3 → Nat :=
  let c4_i32_275 : BitVec 32 := 4#32
  let c1_i32_99 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v168 : BitVec 32 := Scalar.subi c1_i32_99 v160
  let v433 : BitVec 32 := Scalar.muli c4_i32_275 v168
  let c2_i32_276 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v434 : BitVec 32 := Scalar.muli c2_i32_276 v163
  let v435 : BitVec 32 := Scalar.addi v433 v434
  let c1_i32_274 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v432 : BitVec 32 := Scalar.subi c1_i32_274 v166
  let v436 : BitVec 32 := Scalar.addi v435 v432
  let c0_i32_283 : BitVec 32 := 0#32
  let c0_i32_284 : BitVec 32 := 0#32
  ![v436.toNat, 0, 0]
def k0_off11 (d0 : Dev nD) : Fin 3 → Nat :=
  let c4_i32_288 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v450 : BitVec 32 := Scalar.muli c4_i32_288 v160
  let c2_i32_289 : BitVec 32 := 2#32
  let c1_i32_100 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v169 : BitVec 32 := Scalar.subi c1_i32_100 v163
  let v451 : BitVec 32 := Scalar.muli c2_i32_289 v169
  let v452 : BitVec 32 := Scalar.addi v450 v451
  let c1_i32_287 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v449 : BitVec 32 := Scalar.subi c1_i32_287 v166
  let v453 : BitVec 32 := Scalar.addi v452 v449
  let c0_i32_296 : BitVec 32 := 0#32
  let c0_i32_297 : BitVec 32 := 0#32
  ![v453.toNat, 0, 0]
def k0_off12 (d0 : Dev nD) : Fin 3 → Nat :=
  let c4_i32_301 : BitVec 32 := 4#32
  let c1_i32_101 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v170 : BitVec 32 := Scalar.subi c1_i32_101 v160
  let v467 : BitVec 32 := Scalar.muli c4_i32_301 v170
  let c2_i32_302 : BitVec 32 := 2#32
  let c1_i32_102 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v171 : BitVec 32 := Scalar.subi c1_i32_102 v163
  let v468 : BitVec 32 := Scalar.muli c2_i32_302 v171
  let v469 : BitVec 32 := Scalar.addi v467 v468
  let c1_i32_300 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v466 : BitVec 32 := Scalar.subi c1_i32_300 v166
  let v470 : BitVec 32 := Scalar.addi v469 v466
  let c0_i32_309 : BitVec 32 := 0#32
  let c0_i32_310 : BitVec 32 := 0#32
  ![v470.toNat, 0, 0]
def k0_off13 (d0 : Dev nD) : Fin 3 → Nat :=
  let c4_i32_313 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v483 : BitVec 32 := Scalar.muli c4_i32_313 v160
  let c2_i32_314 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v484 : BitVec 32 := Scalar.muli c2_i32_314 v163
  let v485 : BitVec 32 := Scalar.addi v483 v484
  let c1_i32_98 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v167 : BitVec 32 := Scalar.subi c1_i32_98 v166
  let v486 : BitVec 32 := Scalar.addi v485 v167
  let c0_i32_321 : BitVec 32 := 0#32
  let c0_i32_322 : BitVec 32 := 0#32
  ![v486.toNat, 0, 0]
def k0_off14 (d0 : Dev nD) : Fin 3 → Nat :=
  let c4_i32_326 : BitVec 32 := 4#32
  let c1_i32_99 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v168 : BitVec 32 := Scalar.subi c1_i32_99 v160
  let v500 : BitVec 32 := Scalar.muli c4_i32_326 v168
  let c2_i32_327 : BitVec 32 := 2#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v501 : BitVec 32 := Scalar.muli c2_i32_327 v163
  let v502 : BitVec 32 := Scalar.addi v500 v501
  let c1_i32_325 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v499 : BitVec 32 := Scalar.subi c1_i32_325 v166
  let v503 : BitVec 32 := Scalar.addi v502 v499
  let c0_i32_334 : BitVec 32 := 0#32
  let c0_i32_335 : BitVec 32 := 0#32
  ![v503.toNat, 0, 0]
def k0_off15 (d0 : Dev nD) : Fin 3 → Nat :=
  let c4_i32_339 : BitVec 32 := 4#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v517 : BitVec 32 := Scalar.muli c4_i32_339 v160
  let c2_i32_340 : BitVec 32 := 2#32
  let c1_i32_100 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v169 : BitVec 32 := Scalar.subi c1_i32_100 v163
  let v518 : BitVec 32 := Scalar.muli c2_i32_340 v169
  let v519 : BitVec 32 := Scalar.addi v517 v518
  let c1_i32_338 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v516 : BitVec 32 := Scalar.subi c1_i32_338 v166
  let v520 : BitVec 32 := Scalar.addi v519 v516
  let c0_i32_347 : BitVec 32 := 0#32
  let c0_i32_348 : BitVec 32 := 0#32
  ![v520.toNat, 0, 0]
def k0_off16 (d0 : Dev nD) : Fin 3 → Nat :=
  let c4_i32_352 : BitVec 32 := 4#32
  let c1_i32_101 : BitVec 32 := 1#32
  let v158 : BitVec 32 := Dev.word d0
  let c4_i32_93 : BitVec 32 := 4#32
  let v159 : BitVec 32 := Scalar.divsi v158 c4_i32_93
  let c2_i32_92 : BitVec 32 := 2#32
  let v160 : BitVec 32 := Scalar.remsi v159 c2_i32_92
  let v170 : BitVec 32 := Scalar.subi c1_i32_101 v160
  let v534 : BitVec 32 := Scalar.muli c4_i32_352 v170
  let c2_i32_353 : BitVec 32 := 2#32
  let c1_i32_102 : BitVec 32 := 1#32
  let v161 : BitVec 32 := Dev.word d0
  let c2_i32_95 : BitVec 32 := 2#32
  let v162 : BitVec 32 := Scalar.divsi v161 c2_i32_95
  let c2_i32_94 : BitVec 32 := 2#32
  let v163 : BitVec 32 := Scalar.remsi v162 c2_i32_94
  let v171 : BitVec 32 := Scalar.subi c1_i32_102 v163
  let v535 : BitVec 32 := Scalar.muli c2_i32_353 v171
  let v536 : BitVec 32 := Scalar.addi v534 v535
  let c1_i32_351 : BitVec 32 := 1#32
  let v164 : BitVec 32 := Dev.word d0
  let c1_i32_97 : BitVec 32 := 1#32
  let v165 : BitVec 32 := Scalar.divsi v164 c1_i32_97
  let c2_i32_96 : BitVec 32 := 2#32
  let v166 : BitVec 32 := Scalar.remsi v165 c2_i32_96
  let v533 : BitVec 32 := Scalar.subi c1_i32_351 v166
  let v537 : BitVec 32 := Scalar.addi v536 v533
  let c0_i32_360 : BitVec 32 := 0#32
  let c0_i32_361 : BitVec 32 := 0#32
  ![v537.toNat, 0, 0]
-- ==== GatherReference.lean ====
abbrev S16x1024 : Shape := ⟨2, ![16, 1024]⟩
abbrev S2816x1024 : Shape := ⟨2, ![2816, 1024]⟩
abbrev S8x2x1024 : Shape := ⟨3, ![8, 2, 1024]⟩
abbrev S8x352x1024 : Shape := ⟨3, ![8, 352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2816x1024, .bf16⟩
  | .hbm, ⟨2, _⟩ => ⟨S8x2x1024, .f32⟩
  | .hbm, ⟨3, _⟩ => ⟨S8x352x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SwapKernel.lean ====
abbrev S352x1024 : Shape := ⟨2, ![352, 1024]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
-- ==== SwapReference.lean ====
abbrev S2816x1024 : Shape := ⟨2, ![2816, 1024]⟩
abbrev S4x2x352x1024 : Shape := ⟨4, ![4, 2, 352, 1024]⟩
abbrev S4x1x352x1024 : Shape := ⟨4, ![4, 1, 352, 1024]⟩
abbrev S4x352x1024 : Shape := ⟨3, ![4, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4x2x352x1024, .f32⟩
  | .hbm, ⟨2, _⟩ => ⟨S4x1x352x1024, .f32⟩
  | .hbm, ⟨3, _⟩ => ⟨S4x352x1024, .f32⟩
  | .hbm, ⟨4, _⟩ => ⟨S4x1x352x1024, .f32⟩
  | .hbm, ⟨5, _⟩ => ⟨S4x352x1024, .f32⟩
  | .hbm, ⟨6, _⟩ => ⟨S4x1x352x1024, .f32⟩
  | .hbm, ⟨7, _⟩ => ⟨S4x1x352x1024, .f32⟩
  | .hbm, ⟨8, _⟩ => ⟨S4x2x352x1024, .f32⟩
  | .hbm, ⟨9, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== SmallKernel.lean ====
abbrev S168x128 : Shape := ⟨2, ![168, 128]⟩
abbrev S8x168x128 : Shape := ⟨3, ![8, 168, 128]⟩
abbrev S7 : Shape := ⟨1, ![7]⟩
abbrev S1 : Shape := ⟨1, ![1]⟩
abbrev S_ : Shape := ⟨0, ![]⟩
abbrev S1x168x128 : Shape := ⟨3, ![1, 168, 128]⟩

abbrev nBuf : Space → Nat
  | .hbm => 2
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S8x168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_18 : BitVec 32 := 0#32
  let c0_i32_19 : BitVec 32 := 0#32
  ![v17.toNat, 0, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v38 : BitVec 32 := Scalar.muli v2 c4_i32_22
  let v39 : BitVec 32 := Scalar.addi c0_i32_23 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v40 : BitVec 32 := Scalar.muli v5 c2_i32_24
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v42 : BitVec 32 := Scalar.muli v9 c1_i32_25
  let v43 : BitVec 32 := Scalar.addi v41 v42
  v43.toNat
def k0_dev2 (d0 : Dev nD) : Nat :=
  let c0_i32_31 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_30 : BitVec 32 := 4#32
  let v50 : BitVec 32 := Scalar.muli v10 c4_i32_30
  let v51 : BitVec 32 := Scalar.addi c0_i32_31 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v52 : BitVec 32 := Scalar.muli v5 c2_i32_32
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v54 : BitVec 32 := Scalar.muli v8 c1_i32_33
  let v55 : BitVec 32 := Scalar.addi v53 v54
  v55.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_40 : BitVec 32 := 2#32
  let v64 : BitVec 32 := Scalar.muli v11 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_dev4 (d0 : Dev nD) : Nat :=
  let c0_i32_46 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_45 : BitVec 32 := 4#32
  let v74 : BitVec 32 := Scalar.muli v12 c4_i32_45
  let v75 : BitVec 32 := Scalar.addi c0_i32_46 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_47 : BitVec 32 := 2#32
  let v76 : BitVec 32 := Scalar.muli v13 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_off2 (d0 : Dev nD) : Fin 3 → Nat :=
  let c4_i32_72 : BitVec 32 := 4#32
  let c1_i32_58 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v96 : BitVec 32 := Scalar.subi c1_i32_58 v88
  let v120 : BitVec 32 := Scalar.muli c4_i32_72 v96
  let c2_i32_73 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v121 : BitVec 32 := Scalar.muli c2_i32_73 v91
  let v122 : BitVec 32 := Scalar.addi v120 v121
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v123 : BitVec 32 := Scalar.addi v122 v94
  let c0_i32_80 : BitVec 32 := 0#32
  let c0_i32_81 : BitVec 32 := 0#32
  ![v123.toNat, 0, 0]
def k0_dev5 (d0 : Dev nD) : Nat :=
  let c0_i32_89 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_88 : BitVec 32 := 4#32
  let v140 : BitVec 32 := Scalar.muli v88 c4_i32_88
  let v141 : BitVec 32 := Scalar.addi c0_i32_89 v140
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_90 : BitVec 32 := 2#32
  let v142 : BitVec 32 := Scalar.muli v91 c2_i32_90
  let v143 : BitVec 32 := Scalar.addi v141 v142
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_91 : BitVec 32 := 1#32
  let v144 : BitVec 32 := Scalar.muli v95 c1_i32_91
  let v145 : BitVec 32 := Scalar.addi v143 v144
  v145.toNat
def k0_off3 (d0 : Dev nD) : Fin 3 → Nat :=
  let c4_i32_96 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v154 : BitVec 32 := Scalar.muli c4_i32_96 v88
  let c2_i32_97 : BitVec 32 := 2#32
  let c1_i32_59 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v97 : BitVec 32 := Scalar.subi c1_i32_59 v91
  let v155 : BitVec 32 := Scalar.muli c2_i32_97 v97
  let v156 : BitVec 32 := Scalar.addi v154 v155
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v157 : BitVec 32 := Scalar.addi v156 v94
  let c0_i32_104 : BitVec 32 := 0#32
  let c0_i32_105 : BitVec 32 := 0#32
  ![v157.toNat, 0, 0]
def k0_dev6 (d0 : Dev nD) : Nat :=
  let c0_i32_112 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_111 : BitVec 32 := 4#32
  let v174 : BitVec 32 := Scalar.muli v88 c4_i32_111
  let v175 : BitVec 32 := Scalar.addi c0_i32_112 v174
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_113 : BitVec 32 := 2#32
  let v176 : BitVec 32 := Scalar.muli v91 c2_i32_113
  let v177 : BitVec 32 := Scalar.addi v175 v176
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_114 : BitVec 32 := 1#32
  let v178 : BitVec 32 := Scalar.muli v95 c1_i32_114
  let v179 : BitVec 32 := Scalar.addi v177 v178
  v179.toNat
def k0_off4 (d0 : Dev nD) : Fin 3 → Nat :=
  let c4_i32_119 : BitVec 32 := 4#32
  let c1_i32_60 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v98 : BitVec 32 := Scalar.subi c1_i32_60 v88
  let v188 : BitVec 32 := Scalar.muli c4_i32_119 v98
  let c2_i32_120 : BitVec 32 := 2#32
  let c1_i32_61 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v99 : BitVec 32 := Scalar.subi c1_i32_61 v91
  let v189 : BitVec 32 := Scalar.muli c2_i32_120 v99
  let v190 : BitVec 32 := Scalar.addi v188 v189
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v191 : BitVec 32 := Scalar.addi v190 v94
  let c0_i32_127 : BitVec 32 := 0#32
  let c0_i32_128 : BitVec 32 := 0#32
  ![v191.toNat, 0, 0]
def k0_dev7 (d0 : Dev nD) : Nat :=
  let c0_i32_135 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_134 : BitVec 32 := 4#32
  let v208 : BitVec 32 := Scalar.muli v88 c4_i32_134
  let v209 : BitVec 32 := Scalar.addi c0_i32_135 v208
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_136 : BitVec 32 := 2#32
  let v210 : BitVec 32 := Scalar.muli v91 c2_i32_136
  let v211 : BitVec 32 := Scalar.addi v209 v210
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_137 : BitVec 32 := 1#32
  let v212 : BitVec 32 := Scalar.muli v95 c1_i32_137
  let v213 : BitVec 32 := Scalar.addi v211 v212
  v213.toNat
def k0_off5 (d0 : Dev nD) : Fin 3 → Nat :=
  let c4_i32_142 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v222 : BitVec 32 := Scalar.muli c4_i32_142 v88
  let c2_i32_143 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v223 : BitVec 32 := Scalar.muli c2_i32_143 v91
  let v224 : BitVec 32 := Scalar.addi v222 v223
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let v225 : BitVec 32 := Scalar.addi v224 v95
  let c0_i32_150 : BitVec 32 := 0#32
  let c0_i32_151 : BitVec 32 := 0#32
  ![v225.toNat, 0, 0]
def k0_off6 (d0 : Dev nD) : Fin 3 → Nat :=
  let c4_i32_155 : BitVec 32 := 4#32
  let c1_i32_58 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v96 : BitVec 32 := Scalar.subi c1_i32_58 v88
  let v239 : BitVec 32 := Scalar.muli c4_i32_155 v96
  let c2_i32_156 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v240 : BitVec 32 := Scalar.muli c2_i32_156 v91
  let v241 : BitVec 32 := Scalar.addi v239 v240
  let c1_i32_154 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v238 : BitVec 32 := Scalar.subi c1_i32_154 v94
  let v242 : BitVec 32 := Scalar.addi v241 v238
  let c0_i32_163 : BitVec 32 := 0#32
  let c0_i32_164 : BitVec 32 := 0#32
  ![v242.toNat, 0, 0]
def k0_off7 (d0 : Dev nD) : Fin 3 → Nat :=
  let c4_i32_168 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v256 : BitVec 32 := Scalar.muli c4_i32_168 v88
  let c2_i32_169 : BitVec 32 := 2#32
  let c1_i32_59 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v97 : BitVec 32 := Scalar.subi c1_i32_59 v91
  let v257 : BitVec 32 := Scalar.muli c2_i32_169 v97
  let v258 : BitVec 32 := Scalar.addi v256 v257
  let c1_i32_167 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v255 : BitVec 32 := Scalar.subi c1_i32_167 v94
  let v259 : BitVec 32 := Scalar.addi v258 v255
  let c0_i32_176 : BitVec 32 := 0#32
  let c0_i32_177 : BitVec 32 := 0#32
  ![v259.toNat, 0, 0]
def k0_off8 (d0 : Dev nD) : Fin 3 → Nat :=
  let c4_i32_181 : BitVec 32 := 4#32
  let c1_i32_60 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v98 : BitVec 32 := Scalar.subi c1_i32_60 v88
  let v273 : BitVec 32 := Scalar.muli c4_i32_181 v98
  let c2_i32_182 : BitVec 32 := 2#32
  let c1_i32_61 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v99 : BitVec 32 := Scalar.subi c1_i32_61 v91
  let v274 : BitVec 32 := Scalar.muli c2_i32_182 v99
  let v275 : BitVec 32 := Scalar.addi v273 v274
  let c1_i32_180 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v272 : BitVec 32 := Scalar.subi c1_i32_180 v94
  let v276 : BitVec 32 := Scalar.addi v275 v272
  let c0_i32_189 : BitVec 32 := 0#32
  let c0_i32_190 : BitVec 32 := 0#32
  ![v276.toNat, 0, 0]
-- ==== SmallReference.lean ====
abbrev S1344x128 : Shape := ⟨2, ![1344, 128]⟩
abbrev S8x168x128 : Shape := ⟨3, ![8, 168, 128]⟩

abbrev nBuf : Space → Nat
  | .hbm => 2
  | .vmem => 0
  | .smem => 0
  | _ => 0

abbrev bufTy : (tb : Table) → Fin (tcTables nBuf tb) → BufTy
  | .hbm, ⟨0, _⟩ => ⟨S1344x128, .f32⟩
  | .hbm, ⟨1, _⟩ => ⟨S8x168x128, .f32⟩
  | _, _ => ⟨S1344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ModKernel.lean ====
abbrev S8x1536 : Shape := ⟨2, ![8, 1536]⟩
abbrev S8x8x1536 : Shape := ⟨3, ![8, 8, 1536]⟩
abbrev S7 : Shape := ⟨1, ![7]⟩
abbrev S1 : Shape := ⟨1, ![1]⟩
abbrev S_ : Shape := ⟨0, ![]⟩
abbrev S1x8x1536 : Shape := ⟨3, ![1, 8, 1536]⟩

abbrev nBuf : Space → Nat
  | .hbm => 2
  | .vmem => 0
  | .smem => 0
  | _ => 0

abbrev bufTy : (tb : Table) → Fin (tcTables nBuf tb) → BufTy
  | .hbm, ⟨0, _⟩ => ⟨S8x1536, .f32⟩
  | .hbm, ⟨1, _⟩ => ⟨S8x8x1536, .f32⟩
  | _, _ => ⟨S8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_18 : BitVec 32 := 0#32
  let c0_i32_19 : BitVec 32 := 0#32
  ![v17.toNat, 0, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v38 : BitVec 32 := Scalar.muli v2 c4_i32_22
  let v39 : BitVec 32 := Scalar.addi c0_i32_23 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v40 : BitVec 32 := Scalar.muli v5 c2_i32_24
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v42 : BitVec 32 := Scalar.muli v9 c1_i32_25
  let v43 : BitVec 32 := Scalar.addi v41 v42
  v43.toNat
def k0_dev2 (d0 : Dev nD) : Nat :=
  let c0_i32_31 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_30 : BitVec 32 := 4#32
  let v50 : BitVec 32 := Scalar.muli v10 c4_i32_30
  let v51 : BitVec 32 := Scalar.addi c0_i32_31 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v52 : BitVec 32 := Scalar.muli v5 c2_i32_32
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v54 : BitVec 32 := Scalar.muli v8 c1_i32_33
  let v55 : BitVec 32 := Scalar.addi v53 v54
  v55.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_40 : BitVec 32 := 2#32
  let v64 : BitVec 32 := Scalar.muli v11 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_dev4 (d0 : Dev nD) : Nat :=
  let c0_i32_46 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_45 : BitVec 32 := 4#32
  let v74 : BitVec 32 := Scalar.muli v12 c4_i32_45
  let v75 : BitVec 32 := Scalar.addi c0_i32_46 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_47 : BitVec 32 := 2#32
  let v76 : BitVec 32 := Scalar.muli v13 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_off2 (d0 : Dev nD) : Fin 3 → Nat :=
  let c4_i32_72 : BitVec 32 := 4#32
  let c1_i32_58 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v96 : BitVec 32 := Scalar.subi c1_i32_58 v88
  let v120 : BitVec 32 := Scalar.muli c4_i32_72 v96
  let c2_i32_73 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v121 : BitVec 32 := Scalar.muli c2_i32_73 v91
  let v122 : BitVec 32 := Scalar.addi v120 v121
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v123 : BitVec 32 := Scalar.addi v122 v94
  let c0_i32_80 : BitVec 32 := 0#32
  let c0_i32_81 : BitVec 32 := 0#32
  ![v123.toNat, 0, 0]
def k0_dev5 (d0 : Dev nD) : Nat :=
  let c0_i32_89 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_88 : BitVec 32 := 4#32
  let v140 : BitVec 32 := Scalar.muli v88 c4_i32_88
  let v141 : BitVec 32 := Scalar.addi c0_i32_89 v140
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_90 : BitVec 32 := 2#32
  let v142 : BitVec 32 := Scalar.muli v91 c2_i32_90
  let v143 : BitVec 32 := Scalar.addi v141 v142
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_91 : BitVec 32 := 1#32
  let v144 : BitVec 32 := Scalar.muli v95 c1_i32_91
  let v145 : BitVec 32 := Scalar.addi v143 v144
  v145.toNat
def k0_off3 (d0 : Dev nD) : Fin 3 → Nat :=
  let c4_i32_96 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v154 : BitVec 32 := Scalar.muli c4_i32_96 v88
  let c2_i32_97 : BitVec 32 := 2#32
  let c1_i32_59 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v97 : BitVec 32 := Scalar.subi c1_i32_59 v91
  let v155 : BitVec 32 := Scalar.muli c2_i32_97 v97
  let v156 : BitVec 32 := Scalar.addi v154 v155
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v157 : BitVec 32 := Scalar.addi v156 v94
  let c0_i32_104 : BitVec 32 := 0#32
  let c0_i32_105 : BitVec 32 := 0#32
  ![v157.toNat, 0, 0]
def k0_dev6 (d0 : Dev nD) : Nat :=
  let c0_i32_112 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_111 : BitVec 32 := 4#32
  let v174 : BitVec 32 := Scalar.muli v88 c4_i32_111
  let v175 : BitVec 32 := Scalar.addi c0_i32_112 v174
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_113 : BitVec 32 := 2#32
  let v176 : BitVec 32 := Scalar.muli v91 c2_i32_113
  let v177 : BitVec 32 := Scalar.addi v175 v176
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_114 : BitVec 32 := 1#32
  let v178 : BitVec 32 := Scalar.muli v95 c1_i32_114
  let v179 : BitVec 32 := Scalar.addi v177 v178
  v179.toNat
def k0_off4 (d0 : Dev nD) : Fin 3 → Nat :=
  let c4_i32_119 : BitVec 32 := 4#32
  let c1_i32_60 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v98 : BitVec 32 := Scalar.subi c1_i32_60 v88
  let v188 : BitVec 32 := Scalar.muli c4_i32_119 v98
  let c2_i32_120 : BitVec 32 := 2#32
  let c1_i32_61 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v99 : BitVec 32 := Scalar.subi c1_i32_61 v91
  let v189 : BitVec 32 := Scalar.muli c2_i32_120 v99
  let v190 : BitVec 32 := Scalar.addi v188 v189
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v191 : BitVec 32 := Scalar.addi v190 v94
  let c0_i32_127 : BitVec 32 := 0#32
  let c0_i32_128 : BitVec 32 := 0#32
  ![v191.toNat, 0, 0]
def k0_dev7 (d0 : Dev nD) : Nat :=
  let c0_i32_135 : BitVec 32 := 0#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let c4_i32_134 : BitVec 32 := 4#32
  let v208 : BitVec 32 := Scalar.muli v88 c4_i32_134
  let v209 : BitVec 32 := Scalar.addi c0_i32_135 v208
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let c2_i32_136 : BitVec 32 := 2#32
  let v210 : BitVec 32 := Scalar.muli v91 c2_i32_136
  let v211 : BitVec 32 := Scalar.addi v209 v210
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let c1_i32_137 : BitVec 32 := 1#32
  let v212 : BitVec 32 := Scalar.muli v95 c1_i32_137
  let v213 : BitVec 32 := Scalar.addi v211 v212
  v213.toNat
def k0_off5 (d0 : Dev nD) : Fin 3 → Nat :=
  let c4_i32_142 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v222 : BitVec 32 := Scalar.muli c4_i32_142 v88
  let c2_i32_143 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v223 : BitVec 32 := Scalar.muli c2_i32_143 v91
  let v224 : BitVec 32 := Scalar.addi v222 v223
  let c1_i32_57 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v95 : BitVec 32 := Scalar.subi c1_i32_57 v94
  let v225 : BitVec 32 := Scalar.addi v224 v95
  let c0_i32_150 : BitVec 32 := 0#32
  let c0_i32_151 : BitVec 32 := 0#32
  ![v225.toNat, 0, 0]
def k0_off6 (d0 : Dev nD) : Fin 3 → Nat :=
  let c4_i32_155 : BitVec 32 := 4#32
  let c1_i32_58 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v96 : BitVec 32 := Scalar.subi c1_i32_58 v88
  let v239 : BitVec 32 := Scalar.muli c4_i32_155 v96
  let c2_i32_156 : BitVec 32 := 2#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v240 : BitVec 32 := Scalar.muli c2_i32_156 v91
  let v241 : BitVec 32 := Scalar.addi v239 v240
  let c1_i32_154 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v238 : BitVec 32 := Scalar.subi c1_i32_154 v94
  let v242 : BitVec 32 := Scalar.addi v241 v238
  let c0_i32_163 : BitVec 32 := 0#32
  let c0_i32_164 : BitVec 32 := 0#32
  ![v242.toNat, 0, 0]
def k0_off7 (d0 : Dev nD) : Fin 3 → Nat :=
  let c4_i32_168 : BitVec 32 := 4#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v256 : BitVec 32 := Scalar.muli c4_i32_168 v88
  let c2_i32_169 : BitVec 32 := 2#32
  let c1_i32_59 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v97 : BitVec 32 := Scalar.subi c1_i32_59 v91
  let v257 : BitVec 32 := Scalar.muli c2_i32_169 v97
  let v258 : BitVec 32 := Scalar.addi v256 v257
  let c1_i32_167 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v255 : BitVec 32 := Scalar.subi c1_i32_167 v94
  let v259 : BitVec 32 := Scalar.addi v258 v255
  let c0_i32_176 : BitVec 32 := 0#32
  let c0_i32_177 : BitVec 32 := 0#32
  ![v259.toNat, 0, 0]
def k0_off8 (d0 : Dev nD) : Fin 3 → Nat :=
  let c4_i32_181 : BitVec 32 := 4#32
  let c1_i32_60 : BitVec 32 := 1#32
  let v86 : BitVec 32 := Dev.word d0
  let c4_i32_52 : BitVec 32 := 4#32
  let v87 : BitVec 32 := Scalar.divsi v86 c4_i32_52
  let c2_i32_51 : BitVec 32 := 2#32
  let v88 : BitVec 32 := Scalar.remsi v87 c2_i32_51
  let v98 : BitVec 32 := Scalar.subi c1_i32_60 v88
  let v273 : BitVec 32 := Scalar.muli c4_i32_181 v98
  let c2_i32_182 : BitVec 32 := 2#32
  let c1_i32_61 : BitVec 32 := 1#32
  let v89 : BitVec 32 := Dev.word d0
  let c2_i32_54 : BitVec 32 := 2#32
  let v90 : BitVec 32 := Scalar.divsi v89 c2_i32_54
  let c2_i32_53 : BitVec 32 := 2#32
  let v91 : BitVec 32 := Scalar.remsi v90 c2_i32_53
  let v99 : BitVec 32 := Scalar.subi c1_i32_61 v91
  let v274 : BitVec 32 := Scalar.muli c2_i32_182 v99
  let v275 : BitVec 32 := Scalar.addi v273 v274
  let c1_i32_180 : BitVec 32 := 1#32
  let v92 : BitVec 32 := Dev.word d0
  let c1_i32_56 : BitVec 32 := 1#32
  let v93 : BitVec 32 := Scalar.divsi v92 c1_i32_56
  let c2_i32_55 : BitVec 32 := 2#32
  let v94 : BitVec 32 := Scalar.remsi v93 c2_i32_55
  let v272 : BitVec 32 := Scalar.subi c1_i32_180 v94
  let v276 : BitVec 32 := Scalar.addi v275 v272
  let c0_i32_189 : BitVec 32 := 0#32
  let c0_i32_190 : BitVec 32 := 0#32
  ![v276.toNat, 0, 0]
-- ==== ModReference.lean ====
abbrev S64x1536 : Shape := ⟨2, ![64, 1536]⟩
abbrev S8x8x1536 : Shape := ⟨3, ![8, 8, 1536]⟩

abbrev nBuf : Space → Nat
  | .hbm => 2
  | .vmem => 0
  | .smem => 0
  | _ => 0

abbrev bufTy : (tb : Table) → Fin (tcTables nBuf tb) → BufTy
  | .hbm, ⟨0, _⟩ => ⟨S64x1536, .f32⟩
  | .hbm, ⟨1, _⟩ => ⟨S8x8x1536, .f32⟩
  | _, _ => ⟨S64x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamUpKernel.lean ====
abbrev S512x1024 : Shape := ⟨2, ![512, 1024]⟩
abbrev S1 : Shape := ⟨1, ![1]⟩
abbrev S1024x1024 : Shape := ⟨2, ![1024, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpReferenceIdeal.lean ====
abbrev S512x1024 : Shape := ⟨2, ![512, 1024]⟩
abbrev S1 : Shape := ⟨1, ![1]⟩
abbrev S1024x1024 : Shape := ⟨2, ![1024, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1, .i32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamInKernel.lean ====
abbrev S352x1024 : Shape := ⟨2, ![352, 1024]⟩
abbrev S1 : Shape := ⟨1, ![1]⟩
abbrev S704x1024 : Shape := ⟨2, ![704, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S352x1024 : Shape := ⟨2, ![352, 1024]⟩
abbrev S1 : Shape := ⟨1, ![1]⟩
abbrev S704x1024 : Shape := ⟨2, ![704, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1, .i32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOutKernel.lean ====
abbrev S256x512 : Shape := ⟨2, ![256, 512]⟩
abbrev S1 : Shape := ⟨1, ![1]⟩
abbrev S256x1024 : Shape := ⟨2, ![256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .smem, ⟨0, _⟩ => ⟨S1, .i32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutReferenceIdeal.lean ====
abbrev S256x512 : Shape := ⟨2, ![256, 512]⟩
abbrev S1 : Shape := ⟨1, ![1]⟩
abbrev S256x1024 : Shape := ⟨2, ![256, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1, .i32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x512, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdaKernel.lean ====
abbrev S16x1024 : Shape := ⟨2, ![16, 1024]⟩
abbrev S16x1536 : Shape := ⟨2, ![16, 1536]⟩
abbrev S1024x1536 : Shape := ⟨2, ![1024, 1536]⟩
abbrev S16x256 : Shape := ⟨2, ![16, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S16x1024, .f32⟩
  | .local _ .vmem, ⟨1, _⟩ => ⟨S16x256, .f32⟩
  | .local _ .vmem, ⟨2, _⟩ => ⟨S16x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaReferenceIdeal.lean ====
abbrev S16x1024 : Shape := ⟨2, ![16, 1024]⟩
abbrev S16x1536 : Shape := ⟨2, ![16, 1536]⟩
abbrev S1024x1536 : Shape := ⟨2, ![1024, 1536]⟩
abbrev S_ : Shape := ⟨0, ![]⟩
abbrev S1024x16 : Shape := ⟨2, ![1024, 16]⟩

abbrev nBuf : Space → Nat
  | .hbm => 49
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S1024x16, .f32⟩
  | .hbm, ⟨15, _⟩ => ⟨S1024x1536, .f32⟩
  | .hbm, ⟨16, _⟩ => ⟨S_, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | .hbm, ⟨41, _⟩ => ⟨S1024x1536, .f32⟩
  | .hbm, ⟨42, _⟩ => ⟨S_, .f32⟩
  | .hbm, ⟨43, _⟩ => ⟨S1024x1536, .f32⟩
  | .hbm, ⟨44, _⟩ => ⟨S1024x1536, .f32⟩
  | .hbm, ⟨45, _⟩ => ⟨S1024x1536, .f32⟩
  | .hbm, ⟨46, _⟩ => ⟨S_, .f32⟩
  | .hbm, ⟨47, _⟩ => ⟨S1024x1536, .f32⟩
  | .hbm, ⟨48, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== UpdateKernel.lean ====
abbrev S8x168x128 : Shape := ⟨3, ![8, 168, 128]⟩
abbrev S120x128 : Shape := ⟨2, ![120, 128]⟩
abbrev S8x128 : Shape := ⟨2, ![8, 128]⟩
abbrev S1x168x128 : Shape := ⟨3, ![1, 168, 128]⟩
abbrev S168x128 : Shape := ⟨2, ![168, 128]⟩
abbrev S48x128 : Shape := ⟨2, ![48, 128]⟩
abbrev S56x128 : Shape := ⟨2, ![56, 128]⟩

abbrev nBuf : Space → Nat
  | .hbm => 9
  | .vmem => 9
  | .smem => 0
  | _ => 0

abbrev bufTy : (tb : Table) → Fin (tcTables nBuf tb) → BufTy
  | .hbm, ⟨0, _⟩ => ⟨S8x168x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .hbm, ⟨8, _⟩ => ⟨S8x128, .f32⟩
  | .local _ .vmem, ⟨0, _⟩ => ⟨S8x168x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | .local _ .vmem, ⟨8, _⟩ => ⟨S8x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== UpdateReferenceIdeal.lean ====
abbrev S8x168x128 : Shape := ⟨3, ![8, 168, 128]⟩
abbrev S120x128 : Shape := ⟨2, ![120, 128]⟩
abbrev S_ : Shape := ⟨0, ![]⟩
abbrev S168x128 : Shape := ⟨2, ![168, 128]⟩
abbrev S8x128 : Shape := ⟨2, ![8, 128]⟩
abbrev S48x128 : Shape := ⟨2, ![48, 128]⟩
abbrev S56x128 : Shape := ⟨2, ![56, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x168x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S168x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S_, .f32⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S8x128, .f32⟩
  | .hbm, ⟨23, _⟩ => ⟨S48x128, .f32⟩
  | .hbm, ⟨24, _⟩ => ⟨S48x128, .f32⟩
  | .hbm, ⟨25, _⟩ => ⟨S48x128, .f32⟩
  | .hbm, ⟨26, _⟩ => ⟨S56x128, .f32⟩
  | .hbm, ⟨27, _⟩ => ⟨S8x128, .f32⟩
  | .hbm, ⟨28, _⟩ => ⟨S120x128, .f32⟩
  | .hbm, ⟨29, _⟩ => ⟨S_, .f32⟩
  | .hbm, ⟨30, _⟩ => ⟨S120x128, .f32⟩
  | .hbm, ⟨31, _⟩ => ⟨S120x128, .f32⟩
  | .hbm, ⟨32, _⟩ => ⟨S_, .f32⟩
  | .hbm, ⟨33, _⟩ => ⟨S120x128, .f32⟩
  | .hbm, ⟨34, _⟩ => ⟨S120x128, .f32⟩
  | .hbm, ⟨35, _⟩ => ⟨S120x128, .f32⟩
  | .hbm, ⟨36, _⟩ => ⟨S_, .f32⟩
  | .hbm, ⟨37, _⟩ => ⟨S120x128, .f32⟩
  | .hbm, ⟨38, _⟩ => ⟨S120x128, .f32⟩
  | .hbm, ⟨39, _⟩ => ⟨S120x128, .f32⟩
  | .hbm, ⟨40, _⟩ => ⟨S_, .f32⟩
  | .hbm, ⟨41, _⟩ => ⟨S120x128, .f32⟩
  | .hbm, ⟨42, _⟩ => ⟨S120x128, .f32⟩
  | .hbm, ⟨43, _⟩ => ⟨S120x128, .f32⟩
  | .hbm, ⟨44, _⟩ => ⟨S_, .f32⟩
  | .hbm, ⟨45, _⟩ => ⟨S120x128, .f32⟩
  | .hbm, ⟨46, _⟩ => ⟨S120x128, .f32⟩
  | .hbm, ⟨47, _⟩ => ⟨S_, .f32⟩
  | .hbm, ⟨48, _⟩ => ⟨S120x128, .f32⟩
  | .hbm, ⟨49, _⟩ => ⟨S120x128, .f32⟩
  | .hbm, ⟨50, _⟩ => ⟨S120x128, .f32⟩
  | .hbm, ⟨51, _⟩ => ⟨S_, .f32⟩
  | .hbm, ⟨52, _⟩ => ⟨S120x128, .f32⟩
  | .hbm, ⟨53, _⟩ => ⟨S120x128, .f32⟩
  | .hbm, ⟨54, _⟩ => ⟨S120x128, .f32⟩
  | .hbm, ⟨55, _⟩ => ⟨S_, .f32⟩
  | .hbm, ⟨56, _⟩ => ⟨S120x128, .f32⟩
  | .hbm, ⟨57, _⟩ => ⟨S120x128, .f32⟩
  | .hbm, ⟨58, _⟩ => ⟨S120x128, .f32⟩
  | .hbm, ⟨59, _⟩ => ⟨S_, .f32⟩
  | .hbm, ⟨60, _⟩ => ⟨S120x128, .f32⟩
  | .hbm, ⟨61, _⟩ => ⟨S120x128, .f32⟩
  | .hbm, ⟨62, _⟩ => ⟨S8x128, .f32⟩
  | _, _ => ⟨S8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== NormKernel.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S2x1x1024, .f32⟩
  | .hbm, ⟨7, _⟩ => ⟨S2x1x1024, .f32⟩
  | .hbm, ⟨8, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c0_i32_19 : BitVec 32 := 0#32
  let v43 : BitVec 1 := Scalar.cmpi .eq arg1 c0_i32_19
  let v45 : BitVec 32 := Scalar.extui v43
  let c0_i32_20 : BitVec 32 := 0#32
  let v46 : BitVec 1 := Scalar.cmpi .ne v45 c0_i32_20
  v46

def k0_cond4 (i : grid0.Coords) : BitVec 1 :=
  let arg1 : BitVec 32 := BitVec.ofNat 32 (i 1).val
  let c0_i32_19 : BitVec 32 := 0#32
  let v43 : BitVec 1 := Scalar.cmpi .eq arg1 c0_i32_19
  let true_21 : BitVec 1 := 1#1
  let v47 : BitVec 1 := Scalar.xori v43 true_21
  let v48 : BitVec 32 := Scalar.extui v47
  let c0_i32_22 : BitVec 32 := 0#32
  let v49 : BitVec 1 := Scalar.cmpi .ne v48 c0_i32_22
  v49

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v38 : BitVec 32 := Scalar.extui v35
  let c0_i32_17 : BitVec 32 := 0#32
  let v39 : BitVec 1 := Scalar.cmpi .ne v38 c0_i32_17
  v39

def k0_cond2 (i : grid0.Coords) : BitVec 1 :=
  let arg1 : BitVec 32 := BitVec.ofNat 32 (i 1).val
  let c0_i32 : BitVec 32 := 0#32
  let v35 : BitVec 1 := Scalar.cmpi .eq arg1 c0_i32
  let v_true : BitVec 1 := 1#1
  let v40 : BitVec 1 := Scalar.xori v35 v_true
  let v41 : BitVec 32 := Scalar.extui v40
  let c0_i32_18 : BitVec 32 := 0#32
  let v42 : BitVec 1 := Scalar.cmpi .ne v41 c0_i32_18
  v42

def k0_cond5 (i : grid0.Coords) : BitVec 1 :=
  let arg0 : BitVec 32 := BitVec.ofNat 32 (i 0).val
  let c0_i32_23 : BitVec 32 := 0#32
  let v50 : BitVec 1 := Scalar.cmpi .eq arg0 c0_i32_23
  let arg1 : BitVec 32 := BitVec.ofNat 32 (i 1).val
  let c0_i32_24 : BitVec 32 := 0#32
  let v51 : BitVec 1 := Scalar.cmpi .eq arg1 c0_i32_24
  let v52 : BitVec 1 := Scalar.andi v50 v51
  let v54 : BitVec 32 := Scalar.extui v52
  let c0_i32_25 : BitVec 32 := 0#32
  let v55 : BitVec 1 := Scalar.cmpi .ne v54 c0_i32_25
  v55

def k0_cond6 (i : grid0.Coords) : BitVec 1 :=
  let arg0 : BitVec 32 := BitVec.ofNat 32 (i 0).val
  let c0_i32_23 : BitVec 32 := 0#32
  let v50 : BitVec 1 := Scalar.cmpi .eq arg0 c0_i32_23
  let arg1 : BitVec 32 := BitVec.ofNat 32 (i 1).val
  let c0_i32_24 : BitVec 32 := 0#32
  let v51 : BitVec 1 := Scalar.cmpi .eq arg1 c0_i32_24
  let v52 : BitVec 1 := Scalar.andi v50 v51
  let true_26 : BitVec 1 := 1#1
  let v56 : BitVec 1 := Scalar.xori v52 true_26
  let v57 : BitVec 32 := Scalar.extui v56
  let c0_i32_27 : BitVec 32 := 0#32
  let v58 : BitVec 1 := Scalar.cmpi .ne v57 c0_i32_27
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== NormReferenceIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S1x1x1024, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x1024, .f32⟩
  | .hbm, ⟨41, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== OutGradKernel.lean ====
abbrev S4096x1024 : Shape := ⟨2, ![4096, 1024]⟩
abbrev S2x4x256x512 : Shape := ⟨4, ![2, 4, 256, 512]⟩
abbrev S4096x512 : Shape := ⟨2, ![4096, 512]⟩
abbrev S1x2x256x512 : Shape := ⟨4, ![1, 2, 256, 512]⟩
abbrev S512x512 : Shape := ⟨2, ![512, 512]⟩
abbrev S2x256x512 : Shape := ⟨3, ![2, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x4x256x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x2x256x512, .f32⟩
  | .local _ .vmem, ⟨5, _⟩ => ⟨S1x2x256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGradReferenceIdeal.lean ====
abbrev S4096x1024 : Shape := ⟨2, ![4096, 1024]⟩
abbrev S1024x4096 : Shape := ⟨2, ![1024, 4096]⟩
abbrev S1024x1024 : Shape := ⟨2, ![1024, 1024]⟩
abbrev S4x256x2x512 : Shape := ⟨4, ![4, 256, 2, 512]⟩
abbrev S2x4x256x512 : Shape := ⟨4, ![2, 4, 256, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S4x256x2x512, .f32⟩
  | .hbm, ⟨7, _⟩ => ⟨S2x4x256x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpGradKernel.lean ====
abbrev S4096x1024 : Shape := ⟨2, ![4096, 1024]⟩
abbrev S4096x4096 : Shape := ⟨2, ![4096, 4096]⟩
abbrev S2x4x512x1024 : Shape := ⟨4, ![2, 4, 512, 1024]⟩
abbrev S4096x512 : Shape := ⟨2, ![4096, 512]⟩
abbrev S2x1x512x512 : Shape := ⟨4, ![2, 1, 512, 512]⟩
abbrev S1024x512 : Shape := ⟨2, ![1024, 512]⟩
abbrev S2x512x512 : Shape := ⟨3, ![2, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S2x4x512x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S2x1x512x512, .f32⟩
  | .local _ .vmem, ⟨4, _⟩ => ⟨S2x1x512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== UpGradReferenceIdeal.lean ====
abbrev S4096x1024 : Shape := ⟨2, ![4096, 1024]⟩
abbrev S4096x4096 : Shape := ⟨2, ![4096, 4096]⟩
abbrev S1024x4096 : Shape := ⟨2, ![1024, 4096]⟩
abbrev S2x512x4x1024 : Shape := ⟨4, ![2, 512, 4, 1024]⟩
abbrev S2x4x512x1024 : Shape := ⟨4, ![2, 4, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S1024x4096, .f32⟩
  | .hbm, ⟨6, _⟩ => ⟨S2x512x4x1024, .f32⟩
  | .hbm, ⟨7, _⟩ => ⟨S2x4x512x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownGradKernel.lean ====
abbrev S4096x4096 : Shape := ⟨2, ![4096, 4096]⟩
abbrev S4096x1024 : Shape := ⟨2, ![4096, 1024]⟩
abbrev S2x4x512x1024 : Shape := ⟨4, ![2, 4, 512, 1024]⟩
abbrev S4096x512 : Shape := ⟨2, ![4096, 512]⟩
abbrev S1x1x512x1024 : Shape := ⟨4, ![1, 1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S2x4x512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownGradReferenceIdeal.lean ====
abbrev S4096x4096 : Shape := ⟨2, ![4096, 4096]⟩
abbrev S4096x1024 : Shape := ⟨2, ![4096, 1024]⟩
abbrev S4x2x512x1024 : Shape := ⟨4, ![4, 2, 512, 1024]⟩
abbrev S2x4x512x1024 : Shape := ⟨4, ![2, 4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4x2x512x1024, .f32⟩
  | .hbm, ⟨8, _⟩ => ⟨S2x4x512x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DownKernel.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ModPartKernel.lean ====
abbrev S16x1024 : Shape := ⟨2, ![16, 1024]⟩
abbrev S1024x1536 : Shape := ⟨2, ![1024, 1536]⟩
abbrev S1x1536 : Shape := ⟨2, ![1, 1536]⟩
abbrev S16x1536 : Shape := ⟨2, ![16, 1536]⟩
abbrev S1024x512 : Shape := ⟨2, ![1024, 512]⟩
abbrev S1x512 : Shape := ⟨2, ![1, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1536, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModPartReferenceIdeal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== OutProjKernel.lean ====
abbrev S2x2048x1024 : Shape := ⟨3, ![2, 2048, 1024]⟩
abbrev S1024x1024 : Shape := ⟨2, ![1024, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S2x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjReferenceIdeal.lean ====
abbrev S2x2048x1024 : Shape := ⟨3, ![2, 2048, 1024]⟩
abbrev S1024x1024 : Shape := ⟨2, ![1024, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S1024x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x1x1024, .f32⟩
  | .hbm, ⟨48, _⟩ => ⟨S2x1x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== DownProjKernel.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1x1024 : Shape := ⟨2, ![1, 1024]⟩
abbrev S2x1x1024 : Shape := ⟨3, ![2, 1, 1024]⟩
abbrev S1x128 : Shape := ⟨2, ![1, 128]⟩
abbrev S1x512x4096 : Shape := ⟨3, ![1, 512, 4096]⟩
abbrev S1x512x1024 : Shape := ⟨3, ![1, 512, 1024]⟩
abbrev S1x1x1024 : Shape := ⟨3, ![1, 1, 1024]⟩
abbrev S1x256x4096 : Shape := ⟨3, ![1, 256, 4096]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1 : Shape := ⟨2, ![1, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x4096, .bf16⟩
  | .hbm, ⟨1, _⟩ => ⟨S4096x1024, .bf16⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S1x128, .f32⟩
  | .hbm, ⟨7, _⟩ => ⟨S2x2048x1024, .f32⟩
  | .hbm, ⟨8, _⟩ => ⟨S2x2048x1024, .bf16⟩
  | .hbm, ⟨9, _⟩ => ⟨S2x1x1024, .f32⟩
  | .hbm, ⟨10, _⟩ => ⟨S1x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x128, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DownProjReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S4096x1024, .bf16⟩
  | .hbm, ⟨2, _⟩ => ⟨S2x2048x1024, .f32⟩
  | .hbm, ⟨3, _⟩ => ⟨S1x1024, .f32⟩
  | .hbm, ⟨4, _⟩ => ⟨S2x1x1024, .f32⟩
  | .hbm, ⟨5, _⟩ => ⟨S2x2048x1024, .f32⟩
  | .hbm, ⟨6, _⟩ => ⟨S2x2048x4096, .bf16⟩
  | .hbm, ⟨7, _⟩ => ⟨S2x2048x4096, .f32⟩
  | .hbm, ⟨8, _⟩ => ⟨S4096x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S_, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x1x1024, .f32⟩
  | .hbm, ⟨45, _⟩ => ⟨S2x1x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S1x128, .f32⟩
  | .hbm, ⟨61, _⟩ => ⟨S2x2048x1024, .bf16⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Plain.lean ====
/-
# What every call uses

Blocks and views that start at the origin of an axis, and tables of one row.
-/
module

public import Mathlib.Data.Fin.Basic

@[expose] public section

namespace Cert

/-- A place in the first block of an axis is the place in the array. -/
theorem at_zero (b n : Nat) : 0 * b + n = n := (congrArg (· + n) (Nat.zero_mul b)).trans (Nat.zero_add n)

/-- A place in a view that starts at the origin, with stride one. -/
theorem from_zero (n : Nat) : 0 + 1 * n = n := (Nat.zero_add _).trans (Nat.one_mul n)

/-- Tables of one row are equal if their rows are. -/
theorem one_row {α : Fin 1 → Type*} {f g : (i : Fin 1) → α i} (h : f 0 = g 0) : f = g :=
  funext fun | 0 => h

end Cert
-- ==== Proof.LoneCall.lean ====
/-
# A program that is one kernel call, launched with every device's arrays in hand

A kernel of this problem copies into a result array of its peer without any handshake: the peer's array is there from
the start of the program. So what a device must hold when its body starts is not its own buffer but its peer's, and
the exchange of the two has to be made once, for all devices, before any of them runs. `run_lone_call` is the launch
with that step: `deal` receives the own semaphores, the arrays that no window stages and the launch credits of ALL
devices, and gives each device what its body starts from.
-/
module

public import proofs.«01_k».proof.Proof.Plain
public import Idealize.ShloMosaic.Lib.Pipeline.Launch
public import Idealize.ShloMosaic.Lib.Pipeline.RegionArrays

@[expose] public section

set_option Elab.async false

noncomputable section

namespace Cert.Proof.LoneCall

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (phinj : Function.Injective (cellOf (nD := nD) (τ := τ) (pin pcs a))) (p : P)

local notation "pcfg" => pin pcs a p

variable {K : Type} [Fintype K] {osem : K → SemLoc sig} (hw : WinFacts₀ (pin pcs a p).spec) (ho : OwnSemFacts (pin pcs a p).spec osem)
variable (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- What the launch hands device `c` besides what the whole machine shares: its scoped buffers, its staging cells, its
    idle semaphores, the arrays behind its windows, and what it owes. -/
def mine (m : (ℓ : Loc nD τ sig) → Buf Val ℓ) (O₀ : Dev nD → CellTallies nD τ sig Unit) (c : Dev nD) : sProp 𝕄 :=
  iprop(scopedBufs c.tc ∗ cellsSems0 (pin pcs a) p c ∗ idleSems0 (K := K) (pin pcs a) phinj p ho c
    ∗ (bigSep Finset.univ fun w => ((c.tc.loc (arrRef (pcfg).spec w)) ↦{fullShare} m (c.tc.loc (arrRef (pcfg).spec w)) : sProp 𝕄))
    ∗ owes c.tc (O₀ c) ∅)

/-- What device `c` brings to the machine-wide deal: its own semaphores at zero, the arrays no window stages, and the
    credits for what the other devices owe its cells. -/
def ours (osem : K → SemLoc sig) (m : (ℓ : Loc nD τ sig) → Buf Val ℓ) (O₀ : Dev nD → CellTallies nD τ sig Unit) (c : Dev nD) : sProp 𝕄 :=
  iprop(ownSems0 osem c ∗ unscopedRest (pcfg).spec c (fun b => m (c.tc.loc b)) ∗ launchCred O₀ c)

include hw in
/-- A device's launch holdings split into its own part, its part of the deal, and its level facts. -/
theorem core_parts (hdistinct : Function.Injective (arrRef (pcfg).spec)) (O₀ : Dev nD → CellTallies nD τ sig Unit)
    (m : (ℓ : Loc nD τ sig) → Buf Val ℓ) (g : Dev nD → PrngReg) (c : Dev nD) :
    (coreInit (owing O₀) 0 (⟨m, fun _ => 0, g⟩ : MemSt nD τ sig Val) c.tc : sProp 𝕄)
      ⊢ iprop(mine pcs a phinj p ho m O₀ c ∗ ours pcs a p osem m O₀ c ∗ levels0 c) := by
  have hss := scopedSems0_split (pin pcs a) phinj p hw ho (Ix := Unit) (Val := Val) (Name := ℕ) (U := U) (Lvl := ℕ) c
  have hub := unscopedBufs_split (pin pcs a) p hw.arr_unscoped hdistinct (Ix := Unit) (Name := ℕ) (U := U) (Lvl := ℕ) c (fun b => m (c.tc.loc b))
  refine (coreInit_boundary_owing O₀ m g c).trans ?_
  unfold boundary mine ours
  rw [hss, hub]
  iintro ⟨⟨Hsc, ⟨⟨Hcells, Hown⟩, Hidle⟩, -⟩, ⟨Harr, Hrest⟩, -, HO, Hlv, -, Hcr⟩
  isplitl [Hsc Hcells Hidle Harr HO]
  · isplitl [Hsc]; · iexact Hsc
    isplitl [Hcells]; · iexact Hcells
    isplitl [Hidle]; · iexact Hidle
    isplitl [Harr] <;> iassumption
  isplitl [Hown Hrest Hcr]
  · isplitl [Hown]; · iexact Hown
    isplitl [Hrest] <;> iassumption
  iexact Hlv

/-- The level facts of all devices, assigned once: every cell at every index of `L` gets the level `lv` says. -/
theorem levels_dealt (L : GSem nD τ sig → Finset Unit) (lv : GSem nD τ sig → Unit → ℕ)
    (hL : ∀ g : GSem nD τ sig, g.1.2 ≠ .tc → L g = ∅) :
    (bigSep Finset.univ fun c : Dev nD => (levels0 c : sProp 𝕄)) ⊢ |==> levAts L lv := by
  refine (bigSep_mono fun c _ => lev_assign_cells c.tc L lv).trans <| (BI.bigSep_bupd _ _).trans <| BI.bupd_mono ?_
  have hothers (d : Dev nD) (q : Proc τ) (hq : q ≠ .tc) : (coreLevAts ((d, q) : Thread nD τ) L lv : sProp 𝕄) = BI.emp := by
    unfold coreLevAts
    rw [bigSep_congr (Ψ := fun _ : SemLoc sig => (BI.emp : sProp 𝕄)) fun sm _ => by
      rw [hL (((d, q) : Thread nD τ), sm) hq, BI.bigSep_empty], BI.bigSep_emp_const]
  have hall : (levAts L lv : sProp 𝕄) = bigSep Finset.univ fun c : Thread nD τ => coreLevAts c L lv :=
    bigSep_univ_prod fun g : GSem nD τ sig => bigSep (L g) fun ι => levAt g ι (lv g ι)
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun q hq => hothers d q (Finset.ne_of_mem_erase hq), BI.bigSep_emp_const],
      BI.bigSep_emp_const]
  have hsplit : (bigSep Finset.univ fun c : Dev nD =>
        iprop((bigSep Finset.univ fun sm : SemLoc sig => levels (c.tc, sm) (L (c.tc, sm))) ∗ coreLevAts c.tc L lv))
      ⊢ (levAts L lv : sProp 𝕄) := by
    rw [hall, bigSep_threads (fun c : Thread nD τ => coreLevAts c L lv), hrest, bigSep_sep']
    iintro ⟨-, H⟩
    isplitl [H]; · iexact H
    iempintro
  exact hsplit

/-- What a device ends with: its windows' arrays as the pipeline leaves them, what the body kept, its scoped semaphores. -/
def ends (Y : Dev nD → sProp 𝕄) (c : Dev nD) : sProp 𝕄 :=
  iprop((pdats p c).arrays (fun w => (pdats p c).arrAt w (pcfg).N) ∗ Y c ∗ scopedSems0 c.tc)

include hw in
/-- One device's run: from its own part, the level facts, the pipeline's ghost cells and what the deal gave it, the
    call runs and leaves the device at `ends`. -/
theorem core_run [∀ e, Nonempty (Val e)] [EP.LandsIn (upEmb : UEmb _ 𝕄)]
    (m : (ℓ : Loc nD τ sig) → Buf Val ℓ)
    (hpre : (pcs p).pre.K = 0)
    (c : Dev nD)
    (hbody : BodyObligation (pdats p c) defs₀ 𝒱₀ () Set.univ)
    (hne : ∀ w : Fin (pcfg).W, 0 < ((pcfg).spec w).block.numel)
    (harr : ∀ w, ((pcfg).spec w).arr.IsWhole) (hstage : ∀ w s, (((pcfg).spec w).stage s).IsWhole)
    (hshare : ∀ w, (pdats p c).share w = fullShare)
    (O₀ : Dev nD → CellTallies nD τ sig Unit) (howed₀ : (pdats p c).owed 0 = O₀ c) (howedN : (pdats p c).owed (Fin.last _) = 0)
    (hA : ∀ w, (pdats p c).A w = m (((pcfg).spec w).arr.view.loc c.tc))
    (W : sProp 𝕄) (hwaits : W ⊢ cellsWaits (pin pcs a) pdats () p c)
    (X Y : Dev nD → sProp 𝕄)
    (hin : iprop(X c ∗ scopedRest (pcfg).spec c) ⊢ (pdats p c).Φ 0)
    (hout : (pdats p c).Φ (Fin.last (pcfg).N) ⊢ iprop(Y c ∗ ownSems0 osem c ∗ scopedRest (pcfg).spec c)) :
    iprop(mine pcs a phinj p ho m O₀ c ∗ W ∗ cellsGhost (pin pcs a) EP p c ∗ toksInit (pin pcs a) EP p c ∗ X c)
      ⊢ wp frame (wpE 𝔻 𝕍 c.tc none) Set.univ
          (.op (.customCall (entry p) ()) fun _ => .ret ⟨⟩ : Prog (TpuEff nD τ sig Val (Sig Λ₀ P fun p => (pcs p).Adm) .tc) PUnit)
          (fun _ => post (liftTc (ends pcs a pdats p Y) BI.emp) c.tc) := by
  have hss := scopedSems0_split (pin pcs a) phinj p hw ho (Ix := Unit) (Val := Val) (Name := ℕ) (U := U) (Lvl := ℕ) c
  have hsb := scopedBufs_split (pin pcs a) p hw.stage_scoped hw.stage_inj hstage (nD := nD) (τ := τ) (Ix := Unit) (Val := Val) (Name := ℕ) (U := U) (Lvl := ℕ) c
  have harr₀ : (bigSep Finset.univ fun w => ((c.tc.loc (arrRef (pcfg).spec w)) ↦{fullShare} m (c.tc.loc (arrRef (pcfg).spec w)) : sProp 𝕄))
      = (pdats p c).arrays (pdats p c).A := by
    rw [arrays_eq (pin pcs a) pdats p c harr hshare]
    exact bigSep_congr fun w _ => by rw [hA]
  have hin' : iprop(X c ∗ prefHeld (pcs p).pre c (fun _ => fullShare.right) (a p).1 ∗ scopedRest (pcfg).spec c) ⊢ (pdats p c).Φ 0 := by
    rw [prefHeld_of_none _ hpre]
    iintro ⟨HX, -, HR⟩
    iapply hin
    isplitl [HX] <;> iassumption
  have hout' : iprop((pdats p c).Φ (Fin.last (pcfg).N) ∗ cellsSems0 (pin pcs a) p c ∗ Dat.staging (pcfg) c ∗ idleSems0 (K := K) (pin pcs a) phinj p ho c)
      ⊢ iprop(Y c ∗ scopedSems0 c.tc ∗ scopedBufs c.tc) := by
    rw [hss, hsb]
    iintro ⟨HΦ, Hcells, Hst, Hidle⟩
    ihave H := hout $$ HΦ
    icases H with ⟨HY, Hown, Hrest⟩
    isplitl [HY]; · iexact HY
    isplitl [Hcells Hown Hidle]
    · isplitl [Hcells Hown]; · isplitl [Hcells] <;> iassumption
      iexact Hidle
    isplitl [Hst] <;> iassumption
  have hpost : EntryPost (pin pcs a) pdats () p c
      ⊢ iprop((pdats p c).arrays (fun w => (pdats p c).arrAt w (pcfg).N) ∗ ∃ W, owes c.tc (0 : CellTallies nD τ sig Unit) W) := by
    unfold EntryPost PerCore.EntryPost Dat.owesAt owesWithin
    rw [howedN]
    iintro ⟨Ha, ⟨%W, -, HW⟩⟩
    isplitl [Ha]; · iexact Ha
    iexists W; iexact HW
  unfold mine
  iintro ⟨⟨Hsc, Hcells, Hidle, Harr, HO⟩, HW, Hg, Ht, HX⟩
  ihave Hwt := hwaits $$ HW
  iapply (fupd_wp frame (wpE 𝔻 𝕍 c.tc none) Set.univ _ _)
  imod (cellsInit_alloc (pin pcs a) pdats EP phinj p c) $$ [Hcells Hg] with ⟨%κ, -, Hinit⟩
  · isplitl [Hcells] <;> iassumption
  imodintro
  iapply (Pipeline.wp_customCall_entry_frame pcs a pdats () EP κ phinj p defs₀ 𝒱₀ (fun _ => fullShare.right) c Set.univ (fun _ _ => Set.mem_univ _)
      hbody.loose hne none (fun u h => nomatch h) (X := X c) (Y := Y c) (R := scopedRest (pcfg).spec c) (I := idleSems0 (K := K) (pin pcs a) phinj p ho c)
      (Entails.of_eq hsb) hin' hout'
      (k := fun _ => .ret ⟨⟩) (Q := fun _ => post (liftTc (ends pcs a pdats p Y) BI.emp) c.tc)) $$ [Harr HO Hinit Ht HX Hidle Hsc Hwt]
  · isplitl [Harr HO Hinit Ht Hwt]
    · unfold EntryPre PerCore.EntryPre Dat.owesAt owesWithin
      rw [howed₀]
      isplitl [Harr]; · iapply (Entails.of_eq harr₀); iexact Harr
      isplitl [HO]
      · iexists ∅; isplitr; · ipureintro; rw [Finset.coe_empty]; exact Set.empty_subset _
        iexact HO
      isplitl [Hwt]; · iexact Hwt
      isplitl [Hinit] <;> iassumption
    isplitr; · rw [prefHeld_of_none _ hpre]; iempintro
    isplitl [HX]; · iexact HX
    isplitl [Hidle]; · iexact Hidle
    iexact Hsc
  iintro ⟨Hpost, HY, Hss, -⟩
  rw [wp_ret]; imodintro
  unfold post; simp only [liftTc_tc, ends]
  ihave Hp := hpost $$ Hpost
  icases Hp with ⟨Ha, HW⟩
  isplitr [HW]
  · isplitl [Ha]; · iexact Ha
    isplitl [HY] <;> iassumption
  · iexact HW

/-- What a device ends with, read against a final state: each window's array has the contents the pipeline leaves, what
    `Y` says of the rest, and the device's scoped semaphores are at zero. -/
theorem core_read [∀ e, Nonempty (Val e)] (c : Dev nD)
    (harr : ∀ w, ((pcfg).spec w).arr.IsWhole) (hshare : ∀ w, (pdats p c).share w = fullShare)
    (Y : Dev nD → sProp 𝕄) (QY : Dev nD → MemSt nD τ sig Val → Prop)
    (hY : ∀ s' : Phys nD τ sig Val, iprop(Y c ∗ SI s') ⊢ iprop(⌜QY c s'.mem⌝ ∗ SI s')) (s' : Phys nD τ sig Val) :
    iprop(ends pcs a pdats p Y c ∗ SI s') ⊢ |={Set.univ}=>
      iprop(⌜((∀ w, s'.mem.mem (((pcfg).spec w).arr.view.loc c.tc) = (pdats p c).arrAt w (pcfg).N) ∧ QY c s'.mem)
        ∧ ∀ sm : SemLoc sig, sm.isScoped .tc = true → s'.mem.sem (c.tc, sm) = 0⌝ ∗ SI s') := by
  classical
  unfold ends
  rw [arrays_eq (pin pcs a) pdats p c harr hshare]
  iintro ⟨⟨Ha, HY, Hss⟩, HSI⟩
  ihave %hz := (tcScoped_read_pers c s') $$ [Hss HSI]
  · isplitl [Hss] <;> iassumption
  ihave Hr := (pointsTo_read_all Finset.univ (fun w => c.tc.loc (arrRef (pcfg).spec w))
    (fun w => (pdats p c).arrAt w (pcfg).N) s') $$ [Ha HSI]
  · isplitl [Ha] <;> iassumption
  icases Hr with ⟨%ha, HSI⟩
  ihave Hq := (hY s') $$ [HY HSI]
  · isplitl [HY] <;> iassumption
  icases Hq with ⟨%hq, HSI⟩
  imodintro
  isplitr
  · ipureintro; exact ⟨⟨fun w => ha w (Finset.mem_univ w), hq⟩, hz⟩
  · iexact HSI

include hw ho in
/-- A program whose @main is one kernel call runs to a state with `Q`, when: each device's body meets its obligation
    from what `deal` gives the device, `deal` makes that from what all the devices bring together, and `Q` follows from
    the windows' arrays, what the bodies kept, and all the semaphores being back at zero. -/
theorem run_lone_call [DecidableEq P] [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hpre : (pcs p).pre.K = 0)
    (hbody : ∀ c, BodyObligation (pdats p c) defs₀ 𝒱₀ () Set.univ)
    (hne : ∀ w : Fin (pcfg).W, 0 < ((pcfg).spec w).block.numel)
    (harr : ∀ w, ((pcfg).spec w).arr.IsWhole) (hstage : ∀ w s, (((pcfg).spec w).stage s).IsWhole)
    (hshare : ∀ c w, (pdats p c).share w = fullShare) (hdistinct : Function.Injective (arrRef (pcfg).spec))
    (O₀ : Dev nD → CellTallies nD τ sig Unit) (howed₀ : ∀ c, (pdats p c).owed 0 = O₀ c) (howedN : ∀ c, (pdats p c).owed (Fin.last _) = 0)
    (L : GSem nD τ sig → Finset Unit) (lv : GSem nD τ sig → Unit → ℕ) (hL : ∀ g : GSem nD τ sig, g.1.2 ≠ .tc → L g = ∅)
    (hwaits : ∀ c, (levAts L lv : sProp 𝕄) ⊢ cellsWaits (pin pcs a) pdats () p c)
    (G : sProp 𝕄) (u₀ : U)
    (hu₀ : (ownU u₀ : sProp 𝕄)
      ⊢ |={Set.univ}=> iprop(BI.own (EP (initOf (cells (pin pcs a) phinj) (launchToks (pin pcs a) phinj))) ∗ G))
    (hA : ∀ c w, (pdats p c).A w = m (((pcfg).spec w).arr.view.loc c.tc))
    (X Y : Dev nD → sProp 𝕄)
    (deal : iprop((bigSep Finset.univ fun c => ours pcs a p osem m O₀ c) ∗ levAts L lv ∗ G) ⊢ |={Set.univ}=> bigSep Finset.univ X)
    (hin : ∀ c, iprop(X c ∗ scopedRest (pcfg).spec c) ⊢ (pdats p c).Φ 0)
    (hout : ∀ c, (pdats p c).Φ (Fin.last (pcfg).N) ⊢ iprop(Y c ∗ ownSems0 osem c ∗ scopedRest (pcfg).spec c))
    (QY : Dev nD → MemSt nD τ sig Val → Prop)
    (hY : ∀ c (s' : Phys nD τ sig Val), iprop(Y c ∗ SI s') ⊢ iprop(⌜QY c s'.mem⌝ ∗ SI s'))
    {Q : PUnit × MemSt nD τ sig Val → Prop}
    (hQ : ∀ s : MemSt nD τ sig Val,
      (∀ c : Dev nD, (∀ w, s.mem (((pcfg).spec w).arr.view.loc c.tc) = (pdats p c).arrAt w (pcfg).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(mine pcs a phinj p ho m O₀ c ∗ levAts L lv ∗ cellsGhost (pin pcs a) EP p c
    ∗ toksInit (pin pcs a) EP p c ∗ X c)
  refine (θ_run 𝔻 _ _).mono (Q := fun r => (∀ c : Dev nD, ((∀ w, r.2.mem (((pcfg).spec w).arr.view.loc c.tc) = (pdats p c).arrAt w (pcfg).N) ∧ QY c r.2)
      ∧ ∀ sm : SemLoc sig, sm.isScoped .tc = true → r.2.sem (c.tc, sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre)
      (fun _ => ends pcs a pdats p Y) (fun _ => iprop(emp)) Set.univ ?launch (fun _ c => ?core) fun _ => ?read))
  case launch =>
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    have hparts : (bigSep Finset.univ fun c : Dev nD => (coreInit (owing O₀) 0 (⟨m, fun _ => 0, g⟩ : MemSt nD τ sig Val) c.tc : sProp 𝕄))
        ⊢ iprop((bigSep Finset.univ fun c => mine pcs a phinj p ho m O₀ c) ∗ (bigSep Finset.univ fun c => ours pcs a p osem m O₀ c)
            ∗ bigSep Finset.univ fun c => levels0 c) := by
      refine (bigSep_mono fun c _ => core_parts pcs a phinj p hw ho hdistinct O₀ m g c).trans ?_
      simp only [bigSep_sep']
      exact BI.Entails.refl _
    iintro ⟨Hcores, Hu⟩
    ihave H := hparts $$ Hcores
    icases H with ⟨Hm, Ho, Hl⟩
    imod (levels_dealt L lv hL) $$ Hl with #Hla
    imod hu₀ $$ Hu with ⟨HP, HG⟩
    imod (fund_ghost (pin pcs a) EP phinj) $$ HP with ⟨Hg, Ht⟩
    imod deal $$ [Ho HG] with HX
    · isplitl [Ho]; · iexact Ho
      isplitr; · iexact Hla
      iexact HG
    imodintro
    iexists ()
    isplitl
    · simp only [pre, bigSep_sep']
      isplitl [Hm]; · iexact Hm
      isplitr; · iapply (BI.bigSep_intro_persistent (S := Finset.univ) fun (c : Dev nD) _ => (BI.Entails.refl (levAts L lv : sProp 𝕄))); iexact Hla
      isplitl [Hg]; · iapply (hpick fun p' c => cellsGhost (pin pcs a) EP p' c); iexact Hg
      isplitl [Ht]; · iapply (hpick fun p' c => toksInit (pin pcs a) EP p' c); iexact Ht
      iexact HX
    · iempintro
  case core =>
    rw [hmain c]
    exact core_run pcs a pdats phinj p hw ho EP defs₀ 𝒱₀ m hpre c (hbody c) hne harr hstage (hshare c) O₀ (howed₀ c) (howedN c) (hA c)
      (levAts L lv) (hwaits c) X Y (hin c) (hout c)
  case read =>
    iintro ⟨H, -, Hsc⟩ %s' HSI
    ihave %hsc := (scSems_read_zero m g s') $$ [Hsc HSI]
    · isplitl [Hsc] <;> iassumption
    imod (posts_fupd Finset.univ (fun c s' => core_read pcs a pdats p c harr (hshare c) Y QY (hY c) s') s') $$ [H HSI] with %h
    · isplitl [H] <;> iassumption
    imodintro
    ipureintro
    exact ⟨fun c => h c (Finset.mem_univ c), hsc⟩

end Cert.Proof.LoneCall
-- ==== Proof.Exchange.lean ====
/-
# Copies between devices, all started before the first block and all awaited after the last

A `Plan` lists a kernel's own semaphores. Each is credited once on every device: by one of that device's own copies
when its source has been read, or by another device's copy when it has landed. Per semaphore the plan says which device
credits it (`payer`), how many units (`amount`), and what the credit hands over, with its contents (`pay`).

* `start`: what a device holds before its body runs — the right to credit the cells it credits, its own cells at their
  beginning, the credits that other devices owe it, and its buffers;
* `wp_launch_copy`: starting a copy pays for two cells, the sender's own and the receiver's; `wp_launch_here`: starting a
  copy within a device pays for one;
* `wp_await`: waiting on a cell yields what the plan says it hands over, and the semaphore itself back at zero;
* `deal`: at the start of the program all devices together make `start` for every device.
-/
module

public import proofs.«01_k».proof.Proof.LoneCall
public import Idealize.ShloMosaic.Lib.Pipeline.Kit
public import Idealize.ShloMosaic.Lib.Tactic

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Dat)

variable {nD : Nat} {τ : Topo} {sig : RefSig} {Val : EltTy → Type}

/-- The ghost state: one copy of the rounds for the pipeline's staging cells, one for the exchange's cells. -/
abbrev UU (nD : Nat) (τ : Topo) (sig : RefSig) : Type := URounds (GSem nD τ sig) Unit × URounds (GSem nD τ sig) Unit

local notation "𝕄" => MT nD τ sig Unit Val ℕ (UU nD τ sig) ℕ

variable (nD τ sig Val) in
/-- The pipeline's copy. -/
abbrev EP : Emb (URounds (GSem nD τ sig) Unit) (MT nD τ sig Unit Val ℕ (UU nD τ sig) ℕ) := embL
variable (nD τ sig Val) in
/-- The exchange's copy. -/
abbrev ER : Emb (URounds (GSem nD τ sig) Unit) (MT nD τ sig Unit Val ℕ (UU nD τ sig) ℕ) := embR

variable (nD τ sig Val) in
/-- The own semaphores of a kernel and what each is for. -/
structure Plan (J : Type) where
  /-- The semaphore. -/
  osem : J → SemLoc sig
  inj : Function.Injective osem
  /-- Device `c` credits the semaphore of device `payer j c`. -/
  payer : J → Equiv.Perm (Dev nD)
  /-- The semaphores credited by another device's copy. -/
  far : Finset J
  /-- The units of the credit. -/
  amount : J → ℕ
  amount_pos : ∀ j, 0 < amount j
  /-- The order of the landings: a device may wait for one while it still owes landings of a higher level. -/
  lev : J → ℕ
  lev_pos : ∀ j, 0 < lev j
  /-- What the credit of `c`'s semaphore hands to `c`. -/
  pay : Dev nD → J → sProp 𝕄
  storable : ∀ c j, BI.Storable (upEmb : UEmb _ 𝕄) (pay c j)

namespace Plan

variable {J : Type} [Fintype J] [DecidableEq J] (P : Plan nD τ sig Val J)

/-- The cell of semaphore `j` on device `c`. -/
abbrev cell (c : Dev nD) (j : J) : GSem nD τ sig := (c.tc, P.osem j)

theorem cell_injective : Function.Injective fun x : Dev nD × J => P.cell x.1 x.2 := by
  rintro ⟨c, j⟩ ⟨c', j'⟩ h
  have h1 : c = c' := congrArg (fun g : GSem nD τ sig => g.1.1) h
  have h2 : j = j' := P.inj (congrArg Prod.snd h)
  rw [h1, h2]

open Classical in
/-- The plan as a schedule: every cell has one duty, in its first round. -/
def sched : Rounds.Schedule (GSem nD τ sig) Unit 𝕄 where
  duties g r := if r = 0 ∧ g.1.2 = .tc ∧ ∃ j, P.osem j = g.2 then {()} else ∅
  unitless _ := False
  amount g _ _ := if h : ∃ j, P.osem j = g.2 then P.amount h.choose else 1
  payload g _ _ := if h : ∃ j, P.osem j = g.2 then P.pay g.1.1 h.choose else iprop(emp)
  amount_pos g _ _ _ := by split; exacts [P.amount_pos _, Nat.one_pos]

instance payload_storable (g : GSem nD τ sig) (r : ℕ) (d : Unit) : BI.Storable (upEmb : UEmb _ 𝕄) (P.sched.payload g r d) := by
  classical
  show BI.Storable upEmb (if h : ∃ j, P.osem j = g.2 then P.pay g.1.1 h.choose else iprop(emp))
  split
  · exact P.storable _ _
  · infer_instance

theorem choose_eq (j : J) (h : ∃ j', P.osem j' = P.osem j) : h.choose = j := P.inj h.choose_spec

theorem duties_cell (c : Dev nD) (j : J) : P.sched.duties (P.cell c j) 0 = {()} := by
  dsimp only [sched]; exact if_pos ⟨rfl, rfl, j, rfl⟩
theorem duties_later (g : GSem nD τ sig) : ∀ r, 0 + 1 ≤ r → P.sched.duties g r = ∅ :=
  fun r hr => by dsimp only [sched]; exact if_neg fun h => by omega
theorem amount_cell (c : Dev nD) (j : J) (u : Unit) : P.sched.amount (P.cell c j) 0 u = P.amount j := by
  dsimp only [sched]; rw [dif_pos ⟨j, rfl⟩, P.choose_eq]
theorem payload_cell (c : Dev nD) (j : J) (u : Unit) : P.sched.payload (P.cell c j) 0 u = P.pay c j := by
  dsimp only [sched]; rw [dif_pos ⟨j, rfl⟩, P.choose_eq]
theorem expect_cell (c : Dev nD) (j : J) : P.sched.expect (P.cell c j) 0 = P.amount j := by
  unfold Schedule.expect Schedule.amountOf; rw [duties_cell, Finset.sum_singleton, amount_cell]
theorem rest_cell (c : Dev nD) (j : J) :
    bigSep (P.sched.duties (P.cell c j) 0 \ ∅) (fun u => P.sched.payload (P.cell c j) 0 u) = P.pay c j := by
  rw [Finset.sdiff_empty, duties_cell, bigSep_singleton, payload_cell]

/-! ## What is shared, what is owed, the levels -/

/-- The cells with a level: those of the devices' main cores. -/
def L (g : GSem nD τ sig) : Finset Unit := if g.1.2 = .tc then {()} else ∅
open Classical in
/-- The landing cells sit at their levels, all others at level 0. -/
def lv (g : GSem nD τ sig) (_ : Unit) : ℕ := if h : ∃ j, j ∈ P.far ∧ P.osem j = g.2 then P.lev h.choose else 0
theorem L_of_ne (g : GSem nD τ sig) (h : g.1.2 ≠ .tc) : L g = ∅ := if_neg h
theorem L_tc (c : Dev nD) (sm : SemLoc sig) : L (τ := τ) (c.tc, sm) = {()} := if_pos rfl
theorem lv_far (c : Dev nD) {j : J} (hj : j ∈ P.far) (u : Unit) : P.lv (P.cell c j) u = P.lev j := by
  have h : ∃ j', j' ∈ P.far ∧ P.osem j' = (P.cell c j).2 := ⟨j, hj, rfl⟩
  dsimp only [lv]
  rw [dif_pos h]
  exact congrArg P.lev (P.inj h.choose_spec.2)
theorem lv_le (c : Dev nD) (j : J) (u : Unit) : P.lv (P.cell c j) u ≤ P.lev j := by
  by_cases hj : j ∈ P.far
  · exact Nat.le_of_eq (P.lv_far c hj u)
  · dsimp only [lv]
    rw [dif_neg (by rintro ⟨j', h, e⟩; exact hj (P.inj e ▸ h))]
    exact Nat.zero_le _

/-- Every cell's invariant, that its first round has begun, and the levels: shared by all devices. -/
def records (κ : Dev nD × J → ℕ) : sProp 𝕄 :=
  iprop((bigSep Finset.univ fun x : Dev nD × J => cellInv (ER nD τ sig Val) P.sched (κ x) (P.cell x.1 x.2))
    ∗ (bigSep Finset.univ fun x : Dev nD × J => reached (ER nD τ sig Val) (P.cell x.1 x.2) 0)
    ∗ levAts L P.lv)

instance records_persistent (κ : Dev nD × J → ℕ) : BI.Persistent (P.records κ) := by unfold records; infer_instance

theorem inv_of_records (κ : Dev nD × J → ℕ) (c : Dev nD) (j : J) :
    P.records κ ⊢ cellInv (ER nD τ sig Val) P.sched (κ (c, j)) (P.cell c j) := by
  have h : (bigSep Finset.univ fun x : Dev nD × J => cellInv (ER nD τ sig Val) P.sched (κ x) (P.cell x.1 x.2))
      ⊢ cellInv (ER nD τ sig Val) P.sched (κ (c, j)) (P.cell c j) := bigSep_elim (Finset.mem_univ (c, j))
  unfold records
  iintro ⟨H, -⟩
  iapply h
  iexact H
theorem reached_of_records (κ : Dev nD × J → ℕ) (c : Dev nD) (j : J) :
    P.records κ ⊢ reached (ER nD τ sig Val) (P.cell c j) 0 := by
  have h : (bigSep Finset.univ fun x : Dev nD × J => (reached (ER nD τ sig Val) (P.cell x.1 x.2) 0 : sProp 𝕄))
      ⊢ reached (ER nD τ sig Val) (P.cell c j) 0 := bigSep_elim (Finset.mem_univ (c, j))
  unfold records
  iintro ⟨-, H, -⟩
  iapply h
  iexact H
theorem levels_of_records (κ : Dev nD × J → ℕ) : P.records κ ⊢ levAts L P.lv := by
  unfold records
  iintro ⟨-, -, H⟩
  iexact H

/-- The credit that device `c`'s copies owe the cells of semaphore `j` on the device they land on. -/
abbrev debt (j : J) (c : Dev nD) : CellTallies nD τ sig Unit := tallyAt (P.cell (P.payer j c) j) () (P.amount j)

/-- What device `c` owes when the program starts: the landings of all its copies. -/
def owes₀ (c : Dev nD) : CellTallies nD τ sig Unit := ∑ j ∈ P.far, P.debt j c

theorem owes₀_pos {c : Dev nD} {g : GSem nD τ sig} {u : Unit} (h : 0 < P.owes₀ c g u) : ∃ j ∈ P.far, g = P.cell (P.payer j c) j := by
  unfold owes₀ at h
  rw [Finset.sum_apply, Finsupp.finsetSum_apply] at h
  obtain ⟨j, hj, hpos⟩ := Finset.exists_ne_zero_of_sum_ne_zero (Nat.pos_iff_ne_zero.mp h)
  refine ⟨j, hj, ?_⟩
  by_contra hne
  rw [tallyAt_apply, if_neg (fun h' => hne h'.1)] at hpos
  exact hpos rfl

/-- Before a copy is started or after all have been, a device may wait on a semaphore that is not one of the plan's. -/
theorem mayWait_other (c : Dev nD) (sm : SemLoc sig) (hs : ∀ j, P.osem j ≠ sm) (O : CellTallies nD τ sig Unit) (hO : O = P.owes₀ c ∨ O = 0) :
    (levAts L P.lv : sProp 𝕄) ⊢ MayWait c.tc sm () O := by
  classical
  rcases hO with rfl | rfl
  · refine MayOwe.of_cut (L := L) (lev := P.lv) 0 (fun p hp => by rw [Finset.mem_singleton.mp hp, L_tc]; exact Finset.mem_singleton_self _)
      (fun g u hg => by obtain ⟨j, -, rfl⟩ := P.owes₀_pos hg; rw [L_tc]; exact Finset.mem_singleton_self _)
      (fun p hp => by
        rw [Finset.mem_singleton.mp hp]; dsimp only [lv]; rw [dif_neg]
        rintro ⟨j, -, h⟩; exact hs j h)
      (fun g u hg => by
        obtain ⟨j, hj, rfl⟩ := P.owes₀_pos hg
        rw [P.lv_far _ hj]; exact P.lev_pos j)
  · rw [MayWait_zero]; iintro -; iempintro

/-- A device may wait for cell `j` while all it owes are landings of a higher level. -/
theorem mayWait_below (c : Dev nD) (j : J) (O : CellTallies nD τ sig Unit)
    (hO : ∀ g u, 0 < O g u → ∃ j' ∈ P.far, ∃ d, g = P.cell d j' ∧ P.lev j < P.lev j') :
    (levAts L P.lv : sProp 𝕄) ⊢ MayWait c.tc (P.osem j) () O :=
  MayOwe.of_cut (L := L) (lev := P.lv) (P.lev j) (fun p hp => by rw [Finset.mem_singleton.mp hp, L_tc]; exact Finset.mem_singleton_self _)
    (fun g u hg => by obtain ⟨j', -, d, rfl, -⟩ := hO g u hg; rw [L_tc]; exact Finset.mem_singleton_self _)
    (fun p hp => by rw [Finset.mem_singleton.mp hp]; exact P.lv_le c j _)
    (fun g u hg => by
      obtain ⟨j', hj', d, rfl, h⟩ := hO g u hg
      rw [P.lv_far _ hj']; exact h)

/-! ## The two steps -/

section Steps

variable {Λ : Labels} {defs : Defs nD τ sig Val Λ} (𝒱 : Variants) (bd : Option 𝒱.V)
variable {sp sp' : Space} {s : Shape} {e : EltTy}
variable {α : Type} {Q : α → sProp (MT nD τ sig Unit Val ℕ (UU nD τ sig) ℕ)}

/-- Starting a copy to device `c'`: the source's elements go to the sender's cell `js`, the destination's elements, with
    the source's contents written, to the receiver's cell `jr`. The sender pays the landing out of what it owes. -/
theorem wp_launch_copy (c c' : Dev nD) (κ : Dev nD × J → ℕ) (js jr : J)
    {src : Memref sig .tc sp s e} {dst : Memref sig .tc sp' s e} {hsc : dst.view.ref.isScScratch = false}
    {hsrc : src.view.WordExact} {hdst : dst.view.WordExact} {hsem : DmaTarget.Typed sp (P.osem jr) (.remote c'.tc dst (P.osem js) hsc)}
    {k : PUnit → Prog (TpuEff nD τ sig Val Λ .tc) α} {q : PosShare TreeShare}
    {fs : Buf Val (src.view.loc c.tc)} {fd : Buf Val (dst.view.loc c'.tc)}
    (hN : dst.view.amount (P.osem jr) = P.amount jr) (hNs : P.amount js = P.amount jr)
    {O₀ : CellTallies nD τ sig Unit} (O : CellTallies nD τ sig Unit) (hO : O₀ = O + tallyAt (P.cell c' jr) () (P.amount jr)) {W : Waits sig Unit}
    (hpay₁ : (src.view.loc c.tc ↦[src.view.set]{q} fs) ⊢ P.pay c js)
    (hpay₂ : (dst.view.loc c'.tc ↦[dst.view.set]{fullShare} (dst.view.write Val fd (src.view.read Val fs) Finset.univ)) ⊢ P.pay c' jr)
    (hr : τ.routes c.tc c'.tc = true := by routes) :
    iprop(P.records κ ∗ (src.view.loc c.tc ↦[src.view.set]{q} fs) ∗ (dst.view.loc c'.tc ↦[dst.view.set]{fullShare} fd)
        ∗ owes c.tc O₀ W
        ∗ dutyTok (ER nD τ sig Val) (P.cell c js) 0 () ∗ dutyTok (ER nD τ sig Val) (P.cell c' jr) 0 ())
      ⊢ iprop(((cred (tallyAt (P.cell c js) () (P.amount js)) ∗ owes c.tc O W) -∗ wp frame (wpE defs 𝒱 c.tc bd) Set.univ (k ⟨⟩) Q)
          -∗ wp frame (wpE defs 𝒱 c.tc bd) Set.univ
            (.op (.enqueueDma src (.remote c'.tc dst (P.osem js) hsc) (P.osem jr) hsrc hdst hsem) k) Q) := by
  rw [hNs]
  have hstep := (Rounds.wp_send_pointsTo 𝒱 (ER nD τ sig Val) P.sched c.tc bd (κ₁ := κ (c, js)) (κ₂ := κ (c', jr))
    (r₁ := 0) (r₂ := 0) (d₁ := ()) (d₂ := ()) (fd := fd) (fs := fs) (q := q)
    (by rw [P.duties_cell]; exact Finset.mem_singleton_self _) (by rw [P.duties_cell]; exact Finset.mem_singleton_self _)
    () () (P.amount jr) hN ((P.amount_cell c js ()).trans hNs) (P.amount_cell c' jr ()) O hO (W := W)
    (by rw [P.payload_cell]; exact hpay₁) (by rw [P.payload_cell]; exact hpay₂) hr (k := k) (Q := Q) (Es := Set.univ) (hsrc := hsrc) (hdst := hdst) (hsem := hsem) (hsc := hsc) (defs := defs) (Γ := .empty))
  iintro ⟨#HR, Hs, Hd, HO, Ht1, Ht2⟩
  iapply hstep
  isplitr; · iapply (P.inv_of_records κ c js); iexact HR
  isplitr; · iapply (P.inv_of_records κ c' jr); iexact HR
  isplitl [Hs]; · iexact Hs
  isplitl [Hd]; · iexact Hd
  isplitl [HO]; · iexact HO
  isplitl [Ht1]; · iexact Ht1
  isplitr; · iapply (P.reached_of_records κ c js); iexact HR
  isplitl [Ht2]; · iexact Ht2
  iapply (P.reached_of_records κ c' jr); iexact HR

/-- Starting a copy within device `c`: the cell `j` will hand over the destination, with the source's contents written, and
    the source. -/
theorem wp_launch_here (c : Dev nD) (κ : Dev nD × J → ℕ) (j : J)
    {src : Memref sig .tc sp s e} {dst : Memref sig .tc sp' s e}
    {hsrc : src.view.WordExact} {hdst : dst.view.WordExact} {hsem : DmaTarget.Typed (nD := nD) (τ := τ) (p := .tc) sp (P.osem j) (.here dst)}
    {k : PUnit → Prog (TpuEff nD τ sig Val Λ .tc) α} {q : PosShare TreeShare}
    {fs : Buf Val (src.view.loc c.tc)} {fd : Buf Val (dst.view.loc c.tc)}
    (hN : dst.view.amount (P.osem j) = P.amount j)
    (hpay : iprop((dst.view.loc c.tc ↦[dst.view.set]{fullShare} (dst.view.write Val fd (src.view.read Val fs) Finset.univ))
        ∗ (src.view.loc c.tc ↦[src.view.set]{q} fs)) ⊢ P.pay c j) :
    iprop(P.records κ ∗ (src.view.loc c.tc ↦[src.view.set]{q} fs) ∗ (dst.view.loc c.tc ↦[dst.view.set]{fullShare} fd)
        ∗ dutyTok (ER nD τ sig Val) (P.cell c j) 0 ())
      ⊢ iprop((cred (tallyAt (P.cell c j) () (P.amount j)) -∗ wp frame (wpE defs 𝒱 c.tc bd) Set.univ (k ⟨⟩) Q)
          -∗ wp frame (wpE defs 𝒱 c.tc bd) Set.univ (.op (.enqueueDma src (.here dst) (P.osem j) hsrc hdst hsem) k) Q) := by
  have hstep := (Rounds.wp_copy_pointsTo 𝒱 (ER nD τ sig Val) P.sched c.tc bd (κ := κ (c, j))
    (r := 0) (d := ()) (fd := fd) (fs := fs) (q := q) (by rw [P.duties_cell]; exact Finset.mem_singleton_self _)
    () (P.amount j) hN (P.amount_cell c j ()) (by rw [P.payload_cell]; exact hpay)
    (k := k) (Q := Q) (Es := Set.univ) (hsrc := hsrc) (hdst := hdst) (hsem := hsem) (defs := defs) (Γ := .empty))
  iintro ⟨#HR, Hs, Hd, Ht⟩
  iapply hstep
  isplitr; · iapply (P.inv_of_records κ c j); iexact HR
  isplitl [Hs]; · iexact Hs
  isplitl [Hd]; · iexact Hd
  isplitl [Ht]; · iexact Ht
  iapply (P.reached_of_records κ c j); iexact HR

/-- Waiting on cell `j`, owing only what the levels allow: the device receives what the plan says the cell hands over,
    and its semaphore back at zero. -/
theorem wp_await_owing (c : Dev nD) (κ : Dev nD × J → ℕ) (j : J) {w : TpuEff nD τ sig Val Λ .tc PUnit} {n : ℕ}
    (hw : ∀ K : PUnit → sProp 𝕄, wpE defs 𝒱 c.tc bd Set.univ w K = waitSpec c.tc Set.univ (P.osem j) n K)
    (hn : n = P.amount j) {O : CellTallies nD τ sig Unit}
    (hO : (levAts L P.lv : sProp 𝕄) ⊢ MayWait c.tc (P.osem j) () O)
    {k : PUnit → Prog (TpuEff nD τ sig Val Λ .tc) α} {W : Waits sig Unit} :
    iprop(P.records κ ∗ cred (tallyAt (P.cell c j) () (P.amount j)) ∗ owes c.tc O W ∗ atPos (ER nD τ sig Val) (P.cell c j) 0 ∅ 0)
      ⊢ iprop(((owes c.tc O (insert (P.osem j, ()) W) ∗ semVal (P.cell c j) 0 ∗ P.pay c j)
            -∗ wp frame (wpE defs 𝒱 c.tc bd) Set.univ (k ⟨⟩) Q)
          -∗ wp frame (wpE defs 𝒱 c.tc bd) Set.univ (.op w k) Q) := by
  subst hn
  have hmay := (P.levels_of_records κ).trans hO
  iintro ⟨#HR, Hc, HO, Ha⟩ Hk
  iapply (Rounds.wp_wait_rest_token 𝒱 (ER nD τ sig Val) P.sched c.tc bd (κ := κ (c, j))
      hw (Set.mem_univ _) () (O := O) (W := W) (R := 0) (m := 0) (T := ∅)
      (by rw [Nat.zero_add]; exact (P.expect_cell c j).symm)) $$ [Hc HO Ha]
  · isplitr; · iapply (P.inv_of_records κ c j); iexact HR
    isplitl [Hc]; · iexact Hc
    isplitl [HO]; · iexact HO
    isplitr; · iapply hmay; iexact HR
    iexact Ha
  iintro ⟨HO, Ha, -, Hpay⟩
  ihave Hp := (Entails.of_eq (P.rest_cell c j)) $$ Hpay
  iapply (fupd_wp frame (wpE defs 𝒱 c.tc bd) Set.univ _ _)
  imod (Rounds.cell_close (ER nD τ sig Val) P.sched (Set.mem_univ (κ (c, j))) (fun h => h) (R := 0 + 1) (P.duties_later (P.cell c j))) $$ [Ha] with Hz
  · isplitr; · iapply (P.inv_of_records κ c j); iexact HR
    iexact Ha
  imodintro
  iapply Hk
  isplitl [HO]; · iexact HO
  isplitl [Hz] <;> iassumption

/-- The same when nothing is owed any more. -/
theorem wp_await (c : Dev nD) (κ : Dev nD × J → ℕ) (j : J) {w : TpuEff nD τ sig Val Λ .tc PUnit} {n : ℕ}
    (hw : ∀ K : PUnit → sProp 𝕄, wpE defs 𝒱 c.tc bd Set.univ w K = waitSpec c.tc Set.univ (P.osem j) n K)
    (hn : n = P.amount j)
    {k : PUnit → Prog (TpuEff nD τ sig Val Λ .tc) α} {W : Waits sig Unit} :
    iprop(P.records κ ∗ cred (tallyAt (P.cell c j) () (P.amount j)) ∗ owes c.tc 0 W ∗ atPos (ER nD τ sig Val) (P.cell c j) 0 ∅ 0)
      ⊢ iprop(((owes c.tc 0 (insert (P.osem j, ()) W) ∗ semVal (P.cell c j) 0 ∗ P.pay c j)
            -∗ wp frame (wpE defs 𝒱 c.tc bd) Set.univ (k ⟨⟩) Q)
          -∗ wp frame (wpE defs 𝒱 c.tc bd) Set.univ (.op w k) Q) :=
  P.wp_await_owing 𝒱 bd c κ j hw hn (by rw [MayWait_zero]; iintro -; iempintro)

end Steps

/-! ## The launch -/

/-- What device `c`'s body starts from: the shared records, its own cells at their beginning, the rights to credit the
    cells it credits, the credits of its landings, the levels, and its buffers `B c`. -/
def start (B : Dev nD → sProp 𝕄) (c : Dev nD) : sProp 𝕄 :=
  iprop((∃ κ, P.records κ)
    ∗ (bigSep Finset.univ fun j => atPos (ER nD τ sig Val) (P.cell c j) 0 ∅ 0)
    ∗ (bigSep Finset.univ fun j => dutyTok (ER nD τ sig Val) (P.cell (P.payer j c) j) 0 ())
    ∗ (bigSep P.far fun j => cred (tallyAt (P.cell c j) () (P.amount j)))
    ∗ B c)

/-- The exchange's cells, and one right to credit each. -/
def cellSet : Finset (GSem nD τ sig) := Finset.univ.map ⟨fun x : Dev nD × J => P.cell x.1 x.2, P.cell_injective⟩
def tokSet : Finset (GSem nD τ sig × ℕ × Unit) :=
  Finset.univ.map ⟨fun x : Dev nD × J => (P.cell x.1 x.2, 0, ()), fun _ _ h => P.cell_injective (congrArg Prod.fst h)⟩

/-- The exchange's ghost state as the launch finds it: every cell's state, its first round begun, its position, and the
    right to credit it. -/
def ghost : sProp 𝕄 :=
  iprop((bigSep Finset.univ fun c : Dev nD => bigSep Finset.univ fun j => roundState (ER nD τ sig Val) P.sched (P.cell c j) 0)
    ∗ (bigSep Finset.univ fun x : Dev nD × J => reached (ER nD τ sig Val) (P.cell x.1 x.2) 0)
    ∗ (bigSep Finset.univ fun c : Dev nD => bigSep Finset.univ fun j => atPos (ER nD τ sig Val) (P.cell c j) 0 ∅ 0)
    ∗ (bigSep Finset.univ fun c : Dev nD => bigSep Finset.univ fun j => dutyTok (ER nD τ sig Val) (P.cell c j) 0 ()))

theorem fund_ghost : BI.own ((ER nD τ sig Val) (initOf P.cellSet P.tokSet)) ⊢ (|==> P.ghost : sProp 𝕄) := by
  have h2 (Φ : GSem nD τ sig → sProp 𝕄) : bigSep P.cellSet Φ = bigSep Finset.univ fun x : Dev nD × J => Φ (P.cell x.1 x.2) := by
    unfold cellSet; rw [bigSep_map]; rfl
  have h1 (Φ : GSem nD τ sig → sProp 𝕄) : bigSep P.cellSet Φ = bigSep Finset.univ fun c : Dev nD => bigSep Finset.univ fun j => Φ (P.cell c j) := by
    rw [h2, bigSep_univ_prod]
  have hT : bigSep P.tokSet (fun x => (dutyTok (ER nD τ sig Val) x.1 x.2.1 x.2.2 : sProp 𝕄))
      = bigSep Finset.univ fun c : Dev nD => bigSep Finset.univ fun j => dutyTok (ER nD τ sig Val) (P.cell c j) 0 () := by
    unfold tokSet; rw [bigSep_map, bigSep_univ_prod]; rfl
  unfold ghost
  rw [← hT, ← h1 (fun g => roundState (ER nD τ sig Val) P.sched g 0), ← h1 (fun g => atPos (ER nD τ sig Val) g 0 ∅ 0), ← h2 (fun g => reached (ER nD τ sig Val) g 0)]
  exact Rounds.fund (ER nD τ sig Val) P.sched P.cellSet P.tokSet

/-- The rights to credit, passed from the devices that own the cells to those that credit them. -/
theorem toks_around :
    (bigSep Finset.univ fun c : Dev nD => bigSep Finset.univ fun j => (dutyTok (ER nD τ sig Val) (P.cell c j) 0 () : sProp 𝕄))
      = bigSep Finset.univ fun c : Dev nD => bigSep Finset.univ fun j => dutyTok (ER nD τ sig Val) (P.cell (P.payer j c) j) 0 () := by
  rw [bigSep_univ_comm, bigSep_univ_comm (fun (c : Dev nD) j => (dutyTok (ER nD τ sig Val) (P.cell (P.payer j c) j) 0 () : sProp 𝕄))]
  exact bigSep_congr fun j _ => bigSep_univ_equiv (P.payer j) (fun c : Dev nD => (dutyTok (ER nD τ sig Val) (P.cell c j) 0 () : sProp 𝕄))

/-- What the other devices owe device `c` at the start is the credit of each of its landings. -/
theorem creds (c : Dev nD) :
    (Pipeline.launchCred P.owes₀ c : sProp 𝕄) ⊢ bigSep P.far fun j => cred (tallyAt (P.cell c j) () (P.amount j)) := by
  have h : (Pipeline.launchCred P.owes₀ c : sProp 𝕄) = bigSep P.far fun j => Pipeline.launchCred (P.debt j) c :=
    Pipeline.launchCred_sum P.far P.debt c
  rw [h]
  exact bigSep_mono fun j _ => Pipeline.launchCred_tallyAt (P.osem j) (P.payer j) (P.payer j).symm
    (fun c => (P.payer j).apply_symm_apply c) (fun d => (P.payer j).symm_apply_apply d) () (P.amount j) c

/-- The exchange made once for all devices: from every device's own semaphores, unstaged arrays and launch credits, and
    the exchange's ghost state, every device gets its `start`. `hB` says how the unstaged arrays are passed around. -/
theorem deal {Λ₀ : Idealize.SL.Sem.Labels} {T : Type} (pcs : T → PCfg sig Λ₀ Val) (a : (p : T) → (pcs p).Adm) (p : T)
    (m : (ℓ : Loc nD τ sig) → Buf Val ℓ) (B : Dev nD → sProp 𝕄)
    (hB : (bigSep Finset.univ fun c => (Pipeline.unscopedRest (Pipeline.pin pcs a p).spec c (fun b => m (c.tc.loc b)) : sProp 𝕄))
      ⊢ bigSep Finset.univ B) :
    iprop((bigSep Finset.univ fun c => LoneCall.ours pcs a p P.osem m P.owes₀ c) ∗ levAts L P.lv ∗ P.ghost)
      ⊢ |={Set.univ}=> bigSep Finset.univ (P.start B) := by
  have hinv : iprop((bigSep Finset.univ fun c : Dev nD => (Pipeline.ownSems0 P.osem c : sProp 𝕄))
        ∗ bigSep Finset.univ fun c : Dev nD => bigSep Finset.univ fun j => roundState (ER nD τ sig Val) P.sched (P.cell c j) 0)
      ⊢ |={Set.univ}=> iprop(∃ κ : Dev nD × J → ℕ, bigSep Finset.univ fun x : Dev nD × J => cellInv (ER nD τ sig Val) P.sched (κ x) (P.cell x.1 x.2)) := by
    have hsem : (bigSep Finset.univ fun c : Dev nD => (Pipeline.ownSems0 P.osem c : sProp 𝕄))
        = bigSep Finset.univ fun x : Dev nD × J => semVal (P.cell x.1 x.2) 0 := by
      rw [bigSep_univ_prod]; rfl
    rw [hsem, ← bigSep_univ_prod (fun x : Dev nD × J => (roundState (ER nD τ sig Val) P.sched (P.cell x.1 x.2) 0 : sProp 𝕄)), ← bigSep_sep']
    refine ((bigSep_mono fun x _ => (Rounds.body_intro (ER nD τ sig Val) P.sched (P.cell x.1 x.2)).trans inv_alloc).trans (bigSep_fupd _ _)).trans
      (BI.fupd_mono (BI.bigSep_exists_pi Finset.univ fun (x : Dev nD × J) (κ : ℕ) => cellInv (ER nD τ sig Val) P.sched κ (P.cell x.1 x.2)))
  unfold ghost LoneCall.ours start
  rw [P.toks_around]
  simp only [bigSep_sep']
  iintro ⟨⟨Hos, Hur, Hcr⟩, #Hlev, ⟨Hst, #Hre, Hat, Htk⟩⟩
  imod hinv $$ [Hos Hst] with ⟨%κ, #Hinv⟩
  · isplitl [Hos] <;> iassumption
  have hcr : (bigSep Finset.univ fun c : Dev nD => (Pipeline.launchCred P.owes₀ c : sProp 𝕄))
      ⊢ bigSep Finset.univ fun c : Dev nD => bigSep P.far fun j => cred (tallyAt (P.cell c j) () (P.amount j)) :=
    bigSep_mono fun c _ => P.creds c
  ihave HB := hB $$ Hur
  imodintro
  isplitr
  · iapply (BI.bigSep_intro_persistent (S := Finset.univ) (R := P.records κ) fun (c : Dev nD) _ => (show P.records κ ⊢ iprop(∃ κ, P.records κ) from by
      iintro H; iexists κ; iexact H))
    unfold records
    isplitr; · iexact Hinv
    isplitr <;> iassumption
  isplitl [Hat]; · iexact Hat
  isplitl [Htk]; · iexact Htk
  isplitl [Hcr]; · iapply hcr; iexact Hcr
  iexact HB

end Plan

end Cert.Proof.Exchange
-- ==== Proof.Copies.lean ====
/-
# A family of copies between devices

`Copies` lists the copies a kernel starts before its first block and awaits after its last: for each the source and the
destination (which may depend on the sender), the device it goes to (a permutation of the devices), and its two
semaphores. The exchange's plan (Exchange.lean) follows: a copy's send semaphore hands the source back, its receive
semaphore hands over the destination with the sender's data in it. Per copy, device `c` goes from `todo` to `going`
(`wp_start`), and from there, by `wp_sent` and `wp_landed`, to the source back and the sender's data landed.
-/
module

public import proofs.«01_k».proof.Proof.Exchange

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Dat)

variable {nD : Nat} {τ : Topo} {sig : RefSig} {Val : EltTy → Type}

local notation "𝕄" => MT nD τ sig Unit Val ℕ (UU nD τ sig) ℕ

variable (nD sig) in
/-- The copies of a kernel. -/
structure Copies (K : Type) where
  spS : K → Space
  spD : K → Space
  sh : K → Shape
  el : K → EltTy
  /-- What device `c` sends. -/
  src : (k : K) → Dev nD → Memref sig .tc (spS k) (sh k) (el k)
  /-- Where device `c`'s data goes on the device it is sent to. -/
  dst : (k : K) → Dev nD → Memref sig .tc (spD k) (sh k) (el k)
  /-- The device that device `c` sends to. -/
  peer : K → Equiv.Perm (Dev nD)
  ssem : K → SemLoc sig
  rsem : K → SemLoc sig
  inj : Function.Injective (Sum.elim ssem rsem)
  /-- The share of the source that the copy borrows. -/
  q : K → PosShare TreeShare
  amount : K → ℕ
  amount_eq : ∀ k c, (dst k c).view.amount (rsem k) = amount k
  amount_pos : ∀ k, 0 < amount k

namespace Copies

variable {K : Type} [Fintype K] [DecidableEq K] (C : Copies nD sig K) (m : (ℓ : Loc nD τ sig) → Buf Val ℓ)

/-- The source of copy `k` on device `c`, as launched. -/
def srcPts (k : K) (c : Dev nD) : sProp 𝕄 :=
  (C.src k c).view.loc c.tc ↦[(C.src k c).view.set]{C.q k} m ((C.src k c).view.loc c.tc)
/-- The place where device `c`'s copy `k` is to land, as launched. -/
def dstPts (k : K) (c : Dev nD) : sProp 𝕄 :=
  (C.dst k c).view.loc (C.peer k c).tc ↦[(C.dst k c).view.set]{fullShare} m ((C.dst k c).view.loc (C.peer k c).tc)
/-- What device `d`'s buffer holds once `c`'s copy `k` has landed in it. -/
def arrived (k : K) (c d : Dev nD) : Buf Val ((C.dst k c).view.loc (d.tc : Thread nD τ)) :=
  (C.dst k c).view.write Val (m ((C.dst k c).view.loc (d.tc : Thread nD τ)))
    ((C.src k c).view.read Val (m ((C.src k c).view.loc (c.tc : Thread nD τ)))) Finset.univ
/-- Copy `k` landed on device `d`. -/
def landPts (k : K) (d : Dev nD) : sProp 𝕄 :=
  (C.dst k ((C.peer k).symm d)).view.loc d.tc ↦[(C.dst k ((C.peer k).symm d)).view.set]{fullShare} C.arrived m k ((C.peer k).symm d) d

instance srcPts_storable (k : K) (c : Dev nD) : BI.Storable (upEmb : UEmb _ 𝕄) (C.srcPts m k c) := by unfold srcPts; infer_instance
instance landPts_storable (k : K) (c : Dev nD) : BI.Storable (upEmb : UEmb _ 𝕄) (C.landPts m k c) := by unfold landPts; infer_instance

/-- The plan of the exchange. -/
def plan : Plan nD τ sig Val (K ⊕ K) where
  osem := Sum.elim C.ssem C.rsem
  inj := C.inj
  payer := Sum.elim (fun _ => Equiv.refl _) C.peer
  far := Finset.univ.map ⟨Sum.inr, Sum.inr_injective⟩
  amount := Sum.elim C.amount C.amount
  amount_pos := by rintro (k | k) <;> exact C.amount_pos k
  lev _ := 1
  lev_pos _ := Nat.one_pos
  pay c := Sum.elim (fun k => C.srcPts m k c) (fun k => C.landPts m k c)
  storable c := by rintro (k | k) <;> [exact C.srcPts_storable m k c; exact C.landPts_storable m k c]

/-- The cells of copy `k`: the sender's, the receiver's. -/
abbrev sendCell (k : K) (c : Dev nD) : GSem nD τ sig := (c.tc, C.ssem k)
abbrev recvCell (k : K) (c : Dev nD) : GSem nD τ sig := (c.tc, C.rsem k)

/-- Before copy `k` is started, device `c` holds its source, its destination on the other device, and the rights to
    credit the two cells; -/
def todo (k : K) (c : Dev nD) : sProp 𝕄 :=
  iprop(C.srcPts m k c ∗ C.dstPts m k c ∗ dutyTok (ER nD τ sig Val) (C.sendCell k c) 0 () ∗ dutyTok (ER nD τ sig Val) (C.recvCell k (C.peer k c)) 0 ())
/-- its own two cells are at their beginning and a landing is owed to it; -/
def expected (k : K) (c : Dev nD) : sProp 𝕄 :=
  iprop(atPos (ER nD τ sig Val) (C.sendCell k c) 0 ∅ 0 ∗ atPos (ER nD τ sig Val) (C.recvCell k c) 0 ∅ 0 ∗ cred (tallyAt (C.recvCell k c) () (C.amount k)))
/-- once it is started the device may wait for both; -/
def going (k : K) (c : Dev nD) : sProp 𝕄 :=
  iprop((cred (tallyAt (C.sendCell k c) () (C.amount k)) ∗ atPos (ER nD τ sig Val) (C.sendCell k c) 0 ∅ 0)
    ∗ (cred (tallyAt (C.recvCell k c) () (C.amount k)) ∗ atPos (ER nD τ sig Val) (C.recvCell k c) 0 ∅ 0))
/-- and after both waits it has its source back and the other device's data. -/
def finished (k : K) (c : Dev nD) : sProp 𝕄 :=
  iprop((semVal (C.sendCell k c) 0 ∗ C.srcPts m k c) ∗ (semVal (C.recvCell k c) 0 ∗ C.landPts m k c))

/-- The landings that device `c` still owes for the copies in `S`. -/
def owing (S : Finset K) (c : Dev nD) : CellTallies nD τ sig Unit := ∑ k ∈ S, tallyAt (C.recvCell k (C.peer k c)) () (C.amount k)

theorem owes₀_eq (c : Dev nD) : (C.plan (τ := τ) m).owes₀ c = C.owing Finset.univ c := by
  unfold Plan.owes₀ owing
  show ∑ j ∈ Finset.univ.map _, _ = _
  rw [Finset.sum_map]; rfl

theorem owing_insert {k : K} {S : Finset K} (h : k ∉ S) (c : Dev nD) :
    (C.owing (τ := τ) (insert k S) c) = C.owing S c + tallyAt (C.recvCell k (C.peer k c)) () (C.amount k) := by
  unfold owing; rw [Finset.sum_insert h, add_comm]
theorem owing_erase {k : K} {S : Finset K} (h : k ∈ S) (c : Dev nD) :
    (C.owing (τ := τ) S c) = C.owing (S.erase k) c + tallyAt (C.recvCell k (C.peer k c)) () (C.amount k) := by
  rw [← C.owing_insert (Finset.notMem_erase k S), Finset.insert_erase h]
theorem owing_empty (c : Dev nD) : C.owing (τ := τ) ∅ c = 0 := by unfold owing; rw [Finset.sum_empty]

/-- Over a sum of two index types: over the one and over the other. -/
theorem bigSep_sum {A B : Type} [Fintype A] [Fintype B] [DecidableEq A] [DecidableEq B] {M : Type} [URA M] (Φ : A ⊕ B → sProp M) :
    bigSep Finset.univ Φ = iprop((bigSep Finset.univ fun k => Φ (Sum.inl k)) ∗ bigSep Finset.univ fun k => Φ (Sum.inr k)) := by
  have h : (Finset.univ : Finset (A ⊕ B)) = (Finset.univ.map ⟨Sum.inl, Sum.inl_injective⟩) ∪ (Finset.univ.map ⟨Sum.inr, Sum.inr_injective⟩) := by
    ext x; rcases x with k | k <;> simp
  have hd : Disjoint (Finset.univ.map ⟨(Sum.inl : A → A ⊕ B), Sum.inl_injective⟩) (Finset.univ.map ⟨(Sum.inr : B → A ⊕ B), Sum.inr_injective⟩) := by
    rw [Finset.disjoint_left]; intro x hx hy
    simp only [Finset.mem_map, Finset.mem_univ, true_and, Function.Embedding.coeFn_mk] at hx hy
    obtain ⟨k, rfl⟩ := hx; obtain ⟨k', h'⟩ := hy; cases h'
  rw [h, bigSep_union hd, bigSep_map, bigSep_map]; rfl

/-- What the exchange's launch gives device `c`, copy by copy. -/
theorem start_copies (R : Dev nD → sProp 𝕄) (c : Dev nD) :
    (C.plan m).start (fun c => iprop((bigSep Finset.univ fun k => C.srcPts m k c) ∗ (bigSep Finset.univ fun k => C.dstPts m k c) ∗ R c)) c
      ⊢ iprop((∃ κ, (C.plan m).records κ) ∗ (bigSep Finset.univ fun k => iprop(C.todo m k c ∗ C.expected k c)) ∗ R c) := by
  unfold Plan.start
  rw [bigSep_sum, bigSep_sum]
  have hf : (bigSep (C.plan m).far fun j => (cred (tallyAt ((C.plan m).cell c j) () ((C.plan m).amount j)) : sProp 𝕄))
      = bigSep Finset.univ fun k => cred (tallyAt (C.recvCell k c) () (C.amount k)) := by
    show bigSep (Finset.univ.map _) _ = _
    rw [bigSep_map]; rfl
  rw [hf]
  unfold todo expected
  simp only [bigSep_sep']
  iintro ⟨HR, ⟨Ha1, Ha2⟩, ⟨Ht1, Ht2⟩, Hc, Hs, Hd, HB⟩
  isplitl [HR]; · iexact HR
  isplitr [HB]
  · isplitl [Hs Hd Ht1 Ht2]
    · isplitl [Hs]; · iexact Hs
      isplitl [Hd]; · iexact Hd
      isplitl [Ht1]; · iexact Ht1
      iexact Ht2
    · isplitl [Ha1]; · iexact Ha1
      isplitl [Ha2]; · iexact Ha2
      iexact Hc
  iexact HB

section Steps

variable {Λ : Labels} {defs : Defs nD τ sig Val Λ} (𝒱 : Variants) (bd : Option 𝒱.V)
variable {α : Type} {Q : α → sProp (MT nD τ sig Unit Val ℕ (UU nD τ sig) ℕ)}

/-- Starting copy `k`. -/
theorem wp_start (c : Dev nD) (κ : Dev nD × (K ⊕ K) → ℕ) (k : K)
    {hsc : (C.dst k c).view.ref.isScScratch = false}
    {hsrc : (C.src k c).view.WordExact} {hdst : (C.dst k c).view.WordExact}
    {hsem : DmaTarget.Typed (C.spS k) (C.rsem k) (DmaTarget.remote (c' := (C.peer k c).tc) (C.dst k c) (C.ssem k) hsc)}
    {K' : PUnit → Prog (TpuEff nD τ sig Val Λ .tc) α}
    {O₀ : CellTallies nD τ sig Unit} (O : CellTallies nD τ sig Unit)
    (hO : O₀ = O + tallyAt (C.recvCell k (C.peer k c)) () (C.amount k)) {W : Waits sig Unit}
    (hr : τ.routes c.tc (C.peer k c).tc = true := by routes) :
    iprop((C.plan m).records κ ∗ (C.todo m k c ∗ C.expected k c) ∗ owes c.tc O₀ W)
      ⊢ iprop(((C.going k c ∗ owes c.tc O W) -∗ wp frame (wpE defs 𝒱 c.tc bd) Set.univ (K' ⟨⟩) Q)
          -∗ wp frame (wpE defs 𝒱 c.tc bd) Set.univ
            (.op (.enqueueDma (C.src k c) (.remote (C.peer k c).tc (C.dst k c) (C.ssem k) hsc) (C.rsem k) hsrc hdst hsem) K') Q) := by
  have hland : ((C.dst k c).view.loc (C.peer k c).tc ↦[(C.dst k c).view.set]{fullShare} C.arrived m k c (C.peer k c) : sProp 𝕄)
      ⊢ C.landPts m k (C.peer k c) := by
    have key : ∀ d, d = c → ((C.dst k c).view.loc (C.peer k c).tc ↦[(C.dst k c).view.set]{fullShare} C.arrived m k c (C.peer k c) : sProp 𝕄)
        ⊢ ((C.dst k d).view.loc (C.peer k c).tc ↦[(C.dst k d).view.set]{fullShare} C.arrived m k d (C.peer k c)) := by
      rintro d rfl; iintro H; iexact H
    exact key _ ((C.peer k).symm_apply_apply c)
  have hsent : ((C.src k c).view.loc c.tc ↦[(C.src k c).view.set]{C.q k} m ((C.src k c).view.loc c.tc) : sProp 𝕄)
      ⊢ C.srcPts m k c := by unfold srcPts; iintro H; iexact H
  have hstep := (C.plan m).wp_launch_copy 𝒱 bd (defs := defs) c (C.peer k c) κ (Sum.inl k) (Sum.inr k) (src := C.src k c) (dst := C.dst k c)
    (hsc := hsc) (hsrc := hsrc) (hdst := hdst) (hsem := hsem) (k := K') (Q := Q) (q := C.q k)
    (fs := m ((C.src k c).view.loc c.tc)) (fd := m ((C.dst k c).view.loc (C.peer k c).tc))
    (C.amount_eq k c) rfl O hO (W := W) hsent hland hr
  change iprop(_ ∗ _ ∗ _ ∗ _ ∗ dutyTok (ER nD τ sig Val) (C.sendCell k c) 0 () ∗ dutyTok (ER nD τ sig Val) (C.recvCell k (C.peer k c)) 0 ())
    ⊢ iprop(((cred (tallyAt (C.sendCell k c) () (C.amount k)) ∗ _) -∗ _) -∗ _) at hstep
  unfold todo expected going srcPts dstPts
  iintro ⟨HR, ⟨⟨Hs, Hd, Ht1, Ht2⟩, Ha1, Ha2, Hc2⟩, HO⟩ Hk
  iapply hstep $$ [HR Hs Hd Ht1 Ht2 HO]
  · isplitl [HR]; · iexact HR
    isplitl [Hs]; · iexact Hs
    isplitl [Hd]; · iexact Hd
    isplitl [HO]; · iexact HO
    isplitl [Ht1]; · iexact Ht1
    iexact Ht2
  iintro ⟨Hc1, HO⟩
  iapply Hk
  isplitr [HO]
  · isplitl [Hc1 Ha1]
    · isplitl [Hc1] <;> iassumption
    · isplitl [Hc2] <;> iassumption
  iexact HO

/-- Waiting until copy `k`'s source has been read. -/
theorem wp_sent (c : Dev nD) (κ : Dev nD × (K ⊕ K) → ℕ) (k : K) {w : TpuEff nD τ sig Val Λ .tc PUnit} {n : ℕ}
    (hw : ∀ K' : PUnit → sProp 𝕄, wpE defs 𝒱 c.tc bd Set.univ w K' = waitSpec c.tc Set.univ (C.ssem k) n K')
    (hn : n = C.amount k)
    {K' : PUnit → Prog (TpuEff nD τ sig Val Λ .tc) α} {W : Waits sig Unit} :
    iprop((C.plan m).records κ ∗ (cred (tallyAt (C.sendCell k c) () (C.amount k)) ∗ atPos (ER nD τ sig Val) (C.sendCell k c) 0 ∅ 0) ∗ owes c.tc 0 W)
      ⊢ iprop((((semVal (C.sendCell k c) 0 ∗ C.srcPts m k c) ∗ owes c.tc 0 (insert (C.ssem k, ()) W))
            -∗ wp frame (wpE defs 𝒱 c.tc bd) Set.univ (K' ⟨⟩) Q)
          -∗ wp frame (wpE defs 𝒱 c.tc bd) Set.univ (.op w K') Q) := by
  have hstep := (C.plan m).wp_await 𝒱 bd (defs := defs) c κ (Sum.inl k) (w := w) (n := n) hw hn (k := K') (Q := Q) (W := W)
  change iprop(_ ∗ cred (tallyAt (C.sendCell k c) () (C.amount k)) ∗ _ ∗ atPos (ER nD τ sig Val) (C.sendCell k c) 0 ∅ 0) ⊢ iprop(((owes c.tc 0 (insert (C.ssem k, ()) W) ∗ semVal (C.sendCell k c) 0 ∗ C.srcPts m k c) -∗ _) -∗ _) at hstep
  iintro ⟨HR, ⟨Hc, Ha⟩, HO⟩ Hk
  iapply hstep $$ [HR Hc Ha HO]
  · isplitl [HR]; · iexact HR
    isplitl [Hc]; · iexact Hc
    isplitl [HO] <;> iassumption
  iintro ⟨HO, Hz, Hp⟩
  iapply Hk
  isplitr [HO]
  · isplitl [Hz]; · iexact Hz
    iexact Hp
  iexact HO

/-- Waiting until copy `k` has landed on device `c`. -/
theorem wp_landed (c : Dev nD) (κ : Dev nD × (K ⊕ K) → ℕ) (k : K) {w : TpuEff nD τ sig Val Λ .tc PUnit} {n : ℕ}
    (hw : ∀ K' : PUnit → sProp 𝕄, wpE defs 𝒱 c.tc bd Set.univ w K' = waitSpec c.tc Set.univ (C.rsem k) n K')
    (hn : n = C.amount k)
    {K' : PUnit → Prog (TpuEff nD τ sig Val Λ .tc) α} {W : Waits sig Unit} :
    iprop((C.plan m).records κ ∗ (cred (tallyAt (C.recvCell k c) () (C.amount k)) ∗ atPos (ER nD τ sig Val) (C.recvCell k c) 0 ∅ 0) ∗ owes c.tc 0 W)
      ⊢ iprop((((semVal (C.recvCell k c) 0 ∗ C.landPts m k c) ∗ owes c.tc 0 (insert (C.rsem k, ()) W))
            -∗ wp frame (wpE defs 𝒱 c.tc bd) Set.univ (K' ⟨⟩) Q)
          -∗ wp frame (wpE defs 𝒱 c.tc bd) Set.univ (.op w K') Q) := by
  have hstep := (C.plan m).wp_await 𝒱 bd (defs := defs) c κ (Sum.inr k) (w := w) (n := n) hw hn (k := K') (Q := Q) (W := W)
  change iprop(_ ∗ cred (tallyAt (C.recvCell k c) () (C.amount k)) ∗ _ ∗ atPos (ER nD τ sig Val) (C.recvCell k c) 0 ∅ 0) ⊢ iprop(((owes c.tc 0 (insert (C.rsem k, ()) W) ∗ semVal (C.recvCell k c) 0 ∗ C.landPts m k c) -∗ _) -∗ _) at hstep
  iintro ⟨HR, ⟨Hc, Ha⟩, HO⟩ Hk
  iapply hstep $$ [HR Hc Ha HO]
  · isplitl [HR]; · iexact HR
    isplitl [Hc]; · iexact Hc
    isplitl [HO] <;> iassumption
  iintro ⟨HO, Hz, Hp⟩
  iapply Hk
  isplitr [HO]
  · isplitl [Hz]; · iexact Hz
    iexact Hp
  iexact HO

end Steps

end Copies

/-- A buffer held whole is what the memory holds. -/
theorem read_whole (ℓ : Loc nD τ sig) (f : Buf Val ℓ) (s' : Phys nD τ sig Val) :
    iprop((ℓ ↦{fullShare} f : sProp 𝕄) ∗ SI s') ⊢ iprop(⌜s'.mem.mem ℓ = f⌝ ∗ SI s') := by
  iintro ⟨H, HSI⟩
  icombine HSI H gives %h
  isplitr
  · ipureintro; exact Buf.eq_of_forall_mem_univ h
  iexact HSI

/-! ## A buffer in pieces -/

/-- A buffer without the elements in the pieces `I`. -/
def outside {T : Type} [Fintype T] (ℓ : Loc nD τ sig) (I : T → Finset (Idx ℓ)) (f : Buf Val ℓ) : sProp 𝕄 :=
  ℓ ↦[Finset.univ \ Finset.univ.biUnion I]{fullShare} f

/-- A buffer is its pieces, held one by one, and what is outside them. -/
theorem split_pieces {T : Type} [Fintype T] (ℓ : Loc nD τ sig) (I : T → Finset (Idx ℓ)) (hd : ∀ t t', t ≠ t' → Disjoint (I t) (I t')) (f : Buf Val ℓ) :
    (ℓ ↦{fullShare} f : sProp 𝕄) ⊣⊢ iprop((bigSep Finset.univ fun t => ℓ ↦[I t]{fullShare} f) ∗ outside ℓ I f) := by
  rw [← pointsTo_biUnion Finset.univ I (fun t _ t' _ h => hd t t' h)]
  exact pointsTo_split_subset (Finset.subset_univ _)

/-- A buffer that its pieces cover is its pieces. -/
theorem all_pieces {T : Type} [Fintype T] (ℓ : Loc nD τ sig) (I : T → Finset (Idx ℓ)) (hd : ∀ t t', t ≠ t' → Disjoint (I t) (I t'))
    (hc : ∀ i, ∃ t, i ∈ I t) (f : Buf Val ℓ) :
    (ℓ ↦{fullShare} f : sProp 𝕄) = bigSep Finset.univ fun t => ℓ ↦[I t]{fullShare} f := by
  rw [← pointsTo_biUnion Finset.univ I (fun t _ t' _ h => hd t t' h)]
  have : Finset.univ.biUnion I = Finset.univ := by
    ext i
    simp only [Finset.mem_biUnion, Finset.mem_univ, true_and, iff_true]
    exact hc i
  rw [this]

/-! ## Reading and writing an owned whole buffer -/

section Owned

variable {Λ : Labels} {defs : Defs nD τ sig Val Λ} (𝒱 : Variants) (bd : Option 𝒱.V)
variable {α : Type} {Q : α → sProp (MT nD τ sig Unit Val ℕ (UU nD τ sig) ℕ)}

/-- A load of a whole owned buffer yields its contents. -/
theorem wp_load_all (c : Dev nD) {cs : CoreSpace} {s : Shape} {e : EltTy} {M : Memref sig .tc cs s e} {o : Fin s.rank → ℕ} (ho : o = fun _ => 0)
    {h : ∀ a, o a + s.size a ≤ s.size a} {hl : M.view.LoadsAt (Rect.unit (s := s) o s.size h).toLoadRect} {X : s.Idx → Val e}
    {k : (s.Idx → Val e) → Prog (TpuEff nD τ sig Val Λ .tc) α} :
    (owns c.tc M fullShare X : sProp 𝕄)
      ⊢ iprop((owns c.tc M fullShare X -∗ wp frame (wpE defs 𝒱 c.tc bd) Set.univ (k X) Q)
        -∗ wp frame (wpE defs 𝒱 c.tc bd) Set.univ (.op (.load M (Rect.unit (s := s) o s.size h).toLoadRect hl) k) Q) := by
  unfold owns
  iintro ⟨%f, %hf, H⟩ Hk
  iapply (wp_load 𝒱 c.tc bd Set.univ (m := M) (View.setOn_subset_set _ _)) $$ H
  iintro H
  have hr : M.view.readAt Val (Rect.unit (s := s) o s.size h).toLoadRect f = X := by
    rw [← hf]; funext x
    have hx : (Rect.unit (s := s) o s.size h).toLoadRect.idx x = x := by
      subst ho; funext a; apply Fin.ext; simp [Rect.unit]
    show View.read Val M.view f _ = _
    rw [hx]
  rw [hr]
  iapply Hk
  iexists f
  isplitr; · ipureintro; exact hf
  iexact H

/-- A store over a whole owned buffer leaves what is stored. -/
theorem wp_store_all (c : Dev nD) {cs : CoreSpace} {s : Shape} {e : EltTy} {M : Memref sig .tc cs s e} {o : Fin s.rank → ℕ} (ho : o = fun _ => 0)
    {h : ∀ a, o a + s.size a ≤ s.size a} {w : s.Idx → Val e} {hx : (M.access (Rect.unit (s := s) o s.size h)).Stores Finset.univ}
    {hm : (Finset.univ : Finset (Rect.unit (s := s) o s.size h).shape.Idx) = Finset.univ ∨ ∀ a, (Rect.unit (s := s) o s.size h).stride a = 1}
    {X : s.Idx → Val e} {k : PUnit → Prog (TpuEff nD τ sig Val Λ .tc) α} :
    (owns c.tc M fullShare X : sProp 𝕄)
      ⊢ iprop((owns c.tc M fullShare w -∗ wp frame (wpE defs 𝒱 c.tc bd) Set.univ (k ⟨⟩) Q)
        -∗ wp frame (wpE defs 𝒱 c.tc bd) Set.univ (.op (.store M (Rect.unit (s := s) o s.size h) w Finset.univ hx hm) k) Q) := by
  unfold owns
  iintro ⟨%f, %hf, H⟩ Hk
  iapply (wp_store 𝒱 (c.tc : Thread nD τ) bd Set.univ (m := M) (r := Rect.unit (s := s) o s.size h) (Mk := Finset.univ) (S := M.view.set) (f := f)
    (View.set_slice_subset _ _)) $$ H
  iintro H
  iapply Hk
  iexists ((M.access (Rect.unit (s := s) o s.size h)).write Val f w Finset.univ)
  isplitr
  · ipureintro
    have h2 := View.read_write_univ (v := M.access (Rect.unit (s := s) o s.size h)) (Val := Val) f w
    funext x
    have hx : (Rect.unit (s := s) o s.size h).idx x = x := by
      subst ho; funext a; apply Fin.ext; simp [Rect.unit]
    have h3 := congrFun h2 x
    rw [← h3]
    show View.read Val M.view _ x = View.read Val M.view _ ((Rect.unit (s := s) o s.size h).idx x)
    rw [hx]
  iexact H

end Owned

end Cert.Proof.Exchange
-- ==== Proof.OutRun.lean ====
/-
# The product with the gradient exchange: one run of the program

The kernel multiplies its 4096 rows by the transposed weight, eight blocks of 512 rows. Before the first block it sends
half of its gradient array to the other core of its chip, after the last block it waits for its own copy to be read and
for the other core's half to land. Here: the copy, what the device holds between blocks, the body at one block, and the
run of the whole program, for any float instance.
-/
module

public import proofs.«01_k».proof.Proof.Copies
public import proofs.«01_k».proof.Proof.Gen.KernelIdeal.Frame
public import proofs.«01_k».proof.Proof.Gen.KernelIdeal.Skeleton

@[expose] public section

set_option maxRecDepth 16384

noncomputable section

namespace Cert.OutBwd

open Cert.KernelIdeal Cert.KernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The copy -/

abbrev sendS : DmaSems sig S_ := ((cc0_scratch0 : DmaSems sig S1).slice (Rect.unit (s := S1) ![0] S1.size inb_S1_S1_0)).squeeze S_ squeezes_S1_S_
abbrev recvS : DmaSems sig S_ := ((cc0_scratch1 : DmaSems sig S1).slice (Rect.unit (s := S1) ![0] S1.size inb_S1_S1_0)).squeeze S_ squeezes_S1_S_

theorem off_inb : ∀ (c : Dev nD) a, k0_off1 c a + S1x4x512x1024.size a ≤ S2x4x512x1024.size a := by decide +kernel
theorem dev_lt : ∀ c : Dev nD, k0_dev1 c < nD := by decide +kernel

/-- The half of its gradient array that a device sends. -/
abbrev srcM (c : Dev nD) : Memref sig .tc .hbm S4x512x1024 .f32 :=
  ((Memref.whole main_arg2 : Memref sig .tc .hbm S2x4x512x1024 .f32).slice
    (Rect.unit (s := S2x4x512x1024) (k0_off1 c) S1x4x512x1024.size (off_inb c)) (fun _ => rfl)).squeeze S4x512x1024 squeezes_S1x4x512x1024_S4x512x1024
abbrev dstM : Memref sig .tc .hbm S4x512x1024 .f32 := Memref.whole main_v1_1

/-- The other core of the chip. -/
def other (c : Dev nD) : Dev nD := ⟨k0_dev1 c, dev_lt c⟩
theorem other_other : ∀ c, other (other c) = c := by decide +kernel
def swap : Equiv.Perm (Dev nD) := ⟨other, other, other_other, other_other⟩

theorem sems_inj : Function.Injective (Sum.elim (fun _ : Unit => (SemLoc.dma sendS.sem : SemLoc sig)) (fun _ : Unit => SemLoc.dma recvS.sem)) := by
  decide

def C : Copies nD sig Unit where
  spS _ := .hbm
  spD _ := .hbm
  sh _ := S4x512x1024
  el _ := .f32
  src _ c := srcM c
  dst _ _ := dstM
  peer _ := swap
  ssem _ := .dma sendS.sem
  rsem _ := .dma recvS.sem
  inj := sems_inj
  q _ := fullShare
  amount _ := (dstM).view.dmaCredit
  amount_eq _ _ := rfl
  amount_pos _ := View.dmaCredit_pos _ (by decide)

variable (m : (ℓ : Loc nD τ sig) → Buf (Elt F) ℓ) (ρ : Dev nD → PrngReg)

/-- The half of its gradient array that a device keeps. -/
def keptPts (c : Dev nD) : sProp 𝕄 :=
  (c.tc.loc main_arg2) ↦[Finset.univ \ (srcM c).view.set]{fullShare} m (c.tc.loc main_arg2)

/-! ## What a device holds between blocks -/

def holds₀ (c : Dev nD) : sProp 𝕄 :=
  iprop((∃ κ, (C.plan m).records κ) ∗ (bigSep Finset.univ fun k => iprop(C.todo m k c ∗ C.expected k c)) ∗ keptPts m c)
def holds₁ (c : Dev nD) : sProp 𝕄 :=
  iprop((∃ κ, (C.plan m).records κ) ∗ C.going () c ∗ keptPts m c)
def holds₂ (c : Dev nD) : sProp 𝕄 :=
  iprop(C.finished m () c ∗ keptPts m c)

/-- The product of a block. -/
def outAt (c : Dev nD) (t : Fin cfg0.N) : S512x1024.Idx → Elt F .f32 := k0_pay1 (iblk m c 0 t) (iblk m c 1 t)

def dats (_ : Fin 1) (c : Dev nD) : Dat τ (Elt F) Unit ℕ (UU nD τ sig) ℕ cfg0 c where
  A w := m ((cfg0.win w).arr.view.loc c.tc)
  after w t := match w with
    | ⟨0, _⟩ => iblk m c 0 t
    | ⟨1, _⟩ => iblk m c 1 t
    | ⟨2, _⟩ => outAt m c t
  Φ t := if t.val = 0 then holds₀ m c else if t.val = 8 then holds₂ m c else holds₁ m c
  q _ := fullShare
  owed t := if t.val = 0 then C.owing Finset.univ c else 0

abbrev 𝒱₀ : Variants := Variants.none

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 7 := by decide +kernel
theorem origin : (![0, 0] : Fin 2 → Nat) = fun _ => 0 := funext fun a => by fin_cases a <;> rfl

/-- The product of one block: from the two staged operands to the staged result, whatever follows. -/
theorem wp_product (c : Dev nD) (t : Fin cfg0.N) {α : Type} {Q : α → sProp 𝕄}
    {i1 i2 i3 : _} {l1 l2 l3 : _} {x1 : _} {y1 : _}
    {X0 : S512x1024.Idx → Elt F .bf16} {X1 : S1024x1024.Idx → Elt F .bf16} {X2 : S512x1024.Idx → Elt F .f32}
    {k : PUnit → Prog (TpuEff nD τ sig (Elt F) Λ₀ .tc) α} :
    iprop((owns c.tc (st0_0 t) fullShare X0 : sProp 𝕄) ∗ owns c.tc (st0_1 t) fullShare X1 ∗ owns c.tc (st0_2 t) fullShare X2)
      ⊢ iprop(((owns c.tc (st0_0 t) fullShare X0 ∗ owns c.tc (st0_1 t) fullShare X1
            ∗ owns c.tc (st0_2 t) fullShare (k0_pay1 X0 X1 : FVec F S512x1024 .f32)) -∗ wp frame (wpE (defs₀ (F := F)) 𝒱₀ c.tc none) Set.univ (k ⟨⟩) Q)
        -∗ wp frame (wpE (defs₀ (F := F)) 𝒱₀ c.tc none) Set.univ
          (.op (.load (st0_0 t : Memref sig .tc .vmem S512x1024 .bf16) (Rect.unit (s := S512x1024) ![0, 0] S512x1024.size i1).toLoadRect l1) fun v10 =>
            .op (.load (st0_1 t : Memref sig .tc .vmem S1024x1024 .bf16) (Rect.unit (s := S1024x1024) ![0, 0] S1024x1024.size i2).toLoadRect l2) fun v12 =>
            .op (.load (st0_2 t : Memref sig .tc .vmem S512x1024 .f32) (Rect.unit (s := S512x1024) ![0, 0] S512x1024.size i3).toLoadRect l3) fun _ =>
            .op (.store (st0_2 t : Memref sig .tc .vmem S512x1024 .f32) (Rect.unit (s := S512x1024) ![0, 0] S512x1024.size i3) (k0_pay1 v10 v12) Finset.univ x1 y1) k) Q) := by
  iintro ⟨H0, H1, H2⟩ Hk
  iapply (wp_load_all 𝒱₀ none c origin) $$ H0
  iintro H0
  iapply (wp_load_all 𝒱₀ none c origin) $$ H1
  iintro H1
  iapply (wp_load_all 𝒱₀ none c origin) $$ H2
  iintro H2
  iapply (wp_store_all 𝒱₀ none c origin) $$ H2
  iintro H2
  iapply Hk
  isplitl [H0]; · iexact H0
  isplitl [H1]; · iexact H1
  iexact H2

theorem holds_first (c : Dev nD) (t : Fin (cfg0.N + 1)) (h : t.val = 0) : (dats m 0 c).Φ t = holds₀ m c := if_pos h
theorem holds_between (c : Dev nD) (t : Fin (cfg0.N + 1)) (h : t.val ≠ 0) (h' : t.val ≠ 8) : (dats m 0 c).Φ t = holds₁ m c :=
  (if_neg h).trans (if_neg h')
theorem holds_last (c : Dev nD) (t : Fin (cfg0.N + 1)) (h : t.val = 8) : (dats m 0 c).Φ t = holds₂ m c :=
  (if_neg (by omega)).trans (if_pos h)
theorem owed_first (c : Dev nD) (t : Fin (cfg0.N + 1)) (h : t.val = 0) : (dats m 0 c).owed t = C.owing Finset.univ c := if_pos h
theorem owed_later (c : Dev nD) (t : Fin (cfg0.N + 1)) (h : t.val ≠ 0) : (dats m 0 c).owed t = 0 := if_neg h
theorem val_succ (t : Fin cfg0.N) : t.succ.val = t.val + 1 := rfl
theorem val_lt (t : Fin cfg0.N) : t.val < 8 := Nat.lt_of_lt_of_eq t.isLt N_0

/-! ## The body at one block -/

abbrev bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d)))
abbrev bodyPost (c : Dev nD) (t : Fin cfg0.N) : sProp 𝕄 :=
  iprop((dats m 0 c).Φ t.succ ∗ (dats m 0 c).owesAt () t.succ
    ∗ owns c.tc (st0_0 t) fullShare (iblk m c 0 t)
    ∗ owns c.tc (st0_1 t) fullShare (iblk m c 1 t)
    ∗ owns c.tc (st0_2 t) fullShare (outAt m c t))

theorem owesAt_of (c : Dev nD) (t : Fin (cfg0.N + 1)) (W : Waits sig Unit) :
    (owes c.tc ((dats m 0 c).owed t) W : sProp 𝕄) ⊢ (dats m 0 c).owesAt () t := by
  unfold Dat.owesAt Pipeline.owesWithin
  iintro HO
  iexists W
  isplitr; · ipureintro; exact fun _ _ => Or.inl trivial
  iexact HO

theorem owesAt_elim (c : Dev nD) (t : Fin (cfg0.N + 1)) :
    ((dats m 0 c).owesAt () t : sProp 𝕄) ⊢ iprop(∃ W, owes c.tc ((dats m 0 c).owed t) W) := by
  unfold Dat.owesAt Pipeline.owesWithin
  iintro ⟨%W, %hW, HO⟩
  iexists W
  iexact HO

theorem body_first (c : Dev nD) (t : Fin cfg0.N) (ht : t.val = 0) :
    bodyPre m c t ⊢ wp frame (wpE (defs₀ (F := F)) 𝒱₀ c.tc none) Set.univ (bodyAt0 t) (fun _ => bodyPost m c t) := by
  have hΦ := holds_first m c t.castSucc ht
  have hΦ' := holds_between m c t.succ (Nat.succ_ne_zero _) (by rw [val_succ]; omega)
  have hO := owed_first m c t.castSucc ht
  have hO' := owed_later m c t.succ (Nat.succ_ne_zero _)
  have h1 : k0_cond1 (grid0.coords t) = 1#1 := (cond1_iff t).2 ht
  have h2 := (not_congr (cond2_iff t)).2 (by omega)
  have hfin := owesAt_of m c t.succ
  rw [hO'] at hfin
  have hin := owesAt_elim m c t.castSucc
  rw [hO] at hin
  simp only [bodyPre, bodyPost, bodyAt0, cc0_out_bwd_eq_skeleton, hΦ, hΦ', before_0, before_1]
  unfold cc0_out_bwd_skel
  rw [dif_pos h1, dif_neg h2]
  simp only [Prog.lift, Prog.bind_op, Prog.bind_ret, Prog.pure_eq_ret, wp_deviceId]
  unfold holds₀ holds₁
  have hone : (bigSep Finset.univ fun k : Unit => iprop(C.todo m k c ∗ C.expected k c)) = iprop(C.todo m () c ∗ C.expected () c) := bigSep_singleton
  rw [hone]
  iintro ⟨⟨⟨%κ, #HR⟩, Hk, Hkept⟩, Ho, ⟨%d0, H0⟩, ⟨%d1, H1⟩, ⟨%d2, H2⟩⟩
  ihave Ho' := hin $$ Ho
  icases Ho' with ⟨%W, HO⟩
  iapply (C.wp_start m 𝒱₀ none c κ () (O := 0) (by
    show C.owing (insert () ∅) c = _
    rw [C.owing_insert (Finset.notMem_empty _), C.owing_empty])) $$ [Hk HO]
  · isplitr; · iexact HR
    isplitl [Hk]; · iexact Hk
    iexact HO
  iintro ⟨Hg, HO⟩
  iapply (wp_product c t) $$ [H0 H1 H2]
  · isplitl [H0]; · iexact H0
    isplitl [H1]; · iexact H1
    iexact H2
  iintro ⟨H0, H1, H2⟩
  rw [wp_ret]
  imodintro
  isplitl [Hg Hkept]
  · isplitr; · iexists κ; iexact HR
    isplitl [Hg]; · iexact Hg
    iexact Hkept
  isplitl [HO]; · iapply hfin; iexact HO
  isplitl [H0]; · iexact H0
  isplitl [H1]; · iexact H1
  iexact H2

theorem body_middle (c : Dev nD) (t : Fin cfg0.N) (ht : t.val ≠ 0) (ht' : t.val ≠ 7) :
    bodyPre m c t ⊢ wp frame (wpE (defs₀ (F := F)) 𝒱₀ c.tc none) Set.univ (bodyAt0 t) (fun _ => bodyPost m c t) := by
  have hΦ := holds_between m c t.castSucc ht (Nat.ne_of_lt (val_lt t))
  have hΦ' := holds_between m c t.succ (Nat.succ_ne_zero _) (by rw [val_succ]; omega)
  have hO := owed_later m c t.castSucc ht
  have hO' := owed_later m c t.succ (Nat.succ_ne_zero _)
  have h1 : ¬ k0_cond1 (grid0.coords t) = 1#1 := fun h => ht ((cond1_iff t).1 h)
  have h2 : ¬ k0_cond2 (grid0.coords t) = 1#1 := fun h => ht' ((cond2_iff t).1 h)
  have hfin := owesAt_of m c t.succ
  rw [hO'] at hfin
  have hin := owesAt_elim m c t.castSucc
  rw [hO] at hin
  simp only [bodyPre, bodyPost, bodyAt0, cc0_out_bwd_eq_skeleton, hΦ, hΦ', before_0, before_1]
  unfold cc0_out_bwd_skel
  rw [dif_neg h1, dif_neg h2]
  simp only [Prog.lift, Prog.bind_op, Prog.bind_ret, Prog.pure_eq_ret, wp_deviceId]
  iintro ⟨Hh, Ho, ⟨%d0, H0⟩, ⟨%d1, H1⟩, ⟨%d2, H2⟩⟩
  ihave Ho' := hin $$ Ho
  icases Ho' with ⟨%W, HO⟩
  iapply (wp_product c t) $$ [H0 H1 H2]
  · isplitl [H0]; · iexact H0
    isplitl [H1]; · iexact H1
    iexact H2
  iintro ⟨H0, H1, H2⟩
  rw [wp_ret]
  imodintro
  isplitl [Hh]; · iexact Hh
  isplitl [HO]; · iapply hfin; iexact HO
  isplitl [H0]; · iexact H0
  isplitl [H1]; · iexact H1
  iexact H2

theorem body_last (c : Dev nD) (t : Fin cfg0.N) (ht : t.val = 7) :
    bodyPre m c t ⊢ wp frame (wpE (defs₀ (F := F)) 𝒱₀ c.tc none) Set.univ (bodyAt0 t) (fun _ => bodyPost m c t) := by
  have hΦ := holds_between m c t.castSucc (fun h : t.val = 0 => by omega) (Nat.ne_of_lt (val_lt t))
  have hΦ' := holds_last m c t.succ (by rw [val_succ]; omega)
  have hO := owed_later m c t.castSucc (fun h : t.val = 0 => by omega)
  have hO' := owed_later m c t.succ (Nat.succ_ne_zero _)
  have h1 := (not_congr (cond1_iff t)).2 (by omega)
  have h2 : k0_cond2 (grid0.coords t) = 1#1 := (cond2_iff t).2 ht
  have hfin := owesAt_of m c t.succ
  rw [hO'] at hfin
  have hin := owesAt_elim m c t.castSucc
  rw [hO] at hin
  simp only [bodyPre, bodyPost, bodyAt0, cc0_out_bwd_eq_skeleton, hΦ, hΦ', before_0, before_1]
  unfold cc0_out_bwd_skel
  rw [dif_neg h1, dif_pos h2]
  simp only [Prog.lift, Prog.bind_op, Prog.bind_ret, Prog.pure_eq_ret, wp_deviceId]
  unfold holds₁ holds₂
  iintro ⟨⟨⟨%κ, #HR⟩, Hg, Hkept⟩, Ho, ⟨%d0, H0⟩, ⟨%d1, H1⟩, ⟨%d2, H2⟩⟩
  ihave Ho' := hin $$ Ho
  icases Ho' with ⟨%W, HO⟩
  iapply (wp_product c t) $$ [H0 H1 H2]
  · isplitl [H0]; · iexact H0
    isplitl [H1]; · iexact H1
    iexact H2
  iintro ⟨H0, H1, H2⟩
  simp only [wp_deviceId]
  unfold Copies.going Copies.finished
  icases Hg with ⟨Hs, Hr⟩
  iapply (C.wp_sent m 𝒱₀ none c κ () (wpE_waitDma2_eq 𝒱₀ c.tc none Set.univ) rfl) $$ [Hs HO]
  · isplitr; · iexact HR
    isplitl [Hs] <;> iassumption
  iintro ⟨Hs, HO⟩
  iapply (C.wp_landed m 𝒱₀ none c κ () (wpE_waitDma2_eq 𝒱₀ c.tc none Set.univ) rfl) $$ [Hr HO]
  · isplitr; · iexact HR
    isplitl [Hr] <;> iassumption
  iintro ⟨Hr, HO⟩
  rw [wp_ret]
  imodintro
  isplitl [Hs Hr Hkept]
  · isplitl [Hs Hr]
    · isplitl [Hs] <;> iassumption
    iexact Hkept
  isplitl [HO]; · iapply hfin; iexact HO
  isplitl [H0]; · iexact H0
  isplitl [H1]; · iexact H1
  iexact H2

theorem body_obligation (c : Dev nD) : BodyObligation (dats (F := F) m 0 c) (defs₀ (F := F)) 𝒱₀ () Set.univ := fun t => by
  rw [bigSep_W0, bigSep_W0]
  show bodyPre m c t ⊢ wp frame (wpE (defs₀ (F := F)) 𝒱₀ c.tc none) Set.univ (bodyAt0 t) (fun _ => bodyPost m c t)
  by_cases h0 : t.val = 0
  · exact body_first m c t h0
  by_cases h7 : t.val = 7
  · exact body_last m c t h7
  · exact body_middle m c t h0 h7

/-! ## The launch -/

theorem own_sems : Pipeline.OwnSemFacts cfg0.spec (C.plan (Val := Elt F) (τ := τ) m).osem := by
  show Pipeline.OwnSemFacts cfg0.spec (Sum.elim (fun _ : Unit => (SemLoc.dma sendS.sem : SemLoc sig)) (fun _ : Unit => SemLoc.dma recvS.sem))
  decide

theorem share_full (c : Dev nD) (w : Fin cfg0.W) : (dats m 0 c).share w = fullShare := by unfold Dat.share; split <;> rfl

theorem stage_not_own : ∀ (w : Fin cfg0.W) (s : Fin (cfg0.win w).nbuf) (j : Unit ⊕ Unit),
    (Sum.elim (fun _ : Unit => (SemLoc.dma sendS.sem : SemLoc sig)) (fun _ : Unit => SemLoc.dma recvS.sem)) j ≠ .dma ((cfg0.win w).sem s) := by
  decide

theorem waits (c : Dev nD) : (levAts Plan.L (C.plan m).lv : sProp 𝕄) ⊢ Pipeline.cellsWaits cfgs (dats m) () 0 c :=
  Pipeline.cellsWaits_intro cfgs (dats m) () 0 c fun w s t =>
    (C.plan m).mayWait_other c _ (fun j => stage_not_own w s j) _ (by
      rcases Nat.eq_zero_or_pos t.val with h | h
      · left; rw [C.owes₀_eq]; exact if_pos h
      · right; exact if_neg (Nat.ne_of_gt h))

/-- The buffers a device's body starts with: its own gradient array, and the landing array of the other core. -/
theorem buffers_dealt :
    (bigSep Finset.univ fun c : Dev nD => (Pipeline.unscopedRest spec0 c (fun b => m (c.tc.loc b)) : sProp 𝕄))
      ⊢ bigSep Finset.univ fun c : Dev nD => iprop((bigSep Finset.univ fun k => C.srcPts m k c) ∗ (bigSep Finset.univ fun k => C.dstPts m k c) ∗ keptPts m c) := by
  have h1 (c : Dev nD) : ((c.tc.loc main_arg2) ↦{fullShare} m (c.tc.loc main_arg2) : sProp 𝕄)
      ⊢ iprop((bigSep Finset.univ fun k => C.srcPts m k c) ∗ keptPts m c) := by
    have e1 : (bigSep Finset.univ fun k => (C.srcPts m k c : sProp 𝕄)) = C.srcPts m () c := bigSep_singleton
    rw [e1]
    exact (pointsTo_split_subset (Finset.subset_univ (srcM c).view.set)).1
  have h2 (c : Dev nD) : ((c.tc.loc main_v1_1) ↦{fullShare} m (c.tc.loc main_v1_1) : sProp 𝕄)
      = C.dstPts m () (swap.symm c) := by
    unfold Copies.dstPts
    show _ = (swap (swap.symm c)).tc.loc main_v1_1 ↦[(View.whole main_v1_1).set]{fullShare} m ((swap (swap.symm c)).tc.loc main_v1_1)
    rw [Equiv.apply_symm_apply, View.set_whole]
  simp only [unscopedRest0_eq, h2]
  rw [bigSep_sep', bigSep_sep', bigSep_sep']
  have h3 : (bigSep Finset.univ fun c : Dev nD => (C.dstPts m () (swap.symm c) : sProp 𝕄))
      = bigSep Finset.univ fun c : Dev nD => bigSep Finset.univ fun k => C.dstPts m k c :=
    ((bigSep_univ_equiv swap (fun c : Dev nD => (C.dstPts m () (swap.symm c) : sProp 𝕄))).trans
      (bigSep_congr fun c _ => by rw [Equiv.symm_apply_apply])).trans (bigSep_congr fun c _ => by
        symm; exact bigSep_singleton)
  have h4 : (bigSep Finset.univ fun c : Dev nD => ((c.tc.loc main_arg2) ↦{fullShare} m (c.tc.loc main_arg2) : sProp 𝕄))
      ⊢ iprop((bigSep Finset.univ fun c : Dev nD => bigSep Finset.univ fun k => C.srcPts m k c) ∗ bigSep Finset.univ fun c : Dev nD => keptPts m c) := by
    rw [← bigSep_sep']; exact bigSep_mono fun c _ => h1 c
  rw [h3]
  iintro ⟨Ha, Hd⟩
  ihave H := h4 $$ Ha
  icases H with ⟨Hs, Hk⟩
  isplitl [Hs]; · iexact Hs
  isplitl [Hd]; · iexact Hd
  iexact Hk

/-- What a device holds at the end beside its windows' arrays: its gradient array as launched, and the landing array
    with the other core's half. -/
def ends (c : Dev nD) : sProp 𝕄 :=
  iprop(((c.tc.loc main_arg2) ↦{fullShare} m (c.tc.loc main_arg2))
    ∗ ((c.tc.loc main_v1_1) ↦{fullShare} C.arrived m () (other c) c))

theorem phi_exit (c : Dev nD) :
    (dats m 0 c).Φ (Fin.last cfg0.N) ⊢ iprop(ends m c ∗ Pipeline.ownSems0 (C.plan (τ := τ) m).osem c ∗ Pipeline.scopedRest spec0 c) := by
  rw [holds_last m c _ N_0, scopedRest0_eq]
  have h1 : iprop(C.srcPts m () c ∗ keptPts m c) ⊢ ((c.tc.loc main_arg2) ↦{fullShare} m (c.tc.loc main_arg2) : sProp 𝕄) :=
    (pointsTo_split_subset (Finset.subset_univ (srcM c).view.set)).2
  have h2 : C.landPts m () c ⊢ ((c.tc.loc main_v1_1) ↦{fullShare} C.arrived m () (other c) c : sProp 𝕄) := by
    unfold Copies.landPts
    show ((c.tc.loc main_v1_1) ↦[(View.whole main_v1_1).set]{fullShare} C.arrived m () (other c) c : sProp 𝕄) ⊢ _
    rw [View.set_whole]
  have h3 : iprop(semVal (C.sendCell () c) 0 ∗ semVal (C.recvCell () c) 0) ⊢ (Pipeline.ownSems0 (C.plan (τ := τ) m).osem c : sProp 𝕄) := by
    unfold Pipeline.ownSems0
    rw [Copies.bigSep_sum]
    have e1 (Φ : Unit → sProp 𝕄) : bigSep Finset.univ Φ = Φ () := bigSep_singleton
    rw [e1, e1]
    iintro H; iexact H
  unfold holds₂ Copies.finished ends
  iintro ⟨⟨⟨Hz1, Hs⟩, Hz2, Hl⟩, Hk⟩
  isplitl [Hs Hk Hl]
  · isplitl [Hs Hk]
    · iapply h1; isplitl [Hs] <;> iassumption
    iapply h2; iexact Hl
  isplitl [Hz1 Hz2]
  · iapply h3; isplitl [Hz1] <;> iassumption
  iempintro

theorem ends_read (c : Dev nD) (s' : Phys nD τ sig (Elt F)) :
    iprop(ends m c ∗ SI s') ⊢ iprop(⌜s'.mem.mem (c.tc.loc main_arg2) = m (c.tc.loc main_arg2)
      ∧ s'.mem.mem (c.tc.loc main_v1_1) = C.arrived m () (other c) c⌝ ∗ SI s') := by
  have r1 := read_whole (c.tc.loc main_arg2) (m (c.tc.loc main_arg2)) s'
  have r2 := read_whole (c.tc.loc main_v1_1) (C.arrived m () (other c) c) s'
  unfold ends
  iintro ⟨⟨H1, H2⟩, HSI⟩
  ihave G1 := r1 $$ [H1 HSI]
  · isplitl [H1]; · iexact H1
    iexact HSI
  icases G1 with ⟨%h1, HSI⟩
  ihave G2 := r2 $$ [H2 HSI]
  · isplitl [H2]; · iexact H2
    iexact HSI
  icases G2 with ⟨%h2, HSI⟩
  isplitr; · ipureintro; exact ⟨h1, h2⟩
  iexact HSI

/-- The state in which a run of the program ends: the staged arrays as the pipeline leaves them, the gradient array
    unchanged, the landing array with the other core's half. -/
def Ended (s : MemSt nD τ sig (Elt F)) : Prop :=
  ∀ c : Dev nD, (∀ w, s.mem ((cfg0.win w).arr.view.loc c.tc) = (dats m 0 c).arrAt w cfg0.N)
    ∧ s.mem (c.tc.loc main_arg2) = m (c.tc.loc main_arg2)
    ∧ s.mem (c.tc.loc main_v1_1) = C.arrived m () (other c) c

/-- Every execution of the program ends, with every semaphore at zero, in such a state. -/
theorem run_main : θ_run defs (onTc (τ := τ) (main (F := F))) ⟨m, fun _ => 0, ρ⟩ (fun r => Ended m r.2 ∧ r.2.sem = fun _ => 0) :=
  Cert.Proof.LoneCall.run_lone_call (fun p => (cfgs p).toPCfg) (fun p => (cfgs p).toPCfg_adm) (dats m) cellOf_inj (0 : Fin 1)
    winFacts0.to₀ (own_sems m) (EP nD τ sig (Elt F)) defs₀ 𝒱₀ m ρ main
    (hmain := fun _ => rfl) (hpre := rfl)
    (hbody := body_obligation m) (hne := fun w => by fin_cases w <;> exact Nat.succ_pos _) (harr := arr_whole0) (hstage := stage_whole0)
    (hshare := share_full m) (hdistinct := winFacts0.arr_inj)
    (O₀ := (C.plan m).owes₀) (howed₀ := fun c => by rw [C.owes₀_eq]; rfl) (howedN := fun _ => rfl)
    (L := Plan.L) (lv := (C.plan m).lv) (hL := Plan.L_of_ne) (hwaits := waits m)
    (G := (C.plan m).ghost)
    (u₀ := (initOf (Pipeline.cells cfgs cellOf_inj) (Pipeline.launchToks cfgs cellOf_inj), initOf (C.plan m).cellSet (C.plan m).tokSet))
    (hu₀ := by
      iintro Hu
      ihave H := (ownU_pair _ _) $$ Hu
      icases H with ⟨HP, HX⟩
      imod (C.plan m).fund_ghost $$ HX with HG
      imodintro
      isplitl [HP] <;> iassumption)
    (hA := fun _ _ => rfl)
    (X := (C.plan m).start fun c => iprop((bigSep Finset.univ fun k => C.srcPts m k c) ∗ (bigSep Finset.univ fun k => C.dstPts m k c) ∗ keptPts m c))
    (Y := ends m)
    (deal := (C.plan m).deal _ _ _ m _ (buffers_dealt m))
    (hin := fun c => by
      have h := C.start_copies m (keptPts m) c
      rw [holds_first m c _ rfl]
      unfold holds₀
      iintro ⟨HX, -⟩
      iapply h; iexact HX)
    (hout := phi_exit m)
    (QY := fun c s => s.mem (c.tc.loc main_arg2) = m (c.tc.loc main_arg2)
      ∧ s.mem (c.tc.loc main_v1_1) = C.arrived m () (other c) c)
    (hY := ends_read m)
    (hQ := fun _ h hs => ⟨h, sem_eq_zero_of_scoped (by decide) hs⟩)

end Cert.OutBwd
-- ==== Proof.OutValue.lean ====
/-
# What the arrays hold after the product with the gradient exchange

Over the extended reals: the product of a block, the result array after all eight blocks, and the landing array, each
read at an index.
-/
module

public import proofs.«01_k».proof.Proof.OutRun
public import Idealize.ShloMosaic.Lib.Pointwise
public import Idealize.ShloMosaic.Lib.LayoutAt
public import Idealize.ShloMosaic.Lib.Pipeline.Value

@[expose] public section

set_option maxRecDepth 16384

noncomputable section

namespace Cert.OutBwd

open Cert.KernelIdeal Cert.KernelIdeal.Gen Cert.Proof.Exchange
open Idealize.ShloMosaic Idealize.ShloMosaic.TcCoe
open Idealize.SL.Sem
open Idealize.ShloMosaic.Pipeline (Dat Cfg Window)

/-- The product of one block at row `r`, column `s`: row `r` of the left operand against row `s` of the right one. -/
theorem product_apply (X : S512x1024.Idx → Elt Ideal .bf16) (Y : S1024x1024.Idx → Elt Ideal .bf16) (y : S512x1024.Idx) :
    (k0_pay1 X Y : FVec Ideal S512x1024 .f32) y = ∑ k : Fin 1024, (X (ix2 (y 0) k) : EReal) * Y (ix2 (y 1) k) := by
  pointwise [k0_pay1]

variable (m : (ℓ : Loc nD τ sig) → Buf (Elt Ideal) ℓ)

/-- The result array as a whole: every row of the left array against every row of the right one. -/
def wholeProduct (X : S4096x1024.Idx → EReal) (Y : S1024x1024.Idx → EReal) : S4096x1024.Idx → EReal :=
  fun i => ∑ k : Fin 1024, X (ix2 (i 0) k) * Y (ix2 (i 1) k)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

/-- Row `r` of block `t` in the whole array. -/
def rowOf (t : Fin cfg0.N) (r : Fin 512) : Fin 4096 := ⟨t.val * 512 + r.val, by have := val_lt t; omega⟩

theorem emb_0 (t : Fin cfg0.N) (y : S512x1024.Idx) : (win0_0.rect t).emb y = (ix2 (rowOf t (y 0)) (y 1) : S4096x1024.Idx) := by
  refine Layout.idx_ext fun a => ?_
  refine (Window.rect_emb_val win0_0 t y a).trans ?_
  rw [index_0]
  fin_cases a
  · rfl
  · exact Nat.zero_add _
theorem emb_1 (t : Fin cfg0.N) (y : S1024x1024.Idx) : (win0_1.rect t).emb y = y := by
  refine Layout.idx_ext fun a => ?_
  refine (Window.rect_emb_val win0_1 t y a).trans ?_
  rw [index_1]
  fin_cases a <;> exact at_zero _ _
theorem emb_2 (t : Fin cfg0.N) (y : S512x1024.Idx) : (win0_2.rect t).emb y = (ix2 (rowOf t (y 0)) (y 1) : S4096x1024.Idx) := by
  refine Layout.idx_ext fun a => ?_
  refine (Window.rect_emb_val win0_2 t y a).trans ?_
  rw [index_2]
  fin_cases a
  · rfl
  · exact Nat.zero_add _

/-- Block `t` of the left array. -/
theorem left_block (c : Dev nD) (t : Fin cfg0.N) (y : S512x1024.Idx) :
    iblk m c 0 t y = m (c.tc.loc main_arg0) (ix2 (rowOf t (y 0)) (y 1) : S4096x1024.Idx) :=
  congrArg (m (c.tc.loc main_arg0)) (emb_0 t y)
/-- The right array is staged whole. -/
theorem right_block (c : Dev nD) (t : Fin cfg0.N) (y : S1024x1024.Idx) :
    iblk m c 1 t y = m (c.tc.loc main_arg1) y :=
  congrArg (m (c.tc.loc main_arg1)) (emb_1 t y)

/-- The product that device `c` computes. -/
abbrev outArray (c : Dev nD) : S4096x1024.Idx → EReal :=
  wholeProduct (m (c.tc.loc main_arg0)) (m (c.tc.loc main_arg1))

/-- What a block writes back is that block of the whole product. -/
theorem flushed_2 (c : Dev nD) (t : Fin cfg0.N) :
    (dats m 0 c).flushed 2 t = ((cfg0.win 2).blk t).view.read (Elt Ideal) (outArray m c) := by
  funext y
  show (k0_pay1 (iblk m c 0 t) (iblk m c 1 t) : FVec Ideal S512x1024 .f32) y = outArray m c ((win0_2.rect t).emb y)
  rw [product_apply, emb_2]
  simp only [left_block, right_block]
  rfl

/-- Every index of the result array is in the block of its row. -/
theorem covered (i : S4096x1024.Idx) : ∃ t : Fin cfg0.N, (cfg0.win 2).flush t = true ∧ i ∈ ((cfg0.win 2).blk t).view.set := by
  have hi : (i 0).val < 4096 := (i 0).isLt
  let t : Fin cfg0.N := ⟨(i 0).val / 512, Nat.lt_of_lt_of_eq (by omega : _ < 8) N_0.symm⟩
  refine ⟨t, flush0_2 t, ?_⟩
  have h := ((cfg0.win 2).blk t).view.emb_mem_set (ix2 ⟨(i 0).val % 512, Nat.mod_lt _ (by omega)⟩ (i 1) : S512x1024.Idx)
  have e : ((cfg0.win 2).blk t).view.emb (ix2 ⟨(i 0).val % 512, Nat.mod_lt _ (by omega)⟩ (i 1) : S512x1024.Idx) = i := by
    refine (emb_2 t _).trans (Layout.idx_ext fun a => ?_)
    fin_cases a
    · show (i 0).val / 512 * 512 + (i 0).val % 512 = (i 0).val
      omega
    · rfl
  rwa [e] at h

/-- The result array ends as the whole product. -/
theorem final_2 (c : Dev nD) : (dats m 0 c).arrAt 2 cfg0.N = outArray m c :=
  (dats m 0 c).arrAt_eq_of_cover 2 (outArray m c) (fun t _ => flushed_2 m c t) covered

/-! ## The landing array -/

theorem sent_place : ∀ c : Dev nD, k0_off1 (other c) = ![c.val % 2, 0, 0, 0] := by decide +kernel

/-- The core's place on its chip. -/
def core (c : Dev nD) : Fin 2 := ⟨c.val % 2, Nat.mod_lt _ (by omega)⟩

/-- Dropping a leading axis of length one. -/
theorem unit_dropped {α : Type} (v : S1x4x512x1024.Idx → α) (h : S1x4x512x1024.ShapeCasts S4x512x1024) (y : S4x512x1024.Idx) :
    shapeCast S4x512x1024 v h y = v (ix4 0 (y 0) (y 1) (y 2)) := by
  pointwise []

/-- What lands on device `c`: of the other core's gradient array, the half at `c`'s own place. -/
theorem landed_apply (c : Dev nD) (y : S4x512x1024.Idx) :
    C.arrived m () (other c) c y = m ((other c).tc.loc main_arg2) (ix4 (core c) (y 0) (y 1) (y 2) : S2x4x512x1024.Idx) := by
  have e : C.arrived m () (other c) c = (srcM (other c)).view.read (Elt Ideal) (m ((other c).tc.loc main_arg2)) :=
    View.write_whole_univ _ _ _
  rw [e, Memref.read_squeeze_slice _ _ _ _ (by decide : S1x4x512x1024.ShapeCasts S4x512x1024)]
  generalize m ((other c).tc.loc main_arg2) = X
  refine (unit_dropped _ _ y).trans (congrArg X (Layout.idx_ext fun a => ?_))
  refine (Rect.emb_apply _ _ _).trans ?_
  refine (congrArg (· + 1 * _) (congrFun (sent_place c) a)).trans ?_
  fin_cases a
  · rfl
  · exact from_zero _
  · exact from_zero _
  · exact from_zero _

end Cert.OutBwd
-- ==== Proof.OutRef.lean ====
/-
# What the plain product and the plain exchange compute

The reference's two results read at an index, over the extended reals.
-/
module

public import proofs.«01_k».proof.Proof.Gen.ReferenceIdeal.Run
public import Idealize.ShloMosaic.Lib.Pointwise

@[expose] public section

set_option maxRecDepth 16384

noncomputable section

namespace Cert.OutRef

open Cert.ReferenceIdeal Cert.ReferenceIdeal.Gen
open Idealize.ShloMosaic Idealize.SL.Sem

/-- The whole product, from the whole arrays. -/
def product (X : S32768x1024.Idx → Elt Ideal .bf16) (Y : S1024x1024.Idx → Elt Ideal .bf16) : FVec Ideal S32768x1024 .f32 :=
  Host.dotGeneral dot_S32768x1024_S1024x1024_S32768x1024_1_0_0_1_n_n none (extf .f32 X bitsLt_bf16_f32) (transpose S1024x1024 [1, 0] (extf .f32 Y bitsLt_bf16_f32) transposes_S1024x1024_S1024x1024_1_0)

/-- The whole array after the exchange of halves. -/
def exchanged (G : S16x4x512x1024.Idx → Elt Ideal .f32) : S32x512x1024.Idx → Elt Ideal .f32 :=
  shapeCast S32x512x1024 (concatenate S4x2x4x512x1024 1 [⟨S4x1x4x512x1024, (broadcastInDim S4x1x4x512x1024 ![0, 2, 3, 4] bcast_S4x4x512x1024_S4x1x4x512x1024_0_2_3_4 (shapeCast S4x4x512x1024 (extractStridedSlice S4x1x1x4x512x1024 ![0, 1, 0, 0, 0, 0] (shapeCast S4x2x2x4x512x1024 G shapeCasts_S16x4x512x1024_S4x2x2x4x512x1024) slices_S4x2x2x4x512x1024_S4x1x1x4x512x1024_0_1_0_0_0_0) shapeCasts_S4x1x1x4x512x1024_S4x4x512x1024))⟩, ⟨S4x1x4x512x1024, (broadcastInDim S4x1x4x512x1024 ![0, 2, 3, 4] bcast_S4x4x512x1024_S4x1x4x512x1024_0_2_3_4 (shapeCast S4x4x512x1024 (extractStridedSlice S4x1x1x4x512x1024 ![0, 0, 1, 0, 0, 0] (shapeCast S4x2x2x4x512x1024 G shapeCasts_S16x4x512x1024_S4x2x2x4x512x1024) slices_S4x2x2x4x512x1024_S4x1x1x4x512x1024_0_0_1_0_0_0) shapeCasts_S4x1x1x4x512x1024_S4x4x512x1024))⟩] concatenates_S4x1x4x512x1024_S4x1x4x512x1024_S4x2x4x512x1024_d1) shapeCasts_S4x2x4x512x1024_S32x512x1024

/-- The product at row `r`, column `s`: row `r` of the left array against row `s` of the right one. -/
theorem product_apply (X : S32768x1024.Idx → Elt Ideal .bf16) (Y : S1024x1024.Idx → Elt Ideal .bf16) (i : S32768x1024.Idx) :
    product X Y i = ∑ k : Fin 1024, (X (ix2 (i 0) k) : EReal) * Y (ix2 (i 1) k) := by
  pointwise [product]

/-- The exchanged array, row `r` of it: rows come four to a device, and the four of a device are those that its chip's
    other core had at the device's place. -/
theorem exchanged_at (G : S16x4x512x1024.Idx → Elt Ideal .f32) (r : Fin 32) (j : Fin 512) (l : Fin 1024)
    (h : r.val / 8 * 4 + 2 * (1 - r.val / 4 % 2) + r.val / 4 % 2 < 16) :
    exchanged G (ix3 r j l) = G (ix4 ⟨r.val / 8 * 4 + 2 * (1 - r.val / 4 % 2) + r.val / 4 % 2, h⟩ ⟨r.val % 4, Nat.mod_lt _ (by omega)⟩ j l) := by
  pointwise [exchanged]
  split
  · exact congrArg (fun s => G (ix4 s _ j l)) (Fin.ext (by dsimp only; omega))
  · exact congrArg (fun s => G (ix4 s _ j l)) (Fin.ext (by dsimp only; omega))

/-- Every execution of the reference ends with its two results at the product and the exchanged array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v3) = product (m (c.tc.loc main_arg0)) (m (c.tc.loc main_arg1))
      ∧ r.2.mem (c.tc.loc main_v12) = exchanged (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  Cert.ReferenceIdeal.Value.run (F := Ideal) m ρ

end Cert.OutRef
-- ==== Proof.OutClaims.lean ====
/-
# The claims about the product with the gradient exchange

Each frame is the one run with the values dropped; the value claim is its instance over the extended reals beside the
reference's run, the two read at an index.
-/
module

public import proofs.«01_k».proof.Defs
public import proofs.«01_k».proof.Proof.OutValue
public import proofs.«01_k».proof.Proof.OutRef
public import proofs.«01_k».proof.Proof.Gen.Kernel

@[expose] public section

set_option maxRecDepth 16384

noncomputable section

namespace Cert.OutBwd

open Idealize.ShloMosaic Idealize.ShloMosaic.TcCoe Idealize.SL.Sem
open Cert.KernelIdeal Cert.KernelIdeal.Gen

variable {F : FTy → Type} [FloatOps F]

/-- A run leaves the three arguments as they were. -/
theorem args_kept {m : (ℓ : Loc nD τ sig) → Buf (Elt F) ℓ} {s : MemSt nD τ sig (Elt F)} (h : Ended m s) (c : Dev nD) :
    s.mem (c.tc.loc main_arg0) = m (c.tc.loc main_arg0)
    ∧ s.mem (c.tc.loc main_arg1) = m (c.tc.loc main_arg1)
    ∧ s.mem (c.tc.loc main_arg2) = m (c.tc.loc main_arg2) :=
  ⟨((h c).1 0).trans ((dats m 0 c).arrAt_in 0 rfl _), ((h c).1 1).trans ((dats m 0 c).arrAt_in 1 rfl _), (h c).2.1⟩

theorem frame_ideal : Cert.quiescent_KernelIdeal := fun m ρ _ =>
  (θ_run Cert.KernelIdeal.defs _ _).mono (fun _ h => ⟨args_kept h.1, h.2⟩) (run_main (F := Ideal) m ρ)

/-- The two programs have one body table. -/
theorem tables_eq : Cert.Kernel.defs (F := F) = Cert.KernelIdeal.defs (F := F) :=
  congrArg (Pipeline.defs _) (congrArg Defs.onTc (one_row rfl))

theorem frame_kernel : Cert.quiescent_Kernel := fun m ρ _ => by
  have h := (θ_run Cert.KernelIdeal.defs _ _).mono (fun _ h => (⟨args_kept h.1, h.2⟩ : _ ∧ _)) (run_main (F := Bits) m ρ)
  rw [← tables_eq] at h
  exact h

theorem frame_reference : Cert.quiescent_ReferenceIdeal := fun m ρ _ =>
  (θ_run Cert.ReferenceIdeal.defs _ _).mono (fun r h => ⟨fun c => (h c).2.2, sem_eq_zero_of_no_sems (by decide) r.2⟩) (Cert.OutRef.run m ρ)

/-- Device `c`'s product is block `c` of the whole product. -/
theorem product_block (c : Fin 8) (X : Cert.ReferenceIdeal.S32768x1024.Idx → EReal) (Y : S1024x1024.Idx → EReal) :
    wholeProduct (Layout.block ⟨2, ![4096, 1024]⟩ ⟨2, ![32768, 1024]⟩ 0 8 c X) Y
      = Layout.block ⟨2, ![4096, 1024]⟩ ⟨2, ![32768, 1024]⟩ 0 8 c (Cert.OutRef.product X Y) := by
  funext i
  rw [Layout.block_apply, Cert.OutRef.product_apply]
  refine Finset.sum_congr rfl fun k _ => ?_
  rw [Layout.block_apply]
  refine congrArg₂ (· * ·) (congrArg X (Layout.idx_ext fun a => ?_)) (congrArg Y (Layout.idx_ext fun a => ?_))
  · fin_cases a <;> rfl
  · fin_cases a <;> rfl

theorem other_val : ∀ c : Dev nD, (other c).val = 2 * (c.val / 2) + (1 - c.val % 2) := by decide +kernel

/-- The half that lands on device `c` is block `c` of the exchanged array. -/
theorem landed_block (c : Dev nD) (G : Cert.ReferenceIdeal.S16x4x512x1024.Idx → EReal) (y : S4x512x1024.Idx) :
    Layout.block ⟨4, ![2, 4, 512, 1024]⟩ ⟨4, ![16, 4, 512, 1024]⟩ 0 8 (other c) G (by decide) (ix4 (core c) (y 0) (y 1) (y 2) : S2x4x512x1024.Idx)
      = Layout.block ⟨3, ![4, 512, 1024]⟩ ⟨3, ![32, 512, 1024]⟩ 0 8 c (Cert.OutRef.exchanged G) (by decide) y := by
  have hc : c.val < 8 := c.isLt
  have hy : (y 0).val < 4 := (y 0).isLt
  have e : (Layout.Tiles.idx (by decide : Layout.Tiles ⟨3, ![4, 512, 1024]⟩ ⟨3, ![32, 512, 1024]⟩ 0 8) c y)
      = ix3 ⟨c.val * 4 + (y 0).val, by omega⟩ (y 1) (y 2) := Layout.idx_ext fun a => by fin_cases a <;> rfl
  rw [Layout.block_apply, Layout.block_apply, e]
  refine Eq.trans ?_ (Cert.OutRef.exchanged_at G _ _ _ (by dsimp only; omega)).symm
  refine congrArg G (Layout.idx_ext fun a => ?_)
  fin_cases a
  · show (other c).val * 2 + c.val % 2 = (c.val * 4 + (y 0).val) / 8 * 4 + 2 * (1 - (c.val * 4 + (y 0).val) / 4 % 2) + (c.val * 4 + (y 0).val) / 4 % 2
    rw [other_val]; omega
  · show (y 0).val = (c.val * 4 + (y 0).val) % 4
    omega
  · rfl
  · rfl

theorem values : Cert.algebraic_KernelIdeal_ReferenceIdeal := by
  intro m g m' g' _ hm
  refine ⟨_, _, (θ_run Cert.KernelIdeal.defs _ _).mono (fun r h c => ⟨?_, ?_, args_kept h.1 c⟩) (run_main (F := Ideal) m g),
    (θ_run Cert.ReferenceIdeal.defs _ _).mono (fun r h => h 0) (Cert.OutRef.run m' g')⟩
  · refine ((h.1 c).1 2).trans ((final_2 m c).trans ?_)
    unfold outArray
    rw [(hm c).1, (hm c).2.1]
    exact product_block c _ _
  · refine (h.1 c).2.2.trans (funext fun y => ?_)
    refine (landed_apply m c y).trans ?_
    rw [(hm (other c)).2.2]
    exact landed_block c _ y

end Cert.OutBwd
-- ==== Proof.InRun.lean ====
/-
# The product with the exchange of three gradients: one run of the program

The kernel multiplies its 4096 rows by a weight, eight blocks of 512 rows. Before the first block it sends six pieces to
the other core of its chip: for each of four parts of a gradient the half that is the other core's, and two whole arrays.
After the last block it waits for its own pieces to be read and for the other core's to land. Here: the six copies, what
the device holds between blocks, the body at one block, and the run of the whole program, for any float instance.
-/
module

public import proofs.«01_k».proof.Proof.Copies
public import proofs.«01_k».proof.Proof.Gen.InKernelIdeal.Frame
public import proofs.«01_k».proof.Proof.Gen.InKernelIdeal.Skeleton
public import Idealize.ShloMosaic.Lib.Pointwise
public import Idealize.ShloMosaic.Lib.LayoutAt
public import Idealize.ShloMosaic.Lib.Pipeline.Value

@[expose] public section

set_option maxRecDepth 16384

noncomputable section

namespace Cert.InBwd

open Cert.InKernelIdeal Cert.InKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The copies -/

/-- The six copies: the four parts of the first array, and two whole arrays. -/
abbrev K : Type := Fin 4 ⊕ Fin 2

abbrev qSend : Fin 4 → DmaSems sig S_
  | 0 => ((cc0_scratch0 : DmaSems sig S4).slice (Rect.unit (s := S4) ![0] S1.size inb_S4_S1_0)).squeeze S_ squeezes_S1_S_
  | 1 => ((cc0_scratch0 : DmaSems sig S4).slice (Rect.unit (s := S4) ![1] S1.size inb_S4_S1_1)).squeeze S_ squeezes_S1_S_
  | 2 => ((cc0_scratch0 : DmaSems sig S4).slice (Rect.unit (s := S4) ![2] S1.size inb_S4_S1_2)).squeeze S_ squeezes_S1_S_
  | 3 => ((cc0_scratch0 : DmaSems sig S4).slice (Rect.unit (s := S4) ![3] S1.size inb_S4_S1_3)).squeeze S_ squeezes_S1_S_
abbrev qRecv : Fin 4 → DmaSems sig S_
  | 0 => ((cc0_scratch1 : DmaSems sig S4).slice (Rect.unit (s := S4) ![0] S1.size inb_S4_S1_0)).squeeze S_ squeezes_S1_S_
  | 1 => ((cc0_scratch1 : DmaSems sig S4).slice (Rect.unit (s := S4) ![1] S1.size inb_S4_S1_1)).squeeze S_ squeezes_S1_S_
  | 2 => ((cc0_scratch1 : DmaSems sig S4).slice (Rect.unit (s := S4) ![2] S1.size inb_S4_S1_2)).squeeze S_ squeezes_S1_S_
  | 3 => ((cc0_scratch1 : DmaSems sig S4).slice (Rect.unit (s := S4) ![3] S1.size inb_S4_S1_3)).squeeze S_ squeezes_S1_S_
abbrev hSend : Fin 2 → DmaSems sig S_
  | 0 => ((cc0_scratch2 : DmaSems sig S2).slice (Rect.unit (s := S2) ![0] S1.size inb_S2_S1_0)).squeeze S_ squeezes_S1_S_
  | 1 => ((cc0_scratch2 : DmaSems sig S2).slice (Rect.unit (s := S2) ![1] S1.size inb_S2_S1_1)).squeeze S_ squeezes_S1_S_
abbrev hRecv : Fin 2 → DmaSems sig S_
  | 0 => ((cc0_scratch3 : DmaSems sig S2).slice (Rect.unit (s := S2) ![0] S1.size inb_S2_S1_0)).squeeze S_ squeezes_S1_S_
  | 1 => ((cc0_scratch3 : DmaSems sig S2).slice (Rect.unit (s := S2) ![1] S1.size inb_S2_S1_1)).squeeze S_ squeezes_S1_S_

abbrev qDev : Fin 4 → Dev nD → ℕ
  | 0 => k0_dev1
  | 1 => k0_dev2
  | 2 => k0_dev3
  | 3 => k0_dev4
abbrev hDev : Fin 2 → Dev nD → ℕ
  | 0 => k0_dev5
  | 1 => k0_dev6
theorem qDev_lt : ∀ k (c : Dev nD), qDev k c < nD := by decide +kernel
theorem hDev_lt : ∀ k (c : Dev nD), hDev k c < nD := by decide +kernel
theorem qDev_qDev : ∀ k (c : Dev nD), (⟨qDev k ⟨qDev k c, qDev_lt k c⟩, qDev_lt k _⟩ : Dev nD) = c := by decide +kernel
theorem hDev_hDev : ∀ k (c : Dev nD), (⟨hDev k ⟨hDev k c, hDev_lt k c⟩, hDev_lt k _⟩ : Dev nD) = c := by decide +kernel

/-- The other core of the chip. -/
def other (c : Dev nD) : Dev nD := ⟨k0_dev1 c, qDev_lt 0 c⟩
theorem other_other : ∀ c, other (other c) = c := by decide +kernel
def swap : Equiv.Perm (Dev nD) := ⟨other, other, other_other, other_other⟩

/-- The device that copy `k` of device `c` goes to. -/
def toDev : K → Equiv.Perm (Dev nD)
  | .inl k => ⟨fun c => ⟨qDev k c, qDev_lt k c⟩, fun c => ⟨qDev k c, qDev_lt k c⟩, qDev_qDev k, qDev_qDev k⟩
  | .inr k => ⟨fun c => ⟨hDev k c, hDev_lt k c⟩, fun c => ⟨hDev k c, hDev_lt k c⟩, hDev_hDev k, hDev_hDev k⟩
theorem toDev_eq : ∀ k c, toDev k c = other c := by decide +kernel
theorem toDev_symm_eq : ∀ k c, (toDev k).symm c = other c := by decide +kernel

abbrev qOff : Fin 4 → Dev nD → Fin 4 → ℕ
  | 0 => k0_off1
  | 1 => k0_off2
  | 2 => k0_off3
  | 3 => k0_off4
theorem qOff_inb : ∀ k (c : Dev nD) a, qOff k c a + S1x1x352x1024.size a ≤ S4x2x352x1024.size a := by decide +kernel

/-- The half of part `k` that a device sends. -/
abbrev qHalf (k : Fin 4) (c : Dev nD) : Rect S4x2x352x1024 := Rect.unit (s := S4x2x352x1024) (qOff k c) S1x1x352x1024.size (qOff_inb k c)
abbrev qSrc (k : Fin 4) (c : Dev nD) : Memref sig .tc .hbm S352x1024 .f32 :=
  ((Memref.whole main_arg2 : Memref sig .tc .hbm S4x2x352x1024 .f32).slice (qHalf k c) (fun _ => rfl)).squeeze S352x1024 squeezes_S1x1x352x1024_S352x1024
theorem qDst_inb : ∀ (k : Fin 4) a, (![k.val, 0, 0] : Fin 3 → ℕ) a + S1x352x1024.size a ≤ S4x352x1024.size a := by decide
/-- Part `k` of the landing array. -/
abbrev qPart (k : Fin 4) : Rect S4x352x1024 := Rect.unit (s := S4x352x1024) ![k.val, 0, 0] S1x352x1024.size (qDst_inb k)
/-- Where the other core's half of part `k` lands. -/
abbrev qDst (k : Fin 4) : Memref sig .tc .hbm S352x1024 .f32 :=
  ((Memref.whole main_v1_1 : Memref sig .tc .hbm S4x352x1024 .f32).slice (qPart k) (fun _ => rfl)).squeeze S352x1024 squeezes_S1x352x1024_S352x1024

abbrev pieceShape : K → Shape
  | .inl _ => S352x1024
  | .inr 0 => S512x1024
  | .inr 1 => S256x512
abbrev srcM : (k : K) → Dev nD → Memref sig .tc .hbm (pieceShape k) .f32
  | .inl k, c => qSrc k c
  | .inr 0, _ => Memref.whole main_arg3
  | .inr 1, _ => Memref.whole main_arg4
abbrev dstM : (k : K) → Memref sig .tc .hbm (pieceShape k) .f32
  | .inl k => qDst k
  | .inr 0 => Memref.whole main_v1_2
  | .inr 1 => Memref.whole main_v1_3
abbrev sendS : K → SemLoc sig
  | .inl k => .dma (qSend k).sem
  | .inr k => .dma (hSend k).sem
abbrev recvS : K → SemLoc sig
  | .inl k => .dma (qRecv k).sem
  | .inr k => .dma (hRecv k).sem

theorem sems_inj : Function.Injective (Sum.elim sendS recvS) := by decide
theorem shape_pos : ∀ k, 0 < (pieceShape k).numel := by decide

def C : Copies nD sig K where
  spS _ := .hbm
  spD _ := .hbm
  sh := pieceShape
  el _ := .f32
  src := srcM
  dst k _ := dstM k
  peer := toDev
  ssem := sendS
  rsem := recvS
  inj := sems_inj
  q _ := fullShare
  amount k := (dstM k).view.amount (recvS k)
  amount_eq _ _ := rfl
  amount_pos k := View.amount_pos _ _ (shape_pos k)

/-- Over the six copies, one by one. -/
theorem bigSep_six {M : Type} [URA M] (Φ : K → sProp M) : bigSep Finset.univ Φ
    = iprop(Φ (.inl 0) ∗ Φ (.inl 1) ∗ Φ (.inl 2) ∗ Φ (.inl 3) ∗ Φ (.inr 0) ∗ Φ (.inr 1)) :=
  bigSep_univ_eq_bigSepL ([.inl 0, .inl 1, .inl 2, .inl 3, .inr 0, .inr 1] : List K) (by decide) (by decide) Φ
theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ

/-- The copies in the order in which they are started, -/
abbrev nth : ℕ → K
  | 0 => .inl 0
  | 1 => .inl 1
  | 2 => .inl 2
  | 3 => .inl 3
  | 4 => .inr 0
  | _ => .inr 1
/-- and those that are still to be started after the first `n`. -/
def rest : ℕ → Finset K
  | 0 => Finset.univ
  | n + 1 => (rest n).erase (nth n)
theorem mem_rest : ∀ n < 6, nth n ∈ rest n := by decide +kernel
theorem rest_six : rest 6 = ∅ := by decide +kernel

/-! ## Where the pieces lie -/

theorem qOff_eq : ∀ k (c : Dev nD), qOff k c = ![k.val, 1 - c.val % 2, 0, 0] := by decide +kernel

theorem qSrc_set (k : Fin 4) (c : Dev nD) : (qSrc k c).view.set = (qHalf k c).set := by
  show ((((View.whole main_arg2).slice _).reshape S352x1024 _)).set = _
  rw [View.set_reshape, View.set_slice_whole]
theorem qDst_set (k : Fin 4) : (qDst k).view.set = (qPart k).set := by
  show ((((View.whole main_v1_1).slice _).reshape S352x1024 _)).set = _
  rw [View.set_reshape, View.set_slice_whole]

theorem qSrc_disjoint (c : Dev nD) (k k' : Fin 4) (h : k ≠ k') : Disjoint (qHalf k c).set (qHalf k' c).set := by
  refine Rect.unit_disjoint 0 ?_
  rw [qOff_eq, qOff_eq]
  show k.val + 1 ≤ k'.val ∨ k'.val + 1 ≤ k.val
  have : k.val ≠ k'.val := fun e => h (Fin.ext e)
  omega

theorem qDst_disjoint (k k' : Fin 4) (h : k ≠ k') : Disjoint (qPart k).set (qPart k').set := by
  refine Rect.unit_disjoint 0 ?_
  show k.val + 1 ≤ k'.val ∨ k'.val + 1 ≤ k.val
  have : k.val ≠ k'.val := fun e => h (Fin.ext e)
  omega

theorem mem_qPart (k : Fin 4) (i : S4x352x1024.Idx) : i ∈ (qPart k).set ↔ (i 0).val = k.val := by
  rw [Rect.mem_set_unit]
  constructor
  · intro h
    have h0 := h 0
    change k.val ≤ (i 0).val ∧ (i 0).val < k.val + 1 at h0
    omega
  · intro h a
    fin_cases a
    · show k.val ≤ (i 0).val ∧ (i 0).val < k.val + 1
      omega
    · exact ⟨Nat.zero_le _, Nat.lt_of_lt_of_eq (i 1).isLt (Nat.zero_add _).symm⟩
    · exact ⟨Nat.zero_le _, Nat.lt_of_lt_of_eq (i 2).isLt (Nat.zero_add _).symm⟩

theorem qDst_cover (i : S4x352x1024.Idx) : ∃ k : Fin 4, i ∈ (qPart k).set := ⟨⟨(i 0).val, (i 0).isLt⟩, (mem_qPart _ _).2 rfl⟩

/-- Dropping a leading axis of length one. -/
theorem unit_dropped {α : Type} (v : S1x352x1024.Idx → α) (h : S1x352x1024.ShapeCasts S352x1024) (y : S352x1024.Idx) :
    shapeCast S352x1024 v h y = v (ix3 0 (y 0) (y 1)) := by
  pointwise []
/-- Dropping two leading axes of length one. -/
theorem units_dropped {α : Type} (v : S1x1x352x1024.Idx → α) (h : S1x1x352x1024.ShapeCasts S352x1024) (y : S352x1024.Idx) :
    shapeCast S352x1024 v h y = v (ix4 0 0 (y 0) (y 1)) := by
  pointwise []

/-- Index `y` of part `k` of the landing array is index `(k, y)` of the array. -/
theorem qDst_emb (k : Fin 4) (y : S352x1024.Idx) : (qDst k).view.emb y = (ix3 k (y 0) (y 1) : S4x352x1024.Idx) := by
  show shapeCast S352x1024 (fun z => (qPart k).emb z) (by decide : S1x352x1024.ShapeCasts S352x1024) y = _
  refine (unit_dropped _ _ y).trans (Layout.idx_ext fun a => ?_)
  refine (Rect.emb_apply _ _ _).trans ?_
  fin_cases a
  · rfl
  · exact from_zero _
  · exact from_zero _

variable (m : (ℓ : Loc nD τ sig) → Buf (Elt F) ℓ) (ρ : Dev nD → PrngReg)

/-- The core's place on its chip. -/
def core (c : Dev nD) : Fin 2 := ⟨c.val % 2, Nat.mod_lt _ (by omega)⟩

theorem sent_place : ∀ k (c : Dev nD), qOff k (other c) = ![k.val, c.val % 2, 0, 0] := by decide +kernel

/-- What lands on device `c` in the first landing array: of each of the other core's four parts, the half at `c`'s own
    place. -/
def landed (c : Dev nD) : S4x352x1024.Idx → Elt F .f32 := fun i =>
  m ((other c).tc.loc main_arg2) (ix4 (i 0) (core c) (i 1) (i 2) : S4x2x352x1024.Idx)

theorem qSrc_read (k : Fin 4) (c : Dev nD) (X : S4x2x352x1024.Idx → Elt F .f32) (y : S352x1024.Idx) :
    (qSrc k (other c)).view.read (Elt F) X y = X (ix4 k (core c) (y 0) (y 1)) := by
  rw [Memref.read_squeeze_slice _ _ _ _ (by decide : S1x1x352x1024.ShapeCasts S352x1024)]
  refine (units_dropped _ _ y).trans (congrArg X (Layout.idx_ext fun a => ?_))
  refine (Rect.emb_apply _ _ _).trans ?_
  refine (congrArg (· + 1 * _) (congrFun (sent_place k c) a)).trans ?_
  fin_cases a
  · rfl
  · rfl
  · exact from_zero _
  · exact from_zero _

theorem landed_read (k : Fin 4) (c : Dev nD) :
    (C.arrived m (.inl k) (other c) c : S4x352x1024.Idx → Elt F .f32)
      = (qDst k).view.write (Elt F) (m (c.tc.loc main_v1_1))
        ((qSrc k (other c)).view.read (Elt F) (m ((other c).tc.loc main_arg2))) Finset.univ := rfl

theorem qDst_read (k : Fin 4) (f : S4x352x1024.Idx → Elt F .f32) (y : S352x1024.Idx) :
    (qDst k).view.read (Elt F) f y = f (ix3 k (y 0) (y 1)) := congrArg f (qDst_emb k y)

theorem landed_agrees (k : Fin 4) (c : Dev nD) : ∀ i ∈ (qPart k).set,
    (C.arrived m (.inl k) (other c) c : S4x352x1024.Idx → Elt F .f32) i = landed m c i := by
  intro i hi
  rw [← qDst_set] at hi
  obtain ⟨y, -, hy⟩ := Finset.mem_map.1 hi
  have e := congrFun (View.read_write_univ (v := (qDst k).view) (Val := Elt F) (m (c.tc.loc main_v1_1))
    ((qSrc k (other c)).view.read (Elt F) (m ((other c).tc.loc main_arg2)))) y
  rw [← landed_read m k c, qSrc_read] at e
  have hi' : i = (ix3 k (y 0) (y 1) : S4x352x1024.Idx) := hy.symm.trans (qDst_emb k y)
  rw [hi']
  exact (qDst_read k _ y).symm.trans e

/-- The halves of the four parts that a device keeps. -/
def keptPts (c : Dev nD) : sProp 𝕄 :=
  outside (c.tc.loc main_arg2) (fun k : Fin 4 => (qHalf k c).set) (m (c.tc.loc main_arg2))

/-! ## What a device holds between blocks -/

def holds₀ (c : Dev nD) : sProp 𝕄 :=
  iprop((∃ κ, (C.plan m).records κ) ∗ (bigSep Finset.univ fun k => iprop(C.todo m k c ∗ C.expected k c)) ∗ keptPts m c)
def holds₁ (c : Dev nD) : sProp 𝕄 :=
  iprop((∃ κ, (C.plan m).records κ) ∗ (bigSep Finset.univ fun k => C.going k c) ∗ keptPts m c)
def holds₂ (c : Dev nD) : sProp 𝕄 :=
  iprop((bigSep Finset.univ fun k => C.finished m k c) ∗ keptPts m c)

/-- The product of a block. -/
def outAt (c : Dev nD) (t : Fin cfg0.N) : S512x1024.Idx → Elt F .f32 := k0_pay1 (iblk m c 0 t) (iblk m c 1 t)

def dats (_ : Fin 1) (c : Dev nD) : Dat τ (Elt F) Unit ℕ (UU nD τ sig) ℕ cfg0 c where
  A w := m ((cfg0.win w).arr.view.loc c.tc)
  after w t := match w with
    | ⟨0, _⟩ => iblk m c 0 t
    | ⟨1, _⟩ => iblk m c 1 t
    | ⟨2, _⟩ => outAt m c t
  Φ t := if t.val = 0 then holds₀ m c else if t.val = 8 then holds₂ m c else holds₁ m c
  q _ := fullShare
  owed t := if t.val = 0 then C.owing Finset.univ c else 0

abbrev 𝒱₀ : Variants := Variants.none

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 7 := by decide +kernel
theorem origin : (![0, 0] : Fin 2 → Nat) = fun _ => 0 := funext fun a => by fin_cases a <;> rfl

/-- The product of one block: from the two staged operands to the staged result, whatever follows. -/
theorem wp_product (c : Dev nD) (t : Fin cfg0.N) {α : Type} {Q : α → sProp 𝕄}
    {i1 i2 i3 : _} {l1 l2 l3 : _} {x1 : _} {y1 : _}
    {X0 : S512x2816.Idx → Elt F .bf16} {X1 : S2816x1024.Idx → Elt F .bf16} {X2 : S512x1024.Idx → Elt F .f32}
    {k : PUnit → Prog (TpuEff nD τ sig (Elt F) Λ₀ .tc) α} :
    iprop((owns c.tc (st0_0 t) fullShare X0 : sProp 𝕄) ∗ owns c.tc (st0_1 t) fullShare X1 ∗ owns c.tc (st0_2 t) fullShare X2)
      ⊢ iprop(((owns c.tc (st0_0 t) fullShare X0 ∗ owns c.tc (st0_1 t) fullShare X1
            ∗ owns c.tc (st0_2 t) fullShare (k0_pay1 X0 X1 : FVec F S512x1024 .f32)) -∗ wp frame (wpE (defs₀ (F := F)) 𝒱₀ c.tc none) Set.univ (k ⟨⟩) Q)
        -∗ wp frame (wpE (defs₀ (F := F)) 𝒱₀ c.tc none) Set.univ
          (.op (.load (st0_0 t : Memref sig .tc .vmem S512x2816 .bf16) (Rect.unit (s := S512x2816) ![0, 0] S512x2816.size i1).toLoadRect l1) fun v10 =>
            .op (.load (st0_1 t : Memref sig .tc .vmem S2816x1024 .bf16) (Rect.unit (s := S2816x1024) ![0, 0] S2816x1024.size i2).toLoadRect l2) fun v12 =>
            .op (.load (st0_2 t : Memref sig .tc .vmem S512x1024 .f32) (Rect.unit (s := S512x1024) ![0, 0] S512x1024.size i3).toLoadRect l3) fun _ =>
            .op (.store (st0_2 t : Memref sig .tc .vmem S512x1024 .f32) (Rect.unit (s := S512x1024) ![0, 0] S512x1024.size i3) (k0_pay1 v10 v12) Finset.univ x1 y1) k) Q) := by
  iintro ⟨H0, H1, H2⟩ Hk
  iapply (wp_load_all 𝒱₀ none c origin) $$ H0
  iintro H0
  iapply (wp_load_all 𝒱₀ none c origin) $$ H1
  iintro H1
  iapply (wp_load_all 𝒱₀ none c origin) $$ H2
  iintro H2
  iapply (wp_store_all 𝒱₀ none c origin) $$ H2
  iintro H2
  iapply Hk
  isplitl [H0]; · iexact H0
  isplitl [H1]; · iexact H1
  iexact H2

theorem holds_first (c : Dev nD) (t : Fin (cfg0.N + 1)) (h : t.val = 0) : (dats m 0 c).Φ t = holds₀ m c := if_pos h
theorem holds_between (c : Dev nD) (t : Fin (cfg0.N + 1)) (h : t.val ≠ 0) (h' : t.val ≠ 8) : (dats m 0 c).Φ t = holds₁ m c :=
  (if_neg h).trans (if_neg h')
theorem holds_last (c : Dev nD) (t : Fin (cfg0.N + 1)) (h : t.val = 8) : (dats m 0 c).Φ t = holds₂ m c :=
  (if_neg (by omega)).trans (if_pos h)
theorem owed_first (c : Dev nD) (t : Fin (cfg0.N + 1)) (h : t.val = 0) : (dats m 0 c).owed t = C.owing Finset.univ c := if_pos h
theorem owed_later (c : Dev nD) (t : Fin (cfg0.N + 1)) (h : t.val ≠ 0) : (dats m 0 c).owed t = 0 := if_neg h
theorem val_succ (t : Fin cfg0.N) : t.succ.val = t.val + 1 := rfl
theorem val_lt (t : Fin cfg0.N) : t.val < 8 := Nat.lt_of_lt_of_eq t.isLt N_0

/-! ## The body at one block -/

abbrev bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d)))
abbrev bodyPost (c : Dev nD) (t : Fin cfg0.N) : sProp 𝕄 :=
  iprop((dats m 0 c).Φ t.succ ∗ (dats m 0 c).owesAt () t.succ
    ∗ owns c.tc (st0_0 t) fullShare (iblk m c 0 t)
    ∗ owns c.tc (st0_1 t) fullShare (iblk m c 1 t)
    ∗ owns c.tc (st0_2 t) fullShare (outAt m c t))

theorem owesAt_of (c : Dev nD) (t : Fin (cfg0.N + 1)) (W : Waits sig Unit) :
    (owes c.tc ((dats m 0 c).owed t) W : sProp 𝕄) ⊢ (dats m 0 c).owesAt () t := by
  unfold Dat.owesAt Pipeline.owesWithin
  iintro HO
  iexists W
  isplitr; · ipureintro; exact fun _ _ => Or.inl trivial
  iexact HO

theorem owesAt_elim (c : Dev nD) (t : Fin (cfg0.N + 1)) :
    ((dats m 0 c).owesAt () t : sProp 𝕄) ⊢ iprop(∃ W, owes c.tc ((dats m 0 c).owed t) W) := by
  unfold Dat.owesAt Pipeline.owesWithin
  iintro ⟨%W, %hW, HO⟩
  iexists W
  iexact HO

theorem body_first (c : Dev nD) (t : Fin cfg0.N) (ht : t.val = 0) :
    bodyPre m c t ⊢ wp frame (wpE (defs₀ (F := F)) 𝒱₀ c.tc none) Set.univ (bodyAt0 t) (fun _ => bodyPost m c t) := by
  have hΦ := holds_first m c t.castSucc ht
  have hΦ' := holds_between m c t.succ (Nat.succ_ne_zero _) (by rw [val_succ]; omega)
  have hO := owed_first m c t.castSucc ht
  have hO' := owed_later m c t.succ (Nat.succ_ne_zero _)
  have h1 : k0_cond1 (grid0.coords t) = 1#1 := (cond1_iff t).2 ht
  have h2 := (not_congr (cond2_iff t)).2 (by omega)
  have hfin := owesAt_of m c t.succ
  rw [hO'] at hfin
  have hin := owesAt_elim m c t.castSucc
  rw [hO] at hin
  simp only [bodyPre, bodyPost, bodyAt0, cc0_in_bwd_eq_skeleton, hΦ, hΦ', before_0, before_1]
  unfold cc0_in_bwd_skel
  rw [dif_pos h1, dif_neg h2]
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  unfold holds₀ holds₁
  rw [bigSep_six, bigSep_six]
  iintro ⟨⟨⟨%κ, #HR⟩, ⟨Hk0, Hk1, Hk2, Hk3, Hk4, Hk5⟩, Hkept⟩, Ho, ⟨%d0, H0⟩, ⟨%d1, H1⟩, ⟨%d2, H2⟩⟩
  ihave Ho' := hin $$ Ho
  icases Ho' with ⟨%W, HO⟩
  iapply (C.wp_start m 𝒱₀ none c κ (nth 0) (O := C.owing (rest 1) c) (C.owing_erase (mem_rest 0 (by decide)) c)) $$ [Hk0 HO]
  · isplitr; · iexact HR
    isplitl [Hk0]; · iexact Hk0
    iexact HO
  iintro ⟨Hg0, HO⟩
  iapply (C.wp_start m 𝒱₀ none c κ (nth 1) (O := C.owing (rest 2) c) (C.owing_erase (mem_rest 1 (by decide)) c)) $$ [Hk1 HO]
  · isplitr; · iexact HR
    isplitl [Hk1]; · iexact Hk1
    iexact HO
  iintro ⟨Hg1, HO⟩
  iapply (C.wp_start m 𝒱₀ none c κ (nth 2) (O := C.owing (rest 3) c) (C.owing_erase (mem_rest 2 (by decide)) c)) $$ [Hk2 HO]
  · isplitr; · iexact HR
    isplitl [Hk2]; · iexact Hk2
    iexact HO
  iintro ⟨Hg2, HO⟩
  iapply (C.wp_start m 𝒱₀ none c κ (nth 3) (O := C.owing (rest 4) c) (C.owing_erase (mem_rest 3 (by decide)) c)) $$ [Hk3 HO]
  · isplitr; · iexact HR
    isplitl [Hk3]; · iexact Hk3
    iexact HO
  iintro ⟨Hg3, HO⟩
  iapply (C.wp_start m 𝒱₀ none c κ (nth 4) (O := C.owing (rest 5) c) (C.owing_erase (mem_rest 4 (by decide)) c)) $$ [Hk4 HO]
  · isplitr; · iexact HR
    isplitl [Hk4]; · iexact Hk4
    iexact HO
  iintro ⟨Hg4, HO⟩
  iapply (C.wp_start m 𝒱₀ none c κ (nth 5) (O := C.owing (rest 6) c) (C.owing_erase (mem_rest 5 (by decide)) c)) $$ [Hk5 HO]
  · isplitr; · iexact HR
    isplitl [Hk5]; · iexact Hk5
    iexact HO
  iintro ⟨Hg5, HO⟩
  rw [rest_six, C.owing_empty]
  iapply (wp_product c t) $$ [H0 H1 H2]
  · isplitl [H0]; · iexact H0
    isplitl [H1]; · iexact H1
    iexact H2
  iintro ⟨H0, H1, H2⟩
  rw [wp_ret]
  imodintro
  isplitl [Hg0 Hg1 Hg2 Hg3 Hg4 Hg5 Hkept]
  · isplitr; · iexists κ; iexact HR
    isplitr [Hkept]
    · isplitl [Hg0]; · iexact Hg0
      isplitl [Hg1]; · iexact Hg1
      isplitl [Hg2]; · iexact Hg2
      isplitl [Hg3]; · iexact Hg3
      isplitl [Hg4]; · iexact Hg4
      iexact Hg5
    iexact Hkept
  isplitl [HO]; · iapply hfin; iexact HO
  isplitl [H0]; · iexact H0
  isplitl [H1]; · iexact H1
  iexact H2

theorem body_middle (c : Dev nD) (t : Fin cfg0.N) (ht : t.val ≠ 0) (ht' : t.val ≠ 7) :
    bodyPre m c t ⊢ wp frame (wpE (defs₀ (F := F)) 𝒱₀ c.tc none) Set.univ (bodyAt0 t) (fun _ => bodyPost m c t) := by
  have hΦ := holds_between m c t.castSucc ht (Nat.ne_of_lt (val_lt t))
  have hΦ' := holds_between m c t.succ (Nat.succ_ne_zero _) (by rw [val_succ]; omega)
  have hO := owed_later m c t.castSucc ht
  have hO' := owed_later m c t.succ (Nat.succ_ne_zero _)
  have h1 : ¬ k0_cond1 (grid0.coords t) = 1#1 := fun h => ht ((cond1_iff t).1 h)
  have h2 : ¬ k0_cond2 (grid0.coords t) = 1#1 := fun h => ht' ((cond2_iff t).1 h)
  have hfin := owesAt_of m c t.succ
  rw [hO'] at hfin
  have hin := owesAt_elim m c t.castSucc
  rw [hO] at hin
  simp only [bodyPre, bodyPost, bodyAt0, cc0_in_bwd_eq_skeleton, hΦ, hΦ', before_0, before_1]
  unfold cc0_in_bwd_skel
  rw [dif_neg h1, dif_neg h2]
  simp only [Prog.lift, Prog.bind_op, Prog.bind_ret, Prog.pure_eq_ret, wp_deviceId]
  iintro ⟨Hh, Ho, ⟨%d0, H0⟩, ⟨%d1, H1⟩, ⟨%d2, H2⟩⟩
  ihave Ho' := hin $$ Ho
  icases Ho' with ⟨%W, HO⟩
  iapply (wp_product c t) $$ [H0 H1 H2]
  · isplitl [H0]; · iexact H0
    isplitl [H1]; · iexact H1
    iexact H2
  iintro ⟨H0, H1, H2⟩
  rw [wp_ret]
  imodintro
  isplitl [Hh]; · iexact Hh
  isplitl [HO]; · iapply hfin; iexact HO
  isplitl [H0]; · iexact H0
  isplitl [H1]; · iexact H1
  iexact H2

theorem body_last (c : Dev nD) (t : Fin cfg0.N) (ht : t.val = 7) :
    bodyPre m c t ⊢ wp frame (wpE (defs₀ (F := F)) 𝒱₀ c.tc none) Set.univ (bodyAt0 t) (fun _ => bodyPost m c t) := by
  have hΦ := holds_between m c t.castSucc (fun h : t.val = 0 => by omega) (Nat.ne_of_lt (val_lt t))
  have hΦ' := holds_last m c t.succ (by rw [val_succ]; omega)
  have hO := owed_later m c t.castSucc (fun h : t.val = 0 => by omega)
  have hO' := owed_later m c t.succ (Nat.succ_ne_zero _)
  have h1 := (not_congr (cond1_iff t)).2 (by omega)
  have h2 : k0_cond2 (grid0.coords t) = 1#1 := (cond2_iff t).2 ht
  have hfin := owesAt_of m c t.succ
  rw [hO'] at hfin
  have hin := owesAt_elim m c t.castSucc
  rw [hO] at hin
  simp only [bodyPre, bodyPost, bodyAt0, cc0_in_bwd_eq_skeleton, hΦ, hΦ', before_0, before_1]
  unfold cc0_in_bwd_skel
  rw [dif_neg h1, dif_pos h2]
  simp only [k0_part4_eq_skeleton, k0_part5_eq_skeleton, k0_part6_eq_skeleton, k0_part7_eq_skeleton]
  unfold k0_part4_skel k0_part5_skel k0_part6_skel k0_part7_skel
  simp only [Prog.lift, Prog.bind_op, Prog.bind_ret, Prog.pure_eq_ret, wp_deviceId]
  unfold holds₁ holds₂
  rw [bigSep_six, bigSep_six]
  iintro ⟨⟨⟨%κ, #HR⟩, ⟨Hg0, Hg1, Hg2, Hg3, Hg4, Hg5⟩, Hkept⟩, Ho, ⟨%d0, H0⟩, ⟨%d1, H1⟩, ⟨%d2, H2⟩⟩
  ihave Ho' := hin $$ Ho
  icases Ho' with ⟨%W, HO⟩
  iapply (wp_product c t) $$ [H0 H1 H2]
  · isplitl [H0]; · iexact H0
    isplitl [H1]; · iexact H1
    iexact H2
  iintro ⟨H0, H1, H2⟩
  simp only [wp_deviceId]
  unfold Copies.going Copies.finished
  icases Hg0 with ⟨Hs0, Hr0⟩
  iapply (C.wp_sent m 𝒱₀ none c κ (nth 0) (wpE_waitDma2_eq 𝒱₀ c.tc none Set.univ) rfl) $$ [Hs0 HO]
  · isplitr; · iexact HR
    isplitl [Hs0] <;> iassumption
  iintro ⟨Hs0, HO⟩
  iapply (C.wp_landed m 𝒱₀ none c κ (nth 0) (wpE_waitDma2_eq 𝒱₀ c.tc none Set.univ) rfl) $$ [Hr0 HO]
  · isplitr; · iexact HR
    isplitl [Hr0] <;> iassumption
  iintro ⟨Hr0, HO⟩
  icases Hg1 with ⟨Hs1, Hr1⟩
  iapply (C.wp_sent m 𝒱₀ none c κ (nth 1) (wpE_waitDma2_eq 𝒱₀ c.tc none Set.univ) rfl) $$ [Hs1 HO]
  · isplitr; · iexact HR
    isplitl [Hs1] <;> iassumption
  iintro ⟨Hs1, HO⟩
  iapply (C.wp_landed m 𝒱₀ none c κ (nth 1) (wpE_waitDma2_eq 𝒱₀ c.tc none Set.univ) rfl) $$ [Hr1 HO]
  · isplitr; · iexact HR
    isplitl [Hr1] <;> iassumption
  iintro ⟨Hr1, HO⟩
  icases Hg2 with ⟨Hs2, Hr2⟩
  iapply (C.wp_sent m 𝒱₀ none c κ (nth 2) (wpE_waitDma2_eq 𝒱₀ c.tc none Set.univ) rfl) $$ [Hs2 HO]
  · isplitr; · iexact HR
    isplitl [Hs2] <;> iassumption
  iintro ⟨Hs2, HO⟩
  iapply (C.wp_landed m 𝒱₀ none c κ (nth 2) (wpE_waitDma2_eq 𝒱₀ c.tc none Set.univ) rfl) $$ [Hr2 HO]
  · isplitr; · iexact HR
    isplitl [Hr2] <;> iassumption
  iintro ⟨Hr2, HO⟩
  icases Hg3 with ⟨Hs3, Hr3⟩
  iapply (C.wp_sent m 𝒱₀ none c κ (nth 3) (wpE_waitDma2_eq 𝒱₀ c.tc none Set.univ) rfl) $$ [Hs3 HO]
  · isplitr; · iexact HR
    isplitl [Hs3] <;> iassumption
  iintro ⟨Hs3, HO⟩
  iapply (C.wp_landed m 𝒱₀ none c κ (nth 3) (wpE_waitDma2_eq 𝒱₀ c.tc none Set.univ) rfl) $$ [Hr3 HO]
  · isplitr; · iexact HR
    isplitl [Hr3] <;> iassumption
  iintro ⟨Hr3, HO⟩
  icases Hg4 with ⟨Hs4, Hr4⟩
  iapply (C.wp_sent m 𝒱₀ none c κ (nth 4) (wpE_waitDma2_eq 𝒱₀ c.tc none Set.univ) rfl) $$ [Hs4 HO]
  · isplitr; · iexact HR
    isplitl [Hs4] <;> iassumption
  iintro ⟨Hs4, HO⟩
  iapply (C.wp_landed m 𝒱₀ none c κ (nth 4) (wpE_waitDma2_eq 𝒱₀ c.tc none Set.univ) rfl) $$ [Hr4 HO]
  · isplitr; · iexact HR
    isplitl [Hr4] <;> iassumption
  iintro ⟨Hr4, HO⟩
  icases Hg5 with ⟨Hs5, Hr5⟩
  iapply (C.wp_sent m 𝒱₀ none c κ (nth 5) (wpE_waitDma2_eq 𝒱₀ c.tc none Set.univ) rfl) $$ [Hs5 HO]
  · isplitr; · iexact HR
    isplitl [Hs5] <;> iassumption
  iintro ⟨Hs5, HO⟩
  iapply (C.wp_landed m 𝒱₀ none c κ (nth 5) (wpE_waitDma2_eq 𝒱₀ c.tc none Set.univ) rfl) $$ [Hr5 HO]
  · isplitr; · iexact HR
    isplitl [Hr5] <;> iassumption
  iintro ⟨Hr5, HO⟩
  rw [wp_ret]
  imodintro
  isplitl [Hs0 Hr0 Hs1 Hr1 Hs2 Hr2 Hs3 Hr3 Hs4 Hr4 Hs5 Hr5 Hkept]
  · isplitr [Hkept]
    · isplitl [Hs0 Hr0]; · isplitl [Hs0] <;> iassumption
      isplitl [Hs1 Hr1]; · isplitl [Hs1] <;> iassumption
      isplitl [Hs2 Hr2]; · isplitl [Hs2] <;> iassumption
      isplitl [Hs3 Hr3]; · isplitl [Hs3] <;> iassumption
      isplitl [Hs4 Hr4]; · isplitl [Hs4] <;> iassumption
      isplitl [Hs5] <;> iassumption
    iexact Hkept
  isplitl [HO]; · iapply hfin; iexact HO
  isplitl [H0]; · iexact H0
  isplitl [H1]; · iexact H1
  iexact H2

theorem body_obligation (c : Dev nD) : BodyObligation (dats (F := F) m 0 c) (defs₀ (F := F)) 𝒱₀ () Set.univ := fun t => by
  rw [bigSep_W0, bigSep_W0]
  show bodyPre m c t ⊢ wp frame (wpE (defs₀ (F := F)) 𝒱₀ c.tc none) Set.univ (bodyAt0 t) (fun _ => bodyPost m c t)
  by_cases h0 : t.val = 0
  · exact body_first m c t h0
  by_cases h7 : t.val = 7
  · exact body_last m c t h7
  · exact body_middle m c t h0 h7

/-! ## The launch -/

theorem own_sems : Pipeline.OwnSemFacts cfg0.spec (C.plan (Val := Elt F) (τ := τ) m).osem := by
  show Pipeline.OwnSemFacts cfg0.spec (Sum.elim sendS recvS)
  decide

theorem share_full (c : Dev nD) (w : Fin cfg0.W) : (dats m 0 c).share w = fullShare := by unfold Dat.share; split <;> rfl

theorem stage_not_own : ∀ (w : Fin cfg0.W) (s : Fin (cfg0.win w).nbuf) (j : K ⊕ K),
    (Sum.elim sendS recvS) j ≠ .dma ((cfg0.win w).sem s) := by
  decide

theorem waits (c : Dev nD) : (levAts Plan.L (C.plan m).lv : sProp 𝕄) ⊢ Pipeline.cellsWaits cfgs (dats m) () 0 c :=
  Pipeline.cellsWaits_intro cfgs (dats m) () 0 c fun w s t =>
    (C.plan m).mayWait_other c _ (fun j => stage_not_own w s j) _ (by
      rcases Nat.eq_zero_or_pos t.val with h | h
      · left; rw [C.owes₀_eq]; exact if_pos h
      · right; exact if_neg (Nat.ne_of_gt h))

/-- The place on device `d` where the other core's copy `k` is to land. -/
def place (k : K) (d : Dev nD) : sProp 𝕄 :=
  (dstM k).view.loc d.tc ↦[(dstM k).view.set]{fullShare} m ((dstM k).view.loc d.tc)
theorem dst_place (k : K) (c : Dev nD) : C.dstPts m k c = place m k (other c) := by
  unfold Copies.dstPts
  show ((dstM k).view.loc ((toDev k) c).tc ↦[(dstM k).view.set]{fullShare} m ((dstM k).view.loc ((toDev k) c).tc) : sProp 𝕄) = _
  rw [toDev_eq]; rfl
theorem land_place (k : K) (c : Dev nD) : C.landPts m k c
    = ((dstM k).view.loc c.tc ↦[(dstM k).view.set]{fullShare} C.arrived m k (other c) c : sProp 𝕄) := by
  unfold Copies.landPts
  show ((dstM k).view.loc c.tc ↦[(dstM k).view.set]{fullShare} C.arrived m k ((toDev k).symm c) c : sProp 𝕄) = _
  rw [toDev_symm_eq]

/-- The array of four parts, split into the halves that are sent and the rest. -/
theorem split_four (c : Dev nD) : ((c.tc.loc main_arg2) ↦{fullShare} m (c.tc.loc main_arg2) : sProp 𝕄)
    ⊣⊢ iprop((bigSep Finset.univ fun k : Fin 4 => C.srcPts m (.inl k) c) ∗ keptPts m c) := by
  have e : (bigSep Finset.univ fun k : Fin 4 => (C.srcPts m (.inl k) c : sProp 𝕄))
      = bigSep Finset.univ fun k : Fin 4 => (c.tc.loc main_arg2) ↦[(qHalf k c).set]{fullShare} m (c.tc.loc main_arg2) :=
    bigSep_congr fun k _ => by
      unfold Copies.srcPts
      show ((c.tc.loc main_arg2) ↦[(qSrc k c).view.set]{fullShare} m (c.tc.loc main_arg2) : sProp 𝕄) = _
      rw [qSrc_set]
  rw [e]
  exact split_pieces (c.tc.loc main_arg2) (fun k : Fin 4 => (qHalf k c).set) (qSrc_disjoint c) (m (c.tc.loc main_arg2))

/-- The first landing array is its four parts, -/
theorem split_landing (c : Dev nD) (f : S4x352x1024.Idx → Elt F .f32) : ((c.tc.loc main_v1_1) ↦{fullShare} f : sProp 𝕄)
    = bigSep Finset.univ fun k : Fin 4 => (c.tc.loc main_v1_1) ↦[(qPart k).set]{fullShare} f :=
  all_pieces (c.tc.loc main_v1_1) (fun k : Fin 4 => (qPart k).set) qDst_disjoint qDst_cover f
/-- as launched, -/
theorem places_landing (c : Dev nD) : ((c.tc.loc main_v1_1) ↦{fullShare} m (c.tc.loc main_v1_1) : sProp 𝕄)
    = bigSep Finset.univ fun k : Fin 4 => place m (.inl k) c :=
  (split_landing c (m (c.tc.loc main_v1_1))).trans <| bigSep_congr fun k _ => by
    unfold place
    show _ = ((c.tc.loc main_v1_1) ↦[(qDst k).view.set]{fullShare} m (c.tc.loc main_v1_1) : sProp 𝕄)
    rw [qDst_set]
/-- and once the other core's four halves have landed. -/
theorem landed_landing (c : Dev nD) : ((c.tc.loc main_v1_1) ↦{fullShare} landed m c : sProp 𝕄)
    = bigSep Finset.univ fun k : Fin 4 => C.landPts m (.inl k) c :=
  (split_landing c (landed m c)).trans <| bigSep_congr fun k _ => by
    rw [land_place]
    show _ = ((c.tc.loc main_v1_1) ↦[(qDst k).view.set]{fullShare} C.arrived m (.inl k) (other c) c : sProp 𝕄)
    rw [qDst_set]
    exact pointsTo_congr fun i hi => (landed_agrees m k c i hi).symm

/-- The buffers a device's body starts with: what it sends and keeps, and the places on the other core. -/
theorem buffers_dealt :
    (bigSep Finset.univ fun c : Dev nD => (Pipeline.unscopedRest spec0 c (fun b => m (c.tc.loc b)) : sProp 𝕄))
      ⊢ bigSep Finset.univ fun c : Dev nD => iprop((bigSep Finset.univ fun k => C.srcPts m k c) ∗ (bigSep Finset.univ fun k => C.dstPts m k c) ∗ keptPts m c) := by
  have h0 (c : Dev nD) : (Pipeline.unscopedRest spec0 c (fun b => m (c.tc.loc b)) : sProp 𝕄)
      ⊢ iprop(((bigSep Finset.univ fun k => C.srcPts m k c) ∗ keptPts m c) ∗ bigSep Finset.univ fun k => place m k c) := by
    have h1 := (split_four m c).1
    have e3 : C.srcPts m (.inr 0) c = ((c.tc.loc main_arg3) ↦{fullShare} m (c.tc.loc main_arg3) : sProp 𝕄) := by
      unfold Copies.srcPts
      show ((c.tc.loc main_arg3) ↦[(View.whole main_arg3).set]{fullShare} m (c.tc.loc main_arg3) : sProp 𝕄) = _
      rw [View.set_whole]
    have e4 : C.srcPts m (.inr 1) c = ((c.tc.loc main_arg4) ↦{fullShare} m (c.tc.loc main_arg4) : sProp 𝕄) := by
      unfold Copies.srcPts
      show ((c.tc.loc main_arg4) ↦[(View.whole main_arg4).set]{fullShare} m (c.tc.loc main_arg4) : sProp 𝕄) = _
      rw [View.set_whole]
    have e5 : place m (.inr 0) c = ((c.tc.loc main_v1_2) ↦{fullShare} m (c.tc.loc main_v1_2) : sProp 𝕄) := by
      unfold place
      show ((c.tc.loc main_v1_2) ↦[(View.whole main_v1_2).set]{fullShare} m (c.tc.loc main_v1_2) : sProp 𝕄) = _
      rw [View.set_whole]
    have e6 : place m (.inr 1) c = ((c.tc.loc main_v1_3) ↦{fullShare} m (c.tc.loc main_v1_3) : sProp 𝕄) := by
      unfold place
      show ((c.tc.loc main_v1_3) ↦[(View.whole main_v1_3).set]{fullShare} m (c.tc.loc main_v1_3) : sProp 𝕄) = _
      rw [View.set_whole]
    simp only [unscopedRest0_eq]
    rw [Copies.bigSep_sum, Copies.bigSep_sum, bigSep_two, bigSep_two, places_landing, ← e3, ← e4, ← e5, ← e6]
    iintro ⟨Ha, Hb, Hc, Hd, He, Hf⟩
    ihave H := h1 $$ Ha
    icases H with ⟨Hs, Hk⟩
    isplitl [Hs Hb Hc Hk]
    · isplitr [Hk]
      · isplitl [Hs]; · iexact Hs
        isplitl [Hb]; · iexact Hb
        iexact Hc
      iexact Hk
    isplitl [Hd]; · iexact Hd
    isplitl [He]; · iexact He
    iexact Hf
  have h3 : (bigSep Finset.univ fun c : Dev nD => bigSep Finset.univ fun k => (place m k c : sProp 𝕄))
      = bigSep Finset.univ fun c : Dev nD => bigSep Finset.univ fun k => C.dstPts m k c :=
    (bigSep_univ_equiv swap (fun c : Dev nD => bigSep Finset.univ fun k => (place m k c : sProp 𝕄))).trans
      (bigSep_congr fun c _ => bigSep_congr fun k _ => (dst_place m k c).symm)
  have h4 := bigSep_mono (s := (Finset.univ : Finset (Dev nD))) fun c _ => h0 c
  have h5 : iprop(((bigSep Finset.univ fun c : Dev nD => bigSep Finset.univ fun k => C.srcPts m k c) ∗ bigSep Finset.univ fun c : Dev nD => keptPts m c)
        ∗ bigSep Finset.univ fun c : Dev nD => bigSep Finset.univ fun k => C.dstPts m k c)
      ⊢ iprop((bigSep Finset.univ fun c : Dev nD => bigSep Finset.univ fun k => C.srcPts m k c)
        ∗ (bigSep Finset.univ fun c : Dev nD => bigSep Finset.univ fun k => C.dstPts m k c) ∗ bigSep Finset.univ fun c : Dev nD => (keptPts m c : sProp 𝕄)) := by
    iintro ⟨⟨Hs, Hk⟩, Hd⟩
    isplitl [Hs]; · iexact Hs
    isplitl [Hd]; · iexact Hd
    iexact Hk
  rw [bigSep_sep', bigSep_sep', h3] at h4
  rw [bigSep_sep', bigSep_sep']
  exact h4.trans h5

/-- What a device holds at the end beside its windows' arrays: what it sent as launched, and what the other core sent. -/
def ends (c : Dev nD) : sProp 𝕄 :=
  iprop(((c.tc.loc main_arg2) ↦{fullShare} m (c.tc.loc main_arg2))
    ∗ ((c.tc.loc main_arg3) ↦{fullShare} m (c.tc.loc main_arg3))
    ∗ ((c.tc.loc main_arg4) ↦{fullShare} m (c.tc.loc main_arg4))
    ∗ ((c.tc.loc main_v1_1) ↦{fullShare} landed m c)
    ∗ ((c.tc.loc main_v1_2) ↦{fullShare} C.arrived m (.inr 0) (other c) c)
    ∗ ((c.tc.loc main_v1_3) ↦{fullShare} C.arrived m (.inr 1) (other c) c))

theorem phi_exit (c : Dev nD) :
    (dats m 0 c).Φ (Fin.last cfg0.N) ⊢ iprop(ends m c ∗ Pipeline.ownSems0 (C.plan (τ := τ) m).osem c ∗ Pipeline.scopedRest spec0 c) := by
  rw [holds_last m c _ N_0, scopedRest0_eq]
  have h1 := (split_four m c).2
  have e3 : C.srcPts m (.inr 0) c = ((c.tc.loc main_arg3) ↦{fullShare} m (c.tc.loc main_arg3) : sProp 𝕄) := by
    unfold Copies.srcPts
    show ((c.tc.loc main_arg3) ↦[(View.whole main_arg3).set]{fullShare} m (c.tc.loc main_arg3) : sProp 𝕄) = _
    rw [View.set_whole]
  have e4 : C.srcPts m (.inr 1) c = ((c.tc.loc main_arg4) ↦{fullShare} m (c.tc.loc main_arg4) : sProp 𝕄) := by
    unfold Copies.srcPts
    show ((c.tc.loc main_arg4) ↦[(View.whole main_arg4).set]{fullShare} m (c.tc.loc main_arg4) : sProp 𝕄) = _
    rw [View.set_whole]
  have e5 : C.landPts m (.inr 0) c = ((c.tc.loc main_v1_2) ↦{fullShare} C.arrived m (.inr 0) (other c) c : sProp 𝕄) := by
    rw [land_place]
    show ((c.tc.loc main_v1_2) ↦[(View.whole main_v1_2).set]{fullShare} C.arrived m (.inr 0) (other c) c : sProp 𝕄) = _
    rw [View.set_whole]
  have e6 : C.landPts m (.inr 1) c = ((c.tc.loc main_v1_3) ↦{fullShare} C.arrived m (.inr 1) (other c) c : sProp 𝕄) := by
    rw [land_place]
    show ((c.tc.loc main_v1_3) ↦[(View.whole main_v1_3).set]{fullShare} C.arrived m (.inr 1) (other c) c : sProp 𝕄) = _
    rw [View.set_whole]
  have h3 : iprop((bigSep Finset.univ fun k => semVal (C.sendCell k c) 0) ∗ bigSep Finset.univ fun k => semVal (C.recvCell k c) 0) ⊢ (Pipeline.ownSems0 (C.plan (τ := τ) m).osem c : sProp 𝕄) := by
    unfold Pipeline.ownSems0
    rw [Copies.bigSep_sum (A := K) (B := K)]
    iintro H; iexact H
  unfold holds₂ Copies.finished ends
  rw [bigSep_sep', bigSep_sep', bigSep_sep', Copies.bigSep_sum (fun k => C.srcPts m k c), Copies.bigSep_sum (fun k => C.landPts m k c),
    bigSep_two, bigSep_two, landed_landing, ← e3, ← e4, ← e5, ← e6]
  iintro ⟨⟨⟨Hz1, Hs, Hs3, Hs4⟩, Hz2, Hl, Hl3, Hl4⟩, Hk⟩
  isplitl [Hs Hs3 Hs4 Hk Hl Hl3 Hl4]
  · isplitl [Hs Hk]
    · iapply h1; isplitl [Hs] <;> iassumption
    isplitl [Hs3]; · iexact Hs3
    isplitl [Hs4]; · iexact Hs4
    isplitl [Hl]; · iexact Hl
    isplitl [Hl3]; · iexact Hl3
    iexact Hl4
  isplitl [Hz1 Hz2]
  · iapply h3; isplitl [Hz1] <;> iassumption
  iempintro

/-- What memory holds of these at the end. -/
def Rest (c : Dev nD) (s : MemSt nD τ sig (Elt F)) : Prop :=
  s.mem (c.tc.loc main_arg2) = m (c.tc.loc main_arg2)
    ∧ s.mem (c.tc.loc main_arg3) = m (c.tc.loc main_arg3)
    ∧ s.mem (c.tc.loc main_arg4) = m (c.tc.loc main_arg4)
    ∧ s.mem (c.tc.loc main_v1_1) = landed m c
    ∧ s.mem (c.tc.loc main_v1_2) = C.arrived m (.inr 0) (other c) c
    ∧ s.mem (c.tc.loc main_v1_3) = C.arrived m (.inr 1) (other c) c

theorem ends_read (c : Dev nD) (s' : Phys nD τ sig (Elt F)) : iprop(ends m c ∗ SI s') ⊢ iprop(⌜Rest m c s'.mem⌝ ∗ SI s') := by
  have r0 := read_whole (c.tc.loc main_arg2) (m (c.tc.loc main_arg2)) s'
  have r1 := read_whole (c.tc.loc main_arg3) (m (c.tc.loc main_arg3)) s'
  have r2 := read_whole (c.tc.loc main_arg4) (m (c.tc.loc main_arg4)) s'
  have r3 := read_whole (c.tc.loc main_v1_1) (landed m c) s'
  have r4 := read_whole (c.tc.loc main_v1_2) (C.arrived m (.inr 0) (other c) c) s'
  have r5 := read_whole (c.tc.loc main_v1_3) (C.arrived m (.inr 1) (other c) c) s'
  unfold ends
  iintro ⟨⟨H0, H1, H2, H3, H4, H5⟩, HSI⟩
  ihave G0 := r0 $$ [H0 HSI]
  · isplitl [H0]; · iexact H0
    iexact HSI
  icases G0 with ⟨%h0, HSI⟩
  ihave G1 := r1 $$ [H1 HSI]
  · isplitl [H1]; · iexact H1
    iexact HSI
  icases G1 with ⟨%h1, HSI⟩
  ihave G2 := r2 $$ [H2 HSI]
  · isplitl [H2]; · iexact H2
    iexact HSI
  icases G2 with ⟨%h2, HSI⟩
  ihave G3 := r3 $$ [H3 HSI]
  · isplitl [H3]; · iexact H3
    iexact HSI
  icases G3 with ⟨%h3, HSI⟩
  ihave G4 := r4 $$ [H4 HSI]
  · isplitl [H4]; · iexact H4
    iexact HSI
  icases G4 with ⟨%h4, HSI⟩
  ihave G5 := r5 $$ [H5 HSI]
  · isplitl [H5]; · iexact H5
    iexact HSI
  icases G5 with ⟨%h5, HSI⟩
  isplitr; · ipureintro; exact ⟨h0, h1, h2, h3, h4, h5⟩
  iexact HSI

/-- The state in which a run of the program ends: the staged arrays as the pipeline leaves them, what was sent unchanged,
    and in the landing arrays what the other core sent. -/
def Ended (s : MemSt nD τ sig (Elt F)) : Prop :=
  ∀ c : Dev nD, (∀ w, s.mem ((cfg0.win w).arr.view.loc c.tc) = (dats m 0 c).arrAt w cfg0.N) ∧ Rest m c s

/-- Every execution of the program ends, with every semaphore at zero, in such a state. -/
theorem run_main : θ_run defs (onTc (τ := τ) (main (F := F))) ⟨m, fun _ => 0, ρ⟩ (fun r => Ended m r.2 ∧ r.2.sem = fun _ => 0) :=
  Cert.Proof.LoneCall.run_lone_call (fun p => (cfgs p).toPCfg) (fun p => (cfgs p).toPCfg_adm) (dats m) cellOf_inj (0 : Fin 1)
    winFacts0.to₀ (own_sems m) (EP nD τ sig (Elt F)) defs₀ 𝒱₀ m ρ main
    (hmain := fun _ => rfl) (hpre := rfl)
    (hbody := body_obligation m) (hne := fun w => by fin_cases w <;> exact Nat.succ_pos _) (harr := arr_whole0) (hstage := stage_whole0)
    (hshare := share_full m) (hdistinct := winFacts0.arr_inj)
    (O₀ := (C.plan m).owes₀) (howed₀ := fun c => by rw [C.owes₀_eq]; rfl) (howedN := fun _ => rfl)
    (L := Plan.L) (lv := (C.plan m).lv) (hL := Plan.L_of_ne) (hwaits := waits m)
    (G := (C.plan m).ghost)
    (u₀ := (initOf (Pipeline.cells cfgs cellOf_inj) (Pipeline.launchToks cfgs cellOf_inj), initOf (C.plan m).cellSet (C.plan m).tokSet))
    (hu₀ := by
      iintro Hu
      ihave H := (ownU_pair _ _) $$ Hu
      icases H with ⟨HP, HX⟩
      imod (C.plan m).fund_ghost $$ HX with HG
      imodintro
      isplitl [HP] <;> iassumption)
    (hA := fun _ _ => rfl)
    (X := (C.plan m).start fun c => iprop((bigSep Finset.univ fun k => C.srcPts m k c) ∗ (bigSep Finset.univ fun k => C.dstPts m k c) ∗ keptPts m c))
    (Y := ends m)
    (deal := (C.plan m).deal _ _ _ m _ (buffers_dealt m))
    (hin := fun c => by
      have h := C.start_copies m (keptPts m) c
      rw [holds_first m c _ rfl]
      unfold holds₀
      iintro ⟨HX, -⟩
      iapply h; iexact HX)
    (hout := phi_exit m)
    (QY := Rest m)
    (hY := ends_read m)
    (hQ := fun _ h hs => ⟨h, sem_eq_zero_of_scoped (by decide) hs⟩)

end Cert.InBwd
-- ==== Proof.InValue.lean ====
/-
# What the arrays hold after the product with the exchange of three gradients

Over the extended reals: the product of a block, the result array after all eight blocks, and the two landing
arrays that receive a whole array.
-/
module

public import proofs.«01_k».proof.Proof.InRun

@[expose] public section

set_option maxRecDepth 16384

noncomputable section

namespace Cert.InBwd

open Cert.InKernelIdeal Cert.InKernelIdeal.Gen Cert.Proof.Exchange
open Idealize.ShloMosaic Idealize.ShloMosaic.TcCoe
open Idealize.SL.Sem
open Idealize.ShloMosaic.Pipeline (Dat Cfg Window)

/-- The product of one block at row `r`, column `s`: row `r` of the left operand against column `s` of the right one. -/
theorem product_apply (X : S512x2816.Idx → Elt Ideal .bf16) (Y : S2816x1024.Idx → Elt Ideal .bf16) (y : S512x1024.Idx) :
    (k0_pay1 X Y : FVec Ideal S512x1024 .f32) y = ∑ k : Fin 2816, (X (ix2 (y 0) k) : EReal) * Y (ix2 k (y 1)) := by
  pointwise [k0_pay1]

variable (m : (ℓ : Loc nD τ sig) → Buf (Elt Ideal) ℓ)

/-- The result array as a whole: every row of the left array against every column of the right one. -/
def wholeProduct (X : S4096x2816.Idx → EReal) (Y : S2816x1024.Idx → EReal) : S4096x1024.Idx → EReal :=
  fun i => ∑ k : Fin 2816, X (ix2 (i 0) k) * Y (ix2 k (i 1))

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

/-- Row `r` of block `t` in the whole array. -/
def rowOf (t : Fin cfg0.N) (r : Fin 512) : Fin 4096 := ⟨t.val * 512 + r.val, by have := val_lt t; omega⟩

theorem emb_0 (t : Fin cfg0.N) (y : S512x2816.Idx) : (win0_0.rect t).emb y = (ix2 (rowOf t (y 0)) (y 1) : S4096x2816.Idx) := by
  refine Layout.idx_ext fun a => ?_
  refine (Window.rect_emb_val win0_0 t y a).trans ?_
  rw [index_0]
  fin_cases a
  · rfl
  · exact Nat.zero_add _
theorem emb_1 (t : Fin cfg0.N) (y : S2816x1024.Idx) : (win0_1.rect t).emb y = y := by
  refine Layout.idx_ext fun a => ?_
  refine (Window.rect_emb_val win0_1 t y a).trans ?_
  rw [index_1]
  fin_cases a <;> exact at_zero _ _
theorem emb_2 (t : Fin cfg0.N) (y : S512x1024.Idx) : (win0_2.rect t).emb y = (ix2 (rowOf t (y 0)) (y 1) : S4096x1024.Idx) := by
  refine Layout.idx_ext fun a => ?_
  refine (Window.rect_emb_val win0_2 t y a).trans ?_
  rw [index_2]
  fin_cases a
  · rfl
  · exact Nat.zero_add _

/-- Block `t` of the left array. -/
theorem left_block (c : Dev nD) (t : Fin cfg0.N) (y : S512x2816.Idx) :
    iblk m c 0 t y = m (c.tc.loc main_arg0) (ix2 (rowOf t (y 0)) (y 1) : S4096x2816.Idx) :=
  congrArg (m (c.tc.loc main_arg0)) (emb_0 t y)
/-- The right array is staged whole. -/
theorem right_block (c : Dev nD) (t : Fin cfg0.N) (y : S2816x1024.Idx) :
    iblk m c 1 t y = m (c.tc.loc main_arg1) y :=
  congrArg (m (c.tc.loc main_arg1)) (emb_1 t y)

/-- The product that device `c` computes. -/
abbrev outArray (c : Dev nD) : S4096x1024.Idx → EReal :=
  wholeProduct (m (c.tc.loc main_arg0)) (m (c.tc.loc main_arg1))

/-- What a block writes back is that block of the whole product. -/
theorem flushed_2 (c : Dev nD) (t : Fin cfg0.N) :
    (dats m 0 c).flushed 2 t = ((cfg0.win 2).blk t).view.read (Elt Ideal) (outArray m c) := by
  funext y
  show (k0_pay1 (iblk m c 0 t) (iblk m c 1 t) : FVec Ideal S512x1024 .f32) y = outArray m c ((win0_2.rect t).emb y)
  rw [product_apply, emb_2]
  simp only [left_block, right_block]
  rfl

/-- Every index of the result array is in the block of its row. -/
theorem covered (i : S4096x1024.Idx) : ∃ t : Fin cfg0.N, (cfg0.win 2).flush t = true ∧ i ∈ ((cfg0.win 2).blk t).view.set := by
  have hi : (i 0).val < 4096 := (i 0).isLt
  let t : Fin cfg0.N := ⟨(i 0).val / 512, Nat.lt_of_lt_of_eq (by omega : _ < 8) N_0.symm⟩
  refine ⟨t, flush0_2 t, ?_⟩
  have h := ((cfg0.win 2).blk t).view.emb_mem_set (ix2 ⟨(i 0).val % 512, Nat.mod_lt _ (by omega)⟩ (i 1) : S512x1024.Idx)
  have e : ((cfg0.win 2).blk t).view.emb (ix2 ⟨(i 0).val % 512, Nat.mod_lt _ (by omega)⟩ (i 1) : S512x1024.Idx) = i := by
    refine (emb_2 t _).trans (Layout.idx_ext fun a => ?_)
    fin_cases a
    · show (i 0).val / 512 * 512 + (i 0).val % 512 = (i 0).val
      omega
    · rfl
  rwa [e] at h

/-- The result array ends as the whole product. -/
theorem final_2 (c : Dev nD) : (dats m 0 c).arrAt 2 cfg0.N = outArray m c :=
  (dats m 0 c).arrAt_eq_of_cover 2 (outArray m c) (fun t _ => flushed_2 m c t) covered

/-! ## The two arrays that are sent whole -/

theorem second_landed (c : Dev nD) : C.arrived m (.inr 0) (other c) c = m ((other c).tc.loc main_arg3) :=
  View.write_whole_univ _ _ _
theorem third_landed (c : Dev nD) : C.arrived m (.inr 1) (other c) c = m ((other c).tc.loc main_arg4) :=
  View.write_whole_univ _ _ _

end Cert.InBwd
-- ==== Proof.InRef.lean ====
/-
# What the plain product and the plain exchanges compute

The reference's four results read at an index, over the extended reals.
-/
module

public import proofs.«01_k».proof.Proof.Gen.InReferenceIdeal.Run
public import Idealize.ShloMosaic.Lib.Pointwise

@[expose] public section

set_option maxRecDepth 16384

noncomputable section

namespace Cert.InRef

open Cert.InReferenceIdeal Cert.InReferenceIdeal.Gen
open Idealize.ShloMosaic Idealize.SL.Sem

/-- The whole product, from the whole arrays. -/
def product (X : S32768x2816.Idx → Elt Ideal .bf16) (Y : S2816x1024.Idx → Elt Ideal .bf16) : FVec Ideal S32768x1024 .f32 :=
  Host.dotGeneral dot_S32768x2816_S2816x1024_S32768x1024_1_0_0_1_n_n none (extf .f32 X bitsLt_bf16_f32) (extf .f32 Y bitsLt_bf16_f32)

/-- The first array after the exchange of the halves of its parts. -/
def exchanged (G : S32x2x352x1024.Idx → Elt Ideal .f32) : S32x352x1024.Idx → Elt Ideal .f32 :=
  shapeCast S32x352x1024 (concatenate S4x2x4x352x1024 1 [⟨S4x1x4x352x1024, (broadcastInDim S4x1x4x352x1024 ![0, 2, 3, 4] bcast_S4x4x352x1024_S4x1x4x352x1024_0_2_3_4 (shapeCast S4x4x352x1024 (extractStridedSlice S4x1x4x1x352x1024 ![0, 1, 0, 0, 0, 0] (shapeCast S4x2x4x2x352x1024 G shapeCasts_S32x2x352x1024_S4x2x4x2x352x1024) slices_S4x2x4x2x352x1024_S4x1x4x1x352x1024_0_1_0_0_0_0) shapeCasts_S4x1x4x1x352x1024_S4x4x352x1024))⟩, ⟨S4x1x4x352x1024, (broadcastInDim S4x1x4x352x1024 ![0, 2, 3, 4] bcast_S4x4x352x1024_S4x1x4x352x1024_0_2_3_4 (shapeCast S4x4x352x1024 (extractStridedSlice S4x1x4x1x352x1024 ![0, 0, 0, 1, 0, 0] (shapeCast S4x2x4x2x352x1024 G shapeCasts_S32x2x352x1024_S4x2x4x2x352x1024) slices_S4x2x4x2x352x1024_S4x1x4x1x352x1024_0_0_0_1_0_0) shapeCasts_S4x1x4x1x352x1024_S4x4x352x1024))⟩] concatenates_S4x1x4x352x1024_S4x1x4x352x1024_S4x2x4x352x1024_d1) shapeCasts_S4x2x4x352x1024_S32x352x1024

/-- The second array after the exchange. -/
def swapped (G : S4096x1024.Idx → Elt Ideal .f32) : S4096x1024.Idx → Elt Ideal .f32 :=
  shapeCast S4096x1024 (concatenate S4x2x512x1024 1 [⟨S4x1x512x1024, (broadcastInDim S4x1x512x1024 ![0, 2, 3] bcast_S4x512x1024_S4x1x512x1024_0_2_3 (shapeCast S4x512x1024 (extractStridedSlice S4x1x512x1024 ![0, 1, 0, 0] (shapeCast S4x2x512x1024 G shapeCasts_S4096x1024_S4x2x512x1024) slices_S4x2x512x1024_S4x1x512x1024_0_1_0_0) shapeCasts_S4x1x512x1024_S4x512x1024))⟩, ⟨S4x1x512x1024, (broadcastInDim S4x1x512x1024 ![0, 2, 3] bcast_S4x512x1024_S4x1x512x1024_0_2_3 (shapeCast S4x512x1024 (extractStridedSlice S4x1x512x1024 ![0, 0, 0, 0] (shapeCast S4x2x512x1024 G shapeCasts_S4096x1024_S4x2x512x1024) slices_S4x2x512x1024_S4x1x512x1024_0_0_0_0) shapeCasts_S4x1x512x1024_S4x512x1024))⟩] concatenates_S4x1x512x1024_S4x1x512x1024_S4x2x512x1024_d1) shapeCasts_S4x2x512x1024_S4096x1024

/-- The third array after the exchange. -/
def swapped' (G : S2048x512.Idx → Elt Ideal .f32) : S2048x512.Idx → Elt Ideal .f32 :=
  shapeCast S2048x512 (concatenate S4x2x256x512 1 [⟨S4x1x256x512, (broadcastInDim S4x1x256x512 ![0, 2, 3] bcast_S4x256x512_S4x1x256x512_0_2_3 (shapeCast S4x256x512 (extractStridedSlice S4x1x256x512 ![0, 1, 0, 0] (shapeCast S4x2x256x512 G shapeCasts_S2048x512_S4x2x256x512) slices_S4x2x256x512_S4x1x256x512_0_1_0_0) shapeCasts_S4x1x256x512_S4x256x512))⟩, ⟨S4x1x256x512, (broadcastInDim S4x1x256x512 ![0, 2, 3] bcast_S4x256x512_S4x1x256x512_0_2_3 (shapeCast S4x256x512 (extractStridedSlice S4x1x256x512 ![0, 0, 0, 0] (shapeCast S4x2x256x512 G shapeCasts_S2048x512_S4x2x256x512) slices_S4x2x256x512_S4x1x256x512_0_0_0_0) shapeCasts_S4x1x256x512_S4x256x512))⟩] concatenates_S4x1x256x512_S4x1x256x512_S4x2x256x512_d1) shapeCasts_S4x2x256x512_S2048x512

/-- The product at row `r`, column `s`: row `r` of the left array against column `s` of the right one. -/
theorem product_apply (X : S32768x2816.Idx → Elt Ideal .bf16) (Y : S2816x1024.Idx → Elt Ideal .bf16) (i : S32768x1024.Idx) :
    product X Y i = ∑ k : Fin 2816, (X (ix2 (i 0) k) : EReal) * Y (ix2 k (i 1)) := by
  pointwise [product]

/-- The first exchanged array, row `r` of it: rows come four to a device, and those of a device are, part by part, the
    halves at its own place that its chip's other core had. -/
theorem exchanged_at (G : S32x2x352x1024.Idx → Elt Ideal .f32) (r : Fin 32) (j : Fin 352) (l : Fin 1024)
    (h : r.val / 8 * 8 + (1 - r.val / 4 % 2) * 4 + r.val % 4 < 32) :
    exchanged G (ix3 r j l) = G (ix4 ⟨r.val / 8 * 8 + (1 - r.val / 4 % 2) * 4 + r.val % 4, h⟩ ⟨r.val / 4 % 2, Nat.mod_lt _ (by omega)⟩ j l) := by
  pointwise [exchanged]
  split
  · exact congrArg₂ (fun s u => G (ix4 s u j l)) (Fin.ext (by dsimp only; omega)) (Fin.ext (by show 0 = r.val / 4 % 2; omega))
  · exact congrArg₂ (fun s u => G (ix4 s u j l)) (Fin.ext (by dsimp only; omega)) (Fin.ext (by show 1 = r.val / 4 % 2; omega))

/-- The second exchanged array: rows come 512 to a device, and those of a device are its chip's other core's. -/
theorem swapped_at (G : S4096x1024.Idx → Elt Ideal .f32) (r : Fin 4096) (l : Fin 1024)
    (h : r.val / 1024 * 1024 + (1 - r.val / 512 % 2) * 512 + r.val % 512 < 4096) :
    swapped G (ix2 r l) = G (ix2 ⟨r.val / 1024 * 1024 + (1 - r.val / 512 % 2) * 512 + r.val % 512, h⟩ l) := by
  pointwise [swapped]
  split
  · exact congrArg (fun s => G (ix2 s l)) (Fin.ext (by dsimp only; omega))
  · exact congrArg (fun s => G (ix2 s l)) (Fin.ext (by dsimp only; omega))

/-- The third exchanged array: rows come 256 to a device, and those of a device are its chip's other core's. -/
theorem swapped'_at (G : S2048x512.Idx → Elt Ideal .f32) (r : Fin 2048) (l : Fin 512)
    (h : r.val / 512 * 512 + (1 - r.val / 256 % 2) * 256 + r.val % 256 < 2048) :
    swapped' G (ix2 r l) = G (ix2 ⟨r.val / 512 * 512 + (1 - r.val / 256 % 2) * 256 + r.val % 256, h⟩ l) := by
  pointwise [swapped']
  split
  · exact congrArg (fun s => G (ix2 s l)) (Fin.ext (by dsimp only; omega))
  · exact congrArg (fun s => G (ix2 s l)) (Fin.ext (by dsimp only; omega))

/-- Every execution of the reference ends with its four results at the product and the exchanged arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v2) = product (m (c.tc.loc main_arg0)) (m (c.tc.loc main_arg1))
      ∧ r.2.mem (c.tc.loc main_v11) = exchanged (m (c.tc.loc main_arg2))
      ∧ r.2.mem (c.tc.loc main_v20) = swapped (m (c.tc.loc main_arg3))
      ∧ r.2.mem (c.tc.loc main_v29) = swapped' (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  Cert.InReferenceIdeal.Value.run (F := Ideal) m ρ

end Cert.InRef
-- ==== Proof.InClaims.lean ====
/-
# The claims about the product with the exchange of three gradients

Each frame is the one run with the values dropped; the value claim is its instance over the extended reals beside the
reference's run, the two read at an index.
-/
module

public import proofs.«01_k».proof.Defs
public import proofs.«01_k».proof.Proof.InValue
public import proofs.«01_k».proof.Proof.InRef
public import proofs.«01_k».proof.Proof.Gen.InKernel

@[expose] public section

set_option maxRecDepth 16384

noncomputable section

namespace Cert.InBwd

open Idealize.ShloMosaic Idealize.ShloMosaic.TcCoe Idealize.SL.Sem
open Cert.InKernelIdeal Cert.InKernelIdeal.Gen

variable {F : FTy → Type} [FloatOps F]

/-- A run leaves the five arguments as they were. -/
theorem args_kept {m : (ℓ : Loc nD τ sig) → Buf (Elt F) ℓ} {s : MemSt nD τ sig (Elt F)} (h : Ended m s) (c : Dev nD) :
    s.mem (c.tc.loc main_arg0) = m (c.tc.loc main_arg0)
    ∧ s.mem (c.tc.loc main_arg1) = m (c.tc.loc main_arg1)
    ∧ s.mem (c.tc.loc main_arg2) = m (c.tc.loc main_arg2)
    ∧ s.mem (c.tc.loc main_arg3) = m (c.tc.loc main_arg3)
    ∧ s.mem (c.tc.loc main_arg4) = m (c.tc.loc main_arg4) :=
  ⟨((h c).1 0).trans ((dats m 0 c).arrAt_in 0 rfl _), ((h c).1 1).trans ((dats m 0 c).arrAt_in 1 rfl _), (h c).2.1, (h c).2.2.1, (h c).2.2.2.1⟩

theorem frame_ideal : Cert.quiescent_InKernelIdeal := fun m ρ _ =>
  (θ_run Cert.InKernelIdeal.defs _ _).mono (fun _ h => ⟨args_kept h.1, h.2⟩) (run_main (F := Ideal) m ρ)

/-- The two programs have one body table. -/
theorem tables_eq : Cert.InKernel.defs (F := F) = Cert.InKernelIdeal.defs (F := F) :=
  congrArg (Pipeline.defs _) (congrArg Defs.onTc (one_row rfl))

theorem frame_kernel : Cert.quiescent_InKernel := fun m ρ _ => by
  have h := (θ_run Cert.InKernelIdeal.defs _ _).mono (fun _ h => (⟨args_kept h.1, h.2⟩ : _ ∧ _)) (run_main (F := Bits) m ρ)
  rw [← tables_eq] at h
  exact h

theorem frame_reference : Cert.quiescent_InReferenceIdeal := fun m ρ _ =>
  (θ_run Cert.InReferenceIdeal.defs _ _).mono (fun r h => ⟨fun c => (h c).2.2.2.2, sem_eq_zero_of_no_sems (by decide) r.2⟩) (Cert.InRef.run m ρ)

/-- Device `c`'s product is block `c` of the whole product. -/
theorem product_block (c : Fin 8) (X : Cert.InReferenceIdeal.S32768x2816.Idx → EReal) (Y : S2816x1024.Idx → EReal) :
    wholeProduct (Layout.block ⟨2, ![4096, 2816]⟩ ⟨2, ![32768, 2816]⟩ 0 8 c X) Y
      = Layout.block ⟨2, ![4096, 1024]⟩ ⟨2, ![32768, 1024]⟩ 0 8 c (Cert.InRef.product X Y) := by
  funext i
  rw [Layout.block_apply, Cert.InRef.product_apply]
  refine Finset.sum_congr rfl fun k _ => ?_
  rw [Layout.block_apply]
  refine congrArg₂ (· * ·) (congrArg X (Layout.idx_ext fun a => ?_)) (congrArg Y (Layout.idx_ext fun a => ?_))
  · fin_cases a <;> rfl
  · fin_cases a <;> rfl

theorem other_val : ∀ c : Dev nD, (other c).val = 2 * (c.val / 2) + (1 - c.val % 2) := by decide +kernel

/-- The halves that land on device `c` are block `c` of the first exchanged array. -/
theorem landed_block (c : Dev nD) (G : Cert.InReferenceIdeal.S32x2x352x1024.Idx → EReal) (y : S4x352x1024.Idx) :
    Layout.block ⟨4, ![4, 2, 352, 1024]⟩ ⟨4, ![32, 2, 352, 1024]⟩ 0 8 (other c) G (by decide) (ix4 (y 0) (core c) (y 1) (y 2) : S4x2x352x1024.Idx)
      = Layout.block ⟨3, ![4, 352, 1024]⟩ ⟨3, ![32, 352, 1024]⟩ 0 8 c (Cert.InRef.exchanged G) (by decide) y := by
  have hc : c.val < 8 := c.isLt
  have hy : (y 0).val < 4 := (y 0).isLt
  have e : (Layout.Tiles.idx (by decide : Layout.Tiles ⟨3, ![4, 352, 1024]⟩ ⟨3, ![32, 352, 1024]⟩ 0 8) c y)
      = ix3 ⟨c.val * 4 + (y 0).val, by omega⟩ (y 1) (y 2) := Layout.idx_ext fun a => by fin_cases a <;> rfl
  rw [Layout.block_apply, Layout.block_apply, e]
  refine Eq.trans ?_ (Cert.InRef.exchanged_at G _ _ _ (by dsimp only; omega)).symm
  refine congrArg G (Layout.idx_ext fun a => ?_)
  fin_cases a
  · show (other c).val * 4 + (y 0).val = (c.val * 4 + (y 0).val) / 8 * 8 + (1 - (c.val * 4 + (y 0).val) / 4 % 2) * 4 + (c.val * 4 + (y 0).val) % 4
    rw [other_val]; omega
  · show c.val % 2 = (c.val * 4 + (y 0).val) / 4 % 2
    omega
  · rfl
  · rfl

/-- The second array of device `c`'s other core is block `c` of the second exchanged array. -/
theorem second_block (c : Dev nD) (G : Cert.InReferenceIdeal.S4096x1024.Idx → EReal) (y : S512x1024.Idx) :
    Layout.block ⟨2, ![512, 1024]⟩ ⟨2, ![4096, 1024]⟩ 0 8 (other c) G (by decide) y
      = Layout.block ⟨2, ![512, 1024]⟩ ⟨2, ![4096, 1024]⟩ 0 8 c (Cert.InRef.swapped G) (by decide) y := by
  have hc : c.val < 8 := c.isLt
  have hy : (y 0).val < 512 := (y 0).isLt
  have e : (Layout.Tiles.idx (by decide : Layout.Tiles ⟨2, ![512, 1024]⟩ ⟨2, ![4096, 1024]⟩ 0 8) c y)
      = ix2 ⟨c.val * 512 + (y 0).val, by omega⟩ (y 1) := Layout.idx_ext fun a => by fin_cases a <;> rfl
  rw [Layout.block_apply, Layout.block_apply, e]
  refine Eq.trans ?_ (Cert.InRef.swapped_at G _ _ (by dsimp only; omega)).symm
  refine congrArg G (Layout.idx_ext fun a => ?_)
  fin_cases a
  · show (other c).val * 512 + (y 0).val = (c.val * 512 + (y 0).val) / 1024 * 1024 + (1 - (c.val * 512 + (y 0).val) / 512 % 2) * 512 + (c.val * 512 + (y 0).val) % 512
    rw [other_val]; omega
  · rfl

/-- The third array of device `c`'s other core is block `c` of the third exchanged array. -/
theorem third_block (c : Dev nD) (G : Cert.InReferenceIdeal.S2048x512.Idx → EReal) (y : S256x512.Idx) :
    Layout.block ⟨2, ![256, 512]⟩ ⟨2, ![2048, 512]⟩ 0 8 (other c) G (by decide) y
      = Layout.block ⟨2, ![256, 512]⟩ ⟨2, ![2048, 512]⟩ 0 8 c (Cert.InRef.swapped' G) (by decide) y := by
  have hc : c.val < 8 := c.isLt
  have hy : (y 0).val < 256 := (y 0).isLt
  have e : (Layout.Tiles.idx (by decide : Layout.Tiles ⟨2, ![256, 512]⟩ ⟨2, ![2048, 512]⟩ 0 8) c y)
      = ix2 ⟨c.val * 256 + (y 0).val, by omega⟩ (y 1) := Layout.idx_ext fun a => by fin_cases a <;> rfl
  rw [Layout.block_apply, Layout.block_apply, e]
  refine Eq.trans ?_ (Cert.InRef.swapped'_at G _ _ (by dsimp only; omega)).symm
  refine congrArg G (Layout.idx_ext fun a => ?_)
  fin_cases a
  · show (other c).val * 256 + (y 0).val = (c.val * 256 + (y 0).val) / 512 * 512 + (1 - (c.val * 256 + (y 0).val) / 256 % 2) * 256 + (c.val * 256 + (y 0).val) % 256
    rw [other_val]; omega
  · rfl

theorem values : Cert.algebraic_InKernelIdeal_InReferenceIdeal := by
  intro m g m' g' _ hm
  refine ⟨_, _, _, _, (θ_run Cert.InKernelIdeal.defs _ _).mono (fun r h c => ⟨?_, ?_, ?_, ?_, args_kept h.1 c⟩) (run_main (F := Ideal) m g),
    (θ_run Cert.InReferenceIdeal.defs _ _).mono (fun r h => h 0) (Cert.InRef.run m' g')⟩
  · refine ((h.1 c).1 2).trans ((final_2 m c).trans ?_)
    unfold outArray
    rw [(hm c).1, (hm c).2.1]
    exact product_block c _ _
  · refine (h.1 c).2.2.2.2.1.trans (funext fun y => ?_)
    unfold landed
    rw [(hm (other c)).2.2.1]
    exact landed_block c _ y
  · refine (h.1 c).2.2.2.2.2.1.trans ((second_landed m c).trans (funext fun y => ?_))
    rw [(hm (other c)).2.2.2.1]
    exact second_block c _ y
  · refine (h.1 c).2.2.2.2.2.2.trans ((third_landed m c).trans (funext fun y => ?_))
    rw [(hm (other c)).2.2.2.2]
    exact third_block c _ y

end Cert.InBwd
-- ==== Proof.RowAccess.lean ====
/-
# Reading and writing part of an owned buffer

A load through a rectangle of an owned buffer yields the contents at the rectangle's places; a store through it changes
those places and no others (`put`). Two stores, one to each half of the rows, leave contents that depend on the two
stored blocks alone (`put_halves`).
-/
module

public import proofs.«01_k».proof.Proof.Copies

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The contents at the places of a rectangle. -/
def part {α : Type} {s : Shape} (r : Rect s) (X : s.Idx → α) : r.shape.Idx → α := fun y => X (r.idx y)

/-- Contents after the places of a rectangle have been overwritten. -/
def put {α : Type} {s : Shape} (r : Rect s) (w : r.shape.Idx → α) (X : s.Idx → α) : s.Idx → α := Function.extend r.idx w X

theorem put_at {α : Type} {s : Shape} (r : Rect s) (w : r.shape.Idx → α) (X : s.Idx → α) (y : r.shape.Idx) : put r w X (r.idx y) = w y :=
  Function.Injective.extend_apply r.emb.injective w X y

theorem put_outside {α : Type} {s : Shape} (r : Rect s) (w : r.shape.Idx → α) (X : s.Idx → α) (i : s.Idx) (h : ∀ y, r.idx y ≠ i) : put r w X i = X i :=
  Function.extend_apply' _ _ _ fun ⟨y, hy⟩ => h y hy

section Owned

variable {nD : Nat} {τ : Topo} {sig : RefSig} {Val : EltTy → Type}

local notation "𝕄" => MT nD τ sig Unit Val ℕ (UU nD τ sig) ℕ

variable {Λ : Labels} {defs : Defs nD τ sig Val Λ} (𝒱 : Variants) (bd : Option 𝒱.V)
variable {α : Type} {Q : α → sProp (MT nD τ sig Unit Val ℕ (UU nD τ sig) ℕ)}

/-- A load through a rectangle of an owned buffer yields the contents at its places. -/
theorem wp_load_part (c : Dev nD) {cs : CoreSpace} {s : Shape} {e : EltTy} {M : Memref sig .tc cs s e} {r : Rect s}
    {hl : M.view.LoadsAt r.toLoadRect} {X : s.Idx → Val e} {k : (r.shape.Idx → Val e) → Prog (TpuEff nD τ sig Val Λ .tc) α} :
    (owns c.tc M fullShare X : sProp 𝕄)
      ⊢ iprop((owns c.tc M fullShare X -∗ wp frame (wpE defs 𝒱 c.tc bd) Set.univ (k (part r X)) Q)
        -∗ wp frame (wpE defs 𝒱 c.tc bd) Set.univ (.op (.load M r.toLoadRect hl) k) Q) := by
  unfold owns
  iintro ⟨%f, %hf, H⟩ Hk
  iapply (wp_load 𝒱 c.tc bd Set.univ (m := M) (View.setOn_subset_set _ _)) $$ H
  iintro H
  have hr : M.view.readAt Val r.toLoadRect f = part r X := by
    rw [← hf]; funext x; rfl
  rw [hr]
  iapply Hk
  iexists f
  isplitr; · ipureintro; exact hf
  iexact H

/-- A store through a rectangle of an owned buffer overwrites its places. -/
theorem wp_store_part (c : Dev nD) {cs : CoreSpace} {s : Shape} {e : EltTy} {M : Memref sig .tc cs s e} {r : Rect s}
    {w : r.shape.Idx → Val e} {hx : (M.access r).Stores Finset.univ}
    {hm : (Finset.univ : Finset r.shape.Idx) = Finset.univ ∨ ∀ a, r.stride a = 1}
    {X : s.Idx → Val e} {k : PUnit → Prog (TpuEff nD τ sig Val Λ .tc) α} :
    (owns c.tc M fullShare X : sProp 𝕄)
      ⊢ iprop((owns c.tc M fullShare (put r w X) -∗ wp frame (wpE defs 𝒱 c.tc bd) Set.univ (k ⟨⟩) Q)
        -∗ wp frame (wpE defs 𝒱 c.tc bd) Set.univ (.op (.store M r w Finset.univ hx hm) k) Q) := by
  unfold owns
  iintro ⟨%f, %hf, H⟩ Hk
  iapply (wp_store 𝒱 (c.tc : Thread nD τ) bd Set.univ (m := M) (r := r) (Mk := Finset.univ) (S := M.view.set) (f := f)
    (View.set_slice_subset _ _)) $$ H
  iintro H
  iapply Hk
  iexists ((M.access r).write Val f w Finset.univ)
  isplitr
  · ipureintro
    have h2 := View.read_write_univ (v := M.access r) (Val := Val) f w
    funext i
    by_cases h : ∃ y, r.idx y = i
    · obtain ⟨y, rfl⟩ := h
      rw [put_at, ← congrFun h2 y]
      rfl
    · rw [put_outside r w X i (fun y hy => h ⟨y, hy⟩), ← hf]
      show View.read Val M.view _ i = View.read Val M.view f i
      rw [View.read_apply, View.read_apply]
      congr 1
      refine View.write_of_not_mem (v := M.access r) f w Finset.univ fun hmem => ?_
      obtain ⟨y, -, hy⟩ := Finset.mem_map.mp hmem
      exact h ⟨y, M.view.emb.injective hy⟩
  iexact H

end Owned

end Cert.Proof.Exchange
-- ==== Proof.UpBlock.lean ====
/-
# The output projection's gradient: one block of rows

A grid point handles 512 rows of one sequence, in two halves of 256. Here: the parts of the body that load, compute and
store, one theorem each, for any float instance and any buffers. `rest` is the body after its first part up to its last
conditional; `wp_rest` says what it leaves in the seven result buffers, as functions of the nine operands and of what
the accumulators held.
-/
module

public import proofs.«01_k».proof.Proof.RowAccess
public import proofs.«01_k».proof.Proof.Gen.UpKernelIdeal.Frame
public import proofs.«01_k».proof.Proof.Gen.UpKernelIdeal.Skeleton
public import Idealize.ShloMosaic.Lib.Pointwise
public import Idealize.ShloMosaic.Lib.LayoutAt
public import Idealize.ShloMosaic.Lib.Pipeline.Value

@[expose] public section

set_option maxRecDepth 16384

noncomputable section

namespace Cert.UpBwd

open Cert.UpKernelIdeal Cert.UpKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

abbrev 𝒱₀ : Variants := Variants.none
theorem origin2 : (![0, 0] : Fin 2 → Nat) = fun _ => 0 := funext fun a => by fin_cases a <;> rfl
theorem origin3 : (![0, 0, 0] : Fin 3 → Nat) = fun _ => 0 := funext fun a => by fin_cases a <;> rfl

/-! ## The pieces of the operands that a point reads -/

abbrev topR : Rect S1x512x1024 := Rect.unit (s := S1x512x1024) ![0, 0, 0] S1x256x1024.size inb_S1x512x1024_S1x256x1024_0_0_0
abbrev botR : Rect S1x512x1024 := Rect.unit (s := S1x512x1024) ![0, 256, 0] S1x256x1024.size inb_S1x512x1024_S1x256x1024_0_256_0
abbrev top {α : Type} (X : S1x512x1024.Idx → α) : S1x256x1024.Idx → α := part topR X
abbrev bot {α : Type} (X : S1x512x1024.Idx → α) : S1x256x1024.Idx → α := part botR X
abbrev topP {α : Type} (X : S1x512x4096.Idx → α) : S1x256x4096.Idx → α :=
  part (Rect.unit (s := S1x512x4096) ![0, 0, 0] S1x256x4096.size inb_S1x512x4096_S1x256x4096_0_0_0) X
abbrev botP {α : Type} (X : S1x512x4096.Idx → α) : S1x256x4096.Idx → α :=
  part (Rect.unit (s := S1x512x4096) ![0, 256, 0] S1x256x4096.size inb_S1x512x4096_S1x256x4096_0_256_0) X
abbrev wB0 {α : Type} (X : S4x1024x1024.Idx → α) : S1x1024x1024.Idx → α :=
  part (Rect.unit (s := S4x1024x1024) ![0, 0, 0] S1x1024x1024.size inb_S4x1024x1024_S1x1024x1024_0_0_0) X
abbrev wB1 {α : Type} (X : S4x1024x1024.Idx → α) : S1x1024x1024.Idx → α :=
  part (Rect.unit (s := S4x1024x1024) ![1, 0, 0] S1x1024x1024.size inb_S4x1024x1024_S1x1024x1024_1_0_0) X
abbrev wB2 {α : Type} (X : S4x1024x1024.Idx → α) : S1x1024x1024.Idx → α :=
  part (Rect.unit (s := S4x1024x1024) ![2, 0, 0] S1x1024x1024.size inb_S4x1024x1024_S1x1024x1024_2_0_0) X
abbrev wB3 {α : Type} (X : S4x1024x1024.Idx → α) : S1x1024x1024.Idx → α :=
  part (Rect.unit (s := S4x1024x1024) ![3, 0, 0] S1x1024x1024.size inb_S4x1024x1024_S1x1024x1024_3_0_0) X

/-- A device's whole buffer `M` holds `X`. -/
abbrev has (c : Dev nD) {s : Shape} {e : EltTy} (M : Memref sig .tc .vmem s e) (X : s.Idx → Elt F e) : sProp 𝕄 :=
  owns c.tc M fullShare X

/-! ## The parts of the body -/

section Parts

variable {i : grid0.Coords}
  {arg2 : Memref sig .tc .vmem S1x512x4096 .bf16}
  {harg2 : arg2.IsWhole}
  {arg3 : Memref sig .tc .vmem S4x1024x1024 .bf16}
  {harg3 : arg3.IsWhole}
  {arg4 : Memref sig .tc .vmem S1x512x1024 .f32}
  {harg4 : arg4.IsWhole}
  {arg5 : Memref sig .tc .vmem S1x512x1024 .f32}
  {harg5 : arg5.IsWhole}
  {arg6 : Memref sig .tc .vmem S1x512x1024 .f32}
  {harg6 : arg6.IsWhole}
  {arg7 : Memref sig .tc .vmem S1x1024 .f32}
  {harg7 : arg7.IsWhole}
  {arg8 : Memref sig .tc .vmem S1x1x1024 .f32}
  {harg8 : arg8.IsWhole}
  {arg9 : Memref sig .tc .vmem S1x1024 .f32}
  {harg9 : arg9.IsWhole}
  {arg10 : Memref sig .tc .vmem S1x1x1024 .f32}
  {harg10 : arg10.IsWhole}
  {arg11 : Memref sig .tc .hbm S2x4x512x1024 .f32}
  {harg11 : arg11.IsWhole}
  {arg12 : Memref sig .tc .vmem S1x512x1024 .f32}
  {harg12 : arg12.IsWhole}
  {arg13 : Memref sig .tc .vmem S1x512x1024 .bf16}
  {harg13 : arg13.IsWhole}
  {arg14 : Memref sig .tc .vmem S1x1x1024 .f32}
  {harg14 : arg14.IsWhole}
  {arg15 : Memref sig .tc .vmem S1x1x1024 .f32}
  {harg15 : arg15.IsWhole}
  {arg16 : Memref sig .tc .vmem S1x1x1024 .f32}
  {harg16 : arg16.IsWhole}
  {arg17 : Memref sig .tc .vmem S1x1024 .f32}
  {harg17 : arg17.IsWhole}
  {arg18 : Memref sig .tc .vmem S1x1024 .f32}
  {harg18 : arg18.IsWhole}
  {arg19 : Memref sig .tc .hbm S4x512x1024 .f32}
  {harg19 : arg19.IsWhole}
  {arg20 : DmaSems sig S1}
  {arg21 : DmaSems sig S1}

theorem wp_part2 (c : Dev nD) {X0 : S1x512x4096.Idx → Elt F .bf16} {X1 : S4x1024x1024.Idx → Elt F .bf16}
    {v23 : FVec F S256x1024 .f32} {v26 : FVec F S256x1024 .bf16} {v28 : FVec F S1024x1024 .bf16} {cst_18 : FVec F S256x1024 .f32}
    {Q : (Σ' (v44 : FVec F S256x1024 .f32), FVec F S256x1024 .f32) → sProp 𝕄} :
    iprop(has c arg2 X0 ∗ has c arg3 X1)
      ⊢ iprop(((has c arg2 X0 ∗ has c arg3 X1) -∗ Q ⟨k0_pay11 v23 v26 v28 cst_18 (topP X0) (wB2 X1) (topP X0) (wB3 X1), k0_pay12 (botP X0) (wB0 X1) (botP X0) (wB1 X1)⟩)
        -∗ wp frame (wpE (defs₀ (F := F)) 𝒱₀ c.tc none) Set.univ (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v23 v26 v28 cst_18) Q) := by
  rw [k0_part2_eq_skeleton]
  unfold k0_part2_skel
  simp only [Prog.lift, Prog.bind_op, Prog.bind_ret, Prog.pure_eq_ret]
  iintro ⟨H2, H3⟩ Hk
  iapply (wp_load_part 𝒱₀ none c) $$ H2
  iintro H2
  iapply (wp_load_part 𝒱₀ none c) $$ H3
  iintro H3
  iapply (wp_load_part 𝒱₀ none c) $$ H2
  iintro H2
  iapply (wp_load_part 𝒱₀ none c) $$ H3
  iintro H3
  iapply (wp_load_part 𝒱₀ none c) $$ H2
  iintro H2
  iapply (wp_load_part 𝒱₀ none c) $$ H3
  iintro H3
  iapply (wp_load_part 𝒱₀ none c) $$ H2
  iintro H2
  iapply (wp_load_part 𝒱₀ none c) $$ H3
  iintro H3
  rw [wp_ret]
  imodintro
  iapply Hk
  isplitl [H2]; · iexact H2
  iexact H3

theorem wp_part3 (c : Dev nD) {X0 : S1x512x4096.Idx → Elt F .bf16} {X1 : S4x1024x1024.Idx → Elt F .bf16} {X3 : S1x512x1024.Idx → Elt F .f32} {X5 : S1x1024.Idx → Elt F .f32} {X6 : S1x1x1024.Idx → Elt F .f32} {X7 : S1x1024.Idx → Elt F .f32} {X8 : S1x1x1024.Idx → Elt F .f32}
    {v57 : FVec F S256x1024 .f32}
    {Q : (Σ' (v71 : FVec F S256x1024 .f32) (v73 : FVec F S1x1024 .f32) (v75 : FVec F S1x1024 .f32) (v77 : FVec F S1x1024 .f32) (v81 : FVec F S1x1024 .f32) (v83 : FVec F S256x1024 .f32) (v88 : FVec F S256x1 .f32), FVec F S256x1 .f32) → sProp 𝕄} :
    iprop(has c arg2 X0 ∗ has c arg3 X1 ∗ has c arg5 X3 ∗ has c arg7 X5 ∗ has c arg8 X6 ∗ has c arg9 X7 ∗ has c arg10 X8)
      ⊢ iprop(((has c arg2 X0 ∗ has c arg3 X1 ∗ has c arg5 X3 ∗ has c arg7 X5 ∗ has c arg8 X6 ∗ has c arg9 X7 ∗ has c arg10 X8) -∗ Q ⟨k0_pay13 v57 (botP X0) (wB2 X1) (botP X0) (wB3 X1), k0_pay14 X5, k0_pay15 X7, k0_pay16 X8, k0_pay17 X6, k0_pay18 (top X3), k0_pay19 (top X3), k0_pay20 (F := F)⟩)
        -∗ wp frame (wpE (defs₀ (F := F)) 𝒱₀ c.tc none) Set.univ (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v57) Q) := by
  rw [k0_part3_eq_skeleton]
  unfold k0_part3_skel
  simp only [Prog.lift, Prog.bind_op, Prog.bind_ret, Prog.pure_eq_ret]
  iintro ⟨H2, H3, H5, H7, H8, H9, H10⟩ Hk
  iapply (wp_load_part 𝒱₀ none c) $$ H2
  iintro H2
  iapply (wp_load_part 𝒱₀ none c) $$ H3
  iintro H3
  iapply (wp_load_part 𝒱₀ none c) $$ H2
  iintro H2
  iapply (wp_load_part 𝒱₀ none c) $$ H3
  iintro H3
  iapply (wp_load_all 𝒱₀ none c origin2) $$ H7
  iintro H7
  iapply (wp_load_all 𝒱₀ none c origin2) $$ H9
  iintro H9
  iapply (wp_load_all 𝒱₀ none c origin3) $$ H10
  iintro H10
  iapply (wp_load_all 𝒱₀ none c origin3) $$ H8
  iintro H8
  iapply (wp_load_part 𝒱₀ none c) $$ H5
  iintro H5
  rw [wp_ret]
  imodintro
  iapply Hk
  isplitl [H2]; · iexact H2
  isplitl [H3]; · iexact H3
  isplitl [H5]; · iexact H5
  isplitl [H7]; · iexact H7
  isplitl [H8]; · iexact H8
  isplitl [H9]; · iexact H9
  iexact H10

theorem wp_part4 (c : Dev nD) {Y11 : S1x1x1024.Idx → Elt F .f32} {Y12 : S1x1x1024.Idx → Elt F .f32} {Y14 : S1x1024.Idx → Elt F .f32}
    {v44 : FVec F S256x1024 .f32} {v73 : FVec F S1x1024 .f32} {v81 : FVec F S1x1024 .f32} {v83 : FVec F S256x1024 .f32} {v88 : FVec F S256x1 .f32} {v89 : FVec F S256x1 .f32}
    {Q : (Σ' (v114 : FVec F S256x1024 .f32), FVec F S1x1024 .f32) → sProp 𝕄} :
    iprop(has c arg14 Y11 ∗ has c arg15 Y12 ∗ has c arg17 Y14)
      ⊢ iprop(((has c arg14 (k0_pay26 v44 v73 v83 v88 v89 Y11) ∗ has c arg15 (k0_pay23 v44 Y12) ∗ has c arg17 Y14) -∗ Q ⟨k0_pay24 v44 v73 v81 v83 v88 v89, k0_pay27 v44 v81 v83 v88 v89 Y14⟩)
        -∗ wp frame (wpE (defs₀ (F := F)) 𝒱₀ c.tc none) Set.univ (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v44 v73 v81 v83 v88 v89) Q) := by
  rw [k0_part4_eq_skeleton]
  unfold k0_part4_skel
  simp only [Prog.lift, Prog.bind_op, Prog.bind_ret, Prog.pure_eq_ret]
  iintro ⟨H14, H15, H17⟩ Hk
  iapply (wp_load_all 𝒱₀ none c origin3) $$ H15
  iintro H15
  iapply (wp_load_all 𝒱₀ none c origin3) $$ H15
  iintro H15
  iapply (wp_store_all 𝒱₀ none c origin3) $$ H15
  iintro H15
  iapply (wp_load_all 𝒱₀ none c origin3) $$ H14
  iintro H14
  iapply (wp_load_all 𝒱₀ none c origin3) $$ H14
  iintro H14
  iapply (wp_store_all 𝒱₀ none c origin3) $$ H14
  iintro H14
  iapply (wp_load_all 𝒱₀ none c origin2) $$ H17
  iintro H17
  rw [wp_ret]
  imodintro
  iapply Hk
  isplitl [H14]; · iexact H14
  isplitl [H15]; · iexact H15
  iexact H17

theorem wp_part5 (c : Dev nD) {X2 : S1x512x1024.Idx → Elt F .f32} {X4 : S1x512x1024.Idx → Elt F .f32} {Y9 : S1x512x1024.Idx → Elt F .f32} {Y10 : S1x512x1024.Idx → Elt F .bf16} {Y14 : S1x1024.Idx → Elt F .f32}
    {v75 : FVec F S1x1024 .f32} {v77 : FVec F S1x1024 .f32} {v114 : FVec F S256x1024 .f32} {v128 : FVec F S1x1024 .f32}
    {Q : (Σ' (v163 : FVec F S1x1024 .f32), FVec F S1x256x1024 .bf16) → sProp 𝕄} :
    iprop(has c arg4 X2 ∗ has c arg6 X4 ∗ has c arg12 Y9 ∗ has c arg13 Y10 ∗ has c arg17 Y14)
      ⊢ iprop(((has c arg4 X2 ∗ has c arg6 X4 ∗ has c arg12 (put topR (k0_pay29 v114 (top X2)) Y9) ∗ has c arg13 Y10 ∗ has c arg17 v128) -∗ Q ⟨k0_pay33 v114 (top X2) (top X4), k0_pay34 v75 v77 v114 (top X2) (top X4)⟩)
        -∗ wp frame (wpE (defs₀ (F := F)) 𝒱₀ c.tc none) Set.univ (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v75 v77 v114 v128) Q) := by
  rw [k0_part5_eq_skeleton]
  unfold k0_part5_skel
  simp only [Prog.lift, Prog.bind_op, Prog.bind_ret, Prog.pure_eq_ret]
  iintro ⟨H4, H6, H12, H13, H17⟩ Hk
  iapply (wp_load_all 𝒱₀ none c origin2) $$ H17
  iintro H17
  iapply (wp_store_all 𝒱₀ none c origin2) $$ H17
  iintro H17
  iapply (wp_load_part 𝒱₀ none c) $$ H4
  iintro H4
  iapply (wp_load_part 𝒱₀ none c) $$ H12
  iintro H12
  iapply (wp_store_part 𝒱₀ none c) $$ H12
  iintro H12
  iapply (wp_load_part 𝒱₀ none c) $$ H6
  iintro H6
  iapply (wp_load_part 𝒱₀ none c) $$ H13
  iintro H13
  rw [wp_ret]
  imodintro
  iapply Hk
  isplitl [H4]; · iexact H4
  isplitl [H6]; · iexact H6
  isplitl [H12]; · iexact H12
  isplitl [H13]; · iexact H13
  iexact H17

theorem wp_part6 (c : Dev nD) {X3 : S1x512x1024.Idx → Elt F .f32} {X5 : S1x1024.Idx → Elt F .f32} {X6 : S1x1x1024.Idx → Elt F .f32} {X7 : S1x1024.Idx → Elt F .f32} {X8 : S1x1x1024.Idx → Elt F .f32} {Y10 : S1x512x1024.Idx → Elt F .bf16} {Y13 : S1x1x1024.Idx → Elt F .f32} {Y15 : S1x1024.Idx → Elt F .f32}
    {v75 : FVec F S1x1024 .f32} {v77 : FVec F S1x1024 .f32} {v163 : FVec F S1x1024 .f32} {v167 : FVec F S1x256x1024 .bf16}
    {Q : (Σ' (v181 : FVec F S1x1024 .f32) (v183 : FVec F S1x1024 .f32) (v185 : FVec F S1x1024 .f32) (v189 : FVec F S1x1024 .f32) (v191 : FVec F S256x1024 .f32) (v196 : FVec F S256x1 .f32), FVec F S256x1 .f32) → sProp 𝕄} :
    iprop(has c arg5 X3 ∗ has c arg7 X5 ∗ has c arg8 X6 ∗ has c arg9 X7 ∗ has c arg10 X8 ∗ has c arg13 Y10 ∗ has c arg16 Y13 ∗ has c arg18 Y15)
      ⊢ iprop(((has c arg5 X3 ∗ has c arg7 X5 ∗ has c arg8 X6 ∗ has c arg9 X7 ∗ has c arg10 X8 ∗ has c arg13 (put topR v167 Y10) ∗ has c arg16 (k0_pay35 v75 v163 Y13) ∗ has c arg18 (k0_pay36 v77 v163 Y15)) -∗ Q ⟨k0_pay37 X5, k0_pay38 X7, k0_pay39 X8, k0_pay40 X6, k0_pay41 (bot X3), k0_pay42 (bot X3), k0_pay43 (F := F)⟩)
        -∗ wp frame (wpE (defs₀ (F := F)) 𝒱₀ c.tc none) Set.univ (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v75 v77 v163 v167) Q) := by
  rw [k0_part6_eq_skeleton]
  unfold k0_part6_skel
  simp only [Prog.lift, Prog.bind_op, Prog.bind_ret, Prog.pure_eq_ret]
  iintro ⟨H5, H7, H8, H9, H10, H13, H16, H18⟩ Hk
  iapply (wp_store_part 𝒱₀ none c) $$ H13
  iintro H13
  iapply (wp_load_all 𝒱₀ none c origin3) $$ H16
  iintro H16
  iapply (wp_load_all 𝒱₀ none c origin3) $$ H16
  iintro H16
  iapply (wp_store_all 𝒱₀ none c origin3) $$ H16
  iintro H16
  iapply (wp_load_all 𝒱₀ none c origin2) $$ H18
  iintro H18
  iapply (wp_load_all 𝒱₀ none c origin2) $$ H18
  iintro H18
  iapply (wp_store_all 𝒱₀ none c origin2) $$ H18
  iintro H18
  iapply (wp_load_all 𝒱₀ none c origin2) $$ H7
  iintro H7
  iapply (wp_load_all 𝒱₀ none c origin2) $$ H9
  iintro H9
  iapply (wp_load_all 𝒱₀ none c origin3) $$ H10
  iintro H10
  iapply (wp_load_all 𝒱₀ none c origin3) $$ H8
  iintro H8
  iapply (wp_load_part 𝒱₀ none c) $$ H5
  iintro H5
  rw [wp_ret]
  imodintro
  iapply Hk
  isplitl [H5]; · iexact H5
  isplitl [H7]; · iexact H7
  isplitl [H8]; · iexact H8
  isplitl [H9]; · iexact H9
  isplitl [H10]; · iexact H10
  isplitl [H13]; · iexact H13
  isplitl [H16]; · iexact H16
  iexact H18

theorem wp_part7 (c : Dev nD) {Y11 : S1x1x1024.Idx → Elt F .f32} {Y12 : S1x1x1024.Idx → Elt F .f32} {Y14 : S1x1024.Idx → Elt F .f32}
    {v71 : FVec F S256x1024 .f32} {v181 : FVec F S1x1024 .f32} {v189 : FVec F S1x1024 .f32} {v191 : FVec F S256x1024 .f32} {v196 : FVec F S256x1 .f32} {v197 : FVec F S256x1 .f32}
    {Q : (Σ' (v222 : FVec F S256x1024 .f32), FVec F S1x1024 .f32) → sProp 𝕄} :
    iprop(has c arg14 Y11 ∗ has c arg15 Y12 ∗ has c arg17 Y14)
      ⊢ iprop(((has c arg14 (k0_pay49 v71 v181 v191 v196 v197 Y11) ∗ has c arg15 (k0_pay46 v71 Y12) ∗ has c arg17 Y14) -∗ Q ⟨k0_pay47 v71 v181 v189 v191 v196 v197, k0_pay50 v71 v189 v191 v196 v197 Y14⟩)
        -∗ wp frame (wpE (defs₀ (F := F)) 𝒱₀ c.tc none) Set.univ (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v71 v181 v189 v191 v196 v197) Q) := by
  rw [k0_part7_eq_skeleton]
  unfold k0_part7_skel
  simp only [Prog.lift, Prog.bind_op, Prog.bind_ret, Prog.pure_eq_ret]
  iintro ⟨H14, H15, H17⟩ Hk
  iapply (wp_load_all 𝒱₀ none c origin3) $$ H15
  iintro H15
  iapply (wp_load_all 𝒱₀ none c origin3) $$ H15
  iintro H15
  iapply (wp_store_all 𝒱₀ none c origin3) $$ H15
  iintro H15
  iapply (wp_load_all 𝒱₀ none c origin3) $$ H14
  iintro H14
  iapply (wp_load_all 𝒱₀ none c origin3) $$ H14
  iintro H14
  iapply (wp_store_all 𝒱₀ none c origin3) $$ H14
  iintro H14
  iapply (wp_load_all 𝒱₀ none c origin2) $$ H17
  iintro H17
  rw [wp_ret]
  imodintro
  iapply Hk
  isplitl [H14]; · iexact H14
  isplitl [H15]; · iexact H15
  iexact H17

theorem wp_part8 (c : Dev nD) {X2 : S1x512x1024.Idx → Elt F .f32} {X4 : S1x512x1024.Idx → Elt F .f32} {Y9 : S1x512x1024.Idx → Elt F .f32} {Y10 : S1x512x1024.Idx → Elt F .bf16} {Y14 : S1x1024.Idx → Elt F .f32}
    {v183 : FVec F S1x1024 .f32} {v185 : FVec F S1x1024 .f32} {v222 : FVec F S256x1024 .f32} {v236 : FVec F S1x1024 .f32}
    {Q : (Σ' (v271 : FVec F S1x1024 .f32), FVec F S1x256x1024 .bf16) → sProp 𝕄} :
    iprop(has c arg4 X2 ∗ has c arg6 X4 ∗ has c arg12 Y9 ∗ has c arg13 Y10 ∗ has c arg17 Y14)
      ⊢ iprop(((has c arg4 X2 ∗ has c arg6 X4 ∗ has c arg12 (put botR (k0_pay52 v222 (bot X2)) Y9) ∗ has c arg13 Y10 ∗ has c arg17 v236) -∗ Q ⟨k0_pay56 v222 (bot X2) (bot X4), k0_pay57 v183 v185 v222 (bot X2) (bot X4)⟩)
        -∗ wp frame (wpE (defs₀ (F := F)) 𝒱₀ c.tc none) Set.univ (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v183 v185 v222 v236) Q) := by
  rw [k0_part8_eq_skeleton]
  unfold k0_part8_skel
  simp only [Prog.lift, Prog.bind_op, Prog.bind_ret, Prog.pure_eq_ret]
  iintro ⟨H4, H6, H12, H13, H17⟩ Hk
  iapply (wp_load_all 𝒱₀ none c origin2) $$ H17
  iintro H17
  iapply (wp_store_all 𝒱₀ none c origin2) $$ H17
  iintro H17
  iapply (wp_load_part 𝒱₀ none c) $$ H4
  iintro H4
  iapply (wp_load_part 𝒱₀ none c) $$ H12
  iintro H12
  iapply (wp_store_part 𝒱₀ none c) $$ H12
  iintro H12
  iapply (wp_load_part 𝒱₀ none c) $$ H6
  iintro H6
  iapply (wp_load_part 𝒱₀ none c) $$ H13
  iintro H13
  rw [wp_ret]
  imodintro
  iapply Hk
  isplitl [H4]; · iexact H4
  isplitl [H6]; · iexact H6
  isplitl [H12]; · iexact H12
  isplitl [H13]; · iexact H13
  iexact H17

end Parts

/-! ## What a point computes -/

/-- The nine operands of a point, as staged. -/
structure Operands (F : FTy → Type) where
  x0 : S1x512x4096.Idx → Elt F .bf16
  x1 : S4x1024x1024.Idx → Elt F .bf16
  x2 : S1x512x1024.Idx → Elt F .f32
  x3 : S1x512x1024.Idx → Elt F .f32
  x4 : S1x512x1024.Idx → Elt F .f32
  x5 : S1x1024.Idx → Elt F .f32
  x6 : S1x1x1024.Idx → Elt F .f32
  x7 : S1x1024.Idx → Elt F .f32
  x8 : S1x1x1024.Idx → Elt F .f32

/-- Contents from those of the two halves of the rows. -/
def halves {α : Type} (u v : S1x256x1024.Idx → α) : S1x512x1024.Idx → α := fun i =>
  if h : (i 1).val < 256 then u (ix3 0 ⟨(i 1).val, h⟩ (i 2))
  else v (ix3 0 ⟨(i 1).val - 256, by have h2 : (i 1).val < 512 := (i 1).isLt; omega⟩ (i 2))

/-- Storing the upper and then the lower half of the rows leaves nothing of what was there. -/
theorem put_halves {α : Type} (u v : S1x256x1024.Idx → α) (X : S1x512x1024.Idx → α) : put botR v (put topR u X) = halves u v := by
  funext i
  by_cases h : (i 1).val < 256
  · have hi : i = topR.idx (ix3 0 ⟨(i 1).val, h⟩ (i 2) : S1x256x1024.Idx) := by
      funext a; apply Fin.ext; rw [LoadRect.idx_apply]
      fin_cases a
      · show (i 0).val = 0 + 1 * 0
        have h0 : (i 0).val < 1 := (i 0).isLt
        omega
      · show (i 1).val = 0 + 1 * (i 1).val
        omega
      · show (i 2).val = 0 + 1 * (i 2).val
        omega
    rw [put_outside botR v _ i (fun y hy => by
      have h1 : (i 1).val = 256 + 1 * (y 1).val := by rw [← hy, LoadRect.idx_apply]; rfl
      omega)]
    conv_lhs => rw [hi, put_at]
    unfold halves; rw [dif_pos h]
  · have hi : i = botR.idx (ix3 0 ⟨(i 1).val - 256, by have h2 : (i 1).val < 512 := (i 1).isLt; omega⟩ (i 2) : S1x256x1024.Idx) := by
      funext a; apply Fin.ext; rw [LoadRect.idx_apply]
      fin_cases a
      · show (i 0).val = 0 + 1 * 0
        have h0 : (i 0).val < 1 := (i 0).isLt
        omega
      · show (i 1).val = 256 + 1 * ((i 1).val - 256)
        omega
      · show (i 2).val = 0 + 1 * (i 2).val
        omega
    conv_lhs => rw [hi, put_at]
    unfold halves; rw [dif_neg h]

variable (o : Operands F)

/-- The rows' gradients times the transposed weight, per half. -/
def prodT : FVec F S256x1024 .f32 :=
  k0_pay11 (k0_pay8 (topP o.x0) (wB0 o.x1)) (k0_pay9 (topP o.x0)) (k0_pay10 (wB1 o.x1)) (constant S256x1024 .f32 0x00000000#32) (topP o.x0) (wB2 o.x1) (topP o.x0) (wB3 o.x1)
def prodB : FVec F S256x1024 .f32 :=
  k0_pay13 (k0_pay12 (botP o.x0) (wB0 o.x1) (botP o.x0) (wB1 o.x1)) (botP o.x0) (wB2 o.x1) (botP o.x0) (wB3 o.x1)
/-- The gradient of the first norm's operand, per half. -/
def gradT : FVec F S256x1024 .f32 := k0_pay24 (prodT o) (k0_pay14 o.x5) (k0_pay17 o.x6) (k0_pay18 (top o.x3)) (k0_pay19 (top o.x3)) k0_pay20
def gradB : FVec F S256x1024 .f32 := k0_pay47 (prodB o) (k0_pay37 o.x5) (k0_pay40 o.x6) (k0_pay41 (bot o.x3)) (k0_pay42 (bot o.x3)) k0_pay43
/-- The seven results of a point: two blocks of rows, and five accumulators from what they held. -/
def out9 : S1x512x1024.Idx → Elt F .f32 := halves (k0_pay29 (gradT o) (top o.x2)) (k0_pay52 (gradB o) (bot o.x2))
def out10 : S1x512x1024.Idx → Elt F .bf16 :=
  halves (k0_pay34 (k0_pay15 o.x7) (k0_pay16 o.x8) (gradT o) (top o.x2) (top o.x4)) (k0_pay57 (k0_pay38 o.x7) (k0_pay39 o.x8) (gradB o) (bot o.x2) (bot o.x4))
def out11 (Y : S1x1x1024.Idx → Elt F .f32) : S1x1x1024.Idx → Elt F .f32 :=
  k0_pay49 (prodB o) (k0_pay37 o.x5) (k0_pay41 (bot o.x3)) (k0_pay42 (bot o.x3)) k0_pay43
    (k0_pay26 (prodT o) (k0_pay14 o.x5) (k0_pay18 (top o.x3)) (k0_pay19 (top o.x3)) k0_pay20 Y)
def out12 (Y : S1x1x1024.Idx → Elt F .f32) : S1x1x1024.Idx → Elt F .f32 := k0_pay46 (prodB o) (k0_pay23 (prodT o) Y)
def out13 (Y : S1x1x1024.Idx → Elt F .f32) : S1x1x1024.Idx → Elt F .f32 :=
  k0_pay1 (k0_pay38 o.x7) (k0_pay56 (gradB o) (bot o.x2) (bot o.x4)) (k0_pay35 (k0_pay15 o.x7) (k0_pay33 (gradT o) (top o.x2) (top o.x4)) Y)
def out14 (Y : S1x1024.Idx → Elt F .f32) : S1x1024.Idx → Elt F .f32 :=
  k0_pay50 (prodB o) (k0_pay40 o.x6) (k0_pay41 (bot o.x3)) (k0_pay42 (bot o.x3)) k0_pay43
    (k0_pay27 (prodT o) (k0_pay17 o.x6) (k0_pay18 (top o.x3)) (k0_pay19 (top o.x3)) k0_pay20 Y)
def out15 (Y : S1x1024.Idx → Elt F .f32) : S1x1024.Idx → Elt F .f32 :=
  k0_pay2 (k0_pay39 o.x8) (k0_pay56 (gradB o) (bot o.x2) (bot o.x4)) (k0_pay36 (k0_pay16 o.x8) (k0_pay33 (gradT o) (top o.x2) (top o.x4)) Y)

/-! ## The body from its second part to its last conditional -/

section Whole

def rest (i : grid0.Coords) (arg2 : Memref sig .tc .vmem S1x512x4096 .bf16) (harg2 : arg2.IsWhole) (arg3 : Memref sig .tc .vmem S4x1024x1024 .bf16) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1x1024 .f32) (harg10 : arg10.IsWhole) (arg11 : Memref sig .tc .hbm S2x4x512x1024 .f32) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .hbm S4x512x1024 .f32) (harg19 : arg19.IsWhole) (arg20 : DmaSems sig S1) (arg21 : DmaSems sig S1)
    (v23 : FVec F S256x1024 .f32) (v26 : FVec F S256x1024 .bf16) (v28 : FVec F S1024x1024 .bf16) (cst_18 : FVec F S256x1024 .f32)
    (K : Prog (TpuEff nD τ sig (Elt F) Λ₀ .tc) PUnit) : Prog (TpuEff nD τ sig (Elt F) Λ₀ .tc) PUnit := do
  let ⟨v44, v57⟩ : Σ' (v44 : FVec F S256x1024 .f32), FVec F S256x1024 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v23 v26 v28 cst_18
  let ⟨v71, v73, v75, v77, v81, v83, v88, v89⟩ : Σ' (v71 : FVec F S256x1024 .f32) (v73 : FVec F S1x1024 .f32) (v75 : FVec F S1x1024 .f32) (v77 : FVec F S1x1024 .f32) (v81 : FVec F S1x1024 .f32) (v83 : FVec F S256x1024 .f32) (v88 : FVec F S256x1 .f32), FVec F S256x1 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v57
  let ⟨v114, v128⟩ : Σ' (v114 : FVec F S256x1024 .f32), FVec F S1x1024 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v44 v73 v81 v83 v88 v89
  let ⟨v163, v167⟩ : Σ' (v163 : FVec F S1x1024 .f32), FVec F S1x256x1024 .bf16 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v75 v77 v114 v128
  let ⟨v181, v183, v185, v189, v191, v196, v197⟩ : Σ' (v181 : FVec F S1x1024 .f32) (v183 : FVec F S1x1024 .f32) (v185 : FVec F S1x1024 .f32) (v189 : FVec F S1x1024 .f32) (v191 : FVec F S256x1024 .f32) (v196 : FVec F S256x1 .f32), FVec F S256x1 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v75 v77 v163 v167
  let ⟨v222, v236⟩ : Σ' (v222 : FVec F S256x1024 .f32), FVec F S1x1024 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v71 v181 v189 v191 v196 v197
  let ⟨v271, v275⟩ : Σ' (v271 : FVec F S1x1024 .f32), FVec F S1x256x1024 .bf16 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 v183 v185 v222 v236
  Prog.lift (.store arg13 (Rect.unit (s := S1x512x1024) ![0, 256, 0] S1x256x1024.size inb_S1x512x1024_S1x256x1024_0_256_0) v275 Finset.univ (View.stores_vmem h_S1x256x1024 (harg13.storeExact_slice rfl _ packedbf16_S1x512x1024_S1x256x1024_0_256_0) (fun _ => rfl)) (.inl rfl))
  let v276 : Vec F S1x1x1024 .f32 ← Prog.lift (.load arg16 (Rect.unit (s := S1x1x1024) ![0, 0, 0] S1x1x1024.size inb_S1x1x1024_S1x1x1024_0_0_0).toLoadRect (View.loadsAt_vmem h_S1x1x1024))
  let v280 : Vec F S1x1x1024 .f32 ← Prog.lift (.load arg16 (Rect.unit (s := S1x1x1024) ![0, 0, 0] S1x1x1024.size inb_S1x1x1024_S1x1x1024_0_0_0).toLoadRect (View.loadsAt_vmem h_S1x1x1024))
  Prog.lift (.store arg16 (Rect.unit (s := S1x1x1024) ![0, 0, 0] S1x1x1024.size inb_S1x1x1024_S1x1x1024_0_0_0) (k0_pay1 v183 v271 v276) Finset.univ (View.stores_vmem_bits_univ h_S1x1x1024 rfl) (.inl rfl))
  let v283 : Vec F S1x1024 .f32 ← Prog.lift (.load arg18 (Rect.unit (s := S1x1024) ![0, 0] S1x1024.size inb_S1x1024_S1x1024_0_0).toLoadRect (View.loadsAt_vmem h_S1x1024))
  let v287 : Vec F S1x1024 .f32 ← Prog.lift (.load arg18 (Rect.unit (s := S1x1024) ![0, 0] S1x1024.size inb_S1x1024_S1x1024_0_0).toLoadRect (View.loadsAt_vmem h_S1x1024))
  Prog.lift (.store arg18 (Rect.unit (s := S1x1024) ![0, 0] S1x1024.size inb_S1x1024_S1x1024_0_0) (k0_pay2 v185 v271 v283) Finset.univ (View.stores_vmem_bits_univ h_S1x1024 rfl) (.inl rfl))
  K

variable {i : grid0.Coords} {arg2 : Memref sig .tc .vmem S1x512x4096 .bf16} {harg2 : arg2.IsWhole} {arg3 : Memref sig .tc .vmem S4x1024x1024 .bf16} {harg3 : arg3.IsWhole} {arg4 : Memref sig .tc .vmem S1x512x1024 .f32} {harg4 : arg4.IsWhole} {arg5 : Memref sig .tc .vmem S1x512x1024 .f32} {harg5 : arg5.IsWhole} {arg6 : Memref sig .tc .vmem S1x512x1024 .f32} {harg6 : arg6.IsWhole} {arg7 : Memref sig .tc .vmem S1x1024 .f32} {harg7 : arg7.IsWhole} {arg8 : Memref sig .tc .vmem S1x1x1024 .f32} {harg8 : arg8.IsWhole} {arg9 : Memref sig .tc .vmem S1x1024 .f32} {harg9 : arg9.IsWhole} {arg10 : Memref sig .tc .vmem S1x1x1024 .f32} {harg10 : arg10.IsWhole} {arg11 : Memref sig .tc .hbm S2x4x512x1024 .f32} {harg11 : arg11.IsWhole} {arg12 : Memref sig .tc .vmem S1x512x1024 .f32} {harg12 : arg12.IsWhole} {arg13 : Memref sig .tc .vmem S1x512x1024 .bf16} {harg13 : arg13.IsWhole} {arg14 : Memref sig .tc .vmem S1x1x1024 .f32} {harg14 : arg14.IsWhole} {arg15 : Memref sig .tc .vmem S1x1x1024 .f32} {harg15 : arg15.IsWhole} {arg16 : Memref sig .tc .vmem S1x1x1024 .f32} {harg16 : arg16.IsWhole} {arg17 : Memref sig .tc .vmem S1x1024 .f32} {harg17 : arg17.IsWhole} {arg18 : Memref sig .tc .vmem S1x1024 .f32} {harg18 : arg18.IsWhole} {arg19 : Memref sig .tc .hbm S4x512x1024 .f32} {harg19 : arg19.IsWhole} {arg20 : DmaSems sig S1} {arg21 : DmaSems sig S1}

theorem wp_rest (c : Dev nD) (o : Operands F) {Y9 : S1x512x1024.Idx → Elt F .f32} {Y10 : S1x512x1024.Idx → Elt F .bf16} {Y11 : S1x1x1024.Idx → Elt F .f32} {Y12 : S1x1x1024.Idx → Elt F .f32} {Y13 : S1x1x1024.Idx → Elt F .f32} {Y14 : S1x1024.Idx → Elt F .f32} {Y15 : S1x1024.Idx → Elt F .f32}
    {K : Prog (TpuEff nD τ sig (Elt F) Λ₀ .tc) PUnit} {Q : PUnit → sProp 𝕄} :
    iprop(has c arg2 o.x0 ∗ has c arg3 o.x1 ∗ has c arg4 o.x2 ∗ has c arg5 o.x3 ∗ has c arg6 o.x4 ∗ has c arg7 o.x5 ∗ has c arg8 o.x6 ∗ has c arg9 o.x7 ∗ has c arg10 o.x8 ∗ has c arg12 Y9 ∗ has c arg13 Y10 ∗ has c arg14 Y11 ∗ has c arg15 Y12 ∗ has c arg16 Y13 ∗ has c arg17 Y14 ∗ has c arg18 Y15)
      ⊢ iprop(((has c arg2 o.x0 ∗ has c arg3 o.x1 ∗ has c arg4 o.x2 ∗ has c arg5 o.x3 ∗ has c arg6 o.x4 ∗ has c arg7 o.x5 ∗ has c arg8 o.x6 ∗ has c arg9 o.x7 ∗ has c arg10 o.x8 ∗ has c arg12 (out9 o) ∗ has c arg13 (out10 o) ∗ has c arg14 (out11 o Y11) ∗ has c arg15 (out12 o Y12) ∗ has c arg16 (out13 o Y13) ∗ has c arg17 (out14 o Y14) ∗ has c arg18 (out15 o Y15)) -∗ wp frame (wpE (defs₀ (F := F)) 𝒱₀ c.tc none) Set.univ K Q)
        -∗ wp frame (wpE (defs₀ (F := F)) 𝒱₀ c.tc none) Set.univ (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21
          (k0_pay8 (topP o.x0) (wB0 o.x1)) (k0_pay9 (topP o.x0)) (k0_pay10 (wB1 o.x1)) (constant S256x1024 .f32 0x00000000#32) K) Q) := by
  unfold rest
  iintro ⟨H2, H3, H4, H5, H6, H7, H8, H9, H10, H12, H13, H14, H15, H16, H17, H18⟩ Hk
  rw [wp_bind]
  iapply (wp_part2 c) $$ [H2 H3]
  · isplitl [H2]; · iexact H2
    iexact H3
  iintro ⟨H2, H3⟩
  dsimp only
  rw [wp_bind]
  iapply (wp_part3 c) $$ [H2 H3 H5 H7 H8 H9 H10]
  · isplitl [H2]; · iexact H2
    isplitl [H3]; · iexact H3
    isplitl [H5]; · iexact H5
    isplitl [H7]; · iexact H7
    isplitl [H8]; · iexact H8
    isplitl [H9]; · iexact H9
    iexact H10
  iintro ⟨H2, H3, H5, H7, H8, H9, H10⟩
  dsimp only
  rw [wp_bind]
  iapply (wp_part4 c) $$ [H14 H15 H17]
  · isplitl [H14]; · iexact H14
    isplitl [H15]; · iexact H15
    iexact H17
  iintro ⟨H14, H15, H17⟩
  dsimp only
  rw [wp_bind]
  iapply (wp_part5 c) $$ [H4 H6 H12 H13 H17]
  · isplitl [H4]; · iexact H4
    isplitl [H6]; · iexact H6
    isplitl [H12]; · iexact H12
    isplitl [H13]; · iexact H13
    iexact H17
  iintro ⟨H4, H6, H12, H13, H17⟩
  dsimp only
  rw [wp_bind]
  iapply (wp_part6 c) $$ [H5 H7 H8 H9 H10 H13 H16 H18]
  · isplitl [H5]; · iexact H5
    isplitl [H7]; · iexact H7
    isplitl [H8]; · iexact H8
    isplitl [H9]; · iexact H9
    isplitl [H10]; · iexact H10
    isplitl [H13]; · iexact H13
    isplitl [H16]; · iexact H16
    iexact H18
  iintro ⟨H5, H7, H8, H9, H10, H13, H16, H18⟩
  dsimp only
  rw [wp_bind]
  iapply (wp_part7 c) $$ [H14 H15 H17]
  · isplitl [H14]; · iexact H14
    isplitl [H15]; · iexact H15
    iexact H17
  iintro ⟨H14, H15, H17⟩
  dsimp only
  rw [wp_bind]
  iapply (wp_part8 c) $$ [H4 H6 H12 H13 H17]
  · isplitl [H4]; · iexact H4
    isplitl [H6]; · iexact H6
    isplitl [H12]; · iexact H12
    isplitl [H13]; · iexact H13
    iexact H17
  iintro ⟨H4, H6, H12, H13, H17⟩
  dsimp only
  simp only [Prog.lift, Prog.bind_op, Prog.bind_ret, Prog.pure_eq_ret]
  iapply (wp_store_part 𝒱₀ none c) $$ H13
  iintro H13
  iapply (wp_load_all 𝒱₀ none c origin3) $$ H16
  iintro H16
  iapply (wp_load_all 𝒱₀ none c origin3) $$ H16
  iintro H16
  iapply (wp_store_all 𝒱₀ none c origin3) $$ H16
  iintro H16
  iapply (wp_load_all 𝒱₀ none c origin2) $$ H18
  iintro H18
  iapply (wp_load_all 𝒱₀ none c origin2) $$ H18
  iintro H18
  iapply (wp_store_all 𝒱₀ none c origin2) $$ H18
  iintro H18
  rw [put_halves, put_halves]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  isplitl [H16]; · iexact H16
  isplitl [H17]; · iexact H17
  iexact H18

end Whole

/-- The body's last conditional: the waits for the exchange. -/
def finish (i : grid0.Coords) (arg11 : Memref sig .tc .hbm S2x4x512x1024 .f32) (harg11 : arg11.IsWhole) (arg19 : Memref sig .tc .hbm S4x512x1024 .f32) (harg19 : arg19.IsWhole) (arg20 : DmaSems sig S1) (arg21 : DmaSems sig S1) : Prog (TpuEff nD τ sig (Elt F) Λ₀ .tc) PUnit := do
  if k0_h4 : k0_cond4 i = 1#1 then do
    let d290 : Dev nD ← Prog.lift .deviceId
    let v301 : DmaSems sig S1 := arg20.slice (Rect.unit (s := S1) ![0] S1.size inb_S1_S1_0)
    let v302 : DmaSems sig S_ := v301.squeeze S_ squeezes_S1_S_
    let v303 : Memref sig .tc .hbm S1x4x512x1024 .f32 := arg11.slice (Rect.unit (s := S2x4x512x1024) (k0_off2 d290) S1x4x512x1024.size (k0_off2_inb i d290 k0_h4)) (fun _ => rfl)
    let v304 : Memref sig .tc .hbm S4x512x1024 .f32 := v303.squeeze S4x512x1024 squeezes_S1x4x512x1024_S4x512x1024
    Prog.lift (.waitDma2 v302.sem arg19 v304 harg19.wordExact ((View.wordExact_bits rfl).reshape _ _))
    let v311 : DmaSems sig S1 := arg21.slice (Rect.unit (s := S1) ![0] S1.size inb_S1_S1_0)
    let v312 : DmaSems sig S_ := v311.squeeze S_ squeezes_S1_S_
    let v313 : Memref sig .tc .hbm S1x4x512x1024 .f32 := arg11.slice (Rect.unit (s := S2x4x512x1024) (k0_off2 d290) S1x4x512x1024.size (k0_off2_inb i d290 k0_h4)) (fun _ => rfl)
    let v314 : Memref sig .tc .hbm S4x512x1024 .f32 := v313.squeeze S4x512x1024 squeezes_S1x4x512x1024_S4x512x1024
    Prog.lift (.waitDma2 v312.sem v314 arg19 ((View.wordExact_bits rfl).reshape _ _) harg19.wordExact)
    pure ⟨⟩
  else do
    pure ⟨⟩
  pure ⟨⟩

theorem skel_eq (i : grid0.Coords) (arg2 : Memref sig .tc .vmem S1x512x4096 .bf16) (harg2 : arg2.IsWhole) (arg3 : Memref sig .tc .vmem S4x1024x1024 .bf16) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1x1024 .f32) (harg10 : arg10.IsWhole) (arg11 : Memref sig .tc .hbm S2x4x512x1024 .f32) (harg11 : arg11.IsWhole) (arg12 : Memref sig .tc .vmem S1x512x1024 .f32) (harg12 : arg12.IsWhole) (arg13 : Memref sig .tc .vmem S1x512x1024 .bf16) (harg13 : arg13.IsWhole) (arg14 : Memref sig .tc .vmem S1x1x1024 .f32) (harg14 : arg14.IsWhole) (arg15 : Memref sig .tc .vmem S1x1x1024 .f32) (harg15 : arg15.IsWhole) (arg16 : Memref sig .tc .vmem S1x1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .hbm S4x512x1024 .f32) (harg19 : arg19.IsWhole) (arg20 : DmaSems sig S1) (arg21 : DmaSems sig S1) :
    cc0_up_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21
      = (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 >>= fun r => rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 r.2.1 r.2.2.1 r.2.2.2.1 r.2.2.2.2 (finish i arg11 harg11 arg19 harg19 arg20 arg21)) := rfl

end Cert.UpBwd
-- ==== Proof.UpRun.lean ====
/-
# The output projection's gradient with the gradient exchange: one run of the program

The kernel handles 4096 rows (two sequences of 2048), eight blocks of 512. Before the first block it sends half of its
gradient array to the other core of its chip, after the last block it waits for its own copy to be read and for the
other core's half to land. Three accumulators start again with every sequence, two run through all blocks. Here: the
copy, what the device holds between blocks, the body at one block, and the run of the whole program, for any float
instance.
-/
module

public import proofs.«01_k».proof.Proof.UpBlock

@[expose] public section

set_option maxRecDepth 16384

noncomputable section

namespace Cert.UpBwd

open Cert.UpKernelIdeal Cert.UpKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The copy -/

abbrev sendS : DmaSems sig S_ := ((cc0_scratch0 : DmaSems sig S1).slice (Rect.unit (s := S1) ![0] S1.size inb_S1_S1_0)).squeeze S_ squeezes_S1_S_
abbrev recvS : DmaSems sig S_ := ((cc0_scratch1 : DmaSems sig S1).slice (Rect.unit (s := S1) ![0] S1.size inb_S1_S1_0)).squeeze S_ squeezes_S1_S_

theorem off_inb : ∀ (c : Dev nD) a, k0_off1 c a + S1x4x512x1024.size a ≤ S2x4x512x1024.size a := by decide +kernel
theorem dev_lt : ∀ c : Dev nD, k0_dev1 c < nD := by decide +kernel

/-- The half of its gradient array that a device sends. -/
abbrev srcM (c : Dev nD) : Memref sig .tc .hbm S4x512x1024 .f32 :=
  ((Memref.whole main_arg9 : Memref sig .tc .hbm S2x4x512x1024 .f32).slice
    (Rect.unit (s := S2x4x512x1024) (k0_off1 c) S1x4x512x1024.size (off_inb c)) (fun _ => rfl)).squeeze S4x512x1024 squeezes_S1x4x512x1024_S4x512x1024
abbrev dstM : Memref sig .tc .hbm S4x512x1024 .f32 := Memref.whole main_v1_7

/-- The other core of the chip. -/
def other (c : Dev nD) : Dev nD := ⟨k0_dev1 c, dev_lt c⟩
theorem other_other : ∀ c, other (other c) = c := by decide +kernel
def swap : Equiv.Perm (Dev nD) := ⟨other, other, other_other, other_other⟩

theorem sems_inj : Function.Injective (Sum.elim (fun _ : Unit => (SemLoc.dma sendS.sem : SemLoc sig)) (fun _ : Unit => SemLoc.dma recvS.sem)) := by
  decide

def C : Copies nD sig Unit where
  spS _ := .hbm
  spD _ := .hbm
  sh _ := S4x512x1024
  el _ := .f32
  src _ c := srcM c
  dst _ _ := dstM
  peer _ := swap
  ssem _ := .dma sendS.sem
  rsem _ := .dma recvS.sem
  inj := sems_inj
  q _ := fullShare
  amount _ := (dstM).view.dmaCredit
  amount_eq _ _ := rfl
  amount_pos _ := View.dmaCredit_pos _ (by decide)

variable (m : (ℓ : Loc nD τ sig) → Buf (Elt F) ℓ) (ρ : Dev nD → PrngReg)

/-- The half of its gradient array that a device keeps. -/
def keptPts (c : Dev nD) : sProp 𝕄 :=
  (c.tc.loc main_arg9) ↦[Finset.univ \ (srcM c).view.set]{fullShare} m (c.tc.loc main_arg9)

/-! ## What a device holds between blocks -/

def holds₀ (c : Dev nD) : sProp 𝕄 :=
  iprop((∃ κ, (C.plan m).records κ) ∗ (bigSep Finset.univ fun k => iprop(C.todo m k c ∗ C.expected k c)) ∗ keptPts m c)
def holds₁ (c : Dev nD) : sProp 𝕄 :=
  iprop((∃ κ, (C.plan m).records κ) ∗ C.going () c ∗ keptPts m c)
def holds₂ (c : Dev nD) : sProp 𝕄 :=
  iprop(C.finished m () c ∗ keptPts m c)

/-! ## What the result buffers hold after a block -/

/-- The operands of block `t`. -/
abbrev ops (c : Dev nD) (t : Fin cfg0.N) : Operands F :=
  ⟨iblk m c 0 t, iblk m c 1 t, iblk m c 2 t, iblk m c 3 t, iblk m c 4 t, iblk m c 5 t, iblk m c 6 t, iblk m c 7 t, iblk m c 8 t⟩

/-- An accumulator after block `n`: it starts from `z` at every multiple of `p`, and each block applies its step. -/
def acc {α : Type} (step : Fin cfg0.N → α → α) (z : α) (p : ℕ) : (n : ℕ) → n < cfg0.N → α
  | 0, h => step ⟨0, h⟩ z
  | n + 1, h => step ⟨n + 1, h⟩ (if (n + 1) % p = 0 then z else acc step z p n (Nat.lt_of_succ_lt h))

theorem acc_reset {α : Type} (step : Fin cfg0.N → α → α) (z : α) (p : ℕ) (t : Fin cfg0.N) (h : t.val % p = 0) :
    acc step z p t.val t.isLt = step t z := by
  obtain ⟨n, hn⟩ := t
  cases n with
  | zero => rfl
  | succ n => exact congrArg _ (if_pos h)

theorem acc_carry {α : Type} (step : Fin cfg0.N → α → α) (z : α) (p : ℕ) (t : Fin cfg0.N) (h : t.val % p ≠ 0) :
    acc step z p t.val t.isLt = step t (acc step z p (t.val - 1) (Nat.lt_of_le_of_lt (Nat.sub_le _ _) t.isLt)) := by
  obtain ⟨n, hn⟩ := t
  cases n with
  | zero => exact absurd (Nat.zero_mod p) h
  | succ n => exact congrArg _ (if_neg h)

def after9 (c : Dev nD) (t : Fin cfg0.N) : S1x512x1024.Idx → Elt F .f32 := out9 (ops m c t)
def after10 (c : Dev nD) (t : Fin cfg0.N) : S1x512x1024.Idx → Elt F .bf16 := out10 (ops m c t)
def after11 (c : Dev nD) (t : Fin cfg0.N) : S1x1x1024.Idx → Elt F .f32 := acc (fun t Y => out11 (ops m c t) Y) k0_pay3 4 t.val t.isLt
def after12 (c : Dev nD) (t : Fin cfg0.N) : S1x1x1024.Idx → Elt F .f32 := acc (fun t Y => out12 (ops m c t) Y) k0_pay4 4 t.val t.isLt
def after13 (c : Dev nD) (t : Fin cfg0.N) : S1x1x1024.Idx → Elt F .f32 := acc (fun t Y => out13 (ops m c t) Y) k0_pay5 4 t.val t.isLt
def after14 (c : Dev nD) (t : Fin cfg0.N) : S1x1024.Idx → Elt F .f32 := acc (fun t Y => out14 (ops m c t) Y) k0_pay6 8 t.val t.isLt
def after15 (c : Dev nD) (t : Fin cfg0.N) : S1x1024.Idx → Elt F .f32 := acc (fun t Y => out15 (ops m c t) Y) k0_pay7 8 t.val t.isLt

def dats (_ : Fin 1) (c : Dev nD) : Dat τ (Elt F) Unit ℕ (UU nD τ sig) ℕ cfg0 c where
  A w := m ((cfg0.win w).arr.view.loc c.tc)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => after9 m c t
    | ⟨10, _⟩ => after10 m c t
    | ⟨11, _⟩ => after11 m c t
    | ⟨12, _⟩ => after12 m c t
    | ⟨13, _⟩ => after13 m c t
    | ⟨14, _⟩ => after14 m c t
    | ⟨15, _⟩ => after15 m c t
    | ⟨_ + 16, h⟩ => absurd h (Nat.not_lt.2 (Nat.le_add_left _ _))
  Φ t := if t.val = 0 then holds₀ m c else if t.val = 8 then holds₂ m c else holds₁ m c
  q _ := fullShare
  owed t := if t.val = 0 then C.owing Finset.univ c else 0

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun t => rfl) t d).trans rfl
theorem before_7 (c : Dev nD) (t : Fin cfg0.N) (d) : (dats m 0 c).before 7 t d = iblk m c 7 t :=
  ((dats m 0 c).before_in_eq_fetched 7 rfl (fun _ => rfl) (fun _ _ _ => rfl) (fun t => rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun t => rfl) t d).trans rfl
/-- What the accumulator of result 2 holds before a block that continues it, and after any block. -/
theorem before_11 (c : Dev nD) (t : Fin cfg0.N) (h : t.val % 4 ≠ 0) (d) :
    (dats m 0 c).before 11 t d = after11 m c ⟨t.val - 1, Nat.lt_of_le_of_lt (Nat.sub_le _ _) t.isLt⟩ :=
  ((dats m 0 c).before_out_kept 11 rfl t (fun h0 => h (by rw [h0]))
    (Bool.eq_false_iff.2 fun hf => by have h1 := (flush0_11 ⟨t.val - 1, Nat.lt_of_le_of_lt (Nat.sub_le _ _) t.isLt⟩).1 hf; dsimp only at h1; have := Nat.lt_of_lt_of_eq t.isLt N_0; omega)
    (fun _ => rfl) (fun _ _ => rfl) d).trans rfl
theorem after11_reset (c : Dev nD) (t : Fin cfg0.N) (h : t.val % 4 = 0) : after11 m c t = out11 (ops m c t) k0_pay3 := acc_reset _ _ _ t h
theorem after11_carry (c : Dev nD) (t : Fin cfg0.N) (h : t.val % 4 ≠ 0) :
    after11 m c t = out11 (ops m c t) (after11 m c ⟨t.val - 1, Nat.lt_of_le_of_lt (Nat.sub_le _ _) t.isLt⟩) := acc_carry _ _ _ t h
/-- What the accumulator of result 3 holds before a block that continues it, and after any block. -/
theorem before_12 (c : Dev nD) (t : Fin cfg0.N) (h : t.val % 4 ≠ 0) (d) :
    (dats m 0 c).before 12 t d = after12 m c ⟨t.val - 1, Nat.lt_of_le_of_lt (Nat.sub_le _ _) t.isLt⟩ :=
  ((dats m 0 c).before_out_kept 12 rfl t (fun h0 => h (by rw [h0]))
    (Bool.eq_false_iff.2 fun hf => by have h1 := (flush0_12 ⟨t.val - 1, Nat.lt_of_le_of_lt (Nat.sub_le _ _) t.isLt⟩).1 hf; dsimp only at h1; have := Nat.lt_of_lt_of_eq t.isLt N_0; omega)
    (fun _ => rfl) (fun _ _ => rfl) d).trans rfl
theorem after12_reset (c : Dev nD) (t : Fin cfg0.N) (h : t.val % 4 = 0) : after12 m c t = out12 (ops m c t) k0_pay4 := acc_reset _ _ _ t h
theorem after12_carry (c : Dev nD) (t : Fin cfg0.N) (h : t.val % 4 ≠ 0) :
    after12 m c t = out12 (ops m c t) (after12 m c ⟨t.val - 1, Nat.lt_of_le_of_lt (Nat.sub_le _ _) t.isLt⟩) := acc_carry _ _ _ t h
/-- What the accumulator of result 4 holds before a block that continues it, and after any block. -/
theorem before_13 (c : Dev nD) (t : Fin cfg0.N) (h : t.val % 4 ≠ 0) (d) :
    (dats m 0 c).before 13 t d = after13 m c ⟨t.val - 1, Nat.lt_of_le_of_lt (Nat.sub_le _ _) t.isLt⟩ :=
  ((dats m 0 c).before_out_kept 13 rfl t (fun h0 => h (by rw [h0]))
    (Bool.eq_false_iff.2 fun hf => by have h1 := (flush0_13 ⟨t.val - 1, Nat.lt_of_le_of_lt (Nat.sub_le _ _) t.isLt⟩).1 hf; dsimp only at h1; have := Nat.lt_of_lt_of_eq t.isLt N_0; omega)
    (fun _ => rfl) (fun _ _ => rfl) d).trans rfl
theorem after13_reset (c : Dev nD) (t : Fin cfg0.N) (h : t.val % 4 = 0) : after13 m c t = out13 (ops m c t) k0_pay5 := acc_reset _ _ _ t h
theorem after13_carry (c : Dev nD) (t : Fin cfg0.N) (h : t.val % 4 ≠ 0) :
    after13 m c t = out13 (ops m c t) (after13 m c ⟨t.val - 1, Nat.lt_of_le_of_lt (Nat.sub_le _ _) t.isLt⟩) := acc_carry _ _ _ t h
/-- What the accumulator of result 5 holds before a block that continues it, and after any block. -/
theorem before_14 (c : Dev nD) (t : Fin cfg0.N) (h : t.val % 8 ≠ 0) (d) :
    (dats m 0 c).before 14 t d = after14 m c ⟨t.val - 1, Nat.lt_of_le_of_lt (Nat.sub_le _ _) t.isLt⟩ :=
  ((dats m 0 c).before_out_kept 14 rfl t (fun h0 => h (by rw [h0]))
    (Bool.eq_false_iff.2 fun hf => by have h1 := (flush0_14 ⟨t.val - 1, Nat.lt_of_le_of_lt (Nat.sub_le _ _) t.isLt⟩).1 hf; dsimp only at h1; have := Nat.lt_of_lt_of_eq t.isLt N_0; omega)
    (fun _ => rfl) (fun _ _ => rfl) d).trans rfl
theorem after14_reset (c : Dev nD) (t : Fin cfg0.N) (h : t.val % 8 = 0) : after14 m c t = out14 (ops m c t) k0_pay6 := acc_reset _ _ _ t h
theorem after14_carry (c : Dev nD) (t : Fin cfg0.N) (h : t.val % 8 ≠ 0) :
    after14 m c t = out14 (ops m c t) (after14 m c ⟨t.val - 1, Nat.lt_of_le_of_lt (Nat.sub_le _ _) t.isLt⟩) := acc_carry _ _ _ t h
/-- What the accumulator of result 6 holds before a block that continues it, and after any block. -/
theorem before_15 (c : Dev nD) (t : Fin cfg0.N) (h : t.val % 8 ≠ 0) (d) :
    (dats m 0 c).before 15 t d = after15 m c ⟨t.val - 1, Nat.lt_of_le_of_lt (Nat.sub_le _ _) t.isLt⟩ :=
  ((dats m 0 c).before_out_kept 15 rfl t (fun h0 => h (by rw [h0]))
    (Bool.eq_false_iff.2 fun hf => by have h1 := (flush0_15 ⟨t.val - 1, Nat.lt_of_le_of_lt (Nat.sub_le _ _) t.isLt⟩).1 hf; dsimp only at h1; have := Nat.lt_of_lt_of_eq t.isLt N_0; omega)
    (fun _ => rfl) (fun _ _ => rfl) d).trans rfl
theorem after15_reset (c : Dev nD) (t : Fin cfg0.N) (h : t.val % 8 = 0) : after15 m c t = out15 (ops m c t) k0_pay7 := acc_reset _ _ _ t h
theorem after15_carry (c : Dev nD) (t : Fin cfg0.N) (h : t.val % 8 ≠ 0) :
    after15 m c t = out15 (ops m c t) (after15 m c ⟨t.val - 1, Nat.lt_of_le_of_lt (Nat.sub_le _ _) t.isLt⟩) := acc_carry _ _ _ t h

theorem cond1_iff : ∀ t : Fin cfg0.N, k0_cond1 (grid0.coords t) = 1#1 ↔ t.val = 0 := by decide +kernel
theorem cond4_iff : ∀ t : Fin cfg0.N, k0_cond4 (grid0.coords t) = 1#1 ↔ t.val = 7 := by decide +kernel
theorem seq_iff : ∀ t : Fin cfg0.N,
    Scalar.cmpi .ne (Scalar.extui (Scalar.cmpi .eq (BitVec.ofNat 32 (grid0.coords t 1).val) 0#32) : BitVec 32) 0#32 = 1#1 ↔ t.val % 4 = 0 := by decide +kernel
theorem all_iff : ∀ t : Fin cfg0.N,
    Scalar.cmpi .ne (Scalar.extui (Scalar.andi (Scalar.cmpi .eq (BitVec.ofNat 32 (grid0.coords t 0).val) 0#32)
      (Scalar.cmpi .eq (BitVec.ofNat 32 (grid0.coords t 1).val) 0#32)) : BitVec 32) 0#32 = 1#1 ↔ t.val % 8 = 0 := by decide +kernel

theorem holds_first (c : Dev nD) (t : Fin (cfg0.N + 1)) (h : t.val = 0) : (dats m 0 c).Φ t = holds₀ m c := if_pos h
theorem holds_between (c : Dev nD) (t : Fin (cfg0.N + 1)) (h : t.val ≠ 0) (h' : t.val ≠ 8) : (dats m 0 c).Φ t = holds₁ m c :=
  (if_neg h).trans (if_neg h')
theorem holds_last (c : Dev nD) (t : Fin (cfg0.N + 1)) (h : t.val = 8) : (dats m 0 c).Φ t = holds₂ m c :=
  (if_neg (by omega)).trans (if_pos h)
theorem owed_first (c : Dev nD) (t : Fin (cfg0.N + 1)) (h : t.val = 0) : (dats m 0 c).owed t = C.owing Finset.univ c := if_pos h
theorem owed_later (c : Dev nD) (t : Fin (cfg0.N + 1)) (h : t.val ≠ 0) : (dats m 0 c).owed t = 0 := if_neg h
theorem val_succ (t : Fin cfg0.N) : t.succ.val = t.val + 1 := rfl
theorem val_lt (t : Fin cfg0.N) : t.val < 8 := Nat.lt_of_lt_of_eq t.isLt N_0

/-! ## The body at one block -/

abbrev bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d))
    ∗ (∃ d, owns c.tc (st0_11 t) fullShare ((dats m 0 c).before 11 t d))
    ∗ (∃ d, owns c.tc (st0_12 t) fullShare ((dats m 0 c).before 12 t d))
    ∗ (∃ d, owns c.tc (st0_13 t) fullShare ((dats m 0 c).before 13 t d))
    ∗ (∃ d, owns c.tc (st0_14 t) fullShare ((dats m 0 c).before 14 t d))
    ∗ (∃ d, owns c.tc (st0_15 t) fullShare ((dats m 0 c).before 15 t d)))
abbrev bodyPost (c : Dev nD) (t : Fin cfg0.N) : sProp 𝕄 :=
  iprop((dats m 0 c).Φ t.succ ∗ (dats m 0 c).owesAt () t.succ
    ∗ owns c.tc (st0_0 t) fullShare (iblk m c 0 t)
    ∗ owns c.tc (st0_1 t) fullShare (iblk m c 1 t)
    ∗ owns c.tc (st0_2 t) fullShare (iblk m c 2 t)
    ∗ owns c.tc (st0_3 t) fullShare (iblk m c 3 t)
    ∗ owns c.tc (st0_4 t) fullShare (iblk m c 4 t)
    ∗ owns c.tc (st0_5 t) fullShare (iblk m c 5 t)
    ∗ owns c.tc (st0_6 t) fullShare (iblk m c 6 t)
    ∗ owns c.tc (st0_7 t) fullShare (iblk m c 7 t)
    ∗ owns c.tc (st0_8 t) fullShare (iblk m c 8 t)
    ∗ owns c.tc (st0_9 t) fullShare (after9 m c t)
    ∗ owns c.tc (st0_10 t) fullShare (after10 m c t)
    ∗ owns c.tc (st0_11 t) fullShare (after11 m c t)
    ∗ owns c.tc (st0_12 t) fullShare (after12 m c t)
    ∗ owns c.tc (st0_13 t) fullShare (after13 m c t)
    ∗ owns c.tc (st0_14 t) fullShare (after14 m c t)
    ∗ owns c.tc (st0_15 t) fullShare (after15 m c t))

theorem owesAt_of (c : Dev nD) (t : Fin (cfg0.N + 1)) (W : Waits sig Unit) :
    (owes c.tc ((dats m 0 c).owed t) W : sProp 𝕄) ⊢ (dats m 0 c).owesAt () t := by
  unfold Dat.owesAt Pipeline.owesWithin
  iintro HO
  iexists W
  isplitr; · ipureintro; exact fun _ _ => Or.inl trivial
  iexact HO

theorem owesAt_elim (c : Dev nD) (t : Fin (cfg0.N + 1)) :
    ((dats m 0 c).owesAt () t : sProp 𝕄) ⊢ iprop(∃ W, owes c.tc ((dats m 0 c).owed t) W) := by
  unfold Dat.owesAt Pipeline.owesWithin
  iintro ⟨%W, %hW, HO⟩
  iexists W
  iexact HO

theorem body_first (c : Dev nD) (t : Fin cfg0.N) (ht : t.val = 0) :
    bodyPre m c t ⊢ wp frame (wpE (defs₀ (F := F)) 𝒱₀ c.tc none) Set.univ (bodyAt0 t) (fun _ => bodyPost m c t) := by
  have hlt : t.val < 8 := val_lt t
  have hΦ := holds_first m c t.castSucc ht
  have hΦ' := holds_between m c t.succ (Nat.succ_ne_zero _) (by rw [val_succ]; omega)
  have hO := owed_first m c t.castSucc ht
  have hO' := owed_later m c t.succ (Nat.succ_ne_zero _)
  have h1 : k0_cond1 (grid0.coords t) = 1#1 := (cond1_iff t).2 (by omega)
  have h4 := (not_congr (cond4_iff t)).2 (by omega)
  have hs := (seq_iff t).2 (by omega)
  have ha := (all_iff t).2 (by omega)
  have hfin := owesAt_of m c t.succ
  rw [hO'] at hfin
  have hin := owesAt_elim m c t.castSucc
  rw [hO] at hin
  have e11 := after11_reset m c t (by omega)
  have e12 := after12_reset m c t (by omega)
  have e13 := after13_reset m c t (by omega)
  have e14 := after14_reset m c t (by omega)
  have e15 := after15_reset m c t (by omega)
  simp only [bodyPre, bodyPost, bodyAt0, cc0_up_bwd_eq_skeleton, skel_eq, hΦ, hΦ', before_0, before_1, before_2, before_3, before_4, before_5, before_6, before_7, before_8, e11, e12, e13, e14, e15]
  rw [wp_bind, k0_part1_eq_skeleton]
  unfold k0_part1_skel
  dsimp only
  rw [dif_pos h1, dif_pos hs, dif_pos ha]
  simp only [Prog.lift, Prog.bind_op, Prog.bind_ret, Prog.pure_eq_ret, wp_deviceId]
  unfold holds₀ holds₁
  have hone : (bigSep Finset.univ fun k : Unit => iprop(C.todo m k c ∗ C.expected k c)) = iprop(C.todo m () c ∗ C.expected () c) := bigSep_singleton
  rw [hone]
  iintro ⟨⟨⟨%κ, #HR⟩, Hk, Hkept⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave Ho' := hin $$ Ho
  icases Ho' with ⟨%W, HO⟩
  iapply (C.wp_start m 𝒱₀ none c κ () (O := 0) (by
    show C.owing (insert () ∅) c = _
    rw [C.owing_insert (Finset.notMem_empty _), C.owing_empty])) $$ [Hk HO]
  · isplitr; · iexact HR
    isplitl [Hk]; · iexact Hk
    iexact HO
  iintro ⟨Hg, HO⟩
  iapply (wp_load_all 𝒱₀ none c origin3) $$ H11
  iintro H11
  iapply (wp_store_all 𝒱₀ none c origin3) $$ H11
  iintro H11
  iapply (wp_load_all 𝒱₀ none c origin3) $$ H12
  iintro H12
  iapply (wp_store_all 𝒱₀ none c origin3) $$ H12
  iintro H12
  iapply (wp_load_all 𝒱₀ none c origin3) $$ H13
  iintro H13
  iapply (wp_store_all 𝒱₀ none c origin3) $$ H13
  iintro H13
  iapply (wp_load_all 𝒱₀ none c origin2) $$ H14
  iintro H14
  iapply (wp_store_all 𝒱₀ none c origin2) $$ H14
  iintro H14
  iapply (wp_load_all 𝒱₀ none c origin2) $$ H15
  iintro H15
  iapply (wp_store_all 𝒱₀ none c origin2) $$ H15
  iintro H15
  iapply (wp_load_part 𝒱₀ none c) $$ H0
  iintro H0
  iapply (wp_load_part 𝒱₀ none c) $$ H1
  iintro H1
  iapply (wp_load_part 𝒱₀ none c) $$ H0
  iintro H0
  iapply (wp_load_part 𝒱₀ none c) $$ H1
  iintro H1
  rw [wp_ret]
  imodintro
  dsimp only
  iapply (wp_rest c (ops m c t)) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  unfold finish
  rw [dif_neg h4]
  simp only [Prog.lift, Prog.bind_op, Prog.bind_ret, Prog.pure_eq_ret, wp_deviceId]
  rw [wp_ret]
  imodintro
  isplitl [Hg Hkept]
  · isplitr; · iexists κ; iexact HR
    isplitl [Hg]; · iexact Hg
    iexact Hkept
  isplitl [HO]; · iapply hfin; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_fourth (c : Dev nD) (t : Fin cfg0.N) (ht : t.val = 4) :
    bodyPre m c t ⊢ wp frame (wpE (defs₀ (F := F)) 𝒱₀ c.tc none) Set.univ (bodyAt0 t) (fun _ => bodyPost m c t) := by
  have hlt : t.val < 8 := val_lt t
  have hΦ := holds_between m c t.castSucc (show t.val ≠ 0 by omega) (Nat.ne_of_lt (val_lt t))
  have hΦ' := holds_between m c t.succ (Nat.succ_ne_zero _) (by rw [val_succ]; omega)
  have hO := owed_later m c t.castSucc (show t.val ≠ 0 by omega)
  have hO' := owed_later m c t.succ (Nat.succ_ne_zero _)
  have h1 := (not_congr (cond1_iff t)).2 (by omega)
  have h4 := (not_congr (cond4_iff t)).2 (by omega)
  have hs := (seq_iff t).2 (by omega)
  have ha := (not_congr (all_iff t)).2 (by omega)
  have hfin := owesAt_of m c t.succ
  rw [hO'] at hfin
  have hin := owesAt_elim m c t.castSucc
  rw [hO] at hin
  have e11 := after11_reset m c t (by omega)
  have e12 := after12_reset m c t (by omega)
  have e13 := after13_reset m c t (by omega)
  have e14 := after14_carry m c t (by omega)
  have e15 := after15_carry m c t (by omega)
  simp only [bodyPre, bodyPost, bodyAt0, cc0_up_bwd_eq_skeleton, skel_eq, hΦ, hΦ', before_0, before_1, before_2, before_3, before_4, before_5, before_6, before_7, before_8, e11, e12, e13, e14, e15]
  simp only [before_14 m c t (by omega)]
  simp only [before_15 m c t (by omega)]
  rw [wp_bind, k0_part1_eq_skeleton]
  unfold k0_part1_skel
  dsimp only
  rw [dif_neg h1, dif_pos hs, dif_neg ha]
  simp only [Prog.lift, Prog.bind_op, Prog.bind_ret, Prog.pure_eq_ret, wp_deviceId]
  iintro ⟨Hh, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave Ho' := hin $$ Ho
  icases Ho' with ⟨%W, HO⟩
  iapply (wp_load_all 𝒱₀ none c origin3) $$ H11
  iintro H11
  iapply (wp_store_all 𝒱₀ none c origin3) $$ H11
  iintro H11
  iapply (wp_load_all 𝒱₀ none c origin3) $$ H12
  iintro H12
  iapply (wp_store_all 𝒱₀ none c origin3) $$ H12
  iintro H12
  iapply (wp_load_all 𝒱₀ none c origin3) $$ H13
  iintro H13
  iapply (wp_store_all 𝒱₀ none c origin3) $$ H13
  iintro H13
  iapply (wp_load_part 𝒱₀ none c) $$ H0
  iintro H0
  iapply (wp_load_part 𝒱₀ none c) $$ H1
  iintro H1
  iapply (wp_load_part 𝒱₀ none c) $$ H0
  iintro H0
  iapply (wp_load_part 𝒱₀ none c) $$ H1
  iintro H1
  rw [wp_ret]
  imodintro
  dsimp only
  iapply (wp_rest c (ops m c t)) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  unfold finish
  rw [dif_neg h4]
  simp only [Prog.lift, Prog.bind_op, Prog.bind_ret, Prog.pure_eq_ret, wp_deviceId]
  rw [wp_ret]
  imodintro
  isplitl [Hh]; · iexact Hh
  isplitl [HO]; · iapply hfin; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_middle (c : Dev nD) (t : Fin cfg0.N) (ht : t.val ≠ 0) (ht4 : t.val ≠ 4) (ht7 : t.val ≠ 7) :
    bodyPre m c t ⊢ wp frame (wpE (defs₀ (F := F)) 𝒱₀ c.tc none) Set.univ (bodyAt0 t) (fun _ => bodyPost m c t) := by
  have hlt : t.val < 8 := val_lt t
  have hΦ := holds_between m c t.castSucc (show t.val ≠ 0 by omega) (Nat.ne_of_lt (val_lt t))
  have hΦ' := holds_between m c t.succ (Nat.succ_ne_zero _) (by rw [val_succ]; omega)
  have hO := owed_later m c t.castSucc (show t.val ≠ 0 by omega)
  have hO' := owed_later m c t.succ (Nat.succ_ne_zero _)
  have h1 := (not_congr (cond1_iff t)).2 (by omega)
  have h4 := (not_congr (cond4_iff t)).2 (by omega)
  have hs := (not_congr (seq_iff t)).2 (by omega)
  have ha := (not_congr (all_iff t)).2 (by omega)
  have hfin := owesAt_of m c t.succ
  rw [hO'] at hfin
  have hin := owesAt_elim m c t.castSucc
  rw [hO] at hin
  have e11 := after11_carry m c t (by omega)
  have e12 := after12_carry m c t (by omega)
  have e13 := after13_carry m c t (by omega)
  have e14 := after14_carry m c t (by omega)
  have e15 := after15_carry m c t (by omega)
  simp only [bodyPre, bodyPost, bodyAt0, cc0_up_bwd_eq_skeleton, skel_eq, hΦ, hΦ', before_0, before_1, before_2, before_3, before_4, before_5, before_6, before_7, before_8, e11, e12, e13, e14, e15]
  simp only [before_11 m c t (by omega)]
  simp only [before_12 m c t (by omega)]
  simp only [before_13 m c t (by omega)]
  simp only [before_14 m c t (by omega)]
  simp only [before_15 m c t (by omega)]
  rw [wp_bind, k0_part1_eq_skeleton]
  unfold k0_part1_skel
  dsimp only
  rw [dif_neg h1, dif_neg hs, dif_neg ha]
  simp only [Prog.lift, Prog.bind_op, Prog.bind_ret, Prog.pure_eq_ret, wp_deviceId]
  iintro ⟨Hh, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave Ho' := hin $$ Ho
  icases Ho' with ⟨%W, HO⟩
  iapply (wp_load_part 𝒱₀ none c) $$ H0
  iintro H0
  iapply (wp_load_part 𝒱₀ none c) $$ H1
  iintro H1
  iapply (wp_load_part 𝒱₀ none c) $$ H0
  iintro H0
  iapply (wp_load_part 𝒱₀ none c) $$ H1
  iintro H1
  rw [wp_ret]
  imodintro
  dsimp only
  iapply (wp_rest c (ops m c t)) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  unfold finish
  rw [dif_neg h4]
  simp only [Prog.lift, Prog.bind_op, Prog.bind_ret, Prog.pure_eq_ret, wp_deviceId]
  rw [wp_ret]
  imodintro
  isplitl [Hh]; · iexact Hh
  isplitl [HO]; · iapply hfin; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_last (c : Dev nD) (t : Fin cfg0.N) (ht : t.val = 7) :
    bodyPre m c t ⊢ wp frame (wpE (defs₀ (F := F)) 𝒱₀ c.tc none) Set.univ (bodyAt0 t) (fun _ => bodyPost m c t) := by
  have hlt : t.val < 8 := val_lt t
  have hΦ := holds_between m c t.castSucc (show t.val ≠ 0 by omega) (Nat.ne_of_lt (val_lt t))
  have hΦ' := holds_last m c t.succ (by rw [val_succ]; omega)
  have hO := owed_later m c t.castSucc (show t.val ≠ 0 by omega)
  have hO' := owed_later m c t.succ (Nat.succ_ne_zero _)
  have h1 := (not_congr (cond1_iff t)).2 (by omega)
  have h4 : k0_cond4 (grid0.coords t) = 1#1 := (cond4_iff t).2 (by omega)
  have hs := (not_congr (seq_iff t)).2 (by omega)
  have ha := (not_congr (all_iff t)).2 (by omega)
  have hfin := owesAt_of m c t.succ
  rw [hO'] at hfin
  have hin := owesAt_elim m c t.castSucc
  rw [hO] at hin
  have e11 := after11_carry m c t (by omega)
  have e12 := after12_carry m c t (by omega)
  have e13 := after13_carry m c t (by omega)
  have e14 := after14_carry m c t (by omega)
  have e15 := after15_carry m c t (by omega)
  simp only [bodyPre, bodyPost, bodyAt0, cc0_up_bwd_eq_skeleton, skel_eq, hΦ, hΦ', before_0, before_1, before_2, before_3, before_4, before_5, before_6, before_7, before_8, e11, e12, e13, e14, e15]
  simp only [before_11 m c t (by omega)]
  simp only [before_12 m c t (by omega)]
  simp only [before_13 m c t (by omega)]
  simp only [before_14 m c t (by omega)]
  simp only [before_15 m c t (by omega)]
  rw [wp_bind, k0_part1_eq_skeleton]
  unfold k0_part1_skel
  dsimp only
  rw [dif_neg h1, dif_neg hs, dif_neg ha]
  simp only [Prog.lift, Prog.bind_op, Prog.bind_ret, Prog.pure_eq_ret, wp_deviceId]
  unfold holds₁ holds₂
  iintro ⟨⟨⟨%κ, #HR⟩, Hg, Hkept⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave Ho' := hin $$ Ho
  icases Ho' with ⟨%W, HO⟩
  iapply (wp_load_part 𝒱₀ none c) $$ H0
  iintro H0
  iapply (wp_load_part 𝒱₀ none c) $$ H1
  iintro H1
  iapply (wp_load_part 𝒱₀ none c) $$ H0
  iintro H0
  iapply (wp_load_part 𝒱₀ none c) $$ H1
  iintro H1
  rw [wp_ret]
  imodintro
  dsimp only
  iapply (wp_rest c (ops m c t)) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H0, H1, H2, H3, H4, H5, H6, H7, H8, H9, H10, H11, H12, H13, H14, H15⟩
  unfold finish
  rw [dif_pos h4]
  simp only [Prog.lift, Prog.bind_op, Prog.bind_ret, Prog.pure_eq_ret, wp_deviceId]
  unfold Copies.going Copies.finished
  icases Hg with ⟨Hs, Hr⟩
  iapply (C.wp_sent m 𝒱₀ none c κ () (wpE_waitDma2_eq 𝒱₀ c.tc none Set.univ) rfl) $$ [Hs HO]
  · isplitr; · iexact HR
    isplitl [Hs] <;> iassumption
  iintro ⟨Hs, HO⟩
  iapply (C.wp_landed m 𝒱₀ none c κ () (wpE_waitDma2_eq 𝒱₀ c.tc none Set.univ) rfl) $$ [Hr HO]
  · isplitr; · iexact HR
    isplitl [Hr] <;> iassumption
  iintro ⟨Hr, HO⟩
  rw [wp_ret]
  imodintro
  isplitl [Hs Hr Hkept]
  · isplitl [Hs Hr]
    · isplitl [Hs] <;> iassumption
    iexact Hkept
  isplitl [HO]; · iapply hfin; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dats (F := F) m 0 c) (defs₀ (F := F)) 𝒱₀ () Set.univ := fun t => by
  rw [bigSep_W0, bigSep_W0]
  show bodyPre m c t ⊢ wp frame (wpE (defs₀ (F := F)) 𝒱₀ c.tc none) Set.univ (bodyAt0 t) (fun _ => bodyPost m c t)
  by_cases h0 : t.val = 0
  · exact body_first m c t h0
  by_cases h4 : t.val = 4
  · exact body_fourth m c t h4
  by_cases h7 : t.val = 7
  · exact body_last m c t h7
  · exact body_middle m c t h0 h4 h7

/-! ## The launch -/

theorem own_sems : Pipeline.OwnSemFacts cfg0.spec (C.plan (Val := Elt F) (τ := τ) m).osem := by
  show Pipeline.OwnSemFacts cfg0.spec (Sum.elim (fun _ : Unit => (SemLoc.dma sendS.sem : SemLoc sig)) (fun _ : Unit => SemLoc.dma recvS.sem))
  decide

theorem share_full (c : Dev nD) (w : Fin cfg0.W) : (dats m 0 c).share w = fullShare := by unfold Dat.share; split <;> rfl

theorem stage_not_own : ∀ (w : Fin cfg0.W) (s : Fin (cfg0.win w).nbuf) (j : Unit ⊕ Unit),
    (Sum.elim (fun _ : Unit => (SemLoc.dma sendS.sem : SemLoc sig)) (fun _ : Unit => SemLoc.dma recvS.sem)) j ≠ .dma ((cfg0.win w).sem s) := by
  decide

theorem waits (c : Dev nD) : (levAts Plan.L (C.plan m).lv : sProp 𝕄) ⊢ Pipeline.cellsWaits cfgs (dats m) () 0 c :=
  Pipeline.cellsWaits_intro cfgs (dats m) () 0 c fun w s t =>
    (C.plan m).mayWait_other c _ (fun j => stage_not_own w s j) _ (by
      rcases Nat.eq_zero_or_pos t.val with h | h
      · left; rw [C.owes₀_eq]; exact if_pos h
      · right; exact if_neg (Nat.ne_of_gt h))

/-- The buffers a device's body starts with: its own gradient array, and the landing array of the other core. -/
theorem buffers_dealt :
    (bigSep Finset.univ fun c : Dev nD => (Pipeline.unscopedRest spec0 c (fun b => m (c.tc.loc b)) : sProp 𝕄))
      ⊢ bigSep Finset.univ fun c : Dev nD => iprop((bigSep Finset.univ fun k => C.srcPts m k c) ∗ (bigSep Finset.univ fun k => C.dstPts m k c) ∗ keptPts m c) := by
  have h1 (c : Dev nD) : ((c.tc.loc main_arg9) ↦{fullShare} m (c.tc.loc main_arg9) : sProp 𝕄)
      ⊢ iprop((bigSep Finset.univ fun k => C.srcPts m k c) ∗ keptPts m c) := by
    have e1 : (bigSep Finset.univ fun k => (C.srcPts m k c : sProp 𝕄)) = C.srcPts m () c := bigSep_singleton
    rw [e1]
    exact (pointsTo_split_subset (Finset.subset_univ (srcM c).view.set)).1
  have h2 (c : Dev nD) : ((c.tc.loc main_v1_7) ↦{fullShare} m (c.tc.loc main_v1_7) : sProp 𝕄)
      = C.dstPts m () (swap.symm c) := by
    unfold Copies.dstPts
    show _ = (swap (swap.symm c)).tc.loc main_v1_7 ↦[(View.whole main_v1_7).set]{fullShare} m ((swap (swap.symm c)).tc.loc main_v1_7)
    rw [Equiv.apply_symm_apply, View.set_whole]
  simp only [unscopedRest0_eq, h2]
  rw [bigSep_sep', bigSep_sep', bigSep_sep']
  have h3 : (bigSep Finset.univ fun c : Dev nD => (C.dstPts m () (swap.symm c) : sProp 𝕄))
      = bigSep Finset.univ fun c : Dev nD => bigSep Finset.univ fun k => C.dstPts m k c :=
    ((bigSep_univ_equiv swap (fun c : Dev nD => (C.dstPts m () (swap.symm c) : sProp 𝕄))).trans
      (bigSep_congr fun c _ => by rw [Equiv.symm_apply_apply])).trans (bigSep_congr fun c _ => by
        symm; exact bigSep_singleton)
  have h4 : (bigSep Finset.univ fun c : Dev nD => ((c.tc.loc main_arg9) ↦{fullShare} m (c.tc.loc main_arg9) : sProp 𝕄))
      ⊢ iprop((bigSep Finset.univ fun c : Dev nD => bigSep Finset.univ fun k => C.srcPts m k c) ∗ bigSep Finset.univ fun c : Dev nD => keptPts m c) := by
    rw [← bigSep_sep']; exact bigSep_mono fun c _ => h1 c
  rw [h3]
  iintro ⟨Ha, Hd⟩
  ihave H := h4 $$ Ha
  icases H with ⟨Hs, Hk⟩
  isplitl [Hs]; · iexact Hs
  isplitl [Hd]; · iexact Hd
  iexact Hk

/-- What a device holds at the end beside its windows' arrays: its gradient array as launched, and the landing array
    with the other core's half. -/
def ends (c : Dev nD) : sProp 𝕄 :=
  iprop(((c.tc.loc main_arg9) ↦{fullShare} m (c.tc.loc main_arg9))
    ∗ ((c.tc.loc main_v1_7) ↦{fullShare} C.arrived m () (other c) c))

theorem phi_exit (c : Dev nD) :
    (dats m 0 c).Φ (Fin.last cfg0.N) ⊢ iprop(ends m c ∗ Pipeline.ownSems0 (C.plan (τ := τ) m).osem c ∗ Pipeline.scopedRest spec0 c) := by
  rw [holds_last m c _ N_0, scopedRest0_eq]
  have h1 : iprop(C.srcPts m () c ∗ keptPts m c) ⊢ ((c.tc.loc main_arg9) ↦{fullShare} m (c.tc.loc main_arg9) : sProp 𝕄) :=
    (pointsTo_split_subset (Finset.subset_univ (srcM c).view.set)).2
  have h2 : C.landPts m () c ⊢ ((c.tc.loc main_v1_7) ↦{fullShare} C.arrived m () (other c) c : sProp 𝕄) := by
    unfold Copies.landPts
    show ((c.tc.loc main_v1_7) ↦[(View.whole main_v1_7).set]{fullShare} C.arrived m () (other c) c : sProp 𝕄) ⊢ _
    rw [View.set_whole]
  have h3 : iprop(semVal (C.sendCell () c) 0 ∗ semVal (C.recvCell () c) 0) ⊢ (Pipeline.ownSems0 (C.plan (τ := τ) m).osem c : sProp 𝕄) := by
    unfold Pipeline.ownSems0
    rw [Copies.bigSep_sum]
    have e1 (Φ : Unit → sProp 𝕄) : bigSep Finset.univ Φ = Φ () := bigSep_singleton
    rw [e1, e1]
    iintro H; iexact H
  unfold holds₂ Copies.finished ends
  iintro ⟨⟨⟨Hz1, Hs⟩, Hz2, Hl⟩, Hk⟩
  isplitl [Hs Hk Hl]
  · isplitl [Hs Hk]
    · iapply h1; isplitl [Hs] <;> iassumption
    iapply h2; iexact Hl
  isplitl [Hz1 Hz2]
  · iapply h3; isplitl [Hz1] <;> iassumption
  iempintro

theorem ends_read (c : Dev nD) (s' : Phys nD τ sig (Elt F)) :
    iprop(ends m c ∗ SI s') ⊢ iprop(⌜s'.mem.mem (c.tc.loc main_arg9) = m (c.tc.loc main_arg9)
      ∧ s'.mem.mem (c.tc.loc main_v1_7) = C.arrived m () (other c) c⌝ ∗ SI s') := by
  have r1 := read_whole (c.tc.loc main_arg9) (m (c.tc.loc main_arg9)) s'
  have r2 := read_whole (c.tc.loc main_v1_7) (C.arrived m () (other c) c) s'
  unfold ends
  iintro ⟨⟨H1, H2⟩, HSI⟩
  ihave G1 := r1 $$ [H1 HSI]
  · isplitl [H1]; · iexact H1
    iexact HSI
  icases G1 with ⟨%h1, HSI⟩
  ihave G2 := r2 $$ [H2 HSI]
  · isplitl [H2]; · iexact H2
    iexact HSI
  icases G2 with ⟨%h2, HSI⟩
  isplitr; · ipureintro; exact ⟨h1, h2⟩
  iexact HSI

/-- The state in which a run of the program ends: the staged arrays as the pipeline leaves them, the gradient array
    unchanged, the landing array with the other core's half. -/
def Ended (s : MemSt nD τ sig (Elt F)) : Prop :=
  ∀ c : Dev nD, (∀ w, s.mem ((cfg0.win w).arr.view.loc c.tc) = (dats m 0 c).arrAt w cfg0.N)
    ∧ s.mem (c.tc.loc main_arg9) = m (c.tc.loc main_arg9)
    ∧ s.mem (c.tc.loc main_v1_7) = C.arrived m () (other c) c

/-- Every execution of the program ends, with every semaphore at zero, in such a state. -/
theorem run_main : θ_run defs (onTc (τ := τ) (main (F := F))) ⟨m, fun _ => 0, ρ⟩ (fun r => Ended m r.2 ∧ r.2.sem = fun _ => 0) :=
  Cert.Proof.LoneCall.run_lone_call (fun p => (cfgs p).toPCfg) (fun p => (cfgs p).toPCfg_adm) (dats m) cellOf_inj (0 : Fin 1)
    winFacts0.to₀ (own_sems m) (EP nD τ sig (Elt F)) defs₀ 𝒱₀ m ρ main
    (hmain := fun _ => rfl) (hpre := rfl)
    (hbody := body_obligation m) (hne := fun w => by fin_cases w <;> exact Nat.succ_pos _) (harr := arr_whole0) (hstage := stage_whole0)
    (hshare := share_full m) (hdistinct := winFacts0.arr_inj)
    (O₀ := (C.plan m).owes₀) (howed₀ := fun c => by rw [C.owes₀_eq]; rfl) (howedN := fun _ => rfl)
    (L := Plan.L) (lv := (C.plan m).lv) (hL := Plan.L_of_ne) (hwaits := waits m)
    (G := (C.plan m).ghost)
    (u₀ := (initOf (Pipeline.cells cfgs cellOf_inj) (Pipeline.launchToks cfgs cellOf_inj), initOf (C.plan m).cellSet (C.plan m).tokSet))
    (hu₀ := by
      iintro Hu
      ihave H := (ownU_pair _ _) $$ Hu
      icases H with ⟨HP, HX⟩
      imod (C.plan m).fund_ghost $$ HX with HG
      imodintro
      isplitl [HP] <;> iassumption)
    (hA := fun _ _ => rfl)
    (X := (C.plan m).start fun c => iprop((bigSep Finset.univ fun k => C.srcPts m k c) ∗ (bigSep Finset.univ fun k => C.dstPts m k c) ∗ keptPts m c))
    (Y := ends m)
    (deal := (C.plan m).deal _ _ _ m _ (buffers_dealt m))
    (hin := fun c => by
      have h := C.start_copies m (keptPts m) c
      rw [holds_first m c _ rfl]
      unfold holds₀
      iintro ⟨HX, -⟩
      iapply h; iexact HX)
    (hout := phi_exit m)
    (QY := fun c s => s.mem (c.tc.loc main_arg9) = m (c.tc.loc main_arg9)
      ∧ s.mem (c.tc.loc main_v1_7) = C.arrived m () (other c) c)
    (hY := ends_read m)
    (hQ := fun _ h hs => ⟨h, sem_eq_zero_of_scoped (by decide) hs⟩)

end Cert.UpBwd
-- ==== Proof.UpRows.lean ====
/-
# One row of the backward pass, in plain mathematics

A row of the layer: its incoming gradients, the activations it was computed from and the weights.  From it the gradient
through the projection, the gradient that enters the layer's first half and the one that enters the mixer.
-/
module

public import proofs.«01_k».proof.Proof.Plain
public import Idealize.ShloMosaic.Lib.Pointwise

@[expose] public section

noncomputable section

namespace Cert.UpRows

open Idealize.ShloMosaic

/-- What one row of the backward pass reads. -/
structure Row where
  dpre : Fin 4096 → EReal
  W : Shape.Idx ⟨3, ![4, 1024, 1024]⟩ → EReal
  dy : Fin 1024 → EReal
  x1 : Fin 1024 → EReal
  mix : Fin 1024 → EReal
  pre : Fin 1024 → EReal
  sc : Fin 1024 → EReal
  post : Fin 1024 → EReal
  g : Fin 1024 → EReal

/-- The reciprocal of the root mean square of `x`. -/
def rstd (x : Fin 1024 → EReal) : EReal :=
  Ideal.rsqrt (Ideal.div (∑ k, x k * x k) (Ideal.ofBits .f32 0x44800000#32) + Ideal.ofBits .f32 0x358637BD#32)

/-- The gradient `d` taken back through a root-mean-square norm of `x` with gain `gain`. -/
def back (d gain x : Fin 1024 → EReal) (j : Fin 1024) : EReal :=
  rstd x * (d j * gain j - x j * rstd x * Ideal.div (∑ k, d k * gain k * (x k * rstd x)) (Ideal.ofBits .f32 0x44800000#32))

/-- The gradient through the projection: the row against each column of the weights. -/
def dh2 (R : Row) (j : Fin 1024) : EReal :=
  ∑ k : Fin 4096, R.dpre k * R.W (ix3 ⟨k.val / 1024, by omega⟩ j ⟨k.val % 1024, Nat.mod_lt _ (by omega)⟩)

/-- The gradient that leaves the second norm, added to the one that went past it. -/
def dx1 (R : Row) (j : Fin 1024) : EReal :=
  R.dy j + back (dh2 R) (fun k => (Ideal.ofBits .f32 0x3F800000#32 + R.sc k) * R.pre k) R.x1 j

/-- The gradient that leaves the norm after the mixer. -/
def dmix (R : Row) (j : Fin 1024) : EReal :=
  back (dx1 R) (fun k => R.g k * R.post k) R.mix j

/-- A sum over 4096 places, 1024 at a time. -/
theorem sum_blocks (f : Fin 4096 → EReal) :
    ∑ k, f k = ∑ k : Fin 1024, f ⟨k.val, by omega⟩ + ∑ k : Fin 1024, f ⟨1024 + k.val, by omega⟩ + ∑ k : Fin 1024, f ⟨2048 + k.val, by omega⟩
      + ∑ k : Fin 1024, f ⟨3072 + k.val, by omega⟩ := by
  have a := Fin.sum_univ_add (a := 3072) (b := 1024) f
  have b := Fin.sum_univ_add (a := 2048) (b := 1024) (fun k => f (Fin.castAdd 1024 k))
  have c := Fin.sum_univ_add (a := 1024) (b := 1024) (fun k => f (Fin.castAdd 1024 (Fin.castAdd 1024 k)))
  exact a.trans (congrArg (· + _) (b.trans (congrArg (· + _) c)))

/-- A sum over 2048 places, 256 at a time. -/
theorem sum_rows (f : Fin 2048 → EReal) :
    ∑ k, f k = ∑ q : Fin 4, (∑ k : Fin 256, f ⟨q.val * 512 + k.val, by omega⟩ + ∑ k : Fin 256, f ⟨q.val * 512 + 256 + k.val, by omega⟩) := by
  have h (g : Fin 512 → EReal) : ∑ k, g k = ∑ k : Fin 256, g ⟨k.val, by omega⟩ + ∑ k : Fin 256, g ⟨256 + k.val, by omega⟩ :=
    Fin.sum_univ_add (a := 256) (b := 256) g
  have a := Fin.sum_univ_add (a := 1536) (b := 512) f
  have b := Fin.sum_univ_add (a := 1024) (b := 512) (fun k => f (Fin.castAdd 512 k))
  have c := Fin.sum_univ_add (a := 512) (b := 512) (fun k => f (Fin.castAdd 512 (Fin.castAdd 512 k)))
  rw [h, h] at c
  rw [h] at b
  rw [h] at a
  rw [Fin.sum_univ_four]
  refine a.trans (congrArg₂ (· + ·) (b.trans (congrArg₂ (· + ·) (c.trans (congrArg₂ (· + ·) ?_ ?_)) ?_)) ?_)
  all_goals
    refine congrArg₂ (· + ·) (Finset.sum_congr rfl fun k _ => congrArg f (Fin.ext ?_)) (Finset.sum_congr rfl fun k _ => congrArg f (Fin.ext ?_))
    all_goals simp [Fin.castAdd, Fin.natAdd] <;> omega

end Cert.UpRows
-- ==== Proof.UpValue.lean ====
/-
# What the arrays hold after the backward pass of the up projection

Over the extended reals: the gradient arrays block by block and whole, the shift gradient summed over the rows of a
sequence, and the landing array, each read at an index.
-/
module

public import proofs.«01_k».proof.Proof.UpRun
public import proofs.«01_k».proof.Proof.UpRows
public import Idealize.ShloMosaic.Lib.Pointwise
public import Idealize.ShloMosaic.Lib.LayoutAt
public import Idealize.ShloMosaic.Lib.Pipeline.Value

@[expose] public section

set_option maxRecDepth 16384

noncomputable section

namespace Cert.UpBwd

open Cert.UpKernelIdeal Cert.UpKernelIdeal.Gen Cert.Proof.Exchange Cert.UpRows
open Idealize.ShloMosaic Idealize.ShloMosaic.TcCoe
open Idealize.SL.Sem
open Idealize.ShloMosaic.Pipeline (Dat Cfg Window)

/-! ## One block -/

/-- Row `r` of a block's operands. -/
def rowOf (o : Operands Ideal) (r : Fin 512) : Row where
  dpre k := o.x0 (ix3 0 r k)
  W := o.x1
  dy k := o.x2 (ix3 0 r k)
  x1 k := o.x3 (ix3 0 r k)
  mix k := o.x4 (ix3 0 r k)
  pre k := o.x5 (ix2 0 k)
  sc k := o.x6 (ix3 0 0 k)
  post k := o.x7 (ix2 0 k)
  g k := o.x8 (ix3 0 0 k)

/-- A row of the upper half. -/
abbrev upper (r : Fin 256) : Fin 512 := ⟨r.val, by omega⟩
/-- A row of the lower half. -/
abbrev lower (r : Fin 256) : Fin 512 := ⟨256 + r.val, by omega⟩

theorem weight_at (W : S4x1024x1024.Idx → EReal) (q : Fin 4) (j k : Fin 1024) (n : Fin 4096) (h : n.val = 1024 * q.val + k.val) :
    W (ix3 ⟨n.val / 1024, by omega⟩ j ⟨n.val % 1024, Nat.mod_lt _ (by omega)⟩) = W (ix3 q j k) := by
  refine congrArg W (Layout.idx_ext fun a => ?_)
  fin_cases a
  · show n.val / 1024 = q.val
    omega
  · rfl
  · show n.val % 1024 = k.val
    omega

/-- The four partial products make the whole one. -/
theorem dh2_blocks (R : Row) (j : Fin 1024) :
    dh2 R j = ∑ k : Fin 1024, R.dpre ⟨k.val, by omega⟩ * R.W (ix3 0 j k) + ∑ k : Fin 1024, R.dpre ⟨1024 + k.val, by omega⟩ * R.W (ix3 1 j k)
      + ∑ k : Fin 1024, R.dpre ⟨2048 + k.val, by omega⟩ * R.W (ix3 2 j k) + ∑ k : Fin 1024, R.dpre ⟨3072 + k.val, by omega⟩ * R.W (ix3 3 j k) := by
  refine (sum_blocks _).trans (congrArg₂ (· + ·) (congrArg₂ (· + ·) (congrArg₂ (· + ·) ?_ ?_) ?_) ?_)
  · exact Finset.sum_congr rfl fun k _ => congrArg (_ * ·) (weight_at R.W 0 j k _ (Nat.zero_add _).symm)
  · exact Finset.sum_congr rfl fun k _ => congrArg (_ * ·) (weight_at R.W 1 j k _ rfl)
  · exact Finset.sum_congr rfl fun k _ => congrArg (_ * ·) (weight_at R.W 2 j k _ rfl)
  · exact Finset.sum_congr rfl fun k _ => congrArg (_ * ·) (weight_at R.W 3 j k _ rfl)

theorem prodT_apply (o : Operands Ideal) (r : Fin 256) (j : Fin 1024) : prodT o (ix2 r j) = dh2 (rowOf o (upper r)) j := by
  rw [dh2_blocks]
  pointwise [prodT, k0_pay11, k0_pay8, k0_pay9, k0_pay10, part]
  rfl

theorem prodB_apply (o : Operands Ideal) (r : Fin 256) (j : Fin 1024) : prodB o (ix2 r j) = dh2 (rowOf o (lower r)) j := by
  rw [dh2_blocks]
  pointwise [prodB, k0_pay13, k0_pay12, part]
  rfl

theorem gradT_apply (o : Operands Ideal) (r : Fin 256) (j : Fin 1024) :
    gradT o (ix2 r j) = back (dh2 (rowOf o (upper r))) (fun k => (Ideal.ofBits .f32 0x3F800000#32 + o.x6 (ix3 0 0 k)) * o.x5 (ix2 0 k)) (fun k => o.x3 (ix3 0 (upper r) k)) j := by
  unfold gradT back
  simp only [← prodT_apply]
  generalize prodT o = D
  pointwise [k0_pay24, k0_pay18, k0_pay19, k0_pay20, k0_pay21, k0_pay22, k0_pay14, k0_pay17, part, rstd]

theorem gradB_apply (o : Operands Ideal) (r : Fin 256) (j : Fin 1024) :
    gradB o (ix2 r j) = back (dh2 (rowOf o (lower r))) (fun k => (Ideal.ofBits .f32 0x3F800000#32 + o.x6 (ix3 0 0 k)) * o.x5 (ix2 0 k)) (fun k => o.x3 (ix3 0 (lower r) k)) j := by
  unfold gradB back
  simp only [← prodB_apply]
  generalize prodB o = D
  pointwise [k0_pay47, k0_pay41, k0_pay42, k0_pay43, k0_pay44, k0_pay45, k0_pay37, k0_pay40, part, rstd]

theorem dx1T_apply (o : Operands Ideal) (r : Fin 256) (j : Fin 1024) :
    (k0_pay28 (gradT o) (top o.x2) : FVec Ideal S256x1024 .f32) (ix2 r j) = dx1 (rowOf o (upper r)) j := by
  refine Eq.trans ?_ (congrArg (o.x2 (ix3 0 (upper r) j) + ·) (gradT_apply o r j))
  generalize gradT o = D
  pointwise [k0_pay28, part]

theorem dx1B_apply (o : Operands Ideal) (r : Fin 256) (j : Fin 1024) :
    (k0_pay51 (gradB o) (bot o.x2) : FVec Ideal S256x1024 .f32) (ix2 r j) = dx1 (rowOf o (lower r)) j := by
  refine Eq.trans ?_ (congrArg (o.x2 (ix3 0 (lower r) j) + ·) (gradB_apply o r j))
  generalize gradB o = D
  pointwise [k0_pay51, part]

/-- What the first gradient window holds at row `r` of a block. -/
theorem out9_apply (o : Operands Ideal) (r : Fin 512) (j : Fin 1024) : out9 o (ix3 0 r j) = dx1 (rowOf o r) j := by
  unfold out9 halves
  split
  · rename_i h
    refine Eq.trans ?_ (dx1T_apply o ⟨r.val, h⟩ j)
    pointwise [k0_pay29]
  · rename_i h
    have h' : ¬ r.val < 256 := h
    have e : lower ⟨r.val - 256, by omega⟩ = r := Fin.ext (by show 256 + (r.val - 256) = r.val; omega)
    refine Eq.trans ?_ ((dx1B_apply o ⟨r.val - 256, by omega⟩ j).trans (congrArg (fun s => dx1 (rowOf o s) j) e))
    pointwise [k0_pay52]

theorem dmixT_apply (o : Operands Ideal) (r : Fin 256) (j : Fin 1024) :
    (k0_pay34 (k0_pay15 o.x7) (k0_pay16 o.x8) (gradT o) (top o.x2) (top o.x4) : FVec Ideal S1x256x1024 .bf16) (ix3 0 r j) = dmix (rowOf o (upper r)) j := by
  unfold dmix back
  simp only [← dx1T_apply]
  unfold k0_pay34
  generalize (k0_pay28 (gradT o) (top o.x2) : FVec Ideal S256x1024 .f32) = D
  pointwise [k0_pay15, k0_pay16, k0_pay30, k0_pay31, k0_pay32, part, rstd]
  rfl

theorem dmixB_apply (o : Operands Ideal) (r : Fin 256) (j : Fin 1024) :
    (k0_pay57 (k0_pay38 o.x7) (k0_pay39 o.x8) (gradB o) (bot o.x2) (bot o.x4) : FVec Ideal S1x256x1024 .bf16) (ix3 0 r j) = dmix (rowOf o (lower r)) j := by
  unfold dmix back
  simp only [← dx1B_apply]
  unfold k0_pay57
  generalize (k0_pay51 (gradB o) (bot o.x2) : FVec Ideal S256x1024 .f32) = D
  pointwise [k0_pay38, k0_pay39, k0_pay53, k0_pay54, k0_pay55, part, rstd]
  rfl

/-- What the second gradient window holds at row `r` of a block. -/
theorem out10_apply (o : Operands Ideal) (r : Fin 512) (j : Fin 1024) : out10 o (ix3 0 r j) = dmix (rowOf o r) j := by
  unfold out10 halves
  split
  · rename_i h
    exact dmixT_apply o ⟨r.val, h⟩ j
  · rename_i h
    have h' : ¬ r.val < 256 := h
    have e : lower ⟨r.val - 256, by omega⟩ = r := Fin.ext (by show 256 + (r.val - 256) = r.val; omega)
    exact (dmixB_apply o ⟨r.val - 256, by omega⟩ j).trans (congrArg (fun s => dmix (rowOf o s) j) e)

/-- What a block adds to the shift gradient. -/
theorem out12_apply (o : Operands Ideal) (Y : S1x1x1024.Idx → EReal) (j : Fin 1024) :
    (out12 o Y : FVec Ideal S1x1x1024 .f32) (ix3 0 0 j) = Y (ix3 0 0 j) + (∑ r : Fin 256, dh2 (rowOf o (upper r)) j + ∑ r : Fin 256, dh2 (rowOf o (lower r)) j) := by
  simp only [← prodT_apply, ← prodB_apply, ← add_assoc]
  unfold out12
  generalize prodT o = D
  generalize prodB o = E
  pointwise [k0_pay46, k0_pay23]

theorem zero12_apply (y : S1x1x1024.Idx) : (k0_pay4 : FVec Ideal S1x1x1024 .f32) y = 0 := by
  pointwise [k0_pay4]

/-! ## The blocks of the arrays -/

variable (m : (ℓ : Loc nD τ sig) → Buf (Elt Ideal) ℓ)

theorem index_0 : ∀ t : Fin cfg0.N, win0_0.index t = ![t.val / 4, t.val % 4, 0] := by decide +kernel
theorem index_1 : ∀ t : Fin cfg0.N, win0_1.index t = ![0, 0, 0] := by decide +kernel
theorem index_2 : ∀ t : Fin cfg0.N, win0_2.index t = ![t.val / 4, t.val % 4, 0] := by decide +kernel
theorem index_3 : ∀ t : Fin cfg0.N, win0_3.index t = ![t.val / 4, t.val % 4, 0] := by decide +kernel
theorem index_4 : ∀ t : Fin cfg0.N, win0_4.index t = ![t.val / 4, t.val % 4, 0] := by decide +kernel
theorem index_5 : ∀ t : Fin cfg0.N, win0_5.index t = ![0, 0] := by decide +kernel
theorem index_6 : ∀ t : Fin cfg0.N, win0_6.index t = ![t.val / 4, 0, 0] := by decide +kernel
theorem index_7 : ∀ t : Fin cfg0.N, win0_7.index t = ![0, 0] := by decide +kernel
theorem index_8 : ∀ t : Fin cfg0.N, win0_8.index t = ![t.val / 4, 0, 0] := by decide +kernel
theorem index_9 : ∀ t : Fin cfg0.N, win0_9.index t = ![t.val / 4, t.val % 4, 0] := by decide +kernel
theorem index_10 : ∀ t : Fin cfg0.N, win0_10.index t = ![t.val / 4, t.val % 4, 0] := by decide +kernel
theorem index_12 : ∀ t : Fin cfg0.N, win0_12.index t = ![t.val / 4, 0, 0] := by decide +kernel

/-- The sequence that block `t` is of. -/
def seqOf (t : Fin cfg0.N) : Fin 2 := ⟨t.val / 4, by have := val_lt t; omega⟩
/-- Row `r` of block `t` in its sequence. -/
def placeOf (t : Fin cfg0.N) (r : Fin 512) : Fin 2048 := ⟨t.val % 4 * 512 + r.val, by omega⟩

theorem emb_0 (t : Fin cfg0.N) (y : S1x512x4096.Idx) : (win0_0.rect t).emb y = (ix3 (seqOf t) (placeOf t (y 1)) (y 2) : S2x2048x4096.Idx) := by
  refine Layout.idx_ext fun a => ?_
  refine (Window.rect_emb_val win0_0 t y a).trans ?_
  rw [index_0]
  fin_cases a
  · have h : (y 0).val < 1 := (y 0).isLt
    show t.val / 4 * 1 + (y 0).val = t.val / 4
    omega
  · rfl
  · exact at_zero _ _
theorem emb_1 (t : Fin cfg0.N) (y : S4x1024x1024.Idx) : (win0_1.rect t).emb y = y := by
  refine Layout.idx_ext fun a => ?_
  refine (Window.rect_emb_val win0_1 t y a).trans ?_
  rw [index_1]
  fin_cases a <;> exact at_zero _ _
theorem emb_2 (t : Fin cfg0.N) (y : S1x512x1024.Idx) : (win0_2.rect t).emb y = (ix3 (seqOf t) (placeOf t (y 1)) (y 2) : S2x2048x1024.Idx) := by
  refine Layout.idx_ext fun a => ?_
  refine (Window.rect_emb_val win0_2 t y a).trans ?_
  rw [index_2]
  fin_cases a
  · have h : (y 0).val < 1 := (y 0).isLt
    show t.val / 4 * 1 + (y 0).val = t.val / 4
    omega
  · rfl
  · exact at_zero _ _
theorem emb_3 (t : Fin cfg0.N) (y : S1x512x1024.Idx) : (win0_3.rect t).emb y = (ix3 (seqOf t) (placeOf t (y 1)) (y 2) : S2x2048x1024.Idx) := by
  refine Layout.idx_ext fun a => ?_
  refine (Window.rect_emb_val win0_3 t y a).trans ?_
  rw [index_3]
  fin_cases a
  · have h : (y 0).val < 1 := (y 0).isLt
    show t.val / 4 * 1 + (y 0).val = t.val / 4
    omega
  · rfl
  · exact at_zero _ _
theorem emb_4 (t : Fin cfg0.N) (y : S1x512x1024.Idx) : (win0_4.rect t).emb y = (ix3 (seqOf t) (placeOf t (y 1)) (y 2) : S2x2048x1024.Idx) := by
  refine Layout.idx_ext fun a => ?_
  refine (Window.rect_emb_val win0_4 t y a).trans ?_
  rw [index_4]
  fin_cases a
  · have h : (y 0).val < 1 := (y 0).isLt
    show t.val / 4 * 1 + (y 0).val = t.val / 4
    omega
  · rfl
  · exact at_zero _ _
theorem emb_5 (t : Fin cfg0.N) (y : S1x1024.Idx) : (win0_5.rect t).emb y = y := by
  refine Layout.idx_ext fun a => ?_
  refine (Window.rect_emb_val win0_5 t y a).trans ?_
  rw [index_5]
  fin_cases a <;> exact at_zero _ _
theorem emb_6 (t : Fin cfg0.N) (y : S1x1x1024.Idx) : (win0_6.rect t).emb y = (ix3 (seqOf t) 0 (y 2) : S2x1x1024.Idx) := by
  refine Layout.idx_ext fun a => ?_
  refine (Window.rect_emb_val win0_6 t y a).trans ?_
  rw [index_6]
  fin_cases a
  · have h : (y 0).val < 1 := (y 0).isLt
    show t.val / 4 * 1 + (y 0).val = t.val / 4
    omega
  · have h : (y 1).val < 1 := (y 1).isLt
    show 0 * 1 + (y 1).val = 0
    omega
  · exact at_zero _ _
theorem emb_7 (t : Fin cfg0.N) (y : S1x1024.Idx) : (win0_7.rect t).emb y = y := by
  refine Layout.idx_ext fun a => ?_
  refine (Window.rect_emb_val win0_7 t y a).trans ?_
  rw [index_7]
  fin_cases a <;> exact at_zero _ _
theorem emb_8 (t : Fin cfg0.N) (y : S1x1x1024.Idx) : (win0_8.rect t).emb y = (ix3 (seqOf t) 0 (y 2) : S2x1x1024.Idx) := by
  refine Layout.idx_ext fun a => ?_
  refine (Window.rect_emb_val win0_8 t y a).trans ?_
  rw [index_8]
  fin_cases a
  · have h : (y 0).val < 1 := (y 0).isLt
    show t.val / 4 * 1 + (y 0).val = t.val / 4
    omega
  · have h : (y 1).val < 1 := (y 1).isLt
    show 0 * 1 + (y 1).val = 0
    omega
  · exact at_zero _ _
theorem emb_9 (t : Fin cfg0.N) (y : S1x512x1024.Idx) : (win0_9.rect t).emb y = (ix3 (seqOf t) (placeOf t (y 1)) (y 2) : S2x2048x1024.Idx) := by
  refine Layout.idx_ext fun a => ?_
  refine (Window.rect_emb_val win0_9 t y a).trans ?_
  rw [index_9]
  fin_cases a
  · have h : (y 0).val < 1 := (y 0).isLt
    show t.val / 4 * 1 + (y 0).val = t.val / 4
    omega
  · rfl
  · exact at_zero _ _
theorem emb_10 (t : Fin cfg0.N) (y : S1x512x1024.Idx) : (win0_10.rect t).emb y = (ix3 (seqOf t) (placeOf t (y 1)) (y 2) : S2x2048x1024.Idx) := by
  refine Layout.idx_ext fun a => ?_
  refine (Window.rect_emb_val win0_10 t y a).trans ?_
  rw [index_10]
  fin_cases a
  · have h : (y 0).val < 1 := (y 0).isLt
    show t.val / 4 * 1 + (y 0).val = t.val / 4
    omega
  · rfl
  · exact at_zero _ _
theorem emb_12 (t : Fin cfg0.N) (y : S1x1x1024.Idx) : (win0_12.rect t).emb y = (ix3 (seqOf t) 0 (y 2) : S2x1x1024.Idx) := by
  refine Layout.idx_ext fun a => ?_
  refine (Window.rect_emb_val win0_12 t y a).trans ?_
  rw [index_12]
  fin_cases a
  · have h : (y 0).val < 1 := (y 0).isLt
    show t.val / 4 * 1 + (y 0).val = t.val / 4
    omega
  · have h : (y 1).val < 1 := (y 1).isLt
    show 0 * 1 + (y 1).val = 0
    omega
  · exact at_zero _ _

/-- Row `r` of sequence `b` of device `c`. -/
def devRow (c : Dev nD) (b : Fin 2) (r : Fin 2048) : Row where
  dpre k := m (c.tc.loc main_arg0) (ix3 b r k : S2x2048x4096.Idx)
  W := m (c.tc.loc main_arg1)
  dy k := m (c.tc.loc main_arg2) (ix3 b r k : S2x2048x1024.Idx)
  x1 k := m (c.tc.loc main_arg3) (ix3 b r k : S2x2048x1024.Idx)
  mix k := m (c.tc.loc main_arg4) (ix3 b r k : S2x2048x1024.Idx)
  pre k := m (c.tc.loc main_arg5) (ix2 0 k : S1x1024.Idx)
  sc k := m (c.tc.loc main_arg6) (ix3 b 0 k : S2x1x1024.Idx)
  post k := m (c.tc.loc main_arg7) (ix2 0 k : S1x1024.Idx)
  g k := m (c.tc.loc main_arg8) (ix3 b 0 k : S2x1x1024.Idx)

/-- A row of a block is that row of the device's arrays. -/
theorem row_of_block (c : Dev nD) (t : Fin cfg0.N) (r : Fin 512) : rowOf (ops m c t) r = devRow m c (seqOf t) (placeOf t r) := by
  unfold rowOf devRow
  congr 1
  · exact funext fun k => congrArg (m (c.tc.loc main_arg0)) (emb_0 t _)
  · exact funext fun y => congrArg (m (c.tc.loc main_arg1)) (emb_1 t y)
  · exact funext fun k => congrArg (m (c.tc.loc main_arg2)) (emb_2 t _)
  · exact funext fun k => congrArg (m (c.tc.loc main_arg3)) (emb_3 t _)
  · exact funext fun k => congrArg (m (c.tc.loc main_arg4)) (emb_4 t _)
  · exact funext fun k => congrArg (m (c.tc.loc main_arg5)) (emb_5 t _)
  · exact funext fun k => congrArg (m (c.tc.loc main_arg6)) (emb_6 t _)
  · exact funext fun k => congrArg (m (c.tc.loc main_arg7)) (emb_7 t _)
  · exact funext fun k => congrArg (m (c.tc.loc main_arg8)) (emb_8 t _)

/-! ## The result arrays -/

/-- The three gradients that device `c` computes. -/
def dx1Array (c : Dev nD) : S2x2048x1024.Idx → EReal := fun i => dx1 (devRow m c (i 0) (i 1)) (i 2)
def dmixArray (c : Dev nD) : S2x2048x1024.Idx → EReal := fun i => dmix (devRow m c (i 0) (i 1)) (i 2)
def shiftArray (c : Dev nD) : S2x1x1024.Idx → EReal := fun i => ∑ r : Fin 2048, dh2 (devRow m c (i 0) r) (i 2)

theorem lone3 (y : S1x512x1024.Idx) : y = ix3 0 (y 1) (y 2) := Layout.idx_ext fun a => by
  have h : (y 0).val < 1 := (y 0).isLt
  fin_cases a
  · show (y 0).val = 0
    omega
  · rfl
  · rfl
theorem lone1 (y : S1x1x1024.Idx) : y = ix3 0 0 (y 2) := Layout.idx_ext fun a => by
  have h : (y 0).val < 1 := (y 0).isLt
  have h' : (y 1).val < 1 := (y 1).isLt
  fin_cases a
  · show (y 0).val = 0
    omega
  · show (y 1).val = 0
    omega
  · rfl

theorem flushed_9 (c : Dev nD) (t : Fin cfg0.N) :
    (dats m 0 c).flushed 9 t = ((cfg0.win 9).blk t).view.read (Elt Ideal) (dx1Array m c) := by
  funext y
  show out9 (ops m c t) y = dx1Array m c ((win0_9.rect t).emb y)
  rw [emb_9]
  refine (congrArg (out9 (ops m c t)) (lone3 y)).trans ((out9_apply (ops m c t) (y 1) (y 2)).trans ?_)
  exact congrArg (fun R => dx1 R (y 2)) (row_of_block m c t (y 1))

theorem flushed_10 (c : Dev nD) (t : Fin cfg0.N) :
    (dats m 0 c).flushed 10 t = ((cfg0.win 10).blk t).view.read (Elt Ideal) (dmixArray m c) := by
  funext y
  show out10 (ops m c t) y = dmixArray m c ((win0_10.rect t).emb y)
  rw [emb_10]
  refine (congrArg (out10 (ops m c t)) (lone3 y)).trans ((out10_apply (ops m c t) (y 1) (y 2)).trans ?_)
  exact congrArg (fun R => dmix R (y 2)) (row_of_block m c t (y 1))

/-- The block that holds row `r` of sequence `b`. -/
def blockAt (b : Fin 2) (r : Fin 2048) : Fin cfg0.N := ⟨b.val * 4 + r.val / 512, Nat.lt_of_lt_of_eq (by omega : _ < 8) N_0.symm⟩

theorem found (i : S2x2048x1024.Idx) :
    (ix3 (seqOf (blockAt (i 0) (i 1))) (placeOf (blockAt (i 0) (i 1)) ⟨(i 1).val % 512, Nat.mod_lt _ (by omega)⟩) (i 2) : S2x2048x1024.Idx) = i :=
  Layout.idx_ext fun a => by
    have h0 : (i 0).val < 2 := (i 0).isLt
    have h1 : (i 1).val < 2048 := (i 1).isLt
    fin_cases a
    · show ((i 0).val * 4 + (i 1).val / 512) / 4 = (i 0).val
      omega
    · show ((i 0).val * 4 + (i 1).val / 512) % 4 * 512 + (i 1).val % 512 = (i 1).val
      omega
    · rfl

theorem covered_9 (i : S2x2048x1024.Idx) : ∃ t : Fin cfg0.N, (cfg0.win 9).flush t = true ∧ i ∈ ((cfg0.win 9).blk t).view.set := by
  refine ⟨blockAt (i 0) (i 1), flush0_9 _, ?_⟩
  have h := ((cfg0.win 9).blk (blockAt (i 0) (i 1))).view.emb_mem_set (ix3 0 ⟨(i 1).val % 512, Nat.mod_lt _ (by omega)⟩ (i 2) : S1x512x1024.Idx)
  have e : ((cfg0.win 9).blk (blockAt (i 0) (i 1))).view.emb (ix3 0 ⟨(i 1).val % 512, Nat.mod_lt _ (by omega)⟩ (i 2) : S1x512x1024.Idx) = i :=
    (emb_9 _ _).trans (found i)
  rwa [e] at h

theorem covered_10 (i : S2x2048x1024.Idx) : ∃ t : Fin cfg0.N, (cfg0.win 10).flush t = true ∧ i ∈ ((cfg0.win 10).blk t).view.set := by
  refine ⟨blockAt (i 0) (i 1), flush0_10 _, ?_⟩
  have h := ((cfg0.win 10).blk (blockAt (i 0) (i 1))).view.emb_mem_set (ix3 0 ⟨(i 1).val % 512, Nat.mod_lt _ (by omega)⟩ (i 2) : S1x512x1024.Idx)
  have e : ((cfg0.win 10).blk (blockAt (i 0) (i 1))).view.emb (ix3 0 ⟨(i 1).val % 512, Nat.mod_lt _ (by omega)⟩ (i 2) : S1x512x1024.Idx) = i :=
    (emb_10 _ _).trans (found i)
  rwa [e] at h

/-- The first gradient array ends as computed row by row. -/
theorem final_9 (c : Dev nD) : (dats m 0 c).arrAt 9 cfg0.N = dx1Array m c :=
  (dats m 0 c).arrAt_eq_of_cover 9 (dx1Array m c) (fun t _ => flushed_9 m c t) covered_9
/-- So does the second. -/
theorem final_10 (c : Dev nD) : (dats m 0 c).arrAt 10 cfg0.N = dmixArray m c :=
  (dats m 0 c).arrAt_eq_of_cover 10 (dmixArray m c) (fun t _ => flushed_10 m c t) covered_10

/-! ## The shift gradient -/

/-- What block `q` of sequence `b` adds to the shift gradient. -/
def added (c : Dev nD) (b : Fin 2) (j : Fin 1024) (q : Fin 4) : EReal :=
  ∑ r : Fin 256, dh2 (devRow m c b ⟨q.val * 512 + r.val, by omega⟩) j + ∑ r : Fin 256, dh2 (devRow m c b ⟨q.val * 512 + 256 + r.val, by omega⟩) j

theorem step_12 (c : Dev nD) (t : Fin cfg0.N) (q : Fin 4) (h : t.val % 4 = q.val) (Y : S1x1x1024.Idx → EReal) (j : Fin 1024) :
    (out12 (ops m c t) Y : FVec Ideal S1x1x1024 .f32) (ix3 0 0 j) = Y (ix3 0 0 j) + added m c (seqOf t) j q := by
  refine (out12_apply (ops m c t) Y j).trans (congrArg (Y (ix3 0 0 j) + ·) (congrArg₂ (· + ·) ?_ ?_))
  · refine Finset.sum_congr rfl fun r _ => ?_
    rw [row_of_block]
    exact congrArg (fun s => dh2 (devRow m c (seqOf t) s) j) (Fin.ext (by show t.val % 4 * 512 + r.val = q.val * 512 + r.val; rw [h]))
  · refine Finset.sum_congr rfl fun r _ => ?_
    rw [row_of_block]
    exact congrArg (fun s => dh2 (devRow m c (seqOf t) s) j) (Fin.ext (by show t.val % 4 * 512 + (256 + r.val) = q.val * 512 + 256 + r.val; rw [h, Nat.add_assoc]))

/-- After the last block of a sequence the accumulator holds the sum over all of its rows. -/
theorem after12_last (c : Dev nD) (t : Fin cfg0.N) (h : t.val % 4 = 3) (j : Fin 1024) :
    after12 m c t (ix3 0 0 j) = ∑ r : Fin 2048, dh2 (devRow m c (seqOf t) r) j := by
  have ht := val_lt t
  let t2 : Fin cfg0.N := ⟨t.val - 1, Nat.lt_of_le_of_lt (Nat.sub_le _ _) t.isLt⟩
  let t1 : Fin cfg0.N := ⟨t2.val - 1, Nat.lt_of_le_of_lt (Nat.sub_le _ _) t2.isLt⟩
  let t0 : Fin cfg0.N := ⟨t1.val - 1, Nat.lt_of_le_of_lt (Nat.sub_le _ _) t1.isLt⟩
  have v2 : t2.val = t.val - 1 := rfl
  have v1 : t1.val = t.val - 1 - 1 := rfl
  have v0 : t0.val = t.val - 1 - 1 - 1 := rfl
  have s2 : seqOf t2 = seqOf t := Fin.ext (by show (t.val - 1) / 4 = t.val / 4; omega)
  have s1 : seqOf t1 = seqOf t := Fin.ext (by show (t.val - 1 - 1) / 4 = t.val / 4; omega)
  have s0 : seqOf t0 = seqOf t := Fin.ext (by show (t.val - 1 - 1 - 1) / 4 = t.val / 4; omega)
  have e3 := (congrFun (after12_carry m c t (by omega)) (ix3 0 0 j)).trans (step_12 m c t 3 h _ j)
  have e2 := (congrFun (after12_carry m c t2 (by omega)) (ix3 0 0 j)).trans (step_12 m c t2 2 (by show t2.val % 4 = 2; omega) _ j)
  have e1 := (congrFun (after12_carry m c t1 (by omega)) (ix3 0 0 j)).trans (step_12 m c t1 1 (by show t1.val % 4 = 1; omega) _ j)
  have e0 := (congrFun (after12_reset m c t0 (by omega)) (ix3 0 0 j)).trans (step_12 m c t0 0 (by show t0.val % 4 = 0; omega) _ j)
  rw [zero12_apply, zero_add, s0] at e0
  rw [s1] at e1
  rw [s2] at e2
  refine Eq.trans ?_ (sum_rows fun r => dh2 (devRow m c (seqOf t) r) j).symm
  rw [Fin.sum_univ_four]
  exact e3.trans (congrArg (· + _) (e2.trans (congrArg (· + _) (e1.trans (congrArg (· + _) e0)))))

theorem flushed_12 (c : Dev nD) (t : Fin cfg0.N) (h : (cfg0.win 12).flush t = true) :
    (dats m 0 c).flushed 12 t = ((cfg0.win 12).blk t).view.read (Elt Ideal) (shiftArray m c) := by
  funext y
  show after12 m c t y = shiftArray m c ((win0_12.rect t).emb y)
  rw [emb_12]
  exact (congrArg (after12 m c t) (lone1 y)).trans (after12_last m c t ((flush0_12 t).1 h) (y 2))

theorem covered_12 (i : S2x1x1024.Idx) : ∃ t : Fin cfg0.N, (cfg0.win 12).flush t = true ∧ i ∈ ((cfg0.win 12).blk t).view.set := by
  have h0 : (i 0).val < 2 := (i 0).isLt
  have h1 : (i 1).val < 1 := (i 1).isLt
  let t : Fin cfg0.N := ⟨(i 0).val * 4 + 3, Nat.lt_of_lt_of_eq (by omega : _ < 8) N_0.symm⟩
  refine ⟨t, (flush0_12 t).2 (by show ((i 0).val * 4 + 3) % 4 = 3; omega), ?_⟩
  have h := ((cfg0.win 12).blk t).view.emb_mem_set (ix3 0 0 (i 2) : S1x1x1024.Idx)
  have e : ((cfg0.win 12).blk t).view.emb (ix3 0 0 (i 2) : S1x1x1024.Idx) = i := by
    refine (emb_12 t _).trans (Layout.idx_ext fun a => ?_)
    fin_cases a
    · show ((i 0).val * 4 + 3) / 4 = (i 0).val
      omega
    · show 0 = (i 1).val
      omega
    · rfl
  rwa [e] at h

/-- The shift gradient ends as the sum over the rows of each sequence. -/
theorem final_12 (c : Dev nD) : (dats m 0 c).arrAt 12 cfg0.N = shiftArray m c :=
  (dats m 0 c).arrAt_eq_of_cover 12 (shiftArray m c) (flushed_12 m c) covered_12

/-! ## The landing array -/

theorem sent_place : ∀ c : Dev nD, k0_off1 (other c) = ![c.val % 2, 0, 0, 0] := by decide +kernel

/-- The core's place on its chip. -/
def core (c : Dev nD) : Fin 2 := ⟨c.val % 2, Nat.mod_lt _ (by omega)⟩

/-- Dropping a leading axis of length one. -/
theorem unit_dropped {α : Type} (v : S1x4x512x1024.Idx → α) (h : S1x4x512x1024.ShapeCasts S4x512x1024) (y : S4x512x1024.Idx) :
    shapeCast S4x512x1024 v h y = v (ix4 0 (y 0) (y 1) (y 2)) := by
  pointwise []

/-- What lands on device `c`: of the other core's gradient array, the half at `c`'s own place. -/
theorem landed_apply (c : Dev nD) (y : S4x512x1024.Idx) :
    C.arrived m () (other c) c y = m ((other c).tc.loc main_arg9) (ix4 (core c) (y 0) (y 1) (y 2) : S2x4x512x1024.Idx) := by
  have e : C.arrived m () (other c) c = (srcM (other c)).view.read (Elt Ideal) (m ((other c).tc.loc main_arg9)) :=
    View.write_whole_univ _ _ _
  rw [e, Memref.read_squeeze_slice _ _ _ _ (by decide : S1x4x512x1024.ShapeCasts S4x512x1024)]
  generalize m ((other c).tc.loc main_arg9) = X
  refine (unit_dropped _ _ y).trans (congrArg X (Layout.idx_ext fun a => ?_))
  refine (Rect.emb_apply _ _ _).trans ?_
  refine (congrArg (· + 1 * _) (congrFun (sent_place c) a)).trans ?_
  fin_cases a
  · rfl
  · exact from_zero _
  · exact from_zero _
  · exact from_zero _

end Cert.UpBwd
-- ==== Proof.UpRef.lean ====
/-
# What the plain backward pass computes

The reference's four results read at an index, over the extended reals.
-/
module

public import proofs.«01_k».proof.Proof.Gen.UpReferenceIdeal.Run
public import proofs.«01_k».proof.Proof.UpRows
public import Idealize.ShloMosaic.Lib.Pointwise
public import Idealize.ShloMosaic.Lib.LayoutAt

@[expose] public section

set_option maxRecDepth 16384

noncomputable section

namespace Cert.UpRef

open Cert.UpReferenceIdeal Cert.UpReferenceIdeal.Gen Cert.UpRows
open Idealize.ShloMosaic Idealize.SL.Sem

/-- The gradient through the projection. -/
def project (X : S16x2048x4096.Idx → Elt Ideal .bf16) (W : S4x1024x1024.Idx → Elt Ideal .bf16) : FVec Ideal S16x2048x1024 .f32 :=
  Host.dotGeneral dot_S16x2048x4096_S1024x4096_S16x2048x1024_2_1_01_0_n_n none (extf .f32 X bitsLt_bf16_f32) (shapeCast S1024x4096 (transpose S1024x4x1024 [1, 0, 2] (extf .f32 W bitsLt_bf16_f32) transposes_S4x1024x1024_S1024x4x1024_1_0_2) shapeCasts_S1024x4x1024_S1024x4096)

/-- The reciprocal root mean square of each row. -/
def scale (x : FVec Ideal S16x2048x1024 .f32) : FVec Ideal S16x2048x1 .f32 :=
  Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))

/-- A value per row, at every place of the row. -/
def spread (v : FVec Ideal S16x2048x1 .f32) : FVec Ideal S16x2048x1024 .f32 :=
  broadcastInDim S16x2048x1024 ![0, 1, 2] bcast_S16x2048x1_S16x2048x1024_0_1_2 v

/-- The gradient `d` taken back through the norm of `x` with gain `a` times the weight `w`. -/
def backAll (d : FVec Ideal S16x2048x1024 .f32) (a : FVec Ideal S16x1x1024 .f32) (w : FVec Ideal S1x1024 .f32) (x : FVec Ideal S16x2048x1024 .f32) : FVec Ideal S16x2048x1024 .f32 :=
  mulf (spread (scale x)) (subf (mulf d (broadcastInDim S16x2048x1024 ![0, 1, 2] bcast_S16x1x1024_S16x2048x1024_0_1_2 (mulf a (broadcastInDim S16x1x1024 ![0, 1, 2] bcast_S1x1x1024_S16x1x1024_0_1_2 (broadcastInDim S1x1x1024 ![1, 2] bcast_S1x1024_S1x1x1024_1_2 w))))) (mulf (mulf x (spread (scale x))) (spread (Host.divf (broadcastInDim S16x2048x1 ![0, 1] bcast_S16x2048_S16x2048x1_0_1 (Host.reduceAdd (mulf (mulf d (broadcastInDim S16x2048x1024 ![0, 1, 2] bcast_S16x1x1024_S16x2048x1024_0_1_2 (mulf a (broadcastInDim S16x1x1024 ![0, 1, 2] bcast_S1x1x1024_S16x1x1024_0_1_2 (broadcastInDim S1x1x1024 ![1, 2] bcast_S1x1024_S1x1x1024_1_2 w))))) (mulf x (spread (scale x)))) (constant S_ .f32 0x00000000#32) reducesTo_S16x2048x1024_S16x2048_d2 h_S_)) (broadcastInDim S16x2048x1 ![] bcast_S_S16x2048x1 (constant S_ .f32 0x44800000#32))))))

/-- The first gradient. -/
def first (X : S16x2048x4096.Idx → Elt Ideal .bf16) (W : S4x1024x1024.Idx → Elt Ideal .bf16) (dy x1 : FVec Ideal S16x2048x1024 .f32) (pre : FVec Ideal S1x1024 .f32) (sc : FVec Ideal S16x1x1024 .f32) : FVec Ideal S16x2048x1024 .f32 :=
  addf dy (backAll (project X W) (addf (broadcastInDim S16x1x1024 ![] bcast_S_S16x1x1024 (constant S_ .f32 0x3F800000#32)) sc) pre x1)

/-- The second gradient. -/
def second (D : FVec Ideal S16x2048x1024 .f32) (mix : FVec Ideal S16x2048x1024 .f32) (post : FVec Ideal S1x1024 .f32) (g : FVec Ideal S16x1x1024 .f32) : FVec Ideal S16x2048x1024 .bf16 :=
  truncf .bf16 (backAll D g post mix) bitsLt_bf16_f32

/-- The shift gradient. -/
def shift (D : FVec Ideal S16x2048x1024 .f32) : FVec Ideal S16x1x1024 .f32 :=
  broadcastInDim S16x1x1024 ![0, 2] bcast_S16x1024_S16x1x1024_0_2 (Host.reduceAdd D (constant S_ .f32 0x00000000#32) reducesTo_S16x2048x1024_S16x1024_d1 h_S_)

/-- The whole array after the exchange of halves. -/
def exchanged (G : S16x4x512x1024.Idx → Elt Ideal .f32) : S32x512x1024.Idx → Elt Ideal .f32 :=
  shapeCast S32x512x1024 (concatenate S4x2x4x512x1024 1 [⟨S4x1x4x512x1024, (broadcastInDim S4x1x4x512x1024 ![0, 2, 3, 4] bcast_S4x4x512x1024_S4x1x4x512x1024_0_2_3_4 (shapeCast S4x4x512x1024 (extractStridedSlice S4x1x1x4x512x1024 ![0, 1, 0, 0, 0, 0] (shapeCast S4x2x2x4x512x1024 G shapeCasts_S16x4x512x1024_S4x2x2x4x512x1024) slices_S4x2x2x4x512x1024_S4x1x1x4x512x1024_0_1_0_0_0_0) shapeCasts_S4x1x1x4x512x1024_S4x4x512x1024))⟩, ⟨S4x1x4x512x1024, (broadcastInDim S4x1x4x512x1024 ![0, 2, 3, 4] bcast_S4x4x512x1024_S4x1x4x512x1024_0_2_3_4 (shapeCast S4x4x512x1024 (extractStridedSlice S4x1x1x4x512x1024 ![0, 0, 1, 0, 0, 0] (shapeCast S4x2x2x4x512x1024 G shapeCasts_S16x4x512x1024_S4x2x2x4x512x1024) slices_S4x2x2x4x512x1024_S4x1x1x4x512x1024_0_0_1_0_0_0) shapeCasts_S4x1x1x4x512x1024_S4x4x512x1024))⟩] concatenates_S4x1x4x512x1024_S4x1x4x512x1024_S4x2x4x512x1024_d1) shapeCasts_S4x2x4x512x1024_S32x512x1024

/-- The exchanged array, row `r` of it: rows come four to a device, and the four of a device are those that its chip's
    other core had at the device's place. -/
theorem exchanged_at (G : S16x4x512x1024.Idx → Elt Ideal .f32) (r : Fin 32) (j : Fin 512) (l : Fin 1024)
    (h : r.val / 8 * 4 + 2 * (1 - r.val / 4 % 2) + r.val / 4 % 2 < 16) :
    exchanged G (ix3 r j l) = G (ix4 ⟨r.val / 8 * 4 + 2 * (1 - r.val / 4 % 2) + r.val / 4 % 2, h⟩ ⟨r.val % 4, Nat.mod_lt _ (by omega)⟩ j l) := by
  pointwise [exchanged]
  split
  · exact congrArg (fun s => G (ix4 s _ j l)) (Fin.ext (by dsimp only; omega))
  · exact congrArg (fun s => G (ix4 s _ j l)) (Fin.ext (by dsimp only; omega))

theorem project_apply (X : S16x2048x4096.Idx → Elt Ideal .bf16) (W : S4x1024x1024.Idx → Elt Ideal .bf16) (b : Fin 16) (r : Fin 2048) (j : Fin 1024) :
    project X W (ix3 b r j) = ∑ k : Fin 4096, (X (ix3 b r k) : EReal) * W (ix3 ⟨k.val / 1024, by omega⟩ j ⟨k.val % 1024, Nat.mod_lt _ (by omega)⟩) := by
  pointwise [project]

theorem backAll_apply (d : FVec Ideal S16x2048x1024 .f32) (a : FVec Ideal S16x1x1024 .f32) (w : FVec Ideal S1x1024 .f32) (x : FVec Ideal S16x2048x1024 .f32) (b : Fin 16) (r : Fin 2048) (j : Fin 1024) :
    backAll d a w x (ix3 b r j) = back (fun k => d (ix3 b r k)) (fun k => a (ix3 b 0 k) * w (ix2 0 k)) (fun k => x (ix3 b r k)) j := by
  unfold back rstd
  pointwise [backAll, spread, scale]

theorem gain_apply (X : FVec Ideal S16x1x1024 .f32) (b : Fin 16) (k : Fin 1024) :
    (addf (broadcastInDim S16x1x1024 ![] bcast_S_S16x1x1024 (constant S_ .f32 0x3F800000#32)) X : FVec Ideal S16x1x1024 .f32) (ix3 b 0 k)
      = Ideal.ofBits .f32 0x3F800000#32 + X (ix3 b 0 k) := by
  pointwise []

variable (m : (ℓ : Loc nD τ sig) → Buf (Elt Ideal) ℓ) (c : Dev nD)

/-- Row `r` of sequence `b` of the whole arrays. -/
def refRow (b : Fin 16) (r : Fin 2048) : Row where
  dpre k := m (c.tc.loc main_arg0) (ix3 b r k : S16x2048x4096.Idx)
  W := m (c.tc.loc main_arg1)
  dy k := m (c.tc.loc main_arg2) (ix3 b r k : S16x2048x1024.Idx)
  x1 k := m (c.tc.loc main_arg3) (ix3 b r k : S16x2048x1024.Idx)
  mix k := m (c.tc.loc main_arg4) (ix3 b r k : S16x2048x1024.Idx)
  pre k := m (c.tc.loc main_arg5) (ix2 0 k : S1x1024.Idx)
  sc k := m (c.tc.loc main_arg6) (ix3 b 0 k : S16x1x1024.Idx)
  post k := m (c.tc.loc main_arg7) (ix2 0 k : S1x1024.Idx)
  g k := m (c.tc.loc main_arg8) (ix3 b 0 k : S16x1x1024.Idx)

abbrev projected : FVec Ideal S16x2048x1024 .f32 := project (m (c.tc.loc main_arg0)) (m (c.tc.loc main_arg1))
abbrev firstOf : FVec Ideal S16x2048x1024 .f32 :=
  first (m (c.tc.loc main_arg0)) (m (c.tc.loc main_arg1)) (m (c.tc.loc main_arg2)) (m (c.tc.loc main_arg3)) (m (c.tc.loc main_arg5)) (m (c.tc.loc main_arg6))
abbrev secondOf : FVec Ideal S16x2048x1024 .bf16 :=
  second (firstOf m c) (m (c.tc.loc main_arg4)) (m (c.tc.loc main_arg7)) (m (c.tc.loc main_arg8))

theorem projected_at (b : Fin 16) (r : Fin 2048) (j : Fin 1024) : projected m c (ix3 b r j) = dh2 (refRow m c b r) j :=
  project_apply _ _ b r j

theorem first_at (b : Fin 16) (r : Fin 2048) (j : Fin 1024) : firstOf m c (ix3 b r j) = dx1 (refRow m c b r) j := by
  refine congrArg (fun v : EReal => (refRow m c b r).dy j + v) ((backAll_apply _ _ _ _ b r j).trans ?_)
  refine congrArg₂ (fun d g => back d g _ j) (funext fun k => projected_at m c b r k) (funext fun k => ?_)
  exact congrArg (· * _) (gain_apply _ b k)

theorem second_at (b : Fin 16) (r : Fin 2048) (j : Fin 1024) : secondOf m c (ix3 b r j) = dmix (refRow m c b r) j :=
  (backAll_apply _ _ _ _ b r j).trans (congrArg (fun d => back d _ _ j) (funext fun k => first_at m c b r k))

theorem shift_apply (D : FVec Ideal S16x2048x1024 .f32) (b : Fin 16) (j : Fin 1024) :
    shift D (ix3 b 0 j) = ∑ r : Fin 2048, D (ix3 b r j) := by
  pointwise [shift]

theorem shift_at (b : Fin 16) (j : Fin 1024) : shift (projected m c) (ix3 b 0 j) = ∑ r : Fin 2048, dh2 (refRow m c b r) j :=
  (shift_apply _ b j).trans (Finset.sum_congr rfl fun r _ => projected_at m c b r j)

/-- Every execution of the reference ends with its four results at these arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = firstOf m c
      ∧ r.2.mem (c.tc.loc main_v58) = secondOf m c
      ∧ r.2.mem (c.tc.loc main_v68) = shift (projected m c)
      ∧ r.2.mem (c.tc.loc main_v69) = exchanged (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  Cert.UpReferenceIdeal.Value.run (F := Ideal) m ρ

end Cert.UpRef
-- ==== Proof.UpClaims.lean ====
/-
# The claims about the backward pass of the up projection

Each frame is the one run with the values dropped; the value claim is its instance over the extended reals beside the
reference's run, the two read at an index.
-/
module

public import proofs.«01_k».proof.Defs
public import proofs.«01_k».proof.Proof.UpValue
public import proofs.«01_k».proof.Proof.UpRef
public import proofs.«01_k».proof.Proof.Gen.UpKernel

@[expose] public section

set_option maxRecDepth 16384

noncomputable section

namespace Cert.UpBwd

open Idealize.ShloMosaic Idealize.ShloMosaic.TcCoe Idealize.SL.Sem
open Cert.UpKernelIdeal Cert.UpKernelIdeal.Gen Cert.UpRows

variable {F : FTy → Type} [FloatOps F]

/-- A run leaves the ten arguments as they were. -/
theorem args_kept {m : (ℓ : Loc nD τ sig) → Buf (Elt F) ℓ} {s : MemSt nD τ sig (Elt F)} (h : Ended m s) (c : Dev nD) :
    s.mem (c.tc.loc main_arg0) = m (c.tc.loc main_arg0)
    ∧ s.mem (c.tc.loc main_arg1) = m (c.tc.loc main_arg1)
    ∧ s.mem (c.tc.loc main_arg2) = m (c.tc.loc main_arg2)
    ∧ s.mem (c.tc.loc main_arg3) = m (c.tc.loc main_arg3)
    ∧ s.mem (c.tc.loc main_arg4) = m (c.tc.loc main_arg4)
    ∧ s.mem (c.tc.loc main_arg5) = m (c.tc.loc main_arg5)
    ∧ s.mem (c.tc.loc main_arg6) = m (c.tc.loc main_arg6)
    ∧ s.mem (c.tc.loc main_arg7) = m (c.tc.loc main_arg7)
    ∧ s.mem (c.tc.loc main_arg8) = m (c.tc.loc main_arg8)
    ∧ s.mem (c.tc.loc main_arg9) = m (c.tc.loc main_arg9) :=
  ⟨((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _),
    ((h c).1 4).trans ((dats m 0 c).arrAt_in 4 rfl _),
    ((h c).1 5).trans ((dats m 0 c).arrAt_in 5 rfl _),
    ((h c).1 6).trans ((dats m 0 c).arrAt_in 6 rfl _),
    ((h c).1 7).trans ((dats m 0 c).arrAt_in 7 rfl _),
    ((h c).1 8).trans ((dats m 0 c).arrAt_in 8 rfl _), (h c).2.1⟩

theorem frame_ideal : Cert.quiescent_UpKernelIdeal := fun m ρ _ =>
  (θ_run Cert.UpKernelIdeal.defs _ _).mono (fun _ h => ⟨args_kept h.1, h.2⟩) (run_main (F := Ideal) m ρ)

set_option maxHeartbeats 4000000 in
/-- The two programs have one body table. -/
theorem tables_eq : Cert.UpKernel.defs (F := F) = Cert.UpKernelIdeal.defs (F := F) :=
  congrArg (Pipeline.defs _) (congrArg Defs.onTc (one_row rfl))

theorem frame_kernel : Cert.quiescent_UpKernel := fun m ρ _ => by
  have h := (θ_run Cert.UpKernelIdeal.defs _ _).mono (fun _ h => (⟨args_kept h.1, h.2⟩ : _ ∧ _)) (run_main (F := Bits) m ρ)
  rw [← tables_eq] at h
  exact h

theorem frame_reference : Cert.quiescent_UpReferenceIdeal := fun m ρ _ =>
  (θ_run Cert.UpReferenceIdeal.defs _ _).mono (fun r h => ⟨fun c => (h c).2.2.2.2, sem_eq_zero_of_no_sems (by decide) r.2⟩) (Cert.UpRef.run m ρ)

variable (m : (ℓ : Loc Cert.UpKernelIdeal.nD Cert.UpKernelIdeal.τ Cert.UpKernelIdeal.sig) → Buf (Elt Ideal) ℓ)
  (m' : (ℓ : Loc Cert.UpReferenceIdeal.nD Cert.UpReferenceIdeal.τ Cert.UpReferenceIdeal.sig) → Buf (Elt Ideal) ℓ)

/-- Sequence `b` of device `c` among all sixteen. -/
def seqIn (c : Fin 8) (b : Fin 2) : Fin 16 := ⟨c.val * 2 + b.val, by omega⟩

theorem wide_at (c : Fin 8) (X : Cert.UpReferenceIdeal.S16x2048x4096.Idx → EReal) (b : Fin 2) (r : Fin 2048) (k : Fin 4096) :
    Layout.block ⟨3, ![2, 2048, 4096]⟩ ⟨3, ![16, 2048, 4096]⟩ 0 8 c X (by decide) (ix3 b r k) = X (ix3 (seqIn c b) r k) :=
  (Layout.block_apply ..).trans (congrArg X (Layout.idx_ext fun a => by fin_cases a <;> rfl))
theorem rows_at (c : Fin 8) (X : Cert.UpReferenceIdeal.S16x2048x1024.Idx → EReal) (b : Fin 2) (r : Fin 2048) (k : Fin 1024) :
    Layout.block ⟨3, ![2, 2048, 1024]⟩ ⟨3, ![16, 2048, 1024]⟩ 0 8 c X (by decide) (ix3 b r k) = X (ix3 (seqIn c b) r k) :=
  (Layout.block_apply ..).trans (congrArg X (Layout.idx_ext fun a => by fin_cases a <;> rfl))
theorem lone_at (c : Fin 8) (X : Cert.UpReferenceIdeal.S16x1x1024.Idx → EReal) (b : Fin 2) (k : Fin 1024) :
    Layout.block ⟨3, ![2, 1, 1024]⟩ ⟨3, ![16, 1, 1024]⟩ 0 8 c X (by decide) (ix3 b 0 k) = X (ix3 (seqIn c b) 0 k) :=
  (Layout.block_apply ..).trans (congrArg X (Layout.idx_ext fun a => by fin_cases a <;> rfl))

theorem other_val : ∀ c : Dev nD, (other c).val = 2 * (c.val / 2) + (1 - c.val % 2) := by decide +kernel

/-- The half that lands on device `c` is block `c` of the exchanged array. -/
theorem landed_block (c : Dev nD) (G : Cert.UpReferenceIdeal.S16x4x512x1024.Idx → EReal) (y : S4x512x1024.Idx) :
    Layout.block ⟨4, ![2, 4, 512, 1024]⟩ ⟨4, ![16, 4, 512, 1024]⟩ 0 8 (other c) G (by decide) (ix4 (core c) (y 0) (y 1) (y 2) : S2x4x512x1024.Idx)
      = Layout.block ⟨3, ![4, 512, 1024]⟩ ⟨3, ![32, 512, 1024]⟩ 0 8 c (Cert.UpRef.exchanged G) (by decide) y := by
  have hc : c.val < 8 := c.isLt
  have hy : (y 0).val < 4 := (y 0).isLt
  have e : (Layout.Tiles.idx (by decide : Layout.Tiles ⟨3, ![4, 512, 1024]⟩ ⟨3, ![32, 512, 1024]⟩ 0 8) c y)
      = ix3 ⟨c.val * 4 + (y 0).val, by omega⟩ (y 1) (y 2) := Layout.idx_ext fun a => by fin_cases a <;> rfl
  rw [Layout.block_apply, Layout.block_apply, e]
  refine Eq.trans ?_ (Cert.UpRef.exchanged_at G _ _ _ (by dsimp only; omega)).symm
  refine congrArg G (Layout.idx_ext fun a => ?_)
  fin_cases a
  · show (other c).val * 2 + c.val % 2 = (c.val * 4 + (y 0).val) / 8 * 4 + 2 * (1 - (c.val * 4 + (y 0).val) / 4 % 2) + (c.val * 4 + (y 0).val) / 4 % 2
    rw [other_val]; omega
  · show (y 0).val = (c.val * 4 + (y 0).val) % 4
    omega
  · rfl
  · rfl

/-- The device arrays are the blocks of the whole ones. -/
abbrev Tiled : Prop :=
  (∀ c : Dev Cert.UpKernelIdeal.nD,
        m (c.tc.loc Cert.UpKernelIdeal.main_arg0) = Layout.block ⟨3, ![2, 2048, 4096]⟩ ⟨3, ![16, 2048, 4096]⟩ 0 8 c (m' ((0 : Dev Cert.UpReferenceIdeal.nD).tc.loc Cert.UpReferenceIdeal.main_arg0))
        ∧ m (c.tc.loc Cert.UpKernelIdeal.main_arg1) = m' ((0 : Dev Cert.UpReferenceIdeal.nD).tc.loc Cert.UpReferenceIdeal.main_arg1)
        ∧ m (c.tc.loc Cert.UpKernelIdeal.main_arg2) = Layout.block ⟨3, ![2, 2048, 1024]⟩ ⟨3, ![16, 2048, 1024]⟩ 0 8 c (m' ((0 : Dev Cert.UpReferenceIdeal.nD).tc.loc Cert.UpReferenceIdeal.main_arg2))
        ∧ m (c.tc.loc Cert.UpKernelIdeal.main_arg3) = Layout.block ⟨3, ![2, 2048, 1024]⟩ ⟨3, ![16, 2048, 1024]⟩ 0 8 c (m' ((0 : Dev Cert.UpReferenceIdeal.nD).tc.loc Cert.UpReferenceIdeal.main_arg3))
        ∧ m (c.tc.loc Cert.UpKernelIdeal.main_arg4) = Layout.block ⟨3, ![2, 2048, 1024]⟩ ⟨3, ![16, 2048, 1024]⟩ 0 8 c (m' ((0 : Dev Cert.UpReferenceIdeal.nD).tc.loc Cert.UpReferenceIdeal.main_arg4))
        ∧ m (c.tc.loc Cert.UpKernelIdeal.main_arg5) = m' ((0 : Dev Cert.UpReferenceIdeal.nD).tc.loc Cert.UpReferenceIdeal.main_arg5)
        ∧ m (c.tc.loc Cert.UpKernelIdeal.main_arg6) = Layout.block ⟨3, ![2, 1, 1024]⟩ ⟨3, ![16, 1, 1024]⟩ 0 8 c (m' ((0 : Dev Cert.UpReferenceIdeal.nD).tc.loc Cert.UpReferenceIdeal.main_arg6))
        ∧ m (c.tc.loc Cert.UpKernelIdeal.main_arg7) = m' ((0 : Dev Cert.UpReferenceIdeal.nD).tc.loc Cert.UpReferenceIdeal.main_arg7)
        ∧ m (c.tc.loc Cert.UpKernelIdeal.main_arg8) = Layout.block ⟨3, ![2, 1, 1024]⟩ ⟨3, ![16, 1, 1024]⟩ 0 8 c (m' ((0 : Dev Cert.UpReferenceIdeal.nD).tc.loc Cert.UpReferenceIdeal.main_arg8))
        ∧ m (c.tc.loc Cert.UpKernelIdeal.main_arg9) = Layout.block ⟨4, ![2, 4, 512, 1024]⟩ ⟨4, ![16, 4, 512, 1024]⟩ 0 8 c (m' ((0 : Dev Cert.UpReferenceIdeal.nD).tc.loc Cert.UpReferenceIdeal.main_arg9)))

variable {m m'}

/-- A row of a device is that row of the whole arrays. -/
theorem row_eq (hm : Tiled m m') (c : Dev nD) (b : Fin 2) (r : Fin 2048) :
    devRow m c b r = Cert.UpRef.refRow m' 0 (seqIn c b) r := by
  unfold devRow Cert.UpRef.refRow
  congr 1
  · exact funext fun k => (congrFun (hm c).1 (ix3 b r k : S2x2048x4096.Idx)).trans (wide_at c _ b r k)
  · exact (hm c).2.1
  · exact funext fun k => (congrFun (hm c).2.2.1 (ix3 b r k : S2x2048x1024.Idx)).trans (rows_at c _ b r k)
  · exact funext fun k => (congrFun (hm c).2.2.2.1 (ix3 b r k : S2x2048x1024.Idx)).trans (rows_at c _ b r k)
  · exact funext fun k => (congrFun (hm c).2.2.2.2.1 (ix3 b r k : S2x2048x1024.Idx)).trans (rows_at c _ b r k)
  · exact funext fun k => congrFun (hm c).2.2.2.2.2.1 (ix2 0 k : S1x1024.Idx)
  · exact funext fun k => (congrFun (hm c).2.2.2.2.2.2.1 (ix3 b 0 k : S2x1x1024.Idx)).trans (lone_at c _ b k)
  · exact funext fun k => congrFun (hm c).2.2.2.2.2.2.2.1 (ix2 0 k : S1x1024.Idx)
  · exact funext fun k => (congrFun (hm c).2.2.2.2.2.2.2.2.1 (ix3 b 0 k : S2x1x1024.Idx)).trans (lone_at c _ b k)

theorem three (i : S2x2048x1024.Idx) : i = ix3 (i 0) (i 1) (i 2) := Layout.idx_ext fun a => by fin_cases a <;> rfl
theorem three' (i : S2x1x1024.Idx) : i = ix3 (i 0) 0 (i 2) := Layout.idx_ext fun a => by
  have h : (i 1).val < 1 := (i 1).isLt
  fin_cases a
  · rfl
  · show (i 1).val = 0
    omega
  · rfl

theorem dx1_block (hm : Tiled m m') (c : Dev nD) :
    dx1Array m c = Layout.block ⟨3, ![2, 2048, 1024]⟩ ⟨3, ![16, 2048, 1024]⟩ 0 8 c (Cert.UpRef.firstOf m' 0) := by
  funext i
  refine Eq.trans ?_ (congrArg (Layout.block ⟨3, ![2, 2048, 1024]⟩ ⟨3, ![16, 2048, 1024]⟩ 0 8 c (Cert.UpRef.firstOf m' 0) (by decide)) (three i)).symm
  refine Eq.trans ?_ ((rows_at c (Cert.UpRef.firstOf m' 0) (i 0) (i 1) (i 2)).trans (Cert.UpRef.first_at m' 0 _ _ _)).symm
  exact congrArg (fun R => dx1 R (i 2)) (row_eq hm c (i 0) (i 1))

theorem dmix_block (hm : Tiled m m') (c : Dev nD) :
    dmixArray m c = Layout.block ⟨3, ![2, 2048, 1024]⟩ ⟨3, ![16, 2048, 1024]⟩ 0 8 c (Cert.UpRef.secondOf m' 0) := by
  funext i
  refine Eq.trans ?_ (congrArg (Layout.block ⟨3, ![2, 2048, 1024]⟩ ⟨3, ![16, 2048, 1024]⟩ 0 8 c (Cert.UpRef.secondOf m' 0) (by decide)) (three i)).symm
  refine Eq.trans ?_ ((rows_at c (Cert.UpRef.secondOf m' 0) (i 0) (i 1) (i 2)).trans (Cert.UpRef.second_at m' 0 _ _ _)).symm
  exact congrArg (fun R => dmix R (i 2)) (row_eq hm c (i 0) (i 1))

theorem shift_block (hm : Tiled m m') (c : Dev nD) :
    shiftArray m c = Layout.block ⟨3, ![2, 1, 1024]⟩ ⟨3, ![16, 1, 1024]⟩ 0 8 c (Cert.UpRef.shift (Cert.UpRef.projected m' 0)) := by
  funext i
  refine Eq.trans ?_ (congrArg (Layout.block ⟨3, ![2, 1, 1024]⟩ ⟨3, ![16, 1, 1024]⟩ 0 8 c (Cert.UpRef.shift (Cert.UpRef.projected m' 0)) (by decide)) (three' i)).symm
  refine Eq.trans ?_ ((lone_at c (Cert.UpRef.shift (Cert.UpRef.projected m' 0)) (i 0) (i 2)).trans (Cert.UpRef.shift_at m' 0 _ _)).symm
  exact Finset.sum_congr rfl fun r _ => congrArg (fun R => dh2 R (i 2)) (row_eq hm c (i 0) r)

/-- Each device's four results are its blocks of the reference's. -/
theorem values : Cert.algebraic_UpKernelIdeal_UpReferenceIdeal := by
  intro m g m' g' _ hm
  refine ⟨_, _, _, _, (θ_run Cert.UpKernelIdeal.defs _ _).mono (fun r h c => ⟨?_, ?_, ?_, ?_, args_kept h.1 c⟩) (run_main (F := Ideal) m g),
    (θ_run Cert.UpReferenceIdeal.defs _ _).mono (fun r h => h 0) (Cert.UpRef.run m' g')⟩
  · exact ((h.1 c).1 9).trans ((final_9 m c).trans (dx1_block hm c))
  · exact ((h.1 c).1 10).trans ((final_10 m c).trans (dmix_block hm c))
  · exact ((h.1 c).1 12).trans ((final_12 m c).trans (shift_block hm c))
  · refine (h.1 c).2.2.trans (funext fun y => ?_)
    refine (landed_apply m c y).trans ?_
    rw [(hm (other c)).2.2.2.2.2.2.2.2.2]
    exact landed_block c _ y

end Cert.UpBwd
-- ==== Proof.Gather.lean ====
/-
# An all-gather of several arrays

Every device holds a block of each array and ends with the blocks of all devices. Device `c` copies its block into its
own place of its result, and sends it to the other core of its chip (`sib`) and to the same core of three other chips
(`chip j`). What arrives from those chips it passes on to the other core of its chip, so four copies carry the device's
own block and three carry the block of another device. A copy that passes a block on can be started only once that block
has landed, so while a device waits for the first landings it still owes the second ones: the levels of the plan order
the two (Exchange.lean).

* `Gather`: the arrays, the places of the blocks, the devices, the semaphores;
* `plan`: what each semaphore hands over: the source back, a block landed in its place;
* `Follows`: that a program issues the copies and waits of a list of `Step`s, whatever text it is printed in;
* `steps`: the list for a given order of the arrays;
* `wp_gather`: a program that follows `steps` runs from `holdings` to `gathered`.
-/
module

public import proofs.«01_k».proof.Proof.Copies

@[expose] public section

set_option synthInstance.maxSize 4096

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

local notation "𝕄" => MT nD τ sig Unit Val ℕ (UU nD τ sig) ℕ

/-- The copies of a device's own block: to the other core of its chip, to three other chips. -/
abbrev First : Type := Unit ⊕ Fin 3
/-- All copies of an array to other devices: of the own block, and of the three blocks passed on. -/
abbrev Hop : Type := First ⊕ Fin 3

variable (nD sig) in
/-- An all-gather: the arrays and how the devices exchange them. -/
structure Gather (A : Type) where
  sh : A → Shape
  shO : A → Shape
  el : A → EltTy
  /-- A device's block. -/
  inp : (a : A) → Memref sig .tc .hbm (sh a) (el a)
  /-- A device's result. -/
  out : (a : A) → Memref sig .tc .hbm (shO a) (el a)
  /-- The place of each device's block in the result. -/
  rect : (a : A) → Dev nD → Rect (shO a)
  rect_unit : ∀ a o i, (rect a o).stride i = 1
  squeezes : ∀ a o, (rect a o).shape.Squeezes (sh a)
  sib : Equiv.Perm (Dev nD)
  chip : Fin 3 → Equiv.Perm (Dev nD)
  ssem : A → Hop → DmaSem sig
  rsem : A → Hop → DmaSem sig
  /-- The semaphore of the copy within the device. -/
  hsem : A → DmaSem sig
  inj : Function.Injective (Sum.elim (Sum.elim (fun x : A × Hop => ssem x.1 x.2) (fun x : A × Hop => rsem x.1 x.2)) hsem)

namespace Gather

variable {A : Type} [Fintype A] [DecidableEq A] (C : Gather nD sig A) (m : (ℓ : Loc nD τ sig) → Buf Val ℓ)

/-- The place of device `o`'s block of array `a`. -/
def place (a : A) (o : Dev nD) : Memref sig .tc .hbm (C.sh a) (C.el a) :=
  ((C.out a).slice (C.rect a o) (C.rect_unit a o)).squeeze (C.sh a) (C.squeezes a o)

/-- Device `c`'s copy `h` goes to `peer h c` -/
def peer : Hop → Equiv.Perm (Dev nD)
  | .inl (.inl _) => C.sib
  | .inl (.inr j) => C.chip j
  | .inr _ => C.sib
/-- and carries the block of `origin h c`; -/
def origin : Hop → Dev nD → Dev nD
  | .inl _, c => c
  | .inr j, c => (C.chip j).symm c
/-- the copy `h` that lands on `d` carries the block of `sender h d`. -/
def sender (h : Hop) (d : Dev nD) : Dev nD := C.origin h ((C.peer h).symm d)
/-- What copy `h` reads. -/
def source (a : A) : Hop → Dev nD → Memref sig .tc .hbm (C.sh a) (C.el a)
  | .inl _, _ => C.inp a
  | .inr j, c => C.place a ((C.chip j).symm c)

/-- The units of a copy of array `a`. -/
structure Amounts where
  amount : A → ℕ
  place_eq : ∀ a o, (C.place a o).view.dmaCredit = amount a
  pos : ∀ a, 0 < amount a

variable (N : C.Amounts)

/-- The shares of a block that its five readers borrow. -/
def shareHere : PosShare TreeShare := fullShare.left
def shareOf : First → PosShare TreeShare
  | .inl _ => fullShare.right.left
  | .inr ⟨0, _⟩ => fullShare.right.right.left
  | .inr ⟨1, _⟩ => fullShare.right.right.right.left
  | .inr ⟨2, _⟩ => fullShare.right.right.right.right
  | .inr ⟨_ + 3, h⟩ => absurd h (by omega)

/-- A share of device `c`'s block as launched. -/
def blockPts (a : A) (q : PosShare TreeShare) (c : Dev nD) : sProp 𝕄 :=
  (C.inp a).view.loc (c.tc : Thread nD τ) ↦[(C.inp a).view.set]{q} m ((C.inp a).view.loc (c.tc : Thread nD τ))
/-- The place of `o`'s block on device `c`, as launched. -/
def room (a : A) (o c : Dev nD) : sProp 𝕄 :=
  (C.place a o).view.loc (c.tc : Thread nD τ) ↦[(C.place a o).view.set]{fullShare} m ((C.place a o).view.loc (c.tc : Thread nD τ))
/-- The block of device `o`. -/
def block (a : A) (o : Dev nD) : (C.sh a).Idx → Val (C.el a) :=
  (C.inp a).view.read Val (m ((C.inp a).view.loc (o.tc : Thread nD τ)))
/-- Device `c`'s result buffer with `o`'s block in its place. -/
def placed (a : A) (o c : Dev nD) : Buf Val ((C.place a o).view.loc (c.tc : Thread nD τ)) :=
  (C.place a o).view.write Val (m ((C.place a o).view.loc (c.tc : Thread nD τ))) (C.block m a o) Finset.univ
/-- Device `c` holds `o`'s block in its place. -/
def held (a : A) (o c : Dev nD) : sProp 𝕄 :=
  (C.place a o).view.loc (c.tc : Thread nD τ) ↦[(C.place a o).view.set]{fullShare} C.placed m a o c
/-- What copy `h` borrows from device `c`. -/
def carried (a : A) : Hop → Dev nD → sProp 𝕄
  | .inl f, c => C.blockPts m a (shareOf f) c
  | .inr j, c => C.held m a ((C.chip j).symm c) c

instance blockPts_storable (a : A) (q : PosShare TreeShare) (c : Dev nD) : BI.Storable (upEmb : UEmb _ 𝕄) (C.blockPts m a q c) := by
  unfold blockPts; infer_instance
instance held_storable (a : A) (o c : Dev nD) : BI.Storable (upEmb : UEmb _ 𝕄) (C.held m a o c) := by unfold held; infer_instance
instance carried_storable (a : A) (h : Hop) (c : Dev nD) : BI.Storable (upEmb : UEmb _ 𝕄) (C.carried m a h c) := by
  rcases h with f | j
  · exact C.blockPts_storable m a _ c
  · exact C.held_storable m a _ c

/-- The kernel's own semaphores: of the sources read, of the landings, of the copies within the device. -/
abbrev Sems (A : Type) : Type := ((A × Hop) ⊕ (A × Hop)) ⊕ A
def landing : A × Hop ↪ Sems A := ⟨fun x => .inl (.inr x), fun _ _ h => Sum.inr_injective (Sum.inl_injective h)⟩
/-- The blocks passed on land after the others. -/
def levelOf : Sems A → ℕ
  | .inl (.inr (_, .inr _)) => 2
  | _ => 1

/-- The plan of the exchange. -/
def plan : Plan nD τ sig Val (Sems A) where
  osem := fun j => .dma ((Sum.elim (Sum.elim (fun x : A × Hop => C.ssem x.1 x.2) (fun x : A × Hop => C.rsem x.1 x.2)) C.hsem) j)
  inj := fun _ _ h => C.inj (SemLoc.dma.inj h)
  payer := Sum.elim (Sum.elim (fun _ => Equiv.refl _) (fun x => C.peer x.2)) (fun _ => Equiv.refl _)
  far := Finset.univ.map landing
  amount := Sum.elim (Sum.elim (fun x => N.amount x.1) (fun x => N.amount x.1)) N.amount
  amount_pos := by rintro ((x | x) | a) <;> exact N.pos _
  lev := levelOf
  lev_pos := by rintro ((x | ⟨a, h | j⟩) | a) <;> exact Nat.succ_pos _
  pay c := Sum.elim (Sum.elim (fun x => C.carried m x.1 x.2 c) (fun x => C.held m x.1 (C.sender x.2 c) c))
    (fun a => iprop(C.held m a c c ∗ C.blockPts m a shareHere c))
  storable c := by
    rintro ((x | x) | a)
    · exact C.carried_storable m x.1 x.2 c
    · exact C.held_storable m x.1 _ c
    · show BI.Storable _ (iprop(C.held m a c c ∗ C.blockPts m a shareHere c))
      infer_instance

theorem pay_sent (c : Dev nD) (x : A × Hop) : (C.plan m N).pay c (Sum.inl (Sum.inl x)) = C.carried m x.1 x.2 c := rfl
theorem pay_landed (c : Dev nD) (x : A × Hop) : (C.plan m N).pay c (Sum.inl (Sum.inr x)) = C.held m x.1 (C.sender x.2 c) c := rfl
theorem pay_here (c : Dev nD) (a : A) : (C.plan m N).pay c (Sum.inr a) = iprop(C.held m a c c ∗ C.blockPts m a shareHere c) := rfl

abbrev sendCell (x : A × Hop) (c : Dev nD) : GSem nD τ sig := ((c.tc : Thread nD τ), .dma (C.ssem x.1 x.2))
abbrev recvCell (x : A × Hop) (c : Dev nD) : GSem nD τ sig := ((c.tc : Thread nD τ), .dma (C.rsem x.1 x.2))
abbrev hereCell (a : A) (c : Dev nD) : GSem nD τ sig := ((c.tc : Thread nD τ), .dma (C.hsem a))

/-! ## The states of one copy -/

/-- The right to start copy `x`: its place on the other device, the rights to credit its two cells, its own cell. -/
def right (x : A × Hop) (c : Dev nD) : sProp 𝕄 :=
  iprop(C.room m x.1 (C.origin x.2 c) (C.peer x.2 c) ∗ dutyTok (ER nD τ sig Val) (C.sendCell x c) 0 ()
    ∗ dutyTok (ER nD τ sig Val) (C.recvCell x (C.peer x.2 c)) 0 () ∗ atPos (ER nD τ sig Val) (C.sendCell x c) 0 ∅ 0)
/-- Copy `x` is under way. -/
def going (x : A × Hop) (c : Dev nD) : sProp 𝕄 :=
  iprop(cred (tallyAt (C.sendCell x c) () (N.amount x.1)) ∗ atPos (ER nD τ sig Val) (C.sendCell x c) 0 ∅ 0)
/-- The landing of copy `x` is expected. -/
def expected (x : A × Hop) (c : Dev nD) : sProp 𝕄 :=
  iprop(cred (tallyAt (C.recvCell x c) () (N.amount x.1)) ∗ atPos (ER nD τ sig Val) (C.recvCell x c) 0 ∅ 0)
/-- The source of copy `x` has been read. -/
def sent (x : A × Hop) (c : Dev nD) : sProp 𝕄 := iprop(semVal (C.sendCell x c) 0 ∗ C.carried m x.1 x.2 c)
/-- Copy `x` has landed. -/
def landed (x : A × Hop) (c : Dev nD) : sProp 𝕄 := iprop(semVal (C.recvCell x c) 0 ∗ C.held m x.1 (C.sender x.2 c) c)
/-- The three states of the copy within the device. -/
def hereRight (a : A) (c : Dev nD) : sProp 𝕄 :=
  iprop(C.room m a c c ∗ C.blockPts m a shareHere c ∗ dutyTok (ER nD τ sig Val) (C.hereCell a c) 0 () ∗ atPos (ER nD τ sig Val) (C.hereCell a c) 0 ∅ 0)
def hereGoing (a : A) (c : Dev nD) : sProp 𝕄 :=
  iprop(cred (tallyAt (C.hereCell a c) () (N.amount a)) ∗ atPos (ER nD τ sig Val) (C.hereCell a c) 0 ∅ 0)
def hereDone (a : A) (c : Dev nD) : sProp 𝕄 := iprop(semVal (C.hereCell a c) 0 ∗ C.held m a c c ∗ C.blockPts m a shareHere c)

/-- The landing that device `c` owes for copy `x`. -/
def debt (x : A × Hop) (c : Dev nD) : CellTallies nD τ sig Unit := tallyAt (C.recvCell x (C.peer x.2 c)) () (N.amount x.1)

/-! ## Programs that issue given copies and waits -/

/-- One memory operation of an all-gather. -/
inductive Step (A : Type) where
  | here (a : A)
  | send (x : A × Hop)
  | waitLanded (x : A × Hop)
  | waitSent (x : A × Hop)
  | waitHere (a : A)

variable {Λ : Labels}

/-- On device `c` the program issues these operations, in this order. -/
inductive Follows (c : Dev nD) : Prog (TpuEff nD τ sig Val Λ .tc) PUnit → List (Step A) → Prop
  | done : Follows c (.ret ⟨⟩) []
  | here {a : A} {l : List (Step A)} {K : PUnit → Prog (TpuEff nD τ sig Val Λ .tc) PUnit}
      {S D : Memref sig .tc .hbm (C.sh a) (C.el a)} {sm : SemLoc sig} {h₁ h₂ h₃}
      (hS : S = C.inp a) (hD : D = C.place a c) (hs : sm = .dma (C.hsem a)) (hl : Follows c (K ⟨⟩) l) :
      Follows c (.op (.enqueueDma S (.here D) sm h₁ h₂ h₃) K) (.here a :: l)
  | send {x : A × Hop} {l : List (Step A)} {K : PUnit → Prog (TpuEff nD τ sig Val Λ .tc) PUnit}
      {S D : Memref sig .tc .hbm (C.sh x.1) (C.el x.1)} {ss sr : SemLoc sig} {p : Dev nD} {h₀ h₁ h₂ h₃}
      (hS : S = C.source x.1 x.2 c) (hD : D = C.place x.1 (C.origin x.2 c)) (hp : p = C.peer x.2 c)
      (hss : ss = .dma (C.ssem x.1 x.2)) (hsr : sr = .dma (C.rsem x.1 x.2)) (hl : Follows c (K ⟨⟩) l) :
      Follows c (.op (.enqueueDma S (.remote (Dev.tc p) D ss h₀) sr h₁ h₂ h₃) K) (.send x :: l)
  | waitLanded {x : A × Hop} {l : List (Step A)} {K : PUnit → Prog (TpuEff nD τ sig Val Λ .tc) PUnit}
      {sp sp' : Space} {s s' : Shape} {e e' : EltTy} {S : Memref sig .tc sp s e} {D : Memref sig .tc sp' s' e'} {sm : DmaSem sig} {h₁ h₂}
      (hs : sm = C.rsem x.1 x.2) (hn : D.view.dmaCredit = N.amount x.1) (hl : Follows c (K ⟨⟩) l) :
      Follows c (.op (.waitDma2 sm S D h₁ h₂) K) (.waitLanded x :: l)
  | waitSent {x : A × Hop} {l : List (Step A)} {K : PUnit → Prog (TpuEff nD τ sig Val Λ .tc) PUnit}
      {sp sp' : Space} {s s' : Shape} {e e' : EltTy} {S : Memref sig .tc sp s e} {D : Memref sig .tc sp' s' e'} {sm : DmaSem sig} {h₁ h₂}
      (hs : sm = C.ssem x.1 x.2) (hn : D.view.dmaCredit = N.amount x.1) (hl : Follows c (K ⟨⟩) l) :
      Follows c (.op (.waitDma2 sm S D h₁ h₂) K) (.waitSent x :: l)
  | waitHere {a : A} {l : List (Step A)} {K : PUnit → Prog (TpuEff nD τ sig Val Λ .tc) PUnit}
      {sp sp' : Space} {s s' : Shape} {e e' : EltTy} {S : Memref sig .tc sp s e} {D : Memref sig .tc sp' s' e'} {sm : DmaSem sig} {h₁ h₂}
      (hs : sm = C.hsem a) (hn : D.view.dmaCredit = N.amount a) (hl : Follows c (K ⟨⟩) l) :
      Follows c (.op (.waitDma2 sm S D h₁ h₂) K) (.waitHere a :: l)

variable {defs : Defs nD τ sig Val Λ} (𝒱 : Variants) (bd : Option 𝒱.V)

/-- From `P` every program of device `c` that follows the list runs to `Q`. -/
def Runs (defs : Defs nD τ sig Val Λ) (c : Dev nD) (P : sProp 𝕄) (l : List (Step A)) (Q : sProp 𝕄) : Prop :=
  ∀ p : Prog (TpuEff nD τ sig Val Λ .tc) PUnit, C.Follows N c p l →
    P ⊢ wp frame (wpE defs 𝒱 (c.tc : Thread nD τ) bd) Set.univ p (fun _ => Q)

theorem Runs.mono {c : Dev nD} {P P' Q : sProp 𝕄} {l : List (Step A)} (h : P ⊢ P') (hr : C.Runs N 𝒱 bd defs c P' l Q) :
    C.Runs N 𝒱 bd defs c P l Q := fun p hp => h.trans (hr p hp)

/-- Nothing is left to do. -/
theorem runs_done (c : Dev nD) (P : sProp 𝕄) : C.Runs N 𝒱 bd defs c P [] P := by
  intro p hp
  cases hp
  rw [wp_ret]
  iintro H
  imodintro
  iexact H

/-- What a device owes, whatever it has waited for. -/
def owed (c : Dev nD) (O : CellTallies nD τ sig Unit) : sProp 𝕄 := iprop(∃ W, owes (c.tc : Thread nD τ) O W)

theorem runs_here (c : Dev nD) (κ : Dev nD × Sems A → ℕ) (a : A) {l : List (Step A)} {Q R : sProp 𝕄}
    (h : C.Runs N 𝒱 bd defs c iprop((C.plan m N).records κ ∗ C.hereGoing N a c ∗ R) l Q) :
    C.Runs N 𝒱 bd defs c iprop((C.plan m N).records κ ∗ C.hereRight m a c ∗ R) (.here a :: l) Q := by
  intro p hp
  cases hp with
  | here hS hD hs hl =>
  subst hS hD hs
  have hstep := fun h₁ h₂ h₃ K => (C.plan m N).wp_launch_here 𝒱 bd (defs := defs) (α := PUnit) c κ (Sum.inr a) (src := C.inp a) (dst := C.place a c) (q := shareHere)
    (fs := m ((C.inp a).view.loc (c.tc : Thread nD τ))) (fd := m ((C.place a c).view.loc (c.tc : Thread nD τ)))
    (hsrc := h₁) (hdst := h₂) (hsem := h₃) (k := K) (Q := fun _ => Q) (N.place_eq a c) (by
      show _ ⊢ iprop(C.held m a c c ∗ C.blockPts m a shareHere c)
      unfold held blockPts placed block
      iintro H; iexact H)
  have hnext := h _ hl
  unfold hereGoing at hnext
  unfold hereRight room blockPts
  iintro ⟨#HR, ⟨Hd, Hs, Ht, Ha⟩, HF⟩
  iapply hstep $$ [Hd Hs Ht]
  · isplitr; · iexact HR
    isplitl [Hs]; · iexact Hs
    isplitl [Hd]; · iexact Hd
    iexact Ht
  iintro Hc
  iapply hnext
  isplitr; · iexact HR
  isplitr [HF]
  · isplitl [Hc]; · iexact Hc
    iexact Ha
  iexact HF

theorem runs_send (c : Dev nD) (κ : Dev nD × Sems A → ℕ) (x : A × Hop) (O : CellTallies nD τ sig Unit) {l : List (Step A)} {Q R : sProp 𝕄}
    (hr : ∀ c' : Dev nD, τ.routes (c.tc : Thread nD τ) (c'.tc : Thread nD τ) = true)
    (h : C.Runs N 𝒱 bd defs c iprop((C.plan m N).records κ ∗ C.going N x c ∗ owed c O ∗ R) l Q) :
    C.Runs N 𝒱 bd defs c iprop((C.plan m N).records κ ∗ (C.right m x c ∗ C.carried m x.1 x.2 c) ∗ owed c (O + C.debt N x c) ∗ R) (.send x :: l) Q := by
  intro p hp
  cases hp with
  | send hS hD hp hss hsr hl =>
  subst hS hD hp hss hsr
  obtain ⟨a, h'⟩ := x
  have hland : ∀ d, d = C.peer h' c → ((C.place a (C.origin h' c)).view.loc (d.tc : Thread nD τ) ↦[(C.place a (C.origin h' c)).view.set]{fullShare}
      C.placed m a (C.origin h' c) d : sProp 𝕄) ⊢ C.held m a (C.sender h' d) d := by
    rintro d rfl
    unfold sender
    rw [Equiv.symm_apply_apply]
    unfold held
    iintro H; iexact H
  have hcarry : C.carried m a h' c ⊢ iprop(∃ (q : PosShare TreeShare) (fs : Buf Val ((C.source a h' c).view.loc (c.tc : Thread nD τ))),
      ⌜(C.source a h' c).view.read Val fs = C.block m a (C.origin h' c)
        ∧ (((C.source a h' c).view.loc (c.tc : Thread nD τ) ↦[(C.source a h' c).view.set]{q} fs : sProp 𝕄) ⊢ C.carried m a h' c)⌝
      ∗ ((C.source a h' c).view.loc (c.tc : Thread nD τ) ↦[(C.source a h' c).view.set]{q} fs)) := by
    rcases h' with f | j
    · iintro H
      iexists (shareOf f), (m ((C.inp a).view.loc (c.tc : Thread nD τ)))
      isplitr
      · ipureintro
        refine ⟨rfl, ?_⟩
        show _ ⊢ C.blockPts m a (shareOf f) c
        unfold blockPts
        iintro H; iexact H
      · have e : C.carried m a (Sum.inl f) c ⊢ ((C.source a (Sum.inl f) c).view.loc (c.tc : Thread nD τ) ↦[(C.source a (Sum.inl f) c).view.set]{shareOf f}
            (m ((C.inp a).view.loc (c.tc : Thread nD τ))) : sProp 𝕄) := by
          show C.blockPts m a (shareOf f) c ⊢ _
          unfold blockPts
          iintro H; iexact H
        iapply e; iexact H
    · iintro H
      iexists fullShare, (C.placed m a ((C.chip j).symm c) c)
      isplitr
      · ipureintro
        refine ⟨View.read_write_univ _ _, ?_⟩
        show _ ⊢ C.held m a ((C.chip j).symm c) c
        unfold held
        iintro H; iexact H
      · have e : C.carried m a (Sum.inr j) c ⊢ ((C.source a (Sum.inr j) c).view.loc (c.tc : Thread nD τ) ↦[(C.source a (Sum.inr j) c).view.set]{fullShare}
            (C.placed m a ((C.chip j).symm c) c) : sProp 𝕄) := by
          show C.held m a ((C.chip j).symm c) c ⊢ _
          unfold held
          iintro H; iexact H
        iapply e; iexact H
  have hnext := h _ hl
  unfold going at hnext
  unfold right room
  iintro ⟨#HR, ⟨⟨Hd, Ht1, Ht2, Ha⟩, Hs⟩, Hwo, HF⟩
  unfold owed at *
  icases Hwo with ⟨%W, HO⟩
  ihave Hs' := hcarry $$ Hs
  icases Hs' with ⟨%q, %fs, %hfs, Hs⟩
  obtain ⟨hread, hback⟩ := hfs
  have hstep := fun h₀ h₁ h₂ h₃ K => (C.plan m N).wp_launch_copy 𝒱 bd (defs := defs) (α := PUnit) c (C.peer h' c) κ (Sum.inl (Sum.inl (a, h'))) (Sum.inl (Sum.inr (a, h')))
    (src := C.source a h' c) (dst := C.place a (C.origin h' c)) (q := q) (fs := fs)
    (fd := m ((C.place a (C.origin h' c)).view.loc ((C.peer h' c).tc : Thread nD τ)))
    (hsc := h₀) (hsrc := h₁) (hdst := h₂) (hsem := h₃) (k := K) (Q := fun _ => Q) (N.place_eq a _) rfl O rfl (W := W)
    hback (by rw [hread]; exact hland _ rfl) (hr _)
  iapply hstep $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  iapply hnext
  isplitr; · iexact HR
  isplitl [Hc Ha]
  · isplitl [Hc]; · iexact Hc
    iexact Ha
  isplitl [HO]; · iexists W; iexact HO
  iexact HF

/-- Only landings of blocks passed on are owed. -/
def OnlyPassed (O : CellTallies nD τ sig Unit) : Prop := ∀ g u, 0 < O g u → ∃ (a : A) (j : Fin 3) (d : Dev nD), g = C.recvCell (a, .inr j) d

theorem onlyPassed_zero : C.OnlyPassed (0 : CellTallies nD τ sig Unit) := fun g u h => absurd h (Nat.lt_irrefl 0)
theorem onlyPassed_add (O : CellTallies nD τ sig Unit) (c : Dev nD) (x : A × Fin 3) (h : C.OnlyPassed O) : C.OnlyPassed (O + C.debt N (x.1, .inr x.2) c) := by
  intro g u hg
  rcases Nat.eq_zero_or_pos (O g u) with h0 | h0
  · have hd : 0 < C.debt N (x.1, .inr x.2) c g u := by
      have e : (O + (C.debt N (x.1, .inr x.2) c : CellTallies nD τ sig Unit)) g u = O g u + (C.debt N (x.1, .inr x.2) c : CellTallies nD τ sig Unit) g u := rfl
      rw [e, h0, Nat.zero_add] at hg
      exact hg
    refine ⟨x.1, x.2, C.peer (.inr x.2) c, ?_⟩
    by_contra hne
    unfold debt at hd
    rw [tallyAt_apply, if_neg (fun h' => hne h'.1)] at hd
    exact Nat.lt_irrefl 0 hd
  · exact h g u h0

theorem runs_waitLanded (c : Dev nD) (κ : Dev nD × Sems A → ℕ) (x : A × Hop) (O : CellTallies nD τ sig Unit) {l : List (Step A)} {Q R : sProp 𝕄}
    (hO : O = 0 ∨ (∃ f, x.2 = .inl f) ∧ C.OnlyPassed O)
    (h : C.Runs N 𝒱 bd defs c iprop((C.plan m N).records κ ∗ C.landed m x c ∗ owed c O ∗ R) l Q) :
    C.Runs N 𝒱 bd defs c iprop((C.plan m N).records κ ∗ C.expected N x c ∗ owed c O ∗ R) (.waitLanded x :: l) Q := by
  intro p hp
  cases hp with
  | waitLanded hs hn hl =>
  subst hs
  have hmay : (levAts Plan.L (C.plan m N).lv : sProp 𝕄) ⊢ MayWait (c.tc : Thread nD τ) ((C.plan m N).osem (Sum.inl (Sum.inr x))) () O := by
    rcases hO with rfl | ⟨⟨f, hf⟩, hO⟩
    · rw [MayWait_zero]; iintro -; iempintro
    · refine (C.plan m N).mayWait_below c _ O fun g u hg => ?_
      obtain ⟨a, j, d, rfl⟩ := hO g u hg
      refine ⟨Sum.inl (Sum.inr (a, .inr j)), Finset.mem_map_of_mem landing (Finset.mem_univ (a, Sum.inr j)), d, rfl, ?_⟩
      obtain ⟨a', h'⟩ := x
      dsimp only at hf
      subst hf
      exact Nat.one_lt_two
  have hstep := fun W w n hw hn K => (C.plan m N).wp_await_owing 𝒱 bd (defs := defs) (α := PUnit) c κ (Sum.inl (Sum.inr x)) (w := w) (n := n) hw hn hmay
    (k := K) (Q := fun _ => Q) (W := W)
  have hnext := h _ hl
  unfold landed at hnext
  unfold expected
  iintro ⟨#HR, ⟨Hc, Ha⟩, Hwo, HF⟩
  unfold owed at *
  icases Hwo with ⟨%W, HO⟩
  iapply (hstep W _ _ (wpE_waitDma2_eq 𝒱 (c.tc : Thread nD τ) bd Set.univ) hn) $$ [Hc Ha HO]
  · isplitr; · iexact HR
    isplitl [Hc]; · iexact Hc
    isplitl [HO]; · iexact HO
    iexact Ha
  iintro ⟨HO, Hz, Hp⟩
  ihave Hp := (Entails.of_eq (C.pay_landed m N c x)) $$ Hp
  iapply hnext
  isplitr; · iexact HR
  isplitl [Hz Hp]
  · isplitl [Hz]; · iexact Hz
    iexact Hp
  isplitl [HO]; · iexists _; iexact HO
  iexact HF

theorem runs_waitSent (c : Dev nD) (κ : Dev nD × Sems A → ℕ) (x : A × Hop) {l : List (Step A)} {Q R : sProp 𝕄}
    (h : C.Runs N 𝒱 bd defs c iprop((C.plan m N).records κ ∗ C.sent m x c ∗ owed c 0 ∗ R) l Q) :
    C.Runs N 𝒱 bd defs c iprop((C.plan m N).records κ ∗ C.going N x c ∗ owed c 0 ∗ R) (.waitSent x :: l) Q := by
  intro p hp
  cases hp with
  | waitSent hs hn hl =>
  subst hs
  have hstep := fun W w n hw hn K => (C.plan m N).wp_await 𝒱 bd (defs := defs) (α := PUnit) c κ (Sum.inl (Sum.inl x)) (w := w) (n := n) hw hn
    (k := K) (Q := fun _ => Q) (W := W)
  have hnext := h _ hl
  unfold sent at hnext
  unfold going
  iintro ⟨#HR, ⟨Hc, Ha⟩, Hwo, HF⟩
  unfold owed at *
  icases Hwo with ⟨%W, HO⟩
  iapply (hstep W _ _ (wpE_waitDma2_eq 𝒱 (c.tc : Thread nD τ) bd Set.univ) hn) $$ [Hc Ha HO]
  · isplitr; · iexact HR
    isplitl [Hc]; · iexact Hc
    isplitl [HO]; · iexact HO
    iexact Ha
  iintro ⟨HO, Hz, Hp⟩
  ihave Hp := (Entails.of_eq (C.pay_sent m N c x)) $$ Hp
  iapply hnext
  isplitr; · iexact HR
  isplitl [Hz Hp]
  · isplitl [Hz]; · iexact Hz
    iexact Hp
  isplitl [HO]; · iexists _; iexact HO
  iexact HF

theorem runs_waitHere (c : Dev nD) (κ : Dev nD × Sems A → ℕ) (a : A) {l : List (Step A)} {Q R : sProp 𝕄}
    (h : C.Runs N 𝒱 bd defs c iprop((C.plan m N).records κ ∗ C.hereDone m a c ∗ owed c 0 ∗ R) l Q) :
    C.Runs N 𝒱 bd defs c iprop((C.plan m N).records κ ∗ C.hereGoing N a c ∗ owed c 0 ∗ R) (.waitHere a :: l) Q := by
  intro p hp
  cases hp with
  | waitHere hs hn hl =>
  subst hs
  have hstep := fun W w n hw hn K => (C.plan m N).wp_await 𝒱 bd (defs := defs) (α := PUnit) c κ (Sum.inr a) (w := w) (n := n) hw hn
    (k := K) (Q := fun _ => Q) (W := W)
  have hnext := h _ hl
  unfold hereDone at hnext
  unfold hereGoing
  iintro ⟨#HR, ⟨Hc, Ha⟩, Hwo, HF⟩
  unfold owed at *
  icases Hwo with ⟨%W, HO⟩
  iapply (hstep W _ _ (wpE_waitDma2_eq 𝒱 (c.tc : Thread nD τ) bd Set.univ) hn) $$ [Hc Ha HO]
  · isplitr; · iexact HR
    isplitl [Hc]; · iexact Hc
    isplitl [HO]; · iexact HO
    iexact Ha
  iintro ⟨HO, Hz, Hp⟩
  ihave Hp := (Entails.of_eq (C.pay_here m N c a)) $$ Hp
  iapply hnext
  isplitr; · iexact HR
  isplitl [Hz Hp]
  · isplitl [Hz]; · iexact Hz
    iexact Hp
  isplitl [HO]; · iexists _; iexact HO
  iexact HF

/-! ## Many steps -/

/-- What a list of resources holds together. -/
def sepL {X : Type} (Φ : X → sProp 𝕄) : List X → sProp 𝕄
  | [] => iprop(emp)
  | x :: l => iprop(Φ x ∗ sepL Φ l)

theorem sepL_eq {X : Type} [Fintype X] [DecidableEq X] (Φ : X → sProp 𝕄) (l : List X) (hn : l.Nodup) (hc : ∀ x, x ∈ l) :
    sepL Φ l = bigSep Finset.univ Φ := by
  have key : ∀ l : List X, l.Nodup → sepL Φ l = bigSep l.toFinset Φ := by
    intro l hl
    induction l with
    | nil => rw [List.toFinset_nil, bigSep_empty]; rfl
    | cons x l ih =>
      obtain ⟨hx, hl⟩ := List.nodup_cons.mp hl
      rw [List.toFinset_cons, bigSep_insert (by rw [List.mem_toFinset]; exact hx), ← ih hl]
      rfl
  rw [key l hn]
  congr 1
  ext x
  simp only [List.mem_toFinset, hc, Finset.mem_univ]

theorem sum_eq {X M : Type} [Fintype X] [DecidableEq X] [AddCommMonoid M] (f : X → M) (l : List X) (hn : l.Nodup) (hc : ∀ x, x ∈ l) :
    (l.map f).sum = ∑ x, f x := by
  rw [← List.sum_toFinset f hn]
  congr 1
  ext x
  simp only [List.mem_toFinset, hc, Finset.mem_univ]

/-- A family of steps, each from `pre` to `post` and paying `debt`, done one after the other. -/
theorem runs_list {X : Type} {step : X → List (Step A)} {pre post : X → sProp 𝕄} {debt : X → CellTallies nD τ sig Unit} {Good : CellTallies nD τ sig Unit → Prop}
    (c : Dev nD) (κ : Dev nD × Sems A → ℕ) (hg : ∀ O x, Good O → Good (O + debt x))
    (hs : ∀ x O rest (R Q : sProp 𝕄), Good O → C.Runs N 𝒱 bd defs c iprop((C.plan m N).records κ ∗ post x ∗ owed c O ∗ R) rest Q →
      C.Runs N 𝒱 bd defs c iprop((C.plan m N).records κ ∗ pre x ∗ owed c (O + debt x) ∗ R) (step x ++ rest) Q) :
    ∀ (l : List X) O rest (R Q : sProp 𝕄), Good O → C.Runs N 𝒱 bd defs c iprop((C.plan m N).records κ ∗ sepL post l ∗ owed c O ∗ R) rest Q →
      C.Runs N 𝒱 bd defs c iprop((C.plan m N).records κ ∗ sepL pre l ∗ owed c (O + (l.map debt).sum) ∗ R) (l.flatMap step ++ rest) Q := by
  intro l
  induction l with
  | nil =>
    intro O rest R Q _ h
    rw [List.map_nil, List.sum_nil, add_zero]
    exact h
  | cons x l ih =>
    intro O rest R Q hO h
    have hO' : Good (O + (l.map debt).sum) := by
      clear ih h
      induction l with
      | nil => rw [List.map_nil, List.sum_nil, add_zero]; exact hO
      | cons y l ih => rw [List.map_cons, List.sum_cons, add_comm (debt y), ← add_assoc]; exact hg _ _ ih
    rw [List.flatMap_cons, List.append_assoc, List.map_cons, List.sum_cons, add_comm (debt x), ← add_assoc]
    refine Runs.mono (P' := iprop((C.plan m N).records κ ∗ pre x ∗ owed c ((O + (l.map debt).sum) + debt x) ∗ (sepL pre l ∗ R))) C N 𝒱 bd ?_
      (hs x _ _ _ _ hO' (Runs.mono (P' := iprop((C.plan m N).records κ ∗ sepL pre l ∗ owed c (O + (l.map debt).sum) ∗ (post x ∗ R))) C N 𝒱 bd ?_
        (ih O rest _ Q hO (Runs.mono (P' := iprop((C.plan m N).records κ ∗ sepL post (x :: l) ∗ owed c O ∗ R)) C N 𝒱 bd ?_ h))))
    · show iprop(_ ∗ (pre x ∗ sepL pre l) ∗ _ ∗ _) ⊢ _
      iintro ⟨HR, ⟨Hx, Hl⟩, HO, HF⟩
      isplitl [HR]; · iexact HR
      isplitl [Hx]; · iexact Hx
      isplitl [HO]; · iexact HO
      isplitl [Hl] <;> iassumption
    · iintro ⟨HR, Hx, HO, Hl, HF⟩
      isplitl [HR]; · iexact HR
      isplitl [Hl]; · iexact Hl
      isplitl [HO]; · iexact HO
      isplitl [Hx] <;> iassumption
    · show _ ⊢ iprop(_ ∗ (post x ∗ sepL post l) ∗ _ ∗ _)
      iintro ⟨HR, Hl, HO, Hx, HF⟩
      isplitl [HR]; · iexact HR
      isplitl [Hl Hx]; · isplitl [Hx] <;> iassumption
      isplitl [HO] <;> iassumption

/-- The same for steps that pay nothing. -/
theorem runs_list₀ {X : Type} {step : X → List (Step A)} {pre post : X → sProp 𝕄} {Good : CellTallies nD τ sig Unit → Prop}
    (c : Dev nD) (κ : Dev nD × Sems A → ℕ)
    (hs : ∀ x O rest (R Q : sProp 𝕄), Good O → C.Runs N 𝒱 bd defs c iprop((C.plan m N).records κ ∗ post x ∗ owed c O ∗ R) rest Q →
      C.Runs N 𝒱 bd defs c iprop((C.plan m N).records κ ∗ pre x ∗ owed c O ∗ R) (step x ++ rest) Q)
    (l : List X) (O : CellTallies nD τ sig Unit) (rest : List (Step A)) (R Q : sProp 𝕄) (hO : Good O)
    (h : C.Runs N 𝒱 bd defs c iprop((C.plan m N).records κ ∗ sepL post l ∗ owed c O ∗ R) rest Q) :
    C.Runs N 𝒱 bd defs c iprop((C.plan m N).records κ ∗ sepL pre l ∗ owed c O ∗ R) (l.flatMap step ++ rest) Q := by
  have e : O + (l.map fun _ => (0 : CellTallies nD τ sig Unit)).sum = O := by
    clear h
    induction l with
    | nil => rw [List.map_nil, List.sum_nil, add_zero]
    | cons x l ih => rw [List.map_cons, List.sum_cons, zero_add]; exact ih
  have hl := C.runs_list m N 𝒱 bd (defs := defs) (step := step) (pre := pre) (post := post) (debt := fun _ => 0) (Good := Good) c κ (fun O x h => by rw [add_zero]; exact h)
    (fun x O rest R Q hO h => by rw [add_zero]; exact hs x O rest R Q hO h) l O rest R Q hO h
  rw [e] at hl
  exact hl

theorem sepL_sep {X : Type} (Φ Ψ : X → sProp 𝕄) (l : List X) : sepL (fun x => iprop(Φ x ∗ Ψ x)) l ⊢ iprop(sepL Φ l ∗ sepL Ψ l) := by
  induction l with
  | nil => show iprop(emp) ⊢ iprop(emp ∗ emp); iintro H; isplitr <;> iempintro
  | cons x l ih =>
    show iprop((Φ x ∗ Ψ x) ∗ sepL (fun x => iprop(Φ x ∗ Ψ x)) l) ⊢ iprop((Φ x ∗ sepL Φ l) ∗ (Ψ x ∗ sepL Ψ l))
    iintro ⟨⟨H1, H2⟩, Hl⟩
    ihave Hl := ih $$ Hl
    icases Hl with ⟨Hl1, Hl2⟩
    isplitl [H1 Hl1]
    · isplitl [H1] <;> iassumption
    · isplitl [H2] <;> iassumption

/-- Awaiting a block from another chip and passing it on. -/
theorem runs_pass (c : Dev nD) (κ : Dev nD × Sems A → ℕ) (x : A × Fin 3) (O : CellTallies nD τ sig Unit) {l : List (Step A)} {Q R : sProp 𝕄}
    (hr : ∀ c' : Dev nD, τ.routes (c.tc : Thread nD τ) (c'.tc : Thread nD τ) = true) (hO : C.OnlyPassed O)
    (h : C.Runs N 𝒱 bd defs c iprop((C.plan m N).records κ ∗ (semVal (C.recvCell (x.1, .inl (.inr x.2)) c) 0 ∗ C.going N (x.1, .inr x.2) c) ∗ owed c O ∗ R) l Q) :
    C.Runs N 𝒱 bd defs c iprop((C.plan m N).records κ ∗ (C.expected N (x.1, .inl (.inr x.2)) c ∗ C.right m (x.1, .inr x.2) c)
      ∗ owed c (O + C.debt N (x.1, .inr x.2) c) ∗ R) (.waitLanded (x.1, .inl (.inr x.2)) :: .send (x.1, .inr x.2) :: l) Q := by
  refine Runs.mono C N 𝒱 bd ?_ (C.runs_waitLanded m N 𝒱 bd c κ (x.1, .inl (.inr x.2)) (O + C.debt N (x.1, .inr x.2) c) (R := iprop(C.right m (x.1, .inr x.2) c ∗ R))
    (Or.inr ⟨⟨_, rfl⟩, C.onlyPassed_add N O c x hO⟩) (Runs.mono C N 𝒱 bd ?_
      (C.runs_send m N 𝒱 bd c κ (x.1, .inr x.2) O (R := iprop(semVal (C.recvCell (x.1, .inl (.inr x.2)) c) 0 ∗ R)) hr (Runs.mono C N 𝒱 bd ?_ h))))
  · iintro ⟨HR, ⟨He, Hr⟩, HO, HF⟩
    isplitl [HR]; · iexact HR
    isplitl [He]; · iexact He
    isplitl [HO]; · iexact HO
    isplitl [Hr] <;> iassumption
  · have e : C.landed m (x.1, .inl (.inr x.2)) c = iprop(semVal (C.recvCell (x.1, .inl (.inr x.2)) c) 0 ∗ C.carried m x.1 (.inr x.2) c) := rfl
    rw [e]
    iintro ⟨HR, ⟨Hz, Hc⟩, HO, Hr, HF⟩
    isplitl [HR]; · iexact HR
    isplitl [Hr Hc]; · isplitl [Hr] <;> iassumption
    isplitl [HO]; · iexact HO
    isplitl [Hz] <;> iassumption
  · iintro ⟨HR, Hg, HO, Hz, HF⟩
    isplitl [HR]; · iexact HR
    isplitl [Hz Hg]; · isplitl [Hz] <;> iassumption
    isplitl [HO] <;> iassumption

/-- The landings awaited last: of the other core's own block, and of the three blocks it passes on. -/
def lastHop : First → Hop
  | .inl _ => .inl (.inl ())
  | .inr j => .inr j

/-- An order in which the arrays, their first copies, and the blocks passed on are taken. -/
structure Order (A : Type) where
  arrays : List A
  firsts : List (A × First)
  passes : List (A × Fin 3)
  arrays_nodup : arrays.Nodup
  firsts_nodup : firsts.Nodup
  passes_nodup : passes.Nodup
  arrays_all : ∀ a, a ∈ arrays
  firsts_all : ∀ x, x ∈ firsts
  passes_all : ∀ x, x ∈ passes

/-- The operations of the all-gather. -/
def steps (o : Order A) : List (Step A) :=
  o.arrays.flatMap (fun a => [.here a]) ++ (o.firsts.flatMap (fun x => [.send (x.1, .inl x.2)])
    ++ (o.passes.flatMap (fun x => [.waitLanded (x.1, .inl (.inr x.2)), .send (x.1, .inr x.2)])
    ++ (o.firsts.flatMap (fun x => [.waitLanded (x.1, lastHop x.2)])
    ++ (o.firsts.flatMap (fun x => [.waitSent (x.1, .inl x.2)])
    ++ (o.passes.flatMap (fun x => [.waitSent (x.1, .inr x.2)])
    ++ (o.arrays.flatMap (fun a => [.waitHere a]) ++ []))))))

/-- What a device holds before: all its rights, its blocks, the expectation of all landings; -/
def holdings (c : Dev nD) : sProp 𝕄 :=
  iprop((∃ κ, (C.plan m N).records κ) ∗ (bigSep Finset.univ fun a => C.hereRight m a c)
    ∗ (bigSep Finset.univ fun x : A × First => iprop(C.right m (x.1, .inl x.2) c ∗ C.carried m x.1 (.inl x.2) c))
    ∗ (bigSep Finset.univ fun x : A × Fin 3 => iprop(C.expected N (x.1, .inl (.inr x.2)) c ∗ C.right m (x.1, .inr x.2) c))
    ∗ (bigSep Finset.univ fun x : A × First => C.expected N (x.1, lastHop x.2) c))
/-- and after: its blocks back, the blocks of the others in their places, its semaphores at zero. -/
def finished (c : Dev nD) : sProp 𝕄 :=
  iprop((bigSep Finset.univ fun a => C.hereDone m a c)
    ∗ (bigSep Finset.univ fun x : A × First => C.sent m (x.1, .inl x.2) c)
    ∗ (bigSep Finset.univ fun x : A × Fin 3 => C.sent m (x.1, .inr x.2) c)
    ∗ (bigSep Finset.univ fun x : A × Fin 3 => semVal (C.recvCell (x.1, .inl (.inr x.2)) c) 0)
    ∗ (bigSep Finset.univ fun x : A × First => C.landed m (x.1, lastHop x.2) c))

/-- All that a device owes at the start: the landings of its first copies and of the blocks it passes on. -/
theorem owes₀_eq (o : Order A) (c : Dev nD) :
    (C.plan m N).owes₀ c = (0 + (o.passes.map fun x => C.debt N (x.1, .inr x.2) c).sum) + (o.firsts.map fun x => C.debt N (x.1, .inl x.2) c).sum := by
  rw [sum_eq _ _ o.passes_nodup o.passes_all, sum_eq _ _ o.firsts_nodup o.firsts_all, zero_add]
  have h : (C.plan m N).owes₀ c = ∑ x : A × Hop, C.debt N x c := by
    unfold Plan.owes₀
    show ∑ j ∈ Finset.univ.map landing, _ = _
    rw [Finset.sum_map]
    rfl
  rw [h, Fintype.sum_prod_type, Fintype.sum_prod_type, Fintype.sum_prod_type, ← Finset.sum_add_distrib]
  refine Finset.sum_congr rfl fun a _ => ?_
  rw [Fintype.sum_sum_type, add_comm]

/-- A program that follows the steps gathers all blocks. -/
theorem wp_gather (o : Order A) (c : Dev nD) (hr : ∀ c' : Dev nD, τ.routes (c.tc : Thread nD τ) (c'.tc : Thread nD τ) = true)
    (p : Prog (TpuEff nD τ sig Val Λ .tc) PUnit) (hp : C.Follows N c p (steps o)) :
    iprop(C.holdings m N c ∗ owed c ((C.plan m N).owes₀ c))
      ⊢ wp frame (wpE defs 𝒱 (c.tc : Thread nD τ) bd) Set.univ p (fun _ => iprop(C.finished m c ∗ owed c 0)) := by
  have hall : ∀ κ, C.Runs N 𝒱 bd defs c
      iprop((C.plan m N).records κ ∗ sepL (fun a => C.hereRight m a c) o.arrays ∗ owed c ((C.plan m N).owes₀ c)
        ∗ (sepL (fun x : A × First => iprop(C.right m (x.1, .inl x.2) c ∗ C.carried m x.1 (.inl x.2) c)) o.firsts
        ∗ sepL (fun x : A × Fin 3 => iprop(C.expected N (x.1, .inl (.inr x.2)) c ∗ C.right m (x.1, .inr x.2) c)) o.passes
        ∗ sepL (fun x : A × First => C.expected N (x.1, lastHop x.2) c) o.firsts)) (steps o) iprop(C.finished m c ∗ owed c 0) := by
    intro κ
    unfold steps
    refine C.runs_list₀ m N 𝒱 bd (post := fun a => C.hereGoing N a c) (Good := fun _ => True) c κ (fun a O rest R Q _ h => C.runs_here m N 𝒱 bd c κ a h) _ _ _ _ _ trivial ?_
    rw [C.owes₀_eq m N o c]
    refine Runs.mono C N 𝒱 bd ?_ (C.runs_list m N 𝒱 bd (pre := fun x : A × First => iprop(C.right m (x.1, .inl x.2) c ∗ C.carried m x.1 (.inl x.2) c))
      (post := fun x : A × First => C.going N (x.1, .inl x.2) c) (debt := fun x : A × First => C.debt N (x.1, .inl x.2) c) (Good := fun _ => True) c κ (fun _ _ h => h)
      (fun x O rest R Q _ h => C.runs_send m N 𝒱 bd c κ (x.1, .inl x.2) O hr h) o.firsts (0 + (o.passes.map fun x => C.debt N (x.1, .inr x.2) c).sum) _
      iprop(sepL (fun a => C.hereGoing N a c) o.arrays
        ∗ sepL (fun x : A × Fin 3 => iprop(C.expected N (x.1, .inl (.inr x.2)) c ∗ C.right m (x.1, .inr x.2) c)) o.passes
        ∗ sepL (fun x : A × First => C.expected N (x.1, lastHop x.2) c) o.firsts) _ trivial ?_)
    · iintro ⟨HR, Hh, HO, Hf, Hp, Hl⟩
      isplitl [HR]; · iexact HR
      isplitl [Hf]; · iexact Hf
      isplitl [HO]; · iexact HO
      isplitl [Hh]; · iexact Hh
      isplitl [Hp] <;> iassumption
    refine Runs.mono C N 𝒱 bd ?_ (C.runs_list m N 𝒱 bd (pre := fun x : A × Fin 3 => iprop(C.expected N (x.1, .inl (.inr x.2)) c ∗ C.right m (x.1, .inr x.2) c))
      (post := fun x : A × Fin 3 => iprop(semVal (C.recvCell (x.1, .inl (.inr x.2)) c) 0 ∗ C.going N (x.1, .inr x.2) c))
      (debt := fun x : A × Fin 3 => C.debt N (x.1, .inr x.2) c) (Good := C.OnlyPassed) c κ
      (fun O x h => C.onlyPassed_add N O c x h)
      (fun x O rest R Q hO h => C.runs_pass m N 𝒱 bd c κ x O hr hO h) o.passes 0 _
      iprop(sepL (fun a => C.hereGoing N a c) o.arrays
        ∗ sepL (fun x : A × First => C.going N (x.1, .inl x.2) c) o.firsts
        ∗ sepL (fun x : A × First => C.expected N (x.1, lastHop x.2) c) o.firsts) _ C.onlyPassed_zero ?_)
    · iintro ⟨HR, Hf, HO, Hh, Hp, Hl⟩
      isplitl [HR]; · iexact HR
      isplitl [Hp]; · iexact Hp
      isplitl [HO]; · iexact HO
      isplitl [Hh]; · iexact Hh
      isplitl [Hf] <;> iassumption
    refine Runs.mono C N 𝒱 bd ?_ (C.runs_list₀ m N 𝒱 bd (pre := fun x : A × First => C.expected N (x.1, lastHop x.2) c)
      (post := fun x : A × First => C.landed m (x.1, lastHop x.2) c) (Good := fun O => O = 0) c κ
      (fun x O rest R Q hO h => C.runs_waitLanded m N 𝒱 bd c κ (x.1, lastHop x.2) O (Or.inl hO) h) o.firsts 0 _
      iprop(sepL (fun a => C.hereGoing N a c) o.arrays
        ∗ sepL (fun x : A × First => C.going N (x.1, .inl x.2) c) o.firsts
        ∗ sepL (fun x : A × Fin 3 => C.going N (x.1, .inr x.2) c) o.passes
        ∗ sepL (fun x : A × Fin 3 => semVal (C.recvCell (x.1, .inl (.inr x.2)) c) 0) o.passes) _ rfl ?_)
    · iintro ⟨HR, Hzg, HO, Hh, Hf, Hl⟩
      ihave Hzg := (sepL_sep _ _ _) $$ Hzg
      icases Hzg with ⟨Hz, Hg⟩
      isplitl [HR]; · iexact HR
      isplitl [Hl]; · iexact Hl
      isplitl [HO]; · iexact HO
      isplitl [Hh]; · iexact Hh
      isplitl [Hf]; · iexact Hf
      isplitl [Hg] <;> iassumption
    refine Runs.mono C N 𝒱 bd ?_ (C.runs_list₀ m N 𝒱 bd (pre := fun x : A × First => C.going N (x.1, .inl x.2) c)
      (post := fun x : A × First => C.sent m (x.1, .inl x.2) c) (Good := fun O => O = 0) c κ
      (fun x O rest R Q hO h => by subst hO; exact C.runs_waitSent m N 𝒱 bd c κ (x.1, .inl x.2) h) o.firsts 0 _
      iprop(sepL (fun a => C.hereGoing N a c) o.arrays
        ∗ sepL (fun x : A × First => C.landed m (x.1, lastHop x.2) c) o.firsts
        ∗ sepL (fun x : A × Fin 3 => C.going N (x.1, .inr x.2) c) o.passes
        ∗ sepL (fun x : A × Fin 3 => semVal (C.recvCell (x.1, .inl (.inr x.2)) c) 0) o.passes) _ rfl ?_)
    · iintro ⟨HR, Hl, HO, Hh, Hf, Hg, Hz⟩
      isplitl [HR]; · iexact HR
      isplitl [Hf]; · iexact Hf
      isplitl [HO]; · iexact HO
      isplitl [Hh]; · iexact Hh
      isplitl [Hl]; · iexact Hl
      isplitl [Hg] <;> iassumption
    refine Runs.mono C N 𝒱 bd ?_ (C.runs_list₀ m N 𝒱 bd (pre := fun x : A × Fin 3 => C.going N (x.1, .inr x.2) c)
      (post := fun x : A × Fin 3 => C.sent m (x.1, .inr x.2) c) (Good := fun O => O = 0) c κ
      (fun x O rest R Q hO h => by subst hO; exact C.runs_waitSent m N 𝒱 bd c κ (x.1, .inr x.2) h) o.passes 0 _
      iprop(sepL (fun a => C.hereGoing N a c) o.arrays
        ∗ sepL (fun x : A × First => C.landed m (x.1, lastHop x.2) c) o.firsts
        ∗ sepL (fun x : A × First => C.sent m (x.1, .inl x.2) c) o.firsts
        ∗ sepL (fun x : A × Fin 3 => semVal (C.recvCell (x.1, .inl (.inr x.2)) c) 0) o.passes) _ rfl ?_)
    · iintro ⟨HR, Hf, HO, Hh, Hl, Hg, Hz⟩
      isplitl [HR]; · iexact HR
      isplitl [Hg]; · iexact Hg
      isplitl [HO]; · iexact HO
      isplitl [Hh]; · iexact Hh
      isplitl [Hl]; · iexact Hl
      isplitl [Hf] <;> iassumption
    refine Runs.mono C N 𝒱 bd ?_ (C.runs_list₀ m N 𝒱 bd (pre := fun a => C.hereGoing N a c)
      (post := fun a => C.hereDone m a c) (Good := fun O => O = 0) c κ
      (fun x O rest R Q hO h => by subst hO; exact C.runs_waitHere m N 𝒱 bd c κ x h) o.arrays 0 _
      iprop(sepL (fun x : A × Fin 3 => C.sent m (x.1, .inr x.2) c) o.passes
        ∗ sepL (fun x : A × First => C.landed m (x.1, lastHop x.2) c) o.firsts
        ∗ sepL (fun x : A × First => C.sent m (x.1, .inl x.2) c) o.firsts
        ∗ sepL (fun x : A × Fin 3 => semVal (C.recvCell (x.1, .inl (.inr x.2)) c) 0) o.passes) _ rfl
      (Runs.mono C N 𝒱 bd ?_ (C.runs_done N 𝒱 bd c _)))
    · iintro ⟨HR, Hg, HO, Hh, Hl, Hf, Hz⟩
      isplitl [HR]; · iexact HR
      isplitl [Hh]; · iexact Hh
      isplitl [HO]; · iexact HO
      isplitl [Hg]; · iexact Hg
      isplitl [Hl]; · iexact Hl
      isplitl [Hf] <;> iassumption
    · unfold finished
      rw [sepL_eq _ _ o.arrays_nodup o.arrays_all, sepL_eq _ _ o.passes_nodup o.passes_all, sepL_eq _ _ o.passes_nodup o.passes_all,
        sepL_eq _ _ o.firsts_nodup o.firsts_all, sepL_eq _ _ o.firsts_nodup o.firsts_all]
      iintro ⟨-, Hh, HO, Hg, Hl, Hf, Hz⟩
      isplitr [HO]
      · isplitl [Hh]; · iexact Hh
        isplitl [Hf]; · iexact Hf
        isplitl [Hg]; · iexact Hg
        isplitl [Hz] <;> iassumption
      iexact HO
  have hrun := fun κ => hall κ p hp
  simp only [sepL_eq _ _ o.arrays_nodup o.arrays_all, sepL_eq _ _ o.passes_nodup o.passes_all, sepL_eq _ _ o.firsts_nodup o.firsts_all] at hrun
  unfold holdings
  iintro ⟨⟨⟨%κ, HR⟩, Hh, Hf, Hp, Hl⟩, HO⟩
  iapply (hrun κ)
  isplitl [HR]; · iexact HR
  isplitl [Hh]; · iexact Hh
  isplitl [HO]; · iexact HO
  isplitl [Hf]; · iexact Hf
  isplitl [Hp] <;> iassumption

end Gather

end Cert.Proof.Exchange
-- ==== Proof.GatherDeal.lean ====
/-
# An all-gather: the buffers before and after

Before the copies a device's block is lent in five shares, one to each of its readers, and every device's result is
divided into the places of the eight blocks, each handed to the device whose copy lands there. Afterwards the shares make
the block again and the places make the result, which holds on every device the block of every device.
-/
module

public import proofs.«01_k».proof.Proof.Gather

@[expose] public section

set_option synthInstance.maxSize 4096

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

local notation "𝕄" => MT nD τ sig Unit Val ℕ (UU nD τ sig) ℕ

namespace Gather

variable {A : Type} [Fintype A] [DecidableEq A] (C : Gather nD sig A) (m : (ℓ : Loc nD τ sig) → Buf Val ℓ) (N : C.Amounts)

/-- The elements of the place of device `o`'s block in a result. -/
def placeSet (a : A) (o : Dev nD) : Finset (C.out a).view.ty.Idx := (C.place a o).view.set

/-- The places of the blocks make up the result, and every device's block reaches every device. -/
structure Covers : Prop where
  disjoint : ∀ a o o', o ≠ o' → Disjoint (C.placeSet a o) (C.placeSet a o')
  cover : ∀ a i, ∃ o, i ∈ C.placeSet a o
  reach : ∀ c, Function.Bijective (Sum.elim (fun _ : Unit => c) (fun h => C.sender h c))

variable (V : C.Covers)

/-- Device `c`'s result at the end. -/
def result (a : A) (c : Dev nD) : Buf Val ((C.out a).view.loc (c.tc : Thread nD τ)) := fun i => C.placed m a (V.cover a i).choose c i

theorem result_eq (a : A) (o c : Dev nD) (i) (h : i ∈ C.placeSet a o) : C.result m V a c i = C.placed m a o c i := by
  have e : (V.cover a i).choose = o := by
    by_contra hne
    exact Finset.disjoint_left.mp (V.disjoint a _ _ hne) (V.cover a i).choose_spec h
  have key : ∀ o', o' = o → (C.placed m a o' c : Buf Val ((C.out a).view.loc c.tc)) i = C.placed m a o c i := by rintro _ rfl; rfl
  exact key _ e

/-- In the place of each device it holds that device's block. -/
theorem read_result (a : A) (o c : Dev nD) : (C.place a o).view.read Val (C.result m V a c) = C.block m a o := by
  have h : (C.place a o).view.read Val (C.placed m a o c) = C.block m a o := View.read_write_univ _ _
  exact Eq.trans (View.read_congr (v := (C.place a o).view) fun i hi => C.result_eq m V a o c i hi) h

/-- A device's block, whole. -/
def blockAll (a : A) (c : Dev nD) : sProp 𝕄 := C.blockPts m a fullShare c

theorem split_block (a : A) (c : Dev nD) :
    C.blockAll m a c ⊣⊢ iprop(C.blockPts m a shareHere c ∗ bigSep Finset.univ fun f => C.blockPts m a (shareOf f) c) := by
  have h1 : (bigSep Finset.univ fun f => (C.blockPts m a (shareOf f) c : sProp 𝕄))
      = iprop(C.blockPts m a fullShare.right.left c ∗ (C.blockPts m a fullShare.right.right.left c ∗ (C.blockPts m a fullShare.right.right.right.left c
        ∗ C.blockPts m a fullShare.right.right.right.right c))) := by
    rw [Copies.bigSep_sum, ← sepL_eq _ [()] (by decide) (by decide), ← sepL_eq _ [(0 : Fin 3), 1, 2] (by decide) (by decide)]
    have e (P : sProp 𝕄) : iprop(P ∗ emp) = P := equiv_iff.mp sep_emp
    simp only [sepL, e]
    rfl
  rw [h1]
  unfold blockAll blockPts shareHere
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, H⟩
    ihave H := (pointsTo_share (PosShare.mem_left_op_right fullShare.right.right)).1 $$ H
    icases H with ⟨H2, H⟩
    ihave H := (pointsTo_share (PosShare.mem_left_op_right fullShare.right.right.right)).1 $$ H
    icases H with ⟨H3, H⟩
    isplitl [H0]; · iexact H0
    isplitl [H1]; · iexact H1
    isplitl [H2]; · iexact H2
    isplitl [H3]; · iexact H3
    iexact H
  · iintro ⟨H0, H1, H2, H3, H4⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iexact H4

/-- Over all copies of all arrays: over the first ones and those that pass a block on; -/
theorem split_firsts (Φ : A × Hop → sProp 𝕄) :
    bigSep Finset.univ Φ = iprop((bigSep Finset.univ fun x : A × First => Φ (x.1, .inl x.2)) ∗ bigSep Finset.univ fun x : A × Fin 3 => Φ (x.1, .inr x.2)) := by
  rw [bigSep_univ_prod, bigSep_univ_prod, bigSep_univ_prod, ← bigSep_sep']
  exact bigSep_congr fun a _ => Copies.bigSep_sum _

/-- over those from the other chips and those awaited last. -/
theorem split_lasts (Φ : A × Hop → sProp 𝕄) :
    bigSep Finset.univ Φ = iprop((bigSep Finset.univ fun x : A × Fin 3 => Φ (x.1, .inl (.inr x.2))) ∗ bigSep Finset.univ fun x : A × First => Φ (x.1, lastHop x.2)) := by
  rw [bigSep_univ_prod, bigSep_univ_prod, bigSep_univ_prod, ← bigSep_sep']
  refine bigSep_congr fun a _ => ?_
  rw [Copies.bigSep_sum, Copies.bigSep_sum, Copies.bigSep_sum]
  have e (P Q R : sProp 𝕄) : iprop((P ∗ Q) ∗ R) = iprop(Q ∗ P ∗ R) := by
    have h1 : iprop((P ∗ Q) ∗ R) ⊢ iprop(Q ∗ P ∗ R) := by
      iintro ⟨⟨H1, H2⟩, H3⟩
      isplitl [H2]; · iexact H2
      isplitl [H1] <;> iassumption
    have h2 : iprop(Q ∗ P ∗ R) ⊢ iprop((P ∗ Q) ∗ R) := by
      iintro ⟨H2, H1, H3⟩
      isplitl [H1 H2]; · isplitl [H1] <;> iassumption
      iexact H3
    exact equiv_iff.mp ⟨h1, h2⟩
  exact e _ _ _

/-- What a device's copies start from: its blocks, its own places, and its places on the other devices. -/
def buffers (c : Dev nD) : sProp 𝕄 :=
  iprop((bigSep Finset.univ fun a => C.blockAll m a c) ∗ (bigSep Finset.univ fun a => C.room m a c c)
    ∗ bigSep Finset.univ fun x : A × Hop => C.room m x.1 (C.origin x.2 c) (C.peer x.2 c))

theorem start_holdings (c : Dev nD) : (C.plan m N).start (C.buffers m) c ⊢ C.holdings m N c := by
  have hb : (bigSep Finset.univ fun a => (C.blockAll m a c : sProp 𝕄))
      ⊢ iprop((bigSep Finset.univ fun a => C.blockPts m a shareHere c) ∗ bigSep Finset.univ fun x : A × First => C.carried m x.1 (.inl x.2) c) := by
    rw [bigSep_univ_prod, ← bigSep_sep']
    exact bigSep_mono fun a _ => (C.split_block m a c).1
  have hf : (bigSep (C.plan m N).far fun j => (cred (tallyAt ((C.plan m N).cell c j) () ((C.plan m N).amount j)) : sProp 𝕄))
      = bigSep Finset.univ fun x : A × Hop => cred (tallyAt (C.recvCell x c) () (N.amount x.1)) := by
    show bigSep (Finset.univ.map _) _ = _
    rw [bigSep_map]; rfl
  have hright : iprop((bigSep Finset.univ fun x : A × Hop => C.room m x.1 (C.origin x.2 c) (C.peer x.2 c))
        ∗ (bigSep Finset.univ fun x : A × Hop => dutyTok (ER nD τ sig Val) (C.sendCell x c) 0 ())
        ∗ (bigSep Finset.univ fun x : A × Hop => dutyTok (ER nD τ sig Val) (C.recvCell x (C.peer x.2 c)) 0 ())
        ∗ (bigSep Finset.univ fun x : A × Hop => atPos (ER nD τ sig Val) (C.sendCell x c) 0 ∅ 0))
      = iprop((bigSep Finset.univ fun x : A × First => C.right m (x.1, .inl x.2) c) ∗ bigSep Finset.univ fun x : A × Fin 3 => C.right m (x.1, .inr x.2) c) := by
    rw [← split_firsts (fun x => C.right m x c)]
    unfold right
    simp only [bigSep_sep']
  have hexp : iprop((bigSep Finset.univ fun x : A × Hop => cred (tallyAt (C.recvCell x c) () (N.amount x.1)))
        ∗ (bigSep Finset.univ fun x : A × Hop => atPos (ER nD τ sig Val) (C.recvCell x c) 0 ∅ 0))
      = iprop((bigSep Finset.univ fun x : A × Fin 3 => C.expected N (x.1, .inl (.inr x.2)) c) ∗ bigSep Finset.univ fun x : A × First => C.expected N (x.1, lastHop x.2) c) := by
    rw [← split_lasts (fun x => C.expected N x c)]
    unfold expected
    simp only [bigSep_sep']
  have hhere : iprop((bigSep Finset.univ fun a => C.room m a c c) ∗ (bigSep Finset.univ fun a => C.blockPts m a shareHere c)
        ∗ (bigSep Finset.univ fun a => dutyTok (ER nD τ sig Val) (C.hereCell a c) 0 ()) ∗ (bigSep Finset.univ fun a => atPos (ER nD τ sig Val) (C.hereCell a c) 0 ∅ 0))
      = bigSep Finset.univ fun a => C.hereRight m a c := by
    unfold hereRight
    simp only [bigSep_sep']
  unfold Plan.start holdings buffers
  rw [Copies.bigSep_sum, Copies.bigSep_sum, Copies.bigSep_sum, Copies.bigSep_sum, hf, bigSep_sep', bigSep_sep', ← hhere]
  iintro ⟨HR, ⟨⟨Ha1, Ha2⟩, Ha3⟩, ⟨⟨Ht1, Ht2⟩, Ht3⟩, Hc, Hb, Ho, Hr⟩
  ihave Hb := hb $$ Hb
  icases Hb with ⟨Hb0, Hb1⟩
  ihave Hright := (Entails.of_eq hright) $$ [Hr Ht1 Ht2 Ha1]
  · isplitl [Hr]; · iexact Hr
    isplitl [Ht1]; · iexact Ht1
    isplitl [Ht2]; · iexact Ht2
    iexact Ha1
  icases Hright with ⟨Hr1, Hr2⟩
  ihave Hexp := (Entails.of_eq hexp) $$ [Hc Ha2]
  · isplitl [Hc]; · iexact Hc
    iexact Ha2
  icases Hexp with ⟨He1, He2⟩
  isplitl [HR]; · iexact HR
  isplitl [Ho Hb0 Ht3 Ha3]
  · isplitl [Ho]; · iexact Ho
    isplitl [Hb0]; · iexact Hb0
    isplitl [Ht3]; · iexact Ht3
    iexact Ha3
  isplitl [Hr1 Hb1]; · isplitl [Hr1] <;> iassumption
  isplitl [He1 Hr2]; · isplitl [He1] <;> iassumption
  iexact He2

/-- A device's result buffer, whole. -/
def outAll (a : A) (c : Dev nD) (f : Buf Val ((C.out a).view.loc (c.tc : Thread nD τ))) : sProp 𝕄 := (C.out a).view.loc (c.tc : Thread nD τ) ↦{fullShare} f

include V in
theorem out_pieces (a : A) (c : Dev nD) (f : Buf Val ((C.out a).view.loc c.tc)) :
    C.outAll a c f = bigSep Finset.univ fun o => ((C.out a).view.loc c.tc ↦[C.placeSet a o]{fullShare} f : sProp 𝕄) :=
  all_pieces ((C.out a).view.loc c.tc) (C.placeSet a) (V.disjoint a) (V.cover a) f

include V in
/-- Over all devices' blocks: the own one and those that land. -/
theorem by_sender (Φ : Dev nD → sProp 𝕄) (c : Dev nD) :
    bigSep Finset.univ Φ = iprop(Φ c ∗ bigSep Finset.univ fun h => Φ (C.sender h c)) := by
  rw [bigSep_univ_equiv (Equiv.ofBijective _ (V.reach c)) Φ, Copies.bigSep_sum]
  have e1 (Ψ : Unit → sProp 𝕄) : bigSep Finset.univ Ψ = Ψ () := bigSep_singleton
  rw [e1]
  rfl

include V in
/-- The devices' buffers, divided among the copies. -/
theorem buffers_dealt :
    (bigSep Finset.univ fun c : Dev nD => iprop((bigSep Finset.univ fun a => C.blockAll m a c) ∗ bigSep Finset.univ fun a => C.outAll a c (m _)))
      ⊢ bigSep Finset.univ (C.buffers m) := by
  have hout : (bigSep Finset.univ fun c : Dev nD => bigSep Finset.univ fun a => C.outAll a c (m _))
      = iprop((bigSep Finset.univ fun c : Dev nD => bigSep Finset.univ fun a => C.room m a c c)
        ∗ bigSep Finset.univ fun c : Dev nD => bigSep Finset.univ fun x : A × Hop => C.room m x.1 (C.origin x.2 c) (C.peer x.2 c)) := by
    have h1 (a : A) (c : Dev nD) : C.outAll a c (m _) = iprop(C.room m a c c ∗ bigSep Finset.univ fun h => C.room m a (C.sender h c) c) := by
      rw [C.out_pieces V]
      exact C.by_sender V (fun o => C.room m a o c) c
    have h2 (a : A) (h : Hop) : (bigSep Finset.univ fun c : Dev nD => C.room m a (C.sender h c) c)
        = bigSep Finset.univ fun c : Dev nD => C.room m a (C.origin h c) (C.peer h c) := by
      rw [bigSep_univ_equiv (C.peer h)]
      refine bigSep_congr fun c _ => ?_
      unfold sender
      rw [Equiv.symm_apply_apply]
    simp only [h1, bigSep_sep', bigSep_univ_prod]
    congr 1
    rw [bigSep_univ_comm, bigSep_univ_comm (fun (c : Dev nD) a => bigSep Finset.univ fun h : Hop => C.room m a (C.origin h c) (C.peer h c))]
    refine bigSep_congr fun a _ => ?_
    rw [bigSep_univ_comm, bigSep_univ_comm (fun (c : Dev nD) (h : Hop) => C.room m a (C.origin h c) (C.peer h c))]
    exact bigSep_congr fun h _ => h2 a h
  unfold buffers
  rw [bigSep_sep', bigSep_sep', bigSep_sep', hout]

/-- What a device ends with: its blocks unchanged, the results, its own semaphores at zero. -/
theorem finished_out (c : Dev nD) :
    C.finished m c ⊢ iprop((bigSep Finset.univ fun a => C.blockAll m a c) ∗ (bigSep Finset.univ fun a => C.outAll a c (C.result m V a c))
      ∗ Pipeline.ownSems0 (C.plan (τ := τ) m N).osem c) := by
  have hz : (Pipeline.ownSems0 (C.plan (τ := τ) m N).osem c : sProp 𝕄)
      = iprop(((bigSep Finset.univ fun x : A × Hop => semVal (C.sendCell x c) 0) ∗ (bigSep Finset.univ fun x : A × Hop => semVal (C.recvCell x c) 0))
        ∗ bigSep Finset.univ fun a => semVal (C.hereCell a c) 0) := by
    unfold Pipeline.ownSems0
    rw [Copies.bigSep_sum, Copies.bigSep_sum]
    rfl
  have hb : iprop((bigSep Finset.univ fun a => C.blockPts m a shareHere c) ∗ bigSep Finset.univ fun x : A × First => C.carried m x.1 (.inl x.2) c)
      ⊢ (bigSep Finset.univ fun a => (C.blockAll m a c : sProp 𝕄)) := by
    rw [bigSep_univ_prod, ← bigSep_sep']
    exact bigSep_mono fun a _ => (C.split_block m a c).2
  have ho : (bigSep Finset.univ fun a => C.outAll a c (C.result m V a c))
      = iprop((bigSep Finset.univ fun a => C.held m a c c) ∗ (bigSep Finset.univ fun x : A × Fin 3 => C.carried m x.1 (.inr x.2) c)
        ∗ bigSep Finset.univ fun x : A × First => C.held m x.1 (C.sender (lastHop x.2) c) c) := by
    have h1 (a : A) : C.outAll a c (C.result m V a c) = iprop(C.held m a c c ∗ bigSep Finset.univ fun h => C.held m a (C.sender h c) c) := by
      rw [C.out_pieces V, ← C.by_sender V (fun o => C.held m a o c) c]
      exact bigSep_congr fun o _ => pointsTo_congr fun i hi => C.result_eq m V a o c i hi
    simp only [h1, bigSep_sep']
    rw [← bigSep_univ_prod (fun x : A × Hop => C.held m x.1 (C.sender x.2 c) c), split_lasts]
    rfl
  rw [hz, ho, split_firsts (fun x : A × Hop => (semVal (C.sendCell x c) 0 : sProp 𝕄)), split_lasts (fun x : A × Hop => (semVal (C.recvCell x c) 0 : sProp 𝕄))]
  unfold finished hereDone sent landed
  simp only [bigSep_sep']
  iintro ⟨⟨Hz0, Hh, Hb0⟩, ⟨Hz1, Hb1⟩, ⟨Hz2, Hp⟩, Hz3, Hz4, Hl⟩
  isplitl [Hb0 Hb1]
  · iapply hb
    isplitl [Hb0] <;> iassumption
  isplitl [Hh Hp Hl]
  · isplitl [Hh]; · iexact Hh
    isplitl [Hp] <;> iassumption
  isplitr [Hz0]
  · isplitl [Hz1 Hz2]
    · isplitl [Hz1] <;> iassumption
    · isplitl [Hz3] <;> iassumption
  iexact Hz0

end Gather

end Cert.Proof.Exchange
-- ==== Proof.GatherMesh.lean ====
/-
# The devices of an all-gather

The eight devices of the mesh, numbered four by the first axis, two by the second and one by the core: the other core of
a chip and the same core of each of the three other chips are reached by flipping bits of the number.
-/
module

public import proofs.«01_k».proof.Proof.GatherDeal

@[expose] public section

namespace Cert.Proof.Exchange.Mesh

open Idealize.ShloMosaic

/-- The device whose number differs in the bits of `b`. -/
def flip (b : Fin 8) (d : Dev 8) : Dev 8 := ⟨(d.val ^^^ b.val) % 8, Nat.mod_lt _ (by decide)⟩

theorem flip_flip : ∀ (b : Fin 8) (d : Dev 8), flip b (flip b d) = d := by decide +kernel

def perm (b : Fin 8) : Equiv.Perm (Dev 8) := ⟨flip b, flip b, flip_flip b, flip_flip b⟩

/-- The other core of the chip. -/
def sib : Equiv.Perm (Dev 8) := perm 1

/-- The same core of the other chips: across the first axis, the second, both. -/
def chip : Fin 3 → Equiv.Perm (Dev 8)
  | ⟨0, _⟩ => perm 4
  | ⟨1, _⟩ => perm 2
  | ⟨2, _⟩ => perm 6
  | ⟨_ + 3, h⟩ => absurd h (by omega)

end Cert.Proof.Exchange.Mesh
-- ==== Proof.GatherLaunch.lean ====
/-
# An all-gather: the launch

A program that is one all-gather over `Gather`: a kernel call without windows whose body issues the operations of the
gather. Every execution ends with the devices' blocks as they were launched and every result gathered.
-/
module

public import proofs.«01_k».proof.Proof.GatherMesh
public import proofs.«01_k».proof.Proof.LoneCall

@[expose] public section

set_option synthInstance.maxSize 4096

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {nD : Nat} {τ : Topo} {sig : RefSig} {Val : EltTy → Type}

local notation "𝕄" => MT nD τ sig Unit Val ℕ (UU nD τ sig) ℕ

namespace Gather

variable {A : Type} [Fintype A] [DecidableEq A] (C : Gather nD sig A) (m : (ℓ : Loc nD τ sig) → Buf Val ℓ) (N : C.Amounts) (V : C.Covers)
variable {Λ₀ : Idealize.SL.Sem.Labels} (cfg : Cfg sig Λ₀) [hW : IsEmpty (Fin cfg.W)] (hN : cfg.N = 1)
variable (defs₀ : Defs nD τ sig Val Λ₀) (𝒱₀ : Variants)

/-- The call at its one point: what a device holds before and after, and what it owes. -/
def dats (_ : Fin 1) (c : Dev nD) : Dat τ Val Unit ℕ (UU nD τ sig) ℕ cfg c where
  A w := hW.elim w
  after w t := hW.elim w
  Φ t := if t.val = 0 then C.holdings m N c else C.finished m c
  q _ := fullShare
  owed t := if t.val = 0 then (C.plan (τ := τ) m N).owes₀ c else 0

variable (hbody : ∀ (c : Dev nD) (t : Fin cfg.N), iprop(C.holdings m N c ∗ owed c ((C.plan m N).owes₀ c))
  ⊢ wp frame (wpE defs₀ 𝒱₀ c.tc none) Set.univ (defs₀ .tc cfg.body (cfg.bodyArgs t (cfg.slots t))) (fun _ => iprop(C.finished m c ∗ owed c 0)))

include hN hbody in
theorem body_obligation (c : Dev nD) : BodyObligation (C.dats m N cfg 0 c) defs₀ 𝒱₀ () Set.univ := fun t => by
  have ht : t.val = 0 := by have := t.isLt; omega
  have hno (Φ : Fin cfg.W → sProp 𝕄) : bigSep Finset.univ Φ = BI.emp := by
    rw [Finset.univ_eq_empty]; exact bigSep_empty
  rw [hno, hno]
  have hΦ0 : (C.dats m N cfg 0 c).Φ t.castSucc = C.holdings m N c := if_pos ht
  have hΦ1 : (C.dats m N cfg 0 c).Φ t.succ = C.finished m c := by
    show (if t.val + 1 = 0 then C.holdings m N c else C.finished m c) = _
    rw [if_neg (Nat.succ_ne_zero _)]
  have ho0 : (C.dats m N cfg 0 c).owed t.castSucc = (C.plan (τ := τ) m N).owes₀ c := if_pos ht
  have ho1 : (C.dats m N cfg 0 c).owed t.succ = 0 := by
    show (if t.val + 1 = 0 then (C.plan (τ := τ) m N).owes₀ c else 0) = _
    rw [if_neg (Nat.succ_ne_zero _)]
  have hrun := hbody c t
  unfold owed at hrun
  unfold Dat.owesAt Pipeline.owesWithin
  rw [hΦ0, ho0]
  refine BIBase.Entails.trans (Q := iprop(C.holdings m N c ∗ ∃ W, owes c.tc ((C.plan (τ := τ) m N).owes₀ c) W)) ?_ (hrun.trans (wp_mono _ _ _ fun _ => ?_))
  · iintro ⟨Hh, ⟨%W, %hW, HO⟩, -⟩
    isplitl [Hh]; · iexact Hh
    iexists W
    iexact HO
  · rw [hΦ1, ho1]
    iintro ⟨Hh, %W, HO⟩
    isplitl [Hh]; · iexact Hh
    isplitl [HO]
    · iexists W
      isplitr; · ipureintro; exact fun _ _ => Or.inl trivial
      iexact HO
    iempintro

/-- What a device ends with: its blocks as launched, and the results. -/
def ends (c : Dev nD) : sProp 𝕄 :=
  iprop((bigSep Finset.univ fun a => C.blockAll m a c) ∗ bigSep Finset.univ fun a => C.outAll a c (C.result m V a c))

/-- The state in which a run of the program ends: the blocks unchanged, every result gathered. -/
def Ended (c : Dev nD) (s : MemSt nD τ sig Val) : Prop :=
  ∀ a, s.mem ((C.inp a).view.loc c.tc) = m ((C.inp a).view.loc c.tc)
    ∧ s.mem ((C.out a).view.loc c.tc) = C.result m V a c

variable (hin : ∀ a, (C.inp a).view.set = Finset.univ)

/-- What is read of every array with the resource of each at hand. -/
theorem read_each {X : Type} (Φ : X → sProp 𝕄) (φ : X → Prop) (S : Finset X) (s' : Phys nD τ sig Val)
    (h : ∀ x, iprop(Φ x ∗ SI s') ⊢ iprop(⌜φ x⌝ ∗ SI s')) :
    iprop(bigSep S Φ ∗ SI s') ⊢ iprop(⌜∀ x ∈ S, φ x⌝ ∗ SI s') := by
  classical
  induction S using Finset.induction_on with
  | empty =>
    iintro ⟨-, HS⟩
    isplitr; · ipureintro; exact fun x hx => absurd hx (Finset.notMem_empty x)
    iexact HS
  | insert x S hx ih =>
    rw [bigSep_insert hx]
    show iprop((Φ x ∗ bigSep S Φ) ∗ SI s') ⊢ _
    iintro ⟨⟨Hx, HS⟩, HSI⟩
    ihave G := (h x) $$ [Hx HSI]
    · isplitl [Hx]; · iexact Hx
      iexact HSI
    icases G with ⟨%h0, HSI⟩
    ihave G := ih $$ [HS HSI]
    · isplitl [HS]; · iexact HS
      iexact HSI
    icases G with ⟨%h1, HSI⟩
    isplitr
    · ipureintro
      intro y hy
      rcases Finset.mem_insert.mp hy with rfl | hy
      · exact h0
      · exact h1 y hy
    iexact HSI

include hin in
theorem ends_read (c : Dev nD) (s' : Phys nD τ sig Val) :
    iprop(C.ends m V c ∗ SI s') ⊢ iprop(⌜C.Ended m V c s'.mem⌝ ∗ SI s') := by
  have r0 := read_each (fun a => C.blockAll m a c) (fun a => s'.mem.mem ((C.inp a).view.loc c.tc) = m ((C.inp a).view.loc c.tc)) Finset.univ s'
    fun a => by
      unfold blockAll blockPts
      rw [hin a]
      exact read_whole _ _ s'
  have r1 := read_each (fun a => C.outAll a c (C.result m V a c)) (fun a => s'.mem.mem ((C.out a).view.loc c.tc) = C.result m V a c) Finset.univ s'
    fun a => read_whole _ _ s'
  unfold ends
  iintro ⟨⟨H0, H1⟩, HSI⟩
  ihave G := r0 $$ [H0 HSI]
  · isplitl [H0]; · iexact H0
    iexact HSI
  icases G with ⟨%h0, HSI⟩
  ihave G := r1 $$ [H1 HSI]
  · isplitl [H1]; · iexact H1
    iexact HSI
  icases G with ⟨%h1, HSI⟩
  isplitr; · ipureintro; exact fun a => ⟨h0 a (Finset.mem_univ a), h1 a (Finset.mem_univ a)⟩
  iexact HSI

include hN hbody hin in
/-- Every execution of a program that is this call ends, with every semaphore at zero, in such a state. -/
theorem run_launch [∀ e, Nonempty (Val e)]
    (ρ : Dev nD → PrngReg) (main : Dev nD → Prog (TpuEff nD τ sig Val (Pipeline.Sig Λ₀ (Fin 1) fun p => ((fun _ : Fin 1 => cfg.toPCfg) p).Adm) .tc) PUnit)
    (hcell : Function.Injective (cellOf (nD := nD) (τ := τ) (fun _ : Fin 1 => cfg)))
    (hw : Pipeline.WinFacts₀ cfg.spec) (ho : Pipeline.OwnSemFacts cfg.spec (C.plan (τ := τ) m N).osem)
    (hmain : ∀ c, main c = .op (.customCall (Pipeline.entry (0 : Fin 1)) ()) fun _ => .ret ⟨⟩)
    (hbufs : ∀ c, (Pipeline.unscopedRest cfg.spec c (fun b => m (c.tc.loc b)) : sProp 𝕄)
      ⊢ iprop((bigSep Finset.univ fun a => C.blockAll m a c) ∗ bigSep Finset.univ fun a => C.outAll a c (m _)))
    (hscoped : ∀ c, (BI.emp : sProp 𝕄) ⊢ Pipeline.scopedRest cfg.spec c)
    (hsems : ∀ sm : SemLoc sig, sm.isScoped .tc = true) :
    θ_run (Pipeline.defs (fun _ : Fin 1 => cfg.toPCfg) defs₀) (onTc main) ⟨m, fun _ => 0, ρ⟩
      (fun r => (∀ c, C.Ended m V c r.2) ∧ r.2.sem = fun _ => 0) :=
  Cert.Proof.LoneCall.run_lone_call (fun _ : Fin 1 => cfg.toPCfg) (fun _ => cfg.toPCfg_adm) (C.dats m N cfg) hcell (0 : Fin 1)
    hw ho (EP nD τ sig Val) defs₀ 𝒱₀ m ρ main
    (hmain := hmain) (hpre := rfl)
    (hbody := C.body_obligation m N cfg hN defs₀ 𝒱₀ hbody) (hne := fun w => hW.elim w) (harr := fun w => hW.elim w) (hstage := fun w => hW.elim w)
    (hshare := fun _ w => hW.elim w) (hdistinct := fun w => hW.elim w)
    (O₀ := (C.plan m N).owes₀) (howed₀ := fun _ => rfl) (howedN := fun _ => if_neg (show ¬ cfg.N = 0 by omega))
    (L := Plan.L) (lv := (C.plan m N).lv) (hL := Plan.L_of_ne)
    (hwaits := fun c => Pipeline.cellsWaits_intro (fun _ => cfg) (C.dats m N cfg) () 0 c fun w => hW.elim w)
    (G := (C.plan m N).ghost)
    (u₀ := (initOf (Pipeline.cells (fun _ => cfg) hcell) (Pipeline.launchToks (fun _ => cfg) hcell), initOf (C.plan m N).cellSet (C.plan m N).tokSet))
    (hu₀ := by
      iintro Hu
      ihave H := (ownU_pair _ _) $$ Hu
      icases H with ⟨HP, HX⟩
      imod (C.plan m N).fund_ghost $$ HX with HG
      imodintro
      isplitl [HP] <;> iassumption)
    (hA := fun _ w => hW.elim w)
    (X := (C.plan m N).start (C.buffers m))
    (Y := C.ends m V)
    (deal := (C.plan m N).deal _ _ _ m _ ((bigSep_mono fun c _ => hbufs c).trans (C.buffers_dealt m V)))
    (hin := fun c => by
      have h := C.start_holdings m N c
      show _ ⊢ C.holdings m N c
      iintro ⟨HX, -⟩
      iapply h; iexact HX)
    (hout := fun c => by
      have h := C.finished_out m N V c
      have hs := hscoped c
      have e : (C.dats m N cfg 0 c).Φ (Fin.last cfg.N) = C.finished m c := if_neg (show ¬ cfg.N = 0 by omega)
      show (C.dats m N cfg 0 c).Φ (Fin.last cfg.N) ⊢ iprop(C.ends m V c ∗ Pipeline.ownSems0 (C.plan (τ := τ) m N).osem c ∗ Pipeline.scopedRest cfg.spec c)
      rw [e]
      unfold ends
      iintro Hf
      ihave H := h $$ Hf
      icases H with ⟨H1, H2, H3⟩
      isplitl [H1 H2]
      · isplitl [H1]; · iexact H1
        iexact H2
      isplitl [H3]; · iexact H3
      iapply hs
      iempintro)
    (QY := fun c s => C.Ended m V c s)
    (hY := C.ends_read m V hin)
    (hQ := fun _ h hs => ⟨fun c => (h c).2, sem_eq_zero_of_scoped hsems hs⟩)

end Gather

end Cert.Proof.Exchange
-- ==== Proof.GatherOne.lean ====
/-
# An all-gather of one array

The array comes in eight blocks of `R` rows and `L` columns, and the result has a leading axis for the devices. Here: the
all-gather itself for any two buffers and semaphores, the order of its operations, where the blocks lie in the result,
and that the result, with the array dealt in blocks, is the whole array regrouped.
-/
module

public import proofs.«01_k».proof.Proof.GatherLaunch
public import Idealize.ShloMosaic.Lib.Pointwise
public import Idealize.ShloMosaic.Lib.LayoutAt

@[expose] public section

set_option synthInstance.maxSize 4096

noncomputable section

namespace Cert.Proof.Exchange.GatherOne

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A device's block, -/
abbrev flat (R L : Nat) : Shape := ⟨2, ![R, L]⟩
/-- the blocks of all devices, -/
abbrev parts (R L : Nat) : Shape := ⟨3, ![8, R, L]⟩
/-- one of them in its place. -/
abbrev onePart (R L : Nat) : Shape := ⟨3, ![1, R, L]⟩

theorem part_inb (R L : Nat) (o : Dev 8) : ∀ a, (![o.val, 0, 0] : Fin 3 → Nat) a + (onePart R L).size a ≤ (parts R L).size a := by
  have ho : o.val < 8 := o.isLt
  intro a
  fin_cases a
  · show o.val + 1 ≤ 8
    omega
  · exact Nat.le_of_eq (Nat.zero_add R)
  · exact Nat.le_of_eq (Nat.zero_add L)

/-- The place of device `o`'s block. -/
abbrev part (R L : Nat) (o : Dev 8) : Rect (parts R L) := Rect.unit (s := parts R L) ![o.val, 0, 0] (onePart R L).size (part_inb R L o)

theorem mem_part {R L : Nat} (o : Dev 8) (i : (parts R L).Idx) (h : (i 0).val = o.val) : i ∈ (part R L o).set := by
  rw [Rect.mem_set_unit]
  intro a
  fin_cases a
  · show o.val ≤ (i 0).val ∧ (i 0).val < o.val + 1
    omega
  · exact ⟨Nat.zero_le _, Nat.lt_of_lt_of_eq (i 1).isLt (Nat.zero_add _).symm⟩
  · exact ⟨Nat.zero_le _, Nat.lt_of_lt_of_eq (i 2).isLt (Nat.zero_add _).symm⟩

theorem part_disjoint {R L : Nat} (o o' : Dev 8) (h : o ≠ o') : Disjoint (part R L o).set (part R L o').set := by
  have hne : o.val ≠ o'.val := fun e => h (Fin.ext e)
  exact Rect.unit_disjoint 0 (by show o.val + 1 ≤ o'.val ∨ o'.val + 1 ≤ o.val; omega)

/-- The number of a copy. -/
def hopIdx : Hop → Fin 7
  | .inl (.inl _) => 0
  | .inl (.inr j) => ⟨1 + j.val, by omega⟩
  | .inr j => ⟨4 + j.val, by omega⟩

/-- The order in which such a program takes them. -/
def order : Gather.Order Unit where
  arrays := [()]
  firsts := [((), .inl ()), ((), .inr 0), ((), .inr 1), ((), .inr 2)]
  passes := [((), 0), ((), 1), ((), 2)]
  arrays_nodup := by decide
  firsts_nodup := by decide
  passes_nodup := by decide
  arrays_all := by decide
  firsts_all := by
    rintro ⟨⟨⟩, ⟨⟩ | j⟩
    · simp
    · fin_cases j <;> simp
  passes_all := by decide

variable {sig : RefSig} {R L : Nat} {e : EltTy}

/-- The semaphores of such a program: of the sources, of the landings, of the copy within the device. -/
abbrev sems (ssem rsem : Fin 7 → DmaSem sig) (hsem : DmaSem sig) : (Unit × Hop ⊕ Unit × Hop) ⊕ Unit → DmaSem sig :=
  Sum.elim (Sum.elim (fun x : Unit × Hop => ssem (hopIdx x.2)) (fun x : Unit × Hop => rsem (hopIdx x.2))) (fun _ => hsem)

/-- The all-gather of the array `inp` to `out`. -/
abbrev gather (inp : Memref sig .tc .hbm (flat R L) e) (out : Memref sig .tc .hbm (parts R L) e) (hs : (onePart R L).Squeezes (flat R L))
    (ssem rsem : Fin 7 → DmaSem sig) (hsem : DmaSem sig) (inj : Function.Injective (sems ssem rsem hsem)) : Gather 8 sig Unit where
  sh _ := flat R L
  shO _ := parts R L
  el _ := e
  inp _ := inp
  out _ := out
  rect _ o := part R L o
  rect_unit _ _ := fun _ => rfl
  squeezes _ _ := hs
  sib := Mesh.sib
  chip := Mesh.chip
  ssem _ h := ssem (hopIdx h)
  rsem _ h := rsem (hopIdx h)
  hsem _ := hsem
  inj := inj

/-- On the mesh every device's block reaches every device. -/
theorem reach : ∀ c : Dev 8, Function.Bijective (Sum.elim (fun _ : Unit => c) (Sum.elim (Sum.elim (fun _ : Unit => Mesh.sib.symm c) fun j => (Mesh.chip j).symm c)
    fun j => (Mesh.chip j).symm (Mesh.sib.symm c))) := by decide +kernel

variable {inp : Memref sig .tc .hbm (flat R L) e} {out : Memref sig .tc .hbm (parts R L) e} {hs : (onePart R L).Squeezes (flat R L)}
  {ssem rsem : Fin 7 → DmaSem sig} {hsem : DmaSem sig} {inj : Function.Injective (sems ssem rsem hsem)}

local notation "C" => gather inp out hs ssem rsem hsem inj

theorem placeSet_eq (o : Dev 8) : (C).placeSet () o = (part R L o).set.map out.view.emb :=
  (View.set_reshape (v := out.view.slice (part R L o)) (s' := flat R L) hs.numel_eq).trans (View.set_slice out.view (part R L o))

theorem covers (hset : out.view.set = Finset.univ) : (C).Covers where
  disjoint a o o' h := by
    rw [placeSet_eq, placeSet_eq]
    exact (Finset.disjoint_map _).mpr (part_disjoint o o' h)
  cover a i := by
    have hi : i ∈ out.view.set := hset ▸ Finset.mem_univ i
    obtain ⟨j, -, rfl⟩ := Finset.mem_map.mp hi
    exact ⟨(j 0 : Fin 8), (placeSet_eq _).symm ▸ Finset.mem_map_of_mem _ (mem_part _ j rfl)⟩
  reach c := by
    have h : (Sum.elim (fun _ : Unit => c) fun h => (C).sender h c)
        = Sum.elim (fun _ : Unit => c) (Sum.elim (Sum.elim (fun _ : Unit => Mesh.sib.symm c) fun j => (Mesh.chip j).symm c) fun j => (Mesh.chip j).symm (Mesh.sib.symm c)) := by
      funext x
      rcases x with ⟨⟩ | (⟨⟩ | j) | j <;> rfl
    rw [h]
    exact reach c

/-- A copy moves the units of one block. -/
def amounts (hpos : 0 < (flat R L).numel) : (C).Amounts where
  amount a := ((C).place a 0).view.dmaCredit
  place_eq _ _ := rfl
  pos _ := View.dmaCredit_pos _ hpos

/-! ## The result, read at an index -/

variable {τ : Topo} {Val : EltTy → Type} (m : (ℓ : Loc 8 τ sig) → Buf Val ℓ)

/-- With the array dealt in blocks, every result is the whole array, regrouped. -/
theorem result_whole {K : Nat} (V : (C).Covers) (c : Dev 8) (X : (flat K L).Idx → Val e) (hc : (flat K L).ShapeCasts (parts R L))
    (hT : Layout.Tiles (flat R L) (flat K L) 0 8)
    (hdrop : ∀ (v : (onePart R L).Idx → Val e) (h : (onePart R L).ShapeCasts (flat R L)) (y : (flat R L).Idx), shapeCast (flat R L) v h y = v (ix3 0 (y 0) (y 1)))
    (hgroup : ∀ i : (parts R L).Idx, shapeCast (parts R L) X hc i = X (hT.idx (i 0) (ix2 (i 1) (i 2))))
    (hm : ∀ o : Dev 8, inp.view.read Val (m (inp.view.loc (o.tc : Thread 8 τ))) = Layout.block (flat R L) (flat K L) 0 8 o X hT) :
    out.view.read Val ((C).result m V () c) = shapeCast (parts R L) X hc := by
  funext i
  have hp := congrFun ((C).read_result m V () (i 0) c) (ix2 (i 1) (i 2))
  have hread : ((C).place () (i 0)).view.read Val ((C).result m V () c) (ix2 (i 1) (i 2)) = out.view.read Val ((C).result m V () c) i := by
    refine (congrFun (Memref.read_squeeze_slice out (part R L (i 0)) (fun _ => rfl) hs (show (onePart R L).ShapeCasts (flat R L) from hs.numel_eq) ((C).result m V () c)) (ix2 (i 1) (i 2))).trans ?_
    refine (hdrop _ _ _).trans (congrArg (out.view.read Val ((C).result m V () c)) (Layout.idx_ext fun a => ?_))
    refine (Rect.emb_apply _ _ _).trans ?_
    fin_cases a
    · rfl
    · exact from_zero _
    · exact from_zero _
  refine hread.symm.trans (hp.trans ((congrFun (hm (i 0)) (ix2 (i 1) (i 2))).trans ?_))
  exact (Layout.block_apply _ _ _ _).trans (hgroup i).symm

end Cert.Proof.Exchange.GatherOne
-- ==== Proof.GatherRun.lean ====
/-
# The gather of the first call: one run of the program

Every device gathers two arrays from all eight: its two rows of conditioning and its 352 columns of the transposed
input weight. Here: the arrays, places and semaphores of this program, that its text issues the operations of the
all-gather in order, and the run of the whole program, for any float instance.
-/
module

public import proofs.«01_k».proof.Proof.GatherOne
public import proofs.«01_k».proof.Proof.Gen.GatherKernelIdeal.Frame
public import proofs.«01_k».proof.Proof.Gen.GatherKernelIdeal.Skeleton

@[expose] public section

set_option maxRecDepth 16384
set_option synthInstance.maxSize 4096

noncomputable section

namespace Cert.GatherFirst

open Cert.GatherKernelIdeal Cert.GatherKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The arrays, places and semaphores -/

/-- The two arrays. -/
inductive Arr
  | rows
  | weights
  deriving DecidableEq

instance : Fintype Arr := ⟨{.rows, .weights}, fun a => by cases a <;> decide⟩

theorem sem_inb : ∀ (i : Fin 14) a, (![i.val] : Fin 1 → Nat) a + S1.size a ≤ S14.size a := by decide +kernel
theorem here_inb : ∀ (i : Fin 2) a, (![i.val] : Fin 1 → Nat) a + S1.size a ≤ S2.size a := by decide +kernel

/-- The number of its two semaphores. -/
def semIdx : Arr → Hop → Fin 14
  | .rows, h => ⟨(GatherOne.hopIdx h).val, by omega⟩
  | .weights, h => ⟨7 + (GatherOne.hopIdx h).val, by omega⟩

def hereIdx : Arr → Fin 2
  | .rows => 0
  | .weights => 1

abbrev sendAt (i : Fin 14) : DmaSem sig := (((cc0_scratch0 : DmaSems sig S14).slice (Rect.unit (s := S14) ![i.val] S1.size (sem_inb i))).squeeze S_ squeezes_S1_S_).sem
abbrev recvAt (i : Fin 14) : DmaSem sig := (((cc0_scratch1 : DmaSems sig S14).slice (Rect.unit (s := S14) ![i.val] S1.size (sem_inb i))).squeeze S_ squeezes_S1_S_).sem
abbrev hereAt (i : Fin 2) : DmaSem sig := (((cc0_scratch2 : DmaSems sig S2).slice (Rect.unit (s := S2) ![i.val] S1.size (here_inb i))).squeeze S_ squeezes_S1_S_).sem

theorem sems_inj : Function.Injective (Sum.elim (Sum.elim (fun x : Arr × Hop => sendAt (semIdx x.1 x.2)) (fun x : Arr × Hop => recvAt (semIdx x.1 x.2)))
    (fun a => hereAt (hereIdx a))) := by
  decide +kernel

def C : Gather nD sig Arr where
  sh | .rows => S2x1024 | .weights => S352x1024
  shO | .rows => S8x2x1024 | .weights => S8x352x1024
  el | .rows => .f32 | .weights => .bf16
  inp | .rows => Memref.whole main_arg0 | .weights => Memref.whole main_arg1
  out | .rows => Memref.whole main_v1_0 | .weights => Memref.whole main_v1_1
  rect
    | .rows, o => GatherOne.part 2 1024 o
    | .weights, o => GatherOne.part 352 1024 o
  rect_unit | .rows, _ => fun _ => rfl | .weights, _ => fun _ => rfl
  squeezes | .rows, _ => squeezes_S1x2x1024_S2x1024 | .weights, _ => squeezes_S1x352x1024_S352x1024
  sib := Mesh.sib
  chip := Mesh.chip
  ssem a h := sendAt (semIdx a h)
  rsem a h := recvAt (semIdx a h)
  hsem a := hereAt (hereIdx a)
  inj := sems_inj

def N : C.Amounts where
  amount a := (C.place a 0).view.dmaCredit
  place_eq | .rows, _ => rfl | .weights, _ => rfl
  pos | .rows => View.dmaCredit_pos _ (by decide) | .weights => View.dmaCredit_pos _ (by decide)

/-- The order in which the program takes them. -/
def order : Gather.Order Arr where
  arrays := [.rows, .weights]
  firsts := [(.rows, .inl ()), (.rows, .inr 0), (.rows, .inr 1), (.rows, .inr 2), (.weights, .inl ()), (.weights, .inr 0), (.weights, .inr 1), (.weights, .inr 2)]
  passes := [(.rows, 0), (.weights, 0), (.rows, 1), (.weights, 1), (.rows, 2), (.weights, 2)]
  arrays_nodup := by decide
  firsts_nodup := by decide
  passes_nodup := by decide
  arrays_all := by decide
  firsts_all := by
    rintro ⟨a, ⟨⟩ | j⟩
    · cases a <;> simp
    · fin_cases j <;> cases a <;> simp
  passes_all := by decide

/-- A place of the program's text is the place of the device whose offset it has. -/
theorem place_rows {off : Fin 3 → Nat} {h} {p} (o : Dev nD) (e : off = ![o.val, 0, 0]) :
    ((Memref.whole main_v1_0 : Memref sig .tc .hbm S8x2x1024 .f32).slice (Rect.unit (s := S8x2x1024) off S1x2x1024.size h) p).squeeze S2x1024 squeezes_S1x2x1024_S2x1024
      = C.place .rows o := by subst e; rfl
theorem place_weights {off : Fin 3 → Nat} {h} {p} (o : Dev nD) (e : off = ![o.val, 0, 0]) :
    ((Memref.whole main_v1_1 : Memref sig .tc .hbm S8x352x1024 .bf16).slice (Rect.unit (s := S8x352x1024) off S1x352x1024.size h) p).squeeze S352x1024 squeezes_S1x352x1024_S352x1024
      = C.place .weights o := by subst e; rfl

/-! The offsets and devices of the text: own places, the devices of the first copies, then the places passed on. -/

theorem off1 : ∀ c : Dev nD, k0_off1 c = ![c.val, 0, 0] := by decide +kernel
theorem off2 : ∀ c : Dev nD, k0_off2 c = ![c.val, 0, 0] := by decide +kernel
theorem off3 : ∀ c : Dev nD, k0_off3 c = ![((Mesh.chip 0).symm c).val, 0, 0] := by decide +kernel
theorem off4 : ∀ c : Dev nD, k0_off4 c = ![((Mesh.chip 0).symm c).val, 0, 0] := by decide +kernel
theorem off5 : ∀ c : Dev nD, k0_off5 c = ![((Mesh.chip 1).symm c).val, 0, 0] := by decide +kernel
theorem off6 : ∀ c : Dev nD, k0_off6 c = ![((Mesh.chip 1).symm c).val, 0, 0] := by decide +kernel
theorem off7 : ∀ c : Dev nD, k0_off7 c = ![((Mesh.chip 2).symm c).val, 0, 0] := by decide +kernel
theorem off8 : ∀ c : Dev nD, k0_off8 c = ![((Mesh.chip 2).symm c).val, 0, 0] := by decide +kernel
theorem dev_sib : ∀ c : Dev nD, ∀ d ∈ [k0_dev1 c, k0_dev5 c, k0_dev9 c, k0_dev10 c, k0_dev11 c, k0_dev12 c, k0_dev13 c, k0_dev14 c], d = (Mesh.sib c).val := by
  decide +kernel
theorem dev_chip0 : ∀ c : Dev nD, ∀ d ∈ [k0_dev2 c, k0_dev6 c], d = (Mesh.chip 0 c).val := by decide +kernel
theorem dev_chip1 : ∀ c : Dev nD, ∀ d ∈ [k0_dev3 c, k0_dev7 c], d = (Mesh.chip 1 c).val := by decide +kernel
theorem dev_chip2 : ∀ c : Dev nD, ∀ d ∈ [k0_dev4 c, k0_dev8 c], d = (Mesh.chip 2 c).val := by decide +kernel

/-! ## The body -/

abbrev 𝒱₀ : Variants := Variants.none

variable (m : (ℓ : Loc nD τ sig) → Buf (Elt F) ℓ) (ρ : Dev nD → PrngReg)

theorem body_runs (c : Dev nD) :
    iprop(C.holdings m N c ∗ Gather.owed c ((C.plan m N).owes₀ c))
      ⊢ wp frame (wpE (defs₀ (F := F)) 𝒱₀ c.tc none) Set.univ (bodyAt0 (F := F) t0_0) (fun _ => iprop(C.finished m c ∗ Gather.owed c 0)) := by
  simp only [bodyAt0, cc0_gather_first_eq_skeleton]
  unfold cc0_gather_first_skel
  rw [k0_part19_eq_skeleton]
  unfold k0_part19_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [Prog.lift, Prog.bind_op, Prog.bind_ret, Prog.pure_eq_ret, wp_deviceId]
  refine C.wp_gather m N 𝒱₀ none order c (fun c' => by routes) _ ?_
  refine .here (a := Arr.rows) rfl (place_rows c (off1 c)) rfl ?_
  refine .here (a := Arr.weights) rfl (place_weights c (off2 c)) rfl ?_
  refine .send (x := (Arr.rows, .inl (.inl ()))) rfl (place_rows c (off1 c)) (Fin.ext (dev_sib c _ (by simp))) rfl rfl ?_
  refine .send (x := (Arr.rows, .inl (.inr 0))) rfl (place_rows c (off1 c)) (Fin.ext (dev_chip0 c _ (by simp))) rfl rfl ?_
  refine .send (x := (Arr.rows, .inl (.inr 1))) rfl (place_rows c (off1 c)) (Fin.ext (dev_chip1 c _ (by simp))) rfl rfl ?_
  refine .send (x := (Arr.rows, .inl (.inr 2))) rfl (place_rows c (off1 c)) (Fin.ext (dev_chip2 c _ (by simp))) rfl rfl ?_
  refine .send (x := (Arr.weights, .inl (.inl ()))) rfl (place_weights c (off2 c)) (Fin.ext (dev_sib c _ (by simp))) rfl rfl ?_
  refine .send (x := (Arr.weights, .inl (.inr 0))) rfl (place_weights c (off2 c)) (Fin.ext (dev_chip0 c _ (by simp))) rfl rfl ?_
  refine .send (x := (Arr.weights, .inl (.inr 1))) rfl (place_weights c (off2 c)) (Fin.ext (dev_chip1 c _ (by simp))) rfl rfl ?_
  refine .send (x := (Arr.weights, .inl (.inr 2))) rfl (place_weights c (off2 c)) (Fin.ext (dev_chip2 c _ (by simp))) rfl rfl ?_
  refine .waitLanded (x := (Arr.rows, .inl (.inr 0))) rfl rfl ?_
  refine .send (x := (Arr.rows, .inr 0)) (place_rows _ (off3 c)) (place_rows _ (off3 c)) (Fin.ext (dev_sib c _ (by simp))) rfl rfl ?_
  refine .waitLanded (x := (Arr.weights, .inl (.inr 0))) rfl rfl ?_
  refine .send (x := (Arr.weights, .inr 0)) (place_weights _ (off4 c)) (place_weights _ (off4 c)) (Fin.ext (dev_sib c _ (by simp))) rfl rfl ?_
  refine .waitLanded (x := (Arr.rows, .inl (.inr 1))) rfl rfl ?_
  refine .send (x := (Arr.rows, .inr 1)) (place_rows _ (off5 c)) (place_rows _ (off5 c)) (Fin.ext (dev_sib c _ (by simp))) rfl rfl ?_
  refine .waitLanded (x := (Arr.weights, .inl (.inr 1))) rfl rfl ?_
  refine .send (x := (Arr.weights, .inr 1)) (place_weights _ (off6 c)) (place_weights _ (off6 c)) (Fin.ext (dev_sib c _ (by simp))) rfl rfl ?_
  refine .waitLanded (x := (Arr.rows, .inl (.inr 2))) rfl rfl ?_
  refine .send (x := (Arr.rows, .inr 2)) (place_rows _ (off7 c)) (place_rows _ (off7 c)) (Fin.ext (dev_sib c _ (by simp))) rfl rfl ?_
  refine .waitLanded (x := (Arr.weights, .inl (.inr 2))) rfl rfl ?_
  refine .send (x := (Arr.weights, .inr 2)) (place_weights _ (off8 c)) (place_weights _ (off8 c)) (Fin.ext (dev_sib c _ (by simp))) rfl rfl ?_
  refine .waitLanded (x := (Arr.rows, .inl (.inl ()))) rfl rfl ?_
  refine .waitLanded (x := (Arr.rows, .inr 0)) rfl rfl ?_
  refine .waitLanded (x := (Arr.rows, .inr 1)) rfl rfl ?_
  refine .waitLanded (x := (Arr.rows, .inr 2)) rfl rfl ?_
  refine .waitLanded (x := (Arr.weights, .inl (.inl ()))) rfl rfl ?_
  refine .waitLanded (x := (Arr.weights, .inr 0)) rfl rfl ?_
  refine .waitLanded (x := (Arr.weights, .inr 1)) rfl rfl ?_
  refine .waitLanded (x := (Arr.weights, .inr 2)) rfl rfl ?_
  refine .waitSent (x := (Arr.rows, .inl (.inl ()))) rfl rfl ?_
  refine .waitSent (x := (Arr.rows, .inl (.inr 0))) rfl rfl ?_
  refine .waitSent (x := (Arr.rows, .inl (.inr 1))) rfl rfl ?_
  refine .waitSent (x := (Arr.rows, .inl (.inr 2))) rfl rfl ?_
  refine .waitSent (x := (Arr.weights, .inl (.inl ()))) rfl rfl ?_
  refine .waitSent (x := (Arr.weights, .inl (.inr 0))) rfl rfl ?_
  refine .waitSent (x := (Arr.weights, .inl (.inr 1))) rfl rfl ?_
  refine .waitSent (x := (Arr.weights, .inl (.inr 2))) rfl rfl ?_
  refine .waitSent (x := (Arr.rows, .inr 0)) rfl rfl ?_
  refine .waitSent (x := (Arr.weights, .inr 0)) rfl rfl ?_
  refine .waitSent (x := (Arr.rows, .inr 1)) rfl rfl ?_
  refine .waitSent (x := (Arr.weights, .inr 1)) rfl rfl ?_
  refine .waitSent (x := (Arr.rows, .inr 2)) rfl rfl ?_
  refine .waitSent (x := (Arr.weights, .inr 2)) rfl rfl ?_
  refine .waitHere (a := Arr.rows) rfl rfl ?_
  refine .waitHere (a := Arr.weights) rfl rfl ?_
  exact .done

/-! ## Where the blocks lie -/

/-- The place of a block in the result, as a rectangle. -/
abbrev partR (o : Dev nD) : Rect S8x2x1024 := GatherOne.part 2 1024 o
abbrev partW (o : Dev nD) : Rect S8x352x1024 := GatherOne.part 352 1024 o

theorem set_rows (o : Dev nD) : C.placeSet .rows o = (partR o).set :=
  (View.set_reshape (v := (View.whole main_v1_0).slice (partR o)) (s' := S2x1024) (show S2x1024.numel = S1x2x1024.numel by decide)).trans (View.set_slice_whole main_v1_0 (partR o))
theorem set_weights (o : Dev nD) : C.placeSet .weights o = (partW o).set :=
  (View.set_reshape (v := (View.whole main_v1_1).slice (partW o)) (s' := S352x1024) (show S352x1024.numel = S1x352x1024.numel by decide)).trans (View.set_slice_whole main_v1_1 (partW o))

theorem covers : C.Covers where
  disjoint a o o' h := by
    cases a
    · rw [set_rows, set_rows]
      exact GatherOne.part_disjoint o o' h
    · rw [set_weights, set_weights]
      exact GatherOne.part_disjoint o o' h
  cover a := by
    cases a
    · exact fun i : S8x2x1024.Idx => ⟨(i 0 : Fin 8), (set_rows (i 0)).symm ▸ GatherOne.mem_part (i 0) i rfl⟩
    · exact fun i : S8x352x1024.Idx => ⟨(i 0 : Fin 8), (set_weights (i 0)).symm ▸ GatherOne.mem_part (i 0) i rfl⟩
  reach := by decide +kernel

/-! ## The launch -/

theorem own_sems : Pipeline.OwnSemFacts cfg0.spec (C.plan (Val := Elt F) (τ := τ) m N).osem := by
  have e : (C.plan (Val := Elt F) (τ := τ) m N).osem = Sum.elim (Sum.elim (fun x : Arr × Hop => (SemLoc.dma (sendAt (semIdx x.1 x.2)) : SemLoc sig))
      (fun x : Arr × Hop => SemLoc.dma (recvAt (semIdx x.1 x.2)))) (fun a => SemLoc.dma (hereAt (hereIdx a))) := by
    funext x
    rcases x with (x | x) | a <;> rfl
  rw [e]
  decide +kernel

/-- The two arrays, one after the other. -/
theorem both (Φ : Arr → sProp 𝕄) : bigSep Finset.univ Φ = iprop(Φ .rows ∗ Φ .weights) := by
  rw [← Gather.sepL_eq Φ [.rows, .weights] (by decide) (by decide)]
  have e (P : sProp 𝕄) : iprop(P ∗ emp) = P := equiv_iff.mp sep_emp
  simp only [Gather.sepL, e]

theorem block_whole (c : Dev nD) : (C.blockAll m .rows c : sProp 𝕄) = ((c.tc.loc main_arg0) ↦{fullShare} m (c.tc.loc main_arg0))
    ∧ (C.blockAll m .weights c : sProp 𝕄) = ((c.tc.loc main_arg1) ↦{fullShare} m (c.tc.loc main_arg1)) := by
  constructor
  · show ((c.tc.loc main_arg0) ↦[(View.whole main_arg0).set]{fullShare} m (c.tc.loc main_arg0) : sProp 𝕄) = _
    rw [View.set_whole]
  · show ((c.tc.loc main_arg1) ↦[(View.whole main_arg1).set]{fullShare} m (c.tc.loc main_arg1) : sProp 𝕄) = _
    rw [View.set_whole]

theorem buffers_dealt (c : Dev nD) : (Pipeline.unscopedRest cfg0.spec c (fun b => m (c.tc.loc b)) : sProp 𝕄)
    ⊢ iprop((bigSep Finset.univ fun a => C.blockAll m a c) ∗ bigSep Finset.univ fun a => C.outAll a c (m _)) := by
  rw [unscopedRest0_eq, both, both, (block_whole m c).1, (block_whole m c).2]
  iintro ⟨H0, H1, H2, H3⟩
  isplitl [H0 H1]; · isplitl [H0] <;> iassumption
  iapply (show iprop(((c.tc.loc main_v1_0) ↦{fullShare} m (c.tc.loc main_v1_0))
      ∗ ((c.tc.loc main_v1_1) ↦{fullShare} m (c.tc.loc main_v1_1)) : sProp 𝕄)
    ⊢ iprop(C.outAll .rows c (m _) ∗ C.outAll .weights c (m _)) from BIBase.Entails.rfl)
  isplitl [H2] <;> iassumption

/-- The state in which a run of the program ends: the blocks unchanged, every result gathered. -/
def Ended (s : MemSt nD τ sig (Elt F)) : Prop :=
  ∀ c : Dev nD, (s.mem (c.tc.loc main_arg0) = m (c.tc.loc main_arg0)
      ∧ s.mem (c.tc.loc main_arg1) = m (c.tc.loc main_arg1))
    ∧ s.mem (c.tc.loc main_v1_0) = C.result m covers .rows c
    ∧ s.mem (c.tc.loc main_v1_1) = C.result m covers .weights c

/-- Every execution of the program ends, with every semaphore at zero, in such a state. -/
theorem run_main : θ_run defs (onTc (τ := τ) (main (F := F))) ⟨m, fun _ => 0, ρ⟩ (fun r => Ended m r.2 ∧ r.2.sem = fun _ => 0) :=
  haveI : IsEmpty (Fin cfg0.W) := inferInstanceAs (IsEmpty (Fin 0))
  (θ_run defs _ _).mono
    (fun r h => ⟨fun c => ⟨⟨(h.1 c .rows).1, (h.1 c .weights).1⟩, (h.1 c .rows).2, (h.1 c .weights).2⟩, h.2⟩)
    (C.run_launch m N covers cfg0 N_0 defs₀ 𝒱₀ (fun c t => by rw [fin_N0 t]; exact body_runs m c)
      (fun | .rows => View.set_whole main_arg0 | .weights => View.set_whole main_arg1) ρ main
      cellOf_inj winFacts0.to₀ (own_sems m) (fun _ => rfl) (buffers_dealt m) (fun c => by rw [scopedRest0_eq]) (by decide))

end Cert.GatherFirst
-- ==== Proof.GatherClaims.lean ====
/-
# The gather of the first call: the claims

Every device's result is the whole array, block by block: the reference, a change of shape, index for index. It is all
moves of data, so it holds of the program as it runs on words, and of the reference on words, as it does over the
extended reals.
-/
module

public import proofs.«01_k».proof.Defs
public import proofs.«01_k».proof.Proof.GatherRun
public import proofs.«01_k».proof.Proof.Gen.GatherKernel
public import proofs.«01_k».proof.Proof.Gen.GatherReference.Run
public import proofs.«01_k».proof.Proof.Gen.GatherReferenceIdeal.Run
public import Idealize.ShloMosaic.Lib.Pointwise
public import Idealize.ShloMosaic.Lib.LayoutAt

@[expose] public section

set_option maxRecDepth 16384

noncomputable section

namespace Cert.GatherFirst

open Idealize.ShloMosaic Idealize.ShloMosaic.TcCoe Idealize.SL.Sem
open Cert.GatherKernelIdeal Cert.GatherKernelIdeal.Gen

variable {F : FTy → Type} [FloatOps F]

/-! ## The results, read at an index -/

theorem unit_dropped_rows {α : Type} (v : S1x2x1024.Idx → α) (h : S1x2x1024.ShapeCasts S2x1024) (y : S2x1024.Idx) :
    shapeCast S2x1024 v h y = v (ix3 0 (y 0) (y 1)) := by
  pointwise []
theorem unit_dropped_weights {α : Type} (v : S1x352x1024.Idx → α) (h : S1x352x1024.ShapeCasts S352x1024) (y : S352x1024.Idx) :
    shapeCast S352x1024 v h y = v (ix3 0 (y 0) (y 1)) := by
  pointwise []

/-- Index `y` of the place of device `o`'s block is index `(o, y)` of the result. -/
theorem read_rows (o : Dev nD) (X : S8x2x1024.Idx → Elt F .f32) (y : S2x1024.Idx) :
    (C.place .rows o).view.read (Elt F) X y = X (ix3 o (y 0) (y 1)) := by
  refine (congrFun (Memref.read_squeeze_slice (Memref.whole main_v1_0) (partR o) (fun _ => rfl) squeezes_S1x2x1024_S2x1024 (by decide : S1x2x1024.ShapeCasts S2x1024) X) y).trans ?_
  refine (unit_dropped_rows _ _ y).trans (congrArg X (Layout.idx_ext fun a => ?_))
  refine (Rect.emb_apply _ _ _).trans ?_
  fin_cases a
  · rfl
  · exact from_zero _
  · exact from_zero _
theorem read_weights (o : Dev nD) (X : S8x352x1024.Idx → Elt F .bf16) (y : S352x1024.Idx) :
    (C.place .weights o).view.read (Elt F) X y = X (ix3 o (y 0) (y 1)) := by
  refine (congrFun (Memref.read_squeeze_slice (Memref.whole main_v1_1) (partW o) (fun _ => rfl) squeezes_S1x352x1024_S352x1024 (by decide : S1x352x1024.ShapeCasts S352x1024) X) y).trans ?_
  refine (unit_dropped_weights _ _ y).trans (congrArg X (Layout.idx_ext fun a => ?_))
  refine (Rect.emb_apply _ _ _).trans ?_
  fin_cases a
  · rfl
  · exact from_zero _
  · exact from_zero _

variable (m : (ℓ : Loc nD τ sig) → Buf (Elt F) ℓ)

theorem result_rows (c o : Dev nD) (y : S2x1024.Idx) :
    (C.result m covers .rows c : S8x2x1024.Idx → _) (ix3 o (y 0) (y 1)) = m (o.tc.loc main_arg0) y :=
  (read_rows o (C.result m covers .rows c) y).symm.trans (congrFun (C.read_result m covers .rows o c) y)
theorem result_weights (c o : Dev nD) (y : S352x1024.Idx) :
    (C.result m covers .weights c : S8x352x1024.Idx → _) (ix3 o (y 0) (y 1)) = m (o.tc.loc main_arg1) y :=
  (read_weights o (C.result m covers .weights c) y).symm.trans (congrFun (C.read_result m covers .weights o c) y)

/-- Row `j` of part `o`, parts of `R` rows. -/
def row8 (R : Nat) (o : Fin 8) (j : Fin R) : Fin (8 * R) := ⟨o.val * R + j.val, by
  have h := Nat.mul_le_mul_right R (Nat.succ_le_of_lt o.isLt)
  have hj := j.isLt
  rw [Nat.succ_mul] at h
  omega⟩

/-- An array whose `o`-th part is the `o`-th block of `X` is `X`, regrouped. -/
theorem regrouped_rows {α : Type} (Y : S8x2x1024.Idx → α) (B : Fin 8 → S2x1024.Idx → α) (X : (⟨2, ![16, 1024]⟩ : Shape).Idx → α)
    (hY : ∀ (o : Fin 8) (y : S2x1024.Idx), Y (ix3 o (y 0) (y 1)) = B o y)
    (hB : ∀ o, B o = Layout.block ⟨2, ![2, 1024]⟩ ⟨2, ![16, 1024]⟩ 0 8 o X) (h : Shape.ShapeCasts ⟨2, ![16, 1024]⟩ S8x2x1024) :
    Y = shapeCast S8x2x1024 X h := by
  funext i
  have hi : i = (ix3 (i 0) (i 1) (i 2) : S8x2x1024.Idx) := Layout.idx_ext fun a => by fin_cases a <;> rfl
  refine (congrArg Y hi).trans ((hY (i 0) (ix2 (i 1) (i 2))).trans ?_)
  refine (congrFun (hB (i 0)) (ix2 (i 1) (i 2))).trans ((Layout.block_apply _ _ _ _).trans ?_)
  have hr : shapeCast S8x2x1024 X h i = X (ix2 (row8 2 (i 0) (i 1)) (i 2)) := by
    pointwise []
    rfl
  refine (congrArg X (Layout.idx_ext fun a => ?_)).trans hr.symm
  fin_cases a <;> rfl

/-- An array whose `o`-th part is the `o`-th block of `X` is `X`, regrouped. -/
theorem regrouped_weights {α : Type} (Y : S8x352x1024.Idx → α) (B : Fin 8 → S352x1024.Idx → α) (X : (⟨2, ![2816, 1024]⟩ : Shape).Idx → α)
    (hY : ∀ (o : Fin 8) (y : S352x1024.Idx), Y (ix3 o (y 0) (y 1)) = B o y)
    (hB : ∀ o, B o = Layout.block ⟨2, ![352, 1024]⟩ ⟨2, ![2816, 1024]⟩ 0 8 o X) (h : Shape.ShapeCasts ⟨2, ![2816, 1024]⟩ S8x352x1024) :
    Y = shapeCast S8x352x1024 X h := by
  funext i
  have hi : i = (ix3 (i 0) (i 1) (i 2) : S8x352x1024.Idx) := Layout.idx_ext fun a => by fin_cases a <;> rfl
  refine (congrArg Y hi).trans ((hY (i 0) (ix2 (i 1) (i 2))).trans ?_)
  refine (congrFun (hB (i 0)) (ix2 (i 1) (i 2))).trans ((Layout.block_apply _ _ _ _).trans ?_)
  have hr : shapeCast S8x352x1024 X h i = X (ix2 (row8 352 (i 0) (i 1)) (i 2)) := by
    pointwise []
    rfl
  refine (congrArg X (Layout.idx_ext fun a => ?_)).trans hr.symm
  fin_cases a <;> rfl

/-- With the arrays dealt in blocks, every result is the whole array, regrouped. -/
theorem rows_whole (c : Dev nD) (X : (⟨2, ![16, 1024]⟩ : Shape).Idx → Elt F .f32) (h : Shape.ShapeCasts ⟨2, ![16, 1024]⟩ S8x2x1024)
    (hm : ∀ o : Dev nD, m (o.tc.loc main_arg0) = Layout.block ⟨2, ![2, 1024]⟩ ⟨2, ![16, 1024]⟩ 0 8 o X) :
    C.result m covers .rows c = shapeCast S8x2x1024 X h :=
  regrouped_rows (C.result m covers .rows c) (fun o : Dev nD => m (o.tc.loc main_arg0)) X (result_rows m c) hm h

/-- With the arrays dealt in blocks, every result is the whole array, regrouped. -/
theorem weights_whole (c : Dev nD) (X : (⟨2, ![2816, 1024]⟩ : Shape).Idx → Elt F .bf16) (h : Shape.ShapeCasts ⟨2, ![2816, 1024]⟩ S8x352x1024)
    (hm : ∀ o : Dev nD, m (o.tc.loc main_arg1) = Layout.block ⟨2, ![352, 1024]⟩ ⟨2, ![2816, 1024]⟩ 0 8 o X) :
    C.result m covers .weights c = shapeCast S8x352x1024 X h :=
  regrouped_weights (C.result m covers .weights c) (fun o : Dev nD => m (o.tc.loc main_arg1)) X (result_weights m c) hm h

/-! ## The claims -/

theorem frame_ideal : Cert.quiescent_GatherKernelIdeal := fun m ρ _ =>
  (θ_run Cert.GatherKernelIdeal.defs _ _).mono (fun _ h => ⟨fun c => (h.1 c).1, h.2⟩) (run_main (F := Ideal) m ρ)

set_option maxHeartbeats 4000000 in
/-- The two programs have one body table. -/
theorem tables_eq : Cert.GatherKernel.defs (F := F) = Cert.GatherKernelIdeal.defs (F := F) :=
  congrArg (Pipeline.defs _) (congrArg Defs.onTc (one_row rfl))

theorem frame_kernel : Cert.quiescent_GatherKernel := fun m ρ _ => by
  have h := (θ_run Cert.GatherKernelIdeal.defs _ _).mono (fun _ h => (⟨fun c => (h.1 c).1, h.2⟩ : _ ∧ _)) (run_main (F := Bits) m ρ)
  rw [← tables_eq] at h
  exact h

theorem frame_reference_ideal : Cert.quiescent_GatherReferenceIdeal := fun m ρ _ =>
  (θ_run Cert.GatherReferenceIdeal.defs _ _).mono (fun r h => ⟨fun c => (h c).2.2, sem_eq_zero_of_no_sems (by decide) r.2⟩)
    (Cert.GatherReferenceIdeal.Value.run (F := Ideal) m ρ)

theorem frame_reference : Cert.quiescent_GatherReference := fun m ρ _ =>
  (θ_run Cert.GatherReference.defs _ _).mono (fun r h => ⟨fun c => (h c).2.2, sem_eq_zero_of_no_sems (by decide) r.2⟩)
    (Cert.GatherReference.Value.run (F := Bits) m ρ)

theorem values : Cert.algebraic_GatherKernelIdeal_GatherReferenceIdeal := by
  intro m g m' g' _ hm
  exact ⟨_, _, (θ_run Cert.GatherKernelIdeal.defs _ _).mono (fun r h c =>
      ⟨(h.1 c).2.1.trans (rows_whole m c _ _ fun o => (hm o).1), (h.1 c).2.2.trans (weights_whole m c _ _ fun o => (hm o).2), (h.1 c).1⟩)
      (run_main (F := Ideal) m g),
    (θ_run Cert.GatherReferenceIdeal.defs _ _).mono (fun r h => h 0) (Cert.GatherReferenceIdeal.Value.run (F := Ideal) m' g')⟩

theorem words : Cert.bitexact_GatherKernel_GatherReference := by
  intro m g m' g' _ hm
  refine ⟨_, _, ?_, (θ_run Cert.GatherReference.defs _ _).mono (fun r h => h 0) (Cert.GatherReference.Value.run (F := Bits) m' g')⟩
  have h := (θ_run Cert.GatherKernelIdeal.defs _ _).mono (fun r h c =>
      (⟨(h.1 c).2.1.trans (rows_whole m c _ (by decide) fun o => (hm o).1), (h.1 c).2.2.trans (weights_whole m c _ (by decide) fun o => (hm o).2), (h.1 c).1⟩ : _ ∧ _ ∧ _))
      (run_main (F := Bits) m g)
  rw [← tables_eq] at h
  exact h

end Cert.GatherFirst
-- ==== Proof.SwapRun.lean ====
/-
# The swap of the input weight's reduced half: one run of the program

Every device hands one array whole to the other core of its chip and waits for the other core's. Here: the one copy, the
body, and the run of the whole program, for any float instance.
-/
module

public import proofs.«01_k».proof.Proof.Copies
public import proofs.«01_k».proof.Proof.LoneCall
public import proofs.«01_k».proof.Proof.Gen.SwapKernelIdeal.Frame
public import proofs.«01_k».proof.Proof.Gen.SwapKernelIdeal.Skeleton

@[expose] public section

set_option maxRecDepth 16384

noncomputable section

namespace Cert.SwapIn

open Cert.SwapKernelIdeal Cert.SwapKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The copy -/

abbrev sendS : DmaSems sig S_ := ((cc0_scratch0 : DmaSems sig S1).slice (Rect.unit (s := S1) ![0] S1.size inb_S1_S1_0)).squeeze S_ squeezes_S1_S_
abbrev recvS : DmaSems sig S_ := ((cc0_scratch1 : DmaSems sig S1).slice (Rect.unit (s := S1) ![0] S1.size inb_S1_S1_0)).squeeze S_ squeezes_S1_S_

/-- The other core of the chip. -/
def other (c : Dev nD) : Dev nD := ⟨k0_dev1 c, k0_dev1_lt c⟩
theorem other_other : ∀ c, other (other c) = c := by decide +kernel
theorem other_val : ∀ c : Dev nD, (other c).val = 2 * (c.val / 2) + (1 - c.val % 2) := by decide +kernel
def swap : Equiv.Perm (Dev nD) := ⟨other, other, other_other, other_other⟩

theorem sems_inj : Function.Injective (Sum.elim (fun _ : Unit => (SemLoc.dma sendS.sem : SemLoc sig)) fun _ : Unit => SemLoc.dma recvS.sem) := by
  decide

/-- The one copy: the array, whole, into the other core's result. -/
def C : Copies nD sig Unit where
  spS _ := .hbm
  spD _ := .hbm
  sh _ := S352x1024
  el _ := .f32
  src _ _ := Memref.whole main_arg0
  dst _ _ := Memref.whole main_v1
  peer _ := swap
  ssem _ := .dma sendS.sem
  rsem _ := .dma recvS.sem
  inj := sems_inj
  q _ := fullShare
  amount _ := (View.whole main_v1).amount (.dma recvS.sem)
  amount_eq _ _ := rfl
  amount_pos _ := View.amount_pos _ _ (by decide)

theorem only {M : Type} [URA M] (Φ : Unit → sProp M) : bigSep Finset.univ Φ = Φ () := by
  rw [show (Finset.univ : Finset Unit) = {()} from rfl, bigSep_singleton]

theorem owing_all (c : Dev nD) : C.owing (τ := τ) Finset.univ c = 0 + tallyAt (C.recvCell () (C.peer () c)) () (C.amount ()) := by
  unfold Copies.owing
  rw [show (Finset.univ : Finset Unit) = {()} from rfl, Finset.sum_singleton, zero_add]

/-! ## The body -/

variable (m : (ℓ : Loc nD τ sig) → Buf (Elt F) ℓ) (ρ : Dev nD → PrngReg)

abbrev 𝒱₀ : Variants := Variants.none

/-- What a device holds before the call. -/
def holds (c : Dev nD) : sProp 𝕄 := iprop((∃ κ, (C.plan m).records κ) ∗ (C.todo m () c ∗ C.expected () c) ∗ emp)

theorem body_runs (c : Dev nD) :
    iprop(holds m c ∗ ∃ W, owes c.tc (C.owing (τ := τ) Finset.univ c) W)
      ⊢ wp frame (wpE (defs₀ (F := F)) 𝒱₀ c.tc none) Set.univ (bodyAt0 (F := F) t0_0)
        (fun _ => iprop(C.finished m () c ∗ ∃ W, owes c.tc 0 W)) := by
  simp only [bodyAt0, cc0_pair_swap_in_eq_skeleton]
  unfold cc0_pair_swap_in_skel
  rw [k0_part1_eq_skeleton]
  unfold k0_part1_skel
  simp only [Prog.lift, Prog.bind_op, Prog.bind_ret, Prog.pure_eq_ret, wp_deviceId]
  unfold holds
  iintro ⟨⟨⟨%κ, #HR⟩, Hk, -⟩, %W, HO⟩
  iapply (C.wp_start m 𝒱₀ none c κ () (O := 0) (owing_all c)) $$ [Hk HO]
  · isplitr; · iexact HR
    isplitl [Hk]; · iexact Hk
    iexact HO
  iintro ⟨Hg, HO⟩
  unfold Copies.going Copies.finished
  icases Hg with ⟨Hs, Hr⟩
  iapply (C.wp_sent m 𝒱₀ none c κ () (wpE_waitDma2_eq 𝒱₀ c.tc none Set.univ) rfl) $$ [Hs HO]
  · isplitr; · iexact HR
    isplitl [Hs] <;> iassumption
  iintro ⟨Hs, HO⟩
  iapply (C.wp_landed m 𝒱₀ none c κ () (wpE_waitDma2_eq 𝒱₀ c.tc none Set.univ) rfl) $$ [Hr HO]
  · isplitr; · iexact HR
    isplitl [Hr] <;> iassumption
  iintro ⟨Hr, HO⟩
  rw [wp_ret]
  imodintro
  isplitr [HO]
  · isplitl [Hs] <;> iassumption
  iexists _
  iexact HO

/-! ## The launch -/

def dats (_ : Fin 1) (c : Dev nD) : Dat τ (Elt F) Unit ℕ (UU nD τ sig) ℕ cfg0 c where
  A w := m ((cfg0.win w).arr.view.loc c.tc)
  after w t := w.elim0
  Φ t := if t.val = 0 then holds m c else C.finished m () c
  q _ := fullShare
  owed t := if t.val = 0 then C.owing Finset.univ c else 0

theorem body_obligation (c : Dev nD) : BodyObligation (dats (F := F) m 0 c) (defs₀ (F := F)) 𝒱₀ () Set.univ := fun t => by
  rw [fin_N0 t]
  have hno (Φ : Fin cfg0.W → sProp 𝕄) : bigSep Finset.univ Φ = BI.emp := bigSep_empty
  rw [hno, hno]
  refine BIBase.Entails.trans (Q := iprop(holds m c ∗ ∃ W, owes c.tc (C.owing (τ := τ) Finset.univ c) W)) ?_ ((body_runs m c).trans (wp_mono _ _ _ fun _ => ?_))
  · show iprop(holds m c ∗ (dats m 0 c).owesAt () t0_0.castSucc ∗ BI.emp) ⊢ _
    unfold Dat.owesAt Pipeline.owesWithin
    iintro ⟨Hh, ⟨%W, %hW, HO⟩, -⟩
    isplitl [Hh]; · iexact Hh
    iexists W
    iexact HO
  · show _ ⊢ iprop(C.finished m () c ∗ (dats m 0 c).owesAt () t0_0.succ ∗ BI.emp)
    unfold Dat.owesAt Pipeline.owesWithin
    iintro ⟨Hh, %W, HO⟩
    isplitl [Hh]; · iexact Hh
    isplitl [HO]
    · iexists W
      isplitr; · ipureintro; exact fun _ _ => Or.inl trivial
      iexact HO
    iempintro

theorem own_sems : Pipeline.OwnSemFacts cfg0.spec (C.plan (Val := Elt F) (τ := τ) m).osem := by
  show Pipeline.OwnSemFacts cfg0.spec (Sum.elim (fun _ : Unit => (SemLoc.dma sendS.sem : SemLoc sig)) fun _ : Unit => SemLoc.dma recvS.sem)
  decide

theorem waits (c : Dev nD) : (levAts Plan.L (C.plan m).lv : sProp 𝕄) ⊢ Pipeline.cellsWaits cfgs (dats m) () 0 c :=
  Pipeline.cellsWaits_intro cfgs (dats m) () 0 c fun w => w.elim0

/-- What lands on device `c`: the other core's array. -/
def landed (c : Dev nD) : S352x1024.Idx → Elt F .f32 := m ((other c).tc.loc main_arg0)

theorem src_whole (c : Dev nD) : C.srcPts m () c = ((c.tc.loc main_arg0) ↦{fullShare} m (c.tc.loc main_arg0) : sProp 𝕄) := by
  unfold Copies.srcPts
  show ((c.tc.loc main_arg0) ↦[(View.whole main_arg0).set]{fullShare} m (c.tc.loc main_arg0) : sProp 𝕄) = _
  rw [View.set_whole]
theorem dst_whole (c : Dev nD) : C.dstPts m () c = (((other c).tc.loc main_v1) ↦{fullShare} m ((other c).tc.loc main_v1) : sProp 𝕄) := by
  unfold Copies.dstPts
  show (((other c).tc.loc main_v1) ↦[(View.whole main_v1).set]{fullShare} m ((other c).tc.loc main_v1) : sProp 𝕄) = _
  rw [View.set_whole]
theorem arrived_eq (c : Dev nD) : (C.arrived m () (other c) c : S352x1024.Idx → Elt F .f32) = landed m c :=
  View.write_whole_univ _ _ _
theorem land_whole (c : Dev nD) : C.landPts m () c = ((c.tc.loc main_v1) ↦{fullShare} landed m c : sProp 𝕄) := by
  unfold Copies.landPts
  show ((c.tc.loc main_v1) ↦[(View.whole main_v1).set]{fullShare} (C.arrived m () (other c) c : S352x1024.Idx → Elt F .f32) : sProp 𝕄) = _
  rw [View.set_whole, arrived_eq]

/-- The buffers a device's body starts with: its array, and the other core's result. -/
theorem buffers_dealt :
    (bigSep Finset.univ fun c : Dev nD => (Pipeline.unscopedRest cfg0.spec c (fun b => m (c.tc.loc b)) : sProp 𝕄))
      ⊢ bigSep Finset.univ fun c : Dev nD => iprop((bigSep Finset.univ fun k => C.srcPts m k c) ∗ (bigSep Finset.univ fun k => C.dstPts m k c) ∗ emp) := by
  have h0 (c : Dev nD) : (Pipeline.unscopedRest cfg0.spec c (fun b => m (c.tc.loc b)) : sProp 𝕄)
      = iprop(C.srcPts m () c ∗ (c.tc.loc main_v1) ↦{fullShare} m (c.tc.loc main_v1)) := by
    rw [unscopedRest0_eq, src_whole]
  have h1 : (bigSep Finset.univ fun c : Dev nD => ((c.tc.loc main_v1) ↦{fullShare} m (c.tc.loc main_v1) : sProp 𝕄))
      = bigSep Finset.univ fun c : Dev nD => C.dstPts m () c :=
    (bigSep_univ_equiv swap (fun c : Dev nD => ((c.tc.loc main_v1) ↦{fullShare} m (c.tc.loc main_v1) : sProp 𝕄))).trans
      (bigSep_congr fun c _ => (dst_whole m c).symm)
  have e (P : sProp 𝕄) : iprop(P ∗ emp) = P := equiv_iff.mp sep_emp
  rw [bigSep_congr (fun c _ => h0 c), bigSep_sep', h1, ← bigSep_sep']
  simp only [only, e]
  exact BIBase.Entails.rfl

/-- What a device ends with: its array as launched, and the other core's. -/
def ends (c : Dev nD) : sProp 𝕄 :=
  iprop(((c.tc.loc main_arg0) ↦{fullShare} m (c.tc.loc main_arg0))
    ∗ (c.tc.loc main_v1) ↦{fullShare} landed m c)

theorem phi_exit (c : Dev nD) :
    (dats m 0 c).Φ (Fin.last cfg0.N) ⊢ iprop(ends m c ∗ Pipeline.ownSems0 (C.plan (τ := τ) m).osem c ∗ Pipeline.scopedRest cfg0.spec c) := by
  have h3 : iprop(semVal (C.sendCell () c) 0 ∗ semVal (C.recvCell () c) 0) ⊢ (Pipeline.ownSems0 (C.plan (τ := τ) m).osem c : sProp 𝕄) := by
    unfold Pipeline.ownSems0
    rw [Copies.bigSep_sum (A := Unit) (B := Unit), only, only]
    iintro H; iexact H
  rw [scopedRest0_eq]
  show C.finished m () c ⊢ _
  unfold Copies.finished ends
  rw [src_whole, land_whole]
  iintro ⟨⟨Hz1, Hs⟩, Hz2, Hl⟩
  isplitl [Hs Hl]
  · isplitl [Hs] <;> iassumption
  isplitl [Hz1 Hz2]
  · iapply h3; isplitl [Hz1] <;> iassumption
  iempintro

/-- What memory holds at the end. -/
def Rest (c : Dev nD) (s : MemSt nD τ sig (Elt F)) : Prop :=
  s.mem (c.tc.loc main_v1) = landed m c
    ∧ s.mem (c.tc.loc main_arg0) = m (c.tc.loc main_arg0)

theorem ends_read (c : Dev nD) (s' : Phys nD τ sig (Elt F)) : iprop(ends m c ∗ SI s') ⊢ iprop(⌜Rest m c s'.mem⌝ ∗ SI s') := by
  have r0 := read_whole (c.tc.loc main_arg0) (m (c.tc.loc main_arg0)) s'
  have r1 := read_whole (c.tc.loc main_v1) (landed m c) s'
  unfold ends
  iintro ⟨⟨H0, H1⟩, HSI⟩
  ihave G := r0 $$ [H0 HSI]
  · isplitl [H0]; · iexact H0
    iexact HSI
  icases G with ⟨%h0, HSI⟩
  ihave G := r1 $$ [H1 HSI]
  · isplitl [H1]; · iexact H1
    iexact HSI
  icases G with ⟨%h1, HSI⟩
  isplitr; · ipureintro; exact ⟨h1, h0⟩
  iexact HSI

/-- Every execution of the program ends, with every semaphore at zero, with the other core's array in every result. -/
theorem run_main : θ_run defs (onTc (τ := τ) (main (F := F))) ⟨m, fun _ => 0, ρ⟩ (fun r => (∀ c, Rest m c r.2) ∧ r.2.sem = fun _ => 0) :=
  Cert.Proof.LoneCall.run_lone_call (fun p => (cfgs p).toPCfg) (fun p => (cfgs p).toPCfg_adm) (dats m) cellOf_inj (0 : Fin 1)
    winFacts0.to₀ (own_sems m) (EP nD τ sig (Elt F)) defs₀ 𝒱₀ m ρ main
    (hmain := fun _ => rfl) (hpre := rfl)
    (hbody := body_obligation m) (hne := fun w => w.elim0) (harr := arr_whole0) (hstage := stage_whole0)
    (hshare := fun _ w => w.elim0) (hdistinct := fun w => w.elim0)
    (O₀ := (C.plan m).owes₀) (howed₀ := fun c => by rw [C.owes₀_eq]; rfl) (howedN := fun _ => rfl)
    (L := Plan.L) (lv := (C.plan m).lv) (hL := Plan.L_of_ne) (hwaits := waits m)
    (G := (C.plan m).ghost)
    (u₀ := (initOf (Pipeline.cells cfgs cellOf_inj) (Pipeline.launchToks cfgs cellOf_inj), initOf (C.plan m).cellSet (C.plan m).tokSet))
    (hu₀ := by
      iintro Hu
      ihave H := (ownU_pair _ _) $$ Hu
      icases H with ⟨HP, HX⟩
      imod (C.plan m).fund_ghost $$ HX with HG
      imodintro
      isplitl [HP] <;> iassumption)
    (hA := fun _ _ => rfl)
    (X := (C.plan m).start fun c => iprop((bigSep Finset.univ fun k => C.srcPts m k c) ∗ (bigSep Finset.univ fun k => C.dstPts m k c) ∗ emp))
    (Y := ends m)
    (deal := (C.plan m).deal _ _ _ m _ (buffers_dealt m))
    (hin := fun c => by
      have h := C.start_copies m (fun _ => iprop(emp)) c
      rw [only] at h
      show _ ⊢ holds m c
      unfold holds
      iintro ⟨HX, -⟩
      iapply h; iexact HX)
    (hout := phi_exit m)
    (QY := Rest m)
    (hY := ends_read m)
    (hQ := fun _ h hs => ⟨fun c => (h c).2, sem_eq_zero_of_scoped (by decide) hs⟩)

end Cert.SwapIn
-- ==== Proof.SwapRef.lean ====
/-
# The swap of the input weight's reduced half: the reference

The reference splits the rows by device and exchanges, on every chip, the two cores' parts; the rows of device `c` are
then its chip's other core's.
-/
module

public import proofs.«01_k».proof.Proof.Gen.SwapReference.Run
public import proofs.«01_k».proof.Proof.Gen.SwapReferenceIdeal.Run
public import Idealize.ShloMosaic.Lib.Pointwise

@[expose] public section

set_option maxRecDepth 16384

noncomputable section

namespace Cert.SwapRef

open Idealize.ShloMosaic Idealize.ShloMosaic.TcCoe Idealize.SL.Sem

variable {F : FTy → Type} [FloatOps F]

section Ideal
open Cert.SwapReferenceIdeal Cert.SwapReferenceIdeal.Gen

/-- The reference's result: on every chip the two cores' rows exchanged. -/
def swapped (G : S2816x1024.Idx → Elt F .f32) : S2816x1024.Idx → Elt F .f32 :=
  shapeCast S2816x1024 (concatenate S4x2x352x1024 1
    [⟨S4x1x352x1024, broadcastInDim S4x1x352x1024 ![0, 2, 3] bcast_S4x352x1024_S4x1x352x1024_0_2_3 (shapeCast S4x352x1024
      (extractStridedSlice S4x1x352x1024 ![0, 1, 0, 0] (shapeCast S4x2x352x1024 G shapeCasts_S2816x1024_S4x2x352x1024) slices_S4x2x352x1024_S4x1x352x1024_0_1_0_0)
      shapeCasts_S4x1x352x1024_S4x352x1024)⟩,
     ⟨S4x1x352x1024, broadcastInDim S4x1x352x1024 ![0, 2, 3] bcast_S4x352x1024_S4x1x352x1024_0_2_3 (shapeCast S4x352x1024
      (extractStridedSlice S4x1x352x1024 ![0, 0, 0, 0] (shapeCast S4x2x352x1024 G shapeCasts_S2816x1024_S4x2x352x1024) slices_S4x2x352x1024_S4x1x352x1024_0_0_0_0)
      shapeCasts_S4x1x352x1024_S4x352x1024)⟩]
    concatenates_S4x1x352x1024_S4x1x352x1024_S4x2x352x1024_d1) shapeCasts_S4x2x352x1024_S2816x1024

/-- Row `r` of it: rows come 352 to a device, and those of a device are its chip's other core's. -/
theorem swapped_at (G : S2816x1024.Idx → Elt F .f32) (r : Fin 2816) (l : Fin 1024)
    (h : r.val / 704 * 704 + (1 - r.val / 352 % 2) * 352 + r.val % 352 < 2816) :
    swapped G (ix2 r l) = G (ix2 ⟨r.val / 704 * 704 + (1 - r.val / 352 % 2) * 352 + r.val % 352, h⟩ l) := by
  pointwise [swapped]
  split
  · exact congrArg (fun s => G (ix2 s l)) (Fin.ext (by dsimp only; omega))
  · exact congrArg (fun s => G (ix2 s l)) (Fin.ext (by dsimp only; omega))

/-- Every execution of the reference ends with its result at the exchanged array. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v8) = swapped (m (c.tc.loc main_arg0))
      ∧ r.2.mem (c.tc.loc main_arg0) = m (c.tc.loc main_arg0) :=
  Cert.SwapReferenceIdeal.Value.run (F := F) m ρ

end Ideal

section Words
open Cert.SwapReference Cert.SwapReference.Gen

/-- The same of the reference on words. -/
theorem run_words (m : (ℓ : Loc nD τ sig) → Buf (Elt Bits) ℓ) (ρ : Dev nD → PrngReg) :
    θ_run defs (onTc (τ := τ) (main (F := Bits))) ⟨m, fun _ => 0, ρ⟩ fun r => ∀ c : Dev nD,
      r.2.mem (c.tc.loc main_v8) = swapped (m (c.tc.loc main_arg0))
      ∧ r.2.mem (c.tc.loc main_arg0) = m (c.tc.loc main_arg0) :=
  Cert.SwapReference.Value.run (F := Bits) m ρ

end Words

end Cert.SwapRef
-- ==== Proof.SwapClaims.lean ====
/-
# The swap of the input weight's reduced half: the claims

What lands on device `c` is block `c` of the reference's result. It is all moves of data, so it holds of words as it does
over the extended reals.
-/
module

public import proofs.«01_k».proof.Defs
public import proofs.«01_k».proof.Proof.SwapRun
public import proofs.«01_k».proof.Proof.SwapRef
public import proofs.«01_k».proof.Proof.Gen.SwapKernel
public import Idealize.ShloMosaic.Lib.LayoutAt

@[expose] public section

set_option maxRecDepth 16384

noncomputable section

namespace Cert.SwapIn

open Idealize.ShloMosaic Idealize.ShloMosaic.TcCoe Idealize.SL.Sem
open Cert.SwapKernelIdeal Cert.SwapKernelIdeal.Gen

variable {F : FTy → Type} [FloatOps F]

/-- The array of device `c`'s other core is block `c` of the exchanged array. -/
theorem landed_block (m : (ℓ : Loc nD τ sig) → Buf (Elt F) ℓ) (c : Dev nD) (G : (⟨2, ![2816, 1024]⟩ : Shape).Idx → Elt F .f32)
    (hm : ∀ o : Dev nD, m (o.tc.loc main_arg0) = Layout.block ⟨2, ![352, 1024]⟩ ⟨2, ![2816, 1024]⟩ 0 8 o G) :
    landed m c = Layout.block ⟨2, ![352, 1024]⟩ ⟨2, ![2816, 1024]⟩ 0 8 c (Cert.SwapRef.swapped G) := by
  funext y
  have hc : c.val < 8 := c.isLt
  have hy : (y 0).val < 352 := (y 0).isLt
  have e : (Layout.Tiles.idx (by decide : Layout.Tiles ⟨2, ![352, 1024]⟩ ⟨2, ![2816, 1024]⟩ 0 8) c y)
      = ix2 ⟨c.val * 352 + (y 0).val, by omega⟩ (y 1) := Layout.idx_ext fun a => by fin_cases a <;> rfl
  unfold landed
  rw [hm, Layout.block_apply, Layout.block_apply, e]
  refine Eq.trans ?_ (Cert.SwapRef.swapped_at G _ _ (by dsimp only; omega)).symm
  refine congrArg G (Layout.idx_ext fun a => ?_)
  fin_cases a
  · show (other c).val * 352 + (y 0).val = (c.val * 352 + (y 0).val) / 704 * 704 + (1 - (c.val * 352 + (y 0).val) / 352 % 2) * 352 + (c.val * 352 + (y 0).val) % 352
    rw [other_val]; omega
  · rfl

/-! ## The claims -/

theorem frame_ideal : Cert.quiescent_SwapKernelIdeal := fun m ρ _ =>
  (θ_run Cert.SwapKernelIdeal.defs _ _).mono (fun _ h => ⟨fun c => (h.1 c).2, h.2⟩) (run_main (F := Ideal) m ρ)

/-- The two programs have one body table. -/
theorem tables_eq : Cert.SwapKernel.defs (F := F) = Cert.SwapKernelIdeal.defs (F := F) :=
  congrArg (Pipeline.defs _) (congrArg Defs.onTc (one_row rfl))

theorem frame_kernel : Cert.quiescent_SwapKernel := fun m ρ _ => by
  have h := (θ_run Cert.SwapKernelIdeal.defs _ _).mono (fun _ h => (⟨fun c => (h.1 c).2, h.2⟩ : _ ∧ _)) (run_main (F := Bits) m ρ)
  rw [← tables_eq] at h
  exact h

theorem frame_reference_ideal : Cert.quiescent_SwapReferenceIdeal := fun m ρ _ =>
  (θ_run Cert.SwapReferenceIdeal.defs _ _).mono (fun r h => ⟨fun c => (h c).2, sem_eq_zero_of_no_sems (by decide) r.2⟩) (Cert.SwapRef.run m ρ)

theorem frame_reference : Cert.quiescent_SwapReference := fun m ρ _ =>
  (θ_run Cert.SwapReference.defs _ _).mono (fun r h => ⟨fun c => (h c).2, sem_eq_zero_of_no_sems (by decide) r.2⟩) (Cert.SwapRef.run_words m ρ)

theorem values : Cert.algebraic_SwapKernelIdeal_SwapReferenceIdeal := by
  intro m g m' g' _ hm
  exact ⟨_, (θ_run Cert.SwapKernelIdeal.defs _ _).mono (fun r h c => ⟨(h.1 c).1.trans (landed_block m c _ hm), (h.1 c).2⟩) (run_main (F := Ideal) m g),
    (θ_run Cert.SwapReferenceIdeal.defs _ _).mono (fun r h => h 0) (Cert.SwapRef.run m' g')⟩

theorem words : Cert.bitexact_SwapKernel_SwapReference := by
  intro m g m' g' _ hm
  refine ⟨_, ?_, (θ_run Cert.SwapReference.defs _ _).mono (fun r h => h 0) (Cert.SwapRef.run_words m' g')⟩
  have h := (θ_run Cert.SwapKernelIdeal.defs _ _).mono (fun r h c => (⟨(h.1 c).1.trans (landed_block m c _ hm), (h.1 c).2⟩ : _ ∧ _)) (run_main (F := Bits) m g)
  rw [← tables_eq] at h
  exact h

end Cert.SwapIn
-- ==== Proof.SmallRun.lean ====
/-
# The gather of the small gradients: one run of the program

Every device gathers one array from all eight: its 168 packed rows of partial sums. Here: the places and semaphores of this
program, that its text issues the operations of the all-gather in order, and the run of the whole program, for any float
instance.
-/
module

public import proofs.«01_k».proof.Proof.GatherOne
public import proofs.«01_k».proof.Proof.Gen.SmallKernelIdeal.Frame
public import proofs.«01_k».proof.Proof.Gen.SmallKernelIdeal.Skeleton

@[expose] public section

set_option maxRecDepth 16384
set_option synthInstance.maxSize 4096

noncomputable section

namespace Cert.GatherSmall

open Cert.SmallKernelIdeal Cert.SmallKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The places and semaphores -/

theorem sem_inb : ∀ (i : Fin 7) a, (![i.val] : Fin 1 → Nat) a + S1.size a ≤ S7.size a := by decide +kernel
theorem here_inb : ∀ a, (![0] : Fin 1 → Nat) a + S1.size a ≤ S1.size a := by decide +kernel

abbrev sendAt (i : Fin 7) : DmaSem sig := (((cc0_scratch0 : DmaSems sig S7).slice (Rect.unit (s := S7) ![i.val] S1.size (sem_inb i))).squeeze S_ squeezes_S1_S_).sem
abbrev recvAt (i : Fin 7) : DmaSem sig := (((cc0_scratch1 : DmaSems sig S7).slice (Rect.unit (s := S7) ![i.val] S1.size (sem_inb i))).squeeze S_ squeezes_S1_S_).sem
abbrev here : DmaSem sig := (((cc0_scratch2 : DmaSems sig S1).slice (Rect.unit (s := S1) ![0] S1.size here_inb)).squeeze S_ squeezes_S1_S_).sem

theorem sems_inj : Function.Injective (GatherOne.sems sendAt recvAt here) := by
  decide +kernel

abbrev C : Gather nD sig Unit :=
  GatherOne.gather (Memref.whole main_arg0) (Memref.whole main_v1) squeezes_S1x168x128_S168x128 sendAt recvAt here sems_inj

abbrev N : C.Amounts := GatherOne.amounts (by decide)

theorem covers : C.Covers := GatherOne.covers (View.set_whole main_v1)

/-- A place of the program's text is the place of the device whose offset it has. -/
theorem place_eq {off : Fin 3 → Nat} {h} {p} (o : Dev nD) (e : off = ![o.val, 0, 0]) :
    ((Memref.whole main_v1 : Memref sig .tc .hbm S8x168x128 .f32).slice (Rect.unit (s := S8x168x128) off S1x168x128.size h) p).squeeze S168x128 squeezes_S1x168x128_S168x128
      = C.place () o := by subst e; rfl

/-! The offsets and devices of the text: own places, the places passed on, the devices of the copies. -/

theorem off1 : ∀ c : Dev nD, k0_off1 c = ![c.val, 0, 0] := by decide +kernel
theorem off2 : ∀ c : Dev nD, k0_off2 c = ![((Mesh.chip 0).symm c).val, 0, 0] := by decide +kernel
theorem off3 : ∀ c : Dev nD, k0_off3 c = ![((Mesh.chip 1).symm c).val, 0, 0] := by decide +kernel
theorem off4 : ∀ c : Dev nD, k0_off4 c = ![((Mesh.chip 2).symm c).val, 0, 0] := by decide +kernel
theorem dev_sib : ∀ c : Dev nD, ∀ d ∈ [k0_dev1 c, k0_dev5 c, k0_dev6 c, k0_dev7 c], d = (Mesh.sib c).val := by decide +kernel
theorem dev_chip0 : ∀ c : Dev nD, k0_dev2 c = (Mesh.chip 0 c).val := by decide +kernel
theorem dev_chip1 : ∀ c : Dev nD, k0_dev3 c = (Mesh.chip 1 c).val := by decide +kernel
theorem dev_chip2 : ∀ c : Dev nD, k0_dev4 c = (Mesh.chip 2 c).val := by decide +kernel

/-! ## The run -/

abbrev 𝒱₀ : Variants := Variants.none

variable (m : (ℓ : Loc nD τ sig) → Buf (Elt F) ℓ) (ρ : Dev nD → PrngReg)

theorem body_runs (c : Dev nD) :
    iprop(C.holdings m N c ∗ Gather.owed c ((C.plan m N).owes₀ c))
      ⊢ wp frame (wpE (defs₀ (F := F)) 𝒱₀ c.tc none) Set.univ (bodyAt0 (F := F) t0_0) (fun _ => iprop(C.finished m c ∗ Gather.owed c 0)) := by
  simp only [bodyAt0, cc0_gather_small_eq_skeleton]
  unfold cc0_gather_small_skel
  rw [k0_part10_eq_skeleton]
  unfold k0_part10_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  refine C.wp_gather m N 𝒱₀ none GatherOne.order c (fun c' => by routes) _ ?_
  refine .here (a := ()) rfl (place_eq c (off1 c)) rfl ?_
  refine .send (x := ((), .inl (.inl ()))) rfl (place_eq c (off1 c)) (Fin.ext (dev_sib c _ (by simp))) rfl rfl ?_
  refine .send (x := ((), .inl (.inr 0))) rfl (place_eq c (off1 c)) (Fin.ext (dev_chip0 c)) rfl rfl ?_
  refine .send (x := ((), .inl (.inr 1))) rfl (place_eq c (off1 c)) (Fin.ext (dev_chip1 c)) rfl rfl ?_
  refine .send (x := ((), .inl (.inr 2))) rfl (place_eq c (off1 c)) (Fin.ext (dev_chip2 c)) rfl rfl ?_
  refine .waitLanded (x := ((), .inl (.inr 0))) rfl rfl ?_
  refine .send (x := ((), .inr 0)) (place_eq _ (off2 c)) (place_eq _ (off2 c)) (Fin.ext (dev_sib c _ (by simp))) rfl rfl ?_
  refine .waitLanded (x := ((), .inl (.inr 1))) rfl rfl ?_
  refine .send (x := ((), .inr 1)) (place_eq _ (off3 c)) (place_eq _ (off3 c)) (Fin.ext (dev_sib c _ (by simp))) rfl rfl ?_
  refine .waitLanded (x := ((), .inl (.inr 2))) rfl rfl ?_
  refine .send (x := ((), .inr 2)) (place_eq _ (off4 c)) (place_eq _ (off4 c)) (Fin.ext (dev_sib c _ (by simp))) rfl rfl ?_
  refine .waitLanded (x := ((), .inl (.inl ()))) rfl rfl ?_
  refine .waitLanded (x := ((), .inr 0)) rfl rfl ?_
  refine .waitLanded (x := ((), .inr 1)) rfl rfl ?_
  refine .waitLanded (x := ((), .inr 2)) rfl rfl ?_
  refine .waitSent (x := ((), .inl (.inl ()))) rfl rfl ?_
  refine .waitSent (x := ((), .inl (.inr 0))) rfl rfl ?_
  refine .waitSent (x := ((), .inl (.inr 1))) rfl rfl ?_
  refine .waitSent (x := ((), .inl (.inr 2))) rfl rfl ?_
  refine .waitSent (x := ((), .inr 0)) rfl rfl ?_
  refine .waitSent (x := ((), .inr 1)) rfl rfl ?_
  refine .waitSent (x := ((), .inr 2)) rfl rfl ?_
  refine .waitHere (a := ()) rfl rfl ?_
  exact .done

theorem own_sems : Pipeline.OwnSemFacts cfg0.spec (C.plan (Val := Elt F) (τ := τ) m N).osem := by
  have e : (C.plan (Val := Elt F) (τ := τ) m N).osem = fun x => SemLoc.dma (GatherOne.sems sendAt recvAt here x) := by
    funext x
    rcases x with (x | x) | a <;> rfl
  rw [e]
  decide +kernel

theorem buffers_dealt (c : Dev nD) : (Pipeline.unscopedRest cfg0.spec c (fun b => m (c.tc.loc b)) : sProp 𝕄)
    ⊢ iprop((bigSep Finset.univ fun a => C.blockAll m a c) ∗ bigSep Finset.univ fun a => C.outAll a c (m _)) := by
  have one (Φ : Unit → sProp 𝕄) : bigSep Finset.univ Φ = Φ () := bigSep_singleton
  have hb : (C.blockAll m () c : sProp 𝕄) = ((c.tc.loc main_arg0) ↦{fullShare} m (c.tc.loc main_arg0)) := by
    show ((c.tc.loc main_arg0) ↦[(View.whole main_arg0).set]{fullShare} m (c.tc.loc main_arg0) : sProp 𝕄) = _
    rw [View.set_whole]
  rw [unscopedRest0_eq, one, one, hb]
  exact BIBase.Entails.rfl

/-- Every execution of the program ends, with every semaphore at zero, with the blocks unchanged and every result
    gathered. -/
theorem run_main : θ_run defs (onTc (τ := τ) (main (F := F))) ⟨m, fun _ => 0, ρ⟩
    (fun r => (∀ c, C.Ended m covers c r.2) ∧ r.2.sem = fun _ => 0) :=
  haveI : IsEmpty (Fin cfg0.W) := inferInstanceAs (IsEmpty (Fin 0))
  C.run_launch m N covers cfg0 N_0 defs₀ 𝒱₀ (fun c t => by rw [fin_N0 t]; exact body_runs m c) (fun _ => View.set_whole main_arg0) ρ main
    cellOf_inj winFacts0.to₀ (own_sems m) (fun _ => rfl) (buffers_dealt m) (fun c => by rw [scopedRest0_eq]) (by decide)

end Cert.GatherSmall
-- ==== Proof.SmallClaims.lean ====
/-
# The gather of the small gradients: the claims

Every device's result is the whole array, block by block: the reference, a change of shape, index for index. It is all
moves of data, so it holds of words as it does over the extended reals.
-/
module

public import proofs.«01_k».proof.Defs
public import proofs.«01_k».proof.Proof.SmallRun
public import proofs.«01_k».proof.Proof.Gen.SmallKernel
public import proofs.«01_k».proof.Proof.Gen.SmallReference.Run
public import proofs.«01_k».proof.Proof.Gen.SmallReferenceIdeal.Run

@[expose] public section

set_option maxRecDepth 16384

noncomputable section

namespace Cert.GatherSmall

open Idealize.ShloMosaic Idealize.ShloMosaic.TcCoe Idealize.SL.Sem
open Cert.SmallKernelIdeal Cert.SmallKernelIdeal.Gen Cert.Proof.Exchange

variable {F : FTy → Type} [FloatOps F]

/-- With the array dealt in blocks, every result is the whole array, regrouped. -/
theorem whole (m : (ℓ : Loc nD τ sig) → Buf (Elt F) ℓ) (c : Dev nD) (X : (GatherOne.flat 1344 128).Idx → Elt F .f32)
    (h : (GatherOne.flat 1344 128).ShapeCasts S8x168x128)
    (hm : ∀ o : Dev nD, m (o.tc.loc main_arg0) = Layout.block ⟨2, ![168, 128]⟩ ⟨2, ![1344, 128]⟩ 0 8 o X) :
    C.result m covers () c = shapeCast S8x168x128 X h :=
  GatherOne.result_whole m covers c X h (by decide)
    (fun v h y => by pointwise [])
    (fun i => by
      have hr : shapeCast S8x168x128 X h i = X (ix2 ⟨(i 0).val * 168 + (i 1).val, by have h0 : (i 0).val < 8 := (i 0).isLt; have h1 : (i 1).val < 168 := (i 1).isLt; omega⟩ (i 2)) := by
        pointwise []
      refine hr.trans (congrArg X (Layout.idx_ext fun a => ?_))
      fin_cases a <;> rfl)
    hm

/-- What a run of the kernel ends with: the result gathered, the block unchanged. -/
theorem run_whole (m : (ℓ : Loc nD τ sig) → Buf (Elt F) ℓ) (ρ : Dev nD → PrngReg) (X : (GatherOne.flat 1344 128).Idx → Elt F .f32)
    (h : (GatherOne.flat 1344 128).ShapeCasts S8x168x128)
    (hm : ∀ o : Dev nD, m (o.tc.loc main_arg0) = Layout.block ⟨2, ![168, 128]⟩ ⟨2, ![1344, 128]⟩ 0 8 o X) :
    θ_run defs (onTc (τ := τ) (main (F := F))) ⟨m, fun _ => 0, ρ⟩ (fun r => ∀ c : Dev nD,
      r.2.mem (c.tc.loc main_v1) = shapeCast S8x168x128 X h ∧ r.2.mem (c.tc.loc main_arg0) = m (c.tc.loc main_arg0)) :=
  (θ_run Cert.SmallKernelIdeal.defs _ _).mono (fun _ e c => ⟨(e.1 c ()).2.trans (whole m c X h hm), (e.1 c ()).1⟩) (run_main m ρ)

/-! ## The claims -/

theorem frame_ideal : Cert.quiescent_SmallKernelIdeal := fun m ρ _ =>
  (θ_run Cert.SmallKernelIdeal.defs _ _).mono (fun _ h => ⟨fun c => (h.1 c ()).1, h.2⟩) (run_main (F := Ideal) m ρ)

set_option maxHeartbeats 4000000 in
/-- The two programs have one body table. -/
theorem tables_eq : Cert.SmallKernel.defs (F := F) = Cert.SmallKernelIdeal.defs (F := F) :=
  congrArg (Pipeline.defs _) (congrArg Defs.onTc (one_row rfl))

theorem frame_kernel : Cert.quiescent_SmallKernel := fun m ρ _ => by
  have h := (θ_run Cert.SmallKernelIdeal.defs _ _).mono (fun _ h => (⟨fun c => (h.1 c ()).1, h.2⟩ : _ ∧ _)) (run_main (F := Bits) m ρ)
  rw [← tables_eq] at h
  exact h

theorem frame_reference_ideal : Cert.quiescent_SmallReferenceIdeal := fun m ρ _ =>
  (θ_run Cert.SmallReferenceIdeal.defs _ _).mono (fun r h => ⟨fun c => (h c).2, sem_eq_zero_of_no_sems (by decide) r.2⟩)
    (Cert.SmallReferenceIdeal.Value.run (F := Ideal) m ρ)

theorem frame_reference : Cert.quiescent_SmallReference := fun m ρ _ =>
  (θ_run Cert.SmallReference.defs _ _).mono (fun r h => ⟨fun c => (h c).2, sem_eq_zero_of_no_sems (by decide) r.2⟩)
    (Cert.SmallReference.Value.run (F := Bits) m ρ)

theorem values : Cert.algebraic_SmallKernelIdeal_SmallReferenceIdeal := by
  intro m g m' g' _ hm
  exact ⟨_, run_whole (F := Ideal) m g _ (by decide) hm,
    (θ_run Cert.SmallReferenceIdeal.defs _ _).mono (fun r h => h 0) (Cert.SmallReferenceIdeal.Value.run (F := Ideal) m' g')⟩

theorem words : Cert.bitexact_SmallKernel_SmallReference := by
  intro m g m' g' _ hm
  refine ⟨_, ?_, (θ_run Cert.SmallReference.defs _ _).mono (fun r h => h 0) (Cert.SmallReference.Value.run (F := Bits) m' g')⟩
  have h := run_whole (F := Bits) m g _ (by decide) hm
  rw [← tables_eq] at h
  exact h

end Cert.GatherSmall
-- ==== Proof.ModRun.lean ====
/-
# The gather of the modulation: one run of the program

Every device gathers one array from all eight: its eight rows of the modulation. Here: the places and semaphores of this
program, that its text issues the operations of the all-gather in order, and the run of the whole program, for any float
instance.
-/
module

public import proofs.«01_k».proof.Proof.GatherOne
public import proofs.«01_k».proof.Proof.Gen.ModKernelIdeal.Frame
public import proofs.«01_k».proof.Proof.Gen.ModKernelIdeal.Skeleton

@[expose] public section

set_option maxRecDepth 16384
set_option synthInstance.maxSize 4096

noncomputable section

namespace Cert.GatherMod

open Cert.ModKernelIdeal Cert.ModKernelIdeal.Gen Cert.Proof.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The places and semaphores -/

theorem sem_inb : ∀ (i : Fin 7) a, (![i.val] : Fin 1 → Nat) a + S1.size a ≤ S7.size a := by decide +kernel
theorem here_inb : ∀ a, (![0] : Fin 1 → Nat) a + S1.size a ≤ S1.size a := by decide +kernel

abbrev sendAt (i : Fin 7) : DmaSem sig := (((cc0_scratch0 : DmaSems sig S7).slice (Rect.unit (s := S7) ![i.val] S1.size (sem_inb i))).squeeze S_ squeezes_S1_S_).sem
abbrev recvAt (i : Fin 7) : DmaSem sig := (((cc0_scratch1 : DmaSems sig S7).slice (Rect.unit (s := S7) ![i.val] S1.size (sem_inb i))).squeeze S_ squeezes_S1_S_).sem
abbrev here : DmaSem sig := (((cc0_scratch2 : DmaSems sig S1).slice (Rect.unit (s := S1) ![0] S1.size here_inb)).squeeze S_ squeezes_S1_S_).sem

theorem sems_inj : Function.Injective (GatherOne.sems sendAt recvAt here) := by
  decide +kernel

abbrev C : Gather nD sig Unit :=
  GatherOne.gather (Memref.whole main_arg0) (Memref.whole main_v1) squeezes_S1x8x1536_S8x1536 sendAt recvAt here sems_inj

abbrev N : C.Amounts := GatherOne.amounts (by decide)

theorem covers : C.Covers := GatherOne.covers (View.set_whole main_v1)

/-- A place of the program's text is the place of the device whose offset it has. -/
theorem place_eq {off : Fin 3 → Nat} {h} {p} (o : Dev nD) (e : off = ![o.val, 0, 0]) :
    ((Memref.whole main_v1 : Memref sig .tc .hbm S8x8x1536 .f32).slice (Rect.unit (s := S8x8x1536) off S1x8x1536.size h) p).squeeze S8x1536 squeezes_S1x8x1536_S8x1536
      = C.place () o := by subst e; rfl

/-! The offsets and devices of the text: own places, the places passed on, the devices of the copies. -/

theorem off1 : ∀ c : Dev nD, k0_off1 c = ![c.val, 0, 0] := by decide +kernel
theorem off2 : ∀ c : Dev nD, k0_off2 c = ![((Mesh.chip 0).symm c).val, 0, 0] := by decide +kernel
theorem off3 : ∀ c : Dev nD, k0_off3 c = ![((Mesh.chip 1).symm c).val, 0, 0] := by decide +kernel
theorem off4 : ∀ c : Dev nD, k0_off4 c = ![((Mesh.chip 2).symm c).val, 0, 0] := by decide +kernel
theorem dev_sib : ∀ c : Dev nD, ∀ d ∈ [k0_dev1 c, k0_dev5 c, k0_dev6 c, k0_dev7 c], d = (Mesh.sib c).val := by decide +kernel
theorem dev_chip0 : ∀ c : Dev nD, k0_dev2 c = (Mesh.chip 0 c).val := by decide +kernel
theorem dev_chip1 : ∀ c : Dev nD, k0_dev3 c = (Mesh.chip 1 c).val := by decide +kernel
theorem dev_chip2 : ∀ c : Dev nD, k0_dev4 c = (Mesh.chip 2 c).val := by decide +kernel

/-! ## The run -/

abbrev 𝒱₀ : Variants := Variants.none

variable (m : (ℓ : Loc nD τ sig) → Buf (Elt F) ℓ) (ρ : Dev nD → PrngReg)

theorem body_runs (c : Dev nD) :
    iprop(C.holdings m N c ∗ Gather.owed c ((C.plan m N).owes₀ c))
      ⊢ wp frame (wpE (defs₀ (F := F)) 𝒱₀ c.tc none) Set.univ (bodyAt0 (F := F) t0_0) (fun _ => iprop(C.finished m c ∗ Gather.owed c 0)) := by
  simp only [bodyAt0, cc0_gather_mod_eq_skeleton]
  unfold cc0_gather_mod_skel
  rw [k0_part10_eq_skeleton]
  unfold k0_part10_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  refine C.wp_gather m N 𝒱₀ none GatherOne.order c (fun c' => by routes) _ ?_
  refine .here (a := ()) rfl (place_eq c (off1 c)) rfl ?_
  refine .send (x := ((), .inl (.inl ()))) rfl (place_eq c (off1 c)) (Fin.ext (dev_sib c _ (by simp))) rfl rfl ?_
  refine .send (x := ((), .inl (.inr 0))) rfl (place_eq c (off1 c)) (Fin.ext (dev_chip0 c)) rfl rfl ?_
  refine .send (x := ((), .inl (.inr 1))) rfl (place_eq c (off1 c)) (Fin.ext (dev_chip1 c)) rfl rfl ?_
  refine .send (x := ((), .inl (.inr 2))) rfl (place_eq c (off1 c)) (Fin.ext (dev_chip2 c)) rfl rfl ?_
  refine .waitLanded (x := ((), .inl (.inr 0))) rfl rfl ?_
  refine .send (x := ((), .inr 0)) (place_eq _ (off2 c)) (place_eq _ (off2 c)) (Fin.ext (dev_sib c _ (by simp))) rfl rfl ?_
  refine .waitLanded (x := ((), .inl (.inr 1))) rfl rfl ?_
  refine .send (x := ((), .inr 1)) (place_eq _ (off3 c)) (place_eq _ (off3 c)) (Fin.ext (dev_sib c _ (by simp))) rfl rfl ?_
  refine .waitLanded (x := ((), .inl (.inr 2))) rfl rfl ?_
  refine .send (x := ((), .inr 2)) (place_eq _ (off4 c)) (place_eq _ (off4 c)) (Fin.ext (dev_sib c _ (by simp))) rfl rfl ?_
  refine .waitLanded (x := ((), .inl (.inl ()))) rfl rfl ?_
  refine .waitLanded (x := ((), .inr 0)) rfl rfl ?_
  refine .waitLanded (x := ((), .inr 1)) rfl rfl ?_
  refine .waitLanded (x := ((), .inr 2)) rfl rfl ?_
  refine .waitSent (x := ((), .inl (.inl ()))) rfl rfl ?_
  refine .waitSent (x := ((), .inl (.inr 0))) rfl rfl ?_
  refine .waitSent (x := ((), .inl (.inr 1))) rfl rfl ?_
  refine .waitSent (x := ((), .inl (.inr 2))) rfl rfl ?_
  refine .waitSent (x := ((), .inr 0)) rfl rfl ?_
  refine .waitSent (x := ((), .inr 1)) rfl rfl ?_
  refine .waitSent (x := ((), .inr 2)) rfl rfl ?_
  refine .waitHere (a := ()) rfl rfl ?_
  exact .done

theorem own_sems : Pipeline.OwnSemFacts cfg0.spec (C.plan (Val := Elt F) (τ := τ) m N).osem := by
  have e : (C.plan (Val := Elt F) (τ := τ) m N).osem = fun x => SemLoc.dma (GatherOne.sems sendAt recvAt here x) := by
    funext x
    rcases x with (x | x) | a <;> rfl
  rw [e]
  decide +kernel

theorem buffers_dealt (c : Dev nD) : (Pipeline.unscopedRest cfg0.spec c (fun b => m (c.tc.loc b)) : sProp 𝕄)
    ⊢ iprop((bigSep Finset.univ fun a => C.blockAll m a c) ∗ bigSep Finset.univ fun a => C.outAll a c (m _)) := by
  have one (Φ : Unit → sProp 𝕄) : bigSep Finset.univ Φ = Φ () := bigSep_singleton
  have hb : (C.blockAll m () c : sProp 𝕄) = ((c.tc.loc main_arg0) ↦{fullShare} m (c.tc.loc main_arg0)) := by
    show ((c.tc.loc main_arg0) ↦[(View.whole main_arg0).set]{fullShare} m (c.tc.loc main_arg0) : sProp 𝕄) = _
    rw [View.set_whole]
  rw [unscopedRest0_eq, one, one, hb]
  exact BIBase.Entails.rfl

/-- Every execution of the program ends, with every semaphore at zero, with the blocks unchanged and every result
    gathered. -/
theorem run_main : θ_run defs (onTc (τ := τ) (main (F := F))) ⟨m, fun _ => 0, ρ⟩
    (fun r => (∀ c, C.Ended m covers c r.2) ∧ r.2.sem = fun _ => 0) :=
  haveI : IsEmpty (Fin cfg0.W) := inferInstanceAs (IsEmpty (Fin 0))
  C.run_launch m N covers cfg0 N_0 defs₀ 𝒱₀ (fun c t => by rw [fin_N0 t]; exact body_runs m c) (fun _ => View.set_whole main_arg0) ρ main
    cellOf_inj winFacts0.to₀ (own_sems m) (fun _ => rfl) (buffers_dealt m) (fun c => by rw [scopedRest0_eq]) (by decide)

end Cert.GatherMod
-- ==== Proof.ModClaims.lean ====
/-
# The gather of the modulation: the claims

Every device's result is the whole array, block by block: the reference, a change of shape, index for index. It is all
moves of data, so it holds of words as it does over the extended reals.
-/
module

public import proofs.«01_k».proof.Defs
public import proofs.«01_k».proof.Proof.ModRun
public import proofs.«01_k».proof.Proof.Gen.ModKernel
public import proofs.«01_k».proof.Proof.Gen.ModReference.Run
public import proofs.«01_k».proof.Proof.Gen.ModReferenceIdeal.Run

@[expose] public section

set_option maxRecDepth 16384

noncomputable section

namespace Cert.GatherMod

open Idealize.ShloMosaic Idealize.ShloMosaic.TcCoe Idealize.SL.Sem
open Cert.ModKernelIdeal Cert.ModKernelIdeal.Gen Cert.Proof.Exchange

variable {F : FTy → Type} [FloatOps F]

/-- With the array dealt in blocks, every result is the whole array, regrouped. -/
theorem whole (m : (ℓ : Loc nD τ sig) → Buf (Elt F) ℓ) (c : Dev nD) (X : (GatherOne.flat 64 1536).Idx → Elt F .f32)
    (h : (GatherOne.flat 64 1536).ShapeCasts S8x8x1536)
    (hm : ∀ o : Dev nD, m (o.tc.loc main_arg0) = Layout.block ⟨2, ![8, 1536]⟩ ⟨2, ![64, 1536]⟩ 0 8 o X) :
    C.result m covers () c = shapeCast S8x8x1536 X h :=
  GatherOne.result_whole m covers c X h (by decide)
    (fun v h y => by pointwise [])
    (fun i => by
      have hr : shapeCast S8x8x1536 X h i = X (ix2 ⟨(i 0).val * 8 + (i 1).val, by have h0 : (i 0).val < 8 := (i 0).isLt; have h1 : (i 1).val < 8 := (i 1).isLt; omega⟩ (i 2)) := by
        pointwise []
      refine hr.trans (congrArg X (Layout.idx_ext fun a => ?_))
      fin_cases a <;> rfl)
    hm

/-- What a run of the kernel ends with: the result gathered, the block unchanged. -/
theorem run_whole (m : (ℓ : Loc nD τ sig) → Buf (Elt F) ℓ) (ρ : Dev nD → PrngReg) (X : (GatherOne.flat 64 1536).Idx → Elt F .f32)
    (h : (GatherOne.flat 64 1536).ShapeCasts S8x8x1536)
    (hm : ∀ o : Dev nD, m (o.tc.loc main_arg0) = Layout.block ⟨2, ![8, 1536]⟩ ⟨2, ![64, 1536]⟩ 0 8 o X) :
    θ_run defs (onTc (τ := τ) (main (F := F))) ⟨m, fun _ => 0, ρ⟩ (fun r => ∀ c : Dev nD,
      r.2.mem (c.tc.loc main_v1) = shapeCast S8x8x1536 X h ∧ r.2.mem (c.tc.loc main_arg0) = m (c.tc.loc main_arg0)) :=
  (θ_run Cert.ModKernelIdeal.defs _ _).mono (fun _ e c => ⟨(e.1 c ()).2.trans (whole m c X h hm), (e.1 c ()).1⟩) (run_main m ρ)

/-! ## The claims -/

theorem frame_ideal : Cert.quiescent_ModKernelIdeal := fun m ρ _ =>
  (θ_run Cert.ModKernelIdeal.defs _ _).mono (fun _ h => ⟨fun c => (h.1 c ()).1, h.2⟩) (run_main (F := Ideal) m ρ)

set_option maxHeartbeats 4000000 in
/-- The two programs have one body table. -/
theorem tables_eq : Cert.ModKernel.defs (F := F) = Cert.ModKernelIdeal.defs (F := F) :=
  congrArg (Pipeline.defs _) (congrArg Defs.onTc (one_row rfl))

theorem frame_kernel : Cert.quiescent_ModKernel := fun m ρ _ => by
  have h := (θ_run Cert.ModKernelIdeal.defs _ _).mono (fun _ h => (⟨fun c => (h.1 c ()).1, h.2⟩ : _ ∧ _)) (run_main (F := Bits) m ρ)
  rw [← tables_eq] at h
  exact h

theorem frame_reference_ideal : Cert.quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

theorem frame_reference : Cert.quiescent_ModReference := fun m ρ _ =>
  (θ_run Cert.ModReference.defs _ _).mono (fun r h => ⟨fun c => (h c).2, sem_eq_zero_of_no_sems (by decide) r.2⟩)
    (Cert.ModReference.Value.run (F := Bits) m ρ)

theorem values : Cert.algebraic_ModKernelIdeal_ModReferenceIdeal := by
  intro m g m' g' _ hm
  exact ⟨_, run_whole (F := Ideal) m g _ (by decide) hm,
    (θ_run Cert.ModReferenceIdeal.defs _ _).mono (fun r h => h 0) (Cert.ModReferenceIdeal.Value.run (F := Ideal) m' g')⟩

theorem words : Cert.bitexact_ModKernel_ModReference := by
  intro m g m' g' _ hm
  refine ⟨_, ?_, (θ_run Cert.ModReference.defs _ _).mono (fun r h => h 0) (Cert.ModReference.Value.run (F := Bits) m' g')⟩
  have h := run_whole (F := Bits) m g _ (by decide) hm
  rw [← tables_eq] at h
  exact h

end Cert.GatherMod
-- ==== Proof.Adam.lean ====
/-
# One step of the optimizer, in plain mathematics

From a gradient, a weight and its two running moments: the new moments and the weight's change, at one place, over the
extended reals. The plain update of a whole array, read at an index, is this step.
-/
module

public import proofs.«01_k».proof.Proof.Plain
public import Idealize.ShloMosaic.Lib.Pointwise
public import Idealize.ShloMosaic.Lib.LayoutAt

@[expose] public section

noncomputable section

namespace Cert.Adam

open Idealize.ShloMosaic

/-- The first moment after the gradient `g`. -/
def first (g m : EReal) : EReal := Ideal.ofBits .f32 0x3F666666#32 * m + Ideal.ofBits .f32 0x3DCCCCCD#32 * g

/-- The second moment after the gradient `g`. -/
def second (g v : EReal) : EReal := Ideal.ofBits .f32 0x3F7FBE77#32 * v + Ideal.ofBits .f32 0x3A83126F#32 * (g * g)

/-- The change of a weight `w` from its moments. -/
def change (w m v : EReal) : EReal :=
  Ideal.ofBits .f32 0xBA83126F#32 * (Ideal.div (Ideal.div m (Ideal.ofBits .f32 0x3F26BD02#32)) (Ideal.sqrt (Ideal.div v (Ideal.ofBits .f32 0x3C231ACC#32)) + Ideal.ofBits .f32 0x322BCC77#32) + Ideal.ofBits .f32 0x3C23D70A#32 * w)

theorem first_congr {g g' m m' : EReal} (hg : g = g') (hm : m = m') : first g m = first g' m' := by rw [hg, hm]
theorem second_congr {g g' v v' : EReal} (hg : g = g') (hv : v = v') : second g v = second g' v' := by rw [hg, hv]
theorem change_congr {g g' w w' m m' v v' : EReal} (hg : g = g') (hw : w = w') (hm : m = m') (hv : v = v') :
    change w (first g m) (second g v) = change w' (first g' m') (second g' v') := by rw [hg, hw, hm, hv]

/-- The new moments and the change, for every place of an array. -/
def firstAll {s : Shape} (g m : s.Idx → EReal) : s.Idx → EReal := fun i => first (g i) (m i)
def secondAll {s : Shape} (g v : s.Idx → EReal) : s.Idx → EReal := fun i => second (g i) (v i)
def changeAll {s : Shape} (g w m v : s.Idx → EReal) : s.Idx → EReal := fun i => change (w i) (first (g i) (m i)) (second (g i) (v i))

/-! ## A gradient that two cores hold half each of -/

/-- The half that core `here` holds, on core `core`: its own where they are the same core, the other's where not. -/
def pick (here core : BitVec 32) (own other : EReal) : EReal := if here = core then own else other

theorem kernel_pick (p q : BitVec 32) (a b : EReal) : Scalar.select (Scalar.cmpi CmpIPredicate.eq p q) a b = pick p q a b := by
  by_cases h : p = q
  · simp [pick, Scalar.select, Scalar.cmpi, IntOp.cmpi, h]
  · simp [pick, Scalar.select, Scalar.cmpi, IntOp.cmpi, h, beq_eq_false_iff_ne.2 h]

theorem reference_pick (p q : BitVec 32) (a b : EReal) : Scalar.select (IntOp.cmpi CmpIPredicate.eq p q) a b = pick q p a b := by
  by_cases h : q = p
  · simp [pick, Scalar.select, IntOp.cmpi, h]
  · simp [pick, Scalar.select, IntOp.cmpi, h, beq_eq_false_iff_ne.2 (Ne.symm h)]

/-! ## The plain update of a whole array -/

section Whole

variable {z s : Shape} {dims : Fin z.rank → Fin s.rank} (h : z.BroadcastsInDim s dims)
variable (g w m v : FVec Ideal s .f32)

/-- A constant at every place. -/
abbrev every (b : BitVec 32) : FVec Ideal s .f32 := broadcastInDim s dims h (constant z .f32 b)

/-- The plain first moment. -/
theorem firstAll_eq : addf (mulf (every h 0x3F666666#32) m) (mulf (every h 0x3DCCCCCD#32) g) = firstAll g m := rfl

/-- The plain second moment. -/
theorem secondAll_eq : addf (mulf (every h 0x3F7FBE77#32) v) (mulf (every h 0x3A83126F#32) (mulf g g)) = secondAll g v := rfl

/-- The plain change. -/
theorem changeAll_eq :
    mulf (every h 0xBA83126F#32) (addf (Host.divf (Host.divf (addf (mulf (every h 0x3F666666#32) m) (mulf (every h 0x3DCCCCCD#32) g)) (every h 0x3F26BD02#32))
        (addf (Host.sqrt (Host.divf (addf (mulf (every h 0x3F7FBE77#32) v) (mulf (every h 0x3A83126F#32) (mulf g g))) (every h 0x3C231ACC#32))) (every h 0x322BCC77#32)))
        (mulf (every h 0x3C23D70A#32) w)) = changeAll g w m v := rfl

end Whole

end Cert.Adam
-- ==== Proof.AdamUpClaims.lean ====
/-
# The perceptron's first weight: its gradient's halves joined, its optimizer step and the claims

Each of two cores holds a half of the gradient's rows. The kernel takes, block by block, the half that the block
belongs to, and makes one optimizer step in the same pass. Over the extended reals the kernel's arrays are the reference's.
-/
module

public import proofs.«01_k».proof.Defs
public import proofs.«01_k».proof.Proof.Adam
public import proofs.«01_k».proof.Proof.Gen.AdamUpKernel
public import proofs.«01_k».proof.Proof.Gen.AdamUpKernelIdeal.Frame
public import proofs.«01_k».proof.Proof.Gen.AdamUpReferenceIdeal.Run
public import Idealize.ShloMosaic.Lib.Pipeline.ValueKit
public import Idealize.ShloMosaic.Lib.Pipeline.Covers
public import Idealize.ShloMosaic.Lib.LayoutAt

@[expose] public section

set_option maxRecDepth 16384

noncomputable section

namespace Cert.AdamUp

open Idealize.ShloMosaic Idealize.ShloMosaic.TcCoe Idealize.SL.Sem
open Cert.Adam

/-! ## The reference's arrays -/

section Reference

open Cert.AdamUpReferenceIdeal Cert.AdamUpReferenceIdeal.Gen

/-- The whole gradient on core `k`: the first half of the rows is core 0's, the second core 1's. -/
def whole (k : BitVec 32) (A B : S512x1024.Idx → EReal) : S1024x1024.Idx → EReal := fun i =>
  pick (BitVec.ofNat 32 ((i 0).val / 512)) k (A (ix2 ⟨(i 0).val % 512, Nat.mod_lt _ (by decide)⟩ (i 1)))
    (B (ix2 ⟨(i 0).val % 512, Nat.mod_lt _ (by decide)⟩ (i 1)))

theorem reference_grad (A B : FVec Ideal S512x1024 .f32) (k : Vec Ideal S1 .i32) :
    (concatenate S1024x1024 0 [⟨S512x1024, (select (broadcastInDim S512x1024 ![] bcast_S_S512x1024 (cmpi .eq (shapeCast _ k shapeCasts_S1_S_) (constantI S_ 32 0#32))) A B)⟩, ⟨S512x1024, (select (broadcastInDim S512x1024 ![] bcast_S_S512x1024 (cmpi .eq (shapeCast _ k shapeCasts_S1_S_) (constantI S_ 32 1#32))) A B)⟩] concatenates_S512x1024_S512x1024_S1024x1024_d0 : FVec Ideal S1024x1024 .f32) = whole (k (ix1 0)) A B := by
  funext i
  pointwise [whole]
  simp only [reference_pick]
  have h2 : (i 0).val < 1024 := (i 0).isLt
  by_cases h : (i 0).val < 512
  · rw [dif_pos h]
    simp only [Nat.div_eq_of_lt h, Nat.mod_eq_of_lt h]
  · rw [dif_neg h]
    have e : (i 0).val / 512 = 1 := by omega
    have e' : (i 0).val % 512 = (i 0).val - 512 := by omega
    simp only [e, e']

end Reference

/-! ## The kernel's step on one block -/

section Kernel

open Cert.AdamUpKernelIdeal Cert.AdamUpKernelIdeal.Gen

variable (i : grid0.Coords) (k : BitVec 32) (A B w m v : FVec Ideal S256x1024 .f32)

/-- A block of the gradient: every entry from the half the block belongs to. -/
def blockGrad (n : Nat) (k : BitVec 32) (A B : S256x1024.Idx → EReal) : S256x1024.Idx → EReal :=
  fun y => pick (BitVec.ofNat 32 n) k (A y) (B y)

theorem kernel_grad : (k0_pay1 (F := Ideal) i k A B : FVec Ideal S256x1024 .f32) = blockGrad (i 0).val k A B := by
  funext y
  pointwise [k0_pay1, blockGrad]
  exact kernel_pick _ _ _ _

theorem kernel_first : (k0_pay2 (F := Ideal) i k A B m : FVec Ideal S256x1024 .f32) = firstAll (blockGrad (i 0).val k A B) m := by
  unfold k0_pay2; rw [kernel_grad]; rfl

theorem kernel_second : (k0_pay3 (F := Ideal) i k A B v : FVec Ideal S256x1024 .f32) = secondAll (blockGrad (i 0).val k A B) v := by
  unfold k0_pay3; rw [kernel_grad]; rfl

theorem kernel_change : (k0_pay4 (F := Ideal) i k A B w m v : FVec Ideal S256x1024 .f32) = changeAll (blockGrad (i 0).val k A B) w m v := by
  unfold k0_pay4; rw [kernel_first, kernel_second]; rfl

end Kernel

section Arrays

open Cert.AdamUpKernelIdeal Cert.AdamUpKernelIdeal.Gen
open Idealize.ShloMosaic.Pipeline (Dat Cfg Window)

variable (m : (ℓ : Loc nD τ sig) → Buf (Elt Ideal) ℓ) (c : Dev nD)

/-- The pipeline's index maps read no table: there is nothing to ask of one. -/
abbrev ok : Ok m := trivial

theorem index_0 : ∀ t : Fin grid0.N, cc0_transform_0 (grid0.coords t) = ![t.val % 2, 0] := by decide +kernel
theorem index_2 : ∀ t : Fin grid0.N, cc0_transform_2 (grid0.coords t) = ![t.val, 0] := by decide +kernel
theorem half : ∀ t : Fin grid0.N, (grid0.coords t 0).val = t.val / 2 := by decide +kernel

/-- An output whose blocks lie one below the other is covered by the points. -/
theorem point (β : Fin ((1024 + 256 - 1) / 256)) : β.val < grid0.N := lt_of_lt_of_eq β.isLt (by decide)
theorem covered {n : Fin 2 → Nat} {b0 : Fin ((1024 + 256 - 1) / 256)} {b1 : Fin ((1024 + 1024 - 1) / 1024)} (hn : n = ![b0.val, 0]) :
    n 0 = b0.val ∧ n 1 = b1.val := by
  subst hn
  exact ⟨rfl, (Nat.lt_one_iff.1 (lt_of_lt_of_eq b1.isLt (by decide))).symm⟩

theorem covers_5 : ((cfgM m (ok m)).win 5).Covers :=
  Window.covers_of_index_surj _ rfl (show ∀ a : Fin 2, 0 < S256x1024.size a by decide) fun β =>
    ⟨⟨(β (0 : Fin 2)).val, point (β (0 : Fin 2))⟩, fun (a : Fin 2) => by
      have h := covered (b1 := β (1 : Fin 2)) (index_2 ⟨_, point (β (0 : Fin 2))⟩)
      fin_cases a
      · exact h.1
      · exact h.2⟩

/-- Row `q` of block `t` in the whole array, and in its half. -/
def row (t : Fin grid0.N) (q : Fin 256) : Fin 1024 := ⟨t.val * 256 + q.val, by have : t.val < 4 := t.isLt; omega⟩
def rowInHalf (t : Fin grid0.N) (q : Fin 256) : Fin 512 := ⟨t.val % 2 * 256 + q.val, by omega⟩

/-- Where block `t` of a weight's array lies, and where it lies in a half of the gradient. -/
abbrev place (t : Fin grid0.N) (y : S256x1024.Idx) : S1024x1024.Idx := ix2 (row t (y 0)) (y 1)
abbrev placeInHalf (t : Fin grid0.N) (y : S256x1024.Idx) : S512x1024.Idx := ix2 (rowInHalf t (y 0)) (y 1)

theorem placed (t : Fin grid0.N) (y : S256x1024.Idx) (i : S1024x1024.Idx) (n : Fin 2 → Nat) (hn : n = ![t.val, 0])
    (h : ∀ a, (i a : Nat) = n a * S256x1024.size a + (y a : Nat)) : i = place t y := by
  subst hn
  refine Layout.idx_ext fun a => (h a).trans ?_
  fin_cases a
  · rfl
  · exact at_zero _ _

theorem placedInHalf (t : Fin grid0.N) (y : S256x1024.Idx) (i : S512x1024.Idx) (n : Fin 2 → Nat) (hn : n = ![t.val % 2, 0])
    (h : ∀ a, (i a : Nat) = n a * S256x1024.size a + (y a : Nat)) : i = placeInHalf t y := by
  subst hn
  refine Layout.idx_ext fun a => (h a).trans ?_
  fin_cases a
  · rfl
  · exact at_zero _ _

/-- The whole gradient at a place of block `t`. -/
theorem whole_place (k : BitVec 32) (A B : S512x1024.Idx → EReal) (t : Fin grid0.N) (y : S256x1024.Idx) :
    whole k A B (place t y) = pick (BitVec.ofNat 32 (grid0.coords t 0).val) k (A (placeInHalf t y)) (B (placeInHalf t y)) := by
  have hy : (y 0).val < 256 := (y 0).isLt
  have e : (t.val * 256 + (y 0).val) / 512 = t.val / 2 := by omega
  have e' : (t.val * 256 + (y 0).val) % 512 = t.val % 2 * 256 + (y 0).val := by omega
  have ey : (ix2 ⟨(t.val * 256 + (y 0).val) % 512, Nat.mod_lt _ (by decide)⟩ (y 1) : S512x1024.Idx) = placeInHalf t y :=
    Layout.idx_ext fun a => by fin_cases a; exacts [e', rfl]
  show pick (BitVec.ofNat 32 ((t.val * 256 + (y 0).val) / 512)) k (A (ix2 ⟨(t.val * 256 + (y 0).val) % 512, _⟩ (y 1))) (B (ix2 ⟨(t.val * 256 + (y 0).val) % 512, _⟩ (y 1))) = _
  rw [ey, e, half]

theorem block_0 (t : Fin grid0.N) (y : S256x1024.Idx) : iblk m (ok m) c 0 t y = m (c.tc.loc main_arg0) (placeInHalf t y) :=
  congrArg (m (c.tc.loc main_arg0)) (placedInHalf t y _ _ (index_0 t) (Window.rect_emb_val ((cfgM m (ok m)).win 0) t y))
theorem block_1 (t : Fin grid0.N) (y : S256x1024.Idx) : iblk m (ok m) c 1 t y = m (c.tc.loc main_arg1) (placeInHalf t y) :=
  congrArg (m (c.tc.loc main_arg1)) (placedInHalf t y _ _ (index_0 t) (Window.rect_emb_val ((cfgM m (ok m)).win 1) t y))
theorem block_2 (t : Fin grid0.N) (y : S256x1024.Idx) : iblk m (ok m) c 2 t y = m (c.tc.loc main_arg3) (place t y) :=
  congrArg (m (c.tc.loc main_arg3)) (placed t y _ _ (index_2 t) (Window.rect_emb_val ((cfgM m (ok m)).win 2) t y))
theorem block_3 (t : Fin grid0.N) (y : S256x1024.Idx) : iblk m (ok m) c 3 t y = m (c.tc.loc main_arg4) (place t y) :=
  congrArg (m (c.tc.loc main_arg4)) (placed t y _ _ (index_2 t) (Window.rect_emb_val ((cfgM m (ok m)).win 3) t y))
theorem block_4 (t : Fin grid0.N) (y : S256x1024.Idx) : iblk m (ok m) c 4 t y = m (c.tc.loc main_arg5) (place t y) :=
  congrArg (m (c.tc.loc main_arg5)) (placed t y _ _ (index_2 t) (Window.rect_emb_val ((cfgM m (ok m)).win 4) t y))

/-- The core's number, as the kernel reads it. -/
abbrev core : BitVec 32 := m (c.tc.loc main_arg2) (ix1 0)

theorem word {h} {h'} : View.readAt (Elt Ideal) (View.whole main_arg2) (Rect.unit ![0] ![1] h).toLoadRect (tbl m 0) (Shape.Idx.first h') = core m c := by
  obtain rfl : c = 0 := Subsingleton.elim _ _
  exact congrArg (m ((0 : Dev nD).tc.loc main_arg2)) (Layout.idx_ext fun a => match a with
    | 0 => (Nat.lt_one_iff.1 (Fin.isLt (n := 1) _)).trans (Nat.lt_one_iff.1 (Fin.isLt (n := 1) _)).symm)

/-- The kernel's whole gradient. -/
abbrev kernelGrad : S1024x1024.Idx → EReal := whole (core m c) (m (c.tc.loc main_arg0)) (m (c.tc.loc main_arg1))

/-- Block `t` of the gradient. -/
theorem grad_block (t : Fin grid0.N) (y : S256x1024.Idx) :
    blockGrad (grid0.coords t 0).val (core m c) (iblk m (ok m) c 0 t) (iblk m (ok m) c 1 t) y = kernelGrad m c (place t y) :=
  (congrArg₂ (pick (BitVec.ofNat 32 (grid0.coords t 0).val) (core m c)) (block_0 m c t y) (block_1 m c t y)).trans
    (whole_place _ _ _ t y).symm

theorem after_5 (t : Fin grid0.N) : (dats m (ok m) 0 c).after 5 t = blockGrad (grid0.coords t 0).val (core m c) (iblk m (ok m) c 0 t) (iblk m (ok m) c 1 t) := by
  rw [after0_5]
  unfold outsAt0
  frame_out
  rw [word m c, kernel_grad]
  congr 1
  · exact (hs0_0 m (ok m) t).read_unread _
  · exact (hs0_1 m (ok m) t).read_unread _

theorem after_6 (t : Fin grid0.N) : (dats m (ok m) 0 c).after 6 t = changeAll (blockGrad (grid0.coords t 0).val (core m c) (iblk m (ok m) c 0 t) (iblk m (ok m) c 1 t)) (iblk m (ok m) c 2 t) (iblk m (ok m) c 3 t) (iblk m (ok m) c 4 t) := by
  rw [after0_6]
  unfold outsAt0
  frame_out
  rw [word m c, kernel_change]
  congr 1
  · congr 1
    · exact (hs0_0 m (ok m) t).read_unread _
    · exact (hs0_1 m (ok m) t).read_unread _
  · exact (hs0_2 m (ok m) t).read_unread _
  · exact (hs0_3 m (ok m) t).read_unread _
  · exact (hs0_4 m (ok m) t).read_unread _

theorem after_7 (t : Fin grid0.N) : (dats m (ok m) 0 c).after 7 t = firstAll (blockGrad (grid0.coords t 0).val (core m c) (iblk m (ok m) c 0 t) (iblk m (ok m) c 1 t)) (iblk m (ok m) c 3 t) := by
  rw [after0_7]
  unfold outsAt0
  frame_out
  rw [word m c, kernel_first]
  congr 1
  · congr 1
    · exact (hs0_0 m (ok m) t).read_unread _
    · exact (hs0_1 m (ok m) t).read_unread _
  · exact (hs0_3 m (ok m) t).read_unread _

theorem after_8 (t : Fin grid0.N) : (dats m (ok m) 0 c).after 8 t = secondAll (blockGrad (grid0.coords t 0).val (core m c) (iblk m (ok m) c 0 t) (iblk m (ok m) c 1 t)) (iblk m (ok m) c 4 t) := by
  rw [after0_8]
  unfold outsAt0
  frame_out
  rw [word m c, kernel_second]
  congr 1
  · congr 1
    · exact (hs0_0 m (ok m) t).read_unread _
    · exact (hs0_1 m (ok m) t).read_unread _
  · exact (hs0_4 m (ok m) t).read_unread _

theorem final_5 : (dats m (ok m) 0 c).arrAt 5 (cfgM m (ok m)).N = kernelGrad m c :=
  (dats m (ok m) 0 c).arrAt_eq_of_covers 5 _ (covers_5 m) fun t _ y =>
    (congrFun (after_5 m c t) y).trans ((grad_block m c t y).trans
      (congrArg (kernelGrad m c) (placed t y _ _ (index_2 t) (Window.rect_emb_val ((cfgM m (ok m)).win 5) t y)).symm))
theorem final_6 : (dats m (ok m) 0 c).arrAt 6 (cfgM m (ok m)).N = changeAll (kernelGrad m c) (m (c.tc.loc main_arg3)) (m (c.tc.loc main_arg4)) (m (c.tc.loc main_arg5)) :=
  (dats m (ok m) 0 c).arrAt_eq_of_covers 6 _ (covers_5 m) fun t _ y =>
    (congrFun (after_6 m c t) y).trans ((change_congr (grad_block m c t y) (block_2 m c t y) (block_3 m c t y) (block_4 m c t y)).trans
      (congrArg (changeAll (kernelGrad m c) (m (c.tc.loc main_arg3)) (m (c.tc.loc main_arg4)) (m (c.tc.loc main_arg5))) (placed t y _ _ (index_2 t) (Window.rect_emb_val ((cfgM m (ok m)).win 6) t y)).symm))
theorem final_7 : (dats m (ok m) 0 c).arrAt 7 (cfgM m (ok m)).N = firstAll (kernelGrad m c) (m (c.tc.loc main_arg4)) :=
  (dats m (ok m) 0 c).arrAt_eq_of_covers 7 _ (covers_5 m) fun t _ y =>
    (congrFun (after_7 m c t) y).trans ((first_congr (grad_block m c t y) (block_3 m c t y)).trans
      (congrArg (firstAll (kernelGrad m c) (m (c.tc.loc main_arg4))) (placed t y _ _ (index_2 t) (Window.rect_emb_val ((cfgM m (ok m)).win 7) t y)).symm))
theorem final_8 : (dats m (ok m) 0 c).arrAt 8 (cfgM m (ok m)).N = secondAll (kernelGrad m c) (m (c.tc.loc main_arg5)) :=
  (dats m (ok m) 0 c).arrAt_eq_of_covers 8 _ (covers_5 m) fun t _ y =>
    (congrFun (after_8 m c t) y).trans ((second_congr (grad_block m c t y) (block_4 m c t y)).trans
      (congrArg (secondAll (kernelGrad m c) (m (c.tc.loc main_arg5))) (placed t y _ _ (index_2 t) (Window.rect_emb_val ((cfgM m (ok m)).win 8) t y)).symm))

end Arrays

/-! ## The claims -/

section Claims

open Cert.AdamUpKernelIdeal Cert.AdamUpKernelIdeal.Gen

variable {F : FTy → Type} [FloatOps F]

theorem frame_ideal : Cert.quiescent_AdamUpKernelIdeal := fun m ρ _ => frame (F := Ideal) m ρ trivial

/-- The two programs have one body table. -/
theorem tables_eq : Cert.AdamUpKernel.defs (F := F) = Cert.AdamUpKernelIdeal.defs (F := F) :=
  congrArg (Pipeline.defs _) (congrArg Defs.onTc (one_row rfl))

theorem frame_kernel : Cert.quiescent_AdamUpKernel := fun m ρ _ => by
  have h := frame (F := Bits) m ρ trivial
  rw [← tables_eq] at h
  exact h

theorem frame_reference : Cert.quiescent_AdamUpReferenceIdeal := fun m ρ _ =>
  (θ_run Cert.AdamUpReferenceIdeal.defs _ _).mono (fun r h => ⟨fun c => (h c).2.2.2.2, sem_eq_zero_of_no_sems (by decide) r.2⟩) (Cert.AdamUpReferenceIdeal.Value.run (F := Ideal) m ρ)

theorem values : Cert.algebraic_AdamUpKernelIdeal_AdamUpReferenceIdeal := by
  intro m g m' g' _ hm
  refine ⟨_, _, _, _, (θ_run Cert.AdamUpKernelIdeal.defs _ _).mono (fun r h c =>
      ⟨(h.1.1 c).1 5, (h.1.1 c).1 6, (h.1.1 c).1 7, (h.1.1 c).1 8, h.2 c⟩)
      (θ_run_and (run_main_quiescent (F := Ideal) m g trivial) (unchanged (F := Ideal) m g trivial)),
    (θ_run Cert.AdamUpReferenceIdeal.defs _ _).mono (fun r h c => ?_) (Cert.AdamUpReferenceIdeal.Value.run (F := Ideal) m' g')⟩
  have e := h c
  have e0 := hm c
  refine ⟨(e.1.trans (reference_grad _ _ _)).trans ?_, (e.2.1.trans (changeAll_eq Cert.AdamUpReferenceIdeal.Gen.bcast_S_S1024x1024 _ _ _ _)).trans ?_, (e.2.2.1.trans (firstAll_eq Cert.AdamUpReferenceIdeal.Gen.bcast_S_S1024x1024 _ _)).trans ?_,
    (e.2.2.2.1.trans (secondAll_eq Cert.AdamUpReferenceIdeal.Gen.bcast_S_S1024x1024 _ _)).trans ?_, e.2.2.2.2⟩
  all_goals try rw [reference_grad]
  · rw [e0.1, e0.2.1, e0.2.2.1]; exact (final_5 m c).symm
  · rw [e0.1, e0.2.1, e0.2.2.1, e0.2.2.2.1, e0.2.2.2.2.1, e0.2.2.2.2.2]; exact (final_6 m c).symm
  · rw [e0.1, e0.2.1, e0.2.2.1, e0.2.2.2.2.1]; exact (final_7 m c).symm
  · rw [e0.1, e0.2.1, e0.2.2.1, e0.2.2.2.2.2]; exact (final_8 m c).symm

end Claims

end Cert.AdamUp
-- ==== Proof.AdamInClaims.lean ====
/-
# The mixer's input weight: its gradient's halves joined, its optimizer step and the claims

Each of two cores holds a half of the gradient's rows. The kernel takes, block by block, the half that the block
belongs to, and makes one optimizer step in the same pass. Over the extended reals the kernel's arrays are the reference's.
-/
module

public import proofs.«01_k».proof.Defs
public import proofs.«01_k».proof.Proof.Adam
public import proofs.«01_k».proof.Proof.Gen.AdamInKernel
public import proofs.«01_k».proof.Proof.Gen.AdamInKernelIdeal.Frame
public import proofs.«01_k».proof.Proof.Gen.AdamInReferenceIdeal.Run
public import Idealize.ShloMosaic.Lib.Pipeline.ValueKit
public import Idealize.ShloMosaic.Lib.Pipeline.Covers
public import Idealize.ShloMosaic.Lib.LayoutAt

@[expose] public section

set_option maxRecDepth 16384

noncomputable section

namespace Cert.AdamIn

open Idealize.ShloMosaic Idealize.ShloMosaic.TcCoe Idealize.SL.Sem
open Cert.Adam

/-! ## The reference's arrays -/

section Reference

open Cert.AdamInReferenceIdeal Cert.AdamInReferenceIdeal.Gen

/-- The whole gradient on core `k`: the first half of the rows is core 0's, the second core 1's. -/
def whole (k : BitVec 32) (A B : S352x1024.Idx → EReal) : S704x1024.Idx → EReal := fun i =>
  pick (BitVec.ofNat 32 ((i 0).val / 352)) k (A (ix2 ⟨(i 0).val % 352, Nat.mod_lt _ (by decide)⟩ (i 1)))
    (B (ix2 ⟨(i 0).val % 352, Nat.mod_lt _ (by decide)⟩ (i 1)))

theorem reference_grad (A B : FVec Ideal S352x1024 .f32) (k : Vec Ideal S1 .i32) :
    (concatenate S704x1024 0 [⟨S352x1024, (select (broadcastInDim S352x1024 ![] bcast_S_S352x1024 (cmpi .eq (shapeCast _ k shapeCasts_S1_S_) (constantI S_ 32 0#32))) A B)⟩, ⟨S352x1024, (select (broadcastInDim S352x1024 ![] bcast_S_S352x1024 (cmpi .eq (shapeCast _ k shapeCasts_S1_S_) (constantI S_ 32 1#32))) A B)⟩] concatenates_S352x1024_S352x1024_S704x1024_d0 : FVec Ideal S704x1024 .f32) = whole (k (ix1 0)) A B := by
  funext i
  pointwise [whole]
  simp only [reference_pick]
  have h2 : (i 0).val < 704 := (i 0).isLt
  by_cases h : (i 0).val < 352
  · rw [dif_pos h]
    simp only [Nat.div_eq_of_lt h, Nat.mod_eq_of_lt h]
  · rw [dif_neg h]
    have e : (i 0).val / 352 = 1 := by omega
    have e' : (i 0).val % 352 = (i 0).val - 352 := by omega
    simp only [e, e']

end Reference

/-! ## The kernel's step on one block -/

section Kernel

open Cert.AdamInKernelIdeal Cert.AdamInKernelIdeal.Gen

variable (i : grid0.Coords) (k : BitVec 32) (A B w m v : FVec Ideal S176x1024 .f32)

/-- A block of the gradient: every entry from the half the block belongs to. -/
def blockGrad (n : Nat) (k : BitVec 32) (A B : S176x1024.Idx → EReal) : S176x1024.Idx → EReal :=
  fun y => pick (BitVec.ofNat 32 n) k (A y) (B y)

theorem kernel_grad : (k0_pay1 (F := Ideal) i k A B : FVec Ideal S176x1024 .f32) = blockGrad (i 0).val k A B := by
  funext y
  pointwise [k0_pay1, blockGrad]
  exact kernel_pick _ _ _ _

theorem kernel_first : (k0_pay2 (F := Ideal) i k A B m : FVec Ideal S176x1024 .f32) = firstAll (blockGrad (i 0).val k A B) m := by
  unfold k0_pay2; rw [kernel_grad]; rfl

theorem kernel_second : (k0_pay3 (F := Ideal) i k A B v : FVec Ideal S176x1024 .f32) = secondAll (blockGrad (i 0).val k A B) v := by
  unfold k0_pay3; rw [kernel_grad]; rfl

theorem kernel_change : (k0_pay4 (F := Ideal) i k A B w m v : FVec Ideal S176x1024 .f32) = changeAll (blockGrad (i 0).val k A B) w m v := by
  unfold k0_pay4; rw [kernel_first, kernel_second]; rfl

end Kernel

section Arrays

open Cert.AdamInKernelIdeal Cert.AdamInKernelIdeal.Gen
open Idealize.ShloMosaic.Pipeline (Dat Cfg Window)

variable (m : (ℓ : Loc nD τ sig) → Buf (Elt Ideal) ℓ) (c : Dev nD)

/-- The pipeline's index maps read no table: there is nothing to ask of one. -/
abbrev ok : Ok m := trivial

theorem index_0 : ∀ t : Fin grid0.N, cc0_transform_0 (grid0.coords t) = ![t.val % 2, 0] := by decide +kernel
theorem index_2 : ∀ t : Fin grid0.N, cc0_transform_2 (grid0.coords t) = ![t.val, 0] := by decide +kernel
theorem half : ∀ t : Fin grid0.N, (grid0.coords t 0).val = t.val / 2 := by decide +kernel

/-- An output whose blocks lie one below the other is covered by the points. -/
theorem point (β : Fin ((704 + 176 - 1) / 176)) : β.val < grid0.N := lt_of_lt_of_eq β.isLt (by decide)
theorem covered {n : Fin 2 → Nat} {b0 : Fin ((704 + 176 - 1) / 176)} {b1 : Fin ((1024 + 1024 - 1) / 1024)} (hn : n = ![b0.val, 0]) :
    n 0 = b0.val ∧ n 1 = b1.val := by
  subst hn
  exact ⟨rfl, (Nat.lt_one_iff.1 (lt_of_lt_of_eq b1.isLt (by decide))).symm⟩

theorem covers_5 : ((cfgM m (ok m)).win 5).Covers :=
  Window.covers_of_index_surj _ rfl (show ∀ a : Fin 2, 0 < S176x1024.size a by decide) fun β =>
    ⟨⟨(β (0 : Fin 2)).val, point (β (0 : Fin 2))⟩, fun (a : Fin 2) => by
      have h := covered (b1 := β (1 : Fin 2)) (index_2 ⟨_, point (β (0 : Fin 2))⟩)
      fin_cases a
      · exact h.1
      · exact h.2⟩

/-- Row `q` of block `t` in the whole array, and in its half. -/
def row (t : Fin grid0.N) (q : Fin 176) : Fin 704 := ⟨t.val * 176 + q.val, by have : t.val < 4 := t.isLt; omega⟩
def rowInHalf (t : Fin grid0.N) (q : Fin 176) : Fin 352 := ⟨t.val % 2 * 176 + q.val, by omega⟩

/-- Where block `t` of a weight's array lies, and where it lies in a half of the gradient. -/
abbrev place (t : Fin grid0.N) (y : S176x1024.Idx) : S704x1024.Idx := ix2 (row t (y 0)) (y 1)
abbrev placeInHalf (t : Fin grid0.N) (y : S176x1024.Idx) : S352x1024.Idx := ix2 (rowInHalf t (y 0)) (y 1)

theorem placed (t : Fin grid0.N) (y : S176x1024.Idx) (i : S704x1024.Idx) (n : Fin 2 → Nat) (hn : n = ![t.val, 0])
    (h : ∀ a, (i a : Nat) = n a * S176x1024.size a + (y a : Nat)) : i = place t y := by
  subst hn
  refine Layout.idx_ext fun a => (h a).trans ?_
  fin_cases a
  · rfl
  · exact at_zero _ _

theorem placedInHalf (t : Fin grid0.N) (y : S176x1024.Idx) (i : S352x1024.Idx) (n : Fin 2 → Nat) (hn : n = ![t.val % 2, 0])
    (h : ∀ a, (i a : Nat) = n a * S176x1024.size a + (y a : Nat)) : i = placeInHalf t y := by
  subst hn
  refine Layout.idx_ext fun a => (h a).trans ?_
  fin_cases a
  · rfl
  · exact at_zero _ _

/-- The whole gradient at a place of block `t`. -/
theorem whole_place (k : BitVec 32) (A B : S352x1024.Idx → EReal) (t : Fin grid0.N) (y : S176x1024.Idx) :
    whole k A B (place t y) = pick (BitVec.ofNat 32 (grid0.coords t 0).val) k (A (placeInHalf t y)) (B (placeInHalf t y)) := by
  have hy : (y 0).val < 176 := (y 0).isLt
  have e : (t.val * 176 + (y 0).val) / 352 = t.val / 2 := by omega
  have e' : (t.val * 176 + (y 0).val) % 352 = t.val % 2 * 176 + (y 0).val := by omega
  have ey : (ix2 ⟨(t.val * 176 + (y 0).val) % 352, Nat.mod_lt _ (by decide)⟩ (y 1) : S352x1024.Idx) = placeInHalf t y :=
    Layout.idx_ext fun a => by fin_cases a; exacts [e', rfl]
  show pick (BitVec.ofNat 32 ((t.val * 176 + (y 0).val) / 352)) k (A (ix2 ⟨(t.val * 176 + (y 0).val) % 352, _⟩ (y 1))) (B (ix2 ⟨(t.val * 176 + (y 0).val) % 352, _⟩ (y 1))) = _
  rw [ey, e, half]

theorem block_0 (t : Fin grid0.N) (y : S176x1024.Idx) : iblk m (ok m) c 0 t y = m (c.tc.loc main_arg0) (placeInHalf t y) :=
  congrArg (m (c.tc.loc main_arg0)) (placedInHalf t y _ _ (index_0 t) (Window.rect_emb_val ((cfgM m (ok m)).win 0) t y))
theorem block_1 (t : Fin grid0.N) (y : S176x1024.Idx) : iblk m (ok m) c 1 t y = m (c.tc.loc main_arg1) (placeInHalf t y) :=
  congrArg (m (c.tc.loc main_arg1)) (placedInHalf t y _ _ (index_0 t) (Window.rect_emb_val ((cfgM m (ok m)).win 1) t y))
theorem block_2 (t : Fin grid0.N) (y : S176x1024.Idx) : iblk m (ok m) c 2 t y = m (c.tc.loc main_arg3) (place t y) :=
  congrArg (m (c.tc.loc main_arg3)) (placed t y _ _ (index_2 t) (Window.rect_emb_val ((cfgM m (ok m)).win 2) t y))
theorem block_3 (t : Fin grid0.N) (y : S176x1024.Idx) : iblk m (ok m) c 3 t y = m (c.tc.loc main_arg4) (place t y) :=
  congrArg (m (c.tc.loc main_arg4)) (placed t y _ _ (index_2 t) (Window.rect_emb_val ((cfgM m (ok m)).win 3) t y))
theorem block_4 (t : Fin grid0.N) (y : S176x1024.Idx) : iblk m (ok m) c 4 t y = m (c.tc.loc main_arg5) (place t y) :=
  congrArg (m (c.tc.loc main_arg5)) (placed t y _ _ (index_2 t) (Window.rect_emb_val ((cfgM m (ok m)).win 4) t y))

/-- The core's number, as the kernel reads it. -/
abbrev core : BitVec 32 := m (c.tc.loc main_arg2) (ix1 0)

theorem word {h} {h'} : View.readAt (Elt Ideal) (View.whole main_arg2) (Rect.unit ![0] ![1] h).toLoadRect (tbl m 0) (Shape.Idx.first h') = core m c := by
  obtain rfl : c = 0 := Subsingleton.elim _ _
  exact congrArg (m ((0 : Dev nD).tc.loc main_arg2)) (Layout.idx_ext fun a => match a with
    | 0 => (Nat.lt_one_iff.1 (Fin.isLt (n := 1) _)).trans (Nat.lt_one_iff.1 (Fin.isLt (n := 1) _)).symm)

/-- The kernel's whole gradient. -/
abbrev kernelGrad : S704x1024.Idx → EReal := whole (core m c) (m (c.tc.loc main_arg0)) (m (c.tc.loc main_arg1))

/-- Block `t` of the gradient. -/
theorem grad_block (t : Fin grid0.N) (y : S176x1024.Idx) :
    blockGrad (grid0.coords t 0).val (core m c) (iblk m (ok m) c 0 t) (iblk m (ok m) c 1 t) y = kernelGrad m c (place t y) :=
  (congrArg₂ (pick (BitVec.ofNat 32 (grid0.coords t 0).val) (core m c)) (block_0 m c t y) (block_1 m c t y)).trans
    (whole_place _ _ _ t y).symm

theorem after_5 (t : Fin grid0.N) : (dats m (ok m) 0 c).after 5 t = blockGrad (grid0.coords t 0).val (core m c) (iblk m (ok m) c 0 t) (iblk m (ok m) c 1 t) := by
  rw [after0_5]
  unfold outsAt0
  frame_out
  rw [word m c, kernel_grad]
  congr 1
  · exact (hs0_0 m (ok m) t).read_unread _
  · exact (hs0_1 m (ok m) t).read_unread _

theorem after_6 (t : Fin grid0.N) : (dats m (ok m) 0 c).after 6 t = changeAll (blockGrad (grid0.coords t 0).val (core m c) (iblk m (ok m) c 0 t) (iblk m (ok m) c 1 t)) (iblk m (ok m) c 2 t) (iblk m (ok m) c 3 t) (iblk m (ok m) c 4 t) := by
  rw [after0_6]
  unfold outsAt0
  frame_out
  rw [word m c, kernel_change]
  congr 1
  · congr 1
    · exact (hs0_0 m (ok m) t).read_unread _
    · exact (hs0_1 m (ok m) t).read_unread _
  · exact (hs0_2 m (ok m) t).read_unread _
  · exact (hs0_3 m (ok m) t).read_unread _
  · exact (hs0_4 m (ok m) t).read_unread _

theorem after_7 (t : Fin grid0.N) : (dats m (ok m) 0 c).after 7 t = firstAll (blockGrad (grid0.coords t 0).val (core m c) (iblk m (ok m) c 0 t) (iblk m (ok m) c 1 t)) (iblk m (ok m) c 3 t) := by
  rw [after0_7]
  unfold outsAt0
  frame_out
  rw [word m c, kernel_first]
  congr 1
  · congr 1
    · exact (hs0_0 m (ok m) t).read_unread _
    · exact (hs0_1 m (ok m) t).read_unread _
  · exact (hs0_3 m (ok m) t).read_unread _

theorem after_8 (t : Fin grid0.N) : (dats m (ok m) 0 c).after 8 t = secondAll (blockGrad (grid0.coords t 0).val (core m c) (iblk m (ok m) c 0 t) (iblk m (ok m) c 1 t)) (iblk m (ok m) c 4 t) := by
  rw [after0_8]
  unfold outsAt0
  frame_out
  rw [word m c, kernel_second]
  congr 1
  · congr 1
    · exact (hs0_0 m (ok m) t).read_unread _
    · exact (hs0_1 m (ok m) t).read_unread _
  · exact (hs0_4 m (ok m) t).read_unread _

theorem final_5 : (dats m (ok m) 0 c).arrAt 5 (cfgM m (ok m)).N = kernelGrad m c :=
  (dats m (ok m) 0 c).arrAt_eq_of_covers 5 _ (covers_5 m) fun t _ y =>
    (congrFun (after_5 m c t) y).trans ((grad_block m c t y).trans
      (congrArg (kernelGrad m c) (placed t y _ _ (index_2 t) (Window.rect_emb_val ((cfgM m (ok m)).win 5) t y)).symm))
theorem final_6 : (dats m (ok m) 0 c).arrAt 6 (cfgM m (ok m)).N = changeAll (kernelGrad m c) (m (c.tc.loc main_arg3)) (m (c.tc.loc main_arg4)) (m (c.tc.loc main_arg5)) :=
  (dats m (ok m) 0 c).arrAt_eq_of_covers 6 _ (covers_5 m) fun t _ y =>
    (congrFun (after_6 m c t) y).trans ((change_congr (grad_block m c t y) (block_2 m c t y) (block_3 m c t y) (block_4 m c t y)).trans
      (congrArg (changeAll (kernelGrad m c) (m (c.tc.loc main_arg3)) (m (c.tc.loc main_arg4)) (m (c.tc.loc main_arg5))) (placed t y _ _ (index_2 t) (Window.rect_emb_val ((cfgM m (ok m)).win 6) t y)).symm))
theorem final_7 : (dats m (ok m) 0 c).arrAt 7 (cfgM m (ok m)).N = firstAll (kernelGrad m c) (m (c.tc.loc main_arg4)) :=
  (dats m (ok m) 0 c).arrAt_eq_of_covers 7 _ (covers_5 m) fun t _ y =>
    (congrFun (after_7 m c t) y).trans ((first_congr (grad_block m c t y) (block_3 m c t y)).trans
      (congrArg (firstAll (kernelGrad m c) (m (c.tc.loc main_arg4))) (placed t y _ _ (index_2 t) (Window.rect_emb_val ((cfgM m (ok m)).win 7) t y)).symm))
theorem final_8 : (dats m (ok m) 0 c).arrAt 8 (cfgM m (ok m)).N = secondAll (kernelGrad m c) (m (c.tc.loc main_arg5)) :=
  (dats m (ok m) 0 c).arrAt_eq_of_covers 8 _ (covers_5 m) fun t _ y =>
    (congrFun (after_8 m c t) y).trans ((second_congr (grad_block m c t y) (block_4 m c t y)).trans
      (congrArg (secondAll (kernelGrad m c) (m (c.tc.loc main_arg5))) (placed t y _ _ (index_2 t) (Window.rect_emb_val ((cfgM m (ok m)).win 8) t y)).symm))

end Arrays

/-! ## The claims -/

section Claims

open Cert.AdamInKernelIdeal Cert.AdamInKernelIdeal.Gen

variable {F : FTy → Type} [FloatOps F]

theorem frame_ideal : Cert.quiescent_AdamInKernelIdeal := fun m ρ _ => frame (F := Ideal) m ρ trivial

/-- The two programs have one body table. -/
theorem tables_eq : Cert.AdamInKernel.defs (F := F) = Cert.AdamInKernelIdeal.defs (F := F) :=
  congrArg (Pipeline.defs _) (congrArg Defs.onTc (one_row rfl))

theorem frame_kernel : Cert.quiescent_AdamInKernel := fun m ρ _ => by
  have h := frame (F := Bits) m ρ trivial
  rw [← tables_eq] at h
  exact h

theorem frame_reference : Cert.quiescent_AdamInReferenceIdeal := fun m ρ _ =>
  (θ_run Cert.AdamInReferenceIdeal.defs _ _).mono (fun r h => ⟨fun c => (h c).2.2.2.2, sem_eq_zero_of_no_sems (by decide) r.2⟩) (Cert.AdamInReferenceIdeal.Value.run (F := Ideal) m ρ)

theorem values : Cert.algebraic_AdamInKernelIdeal_AdamInReferenceIdeal := by
  intro m g m' g' _ hm
  refine ⟨_, _, _, _, (θ_run Cert.AdamInKernelIdeal.defs _ _).mono (fun r h c =>
      ⟨(h.1.1 c).1 5, (h.1.1 c).1 6, (h.1.1 c).1 7, (h.1.1 c).1 8, h.2 c⟩)
      (θ_run_and (run_main_quiescent (F := Ideal) m g trivial) (unchanged (F := Ideal) m g trivial)),
    (θ_run Cert.AdamInReferenceIdeal.defs _ _).mono (fun r h c => ?_) (Cert.AdamInReferenceIdeal.Value.run (F := Ideal) m' g')⟩
  have e := h c
  have e0 := hm c
  refine ⟨(e.1.trans (reference_grad _ _ _)).trans ?_, (e.2.1.trans (changeAll_eq Cert.AdamInReferenceIdeal.Gen.bcast_S_S704x1024 _ _ _ _)).trans ?_, (e.2.2.1.trans (firstAll_eq Cert.AdamInReferenceIdeal.Gen.bcast_S_S704x1024 _ _)).trans ?_,
    (e.2.2.2.1.trans (secondAll_eq Cert.AdamInReferenceIdeal.Gen.bcast_S_S704x1024 _ _)).trans ?_, e.2.2.2.2⟩
  all_goals try rw [reference_grad]
  · rw [e0.1, e0.2.1, e0.2.2.1]; exact (final_5 m c).symm
  · rw [e0.1, e0.2.1, e0.2.2.1, e0.2.2.2.1, e0.2.2.2.2.1, e0.2.2.2.2.2]; exact (final_6 m c).symm
  · rw [e0.1, e0.2.1, e0.2.2.1, e0.2.2.2.2.1]; exact (final_7 m c).symm
  · rw [e0.1, e0.2.1, e0.2.2.1, e0.2.2.2.2.2]; exact (final_8 m c).symm

end Claims

end Cert.AdamIn
-- ==== Proof.AdamOutClaims.lean ====
/-
# The mixer's output weight: its gradient's halves joined, its optimizer step and the claims

Each of two cores holds a half of the gradient's columns. The kernel takes, block by block, the half that the block
belongs to, and makes one optimizer step in the same pass. Over the extended reals the kernel's arrays are the reference's.
-/
module

public import proofs.«01_k».proof.Defs
public import proofs.«01_k».proof.Proof.Adam
public import proofs.«01_k».proof.Proof.Gen.AdamOutKernel
public import proofs.«01_k».proof.Proof.Gen.AdamOutKernelIdeal.Frame
public import proofs.«01_k».proof.Proof.Gen.AdamOutReferenceIdeal.Run
public import Idealize.ShloMosaic.Lib.Pipeline.ValueKit
public import Idealize.ShloMosaic.Lib.Pipeline.Covers
public import Idealize.ShloMosaic.Lib.LayoutAt

@[expose] public section

set_option maxRecDepth 16384

noncomputable section

namespace Cert.AdamOut

open Idealize.ShloMosaic Idealize.ShloMosaic.TcCoe Idealize.SL.Sem
open Cert.Adam

/-! ## The reference's arrays -/

section Reference

open Cert.AdamOutReferenceIdeal Cert.AdamOutReferenceIdeal.Gen

/-- The whole gradient on core `k`: columns 0 to 511 are core 0's half, the others core 1's. -/
def whole (k : BitVec 32) (A B : S256x512.Idx → EReal) : S256x1024.Idx → EReal := fun i =>
  pick (BitVec.ofNat 32 ((i 1).val / 512)) k (A (ix2 (i 0) ⟨(i 1).val % 512, Nat.mod_lt _ (by decide)⟩))
    (B (ix2 (i 0) ⟨(i 1).val % 512, Nat.mod_lt _ (by decide)⟩))

theorem reference_grad (A B : FVec Ideal S256x512 .f32) (k : Vec Ideal S1 .i32) :
    (concatenate S256x1024 1 [⟨S256x512, (select (broadcastInDim S256x512 ![] bcast_S_S256x512 (cmpi .eq (shapeCast _ k shapeCasts_S1_S_) (constantI S_ 32 0#32))) A B)⟩, ⟨S256x512, (select (broadcastInDim S256x512 ![] bcast_S_S256x512 (cmpi .eq (shapeCast _ k shapeCasts_S1_S_) (constantI S_ 32 1#32))) A B)⟩] concatenates_S256x512_S256x512_S256x1024_d1 : FVec Ideal S256x1024 .f32) = whole (k (ix1 0)) A B := by
  funext i
  pointwise [whole]
  simp only [reference_pick]
  have h2 : (i 1).val < 1024 := (i 1).isLt
  by_cases h : (i 1).val < 512
  · rw [dif_pos h]
    simp only [Nat.div_eq_of_lt h, Nat.mod_eq_of_lt h]
  · rw [dif_neg h]
    have e : (i 1).val / 512 = 1 := by omega
    have e' : (i 1).val % 512 = (i 1).val - 512 := by omega
    simp only [e, e']

end Reference

/-! ## The kernel's step on one block -/

section Kernel

open Cert.AdamOutKernelIdeal Cert.AdamOutKernelIdeal.Gen

variable (i : grid0.Coords) (k : BitVec 32) (A B w m v : FVec Ideal S256x512 .f32)

/-- A block of the gradient: every entry from the half the block belongs to. -/
def blockGrad (n : Nat) (k : BitVec 32) (A B : S256x512.Idx → EReal) : S256x512.Idx → EReal :=
  fun y => pick (BitVec.ofNat 32 n) k (A y) (B y)

theorem kernel_grad : (k0_pay1 (F := Ideal) i k A B : FVec Ideal S256x512 .f32) = blockGrad (i 0).val k A B := by
  funext y
  pointwise [k0_pay1, blockGrad]
  exact kernel_pick _ _ _ _

theorem kernel_first : (k0_pay2 (F := Ideal) i k A B m : FVec Ideal S256x512 .f32) = firstAll (blockGrad (i 0).val k A B) m := by
  unfold k0_pay2; rw [kernel_grad]; rfl

theorem kernel_second : (k0_pay3 (F := Ideal) i k A B v : FVec Ideal S256x512 .f32) = secondAll (blockGrad (i 0).val k A B) v := by
  unfold k0_pay3; rw [kernel_grad]; rfl

theorem kernel_change : (k0_pay4 (F := Ideal) i k A B w m v : FVec Ideal S256x512 .f32) = changeAll (blockGrad (i 0).val k A B) w m v := by
  unfold k0_pay4; rw [kernel_first, kernel_second]; rfl

end Kernel

section Arrays

open Cert.AdamOutKernelIdeal Cert.AdamOutKernelIdeal.Gen
open Idealize.ShloMosaic.Pipeline (Dat Cfg Window)

variable (m : (ℓ : Loc nD τ sig) → Buf (Elt Ideal) ℓ) (c : Dev nD)

/-- The pipeline's index maps read no table: there is nothing to ask of one. -/
abbrev ok : Ok m := trivial

theorem index_0 : ∀ (t : Fin grid0.N) a, cc0_transform_0 (grid0.coords t) a = 0 := by decide +kernel
theorem index_2 : ∀ t : Fin grid0.N, cc0_transform_2 (grid0.coords t) = ![0, t.val] := by decide +kernel
theorem half : ∀ t : Fin grid0.N, (grid0.coords t 0).val = t.val := by decide +kernel

/-- An output whose blocks lie side by side is covered by the points. -/
theorem point (β : Fin ((1024 + 512 - 1) / 512)) : β.val < grid0.N := lt_of_lt_of_eq β.isLt (by decide)
theorem covered {n : Fin 2 → Nat} {b0 : Fin ((256 + 256 - 1) / 256)} {b1 : Fin ((1024 + 512 - 1) / 512)} (hn : n = ![0, b1.val]) :
    n 0 = b0.val ∧ n 1 = b1.val := by
  subst hn
  exact ⟨(Nat.lt_one_iff.1 (lt_of_lt_of_eq b0.isLt (by decide))).symm, rfl⟩

theorem covers_5 : ((cfgM m (ok m)).win 5).Covers :=
  Window.covers_of_index_surj _ rfl (show ∀ a : Fin 2, 0 < S256x512.size a by decide) fun β =>
    ⟨⟨(β (1 : Fin 2)).val, point (β (1 : Fin 2))⟩, fun (a : Fin 2) => by
      have h := covered (b0 := β (0 : Fin 2)) (index_2 ⟨_, point (β (1 : Fin 2))⟩)
      fin_cases a
      · exact h.1
      · exact h.2⟩

/-- Column `q` of block `t` in the whole array. -/
def column (t : Fin grid0.N) (q : Fin 512) : Fin 1024 := ⟨t.val * 512 + q.val, by have : t.val < 2 := t.isLt; omega⟩

/-- Where block `t` of a weight's array lies. -/
abbrev place (t : Fin grid0.N) (y : S256x512.Idx) : S256x1024.Idx := ix2 (y 0) (column t (y 1))

theorem placed (t : Fin grid0.N) (y : S256x512.Idx) (i : S256x1024.Idx) (n : Fin 2 → Nat) (hn : n = ![0, t.val])
    (h : ∀ a, (i a : Nat) = n a * S256x512.size a + (y a : Nat)) : i = place t y := by
  subst hn
  refine Layout.idx_ext fun a => (h a).trans ?_
  fin_cases a
  · exact at_zero _ _
  · rfl

/-- The whole gradient at a place of block `t`. -/
theorem whole_place (k : BitVec 32) (A B : S256x512.Idx → EReal) (t : Fin grid0.N) (y : S256x512.Idx) :
    whole k A B (place t y) = blockGrad (grid0.coords t 0).val k A B y := by
  have hy : (y 1).val < 512 := (y 1).isLt
  have e : (t.val * 512 + (y 1).val) / 512 = t.val := by omega
  have e' : (t.val * 512 + (y 1).val) % 512 = (y 1).val := by omega
  have ey : (ix2 (y 0) ⟨(t.val * 512 + (y 1).val) % 512, Nat.mod_lt _ (by decide)⟩ : S256x512.Idx) = y :=
    Layout.idx_ext fun a => by fin_cases a; exacts [rfl, e']
  show pick (BitVec.ofNat 32 ((t.val * 512 + (y 1).val) / 512)) k (A (ix2 (y 0) ⟨(t.val * 512 + (y 1).val) % 512, _⟩)) (B (ix2 (y 0) ⟨(t.val * 512 + (y 1).val) % 512, _⟩)) = _
  rw [ey, e, blockGrad, half]

/-- The halves are staged whole. -/
theorem block_0 (t : Fin grid0.N) : iblk m (ok m) c 0 t = m (c.tc.loc main_arg0) :=
  funext fun y => congrArg (m (c.tc.loc main_arg0)) (Layout.idx_ext fun a => (Window.rect_emb_val ((cfgM m (ok m)).win 0) t y a).trans ((congrArg (· * _ + _) (index_0 t a)).trans (by rw [Nat.zero_mul, Nat.zero_add])))
theorem block_1 (t : Fin grid0.N) : iblk m (ok m) c 1 t = m (c.tc.loc main_arg1) :=
  funext fun y => congrArg (m (c.tc.loc main_arg1)) (Layout.idx_ext fun a => (Window.rect_emb_val ((cfgM m (ok m)).win 1) t y a).trans ((congrArg (· * _ + _) (index_0 t a)).trans (by rw [Nat.zero_mul, Nat.zero_add])))
theorem block_2 (t : Fin grid0.N) (y : S256x512.Idx) : iblk m (ok m) c 2 t y = m (c.tc.loc main_arg3) (place t y) :=
  congrArg (m (c.tc.loc main_arg3)) (placed t y _ _ (index_2 t) (Window.rect_emb_val ((cfgM m (ok m)).win 2) t y))
theorem block_3 (t : Fin grid0.N) (y : S256x512.Idx) : iblk m (ok m) c 3 t y = m (c.tc.loc main_arg4) (place t y) :=
  congrArg (m (c.tc.loc main_arg4)) (placed t y _ _ (index_2 t) (Window.rect_emb_val ((cfgM m (ok m)).win 3) t y))
theorem block_4 (t : Fin grid0.N) (y : S256x512.Idx) : iblk m (ok m) c 4 t y = m (c.tc.loc main_arg5) (place t y) :=
  congrArg (m (c.tc.loc main_arg5)) (placed t y _ _ (index_2 t) (Window.rect_emb_val ((cfgM m (ok m)).win 4) t y))

/-- The core's number, as the kernel reads it. -/
abbrev core : BitVec 32 := m (c.tc.loc main_arg2) (ix1 0)

theorem word {h} {h'} : View.readAt (Elt Ideal) (View.whole main_arg2) (Rect.unit ![0] ![1] h).toLoadRect (tbl m 0) (Shape.Idx.first h') = core m c := by
  obtain rfl : c = 0 := Subsingleton.elim _ _
  exact congrArg (m ((0 : Dev nD).tc.loc main_arg2)) (Layout.idx_ext fun a => match a with
    | 0 => (Nat.lt_one_iff.1 (Fin.isLt (n := 1) _)).trans (Nat.lt_one_iff.1 (Fin.isLt (n := 1) _)).symm)

/-- The kernel's whole gradient. -/
abbrev kernelGrad : S256x1024.Idx → EReal := whole (core m c) (m (c.tc.loc main_arg0)) (m (c.tc.loc main_arg1))

/-- Block `t` of the gradient. -/
theorem grad_block (t : Fin grid0.N) (y : S256x512.Idx) :
    blockGrad (grid0.coords t 0).val (core m c) (iblk m (ok m) c 0 t) (iblk m (ok m) c 1 t) y = kernelGrad m c (place t y) :=
  (congrArg₂ (fun A B : S256x512.Idx → EReal => blockGrad (grid0.coords t 0).val (core m c) A B y) (block_0 m c t) (block_1 m c t)).trans
    (whole_place _ _ _ t y).symm

theorem after_5 (t : Fin grid0.N) : (dats m (ok m) 0 c).after 5 t = blockGrad (grid0.coords t 0).val (core m c) (iblk m (ok m) c 0 t) (iblk m (ok m) c 1 t) := by
  rw [after0_5]
  unfold outsAt0
  frame_out
  rw [word m c, kernel_grad]
  congr 1
  · exact (hs0_0 m (ok m) t).read_unread _
  · exact (hs0_1 m (ok m) t).read_unread _

theorem after_6 (t : Fin grid0.N) : (dats m (ok m) 0 c).after 6 t = changeAll (blockGrad (grid0.coords t 0).val (core m c) (iblk m (ok m) c 0 t) (iblk m (ok m) c 1 t)) (iblk m (ok m) c 2 t) (iblk m (ok m) c 3 t) (iblk m (ok m) c 4 t) := by
  rw [after0_6]
  unfold outsAt0
  frame_out
  rw [word m c, kernel_change]
  congr 1
  · congr 1
    · exact (hs0_0 m (ok m) t).read_unread _
    · exact (hs0_1 m (ok m) t).read_unread _
  · exact (hs0_2 m (ok m) t).read_unread _
  · exact (hs0_3 m (ok m) t).read_unread _
  · exact (hs0_4 m (ok m) t).read_unread _

theorem after_7 (t : Fin grid0.N) : (dats m (ok m) 0 c).after 7 t = firstAll (blockGrad (grid0.coords t 0).val (core m c) (iblk m (ok m) c 0 t) (iblk m (ok m) c 1 t)) (iblk m (ok m) c 3 t) := by
  rw [after0_7]
  unfold outsAt0
  frame_out
  rw [word m c, kernel_first]
  congr 1
  · congr 1
    · exact (hs0_0 m (ok m) t).read_unread _
    · exact (hs0_1 m (ok m) t).read_unread _
  · exact (hs0_3 m (ok m) t).read_unread _

theorem after_8 (t : Fin grid0.N) : (dats m (ok m) 0 c).after 8 t = secondAll (blockGrad (grid0.coords t 0).val (core m c) (iblk m (ok m) c 0 t) (iblk m (ok m) c 1 t)) (iblk m (ok m) c 4 t) := by
  rw [after0_8]
  unfold outsAt0
  frame_out
  rw [word m c, kernel_second]
  congr 1
  · congr 1
    · exact (hs0_0 m (ok m) t).read_unread _
    · exact (hs0_1 m (ok m) t).read_unread _
  · exact (hs0_4 m (ok m) t).read_unread _

theorem final_5 : (dats m (ok m) 0 c).arrAt 5 (cfgM m (ok m)).N = kernelGrad m c :=
  (dats m (ok m) 0 c).arrAt_eq_of_covers 5 _ (covers_5 m) fun t _ y =>
    (congrFun (after_5 m c t) y).trans ((grad_block m c t y).trans
      (congrArg (kernelGrad m c) (placed t y _ _ (index_2 t) (Window.rect_emb_val ((cfgM m (ok m)).win 5) t y)).symm))
theorem final_6 : (dats m (ok m) 0 c).arrAt 6 (cfgM m (ok m)).N = changeAll (kernelGrad m c) (m (c.tc.loc main_arg3)) (m (c.tc.loc main_arg4)) (m (c.tc.loc main_arg5)) :=
  (dats m (ok m) 0 c).arrAt_eq_of_covers 6 _ (covers_5 m) fun t _ y =>
    (congrFun (after_6 m c t) y).trans ((change_congr (grad_block m c t y) (block_2 m c t y) (block_3 m c t y) (block_4 m c t y)).trans
      (congrArg (changeAll (kernelGrad m c) (m (c.tc.loc main_arg3)) (m (c.tc.loc main_arg4)) (m (c.tc.loc main_arg5))) (placed t y _ _ (index_2 t) (Window.rect_emb_val ((cfgM m (ok m)).win 6) t y)).symm))
theorem final_7 : (dats m (ok m) 0 c).arrAt 7 (cfgM m (ok m)).N = firstAll (kernelGrad m c) (m (c.tc.loc main_arg4)) :=
  (dats m (ok m) 0 c).arrAt_eq_of_covers 7 _ (covers_5 m) fun t _ y =>
    (congrFun (after_7 m c t) y).trans ((first_congr (grad_block m c t y) (block_3 m c t y)).trans
      (congrArg (firstAll (kernelGrad m c) (m (c.tc.loc main_arg4))) (placed t y _ _ (index_2 t) (Window.rect_emb_val ((cfgM m (ok m)).win 7) t y)).symm))
theorem final_8 : (dats m (ok m) 0 c).arrAt 8 (cfgM m (ok m)).N = secondAll (kernelGrad m c) (m (c.tc.loc main_arg5)) :=
  (dats m (ok m) 0 c).arrAt_eq_of_covers 8 _ (covers_5 m) fun t _ y =>
    (congrFun (after_8 m c t) y).trans ((second_congr (grad_block m c t y) (block_4 m c t y)).trans
      (congrArg (secondAll (kernelGrad m c) (m (c.tc.loc main_arg5))) (placed t y _ _ (index_2 t) (Window.rect_emb_val ((cfgM m (ok m)).win 8) t y)).symm))

end Arrays

/-! ## The claims -/

section Claims

open Cert.AdamOutKernelIdeal Cert.AdamOutKernelIdeal.Gen

variable {F : FTy → Type} [FloatOps F]

theorem frame_ideal : Cert.quiescent_AdamOutKernelIdeal := fun m ρ _ => frame (F := Ideal) m ρ trivial

/-- The two programs have one body table. -/
theorem tables_eq : Cert.AdamOutKernel.defs (F := F) = Cert.AdamOutKernelIdeal.defs (F := F) :=
  congrArg (Pipeline.defs _) (congrArg Defs.onTc (one_row rfl))

theorem frame_kernel : Cert.quiescent_AdamOutKernel := fun m ρ _ => by
  have h := frame (F := Bits) m ρ trivial
  rw [← tables_eq] at h
  exact h

theorem frame_reference : Cert.quiescent_AdamOutReferenceIdeal := fun m ρ _ =>
  (θ_run Cert.AdamOutReferenceIdeal.defs _ _).mono (fun r h => ⟨fun c => (h c).2.2.2.2, sem_eq_zero_of_no_sems (by decide) r.2⟩) (Cert.AdamOutReferenceIdeal.Value.run (F := Ideal) m ρ)

theorem values : Cert.algebraic_AdamOutKernelIdeal_AdamOutReferenceIdeal := by
  intro m g m' g' _ hm
  refine ⟨_, _, _, _, (θ_run Cert.AdamOutKernelIdeal.defs _ _).mono (fun r h c =>
      ⟨(h.1.1 c).1 5, (h.1.1 c).1 6, (h.1.1 c).1 7, (h.1.1 c).1 8, h.2 c⟩)
      (θ_run_and (run_main_quiescent (F := Ideal) m g trivial) (unchanged (F := Ideal) m g trivial)),
    (θ_run Cert.AdamOutReferenceIdeal.defs _ _).mono (fun r h c => ?_) (Cert.AdamOutReferenceIdeal.Value.run (F := Ideal) m' g')⟩
  have e := h c
  have e0 := hm c
  refine ⟨(e.1.trans (reference_grad _ _ _)).trans ?_, (e.2.1.trans (changeAll_eq Cert.AdamOutReferenceIdeal.Gen.bcast_S_S256x1024 _ _ _ _)).trans ?_, (e.2.2.1.trans (firstAll_eq Cert.AdamOutReferenceIdeal.Gen.bcast_S_S256x1024 _ _)).trans ?_,
    (e.2.2.2.1.trans (secondAll_eq Cert.AdamOutReferenceIdeal.Gen.bcast_S_S256x1024 _ _)).trans ?_, e.2.2.2.2⟩
  all_goals try rw [reference_grad]
  · rw [e0.1, e0.2.1, e0.2.2.1]; exact (final_5 m c).symm
  · rw [e0.1, e0.2.1, e0.2.2.1, e0.2.2.2.1, e0.2.2.2.2.1, e0.2.2.2.2.2]; exact (final_6 m c).symm
  · rw [e0.1, e0.2.1, e0.2.2.1, e0.2.2.2.2.1]; exact (final_7 m c).symm
  · rw [e0.1, e0.2.1, e0.2.2.1, e0.2.2.2.2.2]; exact (final_8 m c).symm

end Claims

end Cert.AdamOut
-- ==== Proof.AdaClaims.lean ====
/-
# The modulation's weight: its gradient, its optimizer step and the claims

The gradient is the product of the gated conditions with the modulation's gradients, column block by column block; one
optimizer step follows in the same pass. Over the extended reals the kernel's arrays are the reference's.
-/
module

public import proofs.«01_k».proof.Proof.Plain
public import proofs.«01_k».proof.Defs
public import proofs.«01_k».proof.Proof.Adam
public import proofs.«01_k».proof.Proof.Gen.AdaKernel
public import proofs.«01_k».proof.Proof.Gen.AdaKernelIdeal.Frame
public import proofs.«01_k».proof.Proof.Gen.AdaReferenceIdeal.Run
public import Idealize.ShloMosaic.Lib.Pipeline.ValueKit
public import Idealize.ShloMosaic.Lib.LayoutAt

@[expose] public section

set_option maxRecDepth 16384

noncomputable section

namespace Cert.Ada

open Idealize.ShloMosaic Idealize.ShloMosaic.TcCoe Idealize.SL.Sem
open Cert.Adam

/-- `x` times the logistic function of `x`. -/
def gate (x : EReal) : EReal := x * Ideal.div 1 (1 + Ideal.exp (-x))

/-! ## The reference's arrays -/

section Reference

open Cert.AdaReferenceIdeal Cert.AdaReferenceIdeal.Gen

/-- The gradient of the weight: every gated condition's entry against every modulation gradient's. -/
def grad (C : S16x1024.Idx → EReal) (D : S16x1536.Idx → EReal) : S1024x1536.Idx → EReal :=
  fun i => ∑ k : Fin 16, gate (C (ix2 k (i 0))) * D (ix2 k (i 1))

theorem reference_grad (C : FVec Ideal S16x1024 .f32) (D : FVec Ideal S16x1536 .f32) :
    Host.dotGeneral dot_S1024x16_S16x1536_S1024x1536_1_0_0_1_n_n none (transpose S1024x16 [1, 0] (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))) transposes_S16x1024_S1024x16_1_0) D = grad C D := by
  funext i
  pointwise [grad, gate]

end Reference

/-! ## The kernel's step on one block -/

section Kernel

open Cert.AdaKernelIdeal Cert.AdaKernelIdeal.Gen

variable (C : Vec Ideal S16x1024 .f32) (D : Vec Ideal S16x256 .f32) (w m v : Vec Ideal S1024x256 .f32)

/-- The gradient of a block of columns. -/
def blockGrad (C : S16x1024.Idx → EReal) (D : S16x256.Idx → EReal) : S1024x256.Idx → EReal :=
  fun y => ∑ k : Fin 16, gate (C (ix2 k (y 0))) * D (ix2 k (y 1))

theorem kernel_grad : (k0_pay2 C D : FVec Ideal S1024x256 .f32) = blockGrad C D := by
  funext y
  pointwise [k0_pay2, blockGrad, gate]
  simp only [zero_sub]

theorem out5_eq : out0_5 (F := Ideal) C D w m v = blockGrad C D := by
  unfold out0_5
  rw [View.canon_unit_zero (by decide), View.ld_unit_zero (by decide), View.ld_unit_zero (by decide), kernel_grad]

theorem out7_eq : out0_7 (F := Ideal) C D w m v = firstAll (blockGrad C D) m := by
  unfold out0_7 k0_pay3
  rw [View.canon_unit_zero (by decide), View.ld_unit_zero (by decide), View.ld_unit_zero (by decide), View.ld_unit_zero (by decide), kernel_grad]
  rfl

theorem out8_eq : out0_8 (F := Ideal) C D w m v = secondAll (blockGrad C D) v := by
  unfold out0_8 k0_pay4
  rw [View.canon_unit_zero (by decide), View.ld_unit_zero (by decide), View.ld_unit_zero (by decide), View.ld_unit_zero (by decide), kernel_grad]
  rfl

theorem out6_eq : out0_6 (F := Ideal) C D w m v = changeAll (blockGrad C D) w m v := by
  unfold out0_6 k0_pay1 k0_pay5 k0_pay6 k0_pay3 k0_pay4
  rw [View.canon_unit_zero (by decide), View.ld_unit_zero (by decide), View.ld_unit_zero (by decide), View.ld_unit_zero (by decide), View.ld_unit_zero (by decide), View.ld_unit_zero (by decide), kernel_grad]
  rfl

end Kernel

section Arrays

open Cert.AdaKernelIdeal Cert.AdaKernelIdeal.Gen
open Idealize.ShloMosaic.Pipeline (Dat Cfg Window)

variable (m : (ℓ : Loc nD τ sig) → Buf (Elt Ideal) ℓ) (c : Dev nD)

theorem index_0 : ∀ (t : Fin cfg0.N) a, win0_0.index t a = 0 := by decide +kernel
theorem index_1 : ∀ t : Fin cfg0.N, win0_1.index t = ![0, t.val] := by decide +kernel
theorem index_2 : ∀ t : Fin cfg0.N, win0_2.index t = ![0, t.val] := by decide +kernel

theorem val_lt (t : Fin cfg0.N) : t.val < 6 := t.isLt

/-- Column `q` of block `t` in the whole array. -/
def column (t : Fin cfg0.N) (q : Fin 256) : Fin 1536 := ⟨t.val * 256 + q.val, by have := val_lt t; omega⟩

/-- Where block `t` of a weight's array lies. -/
abbrev place (t : Fin cfg0.N) (y : S1024x256.Idx) : S1024x1536.Idx := ix2 (y 0) (column t (y 1))

theorem placed (t : Fin cfg0.N) (y : S1024x256.Idx) (i : S1024x1536.Idx) (n : Fin 2 → Nat) (hn : n = ![0, t.val])
    (h : ∀ a, (i a : Nat) = n a * S1024x256.size a + (y a : Nat)) : i = place t y := by
  subst hn
  refine Layout.idx_ext fun a => (h a).trans ?_
  fin_cases a
  · exact at_zero _ _
  · rfl

theorem emb_1 (t : Fin cfg0.N) (y : S16x256.Idx) : (win0_1.rect t).emb y = (ix2 (y 0) (column t (y 1)) : S16x1536.Idx) := by
  refine Layout.idx_ext fun a => (Window.rect_emb_val win0_1 t y a).trans ?_
  rw [index_1]
  fin_cases a
  · exact at_zero _ _
  · rfl

/-- The conditions are staged whole. -/
theorem block_0 (t : Fin cfg0.N) : iblk m c 0 t = m (c.tc.loc main_arg0) :=
  funext fun y => congrArg (m (c.tc.loc main_arg0)) (Layout.idx_ext fun a => (Window.rect_emb_val win0_0 t y a).trans (by rw [index_0, Nat.zero_mul, Nat.zero_add]))
theorem block_1 (t : Fin cfg0.N) (y : S16x256.Idx) : iblk m c 1 t y = m (c.tc.loc main_arg1) (ix2 (y 0) (column t (y 1)) : S16x1536.Idx) :=
  congrArg (m (c.tc.loc main_arg1)) (emb_1 t y)
theorem block_2 (t : Fin cfg0.N) (y : S1024x256.Idx) : iblk m c 2 t y = m (c.tc.loc main_arg2) (place t y) :=
  congrArg (m (c.tc.loc main_arg2)) (placed t y _ _ (index_2 t) (Window.rect_emb_val win0_2 t y))
theorem block_3 (t : Fin cfg0.N) (y : S1024x256.Idx) : iblk m c 3 t y = m (c.tc.loc main_arg3) (place t y) :=
  congrArg (m (c.tc.loc main_arg3)) (placed t y _ _ (index_2 t) (Window.rect_emb_val win0_3 t y))
theorem block_4 (t : Fin cfg0.N) (y : S1024x256.Idx) : iblk m c 4 t y = m (c.tc.loc main_arg4) (place t y) :=
  congrArg (m (c.tc.loc main_arg4)) (placed t y _ _ (index_2 t) (Window.rect_emb_val win0_4 t y))

abbrev kernelGrad : S1024x1536.Idx → EReal := grad (m (c.tc.loc main_arg0)) (m (c.tc.loc main_arg1))

/-- Block `t` of the gradient. -/
theorem grad_block (t : Fin cfg0.N) (y : S1024x256.Idx) : blockGrad (iblk m c 0 t) (iblk m c 1 t) y = kernelGrad m c (place t y) := by
  rw [block_0]
  exact Finset.sum_congr rfl fun k _ => congrArg (gate (m (c.tc.loc main_arg0) (ix2 k (y 0) : S16x1024.Idx)) * ·) (block_1 m c t (ix2 k (y 1)))

theorem final_5 : (dats m 0 c).arrAt 5 cfg0.N = kernelGrad m c :=
  (dats m 0 c).arrAt_eq_of_covers 5 _ (by decide +kernel) fun t _ y =>
    (congrFun ((after0_5 m c t).trans (out5_eq _ _ _ _ _)) y).trans ((grad_block m c t y).trans
      (congrArg (kernelGrad m c) (placed t y _ _ (index_2 t) (Window.rect_emb_val win0_5 t y)).symm))
theorem final_6 : (dats m 0 c).arrAt 6 cfg0.N = changeAll (kernelGrad m c) (m (c.tc.loc main_arg2)) (m (c.tc.loc main_arg3)) (m (c.tc.loc main_arg4)) :=
  (dats m 0 c).arrAt_eq_of_covers 6 _ (by decide +kernel) fun t _ y =>
    (congrFun ((after0_6 m c t).trans (out6_eq _ _ _ _ _)) y).trans ((by
        unfold changeAll; rw [grad_block, block_2, block_3, block_4] : _ = changeAll (kernelGrad m c) (m (c.tc.loc main_arg2)) (m (c.tc.loc main_arg3)) (m (c.tc.loc main_arg4)) (place t y)).trans
      (congrArg (changeAll (kernelGrad m c) (m (c.tc.loc main_arg2)) (m (c.tc.loc main_arg3)) (m (c.tc.loc main_arg4))) (placed t y _ _ (index_2 t) (Window.rect_emb_val win0_6 t y)).symm))
theorem final_7 : (dats m 0 c).arrAt 7 cfg0.N = firstAll (kernelGrad m c) (m (c.tc.loc main_arg3)) :=
  (dats m 0 c).arrAt_eq_of_covers 7 _ (by decide +kernel) fun t _ y =>
    (congrFun ((after0_7 m c t).trans (out7_eq _ _ _ _ _)) y).trans ((by
        unfold firstAll; rw [grad_block, block_3] : _ = firstAll (kernelGrad m c) (m (c.tc.loc main_arg3)) (place t y)).trans
      (congrArg (firstAll (kernelGrad m c) (m (c.tc.loc main_arg3))) (placed t y _ _ (index_2 t) (Window.rect_emb_val win0_7 t y)).symm))
theorem final_8 : (dats m 0 c).arrAt 8 cfg0.N = secondAll (kernelGrad m c) (m (c.tc.loc main_arg4)) :=
  (dats m 0 c).arrAt_eq_of_covers 8 _ (by decide +kernel) fun t _ y =>
    (congrFun ((after0_8 m c t).trans (out8_eq _ _ _ _ _)) y).trans ((by
        unfold secondAll; rw [grad_block, block_4] : _ = secondAll (kernelGrad m c) (m (c.tc.loc main_arg4)) (place t y)).trans
      (congrArg (secondAll (kernelGrad m c) (m (c.tc.loc main_arg4))) (placed t y _ _ (index_2 t) (Window.rect_emb_val win0_8 t y)).symm))

end Arrays

/-! ## The claims -/

section Claims

open Cert.AdaKernelIdeal Cert.AdaKernelIdeal.Gen

variable {F : FTy → Type} [FloatOps F]

theorem frame_ideal : Cert.quiescent_AdaKernelIdeal := fun m ρ _ => frame (F := Ideal) m ρ

/-- The two programs have one body table. -/
theorem tables_eq : Cert.AdaKernel.defs (F := F) = Cert.AdaKernelIdeal.defs (F := F) :=
  congrArg (Pipeline.defs _) (congrArg Defs.onTc (one_row rfl))

theorem frame_kernel : Cert.quiescent_AdaKernel := fun m ρ _ => by
  have h := frame (F := Bits) m ρ
  rw [← tables_eq] at h
  exact h

theorem frame_reference : Cert.quiescent_AdaReferenceIdeal := fun m ρ _ =>
  (θ_run Cert.AdaReferenceIdeal.defs _ _).mono (fun r h => ⟨fun c => (h c).2.2.2.2, sem_eq_zero_of_no_sems (by decide) r.2⟩) (Cert.AdaReferenceIdeal.Value.run (F := Ideal) m ρ)

theorem values : Cert.algebraic_AdaKernelIdeal_AdaReferenceIdeal := by
  intro m g m' g' _ hm
  refine ⟨_, _, _, _, (θ_run Cert.AdaKernelIdeal.defs _ _).mono (fun r h c =>
      ⟨(h.1.1 c).1 5, (h.1.1 c).1 6, (h.1.1 c).1 7, (h.1.1 c).1 8, h.2 c⟩)
      (θ_run_and (run_main_quiescent (F := Ideal) m g) (unchanged (F := Ideal) m g)),
    (θ_run Cert.AdaReferenceIdeal.defs _ _).mono (fun r h c => ?_) (Cert.AdaReferenceIdeal.Value.run (F := Ideal) m' g')⟩
  have e := h c
  have e0 := hm c
  refine ⟨(e.1.trans (reference_grad _ _)).trans ?_, (e.2.1.trans (changeAll_eq Cert.AdaReferenceIdeal.Gen.bcast_S_S1024x1536 _ _ _ _)).trans ?_, (e.2.2.1.trans (firstAll_eq Cert.AdaReferenceIdeal.Gen.bcast_S_S1024x1536 _ _)).trans ?_,
    (e.2.2.2.1.trans (secondAll_eq Cert.AdaReferenceIdeal.Gen.bcast_S_S1024x1536 _ _)).trans ?_, e.2.2.2.2⟩
  all_goals try rw [reference_grad]
  · rw [e0.1, e0.2.1]; exact (final_5 m c).symm
  · rw [e0.1, e0.2.1, e0.2.2.1, e0.2.2.2.1, e0.2.2.2.2]; exact (final_6 m c).symm
  · rw [e0.1, e0.2.1, e0.2.2.2.1]; exact (final_7 m c).symm
  · rw [e0.1, e0.2.1, e0.2.2.2.2]; exact (final_8 m c).symm

end Claims

end Cert.Ada
-- ==== Proof.UpdateClaims.lean ====
/-
# The step of the small weights: its values and the claims

The packed gradients of the devices are added, the doubled rows folded and the lower-bound table's gradient spread over
its two halves; then one optimizer step. Over the extended reals the kernel's arrays are the reference's.
-/
module

public import proofs.«01_k».proof.Defs
public import proofs.«01_k».proof.Proof.Adam
public import proofs.«01_k».proof.Proof.Gen.UpdateKernel
public import proofs.«01_k».proof.Proof.Gen.UpdateKernelIdeal.Frame
public import proofs.«01_k».proof.Proof.Gen.UpdateReferenceIdeal.Run
public import Idealize.ShloMosaic.Lib.Pipeline.ValueKit
public import Idealize.ShloMosaic.Lib.LayoutAt

@[expose] public section

set_option maxRecDepth 16384

noncomputable section

namespace Cert.Update

open Idealize.ShloMosaic Idealize.ShloMosaic.TcCoe Idealize.SL.Sem
open Cert.Adam

/-! ## The reference's arrays -/

section Reference

open Cert.UpdateReferenceIdeal Cert.UpdateReferenceIdeal.Gen

/-- The sum of the devices' packed gradients. -/
def total (P : FVec Ideal S8x168x128 .f32) : FVec Ideal S168x128 .f32 :=
  Host.reduceAdd P (constant S_ .f32 0x00000000#32) reducesTo_S8x168x128_S168x128_d0 h_S_

/-- The second of the two lower bounds' shares. -/
def share (w : FVec Ideal S120x128 .f32) : FVec Ideal S8x128 .f32 :=
  Host.divf (broadcastInDim S8x128 ![] bcast_S_S8x128 (constant S_ .f32 0x3F800000#32)) (addf (broadcastInDim S8x128 ![] bcast_S_S8x128 (constant S_ .f32 0x3F800000#32)) (Host.exp (Host.negf (subf (extractStridedSlice S8x128 ![112, 0] w slices_S120x128_S8x128_112_0) (extractStridedSlice S8x128 ![104, 0] w slices_S120x128_S8x128_104_0)))))

/-- The gradient of the lower bounds. -/
def bound (T : FVec Ideal S168x128 .f32) (p : FVec Ideal S8x128 .f32) : FVec Ideal S8x128 .f32 :=
  mulf (mulf (extractStridedSlice S8x128 ![152, 0] T slices_S168x128_S8x128_152_0) p) (subf (broadcastInDim S8x128 ![] bcast_S_S8x128 (constant S_ .f32 0x3F800000#32)) p)

/-- The packed gradient of the small weights. -/
def grad (T : FVec Ideal S168x128 .f32) (d : FVec Ideal S8x128 .f32) : FVec Ideal S120x128 .f32 :=
  concatenate S120x128 0 [⟨S48x128, addf (extractStridedSlice S48x128 ![0, 0] T slices_S168x128_S48x128_0_0) (extractStridedSlice S48x128 ![48, 0] T slices_S168x128_S48x128_48_0)⟩,
    ⟨S56x128, extractStridedSlice S56x128 ![96, 0] T slices_S168x128_S56x128_96_0⟩, ⟨S8x128, Host.negf d⟩, ⟨S8x128, d⟩] concatenates_S48x128_S56x128_S8x128_S8x128_S120x128_d0

/-- The packed gradient, from the devices' packs and the packed weights. -/
abbrev gradOf (P : FVec Ideal S8x168x128 .f32) (w : FVec Ideal S120x128 .f32) : FVec Ideal S120x128 .f32 :=
  grad (total P) (bound (total P) (share w))

/-- The packed losses. -/
def losses (T : FVec Ideal S168x128 .f32) : FVec Ideal S8x128 .f32 :=
  extractStridedSlice S8x128 ![160, 0] T slices_S168x128_S8x128_160_0

end Reference

/-! ## The kernel's arrays -/

section Kernel

open Cert.UpdateKernelIdeal Cert.UpdateKernelIdeal.Gen

variable (P : FVec Ideal S8x168x128 .f32) (w m v : FVec Ideal S120x128 .f32)

theorem total_eq : k0_pay8 P w m v = total P := by
  funext i
  pointwise [k0_pay8, k0_pay2, total]
  exact (Fin.sum_univ_eight fun d : Fin 8 => P (ix3 d (i 0) (i 1))).symm

theorem share_eq : (divf (broadcast S8x128 (Scalar.ofBits .f32 0x3F800000#32)) (k0_pay9 P w m v) : FVec Ideal S8x128 .f32) = share w := by
  funext i
  pointwise [k0_pay9, k0_pay3, share]
  rw [zero_sub]

theorem negated (d : FVec Ideal S8x128 .f32) : subf (broadcast S8x128 (Scalar.ofBits .f32 0x00000000#32)) d = Host.negf d := by
  funext i
  pointwise []
  exact zero_sub _

/-- The kernel's packed gradient is the reference's. -/
theorem grad_eq : k0_pay4 (k0_pay8 P w m v) (k0_pay9 P w m v) = gradOf P w := by
  have h : divf (broadcast S8x128 (FloatOps.ofBits .f32 0x3F800000#32)) (k0_pay9 P w m v) = share w := share_eq P w m v
  unfold k0_pay4
  dsimp only
  rw [total_eq, h]
  erw [negated]
  rfl

theorem out4_eq : out0_4 (F := Ideal) P w m v = gradOf P w := by
  unfold out0_4
  rw [View.canon_unit_zero (by decide), grad_eq]

theorem out6_eq : out0_6 (F := Ideal) P w m v = firstAll (gradOf P w) m := by
  unfold out0_6 k0_pay5
  rw [View.canon_unit_zero (by decide), View.ld_unit_zero (by decide), grad_eq]
  rfl

theorem out7_eq : out0_7 (F := Ideal) P w m v = secondAll (gradOf P w) v := by
  unfold out0_7 k0_pay6
  rw [View.canon_unit_zero (by decide), View.ld_unit_zero (by decide), grad_eq]
  rfl

theorem out5_eq : out0_5 (F := Ideal) P w m v = changeAll (gradOf P w) w m v := by
  unfold out0_5 k0_pay7 k0_pay5 k0_pay6
  rw [View.canon_unit_zero (by decide), View.ld_unit_zero (by decide), View.ld_unit_zero (by decide), View.ld_unit_zero (by decide), grad_eq]
  rfl

theorem out8_eq : out0_8 (F := Ideal) P w m v = losses (total P) := by
  unfold out0_8 k0_pay1
  rw [View.canon_unit_zero (by decide), total_eq]
  rfl

end Kernel

section Arrays

open Cert.UpdateKernelIdeal Cert.UpdateKernelIdeal.Gen
open Idealize.ShloMosaic.Pipeline (Dat Cfg Window)

variable (m : (ℓ : Loc nD τ sig) → Buf (Elt Ideal) ℓ) (c : Dev nD)

theorem index_0 : ∀ (t : Fin cfg0.N) a, win0_0.index t a = 0 := by decide +kernel
theorem index_1 : ∀ (t : Fin cfg0.N) a, win0_1.index t a = 0 := by decide +kernel
theorem index_2 : ∀ (t : Fin cfg0.N) a, win0_2.index t a = 0 := by decide +kernel
theorem index_3 : ∀ (t : Fin cfg0.N) a, win0_3.index t a = 0 := by decide +kernel

/-- Every argument is staged whole. -/
theorem block_0 (t : Fin cfg0.N) : iblk m c 0 t = m (c.tc.loc main_arg0) :=
  funext fun y => congrArg (m (c.tc.loc main_arg0)) (Layout.idx_ext fun a => (Window.rect_emb_val win0_0 t y a).trans (by rw [index_0, Nat.zero_mul, Nat.zero_add]))
theorem block_1 (t : Fin cfg0.N) : iblk m c 1 t = m (c.tc.loc main_arg1) :=
  funext fun y => congrArg (m (c.tc.loc main_arg1)) (Layout.idx_ext fun a => (Window.rect_emb_val win0_1 t y a).trans (by rw [index_1, Nat.zero_mul, Nat.zero_add]))
theorem block_2 (t : Fin cfg0.N) : iblk m c 2 t = m (c.tc.loc main_arg2) :=
  funext fun y => congrArg (m (c.tc.loc main_arg2)) (Layout.idx_ext fun a => (Window.rect_emb_val win0_2 t y a).trans (by rw [index_2, Nat.zero_mul, Nat.zero_add]))
theorem block_3 (t : Fin cfg0.N) : iblk m c 3 t = m (c.tc.loc main_arg3) :=
  funext fun y => congrArg (m (c.tc.loc main_arg3)) (Layout.idx_ext fun a => (Window.rect_emb_val win0_3 t y a).trans (by rw [index_3, Nat.zero_mul, Nat.zero_add]))

abbrev point : Fin cfg0.N := ⟨0, by decide⟩

abbrev kernelGrad : FVec Ideal S120x128 .f32 := gradOf (m (c.tc.loc main_arg0)) (m (c.tc.loc main_arg1))

theorem final_4 : (dats m 0 c).arrAt 4 cfg0.N = kernelGrad m c :=
  (dats m 0 c).arrAt_eq_of_after_last 4 point (by decide +kernel) _ fun j => congrFun (a := j) ((after0_4 m c point).trans
    ((out4_eq _ _ _ _).trans (by rw [block_0, block_1])))
theorem final_5 : (dats m 0 c).arrAt 5 cfg0.N = changeAll (kernelGrad m c) (m (c.tc.loc main_arg1)) (m (c.tc.loc main_arg2)) (m (c.tc.loc main_arg3)) :=
  (dats m 0 c).arrAt_eq_of_after_last 5 point (by decide +kernel) _ fun j => congrFun (a := j) ((after0_5 m c point).trans
    ((out5_eq _ _ _ _).trans (by rw [block_0, block_1, block_2, block_3])))
theorem final_6 : (dats m 0 c).arrAt 6 cfg0.N = firstAll (kernelGrad m c) (m (c.tc.loc main_arg2)) :=
  (dats m 0 c).arrAt_eq_of_after_last 6 point (by decide +kernel) _ fun j => congrFun (a := j) ((after0_6 m c point).trans
    ((out6_eq _ _ _ _).trans (by rw [block_0, block_1, block_2])))
theorem final_7 : (dats m 0 c).arrAt 7 cfg0.N = secondAll (kernelGrad m c) (m (c.tc.loc main_arg3)) :=
  (dats m 0 c).arrAt_eq_of_after_last 7 point (by decide +kernel) _ fun j => congrFun (a := j) ((after0_7 m c point).trans
    ((out7_eq _ _ _ _).trans (by rw [block_0, block_1, block_3])))
theorem final_8 : (dats m 0 c).arrAt 8 cfg0.N = losses (total (m (c.tc.loc main_arg0))) :=
  (dats m 0 c).arrAt_eq_of_after_last 8 point (by decide +kernel) _ fun j => congrFun (a := j) ((after0_8 m c point).trans
    ((out8_eq _ _ _ _).trans (by rw [block_0])))

end Arrays

/-! ## The claims -/

section Claims

open Cert.UpdateKernelIdeal Cert.UpdateKernelIdeal.Gen

variable {F : FTy → Type} [FloatOps F]

theorem frame_ideal : Cert.quiescent_UpdateKernelIdeal := fun m ρ _ => frame (F := Ideal) m ρ

/-- The two programs have one body table. -/
theorem tables_eq : Cert.UpdateKernel.defs (F := F) = Cert.UpdateKernelIdeal.defs (F := F) :=
  congrArg (Pipeline.defs _) (congrArg Defs.onTc (one_row rfl))

theorem frame_kernel : Cert.quiescent_UpdateKernel := fun m ρ _ => by
  have h := frame (F := Bits) m ρ
  rw [← tables_eq] at h
  exact h

theorem frame_reference : Cert.quiescent_UpdateReferenceIdeal := fun m ρ _ =>
  (θ_run Cert.UpdateReferenceIdeal.defs _ _).mono (fun r h => ⟨fun c => (h c).2.2.2.2.2, sem_eq_zero_of_no_sems (by decide) r.2⟩) (Cert.UpdateReferenceIdeal.Value.run (F := Ideal) m ρ)

theorem values : Cert.algebraic_UpdateKernelIdeal_UpdateReferenceIdeal := by
  intro m g m' g' _ hm
  refine ⟨_, _, _, _, _, (θ_run Cert.UpdateKernelIdeal.defs _ _).mono (fun r h c =>
      ⟨(h.1.1 c).1 4, (h.1.1 c).1 5, (h.1.1 c).1 6, (h.1.1 c).1 7, (h.1.1 c).1 8, h.2 c⟩)
      (θ_run_and (run_main_quiescent (F := Ideal) m g) (unchanged (F := Ideal) m g)),
    (θ_run Cert.UpdateReferenceIdeal.defs _ _).mono (fun r h c => ?_) (Cert.UpdateReferenceIdeal.Value.run (F := Ideal) m' g')⟩
  have e := h c
  have e0 := hm c
  refine ⟨e.1.trans ?_, (e.2.1.trans (changeAll_eq Cert.UpdateReferenceIdeal.Gen.bcast_S_S120x128 _ _ _ _)).trans ?_, (e.2.2.1.trans (firstAll_eq Cert.UpdateReferenceIdeal.Gen.bcast_S_S120x128 _ _)).trans ?_,
    (e.2.2.2.1.trans (secondAll_eq Cert.UpdateReferenceIdeal.Gen.bcast_S_S120x128 _ _)).trans ?_, e.2.2.2.2.1.trans ?_, e.2.2.2.2.2⟩
  · rw [e0.1, e0.2.1]; exact (final_4 m c).symm
  · rw [e0.1, e0.2.1, e0.2.2.1, e0.2.2.2]; exact (final_5 m c).symm
  · rw [e0.1, e0.2.1, e0.2.2.1]; exact (final_6 m c).symm
  · rw [e0.1, e0.2.1, e0.2.2.2]; exact (final_7 m c).symm
  · rw [e0.1]; exact (final_8 m c).symm

end Claims

end Cert.Update
-- ==== Proof.NormClaims.lean ====
/-
# The first norm's backward pass: the gradient of the input, and the claims

Row by row the gradient goes back through the root-mean-square norm and joins the one that went past it; the shift's
gradient is the sum over the rows of a sequence, which the kernel takes block by block.
-/
module

public import proofs.«01_k».proof.Defs
public import proofs.«01_k».proof.Proof.UpRows
public import proofs.«01_k».proof.Proof.Gen.NormKernel
public import proofs.«01_k».proof.Proof.Gen.NormKernelIdeal.Frame
public import proofs.«01_k».proof.Proof.Gen.NormReferenceIdeal.Run
public import Idealize.ShloMosaic.Lib.Pipeline.ValueKit
public import Idealize.ShloMosaic.Lib.Pipeline.Covers
public import Idealize.ShloMosaic.Lib.Pointwise
public import Idealize.ShloMosaic.Lib.LayoutAt

@[expose] public section

set_option maxRecDepth 16384

noncomputable section

namespace Cert.Norm

open Idealize.ShloMosaic Idealize.ShloMosaic.TcCoe Idealize.SL.Sem
open Cert.UpRows (back rstd)

/-! ## The reference's arrays -/

section Reference

open Cert.NormReferenceIdeal Cert.NormReferenceIdeal.Gen

variable (H P X : FVec Ideal S2x2048x1024 .f32) (w : FVec Ideal S1x1024 .f32) (s : FVec Ideal S2x1x1024 .f32)

/-- The gradient of the input: `H` back through the norm of `X` with gain `1 + s` times the weight `w`, and `P`. -/
def gradient (H P X : S2x2048x1024.Idx → EReal) (w : S1x1024.Idx → EReal) (s : S2x1x1024.Idx → EReal) : S2x2048x1024.Idx → EReal := fun i =>
  P i + back (fun k => H (ix3 (i 0) (i 1) k)) (fun k => (Ideal.ofBits .f32 0x3F800000#32 + s (ix3 (i 0) 0 k)) * w (ix2 0 k)) (fun k => X (ix3 (i 0) (i 1) k)) (i 2)

/-- The shift's gradient: each column of each sequence, summed. -/
def shift (H : S2x2048x1024.Idx → EReal) : S2x1x1024.Idx → EReal := fun i => ∑ r : Fin 2048, H (ix3 (i 0) r (i 2))

/-- The reciprocal root mean square of each row. -/
def scale : FVec Ideal S2x2048x1 .f32 :=
  Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))

/-- A value per row, at every place of the row. -/
def spread (v : FVec Ideal S2x2048x1 .f32) : FVec Ideal S2x2048x1024 .f32 :=
  broadcastInDim S2x2048x1024 ![0, 1, 2] bcast_S2x2048x1_S2x2048x1024_0_1_2 v

/-- The gradient times the gain. -/
def gained : FVec Ideal S2x2048x1024 .f32 :=
  mulf H (broadcastInDim S2x2048x1024 ![0, 1, 2] bcast_S2x1x1024_S2x2048x1024_0_1_2 (mulf (addf (broadcastInDim S2x1x1024 ![] bcast_S_S2x1x1024 (constant S_ .f32 0x3F800000#32)) s) (broadcastInDim S2x1x1024 ![0, 1, 2] bcast_S1x1x1024_S2x1x1024_0_1_2 (broadcastInDim S1x1x1024 ![1, 2] bcast_S1x1024_S1x1x1024_1_2 w))))

theorem reference_gradient :
    addf P (mulf (spread (scale X)) (subf (gained H w s) (mulf (mulf X (spread (scale X))) (spread (Host.divf (broadcastInDim S2x2048x1 ![0, 1] bcast_S2x2048_S2x2048x1_0_1 (Host.reduceAdd (mulf (gained H w s) (mulf X (spread (scale X)))) (constant S_ .f32 0x00000000#32) reducesTo_S2x2048x1024_S2x2048_d2 h_S_)) (broadcastInDim S2x2048x1 ![] bcast_S_S2x2048x1 (constant S_ .f32 0x44800000#32))))))) = gradient H P X w s := by
  funext i
  unfold gradient back rstd
  pointwise [spread, scale, gained]

theorem reference_shift :
    broadcastInDim S2x1x1024 ![0, 2] bcast_S2x1024_S2x1x1024_0_2 (Host.reduceAdd H (constant S_ .f32 0x00000000#32) reducesTo_S2x2048x1024_S2x1024_d1 h_S_) = shift H := by
  funext i
  pointwise [shift]

end Reference

/-! ## The kernel's step on one block -/

/-- A sum over 2048 rows, 512 at a time. -/
theorem sum_quarters (f : Fin 2048 → EReal) :
    ∑ k, f k = ∑ q : Fin 4, ∑ k : Fin 512, f ⟨q.val * 512 + k.val, by omega⟩ := by
  have a := Fin.sum_univ_add (a := 1536) (b := 512) f
  have b := Fin.sum_univ_add (a := 1024) (b := 512) (fun k => f (Fin.castAdd 512 k))
  have c := Fin.sum_univ_add (a := 512) (b := 512) (fun k => f (Fin.castAdd 512 (Fin.castAdd 512 k)))
  rw [Fin.sum_univ_four]
  refine a.trans (congrArg₂ (· + ·) (b.trans (congrArg₂ (· + ·) (c.trans (congrArg₂ (· + ·) ?_ rfl)) rfl)) rfl)
  exact Finset.sum_congr rfl fun k _ => congrArg f (Fin.ext (by simp))

section Kernel

open Cert.NormKernelIdeal Cert.NormKernelIdeal.Gen

variable (H P X : Vec Ideal S1x512x1024 .f32) (w : Vec Ideal S1x1024 .f32) (s : Vec Ideal S1x1x1024 .f32)

/-- The gradient of a block of rows. -/
def blockGradient : S1x512x1024.Idx → EReal := fun y =>
  P y + back (fun k => H (ix3 0 (y 1) k)) (fun k => (Ideal.ofBits .f32 0x3F800000#32 + s (ix3 0 0 k)) * w (ix2 0 k)) (fun k => X (ix3 0 (y 1) k)) (y 2)

theorem kernel_gradient_at (r : Fin 512) (j : Fin 1024) :
    (k0_pay8 (k0_pay14 w H s X) P : FVec Ideal S1x512x1024 .f32) (ix3 0 r j) = blockGradient H P X w s (ix3 0 r j) := by
  unfold blockGradient back rstd
  pointwise [k0_pay8, k0_pay14, k0_pay13, k0_pay12, k0_pay11, k0_pay10, k0_pay9]

/-- A place in a block, by its row and column. -/
theorem at_row {n k : Nat} (y : Shape.Idx ⟨3, ![1, n, k]⟩) : y = ix3 0 (y 1) (y 2) := Layout.idx_ext fun a => by
  have h : (y 0).val < 1 := (y 0).isLt
  fin_cases a
  · show (y 0).val = 0
    omega
  · rfl
  · rfl

theorem kernel_gradient : (k0_pay8 (k0_pay14 w H s X) P : FVec Ideal S1x512x1024 .f32) = blockGradient H P X w s := by
  funext y
  have e := at_row y
  exact (congrArg (k0_pay8 (k0_pay14 w H s X) P) e).trans ((kernel_gradient_at H P X w s (y 1) (y 2)).trans (congrArg (blockGradient H P X w s) e.symm))

/-- What a block adds to the shift's gradient. -/
theorem kernel_first (j : Fin 1024) : (k0_pay1 (k0_pay16 H) : FVec Ideal S1x1x1024 .f32) (ix3 0 0 j) = ∑ r : Fin 512, H (ix3 0 r j) := by
  pointwise [k0_pay1, k0_pay16, k0_pay9]
theorem kernel_next (Y : Vec Ideal S1x1x1024 .f32) (j : Fin 1024) :
    (k0_pay2 (k0_pay16 H) Y : FVec Ideal S1x1x1024 .f32) (ix3 0 0 j) = Y (ix3 0 0 j) + ∑ r : Fin 512, H (ix3 0 r j) := by
  pointwise [k0_pay2, k0_pay16, k0_pay9]

end Kernel

section Arrays

open Cert.NormKernelIdeal Cert.NormKernelIdeal.Gen
open Idealize.ShloMosaic.Pipeline (Dat Cfg Window)

variable (m : (ℓ : Loc nD τ sig) → Buf (Elt Ideal) ℓ) (c : Dev nD)

theorem val_lt (t : Fin cfg0.N) : t.val < 8 := t.isLt

/-- The block of incoming gradients. -/
abbrev incoming (t : Fin cfg0.N) : S1x512x1024.Idx → EReal := iblk m c 0 t

/-- What every point leaves in the input's gradient. -/
theorem after_5 (t : Fin cfg0.N) : (dats m 0 c).after 5 t = blockGradient (iblk m c 0 t) (iblk m c 1 t) (iblk m c 2 t) (iblk m c 3 t) (iblk m c 4 t) := by
  have ht := val_lt t
  rw [after0_5]
  refine Eq.trans ?_ (kernel_gradient _ _ _ _ _)
  by_cases h : t.val % 4 = 0
  · by_cases h' : t.val % 8 = 0
    · rw [outsAt0_A m c t h (by omega) h (by omega) h' (by omega)]
      frame_out
    · rw [outsAt0_C m c t h (by omega) h (by omega) h' (by omega)]
      frame_out
  · rw [outsAt0_B m c t h (by omega) h (by omega) (by omega) (by omega)]
    frame_out

/-- The shift's gradient as point `t` leaves it. -/
abbrev held (t : Fin cfg0.N) : S1x1x1024.Idx → EReal := (outsAt0 m c t.val t.isLt).2.2.1

theorem held_first (t : Fin cfg0.N) (h : t.val % 4 = 0) (j : Fin 1024) : held m c t (ix3 0 0 j) = ∑ r : Fin 512, incoming m c t (ix3 0 r j) := by
  have ht := val_lt t
  refine Eq.trans (congrFun ?_ _) (kernel_first _ j)
  by_cases h' : t.val % 8 = 0
  · unfold held
    rw [outsAt0_A m c t h (by omega) h (by omega) h' (by omega)]
    frame_out
  · unfold held
    rw [outsAt0_C m c t h (by omega) h (by omega) h' (by omega)]
    frame_out

theorem held_next (t : Fin cfg0.N) (h : ¬t.val % 4 = 0) (j : Fin 1024) :
    held m c t (ix3 0 0 j) = held m c ⟨t.val - 1, Nat.lt_of_le_of_lt (Nat.sub_le _ _) t.isLt⟩ (ix3 0 0 j) + ∑ r : Fin 512, incoming m c t (ix3 0 r j) := by
  have ht := val_lt t
  refine Eq.trans (congrFun ?_ _) (kernel_next _ _ j)
  unfold held
  rw [outsAt0_B m c t h (by omega) h (by omega) (by omega) (by omega)]
  frame_out

/-! ## Where the blocks lie -/

theorem index_0 : ∀ t : Fin cfg0.N, win0_0.index t = ![t.val / 4, t.val % 4, 0] := by decide +kernel
theorem index_3 : ∀ (t : Fin cfg0.N) a, win0_3.index t a = 0 := by decide +kernel
theorem index_4 : ∀ t : Fin cfg0.N, win0_4.index t = ![t.val / 4, 0, 0] := by decide +kernel

/-- The sequence that block `t` is of. -/
def sequence (t : Fin cfg0.N) : Fin 2 := ⟨t.val / 4, by have := val_lt t; omega⟩
/-- Row `r` of block `t` in its sequence. -/
def row (t : Fin cfg0.N) (r : Fin 512) : Fin 2048 := ⟨t.val % 4 * 512 + r.val, by omega⟩

/-- Where block `t` of the rows lies. -/
abbrev place (t : Fin cfg0.N) (y : S1x512x1024.Idx) : S2x2048x1024.Idx := ix3 (sequence t) (row t (y 1)) (y 2)

theorem placed (t : Fin cfg0.N) (y : S1x512x1024.Idx) (i : S2x2048x1024.Idx) (n : Fin 3 → Nat) (hn : n = ![t.val / 4, t.val % 4, 0])
    (h : ∀ a, (i a : Nat) = n a * S1x512x1024.size a + (y a : Nat)) : i = place t y := by
  subst hn
  refine Layout.idx_ext fun a => (h a).trans ?_
  fin_cases a
  · have h : (y 0).val < 1 := (y 0).isLt
    show t.val / 4 * 1 + (y 0).val = t.val / 4
    omega
  · rfl
  · exact at_zero _ _

theorem placed_row (t : Fin cfg0.N) (y : S1x1x1024.Idx) (i : S2x1x1024.Idx) (n : Fin 3 → Nat) (hn : n = ![t.val / 4, 0, 0])
    (h : ∀ a, (i a : Nat) = n a * S1x1x1024.size a + (y a : Nat)) : i = (ix3 (sequence t) 0 (y 2) : S2x1x1024.Idx) := by
  subst hn
  refine Layout.idx_ext fun a => (h a).trans ?_
  fin_cases a
  · have h : (y 0).val < 1 := (y 0).isLt
    show t.val / 4 * 1 + (y 0).val = t.val / 4
    omega
  · have h : (y 1).val < 1 := (y 1).isLt
    show 0 * 1 + (y 1).val = 0
    omega
  · exact at_zero _ _

theorem block_0 (t : Fin cfg0.N) (y : S1x512x1024.Idx) : iblk m c 0 t y = m (c.tc.loc main_arg0) (place t y) :=
  congrArg (m (c.tc.loc main_arg0)) (placed t y _ _ (index_0 t) (Window.rect_emb_val win0_0 t y))
theorem block_1 (t : Fin cfg0.N) (y : S1x512x1024.Idx) : iblk m c 1 t y = m (c.tc.loc main_arg1) (place t y) :=
  congrArg (m (c.tc.loc main_arg1)) (placed t y _ _ (index_0 t) (Window.rect_emb_val win0_1 t y))
theorem block_2 (t : Fin cfg0.N) (y : S1x512x1024.Idx) : iblk m c 2 t y = m (c.tc.loc main_arg2) (place t y) :=
  congrArg (m (c.tc.loc main_arg2)) (placed t y _ _ (index_0 t) (Window.rect_emb_val win0_2 t y))
theorem block_3 (t : Fin cfg0.N) (y : S1x1024.Idx) : iblk m c 3 t y = m (c.tc.loc main_arg3) y :=
  congrArg (m (c.tc.loc main_arg3)) (Layout.idx_ext fun a => (Window.rect_emb_val win0_3 t y a).trans (by rw [index_3, Nat.zero_mul, Nat.zero_add]))
theorem block_4 (t : Fin cfg0.N) (y : S1x1x1024.Idx) : iblk m c 4 t y = m (c.tc.loc main_arg4) (ix3 (sequence t) 0 (y 2) : S2x1x1024.Idx) :=
  congrArg (m (c.tc.loc main_arg4)) (placed_row t y _ _ (index_4 t) (Window.rect_emb_val win0_4 t y))

/-! ## The result arrays -/

abbrev kernelGradient : S2x2048x1024.Idx → EReal :=
  gradient (m (c.tc.loc main_arg0)) (m (c.tc.loc main_arg1)) (m (c.tc.loc main_arg2)) (m (c.tc.loc main_arg3)) (m (c.tc.loc main_arg4))

theorem gradient_block (t : Fin cfg0.N) (y : S1x512x1024.Idx) :
    blockGradient (iblk m c 0 t) (iblk m c 1 t) (iblk m c 2 t) (iblk m c 3 t) (iblk m c 4 t) y = kernelGradient m c (place t y) := by
  refine congrArg₂ (· + ·) (block_1 m c t y) ?_
  have e0 := funext fun k : Fin 1024 => block_0 m c t (ix3 0 (y 1) k)
  have e2 := funext fun k : Fin 1024 => block_2 m c t (ix3 0 (y 1) k)
  have eg := funext fun k : Fin 1024 => congrArg₂ (fun a b : EReal => (Ideal.ofBits .f32 0x3F800000#32 + a) * b) (block_4 m c t (ix3 0 0 k)) (block_3 m c t (ix2 0 k))
  exact (congrArg (fun d => back d _ _ (y 2)) e0).trans ((congrArg (fun g => back _ g _ (y 2)) eg).trans (congrArg (fun x => back _ _ x (y 2)) e2))

theorem final_5 : (dats m 0 c).arrAt 5 cfg0.N = kernelGradient m c :=
  (dats m 0 c).arrAt_eq_of_covers 5 _ (by decide +kernel) fun t _ y =>
    (congrFun (after_5 m c t) y).trans ((gradient_block m c t y).trans
      (congrArg (kernelGradient m c) (placed t y _ _ (index_0 t) (Window.rect_emb_val win0_5 t y)).symm))

/-- What block `q` of sequence `b` adds to the shift's gradient. -/
def added (b : Fin 2) (j : Fin 1024) (q : Fin 4) : EReal :=
  ∑ r : Fin 512, m (c.tc.loc main_arg0) (ix3 b ⟨q.val * 512 + r.val, by omega⟩ j : S2x2048x1024.Idx)

theorem added_block (t : Fin cfg0.N) (b : Fin 2) (q : Fin 4) (hb : t.val / 4 = b.val) (hq : t.val % 4 = q.val) (j : Fin 1024) :
    ∑ r : Fin 512, incoming m c t (ix3 0 r j) = added m c b j q :=
  Finset.sum_congr rfl fun r _ => (block_0 m c t (ix3 0 r j)).trans (congrArg₂ (fun (b : Fin 2) (i : Fin 2048) => m (c.tc.loc main_arg0) (ix3 b i j : S2x2048x1024.Idx))
    (Fin.ext hb : sequence t = b) (Fin.ext (congrArg (· * 512 + r.val) hq) : row t r = ⟨q.val * 512 + r.val, by omega⟩))

/-- After the last block of a sequence the accumulator holds the sum over all of its rows. -/
theorem held_last (t : Fin cfg0.N) (h : t.val % 4 = 3) (j : Fin 1024) :
    held m c t (ix3 0 0 j) = shift (m (c.tc.loc main_arg0)) (ix3 (sequence t) 0 j) := by
  have ht := val_lt t
  let t2 : Fin cfg0.N := ⟨t.val - 1, Nat.lt_of_le_of_lt (Nat.sub_le _ _) t.isLt⟩
  let t1 : Fin cfg0.N := ⟨t2.val - 1, Nat.lt_of_le_of_lt (Nat.sub_le _ _) t2.isLt⟩
  let t0 : Fin cfg0.N := ⟨t1.val - 1, Nat.lt_of_le_of_lt (Nat.sub_le _ _) t1.isLt⟩
  have v2 : t2.val = t.val - 1 := rfl
  have v1 : t1.val = t.val - 1 - 1 := rfl
  have v0 : t0.val = t.val - 1 - 1 - 1 := rfl
  have vs : (sequence t).val = t.val / 4 := rfl
  have e3 := (held_next m c t (by omega) j).trans (congrArg (_ + ·) (added_block m c t (sequence t) 3 rfl h j))
  have e2 := (held_next m c t2 (by omega) j).trans (congrArg (_ + ·) (added_block m c t2 (sequence t) 2 (by omega) (by show t2.val % 4 = 2; omega) j))
  have e1 := (held_next m c t1 (by omega) j).trans (congrArg (_ + ·) (added_block m c t1 (sequence t) 1 (by omega) (by show t1.val % 4 = 1; omega) j))
  have e0 := (held_first m c t0 (by omega) j).trans (added_block m c t0 (sequence t) 0 (by omega) (by show t0.val % 4 = 0; omega) j)
  refine Eq.trans ?_ (sum_quarters fun r => m (c.tc.loc main_arg0) (ix3 (sequence t) r j : S2x2048x1024.Idx)).symm
  rw [Fin.sum_univ_four]
  exact e3.trans (congrArg (· + _) (e2.trans (congrArg (· + _) (e1.trans (congrArg (· + _) e0)))))

theorem lone (y : S1x1x1024.Idx) : y = ix3 0 0 (y 2) := Layout.idx_ext fun a => by
  have h : (y 0).val < 1 := (y 0).isLt
  have h' : (y 1).val < 1 := (y 1).isLt
  fin_cases a
  · show (y 0).val = 0
    omega
  · show (y 1).val = 0
    omega
  · rfl

theorem final_7 : (dats m 0 c).arrAt 7 cfg0.N = shift (m (c.tc.loc main_arg0)) :=
  (dats m 0 c).arrAt_eq_of_covers 7 _ (by decide +kernel) fun t ht y =>
    (congrFun (after0_7 m c t) y).trans ((congrArg (held m c t) (lone y)).trans ((held_last m c t ((flush0_7 t).1 ht) (y 2)).trans
      (congrArg (shift (m (c.tc.loc main_arg0))) (placed_row t y _ _ (index_4 t) (Window.rect_emb_val win0_7 t y)).symm)))

end Arrays

/-! ## The claims -/

section Claims

open Cert.NormKernelIdeal Cert.NormKernelIdeal.Gen

variable {F : FTy → Type} [FloatOps F]

theorem frame_ideal : Cert.quiescent_NormKernelIdeal := fun m ρ _ => frame (F := Ideal) m ρ

/-- The two programs have one body table. -/
theorem tables_eq : Cert.NormKernel.defs (F := F) = Cert.NormKernelIdeal.defs (F := F) :=
  congrArg (Pipeline.defs _) (congrArg Defs.onTc (one_row rfl))

theorem frame_kernel : Cert.quiescent_NormKernel := fun m ρ _ => by
  have h := frame (F := Bits) m ρ
  rw [← tables_eq] at h
  exact h

theorem frame_reference : Cert.quiescent_NormReferenceIdeal := fun m ρ _ =>
  (θ_run Cert.NormReferenceIdeal.defs _ _).mono (fun r h => ⟨fun c => (h c).2.2, sem_eq_zero_of_no_sems (by decide) r.2⟩) (Cert.NormReferenceIdeal.Value.run (F := Ideal) m ρ)

theorem values : Cert.algebraic_NormKernelIdeal_NormReferenceIdeal := by
  intro m g m' g' _ hm
  refine ⟨_, _, (θ_run Cert.NormKernelIdeal.defs _ _).mono (fun r h c =>
      ⟨(h.1.1 c).1 5, (h.1.1 c).1 7, h.2 c⟩)
      (θ_run_and (run_main_quiescent (F := Ideal) m g) (unchanged (F := Ideal) m g)),
    (θ_run Cert.NormReferenceIdeal.defs _ _).mono (fun r h c => ?_) (Cert.NormReferenceIdeal.Value.run (F := Ideal) m' g')⟩
  have e := h c
  have e0 := hm c
  refine ⟨(e.1.trans (reference_gradient _ _ _ _ _)).trans ?_, (e.2.1.trans (reference_shift _)).trans ?_, e.2.2⟩
  · rw [e0.1, e0.2.1, e0.2.2.1, e0.2.2.2.1, e0.2.2.2.2]; exact (final_5 m c).symm
  · rw [e0.1]; exact (final_7 m c).symm

end Claims

end Cert.Norm
-- ==== Proof.WeightGradClaims.lean ====
/-
# The weight gradients of the output projection and the MLP: the products, block by block, and the claims

Each gradient is the transposed activations times the incoming gradient; for the down weights the activations are the
squared ones. The results are cut by core (halves of the columns, for the MLP of the rows) and by chip.
-/
module

public import proofs.«01_k».proof.Proof.Plain
public import proofs.«01_k».proof.Defs
public import proofs.«01_k».proof.Proof.Gen.OutGradKernel
public import proofs.«01_k».proof.Proof.Gen.OutGradKernelIdeal.Frame
public import proofs.«01_k».proof.Proof.Gen.OutGradReferenceIdeal.Run
public import proofs.«01_k».proof.Proof.Gen.UpGradKernel
public import proofs.«01_k».proof.Proof.Gen.UpGradKernelIdeal.Frame
public import proofs.«01_k».proof.Proof.Gen.UpGradReferenceIdeal.Run
public import proofs.«01_k».proof.Proof.Gen.DownGradKernel
public import proofs.«01_k».proof.Proof.Gen.DownGradKernelIdeal.Frame
public import proofs.«01_k».proof.Proof.Gen.DownGradReferenceIdeal.Run
public import Idealize.ShloMosaic.Lib.Pipeline.ValueKit
public import Idealize.ShloMosaic.Lib.Pipeline.Covers
public import Idealize.ShloMosaic.Lib.Pointwise
public import Idealize.ShloMosaic.Lib.LayoutAt

@[expose] public section

set_option maxRecDepth 16384

noncomputable section

open Idealize.ShloMosaic Idealize.ShloMosaic.TcCoe Idealize.SL.Sem

namespace Cert.WeightGrad

/-- Row or column `q` of the block at number `n` of eight. -/
abbrev wide (n : Fin 8) (q : Fin 512) : Fin 4096 := ⟨n.val * 512 + q.val, by omega⟩

end Cert.WeightGrad

/-! ## The output weights -/

namespace Cert.OutGrad

open Cert.WeightGrad

section Reference

open Cert.OutGradReferenceIdeal Cert.OutGradReferenceIdeal.Gen

/-- The product of the transposed activations and the gradient, by core, chip, row and column. -/
def grad (A B : S4096x1024.Idx → EReal) : S2x4x256x512.Idx → EReal := fun i =>
  ∑ k : Fin 4096, A (ix2 k ⟨(i 1).val * 256 + (i 2).val, by have h1 : (i 1).val < 4 := (i 1).isLt; have h2 : (i 2).val < 256 := (i 2).isLt; omega⟩)
    * B (ix2 k ⟨(i 0).val * 512 + (i 3).val, by have h1 : (i 0).val < 2 := (i 0).isLt; have h2 : (i 3).val < 512 := (i 3).isLt; omega⟩)

theorem reference_grad (A B : FVec Ideal S4096x1024 .bf16) :
    (transpose S2x4x256x512 [2, 0, 1, 3] (shapeCast _ (Host.dotGeneral dot_S1024x4096_S4096x1024_S1024x1024_1_0_0_1_n_n none (transpose S1024x4096 [1, 0] (extf .f32 A bitsLt_bf16_f32) transposes_S4096x1024_S1024x4096_1_0) (extf .f32 B bitsLt_bf16_f32)) shapeCasts_S1024x1024_S4x256x2x512) transposes_S4x256x2x512_S2x4x256x512_2_0_1_3 : FVec Ideal S2x4x256x512 .f32) = grad A B := by
  funext i
  pointwise [grad]

end Reference

section Kernel

open Cert.OutGradKernelIdeal Cert.OutGradKernelIdeal.Gen
open Idealize.ShloMosaic.Pipeline (Dat Cfg Window)

/-- One block: two chips' rows of a core's columns. -/
theorem kernel_grad (A B : FVec Ideal S4096x512 .bf16) (p : Fin 2) (q : Fin 256) (j : Fin 512) :
    (k0_pay1 A B : FVec Ideal S1x2x256x512 .f32) (ix4 0 p q j) = ∑ k : Fin 4096, A (ix2 k ⟨p.val * 256 + q.val, by omega⟩) * B (ix2 k j) := by
  pointwise [k0_pay1]

variable (m : (ℓ : Loc nD τ sig) → Buf (Elt Ideal) ℓ) (c : Dev nD)

theorem index_0 : ∀ t : Fin cfg0.N, win0_0.index t = ![0, t.val / 2] := by decide +kernel
theorem index_1 : ∀ t : Fin cfg0.N, win0_1.index t = ![0, t.val % 2] := by decide +kernel
theorem index_2 : ∀ t : Fin cfg0.N, win0_2.index t = ![t.val % 2, t.val / 2, 0, 0] := by decide +kernel

theorem val_lt (t : Fin cfg0.N) : t.val < 4 := t.isLt

/-- Column `q` of the block at number `n` of two. -/
abbrev column (n : Fin 2) (q : Fin 512) : Fin 1024 := ⟨n.val * 512 + q.val, by omega⟩
/-- The number of a point's block of the activations, and of the gradient. -/
abbrev first (t : Fin cfg0.N) : Fin 2 := ⟨t.val / 2, by have := val_lt t; omega⟩
abbrev second (t : Fin cfg0.N) : Fin 2 := ⟨t.val % 2, by omega⟩

theorem emb_in (i : S4096x1024.Idx) (y : S4096x512.Idx) (b : Fin 2) (n : Fin 2 → Nat) (hn : n = ![0, b.val])
    (h : ∀ a, (i a : Nat) = n a * S4096x512.size a + (y a : Nat)) : i = ix2 (y 0) (column b (y 1)) := by
  subst hn
  refine Layout.idx_ext fun a => (h a).trans ?_
  fin_cases a
  · exact at_zero _ _
  · rfl

theorem block_0 (t : Fin cfg0.N) (y : S4096x512.Idx) : iblk m c 0 t y = m (c.tc.loc main_arg0) (ix2 (y 0) (column (first t) (y 1)) : S4096x1024.Idx) :=
  congrArg (m (c.tc.loc main_arg0)) (emb_in _ y (first t) _ (index_0 t) (Window.rect_emb_val win0_0 t y))
theorem block_1 (t : Fin cfg0.N) (y : S4096x512.Idx) : iblk m c 1 t y = m (c.tc.loc main_arg1) (ix2 (y 0) (column (second t) (y 1)) : S4096x1024.Idx) :=
  congrArg (m (c.tc.loc main_arg1)) (emb_in _ y (second t) _ (index_1 t) (Window.rect_emb_val win0_1 t y))

theorem emb_2 (t : Fin cfg0.N) (p : Fin 2) (q : Fin 256) (j : Fin 512) :
    (win0_2.rect t).emb (ix4 0 p q j : S1x2x256x512.Idx) = (ix4 (second t) ⟨t.val / 2 * 2 + p.val, by have := val_lt t; omega⟩ q j : S2x4x256x512.Idx) := by
  refine Layout.idx_ext fun a => (Window.rect_emb_val win0_2 t _ a).trans ?_
  rw [index_2]
  fin_cases a
  · exact Nat.mul_one _
  · rfl
  · exact at_zero _ _
  · exact at_zero _ _

/-- The kernel's gradient. -/
abbrev kernelGrad : S2x4x256x512.Idx → EReal := grad (m (c.tc.loc main_arg0)) (m (c.tc.loc main_arg1))

theorem after_at (t : Fin cfg0.N) (p : Fin 2) (q : Fin 256) (j : Fin 512) :
    (dats m 0 c).after 2 t (ix4 0 p q j : S1x2x256x512.Idx) = kernelGrad m c ((win0_2.rect t).emb (ix4 0 p q j : S1x2x256x512.Idx)) := by
  rw [after0_2, emb_2]
  unfold out0_2
  rw [View.canon_unit_zero (by decide), View.ld_unit_zero (by decide), View.ld_unit_zero (by decide)]
  refine (kernel_grad _ _ p q j).trans (Finset.sum_congr rfl fun k _ => congrArg₂ (· * ·) ((block_0 m c t _).trans ?_) (block_1 m c t _))
  refine congrArg (m (c.tc.loc main_arg0)) (Layout.idx_ext fun a => ?_)
  fin_cases a
  · rfl
  · show t.val / 2 * 512 + (p.val * 256 + q.val) = (t.val / 2 * 2 + p.val) * 256 + q.val
    omega

theorem final : (dats m 0 c).arrAt 2 cfg0.N = kernelGrad m c :=
  (dats m 0 c).arrAt_eq_of_covers 2 _ (by decide +kernel) fun t _ (y : S1x2x256x512.Idx) => by
    have e : y = ix4 0 (y 1) (y 2) (y 3) := Layout.idx_ext fun a => by
      have h : (y 0).val < 1 := (y 0).isLt
      fin_cases a
      · show (y 0).val = 0
        omega
      all_goals rfl
    exact (congrArg ((dats m 0 c).after 2 t) e).trans ((after_at m c t (y 1) (y 2) (y 3)).trans (congrArg (fun z => kernelGrad m c ((win0_2.rect t).emb z)) e.symm))

end Kernel

section Claims

open Cert.OutGradKernelIdeal Cert.OutGradKernelIdeal.Gen

variable {F : FTy → Type} [FloatOps F]

theorem frame_ideal : Cert.quiescent_OutGradKernelIdeal := fun m ρ _ => frame (F := Ideal) m ρ

/-- The two programs have one body table. -/
theorem tables_eq : Cert.OutGradKernel.defs (F := F) = Cert.OutGradKernelIdeal.defs (F := F) :=
  congrArg (Pipeline.defs _) (congrArg Defs.onTc (one_row rfl))

theorem frame_kernel : Cert.quiescent_OutGradKernel := fun m ρ _ => by
  have h := frame (F := Bits) m ρ
  rw [← tables_eq] at h
  exact h

theorem frame_reference : Cert.quiescent_OutGradReferenceIdeal := fun m ρ _ =>
  (θ_run Cert.OutGradReferenceIdeal.defs _ _).mono (fun r h => ⟨fun c => (h c).2, sem_eq_zero_of_no_sems (by decide) r.2⟩) (Cert.OutGradReferenceIdeal.Value.run (F := Ideal) m ρ)

theorem values : Cert.algebraic_OutGradKernelIdeal_OutGradReferenceIdeal := by
  intro m g m' g' _ hm
  refine ⟨_, (θ_run Cert.OutGradKernelIdeal.defs _ _).mono (fun r h c => ⟨(h.1.1 c).1 2, h.2 c⟩)
      (θ_run_and (run_main_quiescent (F := Ideal) m g) (unchanged (F := Ideal) m g)),
    (θ_run Cert.OutGradReferenceIdeal.defs _ _).mono (fun r h c => ⟨((h c).1.trans (reference_grad _ _)).trans ?_, (h c).2⟩) (Cert.OutGradReferenceIdeal.Value.run (F := Ideal) m' g')⟩
  rw [(hm c).1, (hm c).2]
  exact (final m c).symm

end Claims

end Cert.OutGrad

/-! ## The up weights -/

namespace Cert.UpGrad

open Cert.WeightGrad

section Reference

open Cert.UpGradReferenceIdeal Cert.UpGradReferenceIdeal.Gen

/-- The product of the transposed activations and the gradient, by core, chip, row and column. -/
def grad (A : S4096x1024.Idx → EReal) (B : S4096x4096.Idx → EReal) : S2x4x512x1024.Idx → EReal := fun i =>
  ∑ k : Fin 4096, A (ix2 k ⟨(i 0).val * 512 + (i 2).val, by have h1 : (i 0).val < 2 := (i 0).isLt; have h2 : (i 2).val < 512 := (i 2).isLt; omega⟩)
    * B (ix2 k ⟨(i 1).val * 1024 + (i 3).val, by have h1 : (i 1).val < 4 := (i 1).isLt; have h2 : (i 3).val < 1024 := (i 3).isLt; omega⟩)

theorem reference_grad (A : FVec Ideal S4096x1024 .bf16) (B : FVec Ideal S4096x4096 .bf16) :
    (transpose S2x4x512x1024 [0, 2, 1, 3] (shapeCast _ (Host.dotGeneral dot_S1024x4096_S4096x4096_S1024x4096_1_0_0_1_n_n none (transpose S1024x4096 [1, 0] (extf .f32 A bitsLt_bf16_f32) transposes_S4096x1024_S1024x4096_1_0) (extf .f32 B bitsLt_bf16_f32)) shapeCasts_S1024x4096_S2x512x4x1024) transposes_S2x512x4x1024_S2x4x512x1024_0_2_1_3 : FVec Ideal S2x4x512x1024 .f32) = grad A B := by
  funext i
  pointwise [grad]

end Reference

section Kernel

open Cert.UpGradKernelIdeal Cert.UpGradKernelIdeal.Gen
open Idealize.ShloMosaic.Pipeline (Dat Cfg Window)

/-- One block: all rows, and half of a chip's columns. -/
theorem kernel_grad (A : FVec Ideal S4096x1024 .bf16) (B : FVec Ideal S4096x512 .bf16) (p : Fin 2) (q j : Fin 512) :
    (k0_pay1 A B : FVec Ideal S2x1x512x512 .f32) (ix4 p 0 q j) = ∑ k : Fin 4096, A (ix2 k ⟨p.val * 512 + q.val, by omega⟩) * B (ix2 k j) := by
  pointwise [k0_pay1]

variable (m : (ℓ : Loc nD τ sig) → Buf (Elt Ideal) ℓ) (c : Dev nD)

theorem index_0 : ∀ (t : Fin cfg0.N) a, win0_0.index t a = 0 := by decide +kernel
theorem index_1 : ∀ t : Fin cfg0.N, win0_1.index t = ![0, t.val] := by decide +kernel
theorem index_2 : ∀ t : Fin cfg0.N, win0_2.index t = ![0, t.val / 2, 0, t.val % 2] := by decide +kernel

theorem val_lt (t : Fin cfg0.N) : t.val < 8 := t.isLt

/-- The activations are staged whole, the gradient by columns. -/
theorem block_0 (t : Fin cfg0.N) : iblk m c 0 t = m (c.tc.loc main_arg0) :=
  funext fun y => congrArg (m (c.tc.loc main_arg0)) (Layout.idx_ext fun a => (Window.rect_emb_val win0_0 t y a).trans (by rw [index_0, Nat.zero_mul, Nat.zero_add]))
theorem block_1 (t : Fin cfg0.N) (y : S4096x512.Idx) : iblk m c 1 t y = m (c.tc.loc main_arg1) (ix2 (y 0) (wide ⟨t.val, val_lt t⟩ (y 1)) : S4096x4096.Idx) :=
  congrArg (m (c.tc.loc main_arg1)) (Layout.idx_ext fun a => (Window.rect_emb_val win0_1 t y a).trans (by
    rw [index_1]
    fin_cases a
    · exact at_zero _ _
    · rfl))

theorem emb_2 (t : Fin cfg0.N) (p : Fin 2) (q j : Fin 512) :
    (win0_2.rect t).emb (ix4 p 0 q j : S2x1x512x512.Idx) = (ix4 p ⟨t.val / 2, by have := val_lt t; omega⟩ q ⟨t.val % 2 * 512 + j.val, by omega⟩ : S2x4x512x1024.Idx) := by
  refine Layout.idx_ext fun a => (Window.rect_emb_val win0_2 t _ a).trans ?_
  rw [index_2]
  fin_cases a
  · exact at_zero _ _
  · exact Nat.mul_one _
  · exact at_zero _ _
  · rfl

/-- The kernel's gradient. -/
abbrev kernelGrad : S2x4x512x1024.Idx → EReal := grad (m (c.tc.loc main_arg0)) (m (c.tc.loc main_arg1))

theorem after_at (t : Fin cfg0.N) (p : Fin 2) (q j : Fin 512) :
    (dats m 0 c).after 2 t (ix4 p 0 q j : S2x1x512x512.Idx) = kernelGrad m c ((win0_2.rect t).emb (ix4 p 0 q j : S2x1x512x512.Idx)) := by
  rw [after0_2, emb_2]
  unfold out0_2
  rw [View.canon_unit_zero (by decide), View.ld_unit_zero (by decide), View.ld_unit_zero (by decide), block_0]
  refine (kernel_grad _ _ p q j).trans (Finset.sum_congr rfl fun k _ => congrArg₂ (fun a b : EReal => a * b) rfl ((block_1 m c t _).trans ?_))
  refine congrArg (m (c.tc.loc main_arg1)) (Layout.idx_ext fun a => ?_)
  fin_cases a
  · rfl
  · show t.val * 512 + j.val = t.val / 2 * 1024 + (t.val % 2 * 512 + j.val)
    omega

theorem final : (dats m 0 c).arrAt 2 cfg0.N = kernelGrad m c :=
  (dats m 0 c).arrAt_eq_of_covers 2 _ (by decide +kernel) fun t _ (y : S2x1x512x512.Idx) => by
    have e : y = ix4 (y 0) 0 (y 2) (y 3) := Layout.idx_ext fun a => by
      have h : (y 1).val < 1 := (y 1).isLt
      fin_cases a
      · rfl
      · show (y 1).val = 0
        omega
      all_goals rfl
    exact (congrArg ((dats m 0 c).after 2 t) e).trans ((after_at m c t (y 0) (y 2) (y 3)).trans (congrArg (fun z => kernelGrad m c ((win0_2.rect t).emb z)) e.symm))

end Kernel

section Claims

open Cert.UpGradKernelIdeal Cert.UpGradKernelIdeal.Gen

variable {F : FTy → Type} [FloatOps F]

theorem frame_ideal : Cert.quiescent_UpGradKernelIdeal := fun m ρ _ => frame (F := Ideal) m ρ

/-- The two programs have one body table. -/
theorem tables_eq : Cert.UpGradKernel.defs (F := F) = Cert.UpGradKernelIdeal.defs (F := F) :=
  congrArg (Pipeline.defs _) (congrArg Defs.onTc (one_row rfl))

theorem frame_kernel : Cert.quiescent_UpGradKernel := fun m ρ _ => by
  have h := frame (F := Bits) m ρ
  rw [← tables_eq] at h
  exact h

theorem frame_reference : Cert.quiescent_UpGradReferenceIdeal := fun m ρ _ =>
  (θ_run Cert.UpGradReferenceIdeal.defs _ _).mono (fun r h => ⟨fun c => (h c).2, sem_eq_zero_of_no_sems (by decide) r.2⟩) (Cert.UpGradReferenceIdeal.Value.run (F := Ideal) m ρ)

theorem values : Cert.algebraic_UpGradKernelIdeal_UpGradReferenceIdeal := by
  intro m g m' g' _ hm
  refine ⟨_, (θ_run Cert.UpGradKernelIdeal.defs _ _).mono (fun r h c => ⟨(h.1.1 c).1 2, h.2 c⟩)
      (θ_run_and (run_main_quiescent (F := Ideal) m g) (unchanged (F := Ideal) m g)),
    (θ_run Cert.UpGradReferenceIdeal.defs _ _).mono (fun r h c => ⟨((h c).1.trans (reference_grad _ _)).trans ?_, (h c).2⟩) (Cert.UpGradReferenceIdeal.Value.run (F := Ideal) m' g')⟩
  rw [(hm c).1, (hm c).2]
  exact (final m c).symm

end Claims

end Cert.UpGrad

/-! ## The down weights -/

namespace Cert.DownGrad

open Cert.WeightGrad

section Reference

open Cert.DownGradReferenceIdeal Cert.DownGradReferenceIdeal.Gen

/-- The product of the transposed squared activations and the gradient, by core, chip, row and column. -/
def grad (A : S4096x4096.Idx → EReal) (B : S4096x1024.Idx → EReal) : S2x4x512x1024.Idx → EReal := fun i =>
  ∑ k : Fin 4096, (fun x => x * x) (A (ix2 k ⟨(i 1).val * 1024 + (i 0).val * 512 + (i 2).val, by
    have h0 : (i 0).val < 2 := (i 0).isLt; have h1 : (i 1).val < 4 := (i 1).isLt; have h2 : (i 2).val < 512 := (i 2).isLt; omega⟩)) * B (ix2 k (i 3))

theorem reference_grad (A : FVec Ideal S4096x4096 .bf16) (B : FVec Ideal S4096x1024 .bf16) :
    (transpose S2x4x512x1024 [1, 0, 2, 3] (shapeCast _ (Host.dotGeneral dot_S4096x4096_S4096x1024_S4096x1024_1_0_0_1_n_n none (transpose S4096x4096 [1, 0] (mulf (extf .f32 A bitsLt_bf16_f32) (extf .f32 A bitsLt_bf16_f32)) transposes_S4096x4096_S4096x4096_1_0) (extf .f32 B bitsLt_bf16_f32)) shapeCasts_S4096x1024_S4x2x512x1024) transposes_S4x2x512x1024_S2x4x512x1024_1_0_2_3 : FVec Ideal S2x4x512x1024 .f32) = grad A B := by
  funext i
  pointwise [grad]

end Reference

section Kernel

open Cert.DownGradKernelIdeal Cert.DownGradKernelIdeal.Gen
open Idealize.ShloMosaic.Pipeline (Dat Cfg Window)

/-- One block: the rows of one core and one chip. -/
theorem kernel_grad (A : FVec Ideal S4096x512 .bf16) (B : FVec Ideal S4096x1024 .bf16) (q : Fin 512) (j : Fin 1024) :
    (k0_pay1 A B : FVec Ideal S1x1x512x1024 .f32) (ix4 0 0 q j) = ∑ k : Fin 4096, (fun x => x * x) (A (ix2 k q)) * B (ix2 k j) := by
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ (t : Fin cfg0.N) a, win0_1.index t a = 0 := by decide +kernel
theorem index_2 : ∀ t : Fin cfg0.N, win0_2.index t = ![t.val % 2, t.val / 2, 0, 0] := by decide +kernel

theorem val_lt (t : Fin cfg0.N) : t.val < 8 := t.isLt

/-- The activations are staged by columns, the gradient whole. -/
theorem block_0 (t : Fin cfg0.N) (y : S4096x512.Idx) : iblk m c 0 t y = m (c.tc.loc main_arg0) (ix2 (y 0) (wide ⟨t.val, val_lt t⟩ (y 1)) : S4096x4096.Idx) :=
  congrArg (m (c.tc.loc main_arg0)) (Layout.idx_ext fun a => (Window.rect_emb_val win0_0 t y a).trans (by
    rw [index_0]
    fin_cases a
    · exact at_zero _ _
    · rfl))
theorem block_1 (t : Fin cfg0.N) : iblk m c 1 t = m (c.tc.loc main_arg1) :=
  funext fun y => congrArg (m (c.tc.loc main_arg1)) (Layout.idx_ext fun a => (Window.rect_emb_val win0_1 t y a).trans (by rw [index_1, Nat.zero_mul, Nat.zero_add]))

theorem emb_2 (t : Fin cfg0.N) (q : Fin 512) (j : Fin 1024) :
    (win0_2.rect t).emb (ix4 0 0 q j : S1x1x512x1024.Idx) = (ix4 ⟨t.val % 2, by omega⟩ ⟨t.val / 2, by have := val_lt t; omega⟩ q j : S2x4x512x1024.Idx) := by
  refine Layout.idx_ext fun a => (Window.rect_emb_val win0_2 t _ a).trans ?_
  rw [index_2]
  fin_cases a
  · exact Nat.mul_one _
  · exact Nat.mul_one _
  · exact at_zero _ _
  · exact at_zero _ _

/-- The kernel's gradient. -/
abbrev kernelGrad : S2x4x512x1024.Idx → EReal := grad (m (c.tc.loc main_arg0)) (m (c.tc.loc main_arg1))

theorem after_at (t : Fin cfg0.N) (q : Fin 512) (j : Fin 1024) :
    (dats m 0 c).after 2 t (ix4 0 0 q j : S1x1x512x1024.Idx) = kernelGrad m c ((win0_2.rect t).emb (ix4 0 0 q j : S1x1x512x1024.Idx)) := by
  rw [after0_2, emb_2]
  unfold out0_2
  rw [View.canon_unit_zero (by decide), View.ld_unit_zero (by decide), View.ld_unit_zero (by decide), block_1]
  refine (kernel_grad _ _ q j).trans (Finset.sum_congr rfl fun k _ => congrArg (fun x : EReal => x * x * _) ((block_0 m c t _).trans ?_))
  refine congrArg (m (c.tc.loc main_arg0)) (Layout.idx_ext fun a => ?_)
  fin_cases a
  · rfl
  · show t.val * 512 + q.val = t.val / 2 * 1024 + t.val % 2 * 512 + q.val
    omega

theorem final : (dats m 0 c).arrAt 2 cfg0.N = kernelGrad m c :=
  (dats m 0 c).arrAt_eq_of_covers 2 _ (by decide +kernel) fun t _ (y : S1x1x512x1024.Idx) => by
    have e : y = ix4 0 0 (y 2) (y 3) := Layout.idx_ext fun a => by
      have h : (y 0).val < 1 := (y 0).isLt
      have h' : (y 1).val < 1 := (y 1).isLt
      fin_cases a
      · show (y 0).val = 0
        omega
      · show (y 1).val = 0
        omega
      all_goals rfl
    exact (congrArg ((dats m 0 c).after 2 t) e).trans ((after_at m c t (y 2) (y 3)).trans (congrArg (fun z => kernelGrad m c ((win0_2.rect t).emb z)) e.symm))

end Kernel

section Claims

open Cert.DownGradKernelIdeal Cert.DownGradKernelIdeal.Gen

variable {F : FTy → Type} [FloatOps F]

theorem frame_ideal : Cert.quiescent_DownGradKernelIdeal := fun m ρ _ => frame (F := Ideal) m ρ

/-- The two programs have one body table. -/
theorem tables_eq : Cert.DownGradKernel.defs (F := F) = Cert.DownGradKernelIdeal.defs (F := F) :=
  congrArg (Pipeline.defs _) (congrArg Defs.onTc (one_row rfl))

theorem frame_kernel : Cert.quiescent_DownGradKernel := fun m ρ _ => by
  have h := frame (F := Bits) m ρ
  rw [← tables_eq] at h
  exact h

theorem frame_reference : Cert.quiescent_DownGradReferenceIdeal := fun m ρ _ =>
  (θ_run Cert.DownGradReferenceIdeal.defs _ _).mono (fun r h => ⟨fun c => (h c).2, sem_eq_zero_of_no_sems (by decide) r.2⟩) (Cert.DownGradReferenceIdeal.Value.run (F := Ideal) m ρ)

theorem values : Cert.algebraic_DownGradKernelIdeal_DownGradReferenceIdeal := by
  intro m g m' g' _ hm
  refine ⟨_, (θ_run Cert.DownGradKernelIdeal.defs _ _).mono (fun r h c => ⟨(h.1.1 c).1 2, h.2 c⟩)
      (θ_run_and (run_main_quiescent (F := Ideal) m g) (unchanged (F := Ideal) m g)),
    (θ_run Cert.DownGradReferenceIdeal.defs _ _).mono (fun r h c => ⟨((h c).1.trans (reference_grad _ _)).trans ?_, (h c).2⟩) (Cert.DownGradReferenceIdeal.Value.run (F := Ideal) m' g')⟩
  rw [(hm c).1, (hm c).2]
  exact (final m c).symm

end Claims

end Cert.DownGrad
-- ==== Proof.ProductClaims.lean ====
/-
# The product back through the down weights, the modulation's product, and their claims

The first takes the gradient through the down projection and the squared rectifier, block by block; the second is the
gated conditions times a chip's columns of the modulation's weight, and the bias.
-/
module

public import proofs.«01_k».proof.Proof.AdaClaims
public import proofs.«01_k».proof.Proof.WeightGradClaims
public import proofs.«01_k».proof.Proof.Gen.DownKernel
public import proofs.«01_k».proof.Proof.Gen.DownKernelIdeal.Frame
public import proofs.«01_k».proof.Proof.Gen.DownReferenceIdeal.Run
public import proofs.«01_k».proof.Proof.Gen.ModPartKernel
public import proofs.«01_k».proof.Proof.Gen.ModPartKernelIdeal.Frame
public import proofs.«01_k».proof.Proof.Gen.ModPartReferenceIdeal.Run

@[expose] public section

set_option maxRecDepth 16384

noncomputable section

open Idealize.ShloMosaic Idealize.ShloMosaic.TcCoe Idealize.SL.Sem

/-! ## Back through the down weights -/

namespace Cert.Down

section Reference

open Cert.DownReferenceIdeal Cert.DownReferenceIdeal.Gen

/-- The gradient times the transposed weights, times twice the rectified activations. -/
def back (D W : S4096x1024.Idx → EReal) (r : S4096x4096.Idx → EReal) : S4096x4096.Idx → EReal := fun i =>
  (∑ k : Fin 1024, D (ix2 (i 0) k) * W (ix2 (i 1) k)) * (Ideal.ofBits .f32 0x40000000#32 * r i)

theorem reference_back (D W : FVec Ideal S4096x1024 .bf16) (r : FVec Ideal S4096x4096 .bf16) :
    (truncf .bf16 (mulf (Host.dotGeneral dot_S4096x1024_S1024x4096_S4096x4096_1_0_0_1_n_n none (extf .f32 D bitsLt_bf16_f32) (transpose S1024x4096 [1, 0] (extf .f32 W bitsLt_bf16_f32) transposes_S4096x1024_S1024x4096_1_0)) (mulf (broadcastInDim S4096x4096 ![] bcast_S_S4096x4096 (constant S_ .f32 0x40000000#32)) (extf .f32 r bitsLt_bf16_f32))) bitsLt_bf16_f32 : FVec Ideal S4096x4096 .bf16) = back D W r := by
  funext i
  pointwise [back]

end Reference

section Kernel

open Cert.DownKernelIdeal Cert.DownKernelIdeal.Gen
open Idealize.ShloMosaic.Pipeline (Dat Cfg Window)

theorem kernel_back (D : FVec Ideal S2048x1024 .bf16) (W : FVec Ideal S1024x1024 .bf16) (r : FVec Ideal S2048x1024 .bf16) (y : S2048x1024.Idx) :
    (k0_pay1 D W r : FVec Ideal S2048x1024 .bf16) y = (∑ k : Fin 1024, D (ix2 (y 0) k) * W (ix2 (y 1) k)) * (Ideal.ofBits .f32 0x40000000#32 * r y) := by
  pointwise [k0_pay1]

variable (m : (ℓ : Loc nD τ sig) → Buf (Elt Ideal) ℓ) (c : Dev nD)

theorem index_0 : ∀ t : Fin cfg0.N, win0_0.index t = ![t.val / 4, 0] := by decide +kernel
theorem index_1 : ∀ t : Fin cfg0.N, win0_1.index t = ![t.val % 4, 0] := by decide +kernel
theorem index_2 : ∀ t : Fin cfg0.N, win0_2.index t = ![t.val / 4, t.val % 4] := by decide +kernel
theorem index_3 : ∀ t : Fin cfg0.N, win0_3.index t = ![t.val / 4, t.val % 4] := by decide +kernel

/-- Row `q` and column `j` of a point's block. -/
abbrev row (t : Fin cfg0.N) (q : Fin 2048) : Fin 4096 := ⟨t.val / 4 * 2048 + q.val, by have : t.val < 8 := t.isLt; omega⟩
abbrev column (t : Fin cfg0.N) (j : Fin 1024) : Fin 4096 := ⟨t.val % 4 * 1024 + j.val, by omega⟩

theorem block_0 (t : Fin cfg0.N) (y : S2048x1024.Idx) : iblk m c 0 t y = m (c.tc.loc main_arg0) (ix2 (row t (y 0)) (y 1) : S4096x1024.Idx) :=
  congrArg (m (c.tc.loc main_arg0)) (Layout.idx_ext fun a => (Window.rect_emb_val win0_0 t y a).trans (by
    rw [index_0]; fin_cases a; exacts [rfl, at_zero _ _]))
theorem block_1 (t : Fin cfg0.N) (y : S1024x1024.Idx) : iblk m c 1 t y = m (c.tc.loc main_arg1) (ix2 (column t (y 0)) (y 1) : S4096x1024.Idx) :=
  congrArg (m (c.tc.loc main_arg1)) (Layout.idx_ext fun a => (Window.rect_emb_val win0_1 t y a).trans (by
    rw [index_1]; fin_cases a; exacts [rfl, at_zero _ _]))
theorem emb_3 (t : Fin cfg0.N) (y : S2048x1024.Idx) : (win0_3.rect t).emb y = (ix2 (row t (y 0)) (column t (y 1)) : S4096x4096.Idx) :=
  Layout.idx_ext fun a => (Window.rect_emb_val win0_3 t y a).trans (by rw [index_3]; fin_cases a <;> rfl)
theorem block_2 (t : Fin cfg0.N) (y : S2048x1024.Idx) : iblk m c 2 t y = m (c.tc.loc main_arg2) (ix2 (row t (y 0)) (column t (y 1)) : S4096x4096.Idx) :=
  congrArg (m (c.tc.loc main_arg2)) (Layout.idx_ext fun a => (Window.rect_emb_val win0_2 t y a).trans (by rw [index_2]; fin_cases a <;> rfl))

theorem final : (dats m 0 c).arrAt 3 cfg0.N = back (m (c.tc.loc main_arg0)) (m (c.tc.loc main_arg1)) (m (c.tc.loc main_arg2)) :=
  (dats m 0 c).arrAt_eq_of_covers 3 _ (by decide +kernel) fun t _ (y : S2048x1024.Idx) => by
    show (dats m 0 c).after 3 t y = back _ _ _ ((win0_3.rect t).emb y)
    rw [after0_3, emb_3]
    unfold out0_3
    rw [View.canon_unit_zero (by decide), View.ld_unit_zero (by decide), View.ld_unit_zero (by decide), View.ld_unit_zero (by decide)]
    exact (kernel_back _ _ _ y).trans (congrArg₂ (fun a b : EReal => a * (Ideal.ofBits .f32 0x40000000#32 * b))
      (Finset.sum_congr rfl fun k _ => congrArg₂ (fun a b : EReal => a * b) (block_0 m c t _) (block_1 m c t _)) (block_2 m c t y))

end Kernel

section Claims

open Cert.DownKernelIdeal Cert.DownKernelIdeal.Gen

variable {F : FTy → Type} [FloatOps F]

theorem frame_ideal : Cert.quiescent_DownKernelIdeal := fun m ρ _ => frame (F := Ideal) m ρ

/-- The two programs have one body table. -/
theorem tables_eq : Cert.DownKernel.defs (F := F) = Cert.DownKernelIdeal.defs (F := F) :=
  congrArg (Pipeline.defs _) (congrArg Defs.onTc (one_row rfl))

theorem frame_kernel : Cert.quiescent_DownKernel := fun m ρ _ => by
  have h := frame (F := Bits) m ρ
  rw [← tables_eq] at h
  exact h

theorem frame_reference : Cert.quiescent_DownReferenceIdeal := fun m ρ _ =>
  (θ_run Cert.DownReferenceIdeal.defs _ _).mono (fun r h => ⟨fun c => (h c).2, sem_eq_zero_of_no_sems (by decide) r.2⟩) (Cert.DownReferenceIdeal.Value.run (F := Ideal) m ρ)

theorem values : Cert.algebraic_DownKernelIdeal_DownReferenceIdeal := by
  intro m g m' g' _ hm
  refine ⟨_, (θ_run Cert.DownKernelIdeal.defs _ _).mono (fun r h c => ⟨(h.1.1 c).1 3, h.2 c⟩)
      (θ_run_and (run_main_quiescent (F := Ideal) m g) (unchanged (F := Ideal) m g)),
    (θ_run Cert.DownReferenceIdeal.defs _ _).mono (fun r h c => ⟨((h c).1.trans (reference_back _ _ _)).trans ?_, (h c).2⟩) (Cert.DownReferenceIdeal.Value.run (F := Ideal) m' g')⟩
  rw [(hm c).1, (hm c).2.1, (hm c).2.2]
  exact (final m c).symm

end Claims

end Cert.Down

/-! ## The modulation's product -/

namespace Cert.ModPart

open Cert.Ada (gate)

section Reference

open Cert.ModPartReferenceIdeal Cert.ModPartReferenceIdeal.Gen

/-- The gated conditions times the weight, and the bias. -/
def part (C : S16x1024.Idx → EReal) (W : S1024x1536.Idx → EReal) (b : S1x1536.Idx → EReal) : S16x1536.Idx → EReal := fun i =>
  (∑ k : Fin 1024, gate (C (ix2 (i 0) k)) * W (ix2 k (i 1))) + b (ix2 0 (i 1))

theorem reference_part (C : FVec Ideal S16x1024 .f32) (W : FVec Ideal S1024x1536 .f32) (b : FVec Ideal S1x1536 .f32) :
    addf (Host.dotGeneral dot_S16x1024_S1024x1536_S16x1536_1_0_0_1_n_n none (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))) W) (broadcastInDim S16x1536 ![0, 1] bcast_S1x1536_S16x1536_0_1 b) = part C W b := by
  funext i
  pointwise [part, gate]

end Reference

section Kernel

open Cert.ModPartKernelIdeal Cert.ModPartKernelIdeal.Gen
open Idealize.ShloMosaic.Pipeline (Dat Cfg Window)

theorem kernel_part (C : FVec Ideal S16x1024 .f32) (W : FVec Ideal S1024x512 .f32) (b : FVec Ideal S1x512 .f32) (y : S16x512.Idx) :
    (k0_pay1 C W b : FVec Ideal S16x512 .f32) y = (∑ k : Fin 1024, gate (C (ix2 (y 0) k)) * W (ix2 k (y 1))) + b (ix2 0 (y 1)) := by
  pointwise [k0_pay1, gate]
  simp only [zero_sub]

variable (m : (ℓ : Loc nD τ sig) → Buf (Elt Ideal) ℓ) (c : Dev nD)

theorem index_0 : ∀ (t : Fin cfg0.N) a, win0_0.index t a = 0 := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel

/-- Column `q` of a point's block. -/
abbrev column (t : Fin cfg0.N) (q : Fin 512) : Fin 1536 := ⟨t.val * 512 + q.val, by have : t.val < 3 := t.isLt; omega⟩

theorem block_0 (t : Fin cfg0.N) : iblk m c 0 t = m (c.tc.loc main_arg0) :=
  funext fun y => congrArg (m (c.tc.loc main_arg0)) (Layout.idx_ext fun a => (Window.rect_emb_val win0_0 t y a).trans (by rw [index_0]; exact at_zero _ _))
theorem block_1 (t : Fin cfg0.N) (y : S1024x512.Idx) : iblk m c 1 t y = m (c.tc.loc main_arg1) (ix2 (y 0) (column t (y 1)) : S1024x1536.Idx) :=
  congrArg (m (c.tc.loc main_arg1)) (Layout.idx_ext fun a => (Window.rect_emb_val win0_1 t y a).trans (by
    rw [index_1]; fin_cases a; exacts [at_zero _ _, rfl]))
theorem block_2 (t : Fin cfg0.N) (j : Fin 512) : iblk m c 2 t (ix2 0 j : S1x512.Idx) = m (c.tc.loc main_arg2) (ix2 0 (column t j) : S1x1536.Idx) :=
  congrArg (m (c.tc.loc main_arg2)) (Layout.idx_ext fun a => (Window.rect_emb_val win0_2 t _ a).trans (by
    rw [index_2]; fin_cases a; exacts [at_zero _ _, rfl]))
theorem emb_3 (t : Fin cfg0.N) (y : S16x512.Idx) : (win0_3.rect t).emb y = (ix2 (y 0) (column t (y 1)) : S16x1536.Idx) :=
  Layout.idx_ext fun a => (Window.rect_emb_val win0_3 t y a).trans (by rw [index_3]; fin_cases a; exacts [at_zero _ _, rfl])

theorem final : (dats m 0 c).arrAt 3 cfg0.N = part (m (c.tc.loc main_arg0)) (m (c.tc.loc main_arg1)) (m (c.tc.loc main_arg2)) :=
  (dats m 0 c).arrAt_eq_of_covers 3 _ (by decide +kernel) fun t _ (y : S16x512.Idx) => by
    show (dats m 0 c).after 3 t y = part _ _ _ ((win0_3.rect t).emb y)
    rw [after0_3, emb_3]
    unfold out0_3
    rw [View.canon_unit_zero (by decide), View.ld_unit_zero (by decide), View.ld_unit_zero (by decide), View.ld_unit_zero (by decide), block_0]
    exact (kernel_part _ _ _ y).trans (congrArg₂ (fun a b : EReal => a + b)
      (Finset.sum_congr rfl fun k _ => congrArg (fun b : EReal => gate (m (c.tc.loc main_arg0) (ix2 (y 0) k : S16x1024.Idx)) * b) (block_1 m c t _)) (block_2 m c t (y 1)))

end Kernel

section Claims

open Cert.ModPartKernelIdeal Cert.ModPartKernelIdeal.Gen

variable {F : FTy → Type} [FloatOps F]

theorem frame_ideal : Cert.quiescent_ModPartKernelIdeal := fun m ρ _ => frame (F := Ideal) m ρ

/-- The two programs have one body table. -/
theorem tables_eq : Cert.ModPartKernel.defs (F := F) = Cert.ModPartKernelIdeal.defs (F := F) :=
  congrArg (Pipeline.defs _) (congrArg Defs.onTc (one_row rfl))

theorem frame_kernel : Cert.quiescent_ModPartKernel := fun m ρ _ => by
  have h := frame (F := Bits) m ρ
  rw [← tables_eq] at h
  exact h

theorem frame_reference : Cert.quiescent_ModPartReferenceIdeal := fun m ρ _ =>
  (θ_run Cert.ModPartReferenceIdeal.defs _ _).mono (fun r h => ⟨fun c => (h c).2, sem_eq_zero_of_no_sems (by decide) r.2⟩) (Cert.ModPartReferenceIdeal.Value.run (F := Ideal) m ρ)

theorem values : Cert.algebraic_ModPartKernelIdeal_ModPartReferenceIdeal := by
  intro m g m' g' _ hm
  refine ⟨_, (θ_run Cert.ModPartKernelIdeal.defs _ _).mono (fun r h c => ⟨(h.1.1 c).1 3, h.2 c⟩)
      (θ_run_and (run_main_quiescent (F := Ideal) m g) (unchanged (F := Ideal) m g)),
    (θ_run Cert.ModPartReferenceIdeal.defs _ _).mono (fun r h c => ⟨((h c).1.trans (reference_part _ _ _)).trans ?_, (h c).2⟩) (Cert.ModPartReferenceIdeal.Value.run (F := Ideal) m' g')⟩
  rw [(hm c).1, (hm c).2.1, (hm c).2.2]
  exact (final m c).symm

end Claims

end Cert.ModPart
-- ==== Proof.OutProjClaims.lean ====
/-
# The output projection with its two norms, and the claims

The product with the output weights; the input joined with the product's norm, gated; and that sum's norm, scaled and
shifted.  All three go row by row.
-/
module

public import proofs.«01_k».proof.Proof.NormClaims
public import proofs.«01_k».proof.Proof.WeightGradClaims
public import proofs.«01_k».proof.Proof.Gen.OutProjKernel
public import proofs.«01_k».proof.Proof.Gen.OutProjKernelIdeal.Frame
public import proofs.«01_k».proof.Proof.Gen.OutProjReferenceIdeal.Run

@[expose] public section

set_option maxRecDepth 16384

noncomputable section

namespace Cert.OutProj

open Idealize.ShloMosaic Idealize.ShloMosaic.TcCoe Idealize.SL.Sem
open Cert.UpRows (rstd)

/-! ## One row -/

/-- A row over its root mean square, times a gain. -/
def normed (x w : Fin 1024 → EReal) (j : Fin 1024) : EReal := x j * rstd x * w j
/-- The input and the gated norm of the mixer's row. -/
def joined (x mix post g : Fin 1024 → EReal) (j : Fin 1024) : EReal := x j + g j * normed mix post j
/-- The norm of a row, scaled and shifted. -/
def moved (x pre sc sh : Fin 1024 → EReal) (j : Fin 1024) : EReal := normed x pre j * (Ideal.ofBits .f32 0x3F800000#32 + sc j) + sh j

section Reference

open Cert.OutProjReferenceIdeal Cert.OutProjReferenceIdeal.Gen

/-- Row `r` of sequence `b`. -/
abbrev rowOf (X : S2x2048x1024.Idx → EReal) (b : Fin 2) (r : Fin 2048) : Fin 1024 → EReal := fun k => X (ix3 b r k)
abbrev gain (w : S1x1024.Idx → EReal) : Fin 1024 → EReal := fun k => w (ix2 0 k)
abbrev perSequence (s : S2x1x1024.Idx → EReal) (b : Fin 2) : Fin 1024 → EReal := fun k => s (ix3 b 0 k)

/-- The three results. -/
def mixed (A : S2x2048x1024.Idx → EReal) (W : S1024x1024.Idx → EReal) : S2x2048x1024.Idx → EReal := fun i =>
  ∑ k : Fin 1024, A (ix3 (i 0) (i 1) k) * W (ix2 k (i 2))
def joinedAll (X M : S2x2048x1024.Idx → EReal) (w : S1x1024.Idx → EReal) (g : S2x1x1024.Idx → EReal) : S2x2048x1024.Idx → EReal := fun i =>
  joined (rowOf X (i 0) (i 1)) (rowOf M (i 0) (i 1)) (gain w) (perSequence g (i 0)) (i 2)
def movedAll (X : S2x2048x1024.Idx → EReal) (w : S1x1024.Idx → EReal) (sc sh : S2x1x1024.Idx → EReal) : S2x2048x1024.Idx → EReal := fun i =>
  moved (rowOf X (i 0) (i 1)) (gain w) (perSequence sc (i 0)) (perSequence sh (i 0)) (i 2)

/-- The reference's norm of every row, times a weight. -/
abbrev hostNorm (X : FVec Ideal S2x2048x1024 .f32) (w : FVec Ideal S1x1024 .f32) : FVec Ideal S2x2048x1024 .f32 :=
  mulf (mulf X (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 w))

theorem reference_mixed (A : FVec Ideal S2x2048x1024 .bf16) (W : FVec Ideal S1024x1024 .bf16) :
    Host.dotGeneral dot_S2x2048x1024_S1024x1024_S2x2048x1024_2_0_01_1_n_n none (extf .f32 A bitsLt_bf16_f32) (extf .f32 W bitsLt_bf16_f32) = mixed A W := by
  funext i
  pointwise [mixed]

theorem reference_joined (X M : FVec Ideal S2x2048x1024 .f32) (w : FVec Ideal S1x1024 .f32) (g : FVec Ideal S2x1x1024 .f32) :
    addf X (mulf (broadcastInDim S2x2048x1024 ![0, 1, 2] bcast_S2x1x1024_S2x2048x1024_0_1_2 g) (hostNorm M w)) = joinedAll X M w g := by
  funext i
  unfold joinedAll joined normed rstd rowOf gain perSequence
  pointwise [hostNorm]

theorem reference_moved (X : FVec Ideal S2x2048x1024 .f32) (w : FVec Ideal S1x1024 .f32) (sc sh : FVec Ideal S2x1x1024 .f32) :
    (truncf .bf16 (addf (mulf (hostNorm X w) (broadcastInDim S2x2048x1024 ![0, 1, 2] bcast_S2x1x1024_S2x2048x1024_0_1_2 (addf (broadcastInDim S2x1x1024 ![] bcast_S_S2x1x1024 (constant S_ .f32 0x3F800000#32)) sc))) (broadcastInDim S2x2048x1024 ![0, 1, 2] bcast_S2x1x1024_S2x2048x1024_0_1_2 sh)) bitsLt_bf16_f32 : FVec Ideal S2x2048x1024 .bf16) = movedAll X w sc sh := by
  funext i
  unfold movedAll moved normed rstd rowOf gain perSequence
  pointwise [hostNorm]

end Reference

/-! ## The kernel's step on one block -/

section Kernel

open Cert.OutProjKernelIdeal Cert.OutProjKernelIdeal.Gen
open Idealize.ShloMosaic.Pipeline (Dat Cfg Window)

variable (A : FVec Ideal S1x512x1024 .bf16) (W : FVec Ideal S1024x1024 .bf16) (w : FVec Ideal S1x1024 .f32) (X : FVec Ideal S1x512x1024 .f32) (g sc sh : FVec Ideal S1x1x1024 .f32)

theorem kernel_mixed (r : Fin 512) (j : Fin 1024) : (k0_pay2 A W : FVec Ideal S512x1024 .f32) (ix2 r j) = ∑ k : Fin 1024, A (ix3 0 r k) * W (ix2 k j) := by
  pointwise [k0_pay2]

theorem kernel_joined (r : Fin 512) (j : Fin 1024) : (k0_pay4 A W w X g : FVec Ideal S512x1024 .f32) (ix2 r j)
    = joined (fun k => X (ix3 0 r k)) (fun k => ∑ i : Fin 1024, A (ix3 0 r i) * W (ix2 i k)) (fun k => w (ix2 0 k)) (fun k => g (ix3 0 0 k)) j := by
  rw [← funext (fun k => kernel_mixed A W r k)]
  unfold joined normed rstd k0_pay4
  generalize (k0_pay2 A W : FVec Ideal S512x1024 .f32) = M
  pointwise []

theorem kernel_moved (Y : FVec Ideal S512x1024 .f32) (r : Fin 512) (j : Fin 1024) : (k0_pay1 Y w sc sh : FVec Ideal S1x512x1024 .bf16) (ix3 0 r j)
    = moved (fun k => Y (ix2 r k)) (fun k => w (ix2 0 k)) (fun k => sc (ix3 0 0 k)) (fun k => sh (ix3 0 0 k)) j := by
  unfold moved normed rstd
  pointwise [k0_pay1]

/-! ## Where the blocks lie -/

variable (m : (ℓ : Loc nD τ sig) → Buf (Elt Ideal) ℓ) (c : Dev nD) (t : Fin cfg0.N)

open Cert.Norm (at_row place placed placed_row sequence row)

theorem index_0 : ∀ t : Fin cfg0.N, win0_0.index t = ![t.val / 4, t.val % 4, 0] := by decide +kernel
theorem index_1 : ∀ (t : Fin cfg0.N) a, win0_1.index t a = 0 := by decide +kernel
theorem index_3 : ∀ (t : Fin cfg0.N) a, win0_3.index t a = 0 := by decide +kernel
theorem index_4 : ∀ t : Fin cfg0.N, win0_4.index t = ![t.val / 4, 0, 0] := by decide +kernel

theorem block_0 (y : S1x512x1024.Idx) : iblk m c 0 t y = m (c.tc.loc main_arg0) (place t y) :=
  congrArg (m (c.tc.loc main_arg0)) (placed t y _ _ (index_0 t) (Window.rect_emb_val win0_0 t y))
theorem block_2 (y : S1x512x1024.Idx) : iblk m c 2 t y = m (c.tc.loc main_arg2) (place t y) :=
  congrArg (m (c.tc.loc main_arg2)) (placed t y _ _ (index_0 t) (Window.rect_emb_val win0_2 t y))
theorem block_1 (y : S1024x1024.Idx) : iblk m c 1 t y = m (c.tc.loc main_arg1) y :=
  congrArg (m (c.tc.loc main_arg1)) (Layout.idx_ext fun a => (Window.rect_emb_val win0_1 t y a).trans (by rw [index_1]; exact at_zero _ _))
theorem block_3 (y : S1x1024.Idx) : iblk m c 3 t y = m (c.tc.loc main_arg3) y :=
  congrArg (m (c.tc.loc main_arg3)) (Layout.idx_ext fun a => (Window.rect_emb_val win0_3 t y a).trans (by rw [index_3]; exact at_zero _ _))
theorem block_5 (y : S1x1024.Idx) : iblk m c 5 t y = m (c.tc.loc main_arg5) y :=
  congrArg (m (c.tc.loc main_arg5)) (Layout.idx_ext fun a => (Window.rect_emb_val win0_5 t y a).trans (by rw [show win0_5.index t a = 0 from index_3 t a]; exact at_zero _ _))
theorem block_4 (y : S1x1x1024.Idx) : iblk m c 4 t y = m (c.tc.loc main_arg4) (ix3 (sequence t) 0 (y 2) : S2x1x1024.Idx) :=
  congrArg (m (c.tc.loc main_arg4)) (placed_row t y _ _ (index_4 t) (Window.rect_emb_val win0_4 t y))
theorem block_6 (y : S1x1x1024.Idx) : iblk m c 6 t y = m (c.tc.loc main_arg6) (ix3 (sequence t) 0 (y 2) : S2x1x1024.Idx) :=
  congrArg (m (c.tc.loc main_arg6)) (placed_row t y _ _ (index_4 t) (Window.rect_emb_val win0_6 t y))
theorem block_7 (y : S1x1x1024.Idx) : iblk m c 7 t y = m (c.tc.loc main_arg7) (ix3 (sequence t) 0 (y 2) : S2x1x1024.Idx) :=
  congrArg (m (c.tc.loc main_arg7)) (placed_row t y _ _ (index_4 t) (Window.rect_emb_val win0_7 t y))

/-! ## The arrays at the end -/

abbrev mix : S2x2048x1024.Idx → EReal := mixed (m (c.tc.loc main_arg0)) (m (c.tc.loc main_arg1))
abbrev first : S2x2048x1024.Idx → EReal := joinedAll (m (c.tc.loc main_arg2)) (mix m c) (m (c.tc.loc main_arg3)) (m (c.tc.loc main_arg4))
abbrev second : S2x2048x1024.Idx → EReal := movedAll (first m c) (m (c.tc.loc main_arg5)) (m (c.tc.loc main_arg6)) (m (c.tc.loc main_arg7))

/-- A block of the mixer's rows, and of the weights. -/
abbrev blockRows : S1x512x1024.Idx → EReal := iblk m c 0 t
abbrev blockWeights : S1024x1024.Idx → EReal := iblk m c 1 t

theorem block_mix (r : Fin 512) (j : Fin 1024) :
    (∑ k : Fin 1024, blockRows m c t (ix3 0 r k) * blockWeights m c t (ix2 k j)) = mix m c (ix3 (sequence t) (row t r) j) :=
  Finset.sum_congr rfl fun k _ => congrArg₂ (fun a b : EReal => a * b) (block_0 m c t _) (block_1 m c t _)

theorem block_first (r : Fin 512) (j : Fin 1024) :
    (k0_pay4 (iblk m c 0 t) (iblk m c 1 t) (iblk m c 3 t) (iblk m c 2 t) (iblk m c 4 t) : FVec Ideal S512x1024 .f32) (ix2 r j) = first m c (ix3 (sequence t) (row t r) j) := by
  refine (kernel_joined _ _ _ _ _ r j).trans ?_
  show joined _ _ _ _ j = joined _ _ _ _ j
  congr 1
  exacts [funext fun k => block_2 m c t _, funext fun k => block_mix m c t r k, funext fun k => block_3 m c t _, funext fun k => block_4 m c t _]

theorem final_8 : (dats m 0 c).arrAt 8 cfg0.N = mix m c :=
  (dats m 0 c).arrAt_eq_of_covers 8 _ (by decide +kernel) fun t _ (y : S1x512x1024.Idx) => by
    show (dats m 0 c).after 8 t y = mix m c ((win0_8.rect t).emb y)
    rw [after0_8, placed t y _ _ (index_0 t) (Window.rect_emb_val win0_8 t y), at_row y]
    unfold out0_8
    rw [View.canon_unit_zero (by decide), View.ld_unit_zero (by decide), View.ld_unit_zero (by decide)]
    refine Eq.trans ?_ (block_mix m c t (y 1) (y 2))
    refine Eq.trans ?_ (kernel_mixed _ _ (y 1) (y 2))
    unfold k0_pay3
    pointwise []

theorem final_9 : (dats m 0 c).arrAt 9 cfg0.N = first m c :=
  (dats m 0 c).arrAt_eq_of_covers 9 _ (by decide +kernel) fun t _ (y : S1x512x1024.Idx) => by
    show (dats m 0 c).after 9 t y = first m c ((win0_9.rect t).emb y)
    rw [after0_9, placed t y _ _ (index_0 t) (Window.rect_emb_val win0_9 t y), at_row y]
    unfold out0_9
    rw [View.canon_unit_zero (by decide), View.ld_unit_zero (by decide), View.ld_unit_zero (by decide), View.ld_unit_zero (by decide), View.ld_unit_zero (by decide), View.ld_unit_zero (by decide)]
    refine Eq.trans ?_ (block_first m c t (y 1) (y 2))
    unfold k0_pay5
    pointwise []

theorem final_10 : (dats m 0 c).arrAt 10 cfg0.N = second m c :=
  (dats m 0 c).arrAt_eq_of_covers 10 _ (by decide +kernel) fun t _ (y : S1x512x1024.Idx) => by
    show (dats m 0 c).after 10 t y = second m c ((win0_10.rect t).emb y)
    rw [after0_10, placed t y _ _ (index_0 t) (Window.rect_emb_val win0_10 t y), at_row y]
    unfold out0_10
    rw [View.canon_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]
    refine (kernel_moved _ _ _ _ (y 1) (y 2)).trans ?_
    show moved _ _ _ _ (y 2) = moved _ _ _ _ (y 2)
    congr 1
    exacts [funext fun k => block_first m c t (y 1) k, funext fun k => block_5 m c t _, funext fun k => block_6 m c t _, funext fun k => block_7 m c t _]

end Kernel

/-! ## The claims -/

section Claims

open Cert.OutProjKernelIdeal Cert.OutProjKernelIdeal.Gen

variable {F : FTy → Type} [FloatOps F]

theorem frame_ideal : Cert.quiescent_OutProjKernelIdeal := fun m ρ _ => frame (F := Ideal) m ρ

/-- The two programs have one body table. -/
theorem tables_eq : Cert.OutProjKernel.defs (F := F) = Cert.OutProjKernelIdeal.defs (F := F) :=
  congrArg (Pipeline.defs _) (congrArg Defs.onTc (one_row rfl))

theorem frame_kernel : Cert.quiescent_OutProjKernel := fun m ρ _ => by
  have h := frame (F := Bits) m ρ
  rw [← tables_eq] at h
  exact h

theorem frame_reference : Cert.quiescent_OutProjReferenceIdeal := fun m ρ _ =>
  (θ_run Cert.OutProjReferenceIdeal.defs _ _).mono (fun r h => ⟨fun c => (h c).2.2.2, sem_eq_zero_of_no_sems (by decide) r.2⟩) (Cert.OutProjReferenceIdeal.Value.run (F := Ideal) m ρ)

theorem values : Cert.algebraic_OutProjKernelIdeal_OutProjReferenceIdeal := by
  intro m g m' g' _ hm
  refine ⟨_, _, _, (θ_run Cert.OutProjKernelIdeal.defs _ _).mono (fun r h c => ⟨(h.1.1 c).1 8, (h.1.1 c).1 9, (h.1.1 c).1 10, h.2 c⟩)
      (θ_run_and (run_main_quiescent (F := Ideal) m g) (unchanged (F := Ideal) m g)),
    (θ_run Cert.OutProjReferenceIdeal.defs _ _).mono (fun r h c => ?_) (Cert.OutProjReferenceIdeal.Value.run (F := Ideal) m' g')⟩
  have e := h c
  obtain ⟨e0, e1, e2, e3, e4, e5, e6, e7⟩ := hm c
  have b {A : FVec Ideal _ .bf16} {W X w g} := (reference_joined X _ w g).trans (congrArg (fun M => joinedAll X M w g) (reference_mixed A W))
  refine ⟨(e.1.trans (reference_mixed _ _)).trans ?_, (e.2.1.trans b).trans ?_, (e.2.2.1.trans ((reference_moved _ _ _ _).trans (congrArg (fun M => movedAll M _ _ _) b))).trans ?_, e.2.2.2⟩
  · rw [e0, e1]; exact (final_8 m c).symm
  · rw [e0, e1, e2, e3, e4]; exact (final_9 m c).symm
  · rw [e0, e1, e2, e3, e4, e5, e6, e7]; exact (final_10 m c).symm

end Claims

end Cert.OutProj
-- ==== Proof.DownProjClaims.lean ====
/-
# The down projection with its loss, and the claims

The squared input against the weights; the product's norm, gated, joined with the residual row and compared with the
target; the loss over all rows; and the gradient that goes back through the norm.  A point takes 512 rows in two halves.
-/
module

public import proofs.«01_k».proof.Proof.OutProjClaims
public import proofs.«01_k».proof.Proof.Gen.DownProjKernel
public import proofs.«01_k».proof.Proof.Gen.DownProjKernelIdeal.Frame
public import proofs.«01_k».proof.Proof.Gen.DownProjReferenceIdeal.Run

@[expose] public section

set_option maxRecDepth 16384

noncomputable section

namespace Cert.DownProj

open Idealize.ShloMosaic Idealize.ShloMosaic.TcCoe Idealize.SL.Sem
open Cert.UpRows (rstd back)
open Cert.OutProj (rowOf gain perSequence)

/-! ## One row -/

/-- The residual row joined with the gated norm of the product's row, less the target. -/
def err (x d w g t : Fin 1024 → EReal) (j : Fin 1024) : EReal := x j + d j * rstd d * (g j * w j) - t j
/-- The row's gradient from its error. -/
def dy (e : Fin 1024 → EReal) (j : Fin 1024) : EReal := Ideal.div (e j) (Ideal.ofBits .f32 0x44800000#32)
/-- The gradient taken back through the norm. -/
def dd (e d w g : Fin 1024 → EReal) (j : Fin 1024) : EReal := back (dy e) (fun k => g k * w k) d j

/-! ## The constants, and a factor before a sum -/

theorem inverse : Ideal.ofBits .f32 0x3A800000#32 = ((1 / 1024 : ℝ) : EReal) := by
  simp [Ideal.ofBits, Ideal.ieee, -EReal.coe_mul]; norm_num

/-- The kernel multiplies where the row's mean divides. -/
theorem div_eq (x : EReal) : Ideal.div x (Ideal.ofBits .f32 0x44800000#32) = x * Ideal.ofBits .f32 0x3A800000#32 := by
  rw [inverse, show Ideal.ofBits .f32 0x44800000#32 = ((1024 : ℝ) : EReal) by simp [Ideal.ofBits, Ideal.ieee, -EReal.coe_mul]; norm_num]
  exact Ideal.div_coe (by norm_num) x

theorem halved (x : EReal) : Ideal.ofBits .f32 0x3F000000#32 * (Ideal.ofBits .f32 0x3A800000#32 * x) = Ideal.ofBits .f32 0x3A000000#32 * x := by
  rw [← mul_assoc, inverse, show Ideal.ofBits .f32 0x3F000000#32 = ((1 / 2 : ℝ) : EReal) by simp [Ideal.ofBits, Ideal.ieee, -EReal.coe_mul]; norm_num,
    show Ideal.ofBits .f32 0x3A000000#32 = ((1 / 2048 : ℝ) : EReal) by simp [Ideal.ofBits, Ideal.ieee, -EReal.coe_mul]; norm_num, ← EReal.coe_mul]
  norm_num

/-- The squared errors of a row. -/
def squares (E : Cert.DownProjKernelIdeal.S2x2048x1024.Idx → EReal) (b : Fin 2) (r : Fin 2048) : EReal := ∑ j : Fin 1024, E (ix3 b r j) * E (ix3 b r j)

theorem squares_nonneg (E : Cert.DownProjKernelIdeal.S2x2048x1024.Idx → EReal) (b : Fin 2) (r : Fin 2048) : 0 ≤ squares E b r :=
  Finset.sum_nonneg fun j _ => EReal.mul_nonneg_iff.2 ((le_total 0 (E (ix3 b r j))).imp (fun h => ⟨h, h⟩) (fun h => ⟨h, h⟩))

/-- A factor goes into a sum that has no negative term. -/
theorem mul_sum {ι : Type} (a : EReal) (s : Finset ι) (f : ι → EReal) (h : ∀ i, 0 ≤ f i) : a * ∑ i ∈ s, f i = ∑ i ∈ s, a * f i := by
  classical
  induction s using Finset.induction_on with
  | empty => simp
  | insert i s hi ih => rw [Finset.sum_insert hi, Finset.sum_insert hi, EReal.left_distrib_of_nonneg (h i) (Finset.sum_nonneg fun k _ => h k), ih]

section Reference

open Cert.DownProjReferenceIdeal Cert.DownProjReferenceIdeal.Gen

variable (R : FVec Ideal S2x2048x4096 .bf16) (W : FVec Ideal S4096x1024 .bf16) (X D T E : FVec Ideal S2x2048x1024 .f32) (w : FVec Ideal S1x1024 .f32) (g : FVec Ideal S2x1x1024 .f32)

def product (R : S2x2048x4096.Idx → EReal) (W : S4096x1024.Idx → EReal) : S2x2048x1024.Idx → EReal := fun i =>
  ∑ k : Fin 4096, R (ix3 (i 0) (i 1) k) * R (ix3 (i 0) (i 1) k) * W (ix2 k (i 2))
def errAll (X D T : S2x2048x1024.Idx → EReal) (w : S1x1024.Idx → EReal) (g : S2x1x1024.Idx → EReal) : S2x2048x1024.Idx → EReal := fun i =>
  err (rowOf X (i 0) (i 1)) (rowOf D (i 0) (i 1)) (gain w) (perSequence g (i 0)) (rowOf T (i 0) (i 1)) (i 2)
def dyAll (E : S2x2048x1024.Idx → EReal) : S2x2048x1024.Idx → EReal := fun i => dy (rowOf E (i 0) (i 1)) (i 2)
def ddAll (E D : S2x2048x1024.Idx → EReal) (w : S1x1024.Idx → EReal) (g : S2x1x1024.Idx → EReal) : S2x2048x1024.Idx → EReal := fun i =>
  dd (rowOf E (i 0) (i 1)) (rowOf D (i 0) (i 1)) (gain w) (perSequence g (i 0)) (i 2)
/-- The loss, half the sum of the rows' means, in every column of its row. -/
def lossAll (E : S2x2048x1024.Idx → EReal) : S1x128.Idx → EReal := fun _ =>
  Ideal.ofBits .f32 0x3F000000#32 * ∑ b : Fin 2, ∑ r : Fin 2048, Ideal.div (squares E b r) (Ideal.ofBits .f32 0x44800000#32)
/-- The loss with one constant in front. -/
theorem lossAll_eq (E : S2x2048x1024.Idx → EReal) (i : S1x128.Idx) :
    lossAll E i = Ideal.ofBits .f32 0x3A000000#32 * ∑ b : Fin 2, ∑ r : Fin 2048, squares E b r := by
  unfold lossAll
  simp only [div_eq, mul_comm _ (Ideal.ofBits .f32 0x3A800000#32)]
  rw [← halved, mul_sum _ _ _ fun b => Finset.sum_nonneg fun r _ => squares_nonneg E b r]
  simp only [mul_sum _ _ _ (squares_nonneg E _)]

/-- The reference's norm, its error and what it takes back. -/
abbrev hostRstd : FVec Ideal S2x2048x1 .f32 :=
  Host.rsqrt (addf (Host.divf (broadcastInDim S2x2048x1 ![0, 1] bcast_S2x2048_S2x2048x1_0_1 (Host.reduceAdd (mulf D D) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))
abbrev hostHat : FVec Ideal S2x2048x1024 .f32 := mulf D (broadcastInDim S2x2048x1024 ![0, 1, 2] bcast_S2x2048x1_S2x2048x1024_0_1_2 (hostRstd D))
abbrev hostErr : FVec Ideal S2x2048x1024 .f32 :=
  subf (addf X (mulf (broadcastInDim S2x2048x1024 ![0, 1, 2] bcast_S2x1x1024_S2x2048x1024_0_1_2 g) (mulf (hostHat D) (broadcastInDim S2x2048x1024 ![0, 1, 2] bcast_S1x1x1024_S2x2048x1024_0_1_2 (broadcastInDim S1x1x1024 ![1, 2] bcast_S1x1024_S1x1x1024_1_2 w))))) T
abbrev hostDy : FVec Ideal S2x2048x1024 .f32 := Host.divf E (broadcastInDim S2x2048x1024 ![] bcast_S_S2x2048x1024 (constant S_ .f32 0x44800000#32))
abbrev hostGained : FVec Ideal S2x2048x1024 .f32 :=
  mulf (hostDy E) (broadcastInDim S2x2048x1024 ![0, 1, 2] bcast_S2x1x1024_S2x2048x1024_0_1_2 (mulf g (broadcastInDim S2x1x1024 ![0, 1, 2] bcast_S1x1x1024_S2x1x1024_0_1_2 (broadcastInDim S1x1x1024 ![1, 2] bcast_S1x1024_S1x1x1024_1_2 w))))
abbrev hostDd : FVec Ideal S2x2048x1024 .f32 :=
  mulf (broadcastInDim S2x2048x1024 ![0, 1, 2] bcast_S2x2048x1_S2x2048x1024_0_1_2 (hostRstd D)) (subf (hostGained E w g) (mulf (hostHat D) (broadcastInDim S2x2048x1024 ![0, 1, 2] bcast_S2x2048x1_S2x2048x1024_0_1_2 (Host.divf (broadcastInDim S2x2048x1 ![0, 1] bcast_S2x2048_S2x2048x1_0_1 (Host.reduceAdd (mulf (hostGained E w g) (hostHat D)) (constant S_ .f32 0x00000000#32) reducesTo_S2x2048x1024_S2x2048_d2 h_S_)) (broadcastInDim S2x2048x1 ![] bcast_S_S2x2048x1 (constant S_ .f32 0x44800000#32))))))

theorem reference_product : Host.dotGeneral dot_S2x2048x4096_S4096x1024_S2x2048x1024_2_0_01_1_n_n none (extf .f32 (mulf R R) bitsLt_bf16_f32) (extf .f32 W bitsLt_bf16_f32) = product R W := by
  funext i
  pointwise [product]

theorem reference_err : hostErr X D T w g = errAll X D T w g := by
  funext i
  unfold errAll err rstd rowOf gain perSequence
  rw [mul_left_comm]
  pointwise []

theorem reference_dy : hostDy E = dyAll E := by
  funext i
  unfold dyAll dy rowOf
  pointwise []

theorem reference_dd : (truncf .bf16 (hostDd D E w g) bitsLt_bf16_f32 : FVec Ideal S2x2048x1024 .bf16) = ddAll E D w g := by
  funext i
  unfold ddAll dd dy back rstd rowOf gain perSequence
  pointwise []

theorem reference_loss : (broadcastInDim S1x128 ![] bcast_S_S1x128 (mulf (constant S_ .f32 0x3F000000#32) (Host.reduceAdd (Host.divf (Host.reduceAdd (mulf E E) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_)) : FVec Ideal S1x128 .f32) = lossAll E := by
  funext i
  pointwise [lossAll, squares]

end Reference

/-! ## The kernel's step on half a block -/

section Kernel

open Cert.DownProjKernelIdeal Cert.DownProjKernelIdeal.Gen

variable (R : FVec Ideal S1x256x4096 .bf16) (W : FVec Ideal S4096x1024 .bf16) (w : FVec Ideal S1x1024 .f32) (g : FVec Ideal S1x1x1024 .f32) (X T : FVec Ideal S1x256x1024 .f32) (L : FVec Ideal S1x128 .f32)

/-- The error, and what a half leaves of the three results. -/
abbrev halfErr : FVec Ideal S256x1024 .f32 := k0_pay15 (k0_pay8 R W) (k0_pay11 w g) (k0_pay13 R W) X T
abbrev halfDy : FVec Ideal S1x256x1024 .f32 := k0_pay18 (k0_pay8 R W) (k0_pay11 w g) (k0_pay13 R W) X T
abbrev halfDd : FVec Ideal S1x256x1024 .bf16 := k0_pay21 (k0_pay19 (k0_pay8 R W) (k0_pay11 w g) (k0_pay12 R W) (k0_pay13 R W) X T)
abbrev halfLoss : FVec Ideal S1x128 .f32 := k0_pay16 (k0_pay8 R W) (k0_pay11 w g) (k0_pay13 R W) X T L

/-- The second half is computed as the first is. -/
theorem second_dy : k0_pay31 (k0_pay25 w g) (k0_pay27 (k0_pay9 R W)) X T = halfDy R W w g X T := rfl
theorem second_dd : k0_pay2 (k0_pay32 (k0_pay25 w g) (k0_pay26 (k0_pay9 R W)) (k0_pay27 (k0_pay9 R W)) X T) = halfDd R W w g X T := rfl
theorem second_loss : k0_pay29 (k0_pay25 w g) (k0_pay27 (k0_pay9 R W)) X T L = halfLoss R W w g X T L := rfl

theorem kernel_product (r : Fin 256) (j : Fin 1024) : (k0_pay8 R W : FVec Ideal S256x1024 .f32) (ix2 r j) = ∑ k : Fin 4096, R (ix3 0 r k) * R (ix3 0 r k) * W (ix2 k j) := by
  pointwise [k0_pay8]

theorem kernel_err (r : Fin 256) (j : Fin 1024) : halfErr R W w g X T (ix2 r j)
    = err (fun k => X (ix3 0 r k)) (fun k => (k0_pay8 R W : FVec Ideal S256x1024 .f32) (ix2 r k)) (fun k => w (ix2 0 k)) (fun k => g (ix3 0 0 k)) (fun k => T (ix3 0 r k)) j := by
  unfold err rstd halfErr k0_pay13 k0_pay12
  generalize (k0_pay8 R W : FVec Ideal S256x1024 .f32) = D
  pointwise [k0_pay15, k0_pay14, k0_pay11, k0_pay10]

theorem kernel_dy (r : Fin 256) (j : Fin 1024) : halfDy R W w g X T (ix3 0 r j) = dy (fun k => halfErr R W w g X T (ix2 r k)) j := by
  unfold dy halfDy halfErr k0_pay18 k0_pay17
  rw [div_eq]
  generalize (k0_pay15 (k0_pay8 R W) (k0_pay11 w g) (k0_pay13 R W) X T : FVec Ideal S256x1024 .f32) = E
  pointwise []

theorem kernel_dd (r : Fin 256) (j : Fin 1024) : halfDd R W w g X T (ix3 0 r j)
    = dd (fun k => halfErr R W w g X T (ix2 r k)) (fun k => (k0_pay8 R W : FVec Ideal S256x1024 .f32) (ix2 r k)) (fun k => w (ix2 0 k)) (fun k => g (ix3 0 0 k)) j := by
  unfold dd back rstd halfDd halfErr k0_pay19 k0_pay17
  simp only [show ∀ e j, dy e j = e j * Ideal.ofBits .f32 0x3A800000#32 from fun e j => div_eq (e j)]
  generalize (k0_pay15 (k0_pay8 R W) (k0_pay11 w g) (k0_pay13 R W) X T : FVec Ideal S256x1024 .f32) = E
  unfold k0_pay13 k0_pay12
  generalize (k0_pay8 R W : FVec Ideal S256x1024 .f32) = D
  pointwise [k0_pay21, k0_pay14, k0_pay11, k0_pay10]

theorem kernel_loss (j : Fin 128) : halfLoss R W w g X T L (ix2 0 j)
    = L (ix2 0 j) + Ideal.ofBits .f32 0x3A000000#32 * ∑ r : Fin 256, ∑ k : Fin 1024, halfErr R W w g X T (ix2 r k) * halfErr R W w g X T (ix2 r k) := by
  unfold halfLoss halfErr k0_pay16
  generalize (k0_pay15 (k0_pay8 R W) (k0_pay11 w g) (k0_pay13 R W) X T : FVec Ideal S256x1024 .f32) = E
  pointwise []

theorem kernel_zero (j : Fin 128) : (k0_pay6 (F := Ideal) : FVec Ideal S1x128 .f32) (ix2 0 j) = 0 := by
  pointwise [k0_pay6]

/-! ## Two halves of a block -/

/-- A row of a half, in the block. -/
def rowAt (o : Nat) (ho : o ≤ 256) (r : Fin 256) : Fin 512 := ⟨o + r.val, by omega⟩

theorem part_row {n : Nat} (Y : (⟨3, ![1, 512, n]⟩ : Shape).Idx → EReal) (o : Nat) (ho : o ≤ 256) (inb) (r : Fin 256) (k : Fin n) :
    View.ld (Val := fun _ => EReal) (e' := EltTy.f32) Y (Rect.unit (s := ⟨3, ![1, 512, n]⟩) ![0, o, 0] ![1, 256, n] inb) (ix3 0 r k) = Y (ix3 0 (rowAt o ho r) k) :=
  View.ld_unit_apply_of (Val := fun _ => EReal) (e := EltTy.f32) Y _ _ inb _ _ fun a => by
    fin_cases a
    · rfl
    · rfl
    · exact (Nat.zero_add _).symm

theorem half_at (o : Nat) (ho : o ≤ 256) (inb) (x : S1x256x1024.Idx) :
    (Rect.unit (s := S1x512x1024) ![0, o, 0] S1x256x1024.size inb).idx x = (ix3 0 (rowAt o ho (x 1)) (x 2) : S1x512x1024.Idx) :=
  Layout.idx_ext fun a => (Rect.idx_unit_val _ _ inb x a).trans (by
    have h : (x 0).val < 1 := (x 0).isLt
    fin_cases a
    · show 0 + (x 0).val = 0
      omega
    · rfl
    · exact Nat.zero_add _)

/-- Two stores of 256 rows each leave the block they are the halves of. -/
theorem halves {α : EltTy → Type} [∀ e, Nonempty (α e)] {e : EltTy} (G : S1x512x1024.Idx → α e) (P Q : S1x256x1024.Idx → α e) (inb inb')
    (hP : ∀ x, P x = G (ix3 0 (rowAt 256 (Nat.le_refl _) (x 1)) (x 2))) (hQ : ∀ x, Q x = G (ix3 0 (rowAt 0 (Nat.zero_le _) (x 1)) (x 2))) :
    View.canon (Val := α) (s := S1x512x1024) (e := e) [⟨Rect.unit ![0, 256, 0] S1x256x1024.size inb, P⟩, ⟨Rect.unit ![0, 0, 0] S1x256x1024.size inb', Q⟩] = G := by
  funext y
  have h0 : (y 0).val < 1 := (y 0).isLt
  have h1 : (y 1).val < 512 := (y 1).isLt
  have at_half (o : Nat) (ho : o ≤ 256) (inb) (h : o ≤ (y 1).val) (h' : (y 1).val - o < 256) :
      y ∈ (Rect.unit (s := S1x512x1024) ![0, o, 0] S1x256x1024.size inb).set := by
    have e := half_at o ho inb (ix3 0 ⟨(y 1).val - o, h'⟩ (y 2))
    have e' : (ix3 0 (rowAt o ho ⟨(y 1).val - o, h'⟩) (y 2) : S1x512x1024.Idx) = y := Layout.idx_ext fun a => by
      fin_cases a
      · show 0 = (y 0).val
        omega
      · exact Nat.add_sub_cancel' h
      · rfl
    exact (e.trans e') ▸ LoadRect.idx_mem _ _
  refine View.canon_apply_of_pieces G _ (fun p hp x => ?_) y ?_
  · rcases List.mem_cons.1 hp with rfl | hp
    · exact (hP x).trans (congrArg G (half_at 256 _ inb x).symm)
    · obtain rfl := List.mem_singleton.1 hp
      exact (hQ x).trans (congrArg G (half_at 0 _ inb' x).symm)
  · by_cases h : (y 1).val < 256
    · exact ⟨_, List.mem_cons_of_mem _ (List.mem_singleton_self _), at_half 0 (Nat.zero_le _) inb' (Nat.zero_le _) h⟩
    · exact ⟨_, List.mem_cons_self, at_half 256 (Nat.le_refl _) inb (by omega) (by omega)⟩

end Kernel

/-! ## The arrays at the end -/

section Arrays

open Cert.DownProjKernelIdeal Cert.DownProjKernelIdeal.Gen
open Idealize.ShloMosaic.Pipeline (Dat Cfg Window)
open Cert.Norm (at_row place placed placed_row sequence row)

variable (m : (ℓ : Loc nD τ sig) → Buf (Elt Ideal) ℓ) (c : Dev nD) (t : Fin cfg0.N)

theorem index_0 : ∀ t : Fin cfg0.N, win0_0.index t = ![t.val / 4, t.val % 4, 0] := by decide +kernel
theorem index_1 : ∀ (t : Fin cfg0.N) a, win0_1.index t a = 0 := by decide +kernel
theorem index_3 : ∀ (t : Fin cfg0.N) a, win0_3.index t a = 0 := by decide +kernel
theorem index_4 : ∀ t : Fin cfg0.N, win0_4.index t = ![t.val / 4, 0, 0] := by decide +kernel

theorem block_0 (y : S1x512x4096.Idx) : iblk m c 0 t y = m (c.tc.loc main_arg0) (ix3 (sequence t) (row t (y 1)) (y 2) : S2x2048x4096.Idx) :=
  congrArg (m (c.tc.loc main_arg0)) (Layout.idx_ext fun a => (Window.rect_emb_val win0_0 t y a).trans (by
    have h : (y 0).val < 1 := (y 0).isLt
    rw [index_0]
    fin_cases a
    · show t.val / 4 * 1 + (y 0).val = t.val / 4
      omega
    · rfl
    · exact at_zero _ _))
theorem block_1 (y : S4096x1024.Idx) : iblk m c 1 t y = m (c.tc.loc main_arg1) y :=
  congrArg (m (c.tc.loc main_arg1)) (Layout.idx_ext fun a => (Window.rect_emb_val win0_1 t y a).trans (by rw [index_1]; exact at_zero _ _))
theorem block_2 (y : S1x512x1024.Idx) : iblk m c 2 t y = m (c.tc.loc main_arg2) (place t y) :=
  congrArg (m (c.tc.loc main_arg2)) (placed t y _ _ (index_0 t) (Window.rect_emb_val win0_2 t y))
theorem block_3 (y : S1x1024.Idx) : iblk m c 3 t y = m (c.tc.loc main_arg3) y :=
  congrArg (m (c.tc.loc main_arg3)) (Layout.idx_ext fun a => (Window.rect_emb_val win0_3 t y a).trans (by rw [index_3]; exact at_zero _ _))
theorem block_4 (y : S1x1x1024.Idx) : iblk m c 4 t y = m (c.tc.loc main_arg4) (ix3 (sequence t) 0 (y 2) : S2x1x1024.Idx) :=
  congrArg (m (c.tc.loc main_arg4)) (placed_row t y _ _ (index_4 t) (Window.rect_emb_val win0_4 t y))
theorem block_5 (y : S1x512x1024.Idx) : iblk m c 5 t y = m (c.tc.loc main_arg5) (place t y) :=
  congrArg (m (c.tc.loc main_arg5)) (placed t y _ _ (index_0 t) (Window.rect_emb_val win0_5 t y))

abbrev down : S2x2048x1024.Idx → EReal := product (m (c.tc.loc main_arg0)) (m (c.tc.loc main_arg1))
abbrev errors : S2x2048x1024.Idx → EReal :=
  errAll (m (c.tc.loc main_arg2)) (down m c) (m (c.tc.loc main_arg5)) (m (c.tc.loc main_arg3)) (m (c.tc.loc main_arg4))

variable (o : Nat) (ho : o ≤ 256)

/-- What a half of block `t` loads. -/
abbrev wide (inb : ∀ a, (![0, o, 0] : Fin 3 → Nat) a + S1x256x4096.size a ≤ S1x512x4096.size a) : FVec Ideal S1x256x4096 .bf16 := View.ld (iblk m c 0 t) (Rect.unit (s := S1x512x4096) ![0, o, 0] S1x256x4096.size inb)
abbrev residual (inb : ∀ a, (![0, o, 0] : Fin 3 → Nat) a + S1x256x1024.size a ≤ S1x512x1024.size a) : FVec Ideal S1x256x1024 .f32 := View.ld (iblk m c 2 t) (Rect.unit (s := S1x512x1024) ![0, o, 0] S1x256x1024.size inb)
abbrev target (inb : ∀ a, (![0, o, 0] : Fin 3 → Nat) a + S1x256x1024.size a ≤ S1x512x1024.size a) : FVec Ideal S1x256x1024 .f32 := View.ld (iblk m c 5 t) (Rect.unit (s := S1x512x1024) ![0, o, 0] S1x256x1024.size inb)
abbrev weights : S4096x1024.Idx → EReal := iblk m c 1 t

/-- A row of a half, in its sequence. -/
abbrev rowIn (r : Fin 256) : Fin 2048 := row t (rowAt o ho r)

theorem half_product (inb) (r : Fin 256) (j : Fin 1024) : (k0_pay8 (wide m c t o inb) (weights m c t) : FVec Ideal S256x1024 .f32) (ix2 r j) = down m c (ix3 (sequence t) (rowIn t o ho r) j) := by
  refine (kernel_product _ _ r j).trans ?_
  refine Finset.sum_congr rfl fun k _ => ?_
  have e := (part_row (iblk m c 0 t) o ho inb r k).trans (block_0 m c t _)
  exact congrArg₂ (fun a b : EReal => a * a * b) e (block_1 m c t _)

theorem half_err (inb inb') (r : Fin 256) (j : Fin 1024) :
    halfErr (wide m c t o inb) (weights m c t) (iblk m c 3 t) (iblk m c 4 t) (residual m c t o inb') (target m c t o inb') (ix2 r j) = errors m c (ix3 (sequence t) (rowIn t o ho r) j) := by
  refine (kernel_err _ _ _ _ _ _ r j).trans ?_
  show err _ _ _ _ _ j = err _ _ _ _ _ j
  congr 1
  exacts [funext fun k => (part_row (iblk m c 2 t) o ho inb' r k).trans (block_2 m c t _), funext fun k => half_product m c t o ho inb r k,
    funext fun k => block_3 m c t _, funext fun k => block_4 m c t _, funext fun k => (part_row (iblk m c 5 t) o ho inb' r k).trans (block_5 m c t _)]

theorem half_dy (inb inb') (x : S1x256x1024.Idx) :
    halfDy (wide m c t o inb) (weights m c t) (iblk m c 3 t) (iblk m c 4 t) (residual m c t o inb') (target m c t o inb') x = dyAll (errors m c) (ix3 (sequence t) (rowIn t o ho (x 1)) (x 2)) := by
  rw [at_row x]
  refine (kernel_dy _ _ _ _ _ _ (x 1) (x 2)).trans ?_
  exact congrArg (fun e => dy e (x 2)) (funext fun k => half_err m c t o ho inb inb' (x 1) k)

theorem half_dd (inb inb') (x : S1x256x1024.Idx) :
    halfDd (wide m c t o inb) (weights m c t) (iblk m c 3 t) (iblk m c 4 t) (residual m c t o inb') (target m c t o inb') x
      = ddAll (errors m c) (down m c) (m (c.tc.loc main_arg3)) (m (c.tc.loc main_arg4)) (ix3 (sequence t) (rowIn t o ho (x 1)) (x 2)) := by
  rw [at_row x]
  refine (kernel_dd _ _ _ _ _ _ (x 1) (x 2)).trans ?_
  show dd _ _ _ _ (x 2) = dd _ _ _ _ (x 2)
  congr 1
  exacts [funext fun k => half_err m c t o ho inb inb' (x 1) k, funext fun k => half_product m c t o ho inb (x 1) k, funext fun k => block_3 m c t _, funext fun k => block_4 m c t _]

abbrev gradients : S2x2048x1024.Idx → EReal :=
  ddAll (errors m c) (down m c) (m (c.tc.loc main_arg3)) (m (c.tc.loc main_arg4))

/-- What every point leaves in the two blocks of rows. -/
theorem after_7 : (dats m 0 c).after 7 t = fun y => dyAll (errors m c) (place t y) := by
  rw [after0_7]
  by_cases h : t.val % 4 = 0
  on_goal 1 => by_cases h' : t.val % 8 = 0
  on_goal 1 => rw [outsAt0_A m c t h h']
  on_goal 2 => rw [outsAt0_C m c t h h']
  on_goal 3 => rw [outsAt0_B m c t h (by omega)]
  all_goals
    frame_out
    exact halves _ _ _ _ _ (half_dy m c t 256 (Nat.le_refl _) _ _) (half_dy m c t 0 (Nat.zero_le _) _ _)

theorem after_8 : (dats m 0 c).after 8 t = fun y => gradients m c (place t y) := by
  rw [after0_8]
  by_cases h : t.val % 4 = 0
  on_goal 1 => by_cases h' : t.val % 8 = 0
  on_goal 1 => rw [outsAt0_A m c t h h']
  on_goal 2 => rw [outsAt0_C m c t h h']
  on_goal 3 => rw [outsAt0_B m c t h (by omega)]
  all_goals
    frame_out
    exact halves _ _ _ _ _ (half_dd m c t 256 (Nat.le_refl _) _ _) (half_dd m c t 0 (Nat.zero_le _) _ _)

theorem final_7 : (dats m 0 c).arrAt 7 cfg0.N = dyAll (errors m c) :=
  (dats m 0 c).arrAt_eq_of_covers 7 _ (by decide +kernel) fun t _ y =>
    (congrFun (after_7 m c t) y).trans (congrArg (dyAll (errors m c)) (placed t y _ _ (index_0 t) (Window.rect_emb_val win0_7 t y)).symm)

theorem final_8 : (dats m 0 c).arrAt 8 cfg0.N = gradients m c :=
  (dats m 0 c).arrAt_eq_of_covers 8 _ (by decide +kernel) fun t _ y =>
    (congrFun (after_8 m c t) y).trans (congrArg (gradients m c) (placed t y _ _ (index_0 t) (Window.rect_emb_val win0_8 t y)).symm)

/-! ## The loss -/

/-- What point `t` adds to the loss. -/
def lossPart : EReal := Ideal.ofBits .f32 0x3A000000#32 * ∑ r : Fin 512, squares (errors m c) (sequence t) (row t r)

theorem half_loss (inb inb') (L : FVec Ideal S1x128 .f32) (j : Fin 128) :
    halfLoss (wide m c t o inb) (weights m c t) (iblk m c 3 t) (iblk m c 4 t) (residual m c t o inb') (target m c t o inb') L (ix2 0 j)
      = L (ix2 0 j) + Ideal.ofBits .f32 0x3A000000#32 * ∑ r : Fin 256, squares (errors m c) (sequence t) (rowIn t o ho r) := by
  refine (kernel_loss _ _ _ _ _ _ _ j).trans (congrArg (fun s => L (ix2 0 j) + Ideal.ofBits .f32 0x3A000000#32 * s) ?_)
  exact Finset.sum_congr rfl fun r _ => Finset.sum_congr rfl fun k _ => congrArg (fun e : EReal => e * e) (half_err m c t o ho inb inb' r k)

theorem both_losses (inb inb' inb2 inb2') (L : FVec Ideal S1x128 .f32) (j : Fin 128) :
    halfLoss (wide m c t 256 inb2) (weights m c t) (iblk m c 3 t) (iblk m c 4 t) (residual m c t 256 inb2') (target m c t 256 inb2')
      (halfLoss (wide m c t 0 inb) (weights m c t) (iblk m c 3 t) (iblk m c 4 t) (residual m c t 0 inb') (target m c t 0 inb') L) (ix2 0 j)
      = L (ix2 0 j) + lossPart m c t := by
  rw [half_loss m c t 256 (Nat.le_refl _), half_loss m c t 0 (Nat.zero_le _), add_assoc, ← EReal.left_distrib_of_nonneg
    (Finset.sum_nonneg fun r _ => squares_nonneg _ _ _) (Finset.sum_nonneg fun r _ => squares_nonneg _ _ _)]
  refine congrArg (fun s => L (ix2 0 j) + Ideal.ofBits .f32 0x3A000000#32 * s) ?_
  refine Eq.trans ?_ (Fin.sum_univ_add (a := 256) (b := 256) fun r : Fin 512 => squares (errors m c) (sequence t) (row t r)).symm
  exact congrArg (· + _) (Finset.sum_congr rfl fun r _ => congrArg (fun q => squares (errors m c) (sequence t) (row t q)) (Fin.ext (Nat.zero_add _)))

theorem loss_first (h : t.val % 8 = 0) (j : Fin 128) : (outsAt0 m c t.val t.isLt).1 (ix2 0 j) = 0 + lossPart m c t := by
  refine Eq.trans (congrFun ?_ _) ((both_losses m c t (by decide) (by decide) (by decide) (by decide) (k0_pay6 (F := Ideal)) j).trans (congrArg (· + _) (kernel_zero j)))
  rw [outsAt0_A m c t (by omega) h]
  frame_out
  rfl

theorem loss_next (h : ¬t.val % 8 = 0) (j : Fin 128) :
    (outsAt0 m c t.val t.isLt).1 (ix2 0 j) = (outsAt0 m c (t.val - 1) (Nat.lt_of_le_of_lt (Nat.sub_le _ _) t.isLt)).1 (ix2 0 j) + lossPart m c t := by
  refine Eq.trans (congrFun ?_ _) (both_losses m c t (by decide) (by decide) (by decide) (by decide) _ j)
  by_cases h' : t.val % 4 = 0
  · rw [outsAt0_C m c t h' h]
    frame_out
    rfl
  · rw [outsAt0_B m c t h' h]
    frame_out
    rfl

theorem loss_last (ht : t.val + 1 = cfg0.N) (j : Fin 128) : (outsAt0 m c t.val t.isLt).1 (ix2 0 j) = lossAll (errors m c) (ix2 0 j) := by
  rw [lossAll_eq, Pipeline.eq_sum_fin_of_reset_step_apply_last (fun n h (j : Fin 128) => (outsAt0 m c n h).1 (ix2 0 j)) 8 (fun _ => 0) (fun t _ => lossPart m c t)
    (fun t h j => loss_first m c t h j) (fun t h j => loss_next m c t h j) (by decide) t ht j, zero_add]
  refine (mul_sum _ _ _ fun p => Finset.sum_nonneg fun r _ => squares_nonneg _ _ _).symm.trans (congrArg (_ * ·) ?_)
  exact Fin.sum_points_lanes_congr 4 fun t k ha hl => rfl

theorem final_6 : (dats m 0 c).arrAt 6 cfg0.N = lossAll (errors m c) :=
  (dats m 0 c).arrAt_eq_of_covers 6 _ (by decide +kernel) fun t ht y => by
    have e : y = (ix2 0 (y 1) : S1x128.Idx) := Layout.idx_ext fun a => by
      have h : (y 0).val < 1 := (y 0).isLt
      fin_cases a
      · show (y 0).val = 0
        omega
      · rfl
    have h7 := (flush0_6 t).1 ht
    have h8 : t.val < 8 := t.isLt
    exact (congrFun (after0_6 m c t) y).trans ((congrArg (outsAt0 m c t.val t.isLt).1 e).trans (loss_last m c t (by show t.val + 1 = 8; omega) (y 1)))

end Arrays

/-! ## The claims -/

section Claims

open Cert.DownProjKernelIdeal Cert.DownProjKernelIdeal.Gen

variable {F : FTy → Type} [FloatOps F]

theorem frame_ideal : Cert.quiescent_DownProjKernelIdeal := fun m ρ _ => frame (F := Ideal) m ρ

/-- The two programs have one body table. -/
theorem tables_eq : Cert.DownProjKernel.defs (F := F) = Cert.DownProjKernelIdeal.defs (F := F) :=
  congrArg (Pipeline.defs _) (congrArg Defs.onTc (one_row rfl))

theorem frame_kernel : Cert.quiescent_DownProjKernel := fun m ρ _ => by
  have h := frame (F := Bits) m ρ
  rw [← tables_eq] at h
  exact h

theorem frame_reference : Cert.quiescent_DownProjReferenceIdeal := fun m ρ _ =>
  (θ_run Cert.DownProjReferenceIdeal.defs _ _).mono (fun r h => ⟨fun c => (h c).2.2.2, sem_eq_zero_of_no_sems (by decide) r.2⟩) (Cert.DownProjReferenceIdeal.Value.run (F := Ideal) m ρ)

theorem values : Cert.algebraic_DownProjKernelIdeal_DownProjReferenceIdeal := by
  intro m g m' g' _ hm
  refine ⟨_, _, _, (θ_run Cert.DownProjKernelIdeal.defs _ _).mono (fun r h c => ⟨(h.1.1 c).1 6, (h.1.1 c).1 7, (h.1.1 c).1 8, h.2 c⟩)
      (θ_run_and (run_main_quiescent (F := Ideal) m g) (unchanged (F := Ideal) m g)),
    (θ_run Cert.DownProjReferenceIdeal.defs _ _).mono (fun r h c => ?_) (Cert.DownProjReferenceIdeal.Value.run (F := Ideal) m' g')⟩
  have e := h c
  obtain ⟨e0, e1, e2, e3, e4, e5⟩ := hm c
  have b {R : FVec Ideal _ .bf16} {W X T w g} := (reference_err X _ T w g).trans (congrArg (fun D => errAll X D T w g) (reference_product R W))
  refine ⟨(e.1.trans ((reference_loss _).trans (congrArg lossAll b))).trans ?_, (e.2.1.trans ((reference_dy _).trans (congrArg dyAll b))).trans ?_,
    (e.2.2.1.trans ((reference_dd _ _ _ _).trans ((congrArg (fun D => ddAll _ D _ _) (reference_product _ _)).trans (congrArg (fun E => ddAll E _ _ _) b)))).trans ?_, e.2.2.2⟩
  · rw [e0, e1, e2, e3, e4, e5]; exact (final_6 m c).symm
  · rw [e0, e1, e2, e3, e4, e5]; exact (final_7 m c).symm
  · rw [e0, e1, e2, e3, e4, e5]; exact (final_8 m c).symm

end Claims

end Cert.DownProj
-- ==== Proof.lean ====
module

public import proofs.«01_k».proof.Defs
public import proofs.«01_k».proof.Proof.OutClaims
public import proofs.«01_k».proof.Proof.InClaims
public import proofs.«01_k».proof.Proof.UpClaims
public import proofs.«01_k».proof.Proof.GatherClaims
public import proofs.«01_k».proof.Proof.SwapClaims
public import proofs.«01_k».proof.Proof.SmallClaims
public import proofs.«01_k».proof.Proof.ModClaims
public import proofs.«01_k».proof.Proof.AdamUpClaims
public import proofs.«01_k».proof.Proof.AdamInClaims
public import proofs.«01_k».proof.Proof.AdamOutClaims
public import proofs.«01_k».proof.Proof.AdaClaims
public import proofs.«01_k».proof.Proof.UpdateClaims
public import proofs.«01_k».proof.Proof.NormClaims
public import proofs.«01_k».proof.Proof.WeightGradClaims
public import proofs.«01_k».proof.Proof.ProductClaims
public import proofs.«01_k».proof.Proof.OutProjClaims
public import proofs.«01_k».proof.Proof.DownProjClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.UpKernel.Gen.facts, Cert.UpKernelIdeal.Gen.facts, Cert.UpReferenceIdeal.Gen.facts,
  Cert.GatherKernel.Gen.facts, Cert.GatherKernelIdeal.Gen.facts, Cert.GatherReferenceIdeal.Gen.facts, Cert.GatherReference.Gen.facts,
  Cert.SwapKernel.Gen.facts, Cert.SwapKernelIdeal.Gen.facts, Cert.SwapReferenceIdeal.Gen.facts, Cert.SwapReference.Gen.facts,
  Cert.SmallKernel.Gen.facts, Cert.SmallKernelIdeal.Gen.facts, Cert.SmallReferenceIdeal.Gen.facts, Cert.SmallReference.Gen.facts,
  Cert.ModKernel.Gen.facts, Cert.ModKernelIdeal.Gen.facts, Cert.ModReferenceIdeal.Gen.facts, Cert.ModReference.Gen.facts,
  Cert.AdamUpKernel.Gen.facts, Cert.AdamUpKernelIdeal.Gen.facts, Cert.AdamUpReferenceIdeal.Gen.facts,
  Cert.AdamInKernel.Gen.facts, Cert.AdamInKernelIdeal.Gen.facts, Cert.AdamInReferenceIdeal.Gen.facts,
  Cert.AdamOutKernel.Gen.facts, Cert.AdamOutKernelIdeal.Gen.facts, Cert.AdamOutReferenceIdeal.Gen.facts,
  Cert.AdaKernel.Gen.facts, Cert.AdaKernelIdeal.Gen.facts, Cert.AdaReferenceIdeal.Gen.facts,
  Cert.UpdateKernel.Gen.facts, Cert.UpdateKernelIdeal.Gen.facts, Cert.UpdateReferenceIdeal.Gen.facts,
  Cert.NormKernel.Gen.facts, Cert.NormKernelIdeal.Gen.facts, Cert.NormReferenceIdeal.Gen.facts,
  Cert.OutGradKernel.Gen.facts, Cert.OutGradKernelIdeal.Gen.facts, Cert.OutGradReferenceIdeal.Gen.facts,
  Cert.UpGradKernel.Gen.facts, Cert.UpGradKernelIdeal.Gen.facts, Cert.UpGradReferenceIdeal.Gen.facts,
  Cert.DownGradKernel.Gen.facts, Cert.DownGradKernelIdeal.Gen.facts, Cert.DownGradReferenceIdeal.Gen.facts,
  Cert.DownKernel.Gen.facts, Cert.DownKernelIdeal.Gen.facts, Cert.DownReferenceIdeal.Gen.facts,
  Cert.ModPartKernel.Gen.facts, Cert.ModPartKernelIdeal.Gen.facts, Cert.ModPartReferenceIdeal.Gen.facts,
  Cert.OutProjKernel.Gen.facts, Cert.OutProjKernelIdeal.Gen.facts, Cert.OutProjReferenceIdeal.Gen.facts,
  Cert.DownProjKernel.Gen.facts, Cert.DownProjKernelIdeal.Gen.facts, Cert.DownProjReferenceIdeal.Gen.facts,
  Cert.OutBwd.frame_kernel, Cert.OutBwd.frame_ideal, Cert.OutBwd.frame_reference,
  Cert.InBwd.frame_kernel, Cert.InBwd.frame_ideal, Cert.InBwd.frame_reference,
  Cert.UpBwd.frame_kernel, Cert.UpBwd.frame_ideal, Cert.UpBwd.frame_reference,
  Cert.GatherFirst.frame_kernel, Cert.GatherFirst.frame_ideal, Cert.GatherFirst.frame_reference_ideal, Cert.GatherFirst.frame_reference,
  Cert.SwapIn.frame_kernel, Cert.SwapIn.frame_ideal, Cert.SwapIn.frame_reference_ideal, Cert.SwapIn.frame_reference,
  Cert.GatherSmall.frame_kernel, Cert.GatherSmall.frame_ideal, Cert.GatherSmall.frame_reference_ideal, Cert.GatherSmall.frame_reference,
  Cert.GatherMod.frame_kernel, Cert.GatherMod.frame_ideal, Cert.GatherMod.frame_reference_ideal, Cert.GatherMod.frame_reference,
  Cert.AdamUp.frame_kernel, Cert.AdamUp.frame_ideal, Cert.AdamUp.frame_reference,
  Cert.AdamIn.frame_kernel, Cert.AdamIn.frame_ideal, Cert.AdamIn.frame_reference,
  Cert.AdamOut.frame_kernel, Cert.AdamOut.frame_ideal, Cert.AdamOut.frame_reference,
  Cert.Ada.frame_kernel, Cert.Ada.frame_ideal, Cert.Ada.frame_reference,
  Cert.Update.frame_kernel, Cert.Update.frame_ideal, Cert.Update.frame_reference,
  Cert.Norm.frame_kernel, Cert.Norm.frame_ideal, Cert.Norm.frame_reference,
  Cert.OutGrad.frame_kernel, Cert.OutGrad.frame_ideal, Cert.OutGrad.frame_reference,
  Cert.UpGrad.frame_kernel, Cert.UpGrad.frame_ideal, Cert.UpGrad.frame_reference,
  Cert.DownGrad.frame_kernel, Cert.DownGrad.frame_ideal, Cert.DownGrad.frame_reference,
  Cert.Down.frame_kernel, Cert.Down.frame_ideal, Cert.Down.frame_reference,
  Cert.ModPart.frame_kernel, Cert.ModPart.frame_ideal, Cert.ModPart.frame_reference,
  Cert.OutProj.frame_kernel, Cert.OutProj.frame_ideal, Cert.OutProj.frame_reference,
  Cert.DownProj.frame_kernel, Cert.DownProj.frame_ideal, Cert.DownProj.frame_reference,
  trivial, Cert.OutBwd.values, trivial, Cert.InBwd.values, trivial, Cert.UpBwd.values,
  trivial, Cert.GatherFirst.values, Cert.GatherFirst.words,
  trivial, Cert.SwapIn.values, Cert.SwapIn.words,
  trivial, Cert.GatherSmall.values, Cert.GatherSmall.words,
  trivial, Cert.GatherMod.values, Cert.GatherMod.words,
  trivial, Cert.AdamUp.values, trivial, Cert.AdamIn.values, trivial, Cert.AdamOut.values, trivial, Cert.Ada.values, trivial, Cert.Update.values, trivial, Cert.Norm.values,
  trivial, Cert.OutGrad.values, trivial, Cert.UpGrad.values, trivial, Cert.DownGrad.values, trivial, Cert.Down.values, trivial, Cert.ModPart.values, trivial, Cert.OutProj.values, trivial, Cert.DownProj.values⟩

end Cert.Proof

end
